-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_OProjDx (m : (ℓ : Loc Cert.OProjDx.nD Cert.OProjDx.τ Cert.OProjDx.sig) → Buf (Elt Bits) ℓ) : Prop :=
  True

def Pre_OProjDxIdeal (m : (ℓ : Loc Cert.OProjDxIdeal.nD Cert.OProjDxIdeal.τ Cert.OProjDxIdeal.sig) → Buf (Elt Ideal) ℓ) : Prop :=
  True

def Pre_OProjDxRefIdeal (m : (ℓ : Loc Cert.OProjDxRefIdeal.nD Cert.OProjDxRefIdeal.τ Cert.OProjDxRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjRefIdeal (m : (ℓ : Loc Cert.GluProjRefIdeal.nD Cert.GluProjRefIdeal.τ Cert.GluProjRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def Pre_NormAdd (m : (ℓ : Loc Cert.NormAdd.nD Cert.NormAdd.τ Cert.NormAdd.sig) → Buf (Elt Bits) ℓ) : Prop :=
  True

def Pre_NormAddIdeal (m : (ℓ : Loc Cert.NormAddIdeal.nD Cert.NormAddIdeal.τ Cert.NormAddIdeal.sig) → Buf (Elt Ideal) ℓ) : Prop :=
  True

def Pre_NormAddRefIdeal (m : (ℓ : Loc Cert.NormAddRefIdeal.nD Cert.NormAddRefIdeal.τ Cert.NormAddRefIdeal.sig) → Buf (Elt Ideal) ℓ) : Prop :=
  True

def Pre_NormTwo (m : (ℓ : Loc Cert.NormTwo.nD Cert.NormTwo.τ Cert.NormTwo.sig) → Buf (Elt Bits) ℓ) : Prop :=
  True

def Pre_NormTwoIdeal (m : (ℓ : Loc Cert.NormTwoIdeal.nD Cert.NormTwoIdeal.τ Cert.NormTwoIdeal.sig) → Buf (Elt Ideal) ℓ) : Prop :=
  True

def Pre_NormTwoRefIdeal (m : (ℓ : Loc Cert.NormTwoRefIdeal.nD Cert.NormTwoRefIdeal.τ Cert.NormTwoRefIdeal.sig) → Buf (Elt Ideal) ℓ) : Prop :=
  True

def Pre_NormFirstDx (m : (ℓ : Loc Cert.NormFirstDx.nD Cert.NormFirstDx.τ Cert.NormFirstDx.sig) → Buf (Elt Bits) ℓ) : Prop :=
  True

def Pre_NormFirstDxIdeal (m : (ℓ : Loc Cert.NormFirstDxIdeal.nD Cert.NormFirstDxIdeal.τ Cert.NormFirstDxIdeal.sig) → Buf (Elt Ideal) ℓ) : Prop :=
  True

def Pre_NormFirstDxRefIdeal (m : (ℓ : Loc Cert.NormFirstDxRefIdeal.nD Cert.NormFirstDxRefIdeal.τ Cert.NormFirstDxRefIdeal.sig) → Buf (Elt Ideal) ℓ) : Prop :=
  True

def Pre_NormAddDx (m : (ℓ : Loc Cert.NormAddDx.nD Cert.NormAddDx.τ Cert.NormAddDx.sig) → Buf (Elt Bits) ℓ) : Prop :=
  True

def Pre_NormAddDxIdeal (m : (ℓ : Loc Cert.NormAddDxIdeal.nD Cert.NormAddDxIdeal.τ Cert.NormAddDxIdeal.sig) → Buf (Elt Ideal) ℓ) : Prop :=
  True

def Pre_NormAddDxRefIdeal (m : (ℓ : Loc Cert.NormAddDxRefIdeal.nD Cert.NormAddDxRefIdeal.τ Cert.NormAddDxRefIdeal.sig) → Buf (Elt Ideal) ℓ) : Prop :=
  True

def Pre_NormTwoDx (m : (ℓ : Loc Cert.NormTwoDx.nD Cert.NormTwoDx.τ Cert.NormTwoDx.sig) → Buf (Elt Bits) ℓ) : Prop :=
  True

def Pre_NormTwoDxIdeal (m : (ℓ : Loc Cert.NormTwoDxIdeal.nD Cert.NormTwoDxIdeal.τ Cert.NormTwoDxIdeal.sig) → Buf (Elt Ideal) ℓ) : Prop :=
  True

def Pre_NormTwoDxRefIdeal (m : (ℓ : Loc Cert.NormTwoDxRefIdeal.nD Cert.NormTwoDxRefIdeal.τ Cert.NormTwoDxRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_DiscBwd (m : (ℓ : Loc Cert.DiscBwd.nD Cert.DiscBwd.τ Cert.DiscBwd.sig) → Buf (Elt Bits) ℓ) : Prop :=
  True

def Pre_DiscBwdIdeal (m : (ℓ : Loc Cert.DiscBwdIdeal.nD Cert.DiscBwdIdeal.τ Cert.DiscBwdIdeal.sig) → Buf (Elt Ideal) ℓ) : Prop :=
  True

def Pre_DiscBwdRefIdeal (m : (ℓ : Loc Cert.DiscBwdRefIdeal.nD Cert.DiscBwdRefIdeal.τ Cert.DiscBwdRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateRefIdeal (m : (ℓ : Loc Cert.FfnGateRefIdeal.nD Cert.FfnGateRefIdeal.τ Cert.FfnGateRefIdeal.sig) → Buf (Elt Ideal) ℓ) : Prop :=
  True

def Pre_AdamNorms (m : (ℓ : Loc Cert.AdamNorms.nD Cert.AdamNorms.τ Cert.AdamNorms.sig) → Buf (Elt Bits) ℓ) : Prop :=
  True

def Pre_AdamNormsIdeal (m : (ℓ : Loc Cert.AdamNormsIdeal.nD Cert.AdamNormsIdeal.τ Cert.AdamNormsIdeal.sig) → Buf (Elt Ideal) ℓ) : Prop :=
  True

def Pre_AdamNormsRefIdeal (m : (ℓ : Loc Cert.AdamNormsRefIdeal.nD Cert.AdamNormsRefIdeal.τ Cert.AdamNormsRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamRows (m : (ℓ : Loc Cert.AdamRows.nD Cert.AdamRows.τ Cert.AdamRows.sig) → Buf (Elt Bits) ℓ) : Prop :=
  True

def Pre_AdamRowsIdeal (m : (ℓ : Loc Cert.AdamRowsIdeal.nD Cert.AdamRowsIdeal.τ Cert.AdamRowsIdeal.sig) → Buf (Elt Ideal) ℓ) : Prop :=
  True

def Pre_AdamRowsRefIdeal (m : (ℓ : Loc Cert.AdamRowsRefIdeal.nD Cert.AdamRowsRefIdeal.τ Cert.AdamRowsRefIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_AdamDt (m : (ℓ : Loc Cert.AdamDt.nD Cert.AdamDt.τ Cert.AdamDt.sig) → Buf (Elt Bits) ℓ) : Prop :=
  True

def Pre_AdamDtIdeal (m : (ℓ : Loc Cert.AdamDtIdeal.nD Cert.AdamDtIdeal.τ Cert.AdamDtIdeal.sig) → Buf (Elt Ideal) ℓ) : Prop :=
  True

def Pre_AdamDtRefIdeal (m : (ℓ : Loc Cert.AdamDtRefIdeal.nD Cert.AdamDtRefIdeal.τ Cert.AdamDtRefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_AdamD (m : (ℓ : Loc Cert.AdamD.nD Cert.AdamD.τ Cert.AdamD.sig) → Buf (Elt Bits) ℓ) : Prop :=
  True

def Pre_AdamDIdeal (m : (ℓ : Loc Cert.AdamDIdeal.nD Cert.AdamDIdeal.τ Cert.AdamDIdeal.sig) → Buf (Elt Ideal) ℓ) : Prop :=
  True

def Pre_AdamDRefIdeal (m : (ℓ : Loc Cert.AdamDRefIdeal.nD Cert.AdamDRefIdeal.τ Cert.AdamDRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_GeluBwd (m : (ℓ : Loc Cert.GeluBwd.nD Cert.GeluBwd.τ Cert.GeluBwd.sig) → Buf (Elt Bits) ℓ) : Prop :=
  True

def Pre_GeluBwdIdeal (m : (ℓ : Loc Cert.GeluBwdIdeal.nD Cert.GeluBwdIdeal.τ Cert.GeluBwdIdeal.sig) → Buf (Elt Ideal) ℓ) : Prop :=
  True

def Pre_GeluBwdRefIdeal (m : (ℓ : Loc Cert.GeluBwdRefIdeal.nD Cert.GeluBwdRefIdeal.τ Cert.GeluBwdRefIdeal.sig) → Buf (Elt Ideal) ℓ) : Prop :=
  True

def Pre_Starts (m : (ℓ : Loc Cert.Starts.nD Cert.Starts.τ Cert.Starts.sig) → Buf (Elt Bits) ℓ) : Prop :=
  True

def Pre_StartsIdeal (m : (ℓ : Loc Cert.StartsIdeal.nD Cert.StartsIdeal.τ Cert.StartsIdeal.sig) → Buf (Elt Ideal) ℓ) : Prop :=
  True

def Pre_StartsIdeal_finite_drive [hPre_finite_drive : Cert.Pre_finite_drive.Facts] (m : (ℓ : Loc Cert.StartsIdeal.nD Cert.StartsIdeal.τ Cert.StartsIdeal.sig) → Buf (Elt Ideal) ℓ) : Prop :=
  ∀ c : Dev Cert.StartsIdeal.nD,
    (Cert.Pre_finite_drive.fn (F := Ideal) (m ((c.tc : Thread Cert.StartsIdeal.nD Cert.StartsIdeal.τ).loc Cert.StartsIdeal.main_arg0)) (m ((c.tc : Thread Cert.StartsIdeal.nD Cert.StartsIdeal.τ).loc Cert.StartsIdeal.main_arg1)) (m ((c.tc : Thread Cert.StartsIdeal.nD Cert.StartsIdeal.τ).loc Cert.StartsIdeal.main_arg2)) (m ((c.tc : Thread Cert.StartsIdeal.nD Cert.StartsIdeal.τ).loc Cert.StartsIdeal.main_arg3))) = (fun _ => 1#1)

def Pre_StartsRefIdeal (m : (ℓ : Loc Cert.StartsRefIdeal.nD Cert.StartsRefIdeal.τ Cert.StartsRefIdeal.sig) → Buf (Elt Ideal) ℓ) : Prop :=
  True

def Pre_StartsRefIdeal_finite_drive [hPre_finite_drive : Cert.Pre_finite_drive.Facts] (m : (ℓ : Loc Cert.StartsRefIdeal.nD Cert.StartsRefIdeal.τ Cert.StartsRefIdeal.sig) → Buf (Elt Ideal) ℓ) : Prop :=
  ∀ c : Dev Cert.StartsRefIdeal.nD,
    (Cert.Pre_finite_drive.fn (F := Ideal) (m ((c.tc : Thread Cert.StartsRefIdeal.nD Cert.StartsRefIdeal.τ).loc Cert.StartsRefIdeal.main_arg0)) (m ((c.tc : Thread Cert.StartsRefIdeal.nD Cert.StartsRefIdeal.τ).loc Cert.StartsRefIdeal.main_arg1)) (m ((c.tc : Thread Cert.StartsRefIdeal.nD Cert.StartsRefIdeal.τ).loc Cert.StartsRefIdeal.main_arg2)) (m ((c.tc : Thread Cert.StartsRefIdeal.nD Cert.StartsRefIdeal.τ).loc Cert.StartsRefIdeal.main_arg3))) = (fun _ => 1#1)

def Pre_Ends (m : (ℓ : Loc Cert.Ends.nD Cert.Ends.τ Cert.Ends.sig) → Buf (Elt Bits) ℓ) : Prop :=
  True

def Pre_EndsIdeal (m : (ℓ : Loc Cert.EndsIdeal.nD Cert.EndsIdeal.τ Cert.EndsIdeal.sig) → Buf (Elt Ideal) ℓ) : Prop :=
  True

def Pre_EndsIdeal_finite_drive [hPre_finite_drive : Cert.Pre_finite_drive.Facts] (m : (ℓ : Loc Cert.EndsIdeal.nD Cert.EndsIdeal.τ Cert.EndsIdeal.sig) → Buf (Elt Ideal) ℓ) : Prop :=
  ∀ c : Dev Cert.EndsIdeal.nD,
    (Cert.Pre_finite_drive.fn (F := Ideal) (m ((c.tc : Thread Cert.EndsIdeal.nD Cert.EndsIdeal.τ).loc Cert.EndsIdeal.main_arg0)) (m ((c.tc : Thread Cert.EndsIdeal.nD Cert.EndsIdeal.τ).loc Cert.EndsIdeal.main_arg1)) (m ((c.tc : Thread Cert.EndsIdeal.nD Cert.EndsIdeal.τ).loc Cert.EndsIdeal.main_arg2)) (m ((c.tc : Thread Cert.EndsIdeal.nD Cert.EndsIdeal.τ).loc Cert.EndsIdeal.main_arg3))) = (fun _ => 1#1)

def Pre_EndsRefIdeal (m : (ℓ : Loc Cert.EndsRefIdeal.nD Cert.EndsRefIdeal.τ Cert.EndsRefIdeal.sig) → Buf (Elt Ideal) ℓ) : Prop :=
  True

def Pre_EndsRefIdeal_finite_drive [hPre_finite_drive : Cert.Pre_finite_drive.Facts] (m : (ℓ : Loc Cert.EndsRefIdeal.nD Cert.EndsRefIdeal.τ Cert.EndsRefIdeal.sig) → Buf (Elt Ideal) ℓ) : Prop :=
  ∀ c : Dev Cert.EndsRefIdeal.nD,
    (Cert.Pre_finite_drive.fn (F := Ideal) (m ((c.tc : Thread Cert.EndsRefIdeal.nD Cert.EndsRefIdeal.τ).loc Cert.EndsRefIdeal.main_arg0)) (m ((c.tc : Thread Cert.EndsRefIdeal.nD Cert.EndsRefIdeal.τ).loc Cert.EndsRefIdeal.main_arg1)) (m ((c.tc : Thread Cert.EndsRefIdeal.nD Cert.EndsRefIdeal.τ).loc Cert.EndsRefIdeal.main_arg2)) (m ((c.tc : Thread Cert.EndsRefIdeal.nD Cert.EndsRefIdeal.τ).loc Cert.EndsRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_OProjDx [hOProjDx : Cert.OProjDx.Facts] : Prop :=
  ∀ (m : (ℓ : Loc Cert.OProjDx.nD Cert.OProjDx.τ Cert.OProjDx.sig) → Buf (Elt Bits) ℓ) (g : Dev Cert.OProjDx.nD → PrngReg), Pre_OProjDx m →
    θ_run (Cert.OProjDx.defs (F := Bits)) (onTc (τ := Cert.OProjDx.τ) (Cert.OProjDx.main (F := Bits))) ⟨m, fun _ => 0, g⟩ (fun r => (∀ c : Dev Cert.OProjDx.nD,
      r.2.mem ((c.tc : Thread Cert.OProjDx.nD Cert.OProjDx.τ).loc Cert.OProjDx.main_arg0) = m ((c.tc : Thread Cert.OProjDx.nD Cert.OProjDx.τ).loc Cert.OProjDx.main_arg0)
      ∧ r.2.mem ((c.tc : Thread Cert.OProjDx.nD Cert.OProjDx.τ).loc Cert.OProjDx.main_arg1) = m ((c.tc : Thread Cert.OProjDx.nD Cert.OProjDx.τ).loc Cert.OProjDx.main_arg1))
      ∧ r.2.sem = fun _ => 0)

def quiescent_OProjDxIdeal [hOProjDxIdeal : Cert.OProjDxIdeal.Facts] : Prop :=
  ∀ (m : (ℓ : Loc Cert.OProjDxIdeal.nD Cert.OProjDxIdeal.τ Cert.OProjDxIdeal.sig) → Buf (Elt Ideal) ℓ) (g : Dev Cert.OProjDxIdeal.nD → PrngReg), Pre_OProjDxIdeal m →
    θ_run (Cert.OProjDxIdeal.defs (F := Ideal)) (onTc (τ := Cert.OProjDxIdeal.τ) (Cert.OProjDxIdeal.main (F := Ideal))) ⟨m, fun _ => 0, g⟩ (fun r => (∀ c : Dev Cert.OProjDxIdeal.nD,
      r.2.mem ((c.tc : Thread Cert.OProjDxIdeal.nD Cert.OProjDxIdeal.τ).loc Cert.OProjDxIdeal.main_arg0) = m ((c.tc : Thread Cert.OProjDxIdeal.nD Cert.OProjDxIdeal.τ).loc Cert.OProjDxIdeal.main_arg0)
      ∧ r.2.mem ((c.tc : Thread Cert.OProjDxIdeal.nD Cert.OProjDxIdeal.τ).loc Cert.OProjDxIdeal.main_arg1) = m ((c.tc : Thread Cert.OProjDxIdeal.nD Cert.OProjDxIdeal.τ).loc Cert.OProjDxIdeal.main_arg1))
      ∧ r.2.sem = fun _ => 0)

def quiescent_OProjDxRefIdeal [hOProjDxRefIdeal : Cert.OProjDxRefIdeal.Facts] : Prop :=
  ∀ (m : (ℓ : Loc Cert.OProjDxRefIdeal.nD Cert.OProjDxRefIdeal.τ Cert.OProjDxRefIdeal.sig) → Buf (Elt Ideal) ℓ) (g : Dev Cert.OProjDxRefIdeal.nD → PrngReg), Pre_OProjDxRefIdeal m →
    θ_run (Cert.OProjDxRefIdeal.defs (F := Ideal)) (onTc (τ := Cert.OProjDxRefIdeal.τ) (Cert.OProjDxRefIdeal.main (F := Ideal))) ⟨m, fun _ => 0, g⟩ (fun r => (∀ c : Dev Cert.OProjDxRefIdeal.nD,
      r.2.mem ((c.tc : Thread Cert.OProjDxRefIdeal.nD Cert.OProjDxRefIdeal.τ).loc Cert.OProjDxRefIdeal.main_arg0) = m ((c.tc : Thread Cert.OProjDxRefIdeal.nD Cert.OProjDxRefIdeal.τ).loc Cert.OProjDxRefIdeal.main_arg0)
      ∧ r.2.mem ((c.tc : Thread Cert.OProjDxRefIdeal.nD Cert.OProjDxRefIdeal.τ).loc Cert.OProjDxRefIdeal.main_arg1) = m ((c.tc : Thread Cert.OProjDxRefIdeal.nD Cert.OProjDxRefIdeal.τ).loc Cert.OProjDxRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ r.2.sem = fun _ => 0)

def quiescent_GluProjRefIdeal [hGluProjRefIdeal : Cert.GluProjRefIdeal.Facts] : Prop :=
  ∀ (m : (ℓ : Loc Cert.GluProjRefIdeal.nD Cert.GluProjRefIdeal.τ Cert.GluProjRefIdeal.sig) → Buf (Elt Ideal) ℓ) (g : Dev Cert.GluProjRefIdeal.nD → PrngReg), Pre_GluProjRefIdeal m →
    θ_run (Cert.GluProjRefIdeal.defs (F := Ideal)) (onTc (τ := Cert.GluProjRefIdeal.τ) (Cert.GluProjRefIdeal.main (F := Ideal))) ⟨m, fun _ => 0, g⟩ (fun r => (∀ c : Dev Cert.GluProjRefIdeal.nD,
      r.2.mem ((c.tc : Thread Cert.GluProjRefIdeal.nD Cert.GluProjRefIdeal.τ).loc Cert.GluProjRefIdeal.main_arg0) = m ((c.tc : Thread Cert.GluProjRefIdeal.nD Cert.GluProjRefIdeal.τ).loc Cert.GluProjRefIdeal.main_arg0)
      ∧ r.2.mem ((c.tc : Thread Cert.GluProjRefIdeal.nD Cert.GluProjRefIdeal.τ).loc Cert.GluProjRefIdeal.main_arg1) = m ((c.tc : Thread Cert.GluProjRefIdeal.nD Cert.GluProjRefIdeal.τ).loc Cert.GluProjRefIdeal.main_arg1))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1))
      ∧ r.2.sem = fun _ => 0)

def quiescent_NormAdd [hNormAdd : Cert.NormAdd.Facts] : Prop :=
  ∀ (m : (ℓ : Loc Cert.NormAdd.nD Cert.NormAdd.τ Cert.NormAdd.sig) → Buf (Elt Bits) ℓ) (g : Dev Cert.NormAdd.nD → PrngReg), Pre_NormAdd m →
    θ_run (Cert.NormAdd.defs (F := Bits)) (onTc (τ := Cert.NormAdd.τ) (Cert.NormAdd.main (F := Bits))) ⟨m, fun _ => 0, g⟩ (fun r => (∀ c : Dev Cert.NormAdd.nD,
      r.2.mem ((c.tc : Thread Cert.NormAdd.nD Cert.NormAdd.τ).loc Cert.NormAdd.main_arg0) = m ((c.tc : Thread Cert.NormAdd.nD Cert.NormAdd.τ).loc Cert.NormAdd.main_arg0)
      ∧ r.2.mem ((c.tc : Thread Cert.NormAdd.nD Cert.NormAdd.τ).loc Cert.NormAdd.main_arg1) = m ((c.tc : Thread Cert.NormAdd.nD Cert.NormAdd.τ).loc Cert.NormAdd.main_arg1)
      ∧ r.2.mem ((c.tc : Thread Cert.NormAdd.nD Cert.NormAdd.τ).loc Cert.NormAdd.main_arg2) = m ((c.tc : Thread Cert.NormAdd.nD Cert.NormAdd.τ).loc Cert.NormAdd.main_arg2))
      ∧ r.2.sem = fun _ => 0)

def quiescent_NormAddIdeal [hNormAddIdeal : Cert.NormAddIdeal.Facts] : Prop :=
  ∀ (m : (ℓ : Loc Cert.NormAddIdeal.nD Cert.NormAddIdeal.τ Cert.NormAddIdeal.sig) → Buf (Elt Ideal) ℓ) (g : Dev Cert.NormAddIdeal.nD → PrngReg), Pre_NormAddIdeal m →
    θ_run (Cert.NormAddIdeal.defs (F := Ideal)) (onTc (τ := Cert.NormAddIdeal.τ) (Cert.NormAddIdeal.main (F := Ideal))) ⟨m, fun _ => 0, g⟩ (fun r => (∀ c : Dev Cert.NormAddIdeal.nD,
      r.2.mem ((c.tc : Thread Cert.NormAddIdeal.nD Cert.NormAddIdeal.τ).loc Cert.NormAddIdeal.main_arg0) = m ((c.tc : Thread Cert.NormAddIdeal.nD Cert.NormAddIdeal.τ).loc Cert.NormAddIdeal.main_arg0)
      ∧ r.2.mem ((c.tc : Thread Cert.NormAddIdeal.nD Cert.NormAddIdeal.τ).loc Cert.NormAddIdeal.main_arg1) = m ((c.tc : Thread Cert.NormAddIdeal.nD Cert.NormAddIdeal.τ).loc Cert.NormAddIdeal.main_arg1)
      ∧ r.2.mem ((c.tc : Thread Cert.NormAddIdeal.nD Cert.NormAddIdeal.τ).loc Cert.NormAddIdeal.main_arg2) = m ((c.tc : Thread Cert.NormAddIdeal.nD Cert.NormAddIdeal.τ).loc Cert.NormAddIdeal.main_arg2))
      ∧ r.2.sem = fun _ => 0)

def quiescent_NormAddRefIdeal [hNormAddRefIdeal : Cert.NormAddRefIdeal.Facts] : Prop :=
  ∀ (m : (ℓ : Loc Cert.NormAddRefIdeal.nD Cert.NormAddRefIdeal.τ Cert.NormAddRefIdeal.sig) → Buf (Elt Ideal) ℓ) (g : Dev Cert.NormAddRefIdeal.nD → PrngReg), Pre_NormAddRefIdeal m →
    θ_run (Cert.NormAddRefIdeal.defs (F := Ideal)) (onTc (τ := Cert.NormAddRefIdeal.τ) (Cert.NormAddRefIdeal.main (F := Ideal))) ⟨m, fun _ => 0, g⟩ (fun r => (∀ c : Dev Cert.NormAddRefIdeal.nD,
      r.2.mem ((c.tc : Thread Cert.NormAddRefIdeal.nD Cert.NormAddRefIdeal.τ).loc Cert.NormAddRefIdeal.main_arg0) = m ((c.tc : Thread Cert.NormAddRefIdeal.nD Cert.NormAddRefIdeal.τ).loc Cert.NormAddRefIdeal.main_arg0)
      ∧ r.2.mem ((c.tc : Thread Cert.NormAddRefIdeal.nD Cert.NormAddRefIdeal.τ).loc Cert.NormAddRefIdeal.main_arg1) = m ((c.tc : Thread Cert.NormAddRefIdeal.nD Cert.NormAddRefIdeal.τ).loc Cert.NormAddRefIdeal.main_arg1)
      ∧ r.2.mem ((c.tc : Thread Cert.NormAddRefIdeal.nD Cert.NormAddRefIdeal.τ).loc Cert.NormAddRefIdeal.main_arg2) = m ((c.tc : Thread Cert.NormAddRefIdeal.nD Cert.NormAddRefIdeal.τ).loc Cert.NormAddRefIdeal.main_arg2))
      ∧ r.2.sem = fun _ => 0)

def quiescent_NormTwo [hNormTwo : Cert.NormTwo.Facts] : Prop :=
  ∀ (m : (ℓ : Loc Cert.NormTwo.nD Cert.NormTwo.τ Cert.NormTwo.sig) → Buf (Elt Bits) ℓ) (g : Dev Cert.NormTwo.nD → PrngReg), Pre_NormTwo m →
    θ_run (Cert.NormTwo.defs (F := Bits)) (onTc (τ := Cert.NormTwo.τ) (Cert.NormTwo.main (F := Bits))) ⟨m, fun _ => 0, g⟩ (fun r => (∀ c : Dev Cert.NormTwo.nD,
      r.2.mem ((c.tc : Thread Cert.NormTwo.nD Cert.NormTwo.τ).loc Cert.NormTwo.main_arg0) = m ((c.tc : Thread Cert.NormTwo.nD Cert.NormTwo.τ).loc Cert.NormTwo.main_arg0)
      ∧ r.2.mem ((c.tc : Thread Cert.NormTwo.nD Cert.NormTwo.τ).loc Cert.NormTwo.main_arg1) = m ((c.tc : Thread Cert.NormTwo.nD Cert.NormTwo.τ).loc Cert.NormTwo.main_arg1)
      ∧ r.2.mem ((c.tc : Thread Cert.NormTwo.nD Cert.NormTwo.τ).loc Cert.NormTwo.main_arg2) = m ((c.tc : Thread Cert.NormTwo.nD Cert.NormTwo.τ).loc Cert.NormTwo.main_arg2)
      ∧ r.2.mem ((c.tc : Thread Cert.NormTwo.nD Cert.NormTwo.τ).loc Cert.NormTwo.main_arg3) = m ((c.tc : Thread Cert.NormTwo.nD Cert.NormTwo.τ).loc Cert.NormTwo.main_arg3))
      ∧ r.2.sem = fun _ => 0)

def quiescent_NormTwoIdeal [hNormTwoIdeal : Cert.NormTwoIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg), Pre_NormTwoIdeal m →
    θ_run (Cert.NormTwoIdeal.defs (F := Ideal)) (onTc (τ := Cert.NormTwoIdeal.τ) (Cert.NormTwoIdeal.main (F := Ideal))) ⟨m, fun _ => 0, g⟩ (fun r => (∀ c : Dev Cert.NormTwoIdeal.nD,
      r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
      ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
      ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2)
      ∧ r.2.mem ((c.tc : Thread Cert.NormTwoIdeal.nD Cert.NormTwoIdeal.τ).loc Cert.NormTwoIdeal.main_arg3) = m ((c.tc : Thread Cert.NormTwoIdeal.nD Cert.NormTwoIdeal.τ).loc Cert.NormTwoIdeal.main_arg3))
      ∧ r.2.sem = fun _ => 0)

def quiescent_NormTwoRefIdeal [hNormTwoRefIdeal : Cert.NormTwoRefIdeal.Facts] : Prop :=
  ∀ (m : (ℓ : Loc Cert.NormTwoRefIdeal.nD Cert.NormTwoRefIdeal.τ Cert.NormTwoRefIdeal.sig) → Buf (Elt Ideal) ℓ) (g : Dev Cert.NormTwoRefIdeal.nD → PrngReg), Pre_NormTwoRefIdeal m →
    θ_run (Cert.NormTwoRefIdeal.defs (F := Ideal)) (onTc (τ := Cert.NormTwoRefIdeal.τ) (Cert.NormTwoRefIdeal.main (F := Ideal))) ⟨m, fun _ => 0, g⟩ (fun r => (∀ c : Dev Cert.NormTwoRefIdeal.nD,
      r.2.mem ((c.tc : Thread Cert.NormTwoRefIdeal.nD Cert.NormTwoRefIdeal.τ).loc Cert.NormTwoRefIdeal.main_arg0) = m ((c.tc : Thread Cert.NormTwoRefIdeal.nD Cert.NormTwoRefIdeal.τ).loc Cert.NormTwoRefIdeal.main_arg0)
      ∧ r.2.mem ((c.tc : Thread Cert.NormTwoRefIdeal.nD Cert.NormTwoRefIdeal.τ).loc Cert.NormTwoRefIdeal.main_arg1) = m ((c.tc : Thread Cert.NormTwoRefIdeal.nD Cert.NormTwoRefIdeal.τ).loc Cert.NormTwoRefIdeal.main_arg1)
      ∧ r.2.mem ((c.tc : Thread Cert.NormTwoRefIdeal.nD Cert.NormTwoRefIdeal.τ).loc Cert.NormTwoRefIdeal.main_arg2) = m ((c.tc : Thread Cert.NormTwoRefIdeal.nD Cert.NormTwoRefIdeal.τ).loc Cert.NormTwoRefIdeal.main_arg2)
      ∧ r.2.mem ((c.tc : Thread Cert.NormTwoRefIdeal.nD Cert.NormTwoRefIdeal.τ).loc Cert.NormTwoRefIdeal.main_arg3) = m ((c.tc : Thread Cert.NormTwoRefIdeal.nD Cert.NormTwoRefIdeal.τ).loc Cert.NormTwoRefIdeal.main_arg3))
      ∧ r.2.sem = fun _ => 0)

def quiescent_NormFirstDx [hNormFirstDx : Cert.NormFirstDx.Facts] : Prop :=
  ∀ (m : (ℓ : Loc Cert.NormFirstDx.nD Cert.NormFirstDx.τ Cert.NormFirstDx.sig) → Buf (Elt Bits) ℓ) (g : Dev Cert.NormFirstDx.nD → PrngReg), Pre_NormFirstDx m →
    θ_run (Cert.NormFirstDx.defs (F := Bits)) (onTc (τ := Cert.NormFirstDx.τ) (Cert.NormFirstDx.main (F := Bits))) ⟨m, fun _ => 0, g⟩ (fun r => (∀ c : Dev Cert.NormFirstDx.nD,
      r.2.mem ((c.tc : Thread Cert.NormFirstDx.nD Cert.NormFirstDx.τ).loc Cert.NormFirstDx.main_arg0) = m ((c.tc : Thread Cert.NormFirstDx.nD Cert.NormFirstDx.τ).loc Cert.NormFirstDx.main_arg0)
      ∧ r.2.mem ((c.tc : Thread Cert.NormFirstDx.nD Cert.NormFirstDx.τ).loc Cert.NormFirstDx.main_arg1) = m ((c.tc : Thread Cert.NormFirstDx.nD Cert.NormFirstDx.τ).loc Cert.NormFirstDx.main_arg1)
      ∧ r.2.mem ((c.tc : Thread Cert.NormFirstDx.nD Cert.NormFirstDx.τ).loc Cert.NormFirstDx.main_arg2) = m ((c.tc : Thread Cert.NormFirstDx.nD Cert.NormFirstDx.τ).loc Cert.NormFirstDx.main_arg2)
      ∧ r.2.mem ((c.tc : Thread Cert.NormFirstDx.nD Cert.NormFirstDx.τ).loc Cert.NormFirstDx.main_arg3) = m ((c.tc : Thread Cert.NormFirstDx.nD Cert.NormFirstDx.τ).loc Cert.NormFirstDx.main_arg3))
      ∧ r.2.sem = fun _ => 0)

def quiescent_NormFirstDxIdeal [hNormFirstDxIdeal : Cert.NormFirstDxIdeal.Facts] : Prop :=
  ∀ (m : (ℓ : Loc Cert.NormFirstDxIdeal.nD Cert.NormFirstDxIdeal.τ Cert.NormFirstDxIdeal.sig) → Buf (Elt Ideal) ℓ) (g : Dev Cert.NormFirstDxIdeal.nD → PrngReg), Pre_NormFirstDxIdeal m →
    θ_run (Cert.NormFirstDxIdeal.defs (F := Ideal)) (onTc (τ := Cert.NormFirstDxIdeal.τ) (Cert.NormFirstDxIdeal.main (F := Ideal))) ⟨m, fun _ => 0, g⟩ (fun r => (∀ c : Dev Cert.NormFirstDxIdeal.nD,
      r.2.mem ((c.tc : Thread Cert.NormFirstDxIdeal.nD Cert.NormFirstDxIdeal.τ).loc Cert.NormFirstDxIdeal.main_arg0) = m ((c.tc : Thread Cert.NormFirstDxIdeal.nD Cert.NormFirstDxIdeal.τ).loc Cert.NormFirstDxIdeal.main_arg0)
      ∧ r.2.mem ((c.tc : Thread Cert.NormFirstDxIdeal.nD Cert.NormFirstDxIdeal.τ).loc Cert.NormFirstDxIdeal.main_arg1) = m ((c.tc : Thread Cert.NormFirstDxIdeal.nD Cert.NormFirstDxIdeal.τ).loc Cert.NormFirstDxIdeal.main_arg1)
      ∧ r.2.mem ((c.tc : Thread Cert.NormFirstDxIdeal.nD Cert.NormFirstDxIdeal.τ).loc Cert.NormFirstDxIdeal.main_arg2) = m ((c.tc : Thread Cert.NormFirstDxIdeal.nD Cert.NormFirstDxIdeal.τ).loc Cert.NormFirstDxIdeal.main_arg2)
      ∧ r.2.mem ((c.tc : Thread Cert.NormFirstDxIdeal.nD Cert.NormFirstDxIdeal.τ).loc Cert.NormFirstDxIdeal.main_arg3) = m ((c.tc : Thread Cert.NormFirstDxIdeal.nD Cert.NormFirstDxIdeal.τ).loc Cert.NormFirstDxIdeal.main_arg3))
      ∧ r.2.sem = fun _ => 0)

def quiescent_NormFirstDxRefIdeal [hNormFirstDxRefIdeal : Cert.NormFirstDxRefIdeal.Facts] : Prop :=
  ∀ (m : (ℓ : Loc Cert.NormFirstDxRefIdeal.nD Cert.NormFirstDxRefIdeal.τ Cert.NormFirstDxRefIdeal.sig) → Buf (Elt Ideal) ℓ) (g : Dev Cert.NormFirstDxRefIdeal.nD → PrngReg), Pre_NormFirstDxRefIdeal m →
    θ_run (Cert.NormFirstDxRefIdeal.defs (F := Ideal)) (onTc (τ := Cert.NormFirstDxRefIdeal.τ) (Cert.NormFirstDxRefIdeal.main (F := Ideal))) ⟨m, fun _ => 0, g⟩ (fun r => (∀ c : Dev Cert.NormFirstDxRefIdeal.nD,
      r.2.mem ((c.tc : Thread Cert.NormFirstDxRefIdeal.nD Cert.NormFirstDxRefIdeal.τ).loc Cert.NormFirstDxRefIdeal.main_arg0) = m ((c.tc : Thread Cert.NormFirstDxRefIdeal.nD Cert.NormFirstDxRefIdeal.τ).loc Cert.NormFirstDxRefIdeal.main_arg0)
      ∧ r.2.mem ((c.tc : Thread Cert.NormFirstDxRefIdeal.nD Cert.NormFirstDxRefIdeal.τ).loc Cert.NormFirstDxRefIdeal.main_arg1) = m ((c.tc : Thread Cert.NormFirstDxRefIdeal.nD Cert.NormFirstDxRefIdeal.τ).loc Cert.NormFirstDxRefIdeal.main_arg1)
      ∧ r.2.mem ((c.tc : Thread Cert.NormFirstDxRefIdeal.nD Cert.NormFirstDxRefIdeal.τ).loc Cert.NormFirstDxRefIdeal.main_arg2) = m ((c.tc : Thread Cert.NormFirstDxRefIdeal.nD Cert.NormFirstDxRefIdeal.τ).loc Cert.NormFirstDxRefIdeal.main_arg2)
      ∧ r.2.mem ((c.tc : Thread Cert.NormFirstDxRefIdeal.nD Cert.NormFirstDxRefIdeal.τ).loc Cert.NormFirstDxRefIdeal.main_arg3) = m ((c.tc : Thread Cert.NormFirstDxRefIdeal.nD Cert.NormFirstDxRefIdeal.τ).loc Cert.NormFirstDxRefIdeal.main_arg3))
      ∧ r.2.sem = fun _ => 0)

def quiescent_NormAddDx [hNormAddDx : Cert.NormAddDx.Facts] : Prop :=
  ∀ (m : (ℓ : Loc Cert.NormAddDx.nD Cert.NormAddDx.τ Cert.NormAddDx.sig) → Buf (Elt Bits) ℓ) (g : Dev Cert.NormAddDx.nD → PrngReg), Pre_NormAddDx m →
    θ_run (Cert.NormAddDx.defs (F := Bits)) (onTc (τ := Cert.NormAddDx.τ) (Cert.NormAddDx.main (F := Bits))) ⟨m, fun _ => 0, g⟩ (fun r => (∀ c : Dev Cert.NormAddDx.nD,
      r.2.mem ((c.tc : Thread Cert.NormAddDx.nD Cert.NormAddDx.τ).loc Cert.NormAddDx.main_arg0) = m ((c.tc : Thread Cert.NormAddDx.nD Cert.NormAddDx.τ).loc Cert.NormAddDx.main_arg0)
      ∧ r.2.mem ((c.tc : Thread Cert.NormAddDx.nD Cert.NormAddDx.τ).loc Cert.NormAddDx.main_arg1) = m ((c.tc : Thread Cert.NormAddDx.nD Cert.NormAddDx.τ).loc Cert.NormAddDx.main_arg1)
      ∧ r.2.mem ((c.tc : Thread Cert.NormAddDx.nD Cert.NormAddDx.τ).loc Cert.NormAddDx.main_arg2) = m ((c.tc : Thread Cert.NormAddDx.nD Cert.NormAddDx.τ).loc Cert.NormAddDx.main_arg2)
      ∧ r.2.mem ((c.tc : Thread Cert.NormAddDx.nD Cert.NormAddDx.τ).loc Cert.NormAddDx.main_arg3) = m ((c.tc : Thread Cert.NormAddDx.nD Cert.NormAddDx.τ).loc Cert.NormAddDx.main_arg3))
      ∧ r.2.sem = fun _ => 0)

def quiescent_NormAddDxIdeal [hNormAddDxIdeal : Cert.NormAddDxIdeal.Facts] : Prop :=
  ∀ (m : (ℓ : Loc Cert.NormAddDxIdeal.nD Cert.NormAddDxIdeal.τ Cert.NormAddDxIdeal.sig) → Buf (Elt Ideal) ℓ) (g : Dev Cert.NormAddDxIdeal.nD → PrngReg), Pre_NormAddDxIdeal m →
    θ_run (Cert.NormAddDxIdeal.defs (F := Ideal)) (onTc (τ := Cert.NormAddDxIdeal.τ) (Cert.NormAddDxIdeal.main (F := Ideal))) ⟨m, fun _ => 0, g⟩ (fun r => (∀ c : Dev Cert.NormAddDxIdeal.nD,
      r.2.mem ((c.tc : Thread Cert.NormAddDxIdeal.nD Cert.NormAddDxIdeal.τ).loc Cert.NormAddDxIdeal.main_arg0) = m ((c.tc : Thread Cert.NormAddDxIdeal.nD Cert.NormAddDxIdeal.τ).loc Cert.NormAddDxIdeal.main_arg0)
      ∧ r.2.mem ((c.tc : Thread Cert.NormAddDxIdeal.nD Cert.NormAddDxIdeal.τ).loc Cert.NormAddDxIdeal.main_arg1) = m ((c.tc : Thread Cert.NormAddDxIdeal.nD Cert.NormAddDxIdeal.τ).loc Cert.NormAddDxIdeal.main_arg1)
      ∧ r.2.mem ((c.tc : Thread Cert.NormAddDxIdeal.nD Cert.NormAddDxIdeal.τ).loc Cert.NormAddDxIdeal.main_arg2) = m ((c.tc : Thread Cert.NormAddDxIdeal.nD Cert.NormAddDxIdeal.τ).loc Cert.NormAddDxIdeal.main_arg2)
      ∧ r.2.mem ((c.tc : Thread Cert.NormAddDxIdeal.nD Cert.NormAddDxIdeal.τ).loc Cert.NormAddDxIdeal.main_arg3) = m ((c.tc : Thread Cert.NormAddDxIdeal.nD Cert.NormAddDxIdeal.τ).loc Cert.NormAddDxIdeal.main_arg3))
      ∧ r.2.sem = fun _ => 0)

def quiescent_NormAddDxRefIdeal [hNormAddDxRefIdeal : Cert.NormAddDxRefIdeal.Facts] : Prop :=
  ∀ (m : (ℓ : Loc Cert.NormAddDxRefIdeal.nD Cert.NormAddDxRefIdeal.τ Cert.NormAddDxRefIdeal.sig) → Buf (Elt Ideal) ℓ) (g : Dev Cert.NormAddDxRefIdeal.nD → PrngReg), Pre_NormAddDxRefIdeal m →
    θ_run (Cert.NormAddDxRefIdeal.defs (F := Ideal)) (onTc (τ := Cert.NormAddDxRefIdeal.τ) (Cert.NormAddDxRefIdeal.main (F := Ideal))) ⟨m, fun _ => 0, g⟩ (fun r => (∀ c : Dev Cert.NormAddDxRefIdeal.nD,
      r.2.mem ((c.tc : Thread Cert.NormAddDxRefIdeal.nD Cert.NormAddDxRefIdeal.τ).loc Cert.NormAddDxRefIdeal.main_arg0) = m ((c.tc : Thread Cert.NormAddDxRefIdeal.nD Cert.NormAddDxRefIdeal.τ).loc Cert.NormAddDxRefIdeal.main_arg0)
      ∧ r.2.mem ((c.tc : Thread Cert.NormAddDxRefIdeal.nD Cert.NormAddDxRefIdeal.τ).loc Cert.NormAddDxRefIdeal.main_arg1) = m ((c.tc : Thread Cert.NormAddDxRefIdeal.nD Cert.NormAddDxRefIdeal.τ).loc Cert.NormAddDxRefIdeal.main_arg1)
      ∧ r.2.mem ((c.tc : Thread Cert.NormAddDxRefIdeal.nD Cert.NormAddDxRefIdeal.τ).loc Cert.NormAddDxRefIdeal.main_arg2) = m ((c.tc : Thread Cert.NormAddDxRefIdeal.nD Cert.NormAddDxRefIdeal.τ).loc Cert.NormAddDxRefIdeal.main_arg2)
      ∧ r.2.mem ((c.tc : Thread Cert.NormAddDxRefIdeal.nD Cert.NormAddDxRefIdeal.τ).loc Cert.NormAddDxRefIdeal.main_arg3) = m ((c.tc : Thread Cert.NormAddDxRefIdeal.nD Cert.NormAddDxRefIdeal.τ).loc Cert.NormAddDxRefIdeal.main_arg3))
      ∧ r.2.sem = fun _ => 0)

def quiescent_NormTwoDx [hNormTwoDx : Cert.NormTwoDx.Facts] : Prop :=
  ∀ (m : (ℓ : Loc Cert.NormTwoDx.nD Cert.NormTwoDx.τ Cert.NormTwoDx.sig) → Buf (Elt Bits) ℓ) (g : Dev Cert.NormTwoDx.nD → PrngReg), Pre_NormTwoDx m →
    θ_run (Cert.NormTwoDx.defs (F := Bits)) (onTc (τ := Cert.NormTwoDx.τ) (Cert.NormTwoDx.main (F := Bits))) ⟨m, fun _ => 0, g⟩ (fun r => (∀ c : Dev Cert.NormTwoDx.nD,
      r.2.mem ((c.tc : Thread Cert.NormTwoDx.nD Cert.NormTwoDx.τ).loc Cert.NormTwoDx.main_arg0) = m ((c.tc : Thread Cert.NormTwoDx.nD Cert.NormTwoDx.τ).loc Cert.NormTwoDx.main_arg0)
      ∧ r.2.mem ((c.tc : Thread Cert.NormTwoDx.nD Cert.NormTwoDx.τ).loc Cert.NormTwoDx.main_arg1) = m ((c.tc : Thread Cert.NormTwoDx.nD Cert.NormTwoDx.τ).loc Cert.NormTwoDx.main_arg1)
      ∧ r.2.mem ((c.tc : Thread Cert.NormTwoDx.nD Cert.NormTwoDx.τ).loc Cert.NormTwoDx.main_arg2) = m ((c.tc : Thread Cert.NormTwoDx.nD Cert.NormTwoDx.τ).loc Cert.NormTwoDx.main_arg2)
      ∧ r.2.mem ((c.tc : Thread Cert.NormTwoDx.nD Cert.NormTwoDx.τ).loc Cert.NormTwoDx.main_arg3) = m ((c.tc : Thread Cert.NormTwoDx.nD Cert.NormTwoDx.τ).loc Cert.NormTwoDx.main_arg3)
      ∧ r.2.mem ((c.tc : Thread Cert.NormTwoDx.nD Cert.NormTwoDx.τ).loc Cert.NormTwoDx.main_arg4) = m ((c.tc : Thread Cert.NormTwoDx.nD Cert.NormTwoDx.τ).loc Cert.NormTwoDx.main_arg4)
      ∧ r.2.mem ((c.tc : Thread Cert.NormTwoDx.nD Cert.NormTwoDx.τ).loc Cert.NormTwoDx.main_arg5) = m ((c.tc : Thread Cert.NormTwoDx.nD Cert.NormTwoDx.τ).loc Cert.NormTwoDx.main_arg5))
      ∧ r.2.sem = fun _ => 0)

def quiescent_NormTwoDxIdeal [hNormTwoDxIdeal : Cert.NormTwoDxIdeal.Facts] : Prop :=
  ∀ (m : (ℓ : Loc Cert.NormTwoDxIdeal.nD Cert.NormTwoDxIdeal.τ Cert.NormTwoDxIdeal.sig) → Buf (Elt Ideal) ℓ) (g : Dev Cert.NormTwoDxIdeal.nD → PrngReg), Pre_NormTwoDxIdeal m →
    θ_run (Cert.NormTwoDxIdeal.defs (F := Ideal)) (onTc (τ := Cert.NormTwoDxIdeal.τ) (Cert.NormTwoDxIdeal.main (F := Ideal))) ⟨m, fun _ => 0, g⟩ (fun r => (∀ c : Dev Cert.NormTwoDxIdeal.nD,
      r.2.mem ((c.tc : Thread Cert.NormTwoDxIdeal.nD Cert.NormTwoDxIdeal.τ).loc Cert.NormTwoDxIdeal.main_arg0) = m ((c.tc : Thread Cert.NormTwoDxIdeal.nD Cert.NormTwoDxIdeal.τ).loc Cert.NormTwoDxIdeal.main_arg0)
      ∧ r.2.mem ((c.tc : Thread Cert.NormTwoDxIdeal.nD Cert.NormTwoDxIdeal.τ).loc Cert.NormTwoDxIdeal.main_arg1) = m ((c.tc : Thread Cert.NormTwoDxIdeal.nD Cert.NormTwoDxIdeal.τ).loc Cert.NormTwoDxIdeal.main_arg1)
      ∧ r.2.mem ((c.tc : Thread Cert.NormTwoDxIdeal.nD Cert.NormTwoDxIdeal.τ).loc Cert.NormTwoDxIdeal.main_arg2) = m ((c.tc : Thread Cert.NormTwoDxIdeal.nD Cert.NormTwoDxIdeal.τ).loc Cert.NormTwoDxIdeal.main_arg2)
      ∧ r.2.mem ((c.tc : Thread Cert.NormTwoDxIdeal.nD Cert.NormTwoDxIdeal.τ).loc Cert.NormTwoDxIdeal.main_arg3) = m ((c.tc : Thread Cert.NormTwoDxIdeal.nD Cert.NormTwoDxIdeal.τ).loc Cert.NormTwoDxIdeal.main_arg3)
      ∧ r.2.mem ((c.tc : Thread Cert.NormTwoDxIdeal.nD Cert.NormTwoDxIdeal.τ).loc Cert.NormTwoDxIdeal.main_arg4) = m ((c.tc : Thread Cert.NormTwoDxIdeal.nD Cert.NormTwoDxIdeal.τ).loc Cert.NormTwoDxIdeal.main_arg4)
      ∧ r.2.mem ((c.tc : Thread Cert.NormTwoDxIdeal.nD Cert.NormTwoDxIdeal.τ).loc Cert.NormTwoDxIdeal.main_arg5) = m ((c.tc : Thread Cert.NormTwoDxIdeal.nD Cert.NormTwoDxIdeal.τ).loc Cert.NormTwoDxIdeal.main_arg5))
      ∧ r.2.sem = fun _ => 0)

def quiescent_NormTwoDxRefIdeal [hNormTwoDxRefIdeal : Cert.NormTwoDxRefIdeal.Facts] : Prop :=
  ∀ (m : (ℓ : Loc Cert.NormTwoDxRefIdeal.nD Cert.NormTwoDxRefIdeal.τ Cert.NormTwoDxRefIdeal.sig) → Buf (Elt Ideal) ℓ) (g : Dev Cert.NormTwoDxRefIdeal.nD → PrngReg), Pre_NormTwoDxRefIdeal m →
    θ_run (Cert.NormTwoDxRefIdeal.defs (F := Ideal)) (onTc (τ := Cert.NormTwoDxRefIdeal.τ) (Cert.NormTwoDxRefIdeal.main (F := Ideal))) ⟨m, fun _ => 0, g⟩ (fun r => (∀ c : Dev Cert.NormTwoDxRefIdeal.nD,
      r.2.mem ((c.tc : Thread Cert.NormTwoDxRefIdeal.nD Cert.NormTwoDxRefIdeal.τ).loc Cert.NormTwoDxRefIdeal.main_arg0) = m ((c.tc : Thread Cert.NormTwoDxRefIdeal.nD Cert.NormTwoDxRefIdeal.τ).loc Cert.NormTwoDxRefIdeal.main_arg0)
      ∧ r.2.mem ((c.tc : Thread Cert.NormTwoDxRefIdeal.nD Cert.NormTwoDxRefIdeal.τ).loc Cert.NormTwoDxRefIdeal.main_arg1) = m ((c.tc : Thread Cert.NormTwoDxRefIdeal.nD Cert.NormTwoDxRefIdeal.τ).loc Cert.NormTwoDxRefIdeal.main_arg1)
      ∧ r.2.mem ((c.tc : Thread Cert.NormTwoDxRefIdeal.nD Cert.NormTwoDxRefIdeal.τ).loc Cert.NormTwoDxRefIdeal.main_arg2) = m ((c.tc : Thread Cert.NormTwoDxRefIdeal.nD Cert.NormTwoDxRefIdeal.τ).loc Cert.NormTwoDxRefIdeal.main_arg2)
      ∧ r.2.mem ((c.tc : Thread Cert.NormTwoDxRefIdeal.nD Cert.NormTwoDxRefIdeal.τ).loc Cert.NormTwoDxRefIdeal.main_arg3) = m ((c.tc : Thread Cert.NormTwoDxRefIdeal.nD Cert.NormTwoDxRefIdeal.τ).loc Cert.NormTwoDxRefIdeal.main_arg3)
      ∧ r.2.mem ((c.tc : Thread Cert.NormTwoDxRefIdeal.nD Cert.NormTwoDxRefIdeal.τ).loc Cert.NormTwoDxRefIdeal.main_arg4) = m ((c.tc : Thread Cert.NormTwoDxRefIdeal.nD Cert.NormTwoDxRefIdeal.τ).loc Cert.NormTwoDxRefIdeal.main_arg4)
      ∧ r.2.mem ((c.tc : Thread Cert.NormTwoDxRefIdeal.nD Cert.NormTwoDxRefIdeal.τ).loc Cert.NormTwoDxRefIdeal.main_arg5) = m ((c.tc : Thread Cert.NormTwoDxRefIdeal.nD Cert.NormTwoDxRefIdeal.τ).loc Cert.NormTwoDxRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_DiscBwd [hDiscBwd : Cert.DiscBwd.Facts] : Prop :=
  ∀ (m : (ℓ : Loc Cert.DiscBwd.nD Cert.DiscBwd.τ Cert.DiscBwd.sig) → Buf (Elt Bits) ℓ) (g : Dev Cert.DiscBwd.nD → PrngReg), Pre_DiscBwd m →
    θ_run (Cert.DiscBwd.defs (F := Bits)) (onTc (τ := Cert.DiscBwd.τ) (Cert.DiscBwd.main (F := Bits))) ⟨m, fun _ => 0, g⟩ (fun r => (∀ c : Dev Cert.DiscBwd.nD,
      r.2.mem ((c.tc : Thread Cert.DiscBwd.nD Cert.DiscBwd.τ).loc Cert.DiscBwd.main_arg0) = m ((c.tc : Thread Cert.DiscBwd.nD Cert.DiscBwd.τ).loc Cert.DiscBwd.main_arg0)
      ∧ r.2.mem ((c.tc : Thread Cert.DiscBwd.nD Cert.DiscBwd.τ).loc Cert.DiscBwd.main_arg1) = m ((c.tc : Thread Cert.DiscBwd.nD Cert.DiscBwd.τ).loc Cert.DiscBwd.main_arg1)
      ∧ r.2.mem ((c.tc : Thread Cert.DiscBwd.nD Cert.DiscBwd.τ).loc Cert.DiscBwd.main_arg2) = m ((c.tc : Thread Cert.DiscBwd.nD Cert.DiscBwd.τ).loc Cert.DiscBwd.main_arg2)
      ∧ r.2.mem ((c.tc : Thread Cert.DiscBwd.nD Cert.DiscBwd.τ).loc Cert.DiscBwd.main_arg3) = m ((c.tc : Thread Cert.DiscBwd.nD Cert.DiscBwd.τ).loc Cert.DiscBwd.main_arg3)
      ∧ r.2.mem ((c.tc : Thread Cert.DiscBwd.nD Cert.DiscBwd.τ).loc Cert.DiscBwd.main_arg4) = m ((c.tc : Thread Cert.DiscBwd.nD Cert.DiscBwd.τ).loc Cert.DiscBwd.main_arg4)
      ∧ r.2.mem ((c.tc : Thread Cert.DiscBwd.nD Cert.DiscBwd.τ).loc Cert.DiscBwd.main_arg5) = m ((c.tc : Thread Cert.DiscBwd.nD Cert.DiscBwd.τ).loc Cert.DiscBwd.main_arg5)
      ∧ r.2.mem ((c.tc : Thread Cert.DiscBwd.nD Cert.DiscBwd.τ).loc Cert.DiscBwd.main_arg6) = m ((c.tc : Thread Cert.DiscBwd.nD Cert.DiscBwd.τ).loc Cert.DiscBwd.main_arg6)
      ∧ r.2.mem ((c.tc : Thread Cert.DiscBwd.nD Cert.DiscBwd.τ).loc Cert.DiscBwd.main_arg7) = m ((c.tc : Thread Cert.DiscBwd.nD Cert.DiscBwd.τ).loc Cert.DiscBwd.main_arg7)
      ∧ r.2.mem ((c.tc : Thread Cert.DiscBwd.nD Cert.DiscBwd.τ).loc Cert.DiscBwd.main_arg8) = m ((c.tc : Thread Cert.DiscBwd.nD Cert.DiscBwd.τ).loc Cert.DiscBwd.main_arg8))
      ∧ r.2.sem = fun _ => 0)

def quiescent_DiscBwdIdeal [hDiscBwdIdeal : Cert.DiscBwdIdeal.Facts] : Prop :=
  ∀ (m : (ℓ : Loc Cert.DiscBwdIdeal.nD Cert.DiscBwdIdeal.τ Cert.DiscBwdIdeal.sig) → Buf (Elt Ideal) ℓ) (g : Dev Cert.DiscBwdIdeal.nD → PrngReg), Pre_DiscBwdIdeal m →
    θ_run (Cert.DiscBwdIdeal.defs (F := Ideal)) (onTc (τ := Cert.DiscBwdIdeal.τ) (Cert.DiscBwdIdeal.main (F := Ideal))) ⟨m, fun _ => 0, g⟩ (fun r => (∀ c : Dev Cert.DiscBwdIdeal.nD,
      r.2.mem ((c.tc : Thread Cert.DiscBwdIdeal.nD Cert.DiscBwdIdeal.τ).loc Cert.DiscBwdIdeal.main_arg0) = m ((c.tc : Thread Cert.DiscBwdIdeal.nD Cert.DiscBwdIdeal.τ).loc Cert.DiscBwdIdeal.main_arg0)
      ∧ r.2.mem ((c.tc : Thread Cert.DiscBwdIdeal.nD Cert.DiscBwdIdeal.τ).loc Cert.DiscBwdIdeal.main_arg1) = m ((c.tc : Thread Cert.DiscBwdIdeal.nD Cert.DiscBwdIdeal.τ).loc Cert.DiscBwdIdeal.main_arg1)
      ∧ r.2.mem ((c.tc : Thread Cert.DiscBwdIdeal.nD Cert.DiscBwdIdeal.τ).loc Cert.DiscBwdIdeal.main_arg2) = m ((c.tc : Thread Cert.DiscBwdIdeal.nD Cert.DiscBwdIdeal.τ).loc Cert.DiscBwdIdeal.main_arg2)
      ∧ r.2.mem ((c.tc : Thread Cert.DiscBwdIdeal.nD Cert.DiscBwdIdeal.τ).loc Cert.DiscBwdIdeal.main_arg3) = m ((c.tc : Thread Cert.DiscBwdIdeal.nD Cert.DiscBwdIdeal.τ).loc Cert.DiscBwdIdeal.main_arg3)
      ∧ r.2.mem ((c.tc : Thread Cert.DiscBwdIdeal.nD Cert.DiscBwdIdeal.τ).loc Cert.DiscBwdIdeal.main_arg4) = m ((c.tc : Thread Cert.DiscBwdIdeal.nD Cert.DiscBwdIdeal.τ).loc Cert.DiscBwdIdeal.main_arg4)
      ∧ r.2.mem ((c.tc : Thread Cert.DiscBwdIdeal.nD Cert.DiscBwdIdeal.τ).loc Cert.DiscBwdIdeal.main_arg5) = m ((c.tc : Thread Cert.DiscBwdIdeal.nD Cert.DiscBwdIdeal.τ).loc Cert.DiscBwdIdeal.main_arg5)
      ∧ r.2.mem ((c.tc : Thread Cert.DiscBwdIdeal.nD Cert.DiscBwdIdeal.τ).loc Cert.DiscBwdIdeal.main_arg6) = m ((c.tc : Thread Cert.DiscBwdIdeal.nD Cert.DiscBwdIdeal.τ).loc Cert.DiscBwdIdeal.main_arg6)
      ∧ r.2.mem ((c.tc : Thread Cert.DiscBwdIdeal.nD Cert.DiscBwdIdeal.τ).loc Cert.DiscBwdIdeal.main_arg7) = m ((c.tc : Thread Cert.DiscBwdIdeal.nD Cert.DiscBwdIdeal.τ).loc Cert.DiscBwdIdeal.main_arg7)
      ∧ r.2.mem ((c.tc : Thread Cert.DiscBwdIdeal.nD Cert.DiscBwdIdeal.τ).loc Cert.DiscBwdIdeal.main_arg8) = m ((c.tc : Thread Cert.DiscBwdIdeal.nD Cert.DiscBwdIdeal.τ).loc Cert.DiscBwdIdeal.main_arg8))
      ∧ r.2.sem = fun _ => 0)

def quiescent_DiscBwdRefIdeal [hDiscBwdRefIdeal : Cert.DiscBwdRefIdeal.Facts] : Prop :=
  ∀ (m : (ℓ : Loc Cert.DiscBwdRefIdeal.nD Cert.DiscBwdRefIdeal.τ Cert.DiscBwdRefIdeal.sig) → Buf (Elt Ideal) ℓ) (g : Dev Cert.DiscBwdRefIdeal.nD → PrngReg), Pre_DiscBwdRefIdeal m →
    θ_run (Cert.DiscBwdRefIdeal.defs (F := Ideal)) (onTc (τ := Cert.DiscBwdRefIdeal.τ) (Cert.DiscBwdRefIdeal.main (F := Ideal))) ⟨m, fun _ => 0, g⟩ (fun r => (∀ c : Dev Cert.DiscBwdRefIdeal.nD,
      r.2.mem ((c.tc : Thread Cert.DiscBwdRefIdeal.nD Cert.DiscBwdRefIdeal.τ).loc Cert.DiscBwdRefIdeal.main_arg0) = m ((c.tc : Thread Cert.DiscBwdRefIdeal.nD Cert.DiscBwdRefIdeal.τ).loc Cert.DiscBwdRefIdeal.main_arg0)
      ∧ r.2.mem ((c.tc : Thread Cert.DiscBwdRefIdeal.nD Cert.DiscBwdRefIdeal.τ).loc Cert.DiscBwdRefIdeal.main_arg1) = m ((c.tc : Thread Cert.DiscBwdRefIdeal.nD Cert.DiscBwdRefIdeal.τ).loc Cert.DiscBwdRefIdeal.main_arg1)
      ∧ r.2.mem ((c.tc : Thread Cert.DiscBwdRefIdeal.nD Cert.DiscBwdRefIdeal.τ).loc Cert.DiscBwdRefIdeal.main_arg2) = m ((c.tc : Thread Cert.DiscBwdRefIdeal.nD Cert.DiscBwdRefIdeal.τ).loc Cert.DiscBwdRefIdeal.main_arg2)
      ∧ r.2.mem ((c.tc : Thread Cert.DiscBwdRefIdeal.nD Cert.DiscBwdRefIdeal.τ).loc Cert.DiscBwdRefIdeal.main_arg3) = m ((c.tc : Thread Cert.DiscBwdRefIdeal.nD Cert.DiscBwdRefIdeal.τ).loc Cert.DiscBwdRefIdeal.main_arg3)
      ∧ r.2.mem ((c.tc : Thread Cert.DiscBwdRefIdeal.nD Cert.DiscBwdRefIdeal.τ).loc Cert.DiscBwdRefIdeal.main_arg4) = m ((c.tc : Thread Cert.DiscBwdRefIdeal.nD Cert.DiscBwdRefIdeal.τ).loc Cert.DiscBwdRefIdeal.main_arg4)
      ∧ r.2.mem ((c.tc : Thread Cert.DiscBwdRefIdeal.nD Cert.DiscBwdRefIdeal.τ).loc Cert.DiscBwdRefIdeal.main_arg5) = m ((c.tc : Thread Cert.DiscBwdRefIdeal.nD Cert.DiscBwdRefIdeal.τ).loc Cert.DiscBwdRefIdeal.main_arg5)
      ∧ r.2.mem ((c.tc : Thread Cert.DiscBwdRefIdeal.nD Cert.DiscBwdRefIdeal.τ).loc Cert.DiscBwdRefIdeal.main_arg6) = m ((c.tc : Thread Cert.DiscBwdRefIdeal.nD Cert.DiscBwdRefIdeal.τ).loc Cert.DiscBwdRefIdeal.main_arg6)
      ∧ r.2.mem ((c.tc : Thread Cert.DiscBwdRefIdeal.nD Cert.DiscBwdRefIdeal.τ).loc Cert.DiscBwdRefIdeal.main_arg7) = m ((c.tc : Thread Cert.DiscBwdRefIdeal.nD Cert.DiscBwdRefIdeal.τ).loc Cert.DiscBwdRefIdeal.main_arg7)
      ∧ r.2.mem ((c.tc : Thread Cert.DiscBwdRefIdeal.nD Cert.DiscBwdRefIdeal.τ).loc Cert.DiscBwdRefIdeal.main_arg8) = m ((c.tc : Thread Cert.DiscBwdRefIdeal.nD Cert.DiscBwdRefIdeal.τ).loc Cert.DiscBwdRefIdeal.main_arg8))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1)
      ∧ r.2.mem ((c.tc : Thread Cert.FfnGate.nD Cert.FfnGate.τ).loc Cert.FfnGate.main_arg2) = m ((c.tc : Thread Cert.FfnGate.nD Cert.FfnGate.τ).loc Cert.FfnGate.main_arg2))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1)
      ∧ r.2.mem ((c.tc : Thread Cert.FfnGateRefIdeal.nD Cert.FfnGateRefIdeal.τ).loc Cert.FfnGateRefIdeal.main_arg2) = m ((c.tc : Thread Cert.FfnGateRefIdeal.nD Cert.FfnGateRefIdeal.τ).loc Cert.FfnGateRefIdeal.main_arg2))
      ∧ r.2.sem = fun _ => 0)

def quiescent_AdamNorms [hAdamNorms : Cert.AdamNorms.Facts] : Prop :=
  ∀ (m : (ℓ : Loc Cert.AdamNorms.nD Cert.AdamNorms.τ Cert.AdamNorms.sig) → Buf (Elt Bits) ℓ) (g : Dev Cert.AdamNorms.nD → PrngReg), Pre_AdamNorms m →
    θ_run (Cert.AdamNorms.defs (F := Bits)) (onTc (τ := Cert.AdamNorms.τ) (Cert.AdamNorms.main (F := Bits))) ⟨m, fun _ => 0, g⟩ (fun r => (∀ c : Dev Cert.AdamNorms.nD,
      r.2.mem ((c.tc : Thread Cert.AdamNorms.nD Cert.AdamNorms.τ).loc Cert.AdamNorms.main_arg0) = m ((c.tc : Thread Cert.AdamNorms.nD Cert.AdamNorms.τ).loc Cert.AdamNorms.main_arg0)
      ∧ r.2.mem ((c.tc : Thread Cert.AdamNorms.nD Cert.AdamNorms.τ).loc Cert.AdamNorms.main_arg1) = m ((c.tc : Thread Cert.AdamNorms.nD Cert.AdamNorms.τ).loc Cert.AdamNorms.main_arg1)
      ∧ r.2.mem ((c.tc : Thread Cert.AdamNorms.nD Cert.AdamNorms.τ).loc Cert.AdamNorms.main_arg2) = m ((c.tc : Thread Cert.AdamNorms.nD Cert.AdamNorms.τ).loc Cert.AdamNorms.main_arg2)
      ∧ r.2.mem ((c.tc : Thread Cert.AdamNorms.nD Cert.AdamNorms.τ).loc Cert.AdamNorms.main_arg3) = m ((c.tc : Thread Cert.AdamNorms.nD Cert.AdamNorms.τ).loc Cert.AdamNorms.main_arg3))
      ∧ r.2.sem = fun _ => 0)

def quiescent_AdamNormsIdeal [hAdamNormsIdeal : Cert.AdamNormsIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg), Pre_AdamNormsIdeal m →
    θ_run (Cert.AdamNormsIdeal.defs (F := Ideal)) (onTc (τ := Cert.AdamNormsIdeal.τ) (Cert.AdamNormsIdeal.main (F := Ideal))) ⟨m, fun _ => 0, g⟩ (fun r => (∀ c : Dev Cert.AdamNormsIdeal.nD,
      r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
      ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
      ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
      ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ r.2.sem = fun _ => 0)

def quiescent_AdamNormsRefIdeal [hAdamNormsRefIdeal : Cert.AdamNormsRefIdeal.Facts] : Prop :=
  ∀ (m : (ℓ : Loc Cert.AdamNormsRefIdeal.nD Cert.AdamNormsRefIdeal.τ Cert.AdamNormsRefIdeal.sig) → Buf (Elt Ideal) ℓ) (g : Dev Cert.AdamNormsRefIdeal.nD → PrngReg), Pre_AdamNormsRefIdeal m →
    θ_run (Cert.AdamNormsRefIdeal.defs (F := Ideal)) (onTc (τ := Cert.AdamNormsRefIdeal.τ) (Cert.AdamNormsRefIdeal.main (F := Ideal))) ⟨m, fun _ => 0, g⟩ (fun r => (∀ c : Dev Cert.AdamNormsRefIdeal.nD,
      r.2.mem ((c.tc : Thread Cert.AdamNormsRefIdeal.nD Cert.AdamNormsRefIdeal.τ).loc Cert.AdamNormsRefIdeal.main_arg0) = m ((c.tc : Thread Cert.AdamNormsRefIdeal.nD Cert.AdamNormsRefIdeal.τ).loc Cert.AdamNormsRefIdeal.main_arg0)
      ∧ r.2.mem ((c.tc : Thread Cert.AdamNormsRefIdeal.nD Cert.AdamNormsRefIdeal.τ).loc Cert.AdamNormsRefIdeal.main_arg1) = m ((c.tc : Thread Cert.AdamNormsRefIdeal.nD Cert.AdamNormsRefIdeal.τ).loc Cert.AdamNormsRefIdeal.main_arg1)
      ∧ r.2.mem ((c.tc : Thread Cert.AdamNormsRefIdeal.nD Cert.AdamNormsRefIdeal.τ).loc Cert.AdamNormsRefIdeal.main_arg2) = m ((c.tc : Thread Cert.AdamNormsRefIdeal.nD Cert.AdamNormsRefIdeal.τ).loc Cert.AdamNormsRefIdeal.main_arg2)
      ∧ r.2.mem ((c.tc : Thread Cert.AdamNormsRefIdeal.nD Cert.AdamNormsRefIdeal.τ).loc Cert.AdamNormsRefIdeal.main_arg3) = m ((c.tc : Thread Cert.AdamNormsRefIdeal.nD Cert.AdamNormsRefIdeal.τ).loc Cert.AdamNormsRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamRows [hAdamRows : Cert.AdamRows.Facts] : Prop :=
  ∀ (m : (ℓ : Loc Cert.AdamRows.nD Cert.AdamRows.τ Cert.AdamRows.sig) → Buf (Elt Bits) ℓ) (g : Dev Cert.AdamRows.nD → PrngReg), Pre_AdamRows m →
    θ_run (Cert.AdamRows.defs (F := Bits)) (onTc (τ := Cert.AdamRows.τ) (Cert.AdamRows.main (F := Bits))) ⟨m, fun _ => 0, g⟩ (fun r => (∀ c : Dev Cert.AdamRows.nD,
      r.2.mem ((c.tc : Thread Cert.AdamRows.nD Cert.AdamRows.τ).loc Cert.AdamRows.main_arg0) = m ((c.tc : Thread Cert.AdamRows.nD Cert.AdamRows.τ).loc Cert.AdamRows.main_arg0)
      ∧ r.2.mem ((c.tc : Thread Cert.AdamRows.nD Cert.AdamRows.τ).loc Cert.AdamRows.main_arg1) = m ((c.tc : Thread Cert.AdamRows.nD Cert.AdamRows.τ).loc Cert.AdamRows.main_arg1)
      ∧ r.2.mem ((c.tc : Thread Cert.AdamRows.nD Cert.AdamRows.τ).loc Cert.AdamRows.main_arg2) = m ((c.tc : Thread Cert.AdamRows.nD Cert.AdamRows.τ).loc Cert.AdamRows.main_arg2)
      ∧ r.2.mem ((c.tc : Thread Cert.AdamRows.nD Cert.AdamRows.τ).loc Cert.AdamRows.main_arg3) = m ((c.tc : Thread Cert.AdamRows.nD Cert.AdamRows.τ).loc Cert.AdamRows.main_arg3))
      ∧ r.2.sem = fun _ => 0)

def quiescent_AdamRowsIdeal [hAdamRowsIdeal : Cert.AdamRowsIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg), Pre_AdamRowsIdeal m →
    θ_run (Cert.AdamRowsIdeal.defs (F := Ideal)) (onTc (τ := Cert.AdamRowsIdeal.τ) (Cert.AdamRowsIdeal.main (F := Ideal))) ⟨m, fun _ => 0, g⟩ (fun r => (∀ c : Dev Cert.AdamRowsIdeal.nD,
      r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
      ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
      ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
      ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ r.2.sem = fun _ => 0)

def quiescent_AdamRowsRefIdeal [hAdamRowsRefIdeal : Cert.AdamRowsRefIdeal.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3))
      ∧ r.2.sem = fun _ => 0)

def quiescent_AdamDt [hAdamDt : Cert.AdamDt.Facts] : Prop :=
  ∀ (m : (ℓ : Loc Cert.AdamDt.nD Cert.AdamDt.τ Cert.AdamDt.sig) → Buf (Elt Bits) ℓ) (g : Dev Cert.AdamDt.nD → PrngReg), Pre_AdamDt m →
    θ_run (Cert.AdamDt.defs (F := Bits)) (onTc (τ := Cert.AdamDt.τ) (Cert.AdamDt.main (F := Bits))) ⟨m, fun _ => 0, g⟩ (fun r => (∀ c : Dev Cert.AdamDt.nD,
      r.2.mem ((c.tc : Thread Cert.AdamDt.nD Cert.AdamDt.τ).loc Cert.AdamDt.main_arg0) = m ((c.tc : Thread Cert.AdamDt.nD Cert.AdamDt.τ).loc Cert.AdamDt.main_arg0)
      ∧ r.2.mem ((c.tc : Thread Cert.AdamDt.nD Cert.AdamDt.τ).loc Cert.AdamDt.main_arg1) = m ((c.tc : Thread Cert.AdamDt.nD Cert.AdamDt.τ).loc Cert.AdamDt.main_arg1)
      ∧ r.2.mem ((c.tc : Thread Cert.AdamDt.nD Cert.AdamDt.τ).loc Cert.AdamDt.main_arg2) = m ((c.tc : Thread Cert.AdamDt.nD Cert.AdamDt.τ).loc Cert.AdamDt.main_arg2)
      ∧ r.2.mem ((c.tc : Thread Cert.AdamDt.nD Cert.AdamDt.τ).loc Cert.AdamDt.main_arg3) = m ((c.tc : Thread Cert.AdamDt.nD Cert.AdamDt.τ).loc Cert.AdamDt.main_arg3))
      ∧ r.2.sem = fun _ => 0)

def quiescent_AdamDtIdeal [hAdamDtIdeal : Cert.AdamDtIdeal.Facts] : Prop :=
  ∀ (m : (ℓ : Loc Cert.AdamDtIdeal.nD Cert.AdamDtIdeal.τ Cert.AdamDtIdeal.sig) → Buf (Elt Ideal) ℓ) (g : Dev Cert.AdamDtIdeal.nD → PrngReg), Pre_AdamDtIdeal m →
    θ_run (Cert.AdamDtIdeal.defs (F := Ideal)) (onTc (τ := Cert.AdamDtIdeal.τ) (Cert.AdamDtIdeal.main (F := Ideal))) ⟨m, fun _ => 0, g⟩ (fun r => (∀ c : Dev Cert.AdamDtIdeal.nD,
      r.2.mem ((c.tc : Thread Cert.AdamDtIdeal.nD Cert.AdamDtIdeal.τ).loc Cert.AdamDtIdeal.main_arg0) = m ((c.tc : Thread Cert.AdamDtIdeal.nD Cert.AdamDtIdeal.τ).loc Cert.AdamDtIdeal.main_arg0)
      ∧ r.2.mem ((c.tc : Thread Cert.AdamDtIdeal.nD Cert.AdamDtIdeal.τ).loc Cert.AdamDtIdeal.main_arg1) = m ((c.tc : Thread Cert.AdamDtIdeal.nD Cert.AdamDtIdeal.τ).loc Cert.AdamDtIdeal.main_arg1)
      ∧ r.2.mem ((c.tc : Thread Cert.AdamDtIdeal.nD Cert.AdamDtIdeal.τ).loc Cert.AdamDtIdeal.main_arg2) = m ((c.tc : Thread Cert.AdamDtIdeal.nD Cert.AdamDtIdeal.τ).loc Cert.AdamDtIdeal.main_arg2)
      ∧ r.2.mem ((c.tc : Thread Cert.AdamDtIdeal.nD Cert.AdamDtIdeal.τ).loc Cert.AdamDtIdeal.main_arg3) = m ((c.tc : Thread Cert.AdamDtIdeal.nD Cert.AdamDtIdeal.τ).loc Cert.AdamDtIdeal.main_arg3))
      ∧ r.2.sem = fun _ => 0)

def quiescent_AdamDtRefIdeal [hAdamDtRefIdeal : Cert.AdamDtRefIdeal.Facts] : Prop :=
  ∀ (m : (ℓ : Loc Cert.AdamDtRefIdeal.nD Cert.AdamDtRefIdeal.τ Cert.AdamDtRefIdeal.sig) → Buf (Elt Ideal) ℓ) (g : Dev Cert.AdamDtRefIdeal.nD → PrngReg), Pre_AdamDtRefIdeal m →
    θ_run (Cert.AdamDtRefIdeal.defs (F := Ideal)) (onTc (τ := Cert.AdamDtRefIdeal.τ) (Cert.AdamDtRefIdeal.main (F := Ideal))) ⟨m, fun _ => 0, g⟩ (fun r => (∀ c : Dev Cert.AdamDtRefIdeal.nD,
      r.2.mem ((c.tc : Thread Cert.AdamDtRefIdeal.nD Cert.AdamDtRefIdeal.τ).loc Cert.AdamDtRefIdeal.main_arg0) = m ((c.tc : Thread Cert.AdamDtRefIdeal.nD Cert.AdamDtRefIdeal.τ).loc Cert.AdamDtRefIdeal.main_arg0)
      ∧ r.2.mem ((c.tc : Thread Cert.AdamDtRefIdeal.nD Cert.AdamDtRefIdeal.τ).loc Cert.AdamDtRefIdeal.main_arg1) = m ((c.tc : Thread Cert.AdamDtRefIdeal.nD Cert.AdamDtRefIdeal.τ).loc Cert.AdamDtRefIdeal.main_arg1)
      ∧ r.2.mem ((c.tc : Thread Cert.AdamDtRefIdeal.nD Cert.AdamDtRefIdeal.τ).loc Cert.AdamDtRefIdeal.main_arg2) = m ((c.tc : Thread Cert.AdamDtRefIdeal.nD Cert.AdamDtRefIdeal.τ).loc Cert.AdamDtRefIdeal.main_arg2)
      ∧ r.2.mem ((c.tc : Thread Cert.AdamDtRefIdeal.nD Cert.AdamDtRefIdeal.τ).loc Cert.AdamDtRefIdeal.main_arg3) = m ((c.tc : Thread Cert.AdamDtRefIdeal.nD Cert.AdamDtRefIdeal.τ).loc Cert.AdamDtRefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3))
      ∧ r.2.sem = fun _ => 0)

def quiescent_AdamD [hAdamD : Cert.AdamD.Facts] : Prop :=
  ∀ (m : (ℓ : Loc Cert.AdamD.nD Cert.AdamD.τ Cert.AdamD.sig) → Buf (Elt Bits) ℓ) (g : Dev Cert.AdamD.nD → PrngReg), Pre_AdamD m →
    θ_run (Cert.AdamD.defs (F := Bits)) (onTc (τ := Cert.AdamD.τ) (Cert.AdamD.main (F := Bits))) ⟨m, fun _ => 0, g⟩ (fun r => (∀ c : Dev Cert.AdamD.nD,
      r.2.mem ((c.tc : Thread Cert.AdamD.nD Cert.AdamD.τ).loc Cert.AdamD.main_arg0) = m ((c.tc : Thread Cert.AdamD.nD Cert.AdamD.τ).loc Cert.AdamD.main_arg0)
      ∧ r.2.mem ((c.tc : Thread Cert.AdamD.nD Cert.AdamD.τ).loc Cert.AdamD.main_arg1) = m ((c.tc : Thread Cert.AdamD.nD Cert.AdamD.τ).loc Cert.AdamD.main_arg1)
      ∧ r.2.mem ((c.tc : Thread Cert.AdamD.nD Cert.AdamD.τ).loc Cert.AdamD.main_arg2) = m ((c.tc : Thread Cert.AdamD.nD Cert.AdamD.τ).loc Cert.AdamD.main_arg2)
      ∧ r.2.mem ((c.tc : Thread Cert.AdamD.nD Cert.AdamD.τ).loc Cert.AdamD.main_arg3) = m ((c.tc : Thread Cert.AdamD.nD Cert.AdamD.τ).loc Cert.AdamD.main_arg3))
      ∧ r.2.sem = fun _ => 0)

def quiescent_AdamDIdeal [hAdamDIdeal : Cert.AdamDIdeal.Facts] : Prop :=
  ∀ (m : (ℓ : Loc Cert.AdamDIdeal.nD Cert.AdamDIdeal.τ Cert.AdamDIdeal.sig) → Buf (Elt Ideal) ℓ) (g : Dev Cert.AdamDIdeal.nD → PrngReg), Pre_AdamDIdeal m →
    θ_run (Cert.AdamDIdeal.defs (F := Ideal)) (onTc (τ := Cert.AdamDIdeal.τ) (Cert.AdamDIdeal.main (F := Ideal))) ⟨m, fun _ => 0, g⟩ (fun r => (∀ c : Dev Cert.AdamDIdeal.nD,
      r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
      ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
      ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
      ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ r.2.sem = fun _ => 0)

def quiescent_AdamDRefIdeal [hAdamDRefIdeal : Cert.AdamDRefIdeal.Facts] : Prop :=
  ∀ (m : (ℓ : Loc Cert.AdamDRefIdeal.nD Cert.AdamDRefIdeal.τ Cert.AdamDRefIdeal.sig) → Buf (Elt Ideal) ℓ) (g : Dev Cert.AdamDRefIdeal.nD → PrngReg), Pre_AdamDRefIdeal m →
    θ_run (Cert.AdamDRefIdeal.defs (F := Ideal)) (onTc (τ := Cert.AdamDRefIdeal.τ) (Cert.AdamDRefIdeal.main (F := Ideal))) ⟨m, fun _ => 0, g⟩ (fun r => (∀ c : Dev Cert.AdamDRefIdeal.nD,
      r.2.mem ((c.tc : Thread Cert.AdamDRefIdeal.nD Cert.AdamDRefIdeal.τ).loc Cert.AdamDRefIdeal.main_arg0) = m ((c.tc : Thread Cert.AdamDRefIdeal.nD Cert.AdamDRefIdeal.τ).loc Cert.AdamDRefIdeal.main_arg0)
      ∧ r.2.mem ((c.tc : Thread Cert.AdamDRefIdeal.nD Cert.AdamDRefIdeal.τ).loc Cert.AdamDRefIdeal.main_arg1) = m ((c.tc : Thread Cert.AdamDRefIdeal.nD Cert.AdamDRefIdeal.τ).loc Cert.AdamDRefIdeal.main_arg1)
      ∧ r.2.mem ((c.tc : Thread Cert.AdamDRefIdeal.nD Cert.AdamDRefIdeal.τ).loc Cert.AdamDRefIdeal.main_arg2) = m ((c.tc : Thread Cert.AdamDRefIdeal.nD Cert.AdamDRefIdeal.τ).loc Cert.AdamDRefIdeal.main_arg2)
      ∧ r.2.mem ((c.tc : Thread Cert.AdamDRefIdeal.nD Cert.AdamDRefIdeal.τ).loc Cert.AdamDRefIdeal.main_arg3) = m ((c.tc : Thread Cert.AdamDRefIdeal.nD Cert.AdamDRefIdeal.τ).loc Cert.AdamDRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_GeluBwd [hGeluBwd : Cert.GeluBwd.Facts] : Prop :=
  ∀ (m : (ℓ : Loc Cert.GeluBwd.nD Cert.GeluBwd.τ Cert.GeluBwd.sig) → Buf (Elt Bits) ℓ) (g : Dev Cert.GeluBwd.nD → PrngReg), Pre_GeluBwd m →
    θ_run (Cert.GeluBwd.defs (F := Bits)) (onTc (τ := Cert.GeluBwd.τ) (Cert.GeluBwd.main (F := Bits))) ⟨m, fun _ => 0, g⟩ (fun r => (∀ c : Dev Cert.GeluBwd.nD,
      r.2.mem ((c.tc : Thread Cert.GeluBwd.nD Cert.GeluBwd.τ).loc Cert.GeluBwd.main_arg0) = m ((c.tc : Thread Cert.GeluBwd.nD Cert.GeluBwd.τ).loc Cert.GeluBwd.main_arg0)
      ∧ r.2.mem ((c.tc : Thread Cert.GeluBwd.nD Cert.GeluBwd.τ).loc Cert.GeluBwd.main_arg1) = m ((c.tc : Thread Cert.GeluBwd.nD Cert.GeluBwd.τ).loc Cert.GeluBwd.main_arg1))
      ∧ r.2.sem = fun _ => 0)

def quiescent_GeluBwdIdeal [hGeluBwdIdeal : Cert.GeluBwdIdeal.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg), Pre_GeluBwdIdeal m →
    θ_run (Cert.GeluBwdIdeal.defs (F := Ideal)) (onTc (τ := Cert.GeluBwdIdeal.τ) (Cert.GeluBwdIdeal.main (F := Ideal))) ⟨m, fun _ => 0, g⟩ (fun r => (∀ c : Dev Cert.GeluBwdIdeal.nD,
      r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
      ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1))
      ∧ r.2.sem = fun _ => 0)

def quiescent_GeluBwdRefIdeal [hGeluBwdRefIdeal : Cert.GeluBwdRefIdeal.Facts] : Prop :=
  ∀ (m : (ℓ : Loc Cert.GeluBwdRefIdeal.nD Cert.GeluBwdRefIdeal.τ Cert.GeluBwdRefIdeal.sig) → Buf (Elt Ideal) ℓ) (g : Dev Cert.GeluBwdRefIdeal.nD → PrngReg), Pre_GeluBwdRefIdeal m →
    θ_run (Cert.GeluBwdRefIdeal.defs (F := Ideal)) (onTc (τ := Cert.GeluBwdRefIdeal.τ) (Cert.GeluBwdRefIdeal.main (F := Ideal))) ⟨m, fun _ => 0, g⟩ (fun r => (∀ c : Dev Cert.GeluBwdRefIdeal.nD,
      r.2.mem ((c.tc : Thread Cert.GeluBwdRefIdeal.nD Cert.GeluBwdRefIdeal.τ).loc Cert.GeluBwdRefIdeal.main_arg0) = m ((c.tc : Thread Cert.GeluBwdRefIdeal.nD Cert.GeluBwdRefIdeal.τ).loc Cert.GeluBwdRefIdeal.main_arg0)
      ∧ r.2.mem ((c.tc : Thread Cert.GeluBwdRefIdeal.nD Cert.GeluBwdRefIdeal.τ).loc Cert.GeluBwdRefIdeal.main_arg1) = m ((c.tc : Thread Cert.GeluBwdRefIdeal.nD Cert.GeluBwdRefIdeal.τ).loc Cert.GeluBwdRefIdeal.main_arg1))
      ∧ r.2.sem = fun _ => 0)

def quiescent_Starts [hStarts : Cert.Starts.Facts] : Prop :=
  ∀ (m : (ℓ : Loc Cert.Starts.nD Cert.Starts.τ Cert.Starts.sig) → Buf (Elt Bits) ℓ) (g : Dev Cert.Starts.nD → PrngReg), Pre_Starts m →
    θ_run (Cert.Starts.defs (F := Bits)) (onTc (τ := Cert.Starts.τ) (Cert.Starts.main (F := Bits))) ⟨m, fun _ => 0, g⟩ (fun r => (∀ c : Dev Cert.Starts.nD,
      r.2.mem ((c.tc : Thread Cert.Starts.nD Cert.Starts.τ).loc Cert.Starts.main_arg0) = m ((c.tc : Thread Cert.Starts.nD Cert.Starts.τ).loc Cert.Starts.main_arg0)
      ∧ r.2.mem ((c.tc : Thread Cert.Starts.nD Cert.Starts.τ).loc Cert.Starts.main_arg1) = m ((c.tc : Thread Cert.Starts.nD Cert.Starts.τ).loc Cert.Starts.main_arg1)
      ∧ r.2.mem ((c.tc : Thread Cert.Starts.nD Cert.Starts.τ).loc Cert.Starts.main_arg2) = m ((c.tc : Thread Cert.Starts.nD Cert.Starts.τ).loc Cert.Starts.main_arg2)
      ∧ r.2.mem ((c.tc : Thread Cert.Starts.nD Cert.Starts.τ).loc Cert.Starts.main_arg3) = m ((c.tc : Thread Cert.Starts.nD Cert.Starts.τ).loc Cert.Starts.main_arg3))
      ∧ r.2.sem = fun _ => 0)

def quiescent_StartsIdeal [hStartsIdeal : Cert.StartsIdeal.Facts] : Prop :=
  ∀ (m : (ℓ : Loc Cert.StartsIdeal.nD Cert.StartsIdeal.τ Cert.StartsIdeal.sig) → Buf (Elt Ideal) ℓ) (g : Dev Cert.StartsIdeal.nD → PrngReg), Pre_StartsIdeal m →
    θ_run (Cert.StartsIdeal.defs (F := Ideal)) (onTc (τ := Cert.StartsIdeal.τ) (Cert.StartsIdeal.main (F := Ideal))) ⟨m, fun _ => 0, g⟩ (fun r => (∀ c : Dev Cert.StartsIdeal.nD,
      r.2.mem ((c.tc : Thread Cert.StartsIdeal.nD Cert.StartsIdeal.τ).loc Cert.StartsIdeal.main_arg0) = m ((c.tc : Thread Cert.StartsIdeal.nD Cert.StartsIdeal.τ).loc Cert.StartsIdeal.main_arg0)
      ∧ r.2.mem ((c.tc : Thread Cert.StartsIdeal.nD Cert.StartsIdeal.τ).loc Cert.StartsIdeal.main_arg1) = m ((c.tc : Thread Cert.StartsIdeal.nD Cert.StartsIdeal.τ).loc Cert.StartsIdeal.main_arg1)
      ∧ r.2.mem ((c.tc : Thread Cert.StartsIdeal.nD Cert.StartsIdeal.τ).loc Cert.StartsIdeal.main_arg2) = m ((c.tc : Thread Cert.StartsIdeal.nD Cert.StartsIdeal.τ).loc Cert.StartsIdeal.main_arg2)
      ∧ r.2.mem ((c.tc : Thread Cert.StartsIdeal.nD Cert.StartsIdeal.τ).loc Cert.StartsIdeal.main_arg3) = m ((c.tc : Thread Cert.StartsIdeal.nD Cert.StartsIdeal.τ).loc Cert.StartsIdeal.main_arg3))
      ∧ r.2.sem = fun _ => 0)

def quiescent_StartsIdeal_pre_finite_drive [hStartsIdeal : Cert.StartsIdeal.Facts] [hPre_finite_drive : Cert.Pre_finite_drive.Facts] : Prop :=
  ∀ (m : (ℓ : Loc Cert.StartsIdeal.nD Cert.StartsIdeal.τ Cert.StartsIdeal.sig) → Buf (Elt Ideal) ℓ) (g : Dev Cert.StartsIdeal.nD → PrngReg), Pre_StartsIdeal_finite_drive m →
    θ_run (Cert.StartsIdeal.defs (F := Ideal)) (onTc (τ := Cert.StartsIdeal.τ) (Cert.StartsIdeal.main (F := Ideal))) ⟨m, fun _ => 0, g⟩ (fun r => (∀ c : Dev Cert.StartsIdeal.nD,
      r.2.mem ((c.tc : Thread Cert.StartsIdeal.nD Cert.StartsIdeal.τ).loc Cert.StartsIdeal.main_arg0) = m ((c.tc : Thread Cert.StartsIdeal.nD Cert.StartsIdeal.τ).loc Cert.StartsIdeal.main_arg0)
      ∧ r.2.mem ((c.tc : Thread Cert.StartsIdeal.nD Cert.StartsIdeal.τ).loc Cert.StartsIdeal.main_arg1) = m ((c.tc : Thread Cert.StartsIdeal.nD Cert.StartsIdeal.τ).loc Cert.StartsIdeal.main_arg1)
      ∧ r.2.mem ((c.tc : Thread Cert.StartsIdeal.nD Cert.StartsIdeal.τ).loc Cert.StartsIdeal.main_arg2) = m ((c.tc : Thread Cert.StartsIdeal.nD Cert.StartsIdeal.τ).loc Cert.StartsIdeal.main_arg2)
      ∧ r.2.mem ((c.tc : Thread Cert.StartsIdeal.nD Cert.StartsIdeal.τ).loc Cert.StartsIdeal.main_arg3) = m ((c.tc : Thread Cert.StartsIdeal.nD Cert.StartsIdeal.τ).loc Cert.StartsIdeal.main_arg3))
      ∧ r.2.sem = fun _ => 0)

def quiescent_StartsRefIdeal [hStartsRefIdeal : Cert.StartsRefIdeal.Facts] : Prop :=
  ∀ (m : (ℓ : Loc Cert.StartsRefIdeal.nD Cert.StartsRefIdeal.τ Cert.StartsRefIdeal.sig) → Buf (Elt Ideal) ℓ) (g : Dev Cert.StartsRefIdeal.nD → PrngReg), Pre_StartsRefIdeal m →
    θ_run (Cert.StartsRefIdeal.defs (F := Ideal)) (onTc (τ := Cert.StartsRefIdeal.τ) (Cert.StartsRefIdeal.main (F := Ideal))) ⟨m, fun _ => 0, g⟩ (fun r => (∀ c : Dev Cert.StartsRefIdeal.nD,
      r.2.mem ((c.tc : Thread Cert.StartsRefIdeal.nD Cert.StartsRefIdeal.τ).loc Cert.StartsRefIdeal.main_arg0) = m ((c.tc : Thread Cert.StartsRefIdeal.nD Cert.StartsRefIdeal.τ).loc Cert.StartsRefIdeal.main_arg0)
      ∧ r.2.mem ((c.tc : Thread Cert.StartsRefIdeal.nD Cert.StartsRefIdeal.τ).loc Cert.StartsRefIdeal.main_arg1) = m ((c.tc : Thread Cert.StartsRefIdeal.nD Cert.StartsRefIdeal.τ).loc Cert.StartsRefIdeal.main_arg1)
      ∧ r.2.mem ((c.tc : Thread Cert.StartsRefIdeal.nD Cert.StartsRefIdeal.τ).loc Cert.StartsRefIdeal.main_arg2) = m ((c.tc : Thread Cert.StartsRefIdeal.nD Cert.StartsRefIdeal.τ).loc Cert.StartsRefIdeal.main_arg2)
      ∧ r.2.mem ((c.tc : Thread Cert.StartsRefIdeal.nD Cert.StartsRefIdeal.τ).loc Cert.StartsRefIdeal.main_arg3) = m ((c.tc : Thread Cert.StartsRefIdeal.nD Cert.StartsRefIdeal.τ).loc Cert.StartsRefIdeal.main_arg3))
      ∧ r.2.sem = fun _ => 0)

def quiescent_StartsRefIdeal_pre_finite_drive [hStartsRefIdeal : Cert.StartsRefIdeal.Facts] [hPre_finite_drive : Cert.Pre_finite_drive.Facts] : Prop :=
  ∀ (m : (ℓ : Loc Cert.StartsRefIdeal.nD Cert.StartsRefIdeal.τ Cert.StartsRefIdeal.sig) → Buf (Elt Ideal) ℓ) (g : Dev Cert.StartsRefIdeal.nD → PrngReg), Pre_StartsRefIdeal_finite_drive m →
    θ_run (Cert.StartsRefIdeal.defs (F := Ideal)) (onTc (τ := Cert.StartsRefIdeal.τ) (Cert.StartsRefIdeal.main (F := Ideal))) ⟨m, fun _ => 0, g⟩ (fun r => (∀ c : Dev Cert.StartsRefIdeal.nD,
      r.2.mem ((c.tc : Thread Cert.StartsRefIdeal.nD Cert.StartsRefIdeal.τ).loc Cert.StartsRefIdeal.main_arg0) = m ((c.tc : Thread Cert.StartsRefIdeal.nD Cert.StartsRefIdeal.τ).loc Cert.StartsRefIdeal.main_arg0)
      ∧ r.2.mem ((c.tc : Thread Cert.StartsRefIdeal.nD Cert.StartsRefIdeal.τ).loc Cert.StartsRefIdeal.main_arg1) = m ((c.tc : Thread Cert.StartsRefIdeal.nD Cert.StartsRefIdeal.τ).loc Cert.StartsRefIdeal.main_arg1)
      ∧ r.2.mem ((c.tc : Thread Cert.StartsRefIdeal.nD Cert.StartsRefIdeal.τ).loc Cert.StartsRefIdeal.main_arg2) = m ((c.tc : Thread Cert.StartsRefIdeal.nD Cert.StartsRefIdeal.τ).loc Cert.StartsRefIdeal.main_arg2)
      ∧ r.2.mem ((c.tc : Thread Cert.StartsRefIdeal.nD Cert.StartsRefIdeal.τ).loc Cert.StartsRefIdeal.main_arg3) = m ((c.tc : Thread Cert.StartsRefIdeal.nD Cert.StartsRefIdeal.τ).loc Cert.StartsRefIdeal.main_arg3))
      ∧ r.2.sem = fun _ => 0)

def quiescent_Ends [hEnds : Cert.Ends.Facts] : Prop :=
  ∀ (m : (ℓ : Loc Cert.Ends.nD Cert.Ends.τ Cert.Ends.sig) → Buf (Elt Bits) ℓ) (g : Dev Cert.Ends.nD → PrngReg), Pre_Ends m →
    θ_run (Cert.Ends.defs (F := Bits)) (onTc (τ := Cert.Ends.τ) (Cert.Ends.main (F := Bits))) ⟨m, fun _ => 0, g⟩ (fun r => (∀ c : Dev Cert.Ends.nD,
      r.2.mem ((c.tc : Thread Cert.Ends.nD Cert.Ends.τ).loc Cert.Ends.main_arg0) = m ((c.tc : Thread Cert.Ends.nD Cert.Ends.τ).loc Cert.Ends.main_arg0)
      ∧ r.2.mem ((c.tc : Thread Cert.Ends.nD Cert.Ends.τ).loc Cert.Ends.main_arg1) = m ((c.tc : Thread Cert.Ends.nD Cert.Ends.τ).loc Cert.Ends.main_arg1)
      ∧ r.2.mem ((c.tc : Thread Cert.Ends.nD Cert.Ends.τ).loc Cert.Ends.main_arg2) = m ((c.tc : Thread Cert.Ends.nD Cert.Ends.τ).loc Cert.Ends.main_arg2)
      ∧ r.2.mem ((c.tc : Thread Cert.Ends.nD Cert.Ends.τ).loc Cert.Ends.main_arg3) = m ((c.tc : Thread Cert.Ends.nD Cert.Ends.τ).loc Cert.Ends.main_arg3))
      ∧ r.2.sem = fun _ => 0)

def quiescent_EndsIdeal [hEndsIdeal : Cert.EndsIdeal.Facts] : Prop :=
  ∀ (m : (ℓ : Loc Cert.EndsIdeal.nD Cert.EndsIdeal.τ Cert.EndsIdeal.sig) → Buf (Elt Ideal) ℓ) (g : Dev Cert.EndsIdeal.nD → PrngReg), Pre_EndsIdeal m →
    θ_run (Cert.EndsIdeal.defs (F := Ideal)) (onTc (τ := Cert.EndsIdeal.τ) (Cert.EndsIdeal.main (F := Ideal))) ⟨m, fun _ => 0, g⟩ (fun r => (∀ c : Dev Cert.EndsIdeal.nD,
      r.2.mem ((c.tc : Thread Cert.EndsIdeal.nD Cert.EndsIdeal.τ).loc Cert.EndsIdeal.main_arg0) = m ((c.tc : Thread Cert.EndsIdeal.nD Cert.EndsIdeal.τ).loc Cert.EndsIdeal.main_arg0)
      ∧ r.2.mem ((c.tc : Thread Cert.EndsIdeal.nD Cert.EndsIdeal.τ).loc Cert.EndsIdeal.main_arg1) = m ((c.tc : Thread Cert.EndsIdeal.nD Cert.EndsIdeal.τ).loc Cert.EndsIdeal.main_arg1)
      ∧ r.2.mem ((c.tc : Thread Cert.EndsIdeal.nD Cert.EndsIdeal.τ).loc Cert.EndsIdeal.main_arg2) = m ((c.tc : Thread Cert.EndsIdeal.nD Cert.EndsIdeal.τ).loc Cert.EndsIdeal.main_arg2)
      ∧ r.2.mem ((c.tc : Thread Cert.EndsIdeal.nD Cert.EndsIdeal.τ).loc Cert.EndsIdeal.main_arg3) = m ((c.tc : Thread Cert.EndsIdeal.nD Cert.EndsIdeal.τ).loc Cert.EndsIdeal.main_arg3))
      ∧ r.2.sem = fun _ => 0)

def quiescent_EndsIdeal_pre_finite_drive [hEndsIdeal : Cert.EndsIdeal.Facts] [hPre_finite_drive : Cert.Pre_finite_drive.Facts] : Prop :=
  ∀ (m : (ℓ : Loc Cert.EndsIdeal.nD Cert.EndsIdeal.τ Cert.EndsIdeal.sig) → Buf (Elt Ideal) ℓ) (g : Dev Cert.EndsIdeal.nD → PrngReg), Pre_EndsIdeal_finite_drive m →
    θ_run (Cert.EndsIdeal.defs (F := Ideal)) (onTc (τ := Cert.EndsIdeal.τ) (Cert.EndsIdeal.main (F := Ideal))) ⟨m, fun _ => 0, g⟩ (fun r => (∀ c : Dev Cert.EndsIdeal.nD,
      r.2.mem ((c.tc : Thread Cert.EndsIdeal.nD Cert.EndsIdeal.τ).loc Cert.EndsIdeal.main_arg0) = m ((c.tc : Thread Cert.EndsIdeal.nD Cert.EndsIdeal.τ).loc Cert.EndsIdeal.main_arg0)
      ∧ r.2.mem ((c.tc : Thread Cert.EndsIdeal.nD Cert.EndsIdeal.τ).loc Cert.EndsIdeal.main_arg1) = m ((c.tc : Thread Cert.EndsIdeal.nD Cert.EndsIdeal.τ).loc Cert.EndsIdeal.main_arg1)
      ∧ r.2.mem ((c.tc : Thread Cert.EndsIdeal.nD Cert.EndsIdeal.τ).loc Cert.EndsIdeal.main_arg2) = m ((c.tc : Thread Cert.EndsIdeal.nD Cert.EndsIdeal.τ).loc Cert.EndsIdeal.main_arg2)
      ∧ r.2.mem ((c.tc : Thread Cert.EndsIdeal.nD Cert.EndsIdeal.τ).loc Cert.EndsIdeal.main_arg3) = m ((c.tc : Thread Cert.EndsIdeal.nD Cert.EndsIdeal.τ).loc Cert.EndsIdeal.main_arg3))
      ∧ r.2.sem = fun _ => 0)

def quiescent_EndsRefIdeal [hEndsRefIdeal : Cert.EndsRefIdeal.Facts] : Prop :=
  ∀ (m : (ℓ : Loc Cert.EndsRefIdeal.nD Cert.EndsRefIdeal.τ Cert.EndsRefIdeal.sig) → Buf (Elt Ideal) ℓ) (g : Dev Cert.EndsRefIdeal.nD → PrngReg), Pre_EndsRefIdeal m →
    θ_run (Cert.EndsRefIdeal.defs (F := Ideal)) (onTc (τ := Cert.EndsRefIdeal.τ) (Cert.EndsRefIdeal.main (F := Ideal))) ⟨m, fun _ => 0, g⟩ (fun r => (∀ c : Dev Cert.EndsRefIdeal.nD,
      r.2.mem ((c.tc : Thread Cert.EndsRefIdeal.nD Cert.EndsRefIdeal.τ).loc Cert.EndsRefIdeal.main_arg0) = m ((c.tc : Thread Cert.EndsRefIdeal.nD Cert.EndsRefIdeal.τ).loc Cert.EndsRefIdeal.main_arg0)
      ∧ r.2.mem ((c.tc : Thread Cert.EndsRefIdeal.nD Cert.EndsRefIdeal.τ).loc Cert.EndsRefIdeal.main_arg1) = m ((c.tc : Thread Cert.EndsRefIdeal.nD Cert.EndsRefIdeal.τ).loc Cert.EndsRefIdeal.main_arg1)
      ∧ r.2.mem ((c.tc : Thread Cert.EndsRefIdeal.nD Cert.EndsRefIdeal.τ).loc Cert.EndsRefIdeal.main_arg2) = m ((c.tc : Thread Cert.EndsRefIdeal.nD Cert.EndsRefIdeal.τ).loc Cert.EndsRefIdeal.main_arg2)
      ∧ r.2.mem ((c.tc : Thread Cert.EndsRefIdeal.nD Cert.EndsRefIdeal.τ).loc Cert.EndsRefIdeal.main_arg3) = m ((c.tc : Thread Cert.EndsRefIdeal.nD Cert.EndsRefIdeal.τ).loc Cert.EndsRefIdeal.main_arg3))
      ∧ r.2.sem = fun _ => 0)

def quiescent_EndsRefIdeal_pre_finite_drive [hEndsRefIdeal : Cert.EndsRefIdeal.Facts] [hPre_finite_drive : Cert.Pre_finite_drive.Facts] : Prop :=
  ∀ (m : (ℓ : Loc Cert.EndsRefIdeal.nD Cert.EndsRefIdeal.τ Cert.EndsRefIdeal.sig) → Buf (Elt Ideal) ℓ) (g : Dev Cert.EndsRefIdeal.nD → PrngReg), Pre_EndsRefIdeal_finite_drive m →
    θ_run (Cert.EndsRefIdeal.defs (F := Ideal)) (onTc (τ := Cert.EndsRefIdeal.τ) (Cert.EndsRefIdeal.main (F := Ideal))) ⟨m, fun _ => 0, g⟩ (fun r => (∀ c : Dev Cert.EndsRefIdeal.nD,
      r.2.mem ((c.tc : Thread Cert.EndsRefIdeal.nD Cert.EndsRefIdeal.τ).loc Cert.EndsRefIdeal.main_arg0) = m ((c.tc : Thread Cert.EndsRefIdeal.nD Cert.EndsRefIdeal.τ).loc Cert.EndsRefIdeal.main_arg0)
      ∧ r.2.mem ((c.tc : Thread Cert.EndsRefIdeal.nD Cert.EndsRefIdeal.τ).loc Cert.EndsRefIdeal.main_arg1) = m ((c.tc : Thread Cert.EndsRefIdeal.nD Cert.EndsRefIdeal.τ).loc Cert.EndsRefIdeal.main_arg1)
      ∧ r.2.mem ((c.tc : Thread Cert.EndsRefIdeal.nD Cert.EndsRefIdeal.τ).loc Cert.EndsRefIdeal.main_arg2) = m ((c.tc : Thread Cert.EndsRefIdeal.nD Cert.EndsRefIdeal.τ).loc Cert.EndsRefIdeal.main_arg2)
      ∧ r.2.mem ((c.tc : Thread Cert.EndsRefIdeal.nD Cert.EndsRefIdeal.τ).loc Cert.EndsRefIdeal.main_arg3) = m ((c.tc : Thread Cert.EndsRefIdeal.nD Cert.EndsRefIdeal.τ).loc Cert.EndsRefIdeal.main_arg3))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v5) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v5) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v19) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v21) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_OProjDx_OProjDxIdeal : Prop :=
  True

def algebraic_OProjDxIdeal_OProjDxRefIdeal [hOProjDxIdeal : Cert.OProjDxIdeal.Facts] [hOProjDxRefIdeal : Cert.OProjDxRefIdeal.Facts] : Prop :=
  ∀ (m : (ℓ : Loc Cert.OProjDxIdeal.nD Cert.OProjDxIdeal.τ Cert.OProjDxIdeal.sig) → Buf (Elt Ideal) ℓ) (g : Dev Cert.OProjDxIdeal.nD → PrngReg)
    (m' : (ℓ : Loc Cert.OProjDxRefIdeal.nD Cert.OProjDxRefIdeal.τ Cert.OProjDxRefIdeal.sig) → Buf (Elt Ideal) ℓ) (g' : Dev Cert.OProjDxRefIdeal.nD → PrngReg), Pre_OProjDxIdeal m →
    (∀ c : Dev Cert.OProjDxIdeal.nD,
      m' ((c.tc : Thread Cert.OProjDxRefIdeal.nD Cert.OProjDxRefIdeal.τ).loc Cert.OProjDxRefIdeal.main_arg0) = m ((c.tc : Thread Cert.OProjDxIdeal.nD Cert.OProjDxIdeal.τ).loc Cert.OProjDxIdeal.main_arg0)
      ∧ m' ((c.tc : Thread Cert.OProjDxRefIdeal.nD Cert.OProjDxRefIdeal.τ).loc Cert.OProjDxRefIdeal.main_arg1) = m ((c.tc : Thread Cert.OProjDxIdeal.nD Cert.OProjDxIdeal.τ).loc Cert.OProjDxIdeal.main_arg1)) →
    ∃ (v0 : (c : Dev Cert.OProjDxIdeal.nD) → Buf (Elt Ideal) ((c.tc : Thread Cert.OProjDxIdeal.nD Cert.OProjDxIdeal.τ).loc Cert.OProjDxIdeal.main_v0)),
      θ_run (Cert.OProjDxIdeal.defs (F := Ideal)) (onTc (τ := Cert.OProjDxIdeal.τ) (Cert.OProjDxIdeal.main (F := Ideal))) ⟨m, fun _ => 0, g⟩ (fun r => ∀ c : Dev Cert.OProjDxIdeal.nD,
          r.2.mem ((c.tc : Thread Cert.OProjDxIdeal.nD Cert.OProjDxIdeal.τ).loc Cert.OProjDxIdeal.main_v0) = v0 c
          ∧ r.2.mem ((c.tc : Thread Cert.OProjDxIdeal.nD Cert.OProjDxIdeal.τ).loc Cert.OProjDxIdeal.main_arg0) = m ((c.tc : Thread Cert.OProjDxIdeal.nD Cert.OProjDxIdeal.τ).loc Cert.OProjDxIdeal.main_arg0)
          ∧ r.2.mem ((c.tc : Thread Cert.OProjDxIdeal.nD Cert.OProjDxIdeal.τ).loc Cert.OProjDxIdeal.main_arg1) = m ((c.tc : Thread Cert.OProjDxIdeal.nD Cert.OProjDxIdeal.τ).loc Cert.OProjDxIdeal.main_arg1))
      ∧ θ_run (Cert.OProjDxRefIdeal.defs (F := Ideal)) (onTc (τ := Cert.OProjDxRefIdeal.τ) (Cert.OProjDxRefIdeal.main (F := Ideal))) ⟨m', fun _ => 0, g'⟩ (fun r => ∀ c : Dev Cert.OProjDxRefIdeal.nD,
          r.2.mem ((c.tc : Thread Cert.OProjDxRefIdeal.nD Cert.OProjDxRefIdeal.τ).loc Cert.OProjDxRefIdeal.main_v5) = v0 c
          ∧ r.2.mem ((c.tc : Thread Cert.OProjDxRefIdeal.nD Cert.OProjDxRefIdeal.τ).loc Cert.OProjDxRefIdeal.main_arg0) = m' ((c.tc : Thread Cert.OProjDxRefIdeal.nD Cert.OProjDxRefIdeal.τ).loc Cert.OProjDxRefIdeal.main_arg0)
          ∧ r.2.mem ((c.tc : Thread Cert.OProjDxRefIdeal.nD Cert.OProjDxRefIdeal.τ).loc Cert.OProjDxRefIdeal.main_arg1) = m' ((c.tc : Thread Cert.OProjDxRefIdeal.nD Cert.OProjDxRefIdeal.τ).loc Cert.OProjDxRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v4) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v19) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v21) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v6) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v9) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v11) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)) →
    ∃ (v0 : (c : Dev Cert.OProjIdeal.nD) → Buf (Elt Ideal) ((c.tc : Thread Cert.OProjIdeal.nD Cert.OProjIdeal.τ).loc Cert.OProjIdeal.main_v0)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v2) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v11) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1))

def preserves_GluProj_GluProjIdeal : Prop :=
  True

def algebraic_GluProjIdeal_GluProjRefIdeal [hGluProjIdeal : Cert.GluProjIdeal.Facts] [hGluProjRefIdeal : Cert.GluProjRefIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjRefIdeal.nD Cert.GluProjRefIdeal.τ Cert.GluProjRefIdeal.sig) → Buf (Elt Ideal) ℓ) (g' : Dev Cert.GluProjRefIdeal.nD → PrngReg), Pre_GluProjIdeal m →
    (∀ c : Dev Cert.GluProjIdeal.nD,
      m' ((c.tc : Thread Cert.GluProjRefIdeal.nD Cert.GluProjRefIdeal.τ).loc Cert.GluProjRefIdeal.main_arg0) = m ((c.tc : Thread Cert.GluProjIdeal.nD Cert.GluProjIdeal.τ).loc Cert.GluProjIdeal.main_arg0)
      ∧ m' ((c.tc : Thread Cert.GluProjRefIdeal.nD Cert.GluProjRefIdeal.τ).loc Cert.GluProjRefIdeal.main_arg1) = m ((c.tc : Thread Cert.GluProjIdeal.nD Cert.GluProjIdeal.τ).loc Cert.GluProjIdeal.main_arg1)) →
    ∃ (v0 : (c : Dev Cert.GluProjIdeal.nD) → Buf (Elt Ideal) ((c.tc : Thread Cert.GluProjIdeal.nD Cert.GluProjIdeal.τ).loc Cert.GluProjIdeal.main_v0)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v0) = v0 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ θ_run (Cert.GluProjRefIdeal.defs (F := Ideal)) (onTc (τ := Cert.GluProjRefIdeal.τ) (Cert.GluProjRefIdeal.main (F := Ideal))) ⟨m', fun _ => 0, g'⟩ (fun r => ∀ c : Dev Cert.GluProjRefIdeal.nD,
          r.2.mem ((c.tc : Thread Cert.GluProjRefIdeal.nD Cert.GluProjRefIdeal.τ).loc Cert.GluProjRefIdeal.main_v4) = v0 c
          ∧ r.2.mem ((c.tc : Thread Cert.GluProjRefIdeal.nD Cert.GluProjRefIdeal.τ).loc Cert.GluProjRefIdeal.main_arg0) = m' ((c.tc : Thread Cert.GluProjRefIdeal.nD Cert.GluProjRefIdeal.τ).loc Cert.GluProjRefIdeal.main_arg0)
          ∧ r.2.mem ((c.tc : Thread Cert.GluProjRefIdeal.nD Cert.GluProjRefIdeal.τ).loc Cert.GluProjRefIdeal.main_arg1) = m' ((c.tc : Thread Cert.GluProjRefIdeal.nD Cert.GluProjRefIdeal.τ).loc Cert.GluProjRefIdeal.main_arg1))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)) →
    ∃ (v0 : (c : Dev Cert.GluBwdIdeal.nD) → Buf (Elt Ideal) ((c.tc : Thread Cert.GluBwdIdeal.nD Cert.GluBwdIdeal.τ).loc Cert.GluBwdIdeal.main_v0)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v18) = v0 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v8) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)) →
    ∃ (v0 : (c : Dev Cert.NormFirstIdeal.nD) → Buf (Elt Ideal) ((c.tc : Thread Cert.NormFirstIdeal.nD Cert.NormFirstIdeal.τ).loc Cert.NormFirstIdeal.main_v1)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v1) = v0 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v13) = v0 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1))

def preserves_NormAdd_NormAddIdeal : Prop :=
  True

def algebraic_NormAddIdeal_NormAddRefIdeal [hNormAddIdeal : Cert.NormAddIdeal.Facts] [hNormAddRefIdeal : Cert.NormAddRefIdeal.Facts] : Prop :=
  ∀ (m : (ℓ : Loc Cert.NormAddIdeal.nD Cert.NormAddIdeal.τ Cert.NormAddIdeal.sig) → Buf (Elt Ideal) ℓ) (g : Dev Cert.NormAddIdeal.nD → PrngReg)
    (m' : (ℓ : Loc Cert.NormAddRefIdeal.nD Cert.NormAddRefIdeal.τ Cert.NormAddRefIdeal.sig) → Buf (Elt Ideal) ℓ) (g' : Dev Cert.NormAddRefIdeal.nD → PrngReg), Pre_NormAddIdeal m →
    (∀ c : Dev Cert.NormAddIdeal.nD,
      m' ((c.tc : Thread Cert.NormAddRefIdeal.nD Cert.NormAddRefIdeal.τ).loc Cert.NormAddRefIdeal.main_arg0) = m ((c.tc : Thread Cert.NormAddIdeal.nD Cert.NormAddIdeal.τ).loc Cert.NormAddIdeal.main_arg0)
      ∧ m' ((c.tc : Thread Cert.NormAddRefIdeal.nD Cert.NormAddRefIdeal.τ).loc Cert.NormAddRefIdeal.main_arg1) = m ((c.tc : Thread Cert.NormAddIdeal.nD Cert.NormAddIdeal.τ).loc Cert.NormAddIdeal.main_arg1)
      ∧ m' ((c.tc : Thread Cert.NormAddRefIdeal.nD Cert.NormAddRefIdeal.τ).loc Cert.NormAddRefIdeal.main_arg2) = m ((c.tc : Thread Cert.NormAddIdeal.nD Cert.NormAddIdeal.τ).loc Cert.NormAddIdeal.main_arg2)) →
    ∃ (v0 : (c : Dev Cert.NormAddIdeal.nD) → Buf (Elt Ideal) ((c.tc : Thread Cert.NormAddIdeal.nD Cert.NormAddIdeal.τ).loc Cert.NormAddIdeal.main_v1_0)) (v1 : (c : Dev Cert.NormAddIdeal.nD) → Buf (Elt Ideal) ((c.tc : Thread Cert.NormAddIdeal.nD Cert.NormAddIdeal.τ).loc Cert.NormAddIdeal.main_v1_1)),
      θ_run (Cert.NormAddIdeal.defs (F := Ideal)) (onTc (τ := Cert.NormAddIdeal.τ) (Cert.NormAddIdeal.main (F := Ideal))) ⟨m, fun _ => 0, g⟩ (fun r => ∀ c : Dev Cert.NormAddIdeal.nD,
          r.2.mem ((c.tc : Thread Cert.NormAddIdeal.nD Cert.NormAddIdeal.τ).loc Cert.NormAddIdeal.main_v1_0) = v0 c
          ∧ r.2.mem ((c.tc : Thread Cert.NormAddIdeal.nD Cert.NormAddIdeal.τ).loc Cert.NormAddIdeal.main_v1_1) = v1 c
          ∧ r.2.mem ((c.tc : Thread Cert.NormAddIdeal.nD Cert.NormAddIdeal.τ).loc Cert.NormAddIdeal.main_arg0) = m ((c.tc : Thread Cert.NormAddIdeal.nD Cert.NormAddIdeal.τ).loc Cert.NormAddIdeal.main_arg0)
          ∧ r.2.mem ((c.tc : Thread Cert.NormAddIdeal.nD Cert.NormAddIdeal.τ).loc Cert.NormAddIdeal.main_arg1) = m ((c.tc : Thread Cert.NormAddIdeal.nD Cert.NormAddIdeal.τ).loc Cert.NormAddIdeal.main_arg1)
          ∧ r.2.mem ((c.tc : Thread Cert.NormAddIdeal.nD Cert.NormAddIdeal.τ).loc Cert.NormAddIdeal.main_arg2) = m ((c.tc : Thread Cert.NormAddIdeal.nD Cert.NormAddIdeal.τ).loc Cert.NormAddIdeal.main_arg2))
      ∧ θ_run (Cert.NormAddRefIdeal.defs (F := Ideal)) (onTc (τ := Cert.NormAddRefIdeal.τ) (Cert.NormAddRefIdeal.main (F := Ideal))) ⟨m', fun _ => 0, g'⟩ (fun r => ∀ c : Dev Cert.NormAddRefIdeal.nD,
          r.2.mem ((c.tc : Thread Cert.NormAddRefIdeal.nD Cert.NormAddRefIdeal.τ).loc Cert.NormAddRefIdeal.main_v0) = v0 c
          ∧ r.2.mem ((c.tc : Thread Cert.NormAddRefIdeal.nD Cert.NormAddRefIdeal.τ).loc Cert.NormAddRefIdeal.main_v15) = v1 c
          ∧ r.2.mem ((c.tc : Thread Cert.NormAddRefIdeal.nD Cert.NormAddRefIdeal.τ).loc Cert.NormAddRefIdeal.main_arg0) = m' ((c.tc : Thread Cert.NormAddRefIdeal.nD Cert.NormAddRefIdeal.τ).loc Cert.NormAddRefIdeal.main_arg0)
          ∧ r.2.mem ((c.tc : Thread Cert.NormAddRefIdeal.nD Cert.NormAddRefIdeal.τ).loc Cert.NormAddRefIdeal.main_arg1) = m' ((c.tc : Thread Cert.NormAddRefIdeal.nD Cert.NormAddRefIdeal.τ).loc Cert.NormAddRefIdeal.main_arg1)
          ∧ r.2.mem ((c.tc : Thread Cert.NormAddRefIdeal.nD Cert.NormAddRefIdeal.τ).loc Cert.NormAddRefIdeal.main_arg2) = m' ((c.tc : Thread Cert.NormAddRefIdeal.nD Cert.NormAddRefIdeal.τ).loc Cert.NormAddRefIdeal.main_arg2))

def preserves_NormTwo_NormTwoIdeal : Prop :=
  True

def algebraic_NormTwoIdeal_NormTwoRefIdeal [hNormTwoIdeal : Cert.NormTwoIdeal.Facts] [hNormTwoRefIdeal : Cert.NormTwoRefIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg)
    (m' : (ℓ : Loc Cert.NormTwoRefIdeal.nD Cert.NormTwoRefIdeal.τ Cert.NormTwoRefIdeal.sig) → Buf (Elt Ideal) ℓ) (g' : Dev Cert.NormTwoRefIdeal.nD → PrngReg), Pre_NormTwoIdeal m →
    (∀ c : Dev Cert.NormTwoIdeal.nD,
      m' ((c.tc : Thread Cert.NormTwoRefIdeal.nD Cert.NormTwoRefIdeal.τ).loc Cert.NormTwoRefIdeal.main_arg0) = m ((c.tc : Thread Cert.NormTwoIdeal.nD Cert.NormTwoIdeal.τ).loc Cert.NormTwoIdeal.main_arg0)
      ∧ m' ((c.tc : Thread Cert.NormTwoRefIdeal.nD Cert.NormTwoRefIdeal.τ).loc Cert.NormTwoRefIdeal.main_arg1) = m ((c.tc : Thread Cert.NormTwoIdeal.nD Cert.NormTwoIdeal.τ).loc Cert.NormTwoIdeal.main_arg1)
      ∧ m' ((c.tc : Thread Cert.NormTwoRefIdeal.nD Cert.NormTwoRefIdeal.τ).loc Cert.NormTwoRefIdeal.main_arg2) = m ((c.tc : Thread Cert.NormTwoIdeal.nD Cert.NormTwoIdeal.τ).loc Cert.NormTwoIdeal.main_arg2)
      ∧ m' ((c.tc : Thread Cert.NormTwoRefIdeal.nD Cert.NormTwoRefIdeal.τ).loc Cert.NormTwoRefIdeal.main_arg3) = m ((c.tc : Thread Cert.NormTwoIdeal.nD Cert.NormTwoIdeal.τ).loc Cert.NormTwoIdeal.main_arg3)) →
    ∃ (v0 : (c : Dev Cert.NormTwoIdeal.nD) → Buf (Elt Ideal) ((c.tc : Thread Cert.NormTwoIdeal.nD Cert.NormTwoIdeal.τ).loc Cert.NormTwoIdeal.main_v2_0)) (v1 : (c : Dev Cert.NormTwoIdeal.nD) → Buf (Elt Ideal) ((c.tc : Thread Cert.NormTwoIdeal.nD Cert.NormTwoIdeal.τ).loc Cert.NormTwoIdeal.main_v2_1)) (v2 : (c : Dev Cert.NormTwoIdeal.nD) → Buf (Elt Ideal) ((c.tc : Thread Cert.NormTwoIdeal.nD Cert.NormTwoIdeal.τ).loc Cert.NormTwoIdeal.main_v2_2)),
      θ_run (Cert.NormTwoIdeal.defs (F := Ideal)) (onTc (τ := Cert.NormTwoIdeal.τ) (Cert.NormTwoIdeal.main (F := Ideal))) ⟨m, fun _ => 0, g⟩ (fun r => ∀ c : Dev Cert.NormTwoIdeal.nD,
          r.2.mem ((c.tc : Thread Cert.NormTwoIdeal.nD Cert.NormTwoIdeal.τ).loc Cert.NormTwoIdeal.main_v2_0) = v0 c
          ∧ r.2.mem ((c.tc : Thread Cert.NormTwoIdeal.nD Cert.NormTwoIdeal.τ).loc Cert.NormTwoIdeal.main_v2_1) = v1 c
          ∧ r.2.mem ((c.tc : Thread Cert.NormTwoIdeal.nD Cert.NormTwoIdeal.τ).loc Cert.NormTwoIdeal.main_v2_2) = v2 c
          ∧ r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
          ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
          ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2)
          ∧ r.2.mem ((c.tc : Thread Cert.NormTwoIdeal.nD Cert.NormTwoIdeal.τ).loc Cert.NormTwoIdeal.main_arg3) = m ((c.tc : Thread Cert.NormTwoIdeal.nD Cert.NormTwoIdeal.τ).loc Cert.NormTwoIdeal.main_arg3))
      ∧ θ_run (Cert.NormTwoRefIdeal.defs (F := Ideal)) (onTc (τ := Cert.NormTwoRefIdeal.τ) (Cert.NormTwoRefIdeal.main (F := Ideal))) ⟨m', fun _ => 0, g'⟩ (fun r => ∀ c : Dev Cert.NormTwoRefIdeal.nD,
          r.2.mem ((c.tc : Thread Cert.NormTwoRefIdeal.nD Cert.NormTwoRefIdeal.τ).loc Cert.NormTwoRefIdeal.main_v0) = v0 c
          ∧ r.2.mem ((c.tc : Thread Cert.NormTwoRefIdeal.nD Cert.NormTwoRefIdeal.τ).loc Cert.NormTwoRefIdeal.main_v15) = v1 c
          ∧ r.2.mem ((c.tc : Thread Cert.NormTwoRefIdeal.nD Cert.NormTwoRefIdeal.τ).loc Cert.NormTwoRefIdeal.main_v30) = v2 c
          ∧ r.2.mem ((c.tc : Thread Cert.NormTwoRefIdeal.nD Cert.NormTwoRefIdeal.τ).loc Cert.NormTwoRefIdeal.main_arg0) = m' ((c.tc : Thread Cert.NormTwoRefIdeal.nD Cert.NormTwoRefIdeal.τ).loc Cert.NormTwoRefIdeal.main_arg0)
          ∧ r.2.mem ((c.tc : Thread Cert.NormTwoRefIdeal.nD Cert.NormTwoRefIdeal.τ).loc Cert.NormTwoRefIdeal.main_arg1) = m' ((c.tc : Thread Cert.NormTwoRefIdeal.nD Cert.NormTwoRefIdeal.τ).loc Cert.NormTwoRefIdeal.main_arg1)
          ∧ r.2.mem ((c.tc : Thread Cert.NormTwoRefIdeal.nD Cert.NormTwoRefIdeal.τ).loc Cert.NormTwoRefIdeal.main_arg2) = m' ((c.tc : Thread Cert.NormTwoRefIdeal.nD Cert.NormTwoRefIdeal.τ).loc Cert.NormTwoRefIdeal.main_arg2)
          ∧ r.2.mem ((c.tc : Thread Cert.NormTwoRefIdeal.nD Cert.NormTwoRefIdeal.τ).loc Cert.NormTwoRefIdeal.main_arg3) = m' ((c.tc : Thread Cert.NormTwoRefIdeal.nD Cert.NormTwoRefIdeal.τ).loc Cert.NormTwoRefIdeal.main_arg3))

def preserves_NormFirstDx_NormFirstDxIdeal : Prop :=
  True

def algebraic_NormFirstDxIdeal_NormFirstDxRefIdeal [hNormFirstDxIdeal : Cert.NormFirstDxIdeal.Facts] [hNormFirstDxRefIdeal : Cert.NormFirstDxRefIdeal.Facts] : Prop :=
  ∀ (m : (ℓ : Loc Cert.NormFirstDxIdeal.nD Cert.NormFirstDxIdeal.τ Cert.NormFirstDxIdeal.sig) → Buf (Elt Ideal) ℓ) (g : Dev Cert.NormFirstDxIdeal.nD → PrngReg)
    (m' : (ℓ : Loc Cert.NormFirstDxRefIdeal.nD Cert.NormFirstDxRefIdeal.τ Cert.NormFirstDxRefIdeal.sig) → Buf (Elt Ideal) ℓ) (g' : Dev Cert.NormFirstDxRefIdeal.nD → PrngReg), Pre_NormFirstDxIdeal m →
    (∀ c : Dev Cert.NormFirstDxIdeal.nD,
      m' ((c.tc : Thread Cert.NormFirstDxRefIdeal.nD Cert.NormFirstDxRefIdeal.τ).loc Cert.NormFirstDxRefIdeal.main_arg0) = m ((c.tc : Thread Cert.NormFirstDxIdeal.nD Cert.NormFirstDxIdeal.τ).loc Cert.NormFirstDxIdeal.main_arg0)
      ∧ m' ((c.tc : Thread Cert.NormFirstDxRefIdeal.nD Cert.NormFirstDxRefIdeal.τ).loc Cert.NormFirstDxRefIdeal.main_arg1) = m ((c.tc : Thread Cert.NormFirstDxIdeal.nD Cert.NormFirstDxIdeal.τ).loc Cert.NormFirstDxIdeal.main_arg1)
      ∧ m' ((c.tc : Thread Cert.NormFirstDxRefIdeal.nD Cert.NormFirstDxRefIdeal.τ).loc Cert.NormFirstDxRefIdeal.main_arg2) = m ((c.tc : Thread Cert.NormFirstDxIdeal.nD Cert.NormFirstDxIdeal.τ).loc Cert.NormFirstDxIdeal.main_arg2)
      ∧ m' ((c.tc : Thread Cert.NormFirstDxRefIdeal.nD Cert.NormFirstDxRefIdeal.τ).loc Cert.NormFirstDxRefIdeal.main_arg3) = m ((c.tc : Thread Cert.NormFirstDxIdeal.nD Cert.NormFirstDxIdeal.τ).loc Cert.NormFirstDxIdeal.main_arg3)) →
    ∃ (v0 : (c : Dev Cert.NormFirstDxIdeal.nD) → Buf (Elt Ideal) ((c.tc : Thread Cert.NormFirstDxIdeal.nD Cert.NormFirstDxIdeal.τ).loc Cert.NormFirstDxIdeal.main_v1_0)) (v1 : (c : Dev Cert.NormFirstDxIdeal.nD) → Buf (Elt Ideal) ((c.tc : Thread Cert.NormFirstDxIdeal.nD Cert.NormFirstDxIdeal.τ).loc Cert.NormFirstDxIdeal.main_v1_1)),
      θ_run (Cert.NormFirstDxIdeal.defs (F := Ideal)) (onTc (τ := Cert.NormFirstDxIdeal.τ) (Cert.NormFirstDxIdeal.main (F := Ideal))) ⟨m, fun _ => 0, g⟩ (fun r => ∀ c : Dev Cert.NormFirstDxIdeal.nD,
          r.2.mem ((c.tc : Thread Cert.NormFirstDxIdeal.nD Cert.NormFirstDxIdeal.τ).loc Cert.NormFirstDxIdeal.main_v1_0) = v0 c
          ∧ r.2.mem ((c.tc : Thread Cert.NormFirstDxIdeal.nD Cert.NormFirstDxIdeal.τ).loc Cert.NormFirstDxIdeal.main_v1_1) = v1 c
          ∧ r.2.mem ((c.tc : Thread Cert.NormFirstDxIdeal.nD Cert.NormFirstDxIdeal.τ).loc Cert.NormFirstDxIdeal.main_arg0) = m ((c.tc : Thread Cert.NormFirstDxIdeal.nD Cert.NormFirstDxIdeal.τ).loc Cert.NormFirstDxIdeal.main_arg0)
          ∧ r.2.mem ((c.tc : Thread Cert.NormFirstDxIdeal.nD Cert.NormFirstDxIdeal.τ).loc Cert.NormFirstDxIdeal.main_arg1) = m ((c.tc : Thread Cert.NormFirstDxIdeal.nD Cert.NormFirstDxIdeal.τ).loc Cert.NormFirstDxIdeal.main_arg1)
          ∧ r.2.mem ((c.tc : Thread Cert.NormFirstDxIdeal.nD Cert.NormFirstDxIdeal.τ).loc Cert.NormFirstDxIdeal.main_arg2) = m ((c.tc : Thread Cert.NormFirstDxIdeal.nD Cert.NormFirstDxIdeal.τ).loc Cert.NormFirstDxIdeal.main_arg2)
          ∧ r.2.mem ((c.tc : Thread Cert.NormFirstDxIdeal.nD Cert.NormFirstDxIdeal.τ).loc Cert.NormFirstDxIdeal.main_arg3) = m ((c.tc : Thread Cert.NormFirstDxIdeal.nD Cert.NormFirstDxIdeal.τ).loc Cert.NormFirstDxIdeal.main_arg3))
      ∧ θ_run (Cert.NormFirstDxRefIdeal.defs (F := Ideal)) (onTc (τ := Cert.NormFirstDxRefIdeal.τ) (Cert.NormFirstDxRefIdeal.main (F := Ideal))) ⟨m', fun _ => 0, g'⟩ (fun r => ∀ c : Dev Cert.NormFirstDxRefIdeal.nD,
          r.2.mem ((c.tc : Thread Cert.NormFirstDxRefIdeal.nD Cert.NormFirstDxRefIdeal.τ).loc Cert.NormFirstDxRefIdeal.main_v36) = v0 c
          ∧ r.2.mem ((c.tc : Thread Cert.NormFirstDxRefIdeal.nD Cert.NormFirstDxRefIdeal.τ).loc Cert.NormFirstDxRefIdeal.main_v37) = v1 c
          ∧ r.2.mem ((c.tc : Thread Cert.NormFirstDxRefIdeal.nD Cert.NormFirstDxRefIdeal.τ).loc Cert.NormFirstDxRefIdeal.main_arg0) = m' ((c.tc : Thread Cert.NormFirstDxRefIdeal.nD Cert.NormFirstDxRefIdeal.τ).loc Cert.NormFirstDxRefIdeal.main_arg0)
          ∧ r.2.mem ((c.tc : Thread Cert.NormFirstDxRefIdeal.nD Cert.NormFirstDxRefIdeal.τ).loc Cert.NormFirstDxRefIdeal.main_arg1) = m' ((c.tc : Thread Cert.NormFirstDxRefIdeal.nD Cert.NormFirstDxRefIdeal.τ).loc Cert.NormFirstDxRefIdeal.main_arg1)
          ∧ r.2.mem ((c.tc : Thread Cert.NormFirstDxRefIdeal.nD Cert.NormFirstDxRefIdeal.τ).loc Cert.NormFirstDxRefIdeal.main_arg2) = m' ((c.tc : Thread Cert.NormFirstDxRefIdeal.nD Cert.NormFirstDxRefIdeal.τ).loc Cert.NormFirstDxRefIdeal.main_arg2)
          ∧ r.2.mem ((c.tc : Thread Cert.NormFirstDxRefIdeal.nD Cert.NormFirstDxRefIdeal.τ).loc Cert.NormFirstDxRefIdeal.main_arg3) = m' ((c.tc : Thread Cert.NormFirstDxRefIdeal.nD Cert.NormFirstDxRefIdeal.τ).loc Cert.NormFirstDxRefIdeal.main_arg3))

def preserves_NormAddDx_NormAddDxIdeal : Prop :=
  True

def algebraic_NormAddDxIdeal_NormAddDxRefIdeal [hNormAddDxIdeal : Cert.NormAddDxIdeal.Facts] [hNormAddDxRefIdeal : Cert.NormAddDxRefIdeal.Facts] : Prop :=
  ∀ (m : (ℓ : Loc Cert.NormAddDxIdeal.nD Cert.NormAddDxIdeal.τ Cert.NormAddDxIdeal.sig) → Buf (Elt Ideal) ℓ) (g : Dev Cert.NormAddDxIdeal.nD → PrngReg)
    (m' : (ℓ : Loc Cert.NormAddDxRefIdeal.nD Cert.NormAddDxRefIdeal.τ Cert.NormAddDxRefIdeal.sig) → Buf (Elt Ideal) ℓ) (g' : Dev Cert.NormAddDxRefIdeal.nD → PrngReg), Pre_NormAddDxIdeal m →
    (∀ c : Dev Cert.NormAddDxIdeal.nD,
      m' ((c.tc : Thread Cert.NormAddDxRefIdeal.nD Cert.NormAddDxRefIdeal.τ).loc Cert.NormAddDxRefIdeal.main_arg0) = m ((c.tc : Thread Cert.NormAddDxIdeal.nD Cert.NormAddDxIdeal.τ).loc Cert.NormAddDxIdeal.main_arg0)
      ∧ m' ((c.tc : Thread Cert.NormAddDxRefIdeal.nD Cert.NormAddDxRefIdeal.τ).loc Cert.NormAddDxRefIdeal.main_arg1) = m ((c.tc : Thread Cert.NormAddDxIdeal.nD Cert.NormAddDxIdeal.τ).loc Cert.NormAddDxIdeal.main_arg1)
      ∧ m' ((c.tc : Thread Cert.NormAddDxRefIdeal.nD Cert.NormAddDxRefIdeal.τ).loc Cert.NormAddDxRefIdeal.main_arg2) = m ((c.tc : Thread Cert.NormAddDxIdeal.nD Cert.NormAddDxIdeal.τ).loc Cert.NormAddDxIdeal.main_arg2)
      ∧ m' ((c.tc : Thread Cert.NormAddDxRefIdeal.nD Cert.NormAddDxRefIdeal.τ).loc Cert.NormAddDxRefIdeal.main_arg3) = m ((c.tc : Thread Cert.NormAddDxIdeal.nD Cert.NormAddDxIdeal.τ).loc Cert.NormAddDxIdeal.main_arg3)) →
    ∃ (v0 : (c : Dev Cert.NormAddDxIdeal.nD) → Buf (Elt Ideal) ((c.tc : Thread Cert.NormAddDxIdeal.nD Cert.NormAddDxIdeal.τ).loc Cert.NormAddDxIdeal.main_v1_0)) (v1 : (c : Dev Cert.NormAddDxIdeal.nD) → Buf (Elt Ideal) ((c.tc : Thread Cert.NormAddDxIdeal.nD Cert.NormAddDxIdeal.τ).loc Cert.NormAddDxIdeal.main_v1_1)) (v2 : (c : Dev Cert.NormAddDxIdeal.nD) → Buf (Elt Ideal) ((c.tc : Thread Cert.NormAddDxIdeal.nD Cert.NormAddDxIdeal.τ).loc Cert.NormAddDxIdeal.main_v1_2)),
      θ_run (Cert.NormAddDxIdeal.defs (F := Ideal)) (onTc (τ := Cert.NormAddDxIdeal.τ) (Cert.NormAddDxIdeal.main (F := Ideal))) ⟨m, fun _ => 0, g⟩ (fun r => ∀ c : Dev Cert.NormAddDxIdeal.nD,
          r.2.mem ((c.tc : Thread Cert.NormAddDxIdeal.nD Cert.NormAddDxIdeal.τ).loc Cert.NormAddDxIdeal.main_v1_0) = v0 c
          ∧ r.2.mem ((c.tc : Thread Cert.NormAddDxIdeal.nD Cert.NormAddDxIdeal.τ).loc Cert.NormAddDxIdeal.main_v1_1) = v1 c
          ∧ r.2.mem ((c.tc : Thread Cert.NormAddDxIdeal.nD Cert.NormAddDxIdeal.τ).loc Cert.NormAddDxIdeal.main_v1_2) = v2 c
          ∧ r.2.mem ((c.tc : Thread Cert.NormAddDxIdeal.nD Cert.NormAddDxIdeal.τ).loc Cert.NormAddDxIdeal.main_arg0) = m ((c.tc : Thread Cert.NormAddDxIdeal.nD Cert.NormAddDxIdeal.τ).loc Cert.NormAddDxIdeal.main_arg0)
          ∧ r.2.mem ((c.tc : Thread Cert.NormAddDxIdeal.nD Cert.NormAddDxIdeal.τ).loc Cert.NormAddDxIdeal.main_arg1) = m ((c.tc : Thread Cert.NormAddDxIdeal.nD Cert.NormAddDxIdeal.τ).loc Cert.NormAddDxIdeal.main_arg1)
          ∧ r.2.mem ((c.tc : Thread Cert.NormAddDxIdeal.nD Cert.NormAddDxIdeal.τ).loc Cert.NormAddDxIdeal.main_arg2) = m ((c.tc : Thread Cert.NormAddDxIdeal.nD Cert.NormAddDxIdeal.τ).loc Cert.NormAddDxIdeal.main_arg2)
          ∧ r.2.mem ((c.tc : Thread Cert.NormAddDxIdeal.nD Cert.NormAddDxIdeal.τ).loc Cert.NormAddDxIdeal.main_arg3) = m ((c.tc : Thread Cert.NormAddDxIdeal.nD Cert.NormAddDxIdeal.τ).loc Cert.NormAddDxIdeal.main_arg3))
      ∧ θ_run (Cert.NormAddDxRefIdeal.defs (F := Ideal)) (onTc (τ := Cert.NormAddDxRefIdeal.τ) (Cert.NormAddDxRefIdeal.main (F := Ideal))) ⟨m', fun _ => 0, g'⟩ (fun r => ∀ c : Dev Cert.NormAddDxRefIdeal.nD,
          r.2.mem ((c.tc : Thread Cert.NormAddDxRefIdeal.nD Cert.NormAddDxRefIdeal.τ).loc Cert.NormAddDxRefIdeal.main_v36) = v0 c
          ∧ r.2.mem ((c.tc : Thread Cert.NormAddDxRefIdeal.nD Cert.NormAddDxRefIdeal.τ).loc Cert.NormAddDxRefIdeal.main_v37) = v1 c
          ∧ r.2.mem ((c.tc : Thread Cert.NormAddDxRefIdeal.nD Cert.NormAddDxRefIdeal.τ).loc Cert.NormAddDxRefIdeal.main_v38) = v2 c
          ∧ r.2.mem ((c.tc : Thread Cert.NormAddDxRefIdeal.nD Cert.NormAddDxRefIdeal.τ).loc Cert.NormAddDxRefIdeal.main_arg0) = m' ((c.tc : Thread Cert.NormAddDxRefIdeal.nD Cert.NormAddDxRefIdeal.τ).loc Cert.NormAddDxRefIdeal.main_arg0)
          ∧ r.2.mem ((c.tc : Thread Cert.NormAddDxRefIdeal.nD Cert.NormAddDxRefIdeal.τ).loc Cert.NormAddDxRefIdeal.main_arg1) = m' ((c.tc : Thread Cert.NormAddDxRefIdeal.nD Cert.NormAddDxRefIdeal.τ).loc Cert.NormAddDxRefIdeal.main_arg1)
          ∧ r.2.mem ((c.tc : Thread Cert.NormAddDxRefIdeal.nD Cert.NormAddDxRefIdeal.τ).loc Cert.NormAddDxRefIdeal.main_arg2) = m' ((c.tc : Thread Cert.NormAddDxRefIdeal.nD Cert.NormAddDxRefIdeal.τ).loc Cert.NormAddDxRefIdeal.main_arg2)
          ∧ r.2.mem ((c.tc : Thread Cert.NormAddDxRefIdeal.nD Cert.NormAddDxRefIdeal.τ).loc Cert.NormAddDxRefIdeal.main_arg3) = m' ((c.tc : Thread Cert.NormAddDxRefIdeal.nD Cert.NormAddDxRefIdeal.τ).loc Cert.NormAddDxRefIdeal.main_arg3))

def preserves_NormTwoDx_NormTwoDxIdeal : Prop :=
  True

def algebraic_NormTwoDxIdeal_NormTwoDxRefIdeal [hNormTwoDxIdeal : Cert.NormTwoDxIdeal.Facts] [hNormTwoDxRefIdeal : Cert.NormTwoDxRefIdeal.Facts] : Prop :=
  ∀ (m : (ℓ : Loc Cert.NormTwoDxIdeal.nD Cert.NormTwoDxIdeal.τ Cert.NormTwoDxIdeal.sig) → Buf (Elt Ideal) ℓ) (g : Dev Cert.NormTwoDxIdeal.nD → PrngReg)
    (m' : (ℓ : Loc Cert.NormTwoDxRefIdeal.nD Cert.NormTwoDxRefIdeal.τ Cert.NormTwoDxRefIdeal.sig) → Buf (Elt Ideal) ℓ) (g' : Dev Cert.NormTwoDxRefIdeal.nD → PrngReg), Pre_NormTwoDxIdeal m →
    (∀ c : Dev Cert.NormTwoDxIdeal.nD,
      m' ((c.tc : Thread Cert.NormTwoDxRefIdeal.nD Cert.NormTwoDxRefIdeal.τ).loc Cert.NormTwoDxRefIdeal.main_arg0) = m ((c.tc : Thread Cert.NormTwoDxIdeal.nD Cert.NormTwoDxIdeal.τ).loc Cert.NormTwoDxIdeal.main_arg0)
      ∧ m' ((c.tc : Thread Cert.NormTwoDxRefIdeal.nD Cert.NormTwoDxRefIdeal.τ).loc Cert.NormTwoDxRefIdeal.main_arg1) = m ((c.tc : Thread Cert.NormTwoDxIdeal.nD Cert.NormTwoDxIdeal.τ).loc Cert.NormTwoDxIdeal.main_arg1)
      ∧ m' ((c.tc : Thread Cert.NormTwoDxRefIdeal.nD Cert.NormTwoDxRefIdeal.τ).loc Cert.NormTwoDxRefIdeal.main_arg2) = m ((c.tc : Thread Cert.NormTwoDxIdeal.nD Cert.NormTwoDxIdeal.τ).loc Cert.NormTwoDxIdeal.main_arg2)
      ∧ m' ((c.tc : Thread Cert.NormTwoDxRefIdeal.nD Cert.NormTwoDxRefIdeal.τ).loc Cert.NormTwoDxRefIdeal.main_arg3) = m ((c.tc : Thread Cert.NormTwoDxIdeal.nD Cert.NormTwoDxIdeal.τ).loc Cert.NormTwoDxIdeal.main_arg3)
      ∧ m' ((c.tc : Thread Cert.NormTwoDxRefIdeal.nD Cert.NormTwoDxRefIdeal.τ).loc Cert.NormTwoDxRefIdeal.main_arg4) = m ((c.tc : Thread Cert.NormTwoDxIdeal.nD Cert.NormTwoDxIdeal.τ).loc Cert.NormTwoDxIdeal.main_arg4)
      ∧ m' ((c.tc : Thread Cert.NormTwoDxRefIdeal.nD Cert.NormTwoDxRefIdeal.τ).loc Cert.NormTwoDxRefIdeal.main_arg5) = m ((c.tc : Thread Cert.NormTwoDxIdeal.nD Cert.NormTwoDxIdeal.τ).loc Cert.NormTwoDxIdeal.main_arg5)) →
    ∃ (v0 : (c : Dev Cert.NormTwoDxIdeal.nD) → Buf (Elt Ideal) ((c.tc : Thread Cert.NormTwoDxIdeal.nD Cert.NormTwoDxIdeal.τ).loc Cert.NormTwoDxIdeal.main_v2_0)) (v1 : (c : Dev Cert.NormTwoDxIdeal.nD) → Buf (Elt Ideal) ((c.tc : Thread Cert.NormTwoDxIdeal.nD Cert.NormTwoDxIdeal.τ).loc Cert.NormTwoDxIdeal.main_v2_1)) (v2 : (c : Dev Cert.NormTwoDxIdeal.nD) → Buf (Elt Ideal) ((c.tc : Thread Cert.NormTwoDxIdeal.nD Cert.NormTwoDxIdeal.τ).loc Cert.NormTwoDxIdeal.main_v2_2)) (v3 : (c : Dev Cert.NormTwoDxIdeal.nD) → Buf (Elt Ideal) ((c.tc : Thread Cert.NormTwoDxIdeal.nD Cert.NormTwoDxIdeal.τ).loc Cert.NormTwoDxIdeal.main_v2_3)),
      θ_run (Cert.NormTwoDxIdeal.defs (F := Ideal)) (onTc (τ := Cert.NormTwoDxIdeal.τ) (Cert.NormTwoDxIdeal.main (F := Ideal))) ⟨m, fun _ => 0, g⟩ (fun r => ∀ c : Dev Cert.NormTwoDxIdeal.nD,
          r.2.mem ((c.tc : Thread Cert.NormTwoDxIdeal.nD Cert.NormTwoDxIdeal.τ).loc Cert.NormTwoDxIdeal.main_v2_0) = v0 c
          ∧ r.2.mem ((c.tc : Thread Cert.NormTwoDxIdeal.nD Cert.NormTwoDxIdeal.τ).loc Cert.NormTwoDxIdeal.main_v2_1) = v1 c
          ∧ r.2.mem ((c.tc : Thread Cert.NormTwoDxIdeal.nD Cert.NormTwoDxIdeal.τ).loc Cert.NormTwoDxIdeal.main_v2_2) = v2 c
          ∧ r.2.mem ((c.tc : Thread Cert.NormTwoDxIdeal.nD Cert.NormTwoDxIdeal.τ).loc Cert.NormTwoDxIdeal.main_v2_3) = v3 c
          ∧ r.2.mem ((c.tc : Thread Cert.NormTwoDxIdeal.nD Cert.NormTwoDxIdeal.τ).loc Cert.NormTwoDxIdeal.main_arg0) = m ((c.tc : Thread Cert.NormTwoDxIdeal.nD Cert.NormTwoDxIdeal.τ).loc Cert.NormTwoDxIdeal.main_arg0)
          ∧ r.2.mem ((c.tc : Thread Cert.NormTwoDxIdeal.nD Cert.NormTwoDxIdeal.τ).loc Cert.NormTwoDxIdeal.main_arg1) = m ((c.tc : Thread Cert.NormTwoDxIdeal.nD Cert.NormTwoDxIdeal.τ).loc Cert.NormTwoDxIdeal.main_arg1)
          ∧ r.2.mem ((c.tc : Thread Cert.NormTwoDxIdeal.nD Cert.NormTwoDxIdeal.τ).loc Cert.NormTwoDxIdeal.main_arg2) = m ((c.tc : Thread Cert.NormTwoDxIdeal.nD Cert.NormTwoDxIdeal.τ).loc Cert.NormTwoDxIdeal.main_arg2)
          ∧ r.2.mem ((c.tc : Thread Cert.NormTwoDxIdeal.nD Cert.NormTwoDxIdeal.τ).loc Cert.NormTwoDxIdeal.main_arg3) = m ((c.tc : Thread Cert.NormTwoDxIdeal.nD Cert.NormTwoDxIdeal.τ).loc Cert.NormTwoDxIdeal.main_arg3)
          ∧ r.2.mem ((c.tc : Thread Cert.NormTwoDxIdeal.nD Cert.NormTwoDxIdeal.τ).loc Cert.NormTwoDxIdeal.main_arg4) = m ((c.tc : Thread Cert.NormTwoDxIdeal.nD Cert.NormTwoDxIdeal.τ).loc Cert.NormTwoDxIdeal.main_arg4)
          ∧ r.2.mem ((c.tc : Thread Cert.NormTwoDxIdeal.nD Cert.NormTwoDxIdeal.τ).loc Cert.NormTwoDxIdeal.main_arg5) = m ((c.tc : Thread Cert.NormTwoDxIdeal.nD Cert.NormTwoDxIdeal.τ).loc Cert.NormTwoDxIdeal.main_arg5))
      ∧ θ_run (Cert.NormTwoDxRefIdeal.defs (F := Ideal)) (onTc (τ := Cert.NormTwoDxRefIdeal.τ) (Cert.NormTwoDxRefIdeal.main (F := Ideal))) ⟨m', fun _ => 0, g'⟩ (fun r => ∀ c : Dev Cert.NormTwoDxRefIdeal.nD,
          r.2.mem ((c.tc : Thread Cert.NormTwoDxRefIdeal.nD Cert.NormTwoDxRefIdeal.τ).loc Cert.NormTwoDxRefIdeal.main_v73) = v0 c
          ∧ r.2.mem ((c.tc : Thread Cert.NormTwoDxRefIdeal.nD Cert.NormTwoDxRefIdeal.τ).loc Cert.NormTwoDxRefIdeal.main_v74) = v1 c
          ∧ r.2.mem ((c.tc : Thread Cert.NormTwoDxRefIdeal.nD Cert.NormTwoDxRefIdeal.τ).loc Cert.NormTwoDxRefIdeal.main_v75) = v2 c
          ∧ r.2.mem ((c.tc : Thread Cert.NormTwoDxRefIdeal.nD Cert.NormTwoDxRefIdeal.τ).loc Cert.NormTwoDxRefIdeal.main_v76) = v3 c
          ∧ r.2.mem ((c.tc : Thread Cert.NormTwoDxRefIdeal.nD Cert.NormTwoDxRefIdeal.τ).loc Cert.NormTwoDxRefIdeal.main_arg0) = m' ((c.tc : Thread Cert.NormTwoDxRefIdeal.nD Cert.NormTwoDxRefIdeal.τ).loc Cert.NormTwoDxRefIdeal.main_arg0)
          ∧ r.2.mem ((c.tc : Thread Cert.NormTwoDxRefIdeal.nD Cert.NormTwoDxRefIdeal.τ).loc Cert.NormTwoDxRefIdeal.main_arg1) = m' ((c.tc : Thread Cert.NormTwoDxRefIdeal.nD Cert.NormTwoDxRefIdeal.τ).loc Cert.NormTwoDxRefIdeal.main_arg1)
          ∧ r.2.mem ((c.tc : Thread Cert.NormTwoDxRefIdeal.nD Cert.NormTwoDxRefIdeal.τ).loc Cert.NormTwoDxRefIdeal.main_arg2) = m' ((c.tc : Thread Cert.NormTwoDxRefIdeal.nD Cert.NormTwoDxRefIdeal.τ).loc Cert.NormTwoDxRefIdeal.main_arg2)
          ∧ r.2.mem ((c.tc : Thread Cert.NormTwoDxRefIdeal.nD Cert.NormTwoDxRefIdeal.τ).loc Cert.NormTwoDxRefIdeal.main_arg3) = m' ((c.tc : Thread Cert.NormTwoDxRefIdeal.nD Cert.NormTwoDxRefIdeal.τ).loc Cert.NormTwoDxRefIdeal.main_arg3)
          ∧ r.2.mem ((c.tc : Thread Cert.NormTwoDxRefIdeal.nD Cert.NormTwoDxRefIdeal.τ).loc Cert.NormTwoDxRefIdeal.main_arg4) = m' ((c.tc : Thread Cert.NormTwoDxRefIdeal.nD Cert.NormTwoDxRefIdeal.τ).loc Cert.NormTwoDxRefIdeal.main_arg4)
          ∧ r.2.mem ((c.tc : Thread Cert.NormTwoDxRefIdeal.nD Cert.NormTwoDxRefIdeal.τ).loc Cert.NormTwoDxRefIdeal.main_arg5) = m' ((c.tc : Thread Cert.NormTwoDxRefIdeal.nD Cert.NormTwoDxRefIdeal.τ).loc Cert.NormTwoDxRefIdeal.main_arg5))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_v54) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_DiscBwd_DiscBwdIdeal : Prop :=
  True

def algebraic_DiscBwdIdeal_DiscBwdRefIdeal [hDiscBwdIdeal : Cert.DiscBwdIdeal.Facts] [hDiscBwdRefIdeal : Cert.DiscBwdRefIdeal.Facts] : Prop :=
  ∀ (m : (ℓ : Loc Cert.DiscBwdIdeal.nD Cert.DiscBwdIdeal.τ Cert.DiscBwdIdeal.sig) → Buf (Elt Ideal) ℓ) (g : Dev Cert.DiscBwdIdeal.nD → PrngReg)
    (m' : (ℓ : Loc Cert.DiscBwdRefIdeal.nD Cert.DiscBwdRefIdeal.τ Cert.DiscBwdRefIdeal.sig) → Buf (Elt Ideal) ℓ) (g' : Dev Cert.DiscBwdRefIdeal.nD → PrngReg), Pre_DiscBwdIdeal m →
    (∀ c : Dev Cert.DiscBwdIdeal.nD,
      m' ((c.tc : Thread Cert.DiscBwdRefIdeal.nD Cert.DiscBwdRefIdeal.τ).loc Cert.DiscBwdRefIdeal.main_arg0) = m ((c.tc : Thread Cert.DiscBwdIdeal.nD Cert.DiscBwdIdeal.τ).loc Cert.DiscBwdIdeal.main_arg0)
      ∧ m' ((c.tc : Thread Cert.DiscBwdRefIdeal.nD Cert.DiscBwdRefIdeal.τ).loc Cert.DiscBwdRefIdeal.main_arg1) = m ((c.tc : Thread Cert.DiscBwdIdeal.nD Cert.DiscBwdIdeal.τ).loc Cert.DiscBwdIdeal.main_arg1)
      ∧ m' ((c.tc : Thread Cert.DiscBwdRefIdeal.nD Cert.DiscBwdRefIdeal.τ).loc Cert.DiscBwdRefIdeal.main_arg2) = m ((c.tc : Thread Cert.DiscBwdIdeal.nD Cert.DiscBwdIdeal.τ).loc Cert.DiscBwdIdeal.main_arg2)
      ∧ m' ((c.tc : Thread Cert.DiscBwdRefIdeal.nD Cert.DiscBwdRefIdeal.τ).loc Cert.DiscBwdRefIdeal.main_arg3) = m ((c.tc : Thread Cert.DiscBwdIdeal.nD Cert.DiscBwdIdeal.τ).loc Cert.DiscBwdIdeal.main_arg3)
      ∧ m' ((c.tc : Thread Cert.DiscBwdRefIdeal.nD Cert.DiscBwdRefIdeal.τ).loc Cert.DiscBwdRefIdeal.main_arg4) = m ((c.tc : Thread Cert.DiscBwdIdeal.nD Cert.DiscBwdIdeal.τ).loc Cert.DiscBwdIdeal.main_arg4)
      ∧ m' ((c.tc : Thread Cert.DiscBwdRefIdeal.nD Cert.DiscBwdRefIdeal.τ).loc Cert.DiscBwdRefIdeal.main_arg5) = m ((c.tc : Thread Cert.DiscBwdIdeal.nD Cert.DiscBwdIdeal.τ).loc Cert.DiscBwdIdeal.main_arg5)
      ∧ m' ((c.tc : Thread Cert.DiscBwdRefIdeal.nD Cert.DiscBwdRefIdeal.τ).loc Cert.DiscBwdRefIdeal.main_arg6) = m ((c.tc : Thread Cert.DiscBwdIdeal.nD Cert.DiscBwdIdeal.τ).loc Cert.DiscBwdIdeal.main_arg6)
      ∧ m' ((c.tc : Thread Cert.DiscBwdRefIdeal.nD Cert.DiscBwdRefIdeal.τ).loc Cert.DiscBwdRefIdeal.main_arg7) = m ((c.tc : Thread Cert.DiscBwdIdeal.nD Cert.DiscBwdIdeal.τ).loc Cert.DiscBwdIdeal.main_arg7)
      ∧ m' ((c.tc : Thread Cert.DiscBwdRefIdeal.nD Cert.DiscBwdRefIdeal.τ).loc Cert.DiscBwdRefIdeal.main_arg8) = m ((c.tc : Thread Cert.DiscBwdIdeal.nD Cert.DiscBwdIdeal.τ).loc Cert.DiscBwdIdeal.main_arg8)) →
    ∃ (v0 : (c : Dev Cert.DiscBwdIdeal.nD) → Buf (Elt Ideal) ((c.tc : Thread Cert.DiscBwdIdeal.nD Cert.DiscBwdIdeal.τ).loc Cert.DiscBwdIdeal.main_v0_0)) (v1 : (c : Dev Cert.DiscBwdIdeal.nD) → Buf (Elt Ideal) ((c.tc : Thread Cert.DiscBwdIdeal.nD Cert.DiscBwdIdeal.τ).loc Cert.DiscBwdIdeal.main_v0_1)) (v2 : (c : Dev Cert.DiscBwdIdeal.nD) → Buf (Elt Ideal) ((c.tc : Thread Cert.DiscBwdIdeal.nD Cert.DiscBwdIdeal.τ).loc Cert.DiscBwdIdeal.main_v0_2)) (v3 : (c : Dev Cert.DiscBwdIdeal.nD) → Buf (Elt Ideal) ((c.tc : Thread Cert.DiscBwdIdeal.nD Cert.DiscBwdIdeal.τ).loc Cert.DiscBwdIdeal.main_v0_3)) (v4 : (c : Dev Cert.DiscBwdIdeal.nD) → Buf (Elt Ideal) ((c.tc : Thread Cert.DiscBwdIdeal.nD Cert.DiscBwdIdeal.τ).loc Cert.DiscBwdIdeal.main_v0_4)),
      θ_run (Cert.DiscBwdIdeal.defs (F := Ideal)) (onTc (τ := Cert.DiscBwdIdeal.τ) (Cert.DiscBwdIdeal.main (F := Ideal))) ⟨m, fun _ => 0, g⟩ (fun r => ∀ c : Dev Cert.DiscBwdIdeal.nD,
          r.2.mem ((c.tc : Thread Cert.DiscBwdIdeal.nD Cert.DiscBwdIdeal.τ).loc Cert.DiscBwdIdeal.main_v0_0) = v0 c
          ∧ r.2.mem ((c.tc : Thread Cert.DiscBwdIdeal.nD Cert.DiscBwdIdeal.τ).loc Cert.DiscBwdIdeal.main_v0_1) = v1 c
          ∧ r.2.mem ((c.tc : Thread Cert.DiscBwdIdeal.nD Cert.DiscBwdIdeal.τ).loc Cert.DiscBwdIdeal.main_v0_2) = v2 c
          ∧ r.2.mem ((c.tc : Thread Cert.DiscBwdIdeal.nD Cert.DiscBwdIdeal.τ).loc Cert.DiscBwdIdeal.main_v0_3) = v3 c
          ∧ r.2.mem ((c.tc : Thread Cert.DiscBwdIdeal.nD Cert.DiscBwdIdeal.τ).loc Cert.DiscBwdIdeal.main_v0_4) = v4 c
          ∧ r.2.mem ((c.tc : Thread Cert.DiscBwdIdeal.nD Cert.DiscBwdIdeal.τ).loc Cert.DiscBwdIdeal.main_arg0) = m ((c.tc : Thread Cert.DiscBwdIdeal.nD Cert.DiscBwdIdeal.τ).loc Cert.DiscBwdIdeal.main_arg0)
          ∧ r.2.mem ((c.tc : Thread Cert.DiscBwdIdeal.nD Cert.DiscBwdIdeal.τ).loc Cert.DiscBwdIdeal.main_arg1) = m ((c.tc : Thread Cert.DiscBwdIdeal.nD Cert.DiscBwdIdeal.τ).loc Cert.DiscBwdIdeal.main_arg1)
          ∧ r.2.mem ((c.tc : Thread Cert.DiscBwdIdeal.nD Cert.DiscBwdIdeal.τ).loc Cert.DiscBwdIdeal.main_arg2) = m ((c.tc : Thread Cert.DiscBwdIdeal.nD Cert.DiscBwdIdeal.τ).loc Cert.DiscBwdIdeal.main_arg2)
          ∧ r.2.mem ((c.tc : Thread Cert.DiscBwdIdeal.nD Cert.DiscBwdIdeal.τ).loc Cert.DiscBwdIdeal.main_arg3) = m ((c.tc : Thread Cert.DiscBwdIdeal.nD Cert.DiscBwdIdeal.τ).loc Cert.DiscBwdIdeal.main_arg3)
          ∧ r.2.mem ((c.tc : Thread Cert.DiscBwdIdeal.nD Cert.DiscBwdIdeal.τ).loc Cert.DiscBwdIdeal.main_arg4) = m ((c.tc : Thread Cert.DiscBwdIdeal.nD Cert.DiscBwdIdeal.τ).loc Cert.DiscBwdIdeal.main_arg4)
          ∧ r.2.mem ((c.tc : Thread Cert.DiscBwdIdeal.nD Cert.DiscBwdIdeal.τ).loc Cert.DiscBwdIdeal.main_arg5) = m ((c.tc : Thread Cert.DiscBwdIdeal.nD Cert.DiscBwdIdeal.τ).loc Cert.DiscBwdIdeal.main_arg5)
          ∧ r.2.mem ((c.tc : Thread Cert.DiscBwdIdeal.nD Cert.DiscBwdIdeal.τ).loc Cert.DiscBwdIdeal.main_arg6) = m ((c.tc : Thread Cert.DiscBwdIdeal.nD Cert.DiscBwdIdeal.τ).loc Cert.DiscBwdIdeal.main_arg6)
          ∧ r.2.mem ((c.tc : Thread Cert.DiscBwdIdeal.nD Cert.DiscBwdIdeal.τ).loc Cert.DiscBwdIdeal.main_arg7) = m ((c.tc : Thread Cert.DiscBwdIdeal.nD Cert.DiscBwdIdeal.τ).loc Cert.DiscBwdIdeal.main_arg7)
          ∧ r.2.mem ((c.tc : Thread Cert.DiscBwdIdeal.nD Cert.DiscBwdIdeal.τ).loc Cert.DiscBwdIdeal.main_arg8) = m ((c.tc : Thread Cert.DiscBwdIdeal.nD Cert.DiscBwdIdeal.τ).loc Cert.DiscBwdIdeal.main_arg8))
      ∧ θ_run (Cert.DiscBwdRefIdeal.defs (F := Ideal)) (onTc (τ := Cert.DiscBwdRefIdeal.τ) (Cert.DiscBwdRefIdeal.main (F := Ideal))) ⟨m', fun _ => 0, g'⟩ (fun r => ∀ c : Dev Cert.DiscBwdRefIdeal.nD,
          r.2.mem ((c.tc : Thread Cert.DiscBwdRefIdeal.nD Cert.DiscBwdRefIdeal.τ).loc Cert.DiscBwdRefIdeal.main_v121) = v0 c
          ∧ r.2.mem ((c.tc : Thread Cert.DiscBwdRefIdeal.nD Cert.DiscBwdRefIdeal.τ).loc Cert.DiscBwdRefIdeal.main_v116) = v1 c
          ∧ r.2.mem ((c.tc : Thread Cert.DiscBwdRefIdeal.nD Cert.DiscBwdRefIdeal.τ).loc Cert.DiscBwdRefIdeal.main_v122) = v2 c
          ∧ r.2.mem ((c.tc : Thread Cert.DiscBwdRefIdeal.nD Cert.DiscBwdRefIdeal.τ).loc Cert.DiscBwdRefIdeal.main_v65) = v3 c
          ∧ r.2.mem ((c.tc : Thread Cert.DiscBwdRefIdeal.nD Cert.DiscBwdRefIdeal.τ).loc Cert.DiscBwdRefIdeal.main_v58) = v4 c
          ∧ r.2.mem ((c.tc : Thread Cert.DiscBwdRefIdeal.nD Cert.DiscBwdRefIdeal.τ).loc Cert.DiscBwdRefIdeal.main_arg0) = m' ((c.tc : Thread Cert.DiscBwdRefIdeal.nD Cert.DiscBwdRefIdeal.τ).loc Cert.DiscBwdRefIdeal.main_arg0)
          ∧ r.2.mem ((c.tc : Thread Cert.DiscBwdRefIdeal.nD Cert.DiscBwdRefIdeal.τ).loc Cert.DiscBwdRefIdeal.main_arg1) = m' ((c.tc : Thread Cert.DiscBwdRefIdeal.nD Cert.DiscBwdRefIdeal.τ).loc Cert.DiscBwdRefIdeal.main_arg1)
          ∧ r.2.mem ((c.tc : Thread Cert.DiscBwdRefIdeal.nD Cert.DiscBwdRefIdeal.τ).loc Cert.DiscBwdRefIdeal.main_arg2) = m' ((c.tc : Thread Cert.DiscBwdRefIdeal.nD Cert.DiscBwdRefIdeal.τ).loc Cert.DiscBwdRefIdeal.main_arg2)
          ∧ r.2.mem ((c.tc : Thread Cert.DiscBwdRefIdeal.nD Cert.DiscBwdRefIdeal.τ).loc Cert.DiscBwdRefIdeal.main_arg3) = m' ((c.tc : Thread Cert.DiscBwdRefIdeal.nD Cert.DiscBwdRefIdeal.τ).loc Cert.DiscBwdRefIdeal.main_arg3)
          ∧ r.2.mem ((c.tc : Thread Cert.DiscBwdRefIdeal.nD Cert.DiscBwdRefIdeal.τ).loc Cert.DiscBwdRefIdeal.main_arg4) = m' ((c.tc : Thread Cert.DiscBwdRefIdeal.nD Cert.DiscBwdRefIdeal.τ).loc Cert.DiscBwdRefIdeal.main_arg4)
          ∧ r.2.mem ((c.tc : Thread Cert.DiscBwdRefIdeal.nD Cert.DiscBwdRefIdeal.τ).loc Cert.DiscBwdRefIdeal.main_arg5) = m' ((c.tc : Thread Cert.DiscBwdRefIdeal.nD Cert.DiscBwdRefIdeal.τ).loc Cert.DiscBwdRefIdeal.main_arg5)
          ∧ r.2.mem ((c.tc : Thread Cert.DiscBwdRefIdeal.nD Cert.DiscBwdRefIdeal.τ).loc Cert.DiscBwdRefIdeal.main_arg6) = m' ((c.tc : Thread Cert.DiscBwdRefIdeal.nD Cert.DiscBwdRefIdeal.τ).loc Cert.DiscBwdRefIdeal.main_arg6)
          ∧ r.2.mem ((c.tc : Thread Cert.DiscBwdRefIdeal.nD Cert.DiscBwdRefIdeal.τ).loc Cert.DiscBwdRefIdeal.main_arg7) = m' ((c.tc : Thread Cert.DiscBwdRefIdeal.nD Cert.DiscBwdRefIdeal.τ).loc Cert.DiscBwdRefIdeal.main_arg7)
          ∧ r.2.mem ((c.tc : Thread Cert.DiscBwdRefIdeal.nD Cert.DiscBwdRefIdeal.τ).loc Cert.DiscBwdRefIdeal.main_arg8) = m' ((c.tc : Thread Cert.DiscBwdRefIdeal.nD Cert.DiscBwdRefIdeal.τ).loc Cert.DiscBwdRefIdeal.main_arg8))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)) →
    ∃ (v0 : (c : Dev Cert.DiscIdeal.nD) → Buf (Elt Ideal) ((c.tc : Thread Cert.DiscIdeal.nD Cert.DiscIdeal.τ).loc Cert.DiscIdeal.main_v0_0)) (v1 : (c : Dev Cert.DiscIdeal.nD) → Buf (Elt Ideal) ((c.tc : Thread Cert.DiscIdeal.nD Cert.DiscIdeal.τ).loc Cert.DiscIdeal.main_v0_1)) (v2 : (c : Dev Cert.DiscIdeal.nD) → Buf (Elt Ideal) ((c.tc : Thread Cert.DiscIdeal.nD Cert.DiscIdeal.τ).loc Cert.DiscIdeal.main_v0_2)) (v3 : (c : Dev Cert.DiscIdeal.nD) → Buf (Elt Ideal) ((c.tc : Thread Cert.DiscIdeal.nD Cert.DiscIdeal.τ).loc Cert.DiscIdeal.main_v0_3)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v0_0) = v0 c
          ∧ r.2.mem ((c.tc : Thread Cert.DiscIdeal.nD Cert.DiscIdeal.τ).loc Cert.DiscIdeal.main_v0_1) = v1 c
          ∧ r.2.mem ((c.tc : Thread Cert.DiscIdeal.nD Cert.DiscIdeal.τ).loc Cert.DiscIdeal.main_v0_2) = v2 c
          ∧ r.2.mem ((c.tc : Thread Cert.DiscIdeal.nD Cert.DiscIdeal.τ).loc Cert.DiscIdeal.main_v0_3) = v3 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v5) = v0 c
          ∧ r.2.mem ((c.tc : Thread Cert.DiscRefIdeal.nD Cert.DiscRefIdeal.τ).loc Cert.DiscRefIdeal.main_v8) = v1 c
          ∧ r.2.mem ((c.tc : Thread Cert.DiscRefIdeal.nD Cert.DiscRefIdeal.τ).loc Cert.DiscRefIdeal.main_v28) = v2 c
          ∧ r.2.mem ((c.tc : Thread Cert.DiscRefIdeal.nD Cert.DiscRefIdeal.τ).loc Cert.DiscRefIdeal.main_v33) = v3 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4))

def preserves_FfnGate_FfnGateIdeal : Prop :=
  True

def algebraic_FfnGateIdeal_FfnGateRefIdeal [hFfnGateIdeal : Cert.FfnGateIdeal.Facts] [hFfnGateRefIdeal : Cert.FfnGateRefIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)
      ∧ m' ((c.tc : Thread Cert.FfnGateRefIdeal.nD Cert.FfnGateRefIdeal.τ).loc Cert.FfnGateRefIdeal.main_arg2) = m ((c.tc : Thread Cert.FfnGateIdeal.nD Cert.FfnGateIdeal.τ).loc Cert.FfnGateIdeal.main_arg2)) →
    ∃ (v0 : (c : Dev Cert.FfnGateIdeal.nD) → Buf (Elt Ideal) ((c.tc : Thread Cert.FfnGateIdeal.nD Cert.FfnGateIdeal.τ).loc Cert.FfnGateIdeal.main_v0)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v0) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
          ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v25) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1)
          ∧ r.2.mem ((c.tc : Thread Cert.FfnGateRefIdeal.nD Cert.FfnGateRefIdeal.τ).loc Cert.FfnGateRefIdeal.main_arg2) = m' ((c.tc : Thread Cert.FfnGateRefIdeal.nD Cert.FfnGateRefIdeal.τ).loc Cert.FfnGateRefIdeal.main_arg2))

def preserves_AdamNorms_AdamNormsIdeal : Prop :=
  True

def algebraic_AdamNormsIdeal_AdamNormsRefIdeal [hAdamNormsIdeal : Cert.AdamNormsIdeal.Facts] [hAdamNormsRefIdeal : Cert.AdamNormsRefIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg)
    (m' : (ℓ : Loc Cert.AdamNormsRefIdeal.nD Cert.AdamNormsRefIdeal.τ Cert.AdamNormsRefIdeal.sig) → Buf (Elt Ideal) ℓ) (g' : Dev Cert.AdamNormsRefIdeal.nD → PrngReg), Pre_AdamNormsIdeal m →
    (∀ c : Dev Cert.AdamNormsIdeal.nD,
      m' ((c.tc : Thread Cert.AdamNormsRefIdeal.nD Cert.AdamNormsRefIdeal.τ).loc Cert.AdamNormsRefIdeal.main_arg0) = m ((c.tc : Thread Cert.AdamNormsIdeal.nD Cert.AdamNormsIdeal.τ).loc Cert.AdamNormsIdeal.main_arg0)
      ∧ m' ((c.tc : Thread Cert.AdamNormsRefIdeal.nD Cert.AdamNormsRefIdeal.τ).loc Cert.AdamNormsRefIdeal.main_arg1) = m ((c.tc : Thread Cert.AdamNormsIdeal.nD Cert.AdamNormsIdeal.τ).loc Cert.AdamNormsIdeal.main_arg1)
      ∧ m' ((c.tc : Thread Cert.AdamNormsRefIdeal.nD Cert.AdamNormsRefIdeal.τ).loc Cert.AdamNormsRefIdeal.main_arg2) = m ((c.tc : Thread Cert.AdamNormsIdeal.nD Cert.AdamNormsIdeal.τ).loc Cert.AdamNormsIdeal.main_arg2)
      ∧ m' ((c.tc : Thread Cert.AdamNormsRefIdeal.nD Cert.AdamNormsRefIdeal.τ).loc Cert.AdamNormsRefIdeal.main_arg3) = m ((c.tc : Thread Cert.AdamNormsIdeal.nD Cert.AdamNormsIdeal.τ).loc Cert.AdamNormsIdeal.main_arg3)) →
    ∃ (v0 : (c : Dev Cert.AdamNormsIdeal.nD) → Buf (Elt Ideal) ((c.tc : Thread Cert.AdamNormsIdeal.nD Cert.AdamNormsIdeal.τ).loc Cert.AdamNormsIdeal.main_v0_0)) (v1 : (c : Dev Cert.AdamNormsIdeal.nD) → Buf (Elt Ideal) ((c.tc : Thread Cert.AdamNormsIdeal.nD Cert.AdamNormsIdeal.τ).loc Cert.AdamNormsIdeal.main_v0_1)) (v2 : (c : Dev Cert.AdamNormsIdeal.nD) → Buf (Elt Ideal) ((c.tc : Thread Cert.AdamNormsIdeal.nD Cert.AdamNormsIdeal.τ).loc Cert.AdamNormsIdeal.main_v0_2)),
      θ_run (Cert.AdamNormsIdeal.defs (F := Ideal)) (onTc (τ := Cert.AdamNormsIdeal.τ) (Cert.AdamNormsIdeal.main (F := Ideal))) ⟨m, fun _ => 0, g⟩ (fun r => ∀ c : Dev Cert.AdamNormsIdeal.nD,
          r.2.mem ((c.tc : Thread Cert.AdamNormsIdeal.nD Cert.AdamNormsIdeal.τ).loc Cert.AdamNormsIdeal.main_v0_0) = v0 c
          ∧ r.2.mem ((c.tc : Thread Cert.AdamNormsIdeal.nD Cert.AdamNormsIdeal.τ).loc Cert.AdamNormsIdeal.main_v0_1) = v1 c
          ∧ r.2.mem ((c.tc : Thread Cert.AdamNormsIdeal.nD Cert.AdamNormsIdeal.τ).loc Cert.AdamNormsIdeal.main_v0_2) = v2 c
          ∧ r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
          ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
          ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
          ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ θ_run (Cert.AdamNormsRefIdeal.defs (F := Ideal)) (onTc (τ := Cert.AdamNormsRefIdeal.τ) (Cert.AdamNormsRefIdeal.main (F := Ideal))) ⟨m', fun _ => 0, g'⟩ (fun r => ∀ c : Dev Cert.AdamNormsRefIdeal.nD,
          r.2.mem ((c.tc : Thread Cert.AdamNormsRefIdeal.nD Cert.AdamNormsRefIdeal.τ).loc Cert.AdamNormsRefIdeal.main_v23) = v0 c
          ∧ r.2.mem ((c.tc : Thread Cert.AdamNormsRefIdeal.nD Cert.AdamNormsRefIdeal.τ).loc Cert.AdamNormsRefIdeal.main_v4) = v1 c
          ∧ r.2.mem ((c.tc : Thread Cert.AdamNormsRefIdeal.nD Cert.AdamNormsRefIdeal.τ).loc Cert.AdamNormsRefIdeal.main_v10) = v2 c
          ∧ r.2.mem ((c.tc : Thread Cert.AdamNormsRefIdeal.nD Cert.AdamNormsRefIdeal.τ).loc Cert.AdamNormsRefIdeal.main_arg0) = m' ((c.tc : Thread Cert.AdamNormsRefIdeal.nD Cert.AdamNormsRefIdeal.τ).loc Cert.AdamNormsRefIdeal.main_arg0)
          ∧ r.2.mem ((c.tc : Thread Cert.AdamNormsRefIdeal.nD Cert.AdamNormsRefIdeal.τ).loc Cert.AdamNormsRefIdeal.main_arg1) = m' ((c.tc : Thread Cert.AdamNormsRefIdeal.nD Cert.AdamNormsRefIdeal.τ).loc Cert.AdamNormsRefIdeal.main_arg1)
          ∧ r.2.mem ((c.tc : Thread Cert.AdamNormsRefIdeal.nD Cert.AdamNormsRefIdeal.τ).loc Cert.AdamNormsRefIdeal.main_arg2) = m' ((c.tc : Thread Cert.AdamNormsRefIdeal.nD Cert.AdamNormsRefIdeal.τ).loc Cert.AdamNormsRefIdeal.main_arg2)
          ∧ r.2.mem ((c.tc : Thread Cert.AdamNormsRefIdeal.nD Cert.AdamNormsRefIdeal.τ).loc Cert.AdamNormsRefIdeal.main_arg3) = m' ((c.tc : Thread Cert.AdamNormsRefIdeal.nD Cert.AdamNormsRefIdeal.τ).loc Cert.AdamNormsRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v4_0)) (v1 : (c : Dev Cert.AdamNormIdeal.nD) → Buf (Elt Ideal) ((c.tc : Thread Cert.AdamNormIdeal.nD Cert.AdamNormIdeal.τ).loc Cert.AdamNormIdeal.main_v4_1)) (v2 : (c : Dev Cert.AdamNormIdeal.nD) → Buf (Elt Ideal) ((c.tc : Thread Cert.AdamNormIdeal.nD Cert.AdamNormIdeal.τ).loc Cert.AdamNormIdeal.main_v4_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v4_0) = v0 c
          ∧ r.2.mem ((c.tc : Thread Cert.AdamNormIdeal.nD Cert.AdamNormIdeal.τ).loc Cert.AdamNormIdeal.main_v4_1) = v1 c
          ∧ r.2.mem ((c.tc : Thread Cert.AdamNormIdeal.nD Cert.AdamNormIdeal.τ).loc Cert.AdamNormIdeal.main_v4_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v24) = v0 c
          ∧ r.2.mem ((c.tc : Thread Cert.AdamNormRefIdeal.nD Cert.AdamNormRefIdeal.τ).loc Cert.AdamNormRefIdeal.main_v25) = v1 c
          ∧ r.2.mem ((c.tc : Thread Cert.AdamNormRefIdeal.nD Cert.AdamNormRefIdeal.τ).loc Cert.AdamNormRefIdeal.main_v26) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamRows_AdamRowsIdeal : Prop :=
  True

def algebraic_AdamRowsIdeal_AdamRowsRefIdeal [hAdamRowsIdeal : Cert.AdamRowsIdeal.Facts] [hAdamRowsRefIdeal : Cert.AdamRowsRefIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg)
    (m' : (ℓ : Loc Cert.AdamRowsRefIdeal.nD Cert.AdamRowsRefIdeal.τ Cert.AdamRowsRefIdeal.sig) → Buf (Elt Ideal) ℓ) (g' : Dev Cert.AdamRowsRefIdeal.nD → PrngReg), Pre_AdamRowsIdeal m →
    (∀ c : Dev Cert.AdamRowsIdeal.nD,
      m' ((c.tc : Thread Cert.AdamRowsRefIdeal.nD Cert.AdamRowsRefIdeal.τ).loc Cert.AdamRowsRefIdeal.main_arg0) = m ((c.tc : Thread Cert.AdamRowsIdeal.nD Cert.AdamRowsIdeal.τ).loc Cert.AdamRowsIdeal.main_arg0)
      ∧ m' ((c.tc : Thread Cert.AdamRowsRefIdeal.nD Cert.AdamRowsRefIdeal.τ).loc Cert.AdamRowsRefIdeal.main_arg1) = m ((c.tc : Thread Cert.AdamRowsIdeal.nD Cert.AdamRowsIdeal.τ).loc Cert.AdamRowsIdeal.main_arg1)
      ∧ m' ((c.tc : Thread Cert.AdamRowsRefIdeal.nD Cert.AdamRowsRefIdeal.τ).loc Cert.AdamRowsRefIdeal.main_arg2) = m ((c.tc : Thread Cert.AdamRowsIdeal.nD Cert.AdamRowsIdeal.τ).loc Cert.AdamRowsIdeal.main_arg2)
      ∧ m' ((c.tc : Thread Cert.AdamRowsRefIdeal.nD Cert.AdamRowsRefIdeal.τ).loc Cert.AdamRowsRefIdeal.main_arg3) = m ((c.tc : Thread Cert.AdamRowsIdeal.nD Cert.AdamRowsIdeal.τ).loc Cert.AdamRowsIdeal.main_arg3)) →
    ∃ (v0 : (c : Dev Cert.AdamRowsIdeal.nD) → Buf (Elt Ideal) ((c.tc : Thread Cert.AdamRowsIdeal.nD Cert.AdamRowsIdeal.τ).loc Cert.AdamRowsIdeal.main_v4_0)) (v1 : (c : Dev Cert.AdamRowsIdeal.nD) → Buf (Elt Ideal) ((c.tc : Thread Cert.AdamRowsIdeal.nD Cert.AdamRowsIdeal.τ).loc Cert.AdamRowsIdeal.main_v4_1)) (v2 : (c : Dev Cert.AdamRowsIdeal.nD) → Buf (Elt Ideal) ((c.tc : Thread Cert.AdamRowsIdeal.nD Cert.AdamRowsIdeal.τ).loc Cert.AdamRowsIdeal.main_v4_2)),
      θ_run (Cert.AdamRowsIdeal.defs (F := Ideal)) (onTc (τ := Cert.AdamRowsIdeal.τ) (Cert.AdamRowsIdeal.main (F := Ideal))) ⟨m, fun _ => 0, g⟩ (fun r => ∀ c : Dev Cert.AdamRowsIdeal.nD,
          r.2.mem ((c.tc : Thread Cert.AdamRowsIdeal.nD Cert.AdamRowsIdeal.τ).loc Cert.AdamRowsIdeal.main_v4_0) = v0 c
          ∧ r.2.mem ((c.tc : Thread Cert.AdamRowsIdeal.nD Cert.AdamRowsIdeal.τ).loc Cert.AdamRowsIdeal.main_v4_1) = v1 c
          ∧ r.2.mem ((c.tc : Thread Cert.AdamRowsIdeal.nD Cert.AdamRowsIdeal.τ).loc Cert.AdamRowsIdeal.main_v4_2) = v2 c
          ∧ r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
          ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
          ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
          ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ θ_run (Cert.AdamRowsRefIdeal.defs (F := Ideal)) (onTc (τ := Cert.AdamRowsRefIdeal.τ) (Cert.AdamRowsRefIdeal.main (F := Ideal))) ⟨m', fun _ => 0, g'⟩ (fun r => ∀ c : Dev Cert.AdamRowsRefIdeal.nD,
          r.2.mem ((c.tc : Thread Cert.AdamRowsRefIdeal.nD Cert.AdamRowsRefIdeal.τ).loc Cert.AdamRowsRefIdeal.main_v24) = v0 c
          ∧ r.2.mem ((c.tc : Thread Cert.AdamRowsRefIdeal.nD Cert.AdamRowsRefIdeal.τ).loc Cert.AdamRowsRefIdeal.main_v25) = v1 c
          ∧ r.2.mem ((c.tc : Thread Cert.AdamRowsRefIdeal.nD Cert.AdamRowsRefIdeal.τ).loc Cert.AdamRowsRefIdeal.main_v26) = v2 c
          ∧ r.2.mem ((c.tc : Thread Cert.AdamRowsRefIdeal.nD Cert.AdamRowsRefIdeal.τ).loc Cert.AdamRowsRefIdeal.main_arg0) = m' ((c.tc : Thread Cert.AdamRowsRefIdeal.nD Cert.AdamRowsRefIdeal.τ).loc Cert.AdamRowsRefIdeal.main_arg0)
          ∧ r.2.mem ((c.tc : Thread Cert.AdamRowsRefIdeal.nD Cert.AdamRowsRefIdeal.τ).loc Cert.AdamRowsRefIdeal.main_arg1) = m' ((c.tc : Thread Cert.AdamRowsRefIdeal.nD Cert.AdamRowsRefIdeal.τ).loc Cert.AdamRowsRefIdeal.main_arg1)
          ∧ r.2.mem ((c.tc : Thread Cert.AdamRowsRefIdeal.nD Cert.AdamRowsRefIdeal.τ).loc Cert.AdamRowsRefIdeal.main_arg2) = m' ((c.tc : Thread Cert.AdamRowsRefIdeal.nD Cert.AdamRowsRefIdeal.τ).loc Cert.AdamRowsRefIdeal.main_arg2)
          ∧ r.2.mem ((c.tc : Thread Cert.AdamRowsRefIdeal.nD Cert.AdamRowsRefIdeal.τ).loc Cert.AdamRowsRefIdeal.main_arg3) = m' ((c.tc : Thread Cert.AdamRowsRefIdeal.nD Cert.AdamRowsRefIdeal.τ).loc Cert.AdamRowsRefIdeal.main_arg3))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)) →
    ∃ (v0 : (c : Dev Cert.AdamAIdeal.nD) → Buf (Elt Ideal) ((c.tc : Thread Cert.AdamAIdeal.nD Cert.AdamAIdeal.τ).loc Cert.AdamAIdeal.main_v4_0)) (v1 : (c : Dev Cert.AdamAIdeal.nD) → Buf (Elt Ideal) ((c.tc : Thread Cert.AdamAIdeal.nD Cert.AdamAIdeal.τ).loc Cert.AdamAIdeal.main_v4_1)) (v2 : (c : Dev Cert.AdamAIdeal.nD) → Buf (Elt Ideal) ((c.tc : Thread Cert.AdamAIdeal.nD Cert.AdamAIdeal.τ).loc Cert.AdamAIdeal.main_v4_2)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v4_0) = v0 c
          ∧ r.2.mem ((c.tc : Thread Cert.AdamAIdeal.nD Cert.AdamAIdeal.τ).loc Cert.AdamAIdeal.main_v4_1) = v1 c
          ∧ r.2.mem ((c.tc : Thread Cert.AdamAIdeal.nD Cert.AdamAIdeal.τ).loc Cert.AdamAIdeal.main_v4_2) = v2 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v24) = v0 c
          ∧ r.2.mem ((c.tc : Thread Cert.AdamARefIdeal.nD Cert.AdamARefIdeal.τ).loc Cert.AdamARefIdeal.main_v25) = v1 c
          ∧ r.2.mem ((c.tc : Thread Cert.AdamARefIdeal.nD Cert.AdamARefIdeal.τ).loc Cert.AdamARefIdeal.main_v26) = v2 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3))

def preserves_AdamDt_AdamDtIdeal : Prop :=
  True

def algebraic_AdamDtIdeal_AdamDtRefIdeal [hAdamDtIdeal : Cert.AdamDtIdeal.Facts] [hAdamDtRefIdeal : Cert.AdamDtRefIdeal.Facts] : Prop :=
  ∀ (m : (ℓ : Loc Cert.AdamDtIdeal.nD Cert.AdamDtIdeal.τ Cert.AdamDtIdeal.sig) → Buf (Elt Ideal) ℓ) (g : Dev Cert.AdamDtIdeal.nD → PrngReg)
    (m' : (ℓ : Loc Cert.AdamDtRefIdeal.nD Cert.AdamDtRefIdeal.τ Cert.AdamDtRefIdeal.sig) → Buf (Elt Ideal) ℓ) (g' : Dev Cert.AdamDtRefIdeal.nD → PrngReg), Pre_AdamDtIdeal m →
    (∀ c : Dev Cert.AdamDtIdeal.nD,
      m' ((c.tc : Thread Cert.AdamDtRefIdeal.nD Cert.AdamDtRefIdeal.τ).loc Cert.AdamDtRefIdeal.main_arg0) = m ((c.tc : Thread Cert.AdamDtIdeal.nD Cert.AdamDtIdeal.τ).loc Cert.AdamDtIdeal.main_arg0)
      ∧ m' ((c.tc : Thread Cert.AdamDtRefIdeal.nD Cert.AdamDtRefIdeal.τ).loc Cert.AdamDtRefIdeal.main_arg1) = m ((c.tc : Thread Cert.AdamDtIdeal.nD Cert.AdamDtIdeal.τ).loc Cert.AdamDtIdeal.main_arg1)
      ∧ m' ((c.tc : Thread Cert.AdamDtRefIdeal.nD Cert.AdamDtRefIdeal.τ).loc Cert.AdamDtRefIdeal.main_arg2) = m ((c.tc : Thread Cert.AdamDtIdeal.nD Cert.AdamDtIdeal.τ).loc Cert.AdamDtIdeal.main_arg2)
      ∧ m' ((c.tc : Thread Cert.AdamDtRefIdeal.nD Cert.AdamDtRefIdeal.τ).loc Cert.AdamDtRefIdeal.main_arg3) = m ((c.tc : Thread Cert.AdamDtIdeal.nD Cert.AdamDtIdeal.τ).loc Cert.AdamDtIdeal.main_arg3)) →
    ∃ (v0 : (c : Dev Cert.AdamDtIdeal.nD) → Buf (Elt Ideal) ((c.tc : Thread Cert.AdamDtIdeal.nD Cert.AdamDtIdeal.τ).loc Cert.AdamDtIdeal.main_v0_0)) (v1 : (c : Dev Cert.AdamDtIdeal.nD) → Buf (Elt Ideal) ((c.tc : Thread Cert.AdamDtIdeal.nD Cert.AdamDtIdeal.τ).loc Cert.AdamDtIdeal.main_v0_1)) (v2 : (c : Dev Cert.AdamDtIdeal.nD) → Buf (Elt Ideal) ((c.tc : Thread Cert.AdamDtIdeal.nD Cert.AdamDtIdeal.τ).loc Cert.AdamDtIdeal.main_v0_2)),
      θ_run (Cert.AdamDtIdeal.defs (F := Ideal)) (onTc (τ := Cert.AdamDtIdeal.τ) (Cert.AdamDtIdeal.main (F := Ideal))) ⟨m, fun _ => 0, g⟩ (fun r => ∀ c : Dev Cert.AdamDtIdeal.nD,
          r.2.mem ((c.tc : Thread Cert.AdamDtIdeal.nD Cert.AdamDtIdeal.τ).loc Cert.AdamDtIdeal.main_v0_0) = v0 c
          ∧ r.2.mem ((c.tc : Thread Cert.AdamDtIdeal.nD Cert.AdamDtIdeal.τ).loc Cert.AdamDtIdeal.main_v0_1) = v1 c
          ∧ r.2.mem ((c.tc : Thread Cert.AdamDtIdeal.nD Cert.AdamDtIdeal.τ).loc Cert.AdamDtIdeal.main_v0_2) = v2 c
          ∧ r.2.mem ((c.tc : Thread Cert.AdamDtIdeal.nD Cert.AdamDtIdeal.τ).loc Cert.AdamDtIdeal.main_arg0) = m ((c.tc : Thread Cert.AdamDtIdeal.nD Cert.AdamDtIdeal.τ).loc Cert.AdamDtIdeal.main_arg0)
          ∧ r.2.mem ((c.tc : Thread Cert.AdamDtIdeal.nD Cert.AdamDtIdeal.τ).loc Cert.AdamDtIdeal.main_arg1) = m ((c.tc : Thread Cert.AdamDtIdeal.nD Cert.AdamDtIdeal.τ).loc Cert.AdamDtIdeal.main_arg1)
          ∧ r.2.mem ((c.tc : Thread Cert.AdamDtIdeal.nD Cert.AdamDtIdeal.τ).loc Cert.AdamDtIdeal.main_arg2) = m ((c.tc : Thread Cert.AdamDtIdeal.nD Cert.AdamDtIdeal.τ).loc Cert.AdamDtIdeal.main_arg2)
          ∧ r.2.mem ((c.tc : Thread Cert.AdamDtIdeal.nD Cert.AdamDtIdeal.τ).loc Cert.AdamDtIdeal.main_arg3) = m ((c.tc : Thread Cert.AdamDtIdeal.nD Cert.AdamDtIdeal.τ).loc Cert.AdamDtIdeal.main_arg3))
      ∧ θ_run (Cert.AdamDtRefIdeal.defs (F := Ideal)) (onTc (τ := Cert.AdamDtRefIdeal.τ) (Cert.AdamDtRefIdeal.main (F := Ideal))) ⟨m', fun _ => 0, g'⟩ (fun r => ∀ c : Dev Cert.AdamDtRefIdeal.nD,
          r.2.mem ((c.tc : Thread Cert.AdamDtRefIdeal.nD Cert.AdamDtRefIdeal.τ).loc Cert.AdamDtRefIdeal.main_v23) = v0 c
          ∧ r.2.mem ((c.tc : Thread Cert.AdamDtRefIdeal.nD Cert.AdamDtRefIdeal.τ).loc Cert.AdamDtRefIdeal.main_v4) = v1 c
          ∧ r.2.mem ((c.tc : Thread Cert.AdamDtRefIdeal.nD Cert.AdamDtRefIdeal.τ).loc Cert.AdamDtRefIdeal.main_v10) = v2 c
          ∧ r.2.mem ((c.tc : Thread Cert.AdamDtRefIdeal.nD Cert.AdamDtRefIdeal.τ).loc Cert.AdamDtRefIdeal.main_arg0) = m' ((c.tc : Thread Cert.AdamDtRefIdeal.nD Cert.AdamDtRefIdeal.τ).loc Cert.AdamDtRefIdeal.main_arg0)
          ∧ r.2.mem ((c.tc : Thread Cert.AdamDtRefIdeal.nD Cert.AdamDtRefIdeal.τ).loc Cert.AdamDtRefIdeal.main_arg1) = m' ((c.tc : Thread Cert.AdamDtRefIdeal.nD Cert.AdamDtRefIdeal.τ).loc Cert.AdamDtRefIdeal.main_arg1)
          ∧ r.2.mem ((c.tc : Thread Cert.AdamDtRefIdeal.nD Cert.AdamDtRefIdeal.τ).loc Cert.AdamDtRefIdeal.main_arg2) = m' ((c.tc : Thread Cert.AdamDtRefIdeal.nD Cert.AdamDtRefIdeal.τ).loc Cert.AdamDtRefIdeal.main_arg2)
          ∧ r.2.mem ((c.tc : Thread Cert.AdamDtRefIdeal.nD Cert.AdamDtRefIdeal.τ).loc Cert.AdamDtRefIdeal.main_arg3) = m' ((c.tc : Thread Cert.AdamDtRefIdeal.nD Cert.AdamDtRefIdeal.τ).loc Cert.AdamDtRefIdeal.main_arg3))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v4_0)) (v1 : (c : Dev Cert.AdamBIdeal.nD) → Buf (Elt Ideal) ((c.tc : Thread Cert.AdamBIdeal.nD Cert.AdamBIdeal.τ).loc Cert.AdamBIdeal.main_v4_1)) (v2 : (c : Dev Cert.AdamBIdeal.nD) → Buf (Elt Ideal) ((c.tc : Thread Cert.AdamBIdeal.nD Cert.AdamBIdeal.τ).loc Cert.AdamBIdeal.main_v4_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v4_0) = v0 c
          ∧ r.2.mem ((c.tc : Thread Cert.AdamBIdeal.nD Cert.AdamBIdeal.τ).loc Cert.AdamBIdeal.main_v4_1) = v1 c
          ∧ r.2.mem ((c.tc : Thread Cert.AdamBIdeal.nD Cert.AdamBIdeal.τ).loc Cert.AdamBIdeal.main_v4_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v24) = v0 c
          ∧ r.2.mem ((c.tc : Thread Cert.AdamBRefIdeal.nD Cert.AdamBRefIdeal.τ).loc Cert.AdamBRefIdeal.main_v25) = v1 c
          ∧ r.2.mem ((c.tc : Thread Cert.AdamBRefIdeal.nD Cert.AdamBRefIdeal.τ).loc Cert.AdamBRefIdeal.main_v26) = v2 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v4_0)) (v1 : (c : Dev Cert.AdamCIdeal.nD) → Buf (Elt Ideal) ((c.tc : Thread Cert.AdamCIdeal.nD Cert.AdamCIdeal.τ).loc Cert.AdamCIdeal.main_v4_1)) (v2 : (c : Dev Cert.AdamCIdeal.nD) → Buf (Elt Ideal) ((c.tc : Thread Cert.AdamCIdeal.nD Cert.AdamCIdeal.τ).loc Cert.AdamCIdeal.main_v4_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v4_0) = v0 c
          ∧ r.2.mem ((c.tc : Thread Cert.AdamCIdeal.nD Cert.AdamCIdeal.τ).loc Cert.AdamCIdeal.main_v4_1) = v1 c
          ∧ r.2.mem ((c.tc : Thread Cert.AdamCIdeal.nD Cert.AdamCIdeal.τ).loc Cert.AdamCIdeal.main_v4_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v24) = v0 c
          ∧ r.2.mem ((c.tc : Thread Cert.AdamCRefIdeal.nD Cert.AdamCRefIdeal.τ).loc Cert.AdamCRefIdeal.main_v25) = v1 c
          ∧ r.2.mem ((c.tc : Thread Cert.AdamCRefIdeal.nD Cert.AdamCRefIdeal.τ).loc Cert.AdamCRefIdeal.main_v26) = v2 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3))

def preserves_AdamD_AdamDIdeal : Prop :=
  True

def algebraic_AdamDIdeal_AdamDRefIdeal [hAdamDIdeal : Cert.AdamDIdeal.Facts] [hAdamDRefIdeal : Cert.AdamDRefIdeal.Facts] : Prop :=
  ∀ (m : (ℓ : Loc Cert.AdamDIdeal.nD Cert.AdamDIdeal.τ Cert.AdamDIdeal.sig) → Buf (Elt Ideal) ℓ) (g : Dev Cert.AdamDIdeal.nD → PrngReg)
    (m' : (ℓ : Loc Cert.AdamDRefIdeal.nD Cert.AdamDRefIdeal.τ Cert.AdamDRefIdeal.sig) → Buf (Elt Ideal) ℓ) (g' : Dev Cert.AdamDRefIdeal.nD → PrngReg), Pre_AdamDIdeal m →
    (∀ c : Dev Cert.AdamDIdeal.nD,
      m' ((c.tc : Thread Cert.AdamDRefIdeal.nD Cert.AdamDRefIdeal.τ).loc Cert.AdamDRefIdeal.main_arg0) = m ((c.tc : Thread Cert.AdamDIdeal.nD Cert.AdamDIdeal.τ).loc Cert.AdamDIdeal.main_arg0)
      ∧ m' ((c.tc : Thread Cert.AdamDRefIdeal.nD Cert.AdamDRefIdeal.τ).loc Cert.AdamDRefIdeal.main_arg1) = m ((c.tc : Thread Cert.AdamDIdeal.nD Cert.AdamDIdeal.τ).loc Cert.AdamDIdeal.main_arg1)
      ∧ m' ((c.tc : Thread Cert.AdamDRefIdeal.nD Cert.AdamDRefIdeal.τ).loc Cert.AdamDRefIdeal.main_arg2) = m ((c.tc : Thread Cert.AdamDIdeal.nD Cert.AdamDIdeal.τ).loc Cert.AdamDIdeal.main_arg2)
      ∧ m' ((c.tc : Thread Cert.AdamDRefIdeal.nD Cert.AdamDRefIdeal.τ).loc Cert.AdamDRefIdeal.main_arg3) = m ((c.tc : Thread Cert.AdamDIdeal.nD Cert.AdamDIdeal.τ).loc Cert.AdamDIdeal.main_arg3)) →
    ∃ (v0 : (c : Dev Cert.AdamDIdeal.nD) → Buf (Elt Ideal) ((c.tc : Thread Cert.AdamDIdeal.nD Cert.AdamDIdeal.τ).loc Cert.AdamDIdeal.main_v4_0)) (v1 : (c : Dev Cert.AdamDIdeal.nD) → Buf (Elt Ideal) ((c.tc : Thread Cert.AdamDIdeal.nD Cert.AdamDIdeal.τ).loc Cert.AdamDIdeal.main_v4_1)) (v2 : (c : Dev Cert.AdamDIdeal.nD) → Buf (Elt Ideal) ((c.tc : Thread Cert.AdamDIdeal.nD Cert.AdamDIdeal.τ).loc Cert.AdamDIdeal.main_v4_2)),
      θ_run (Cert.AdamDIdeal.defs (F := Ideal)) (onTc (τ := Cert.AdamDIdeal.τ) (Cert.AdamDIdeal.main (F := Ideal))) ⟨m, fun _ => 0, g⟩ (fun r => ∀ c : Dev Cert.AdamDIdeal.nD,
          r.2.mem ((c.tc : Thread Cert.AdamDIdeal.nD Cert.AdamDIdeal.τ).loc Cert.AdamDIdeal.main_v4_0) = v0 c
          ∧ r.2.mem ((c.tc : Thread Cert.AdamDIdeal.nD Cert.AdamDIdeal.τ).loc Cert.AdamDIdeal.main_v4_1) = v1 c
          ∧ r.2.mem ((c.tc : Thread Cert.AdamDIdeal.nD Cert.AdamDIdeal.τ).loc Cert.AdamDIdeal.main_v4_2) = v2 c
          ∧ r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
          ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
          ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
          ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ θ_run (Cert.AdamDRefIdeal.defs (F := Ideal)) (onTc (τ := Cert.AdamDRefIdeal.τ) (Cert.AdamDRefIdeal.main (F := Ideal))) ⟨m', fun _ => 0, g'⟩ (fun r => ∀ c : Dev Cert.AdamDRefIdeal.nD,
          r.2.mem ((c.tc : Thread Cert.AdamDRefIdeal.nD Cert.AdamDRefIdeal.τ).loc Cert.AdamDRefIdeal.main_v24) = v0 c
          ∧ r.2.mem ((c.tc : Thread Cert.AdamDRefIdeal.nD Cert.AdamDRefIdeal.τ).loc Cert.AdamDRefIdeal.main_v25) = v1 c
          ∧ r.2.mem ((c.tc : Thread Cert.AdamDRefIdeal.nD Cert.AdamDRefIdeal.τ).loc Cert.AdamDRefIdeal.main_v26) = v2 c
          ∧ r.2.mem ((c.tc : Thread Cert.AdamDRefIdeal.nD Cert.AdamDRefIdeal.τ).loc Cert.AdamDRefIdeal.main_arg0) = m' ((c.tc : Thread Cert.AdamDRefIdeal.nD Cert.AdamDRefIdeal.τ).loc Cert.AdamDRefIdeal.main_arg0)
          ∧ r.2.mem ((c.tc : Thread Cert.AdamDRefIdeal.nD Cert.AdamDRefIdeal.τ).loc Cert.AdamDRefIdeal.main_arg1) = m' ((c.tc : Thread Cert.AdamDRefIdeal.nD Cert.AdamDRefIdeal.τ).loc Cert.AdamDRefIdeal.main_arg1)
          ∧ r.2.mem ((c.tc : Thread Cert.AdamDRefIdeal.nD Cert.AdamDRefIdeal.τ).loc Cert.AdamDRefIdeal.main_arg2) = m' ((c.tc : Thread Cert.AdamDRefIdeal.nD Cert.AdamDRefIdeal.τ).loc Cert.AdamDRefIdeal.main_arg2)
          ∧ r.2.mem ((c.tc : Thread Cert.AdamDRefIdeal.nD Cert.AdamDRefIdeal.τ).loc Cert.AdamDRefIdeal.main_arg3) = m' ((c.tc : Thread Cert.AdamDRefIdeal.nD Cert.AdamDRefIdeal.τ).loc Cert.AdamDRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v4_0)) (v1 : (c : Dev Cert.AdamGluIdeal.nD) → Buf (Elt Ideal) ((c.tc : Thread Cert.AdamGluIdeal.nD Cert.AdamGluIdeal.τ).loc Cert.AdamGluIdeal.main_v4_1)) (v2 : (c : Dev Cert.AdamGluIdeal.nD) → Buf (Elt Ideal) ((c.tc : Thread Cert.AdamGluIdeal.nD Cert.AdamGluIdeal.τ).loc Cert.AdamGluIdeal.main_v4_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v4_0) = v0 c
          ∧ r.2.mem ((c.tc : Thread Cert.AdamGluIdeal.nD Cert.AdamGluIdeal.τ).loc Cert.AdamGluIdeal.main_v4_1) = v1 c
          ∧ r.2.mem ((c.tc : Thread Cert.AdamGluIdeal.nD Cert.AdamGluIdeal.τ).loc Cert.AdamGluIdeal.main_v4_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v24) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v26) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v4_0)) (v1 : (c : Dev Cert.AdamConvWIdeal.nD) → Buf (Elt Ideal) ((c.tc : Thread Cert.AdamConvWIdeal.nD Cert.AdamConvWIdeal.τ).loc Cert.AdamConvWIdeal.main_v4_1)) (v2 : (c : Dev Cert.AdamConvWIdeal.nD) → Buf (Elt Ideal) ((c.tc : Thread Cert.AdamConvWIdeal.nD Cert.AdamConvWIdeal.τ).loc Cert.AdamConvWIdeal.main_v4_2)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v4_0) = v0 c
          ∧ r.2.mem ((c.tc : Thread Cert.AdamConvWIdeal.nD Cert.AdamConvWIdeal.τ).loc Cert.AdamConvWIdeal.main_v4_1) = v1 c
          ∧ r.2.mem ((c.tc : Thread Cert.AdamConvWIdeal.nD Cert.AdamConvWIdeal.τ).loc Cert.AdamConvWIdeal.main_v4_2) = v2 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v24) = v0 c
          ∧ r.2.mem ((c.tc : Thread Cert.AdamConvWRefIdeal.nD Cert.AdamConvWRefIdeal.τ).loc Cert.AdamConvWRefIdeal.main_v25) = v1 c
          ∧ r.2.mem ((c.tc : Thread Cert.AdamConvWRefIdeal.nD Cert.AdamConvWRefIdeal.τ).loc Cert.AdamConvWRefIdeal.main_v26) = v2 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v23) = v0 c
          ∧ r.2.mem ((c.tc : Thread Cert.AdamConvBRefIdeal.nD Cert.AdamConvBRefIdeal.τ).loc Cert.AdamConvBRefIdeal.main_v4) = v1 c
          ∧ r.2.mem ((c.tc : Thread Cert.AdamConvBRefIdeal.nD Cert.AdamConvBRefIdeal.τ).loc Cert.AdamConvBRefIdeal.main_v10) = v2 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_GeluBwd_GeluBwdIdeal : Prop :=
  True

def algebraic_GeluBwdIdeal_GeluBwdRefIdeal [hGeluBwdIdeal : Cert.GeluBwdIdeal.Facts] [hGeluBwdRefIdeal : Cert.GeluBwdRefIdeal.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg)
    (m' : (ℓ : Loc Cert.GeluBwdRefIdeal.nD Cert.GeluBwdRefIdeal.τ Cert.GeluBwdRefIdeal.sig) → Buf (Elt Ideal) ℓ) (g' : Dev Cert.GeluBwdRefIdeal.nD → PrngReg), Pre_GeluBwdIdeal m →
    (∀ c : Dev Cert.GeluBwdIdeal.nD,
      m' ((c.tc : Thread Cert.GeluBwdRefIdeal.nD Cert.GeluBwdRefIdeal.τ).loc Cert.GeluBwdRefIdeal.main_arg0) = m ((c.tc : Thread Cert.GeluBwdIdeal.nD Cert.GeluBwdIdeal.τ).loc Cert.GeluBwdIdeal.main_arg0)
      ∧ m' ((c.tc : Thread Cert.GeluBwdRefIdeal.nD Cert.GeluBwdRefIdeal.τ).loc Cert.GeluBwdRefIdeal.main_arg1) = m ((c.tc : Thread Cert.GeluBwdIdeal.nD Cert.GeluBwdIdeal.τ).loc Cert.GeluBwdIdeal.main_arg1)) →
    ∃ (v0 : (c : Dev Cert.GeluBwdIdeal.nD) → Buf (Elt Ideal) ((c.tc : Thread Cert.GeluBwdIdeal.nD Cert.GeluBwdIdeal.τ).loc Cert.GeluBwdIdeal.main_v0)),
      θ_run (Cert.GeluBwdIdeal.defs (F := Ideal)) (onTc (τ := Cert.GeluBwdIdeal.τ) (Cert.GeluBwdIdeal.main (F := Ideal))) ⟨m, fun _ => 0, g⟩ (fun r => ∀ c : Dev Cert.GeluBwdIdeal.nD,
          r.2.mem ((c.tc : Thread Cert.GeluBwdIdeal.nD Cert.GeluBwdIdeal.τ).loc Cert.GeluBwdIdeal.main_v0) = v0 c
          ∧ r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
          ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1))
      ∧ θ_run (Cert.GeluBwdRefIdeal.defs (F := Ideal)) (onTc (τ := Cert.GeluBwdRefIdeal.τ) (Cert.GeluBwdRefIdeal.main (F := Ideal))) ⟨m', fun _ => 0, g'⟩ (fun r => ∀ c : Dev Cert.GeluBwdRefIdeal.nD,
          r.2.mem ((c.tc : Thread Cert.GeluBwdRefIdeal.nD Cert.GeluBwdRefIdeal.τ).loc Cert.GeluBwdRefIdeal.main_v28) = v0 c
          ∧ r.2.mem ((c.tc : Thread Cert.GeluBwdRefIdeal.nD Cert.GeluBwdRefIdeal.τ).loc Cert.GeluBwdRefIdeal.main_arg0) = m' ((c.tc : Thread Cert.GeluBwdRefIdeal.nD Cert.GeluBwdRefIdeal.τ).loc Cert.GeluBwdRefIdeal.main_arg0)
          ∧ r.2.mem ((c.tc : Thread Cert.GeluBwdRefIdeal.nD Cert.GeluBwdRefIdeal.τ).loc Cert.GeluBwdRefIdeal.main_arg1) = m' ((c.tc : Thread Cert.GeluBwdRefIdeal.nD Cert.GeluBwdRefIdeal.τ).loc Cert.GeluBwdRefIdeal.main_arg1))

def preserves_Starts_StartsIdeal : Prop :=
  True

def algebraic_StartsIdeal_StartsRefIdeal_pre_finite_drive [hStartsIdeal : Cert.StartsIdeal.Facts] [hStartsRefIdeal : Cert.StartsRefIdeal.Facts] [hPre_finite_drive : Cert.Pre_finite_drive.Facts] : Prop :=
  ∀ (m : (ℓ : Loc Cert.StartsIdeal.nD Cert.StartsIdeal.τ Cert.StartsIdeal.sig) → Buf (Elt Ideal) ℓ) (g : Dev Cert.StartsIdeal.nD → PrngReg)
    (m' : (ℓ : Loc Cert.StartsRefIdeal.nD Cert.StartsRefIdeal.τ Cert.StartsRefIdeal.sig) → Buf (Elt Ideal) ℓ) (g' : Dev Cert.StartsRefIdeal.nD → PrngReg), Pre_StartsIdeal_finite_drive m →
    (∀ c : Dev Cert.StartsIdeal.nD,
      m' ((c.tc : Thread Cert.StartsRefIdeal.nD Cert.StartsRefIdeal.τ).loc Cert.StartsRefIdeal.main_arg0) = m ((c.tc : Thread Cert.StartsIdeal.nD Cert.StartsIdeal.τ).loc Cert.StartsIdeal.main_arg0)
      ∧ m' ((c.tc : Thread Cert.StartsRefIdeal.nD Cert.StartsRefIdeal.τ).loc Cert.StartsRefIdeal.main_arg1) = m ((c.tc : Thread Cert.StartsIdeal.nD Cert.StartsIdeal.τ).loc Cert.StartsIdeal.main_arg1)
      ∧ m' ((c.tc : Thread Cert.StartsRefIdeal.nD Cert.StartsRefIdeal.τ).loc Cert.StartsRefIdeal.main_arg2) = m ((c.tc : Thread Cert.StartsIdeal.nD Cert.StartsIdeal.τ).loc Cert.StartsIdeal.main_arg2)
      ∧ m' ((c.tc : Thread Cert.StartsRefIdeal.nD Cert.StartsRefIdeal.τ).loc Cert.StartsRefIdeal.main_arg3) = m ((c.tc : Thread Cert.StartsIdeal.nD Cert.StartsIdeal.τ).loc Cert.StartsIdeal.main_arg3)) →
    ∃ (v0 : (c : Dev Cert.StartsIdeal.nD) → Buf (Elt Ideal) ((c.tc : Thread Cert.StartsIdeal.nD Cert.StartsIdeal.τ).loc Cert.StartsIdeal.main_v0_0)) (v1 : (c : Dev Cert.StartsIdeal.nD) → Buf (Elt Ideal) ((c.tc : Thread Cert.StartsIdeal.nD Cert.StartsIdeal.τ).loc Cert.StartsIdeal.main_v0_1)),
      θ_run (Cert.StartsIdeal.defs (F := Ideal)) (onTc (τ := Cert.StartsIdeal.τ) (Cert.StartsIdeal.main (F := Ideal))) ⟨m, fun _ => 0, g⟩ (fun r => ∀ c : Dev Cert.StartsIdeal.nD,
          r.2.mem ((c.tc : Thread Cert.StartsIdeal.nD Cert.StartsIdeal.τ).loc Cert.StartsIdeal.main_v0_0) = v0 c
          ∧ r.2.mem ((c.tc : Thread Cert.StartsIdeal.nD Cert.StartsIdeal.τ).loc Cert.StartsIdeal.main_v0_1) = v1 c
          ∧ r.2.mem ((c.tc : Thread Cert.StartsIdeal.nD Cert.StartsIdeal.τ).loc Cert.StartsIdeal.main_arg0) = m ((c.tc : Thread Cert.StartsIdeal.nD Cert.StartsIdeal.τ).loc Cert.StartsIdeal.main_arg0)
          ∧ r.2.mem ((c.tc : Thread Cert.StartsIdeal.nD Cert.StartsIdeal.τ).loc Cert.StartsIdeal.main_arg1) = m ((c.tc : Thread Cert.StartsIdeal.nD Cert.StartsIdeal.τ).loc Cert.StartsIdeal.main_arg1)
          ∧ r.2.mem ((c.tc : Thread Cert.StartsIdeal.nD Cert.StartsIdeal.τ).loc Cert.StartsIdeal.main_arg2) = m ((c.tc : Thread Cert.StartsIdeal.nD Cert.StartsIdeal.τ).loc Cert.StartsIdeal.main_arg2)
          ∧ r.2.mem ((c.tc : Thread Cert.StartsIdeal.nD Cert.StartsIdeal.τ).loc Cert.StartsIdeal.main_arg3) = m ((c.tc : Thread Cert.StartsIdeal.nD Cert.StartsIdeal.τ).loc Cert.StartsIdeal.main_arg3))
      ∧ θ_run (Cert.StartsRefIdeal.defs (F := Ideal)) (onTc (τ := Cert.StartsRefIdeal.τ) (Cert.StartsRefIdeal.main (F := Ideal))) ⟨m', fun _ => 0, g'⟩ (fun r => ∀ c : Dev Cert.StartsRefIdeal.nD,
          r.2.mem ((c.tc : Thread Cert.StartsRefIdeal.nD Cert.StartsRefIdeal.τ).loc Cert.StartsRefIdeal.main_v64) = v0 c
          ∧ r.2.mem ((c.tc : Thread Cert.StartsRefIdeal.nD Cert.StartsRefIdeal.τ).loc Cert.StartsRefIdeal.main_v65) = v1 c
          ∧ r.2.mem ((c.tc : Thread Cert.StartsRefIdeal.nD Cert.StartsRefIdeal.τ).loc Cert.StartsRefIdeal.main_arg0) = m' ((c.tc : Thread Cert.StartsRefIdeal.nD Cert.StartsRefIdeal.τ).loc Cert.StartsRefIdeal.main_arg0)
          ∧ r.2.mem ((c.tc : Thread Cert.StartsRefIdeal.nD Cert.StartsRefIdeal.τ).loc Cert.StartsRefIdeal.main_arg1) = m' ((c.tc : Thread Cert.StartsRefIdeal.nD Cert.StartsRefIdeal.τ).loc Cert.StartsRefIdeal.main_arg1)
          ∧ r.2.mem ((c.tc : Thread Cert.StartsRefIdeal.nD Cert.StartsRefIdeal.τ).loc Cert.StartsRefIdeal.main_arg2) = m' ((c.tc : Thread Cert.StartsRefIdeal.nD Cert.StartsRefIdeal.τ).loc Cert.StartsRefIdeal.main_arg2)
          ∧ r.2.mem ((c.tc : Thread Cert.StartsRefIdeal.nD Cert.StartsRefIdeal.τ).loc Cert.StartsRefIdeal.main_arg3) = m' ((c.tc : Thread Cert.StartsRefIdeal.nD Cert.StartsRefIdeal.τ).loc Cert.StartsRefIdeal.main_arg3))

def preserves_Ends_EndsIdeal : Prop :=
  True

def algebraic_EndsIdeal_EndsRefIdeal_pre_finite_drive [hEndsIdeal : Cert.EndsIdeal.Facts] [hEndsRefIdeal : Cert.EndsRefIdeal.Facts] [hPre_finite_drive : Cert.Pre_finite_drive.Facts] : Prop :=
  ∀ (m : (ℓ : Loc Cert.EndsIdeal.nD Cert.EndsIdeal.τ Cert.EndsIdeal.sig) → Buf (Elt Ideal) ℓ) (g : Dev Cert.EndsIdeal.nD → PrngReg)
    (m' : (ℓ : Loc Cert.EndsRefIdeal.nD Cert.EndsRefIdeal.τ Cert.EndsRefIdeal.sig) → Buf (Elt Ideal) ℓ) (g' : Dev Cert.EndsRefIdeal.nD → PrngReg), Pre_EndsIdeal_finite_drive m →
    (∀ c : Dev Cert.EndsIdeal.nD,
      m' ((c.tc : Thread Cert.EndsRefIdeal.nD Cert.EndsRefIdeal.τ).loc Cert.EndsRefIdeal.main_arg0) = m ((c.tc : Thread Cert.EndsIdeal.nD Cert.EndsIdeal.τ).loc Cert.EndsIdeal.main_arg0)
      ∧ m' ((c.tc : Thread Cert.EndsRefIdeal.nD Cert.EndsRefIdeal.τ).loc Cert.EndsRefIdeal.main_arg1) = m ((c.tc : Thread Cert.EndsIdeal.nD Cert.EndsIdeal.τ).loc Cert.EndsIdeal.main_arg1)
      ∧ m' ((c.tc : Thread Cert.EndsRefIdeal.nD Cert.EndsRefIdeal.τ).loc Cert.EndsRefIdeal.main_arg2) = m ((c.tc : Thread Cert.EndsIdeal.nD Cert.EndsIdeal.τ).loc Cert.EndsIdeal.main_arg2)
      ∧ m' ((c.tc : Thread Cert.EndsRefIdeal.nD Cert.EndsRefIdeal.τ).loc Cert.EndsRefIdeal.main_arg3) = m ((c.tc : Thread Cert.EndsIdeal.nD Cert.EndsIdeal.τ).loc Cert.EndsIdeal.main_arg3)) →
    ∃ (v0 : (c : Dev Cert.EndsIdeal.nD) → Buf (Elt Ideal) ((c.tc : Thread Cert.EndsIdeal.nD Cert.EndsIdeal.τ).loc Cert.EndsIdeal.main_v0_0)) (v1 : (c : Dev Cert.EndsIdeal.nD) → Buf (Elt Ideal) ((c.tc : Thread Cert.EndsIdeal.nD Cert.EndsIdeal.τ).loc Cert.EndsIdeal.main_v0_1)),
      θ_run (Cert.EndsIdeal.defs (F := Ideal)) (onTc (τ := Cert.EndsIdeal.τ) (Cert.EndsIdeal.main (F := Ideal))) ⟨m, fun _ => 0, g⟩ (fun r => ∀ c : Dev Cert.EndsIdeal.nD,
          r.2.mem ((c.tc : Thread Cert.EndsIdeal.nD Cert.EndsIdeal.τ).loc Cert.EndsIdeal.main_v0_0) = v0 c
          ∧ r.2.mem ((c.tc : Thread Cert.EndsIdeal.nD Cert.EndsIdeal.τ).loc Cert.EndsIdeal.main_v0_1) = v1 c
          ∧ r.2.mem ((c.tc : Thread Cert.EndsIdeal.nD Cert.EndsIdeal.τ).loc Cert.EndsIdeal.main_arg0) = m ((c.tc : Thread Cert.EndsIdeal.nD Cert.EndsIdeal.τ).loc Cert.EndsIdeal.main_arg0)
          ∧ r.2.mem ((c.tc : Thread Cert.EndsIdeal.nD Cert.EndsIdeal.τ).loc Cert.EndsIdeal.main_arg1) = m ((c.tc : Thread Cert.EndsIdeal.nD Cert.EndsIdeal.τ).loc Cert.EndsIdeal.main_arg1)
          ∧ r.2.mem ((c.tc : Thread Cert.EndsIdeal.nD Cert.EndsIdeal.τ).loc Cert.EndsIdeal.main_arg2) = m ((c.tc : Thread Cert.EndsIdeal.nD Cert.EndsIdeal.τ).loc Cert.EndsIdeal.main_arg2)
          ∧ r.2.mem ((c.tc : Thread Cert.EndsIdeal.nD Cert.EndsIdeal.τ).loc Cert.EndsIdeal.main_arg3) = m ((c.tc : Thread Cert.EndsIdeal.nD Cert.EndsIdeal.τ).loc Cert.EndsIdeal.main_arg3))
      ∧ θ_run (Cert.EndsRefIdeal.defs (F := Ideal)) (onTc (τ := Cert.EndsRefIdeal.τ) (Cert.EndsRefIdeal.main (F := Ideal))) ⟨m', fun _ => 0, g'⟩ (fun r => ∀ c : Dev Cert.EndsRefIdeal.nD,
          r.2.mem ((c.tc : Thread Cert.EndsRefIdeal.nD Cert.EndsRefIdeal.τ).loc Cert.EndsRefIdeal.main_v67) = v0 c
          ∧ r.2.mem ((c.tc : Thread Cert.EndsRefIdeal.nD Cert.EndsRefIdeal.τ).loc Cert.EndsRefIdeal.main_v69) = v1 c
          ∧ r.2.mem ((c.tc : Thread Cert.EndsRefIdeal.nD Cert.EndsRefIdeal.τ).loc Cert.EndsRefIdeal.main_arg0) = m' ((c.tc : Thread Cert.EndsRefIdeal.nD Cert.EndsRefIdeal.τ).loc Cert.EndsRefIdeal.main_arg0)
          ∧ r.2.mem ((c.tc : Thread Cert.EndsRefIdeal.nD Cert.EndsRefIdeal.τ).loc Cert.EndsRefIdeal.main_arg1) = m' ((c.tc : Thread Cert.EndsRefIdeal.nD Cert.EndsRefIdeal.τ).loc Cert.EndsRefIdeal.main_arg1)
          ∧ r.2.mem ((c.tc : Thread Cert.EndsRefIdeal.nD Cert.EndsRefIdeal.τ).loc Cert.EndsRefIdeal.main_arg2) = m' ((c.tc : Thread Cert.EndsRefIdeal.nD Cert.EndsRefIdeal.τ).loc Cert.EndsRefIdeal.main_arg2)
          ∧ r.2.mem ((c.tc : Thread Cert.EndsRefIdeal.nD Cert.EndsRefIdeal.τ).loc Cert.EndsRefIdeal.main_arg3) = m' ((c.tc : Thread Cert.EndsRefIdeal.nD Cert.EndsRefIdeal.τ).loc Cert.EndsRefIdeal.main_arg3))

def Claim : Prop :=
  ∃ (hKernel : Cert.Kernel.Facts) (hKernelIdeal : Cert.KernelIdeal.Facts) (hReferenceIdeal : Cert.ReferenceIdeal.Facts) (hFfnDownDx : Cert.FfnDownDx.Facts) (hFfnDownDxIdeal : Cert.FfnDownDxIdeal.Facts) (hFfnDownDxRefIdeal : Cert.FfnDownDxRefIdeal.Facts) (hFfnDownDw : Cert.FfnDownDw.Facts) (hFfnDownDwIdeal : Cert.FfnDownDwIdeal.Facts) (hFfnDownDwRefIdeal : Cert.FfnDownDwRefIdeal.Facts) (hFfnUpDx : Cert.FfnUpDx.Facts) (hFfnUpDxIdeal : Cert.FfnUpDxIdeal.Facts) (hFfnUpDxRefIdeal : Cert.FfnUpDxRefIdeal.Facts) (hFfnUpDw : Cert.FfnUpDw.Facts) (hFfnUpDwIdeal : Cert.FfnUpDwIdeal.Facts) (hFfnUpDwRefIdeal : Cert.FfnUpDwRefIdeal.Facts) (hOProjDx : Cert.OProjDx.Facts) (hOProjDxIdeal : Cert.OProjDxIdeal.Facts) (hOProjDxRefIdeal : Cert.OProjDxRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hKvDx : Cert.KvDx.Facts) (hKvDxIdeal : Cert.KvDxIdeal.Facts) (hKvDxRefIdeal : Cert.KvDxRefIdeal.Facts) (hKvDw : Cert.KvDw.Facts) (hKvDwIdeal : Cert.KvDwIdeal.Facts) (hKvDwRefIdeal : Cert.KvDwRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hFfnDown : Cert.FfnDown.Facts) (hFfnDownIdeal : Cert.FfnDownIdeal.Facts) (hFfnDownRefIdeal : Cert.FfnDownRefIdeal.Facts) (hFfnUp : Cert.FfnUp.Facts) (hFfnUpIdeal : Cert.FfnUpIdeal.Facts) (hFfnUpRefIdeal : Cert.FfnUpRefIdeal.Facts) (hProj : Cert.Proj.Facts) (hProjIdeal : Cert.ProjIdeal.Facts) (hProjRefIdeal : Cert.ProjRefIdeal.Facts) (hOProj : Cert.OProj.Facts) (hOProjIdeal : Cert.OProjIdeal.Facts) (hOProjRefIdeal : Cert.OProjRefIdeal.Facts) (hKvProj : Cert.KvProj.Facts) (hKvProjIdeal : Cert.KvProjIdeal.Facts) (hKvProjRefIdeal : Cert.KvProjRefIdeal.Facts) (hGluProj : Cert.GluProj.Facts) (hGluProjIdeal : Cert.GluProjIdeal.Facts) (hGluProjRefIdeal : Cert.GluProjRefIdeal.Facts) (hGluBwd : Cert.GluBwd.Facts) (hGluBwdIdeal : Cert.GluBwdIdeal.Facts) (hGluBwdRefIdeal : Cert.GluBwdRefIdeal.Facts) (hGluFwd : Cert.GluFwd.Facts) (hGluFwdIdeal : Cert.GluFwdIdeal.Facts) (hGluFwdRefIdeal : Cert.GluFwdRefIdeal.Facts) (hNormFirst : Cert.NormFirst.Facts) (hNormFirstIdeal : Cert.NormFirstIdeal.Facts) (hNormFirstRefIdeal : Cert.NormFirstRefIdeal.Facts) (hNormAdd : Cert.NormAdd.Facts) (hNormAddIdeal : Cert.NormAddIdeal.Facts) (hNormAddRefIdeal : Cert.NormAddRefIdeal.Facts) (hNormTwo : Cert.NormTwo.Facts) (hNormTwoIdeal : Cert.NormTwoIdeal.Facts) (hNormTwoRefIdeal : Cert.NormTwoRefIdeal.Facts) (hNormFirstDx : Cert.NormFirstDx.Facts) (hNormFirstDxIdeal : Cert.NormFirstDxIdeal.Facts) (hNormFirstDxRefIdeal : Cert.NormFirstDxRefIdeal.Facts) (hNormAddDx : Cert.NormAddDx.Facts) (hNormAddDxIdeal : Cert.NormAddDxIdeal.Facts) (hNormAddDxRefIdeal : Cert.NormAddDxRefIdeal.Facts) (hNormTwoDx : Cert.NormTwoDx.Facts) (hNormTwoDxIdeal : Cert.NormTwoDxIdeal.Facts) (hNormTwoDxRefIdeal : Cert.NormTwoDxRefIdeal.Facts) (hLossHead : Cert.LossHead.Facts) (hLossHeadIdeal : Cert.LossHeadIdeal.Facts) (hLossHeadRefIdeal : Cert.LossHeadRefIdeal.Facts) (hDiscBwd : Cert.DiscBwd.Facts) (hDiscBwdIdeal : Cert.DiscBwdIdeal.Facts) (hDiscBwdRefIdeal : Cert.DiscBwdRefIdeal.Facts) (hDisc : Cert.Disc.Facts) (hDiscIdeal : Cert.DiscIdeal.Facts) (hDiscRefIdeal : Cert.DiscRefIdeal.Facts) (hFfnGate : Cert.FfnGate.Facts) (hFfnGateIdeal : Cert.FfnGateIdeal.Facts) (hFfnGateRefIdeal : Cert.FfnGateRefIdeal.Facts) (hAdamNorms : Cert.AdamNorms.Facts) (hAdamNormsIdeal : Cert.AdamNormsIdeal.Facts) (hAdamNormsRefIdeal : Cert.AdamNormsRefIdeal.Facts) (hAdamNorm : Cert.AdamNorm.Facts) (hAdamNormIdeal : Cert.AdamNormIdeal.Facts) (hAdamNormRefIdeal : Cert.AdamNormRefIdeal.Facts) (hAdamRows : Cert.AdamRows.Facts) (hAdamRowsIdeal : Cert.AdamRowsIdeal.Facts) (hAdamRowsRefIdeal : Cert.AdamRowsRefIdeal.Facts) (hAdamA : Cert.AdamA.Facts) (hAdamAIdeal : Cert.AdamAIdeal.Facts) (hAdamARefIdeal : Cert.AdamARefIdeal.Facts) (hAdamDt : Cert.AdamDt.Facts) (hAdamDtIdeal : Cert.AdamDtIdeal.Facts) (hAdamDtRefIdeal : Cert.AdamDtRefIdeal.Facts) (hAdamB : Cert.AdamB.Facts) (hAdamBIdeal : Cert.AdamBIdeal.Facts) (hAdamBRefIdeal : Cert.AdamBRefIdeal.Facts) (hAdamC : Cert.AdamC.Facts) (hAdamCIdeal : Cert.AdamCIdeal.Facts) (hAdamCRefIdeal : Cert.AdamCRefIdeal.Facts) (hAdamD : Cert.AdamD.Facts) (hAdamDIdeal : Cert.AdamDIdeal.Facts) (hAdamDRefIdeal : Cert.AdamDRefIdeal.Facts) (hAdamGlu : Cert.AdamGlu.Facts) (hAdamGluIdeal : Cert.AdamGluIdeal.Facts) (hAdamGluRefIdeal : Cert.AdamGluRefIdeal.Facts) (hAdamKv : Cert.AdamKv.Facts) (hAdamKvIdeal : Cert.AdamKvIdeal.Facts) (hAdamKvRefIdeal : Cert.AdamKvRefIdeal.Facts) (hAdamUp : Cert.AdamUp.Facts) (hAdamUpIdeal : Cert.AdamUpIdeal.Facts) (hAdamUpRefIdeal : Cert.AdamUpRefIdeal.Facts) (hAdamConvW : Cert.AdamConvW.Facts) (hAdamConvWIdeal : Cert.AdamConvWIdeal.Facts) (hAdamConvWRefIdeal : Cert.AdamConvWRefIdeal.Facts) (hAdamConvB : Cert.AdamConvB.Facts) (hAdamConvBIdeal : Cert.AdamConvBIdeal.Facts) (hAdamConvBRefIdeal : Cert.AdamConvBRefIdeal.Facts) (hAdamDown : Cert.AdamDown.Facts) (hAdamDownIdeal : Cert.AdamDownIdeal.Facts) (hAdamDownRefIdeal : Cert.AdamDownRefIdeal.Facts) (hGeluBwd : Cert.GeluBwd.Facts) (hGeluBwdIdeal : Cert.GeluBwdIdeal.Facts) (hGeluBwdRefIdeal : Cert.GeluBwdRefIdeal.Facts) (hStarts : Cert.Starts.Facts) (hStartsIdeal : Cert.StartsIdeal.Facts) (hStartsRefIdeal : Cert.StartsRefIdeal.Facts) (hEnds : Cert.Ends.Facts) (hEndsIdeal : Cert.EndsIdeal.Facts) (hEndsRefIdeal : Cert.EndsRefIdeal.Facts) (hPre_finite_gate : Cert.Pre_finite_gate.Facts) (hPre_finite_drive : Cert.Pre_finite_drive.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_OProjDx (hOProjDx := hOProjDx)
    ∧ quiescent_OProjDxIdeal (hOProjDxIdeal := hOProjDxIdeal)
    ∧ quiescent_OProjDxRefIdeal (hOProjDxRefIdeal := hOProjDxRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Proj (hProj := hProj)
    ∧ quiescent_ProjIdeal (hProjIdeal := hProjIdeal)
    ∧ quiescent_ProjRefIdeal (hProjRefIdeal := hProjRefIdeal)
    ∧ quiescent_OProj (hOProj := hOProj)
    ∧ quiescent_OProjIdeal (hOProjIdeal := hOProjIdeal)
    ∧ quiescent_OProjRefIdeal (hOProjRefIdeal := hOProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_GluProj (hGluProj := hGluProj)
    ∧ quiescent_GluProjIdeal (hGluProjIdeal := hGluProjIdeal)
    ∧ quiescent_GluProjRefIdeal (hGluProjRefIdeal := hGluProjRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ quiescent_NormAdd (hNormAdd := hNormAdd)
    ∧ quiescent_NormAddIdeal (hNormAddIdeal := hNormAddIdeal)
    ∧ quiescent_NormAddRefIdeal (hNormAddRefIdeal := hNormAddRefIdeal)
    ∧ quiescent_NormTwo (hNormTwo := hNormTwo)
    ∧ quiescent_NormTwoIdeal (hNormTwoIdeal := hNormTwoIdeal)
    ∧ quiescent_NormTwoRefIdeal (hNormTwoRefIdeal := hNormTwoRefIdeal)
    ∧ quiescent_NormFirstDx (hNormFirstDx := hNormFirstDx)
    ∧ quiescent_NormFirstDxIdeal (hNormFirstDxIdeal := hNormFirstDxIdeal)
    ∧ quiescent_NormFirstDxRefIdeal (hNormFirstDxRefIdeal := hNormFirstDxRefIdeal)
    ∧ quiescent_NormAddDx (hNormAddDx := hNormAddDx)
    ∧ quiescent_NormAddDxIdeal (hNormAddDxIdeal := hNormAddDxIdeal)
    ∧ quiescent_NormAddDxRefIdeal (hNormAddDxRefIdeal := hNormAddDxRefIdeal)
    ∧ quiescent_NormTwoDx (hNormTwoDx := hNormTwoDx)
    ∧ quiescent_NormTwoDxIdeal (hNormTwoDxIdeal := hNormTwoDxIdeal)
    ∧ quiescent_NormTwoDxRefIdeal (hNormTwoDxRefIdeal := hNormTwoDxRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_DiscBwd (hDiscBwd := hDiscBwd)
    ∧ quiescent_DiscBwdIdeal (hDiscBwdIdeal := hDiscBwdIdeal)
    ∧ quiescent_DiscBwdRefIdeal (hDiscBwdRefIdeal := hDiscBwdRefIdeal)
    ∧ quiescent_Disc (hDisc := hDisc)
    ∧ quiescent_DiscIdeal (hDiscIdeal := hDiscIdeal)
    ∧ quiescent_DiscRefIdeal (hDiscRefIdeal := hDiscRefIdeal)
    ∧ quiescent_FfnGate (hFfnGate := hFfnGate)
    ∧ quiescent_FfnGateIdeal (hFfnGateIdeal := hFfnGateIdeal)
    ∧ quiescent_FfnGateRefIdeal (hFfnGateRefIdeal := hFfnGateRefIdeal)
    ∧ quiescent_AdamNorms (hAdamNorms := hAdamNorms)
    ∧ quiescent_AdamNormsIdeal (hAdamNormsIdeal := hAdamNormsIdeal)
    ∧ quiescent_AdamNormsRefIdeal (hAdamNormsRefIdeal := hAdamNormsRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamRows (hAdamRows := hAdamRows)
    ∧ quiescent_AdamRowsIdeal (hAdamRowsIdeal := hAdamRowsIdeal)
    ∧ quiescent_AdamRowsRefIdeal (hAdamRowsRefIdeal := hAdamRowsRefIdeal)
    ∧ quiescent_AdamA (hAdamA := hAdamA)
    ∧ quiescent_AdamAIdeal (hAdamAIdeal := hAdamAIdeal)
    ∧ quiescent_AdamARefIdeal (hAdamARefIdeal := hAdamARefIdeal)
    ∧ quiescent_AdamDt (hAdamDt := hAdamDt)
    ∧ quiescent_AdamDtIdeal (hAdamDtIdeal := hAdamDtIdeal)
    ∧ quiescent_AdamDtRefIdeal (hAdamDtRefIdeal := hAdamDtRefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_AdamD (hAdamD := hAdamD)
    ∧ quiescent_AdamDIdeal (hAdamDIdeal := hAdamDIdeal)
    ∧ quiescent_AdamDRefIdeal (hAdamDRefIdeal := hAdamDRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_GeluBwd (hGeluBwd := hGeluBwd)
    ∧ quiescent_GeluBwdIdeal (hGeluBwdIdeal := hGeluBwdIdeal)
    ∧ quiescent_GeluBwdRefIdeal (hGeluBwdRefIdeal := hGeluBwdRefIdeal)
    ∧ quiescent_Starts (hStarts := hStarts)
    ∧ quiescent_StartsIdeal (hStartsIdeal := hStartsIdeal)
    ∧ quiescent_StartsIdeal_pre_finite_drive (hStartsIdeal := hStartsIdeal) (hPre_finite_drive := hPre_finite_drive)
    ∧ quiescent_StartsRefIdeal (hStartsRefIdeal := hStartsRefIdeal)
    ∧ quiescent_StartsRefIdeal_pre_finite_drive (hStartsRefIdeal := hStartsRefIdeal) (hPre_finite_drive := hPre_finite_drive)
    ∧ quiescent_Ends (hEnds := hEnds)
    ∧ quiescent_EndsIdeal (hEndsIdeal := hEndsIdeal)
    ∧ quiescent_EndsIdeal_pre_finite_drive (hEndsIdeal := hEndsIdeal) (hPre_finite_drive := hPre_finite_drive)
    ∧ quiescent_EndsRefIdeal (hEndsRefIdeal := hEndsRefIdeal)
    ∧ quiescent_EndsRefIdeal_pre_finite_drive (hEndsRefIdeal := hEndsRefIdeal) (hPre_finite_drive := hPre_finite_drive)
    ∧ preserves_Kernel_KernelIdeal
    ∧ algebraic_KernelIdeal_ReferenceIdeal_pre_finite_gate (hKernelIdeal := hKernelIdeal) (hReferenceIdeal := hReferenceIdeal) (hPre_finite_gate := hPre_finite_gate)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_OProjDx_OProjDxIdeal
    ∧ algebraic_OProjDxIdeal_OProjDxRefIdeal (hOProjDxIdeal := hOProjDxIdeal) (hOProjDxRefIdeal := hOProjDxRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_KvDx_KvDxIdeal
    ∧ algebraic_KvDxIdeal_KvDxRefIdeal (hKvDxIdeal := hKvDxIdeal) (hKvDxRefIdeal := hKvDxRefIdeal)
    ∧ preserves_KvDw_KvDwIdeal
    ∧ algebraic_KvDwIdeal_KvDwRefIdeal (hKvDwIdeal := hKvDwIdeal) (hKvDwRefIdeal := hKvDwRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Proj_ProjIdeal
    ∧ algebraic_ProjIdeal_ProjRefIdeal (hProjIdeal := hProjIdeal) (hProjRefIdeal := hProjRefIdeal)
    ∧ preserves_OProj_OProjIdeal
    ∧ algebraic_OProjIdeal_OProjRefIdeal (hOProjIdeal := hOProjIdeal) (hOProjRefIdeal := hOProjRefIdeal)
    ∧ preserves_KvProj_KvProjIdeal
    ∧ algebraic_KvProjIdeal_KvProjRefIdeal (hKvProjIdeal := hKvProjIdeal) (hKvProjRefIdeal := hKvProjRefIdeal)
    ∧ preserves_GluProj_GluProjIdeal
    ∧ algebraic_GluProjIdeal_GluProjRefIdeal (hGluProjIdeal := hGluProjIdeal) (hGluProjRefIdeal := hGluProjRefIdeal)
    ∧ preserves_GluBwd_GluBwdIdeal
    ∧ algebraic_GluBwdIdeal_GluBwdRefIdeal (hGluBwdIdeal := hGluBwdIdeal) (hGluBwdRefIdeal := hGluBwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_NormFirst_NormFirstIdeal
    ∧ algebraic_NormFirstIdeal_NormFirstRefIdeal (hNormFirstIdeal := hNormFirstIdeal) (hNormFirstRefIdeal := hNormFirstRefIdeal)
    ∧ preserves_NormAdd_NormAddIdeal
    ∧ algebraic_NormAddIdeal_NormAddRefIdeal (hNormAddIdeal := hNormAddIdeal) (hNormAddRefIdeal := hNormAddRefIdeal)
    ∧ preserves_NormTwo_NormTwoIdeal
    ∧ algebraic_NormTwoIdeal_NormTwoRefIdeal (hNormTwoIdeal := hNormTwoIdeal) (hNormTwoRefIdeal := hNormTwoRefIdeal)
    ∧ preserves_NormFirstDx_NormFirstDxIdeal
    ∧ algebraic_NormFirstDxIdeal_NormFirstDxRefIdeal (hNormFirstDxIdeal := hNormFirstDxIdeal) (hNormFirstDxRefIdeal := hNormFirstDxRefIdeal)
    ∧ preserves_NormAddDx_NormAddDxIdeal
    ∧ algebraic_NormAddDxIdeal_NormAddDxRefIdeal (hNormAddDxIdeal := hNormAddDxIdeal) (hNormAddDxRefIdeal := hNormAddDxRefIdeal)
    ∧ preserves_NormTwoDx_NormTwoDxIdeal
    ∧ algebraic_NormTwoDxIdeal_NormTwoDxRefIdeal (hNormTwoDxIdeal := hNormTwoDxIdeal) (hNormTwoDxRefIdeal := hNormTwoDxRefIdeal)
    ∧ preserves_LossHead_LossHeadIdeal
    ∧ algebraic_LossHeadIdeal_LossHeadRefIdeal (hLossHeadIdeal := hLossHeadIdeal) (hLossHeadRefIdeal := hLossHeadRefIdeal)
    ∧ preserves_DiscBwd_DiscBwdIdeal
    ∧ algebraic_DiscBwdIdeal_DiscBwdRefIdeal (hDiscBwdIdeal := hDiscBwdIdeal) (hDiscBwdRefIdeal := hDiscBwdRefIdeal)
    ∧ preserves_Disc_DiscIdeal
    ∧ algebraic_DiscIdeal_DiscRefIdeal (hDiscIdeal := hDiscIdeal) (hDiscRefIdeal := hDiscRefIdeal)
    ∧ preserves_FfnGate_FfnGateIdeal
    ∧ algebraic_FfnGateIdeal_FfnGateRefIdeal (hFfnGateIdeal := hFfnGateIdeal) (hFfnGateRefIdeal := hFfnGateRefIdeal)
    ∧ preserves_AdamNorms_AdamNormsIdeal
    ∧ algebraic_AdamNormsIdeal_AdamNormsRefIdeal (hAdamNormsIdeal := hAdamNormsIdeal) (hAdamNormsRefIdeal := hAdamNormsRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamRows_AdamRowsIdeal
    ∧ algebraic_AdamRowsIdeal_AdamRowsRefIdeal (hAdamRowsIdeal := hAdamRowsIdeal) (hAdamRowsRefIdeal := hAdamRowsRefIdeal)
    ∧ preserves_AdamA_AdamAIdeal
    ∧ algebraic_AdamAIdeal_AdamARefIdeal (hAdamAIdeal := hAdamAIdeal) (hAdamARefIdeal := hAdamARefIdeal)
    ∧ preserves_AdamDt_AdamDtIdeal
    ∧ algebraic_AdamDtIdeal_AdamDtRefIdeal (hAdamDtIdeal := hAdamDtIdeal) (hAdamDtRefIdeal := hAdamDtRefIdeal)
    ∧ preserves_AdamB_AdamBIdeal
    ∧ algebraic_AdamBIdeal_AdamBRefIdeal (hAdamBIdeal := hAdamBIdeal) (hAdamBRefIdeal := hAdamBRefIdeal)
    ∧ preserves_AdamC_AdamCIdeal
    ∧ algebraic_AdamCIdeal_AdamCRefIdeal (hAdamCIdeal := hAdamCIdeal) (hAdamCRefIdeal := hAdamCRefIdeal)
    ∧ preserves_AdamD_AdamDIdeal
    ∧ algebraic_AdamDIdeal_AdamDRefIdeal (hAdamDIdeal := hAdamDIdeal) (hAdamDRefIdeal := hAdamDRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdamDown_AdamDownIdeal
    ∧ algebraic_AdamDownIdeal_AdamDownRefIdeal (hAdamDownIdeal := hAdamDownIdeal) (hAdamDownRefIdeal := hAdamDownRefIdeal)
    ∧ preserves_GeluBwd_GeluBwdIdeal
    ∧ algebraic_GeluBwdIdeal_GeluBwdRefIdeal (hGeluBwdIdeal := hGeluBwdIdeal) (hGeluBwdRefIdeal := hGeluBwdRefIdeal)
    ∧ preserves_Starts_StartsIdeal
    ∧ algebraic_StartsIdeal_StartsRefIdeal_pre_finite_drive (hStartsIdeal := hStartsIdeal) (hStartsRefIdeal := hStartsRefIdeal) (hPre_finite_drive := hPre_finite_drive)
    ∧ preserves_Ends_EndsIdeal
    ∧ algebraic_EndsIdeal_EndsRefIdeal_pre_finite_drive (hEndsIdeal := hEndsIdeal) (hEndsRefIdeal := hEndsRefIdeal) (hPre_finite_drive := hPre_finite_drive)
-- ==== Pre_finite_drive.lean ====
abbrev S4096x1024 : Shape := ⟨2, ![4096, 1024]⟩
abbrev S4x256x1024 : Shape := ⟨3, ![4, 256, 1024]⟩
abbrev S2x4096 : Shape := ⟨2, ![2, 4096]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S2x4096 : S_.BroadcastsInDim S2x4096 (![] : Fin 0 → Fin S2x4096.rank)
  reducesTo_S2x4096_S_d0_1 : S2x4096.ReducesTo [0, 1] S_

variable [Facts]

def fn_part1 {F : FTy → Type} [FloatOps F] (main_v10 : IVec S_ 1) (main_v15 : IVec S_ 1) (main_v16 : FVec F S2x4096 .f32) (main_cst_4 : FVec F S_ .f32) : IVec S_ 1 :=
  let main_v17 : FVec F S2x4096 .f32 := broadcastInDim S2x4096 ![] bcast_S_S2x4096 main_cst_4
  let main_v18 : IVec S2x4096 1 := cmpf .olt main_v16 main_v17
  let main_c_5 : IVec S_ 1 := constantI S_ 1 1#1
  let main_v19 : IVec S_ 1 := (fun x v => Host.reduce IntOp.andi x v reducesTo_S2x4096_S_d0_1 h_S_) main_v18 main_c_5
  let main_v20 : IVec S_ 1 := andi main_v15 main_v19
  let main_v21 : IVec S_ 1 := andi main_v10 main_v20
  main_v21

def fn {F : FTy → Type} [FloatOps F] (main_arg0 : FVec F S4096x1024 .bf16) (main_arg1 : FVec F S4x256x1024 .bf16) (main_arg2 : FVec F S4x256x1024 .bf16) (main_arg3 : FVec F S2x4096 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x256x1024 .f32 := (extf .f32 · bitsLt_bf16_f32) main_arg1
  let main_v6 : FVec F S4x256x1024 .f32 := Host.absf main_v5
  let main_cst_0 : FVec F S_ .f32 := constant S_ .f32 0x7F800000#32
  let main_v7 : FVec F S4x256x1024 .f32 := broadcastInDim S4x256x1024 ![] bcast_S_S4x256x1024 main_cst_0
  let main_v8 : IVec S4x256x1024 1 := cmpf .olt main_v6 main_v7
  let main_c_1 : IVec S_ 1 := constantI S_ 1 1#1
  let main_v9 : IVec S_ 1 := (fun x v => Host.reduce IntOp.andi x v reducesTo_S4x256x1024_S_d0_1_2 h_S_) main_v8 main_c_1
  let main_v10 : IVec S_ 1 := andi main_v4 main_v9
  let main_v11 : FVec F S4x256x1024 .f32 := (extf .f32 · bitsLt_bf16_f32) main_arg2
  let main_v12 : FVec F S4x256x1024 .f32 := Host.absf main_v11
  let main_cst_2 : FVec F S_ .f32 := constant S_ .f32 0x7F800000#32
  let main_v13 : FVec F S4x256x1024 .f32 := broadcastInDim S4x256x1024 ![] bcast_S_S4x256x1024 main_cst_2
  let main_v14 : IVec S4x256x1024 1 := cmpf .olt main_v12 main_v13
  let main_c_3 : IVec S_ 1 := constantI S_ 1 1#1
  let main_v15 : IVec S_ 1 := (fun x v => Host.reduce IntOp.andi x v reducesTo_S4x256x1024_S_d0_1_2 h_S_) main_v14 main_c_3
  let main_v16 : FVec F S2x4096 .f32 := Host.absf main_arg3
  let main_cst_4 : FVec F S_ .f32 := constant S_ .f32 0x7F800000#32
  fn_part1 (F := F) main_v10 main_v15 main_v16 main_cst_4
-- ==== Pre_finite_gate.lean ====
abbrev S2x4096x2816 : Shape := ⟨3, ![2, 4096, 2816]⟩
abbrev S4096x2816 : Shape := ⟨2, ![4096, 2816]⟩
abbrev S3x2816 : Shape := ⟨2, ![3, 2816]⟩
abbrev S1x2816 : Shape := ⟨2, ![1, 2816]⟩
abbrev S1x4096x2816 : Shape := ⟨3, ![1, 4096, 2816]⟩
abbrev S_ : Shape := ⟨0, ![]⟩

class Facts : Prop where
  slices_S2x4096x2816_S1x4096x2816_1_0_0 : S2x4096x2816.Slices ![1, 0, 0] S1x4096x2816
  shapeCasts_S1x4096x2816_S4096x2816 : S1x4096x2816.ShapeCasts S4096x2816
  bitsLt_bf16_f32 : FTy.bits .bf16 < FTy.bits .f32
  bcast_S_S4096x2816 : S_.BroadcastsInDim S4096x2816 (![] : Fin 0 → Fin S4096x2816.rank)

variable [Facts]

def fn {F : FTy → Type} [FloatOps F] (main_arg0 : FVec F S2x4096x2816 .bf16) (main_arg1 : FVec F S4096x2816 .bf16) (main_arg2 : FVec F S3x2816 .f32) (main_arg3 : FVec F S1x2816 .f32) : IVec S4096x2816 1 :=
  let main_v0 : FVec F S1x4096x2816 .bf16 := (extractStridedSlice S1x4096x2816 ![1, 0, 0] · slices_S2x4096x2816_S1x4096x2816_1_0_0) main_arg0
  let main_v1 : FVec F S4096x2816 .bf16 := shapeCast S4096x2816 main_v0 shapeCasts_S1x4096x2816_S4096x2816
  let main_v2 : FVec F S4096x2816 .f32 := (extf .f32 · bitsLt_bf16_f32) main_v1
  let main_v3 : FVec F S4096x2816 .f32 := Host.absf main_v2
  let main_cst : FVec F S_ .f32 := constant S_ .f32 0x7F800000#32
  let main_v4 : FVec F S4096x2816 .f32 := broadcastInDim S4096x2816 ![] bcast_S_S4096x2816 main_cst
  let main_v5 : IVec S4096x2816 1 := cmpf .olt main_v3 main_v4
  let main_v6 : FVec F S4096x2816 .f32 := (extf .f32 · bitsLt_bf16_f32) main_arg1
  let main_v7 : FVec F S4096x2816 .f32 := Host.absf main_v6
  let main_cst_0 : FVec F S_ .f32 := constant S_ .f32 0x7F800000#32
  let main_v8 : FVec F S4096x2816 .f32 := broadcastInDim S4096x2816 ![] bcast_S_S4096x2816 main_cst_0
  let main_v9 : IVec S4096x2816 1 := cmpf .olt main_v7 main_v8
  let main_v10 : IVec S4096x2816 1 := andi main_v5 main_v9
  main_v10
-- ==== Kernel.lean ====
abbrev S2x4096x2816 : Shape := ⟨3, ![2, 4096, 2816]⟩
abbrev S4096x2816 : Shape := ⟨2, ![4096, 2816]⟩
abbrev S3x2816 : Shape := ⟨2, ![3, 2816]⟩
abbrev S1x2816 : Shape := ⟨2, ![1, 2816]⟩
abbrev S2x4096x128 : Shape := ⟨3, ![2, 4096, 128]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S16x128 : Shape := ⟨2, ![16, 128]⟩
abbrev S1x16x128 : Shape := ⟨3, ![1, 16, 128]⟩
abbrev S1x128x128 : Shape := ⟨3, ![1, 128, 128]⟩
abbrev S128x128 : Shape := ⟨2, ![128, 128]⟩
abbrev S144x128 : Shape := ⟨2, ![144, 128]⟩
abbrev S16x8x128 : Shape := ⟨3, ![16, 8, 128]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S2x4096x2816, .bf16⟩
  | .hbm, ⟨1, _⟩ => ⟨S4096x2816, .bf16⟩
  | .hbm, ⟨2, _⟩ => ⟨S3x2816, .f32⟩
  | .hbm, ⟨3, _⟩ => ⟨S1x2816, .f32⟩
  | .hbm, ⟨4, _⟩ => ⟨S2x4096x2816, .bf16⟩
  | .hbm, ⟨5, _⟩ => ⟨S3x2816, .f32⟩
  | .hbm, ⟨6, _⟩ => ⟨S1x2816, .f32⟩
  | .local _ .vmem, ⟨0, _⟩ => ⟨S2x4096x128, .bf16⟩
  | .local _ .vmem, ⟨1, _⟩ => ⟨S2x4096x128, .bf16⟩
  | .local _ .vmem, ⟨2, _⟩ => ⟨S4096x128, .bf16⟩
  | .local _ .vmem, ⟨3, _⟩ => ⟨S4096x128, .bf16⟩
  | .local _ .vmem, ⟨4, _⟩ => ⟨S3x128, .f32⟩
  | .local _ .vmem, ⟨5, _⟩ => ⟨S3x128, .f32⟩
  | .local _ .vmem, ⟨6, _⟩ => ⟨S1x128, .f32⟩
  | .local _ .vmem, ⟨7, _⟩ => ⟨S1x128, .f32⟩
  | .local _ .vmem, ⟨8, _⟩ => ⟨S2x4096x128, .bf16⟩
  | .local _ .vmem, ⟨9, _⟩ => ⟨S2x4096x128, .bf16⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
def k0_mult1 (k0_t1 : Fin k0_t1_loop.trips) : BitVec 32 :=
  let c31_i32 : BitVec 32 := 31#32
  let c0_i32 : BitVec 32 := 0#32
  let c1_i32 : BitVec 32 := 1#32
  let arg8 : BitVec 32 := Scf.iv c0_i32 c1_i32 k0_t1
  let v20 : BitVec 32 := Scalar.subi c31_i32 arg8
  let c128_i32 : BitVec 32 := 128#32
  let v21 : BitVec 32 := Scalar.muli v20 c128_i32
  v21
def k0_mult2 (k0_t1 : Fin k0_t1_loop.trips) : BitVec 32 :=
  let c31_i32 : BitVec 32 := 31#32
  let c0_i32 : BitVec 32 := 0#32
  let c1_i32 : BitVec 32 := 1#32
  let arg8 : BitVec 32 := Scf.iv c0_i32 c1_i32 k0_t1
  let v20 : BitVec 32 := Scalar.subi c31_i32 arg8
  let c128_i32 : BitVec 32 := 128#32
  let v21 : BitVec 32 := Scalar.muli v20 c128_i32
  let v22 : BitVec 32 := v21
  let c16_i32 : BitVec 32 := 16#32
  let v23 : BitVec 32 := Scalar.subi v22 c16_i32
  let c0_i32_19 : BitVec 32 := 0#32
  let v24 : BitVec 32 := Scalar.maxsi v23 c0_i32_19
  v24
def k0_off1 (k0_t1 : Fin k0_t1_loop.trips) : Fin 3 → Nat :=
  let c0_21 : Index := 0#32
  let c31_i32 : BitVec 32 := 31#32
  let c0_i32 : BitVec 32 := 0#32
  let c1_i32 : BitVec 32 := 1#32
  let arg8 : BitVec 32 := Scf.iv c0_i32 c1_i32 k0_t1
  let v20 : BitVec 32 := Scalar.subi c31_i32 arg8
  let c128_i32 : BitVec 32 := 128#32
  let v21 : BitVec 32 := Scalar.muli v20 c128_i32
  let v22 : BitVec 32 := v21
  let c16_i32 : BitVec 32 := 16#32
  let v23 : BitVec 32 := Scalar.subi v22 c16_i32
  let c0_i32_19 : BitVec 32 := 0#32
  let v24 : BitVec 32 := Scalar.maxsi v23 c0_i32_19
  let v25 : BitVec 32 := v24
  let v27 : Index := Scalar.indexCast v25
  let c0_22 : Index := 0#32
  ![0, v27.toNat, 0]
def k0_off2 (k0_t1 : Fin k0_t1_loop.trips) : Fin 3 → Nat :=
  let c0_24 : Index := 0#32
  let c31_i32 : BitVec 32 := 31#32
  let c0_i32 : BitVec 32 := 0#32
  let c1_i32 : BitVec 32 := 1#32
  let arg8 : BitVec 32 := Scf.iv c0_i32 c1_i32 k0_t1
  let v20 : BitVec 32 := Scalar.subi c31_i32 arg8
  let c128_i32 : BitVec 32 := 128#32
  let v21 : BitVec 32 := Scalar.muli v20 c128_i32
  let v22 : BitVec 32 := v21
  let v33 : Index := Scalar.indexCast v22
  let c0_25 : Index := 0#32
  ![0, v33.toNat, 0]
def k0_off3 (k0_t1 : Fin k0_t1_loop.trips) : Fin 3 → Nat :=
  let c1_26 : Index := 1#32
  let c31_i32 : BitVec 32 := 31#32
  let c0_i32 : BitVec 32 := 0#32
  let c1_i32 : BitVec 32 := 1#32
  let arg8 : BitVec 32 := Scf.iv c0_i32 c1_i32 k0_t1
  let v20 : BitVec 32 := Scalar.subi c31_i32 arg8
  let c128_i32 : BitVec 32 := 128#32
  let v21 : BitVec 32 := Scalar.muli v20 c128_i32
  let v22 : BitVec 32 := v21
  let v37 : Index := Scalar.indexCast v22
  let c0_27 : Index := 0#32
  ![1, v37.toNat, 0]
def k0_off4 (k0_t1 : Fin k0_t1_loop.trips) : Fin 2 → Nat :=
  let c31_i32 : BitVec 32 := 31#32
  let c0_i32 : BitVec 32 := 0#32
  let c1_i32 : BitVec 32 := 1#32
  let arg8 : BitVec 32 := Scf.iv c0_i32 c1_i32 k0_t1
  let v20 : BitVec 32 := Scalar.subi c31_i32 arg8
  let c128_i32 : BitVec 32 := 128#32
  let v21 : BitVec 32 := Scalar.muli v20 c128_i32
  let v22 : BitVec 32 := v21
  let v41 : Index := Scalar.indexCast v22
  let c0_28 : Index := 0#32
  ![v41.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x4096x2816 : Shape := ⟨3, ![2, 4096, 2816]⟩
abbrev S4096x2816 : Shape := ⟨2, ![4096, 2816]⟩
abbrev S3x2816 : Shape := ⟨2, ![3, 2816]⟩
abbrev S1x2816 : Shape := ⟨2, ![1, 2816]⟩
abbrev S1x4096x2816 : Shape := ⟨3, ![1, 4096, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩

abbrev nBuf : Space → Nat
  | .hbm => 98
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x2816, .bf16⟩
  | .hbm, ⟨2, _⟩ => ⟨S3x2816, .f32⟩
  | .hbm, ⟨3, _⟩ => ⟨S1x2816, .f32⟩
  | .hbm, ⟨4, _⟩ => ⟨S2x4096x2816, .f32⟩
  | .hbm, ⟨5, _⟩ => ⟨S1x4096x2816, .f32⟩
  | .hbm, ⟨6, _⟩ => ⟨S4096x2816, .f32⟩
  | .hbm, ⟨7, _⟩ => ⟨S1x4096x2816, .f32⟩
  | .hbm, ⟨8, _⟩ => ⟨S4096x2816, .f32⟩
  | .hbm, ⟨9, _⟩ => ⟨S_, .f32⟩
  | .hbm, ⟨10, _⟩ => ⟨S2x2816, .f32⟩
  | .hbm, ⟨11, _⟩ => ⟨S4098x2816, .f32⟩
  | .hbm, ⟨12, _⟩ => ⟨S_, .f32⟩
  | .hbm, ⟨13, _⟩ => ⟨S2x2816, .f32⟩
  | .hbm, ⟨14, _⟩ => ⟨S4096x2816, .f32⟩
  | .hbm, ⟨15, _⟩ => ⟨S1x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S1x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S1x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S2816, .f32⟩
  | .hbm, ⟨53, _⟩ => ⟨S1x2816, .f32⟩
  | .hbm, ⟨54, _⟩ => ⟨S4096x2816, .f32⟩
  | .hbm, ⟨55, _⟩ => ⟨S_, .f32⟩
  | .hbm, ⟨56, _⟩ => ⟨S2816, .f32⟩
  | .hbm, ⟨57, _⟩ => ⟨S1x2816, .f32⟩
  | .hbm, ⟨58, _⟩ => ⟨S4096x2816, .f32⟩
  | .hbm, ⟨59, _⟩ => ⟨S4096x2816, .f32⟩
  | .hbm, ⟨60, _⟩ => ⟨S_, .f32⟩
  | .hbm, ⟨61, _⟩ => ⟨S3x2816, .f32⟩
  | .hbm, ⟨62, _⟩ => ⟨S_, .f32⟩
  | .hbm, ⟨63, _⟩ => ⟨S4098x2816, .f32⟩
  | .hbm, ⟨64, _⟩ => ⟨S4096x2816, .f32⟩
  | .hbm, ⟨65, _⟩ => ⟨S_, .f32⟩
  | .hbm, ⟨66, _⟩ => ⟨S2816, .f32⟩
  | .hbm, ⟨67, _⟩ => ⟨S1x2816, .f32⟩
  | .hbm, ⟨68, _⟩ => ⟨S4096x2816, .f32⟩
  | .hbm, ⟨69, _⟩ => ⟨S4096x2816, .f32⟩
  | .hbm, ⟨70, _⟩ => ⟨S_, .f32⟩
  | .hbm, ⟨71, _⟩ => ⟨S3x2816, .f32⟩
  | .hbm, ⟨72, _⟩ => ⟨S3x2816, .f32⟩
  | .hbm, ⟨73, _⟩ => ⟨S_, .f32⟩
  | .hbm, ⟨74, _⟩ => ⟨S4098x2816, .f32⟩
  | .hbm, ⟨75, _⟩ => ⟨S4098x2816, .f32⟩
  | .hbm, ⟨76, _⟩ => ⟨S4096x2816, .f32⟩
  | .hbm, ⟨77, _⟩ => ⟨S_, .f32⟩
  | .hbm, ⟨78, _⟩ => ⟨S2816, .f32⟩
  | .hbm, ⟨79, _⟩ => ⟨S1x2816, .f32⟩
  | .hbm, ⟨80, _⟩ => ⟨S4096x2816, .f32⟩
  | .hbm, ⟨81, _⟩ => ⟨S4096x2816, .f32⟩
  | .hbm, ⟨82, _⟩ => ⟨S_, .f32⟩
  | .hbm, ⟨83, _⟩ => ⟨S3x2816, .f32⟩
  | .hbm, ⟨84, _⟩ => ⟨S3x2816, .f32⟩
  | .hbm, ⟨85, _⟩ => ⟨S_, .f32⟩
  | .hbm, ⟨86, _⟩ => ⟨S4098x2816, .f32⟩
  | .hbm, ⟨87, _⟩ => ⟨S4098x2816, .f32⟩
  | .hbm, ⟨88, _⟩ => ⟨S2x2816, .f32⟩
  | .hbm, ⟨89, _⟩ => ⟨S4096x2816, .f32⟩
  | .hbm, ⟨90, _⟩ => ⟨S1x4096x2816, .f32⟩
  | .hbm, ⟨91, _⟩ => ⟨S_, .f32⟩
  | .hbm, ⟨92, _⟩ => ⟨S2x4096x2816, .f32⟩
  | .hbm, ⟨93, _⟩ => ⟨S1x4096x2816, .f32⟩
  | .hbm, ⟨94, _⟩ => ⟨S_, .f32⟩
  | .hbm, ⟨95, _⟩ => ⟨S2x4096x2816, .f32⟩
  | .hbm, ⟨96, _⟩ => ⟨S2x4096x2816, .f32⟩
  | .hbm, ⟨97, _⟩ => ⟨S2x4096x2816, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v24_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v24_1 : Ref sig .tc := ⟨.hbm, 41, rfl⟩
abbrev main_v24_0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]
-- ==== FfnDownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDownDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnUpDx.lean ====
abbrev S2x4096x2816 : Shape := ⟨3, ![2, 4096, 2816]⟩
abbrev S4x1x1024x1408 : Shape := ⟨4, ![4, 1, 1024, 1408]⟩
abbrev S4096x1024 : Shape := ⟨2, ![4096, 1024]⟩
abbrev S1x1024x1408 : Shape := ⟨3, ![1, 1024, 1408]⟩
abbrev S1x1x1024x1408 : Shape := ⟨4, ![1, 1, 1024, 1408]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S4x1x1024x1408, .bf16⟩
  | .hbm, ⟨2, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnUpDxRefIdeal.lean ====
abbrev S2x4096x2816 : Shape := ⟨3, ![2, 4096, 2816]⟩
abbrev S4x1x1024x1408 : Shape := ⟨4, ![4, 1, 1024, 1408]⟩
abbrev S_ : Shape := ⟨0, ![]⟩
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1x1024x1408, .bf16⟩
  | .hbm, ⟨2, _⟩ => ⟨S_, .f32⟩
  | .hbm, ⟨3, _⟩ => ⟨S4096x1024, .f32⟩
  | .hbm, ⟨4, _⟩ => ⟨S4x1x1024x1408, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S1x4096x2816, .f32⟩
  | .hbm, ⟨12, _⟩ => ⟨S1x4096x2816, .f32⟩
  | .hbm, ⟨13, _⟩ => ⟨S2x4096x2816, .f32⟩
  | .hbm, ⟨14, _⟩ => ⟨S2x4096x2816, .f32⟩
  | .hbm, ⟨15, _⟩ => ⟨S1x4096x2816, .f32⟩
  | .hbm, ⟨16, _⟩ => ⟨S4096x2816, .f32⟩
  | .hbm, ⟨17, _⟩ => ⟨S1x4096x2816, .f32⟩
  | .hbm, ⟨18, _⟩ => ⟨S4096x2816, .f32⟩
  | .hbm, ⟨19, _⟩ => ⟨S_, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== FfnUpDw.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnUpDwRefIdeal.lean ====
abbrev S4096x1024 : Shape := ⟨2, ![4096, 1024]⟩
abbrev S2x4096x2816 : Shape := ⟨3, ![2, 4096, 2816]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S_, .f32⟩
  | .hbm, ⟨3, _⟩ => ⟨S4x1024x1408, .f32⟩
  | .hbm, ⟨4, _⟩ => ⟨S4096x1024, .f32⟩
  | .hbm, ⟨5, _⟩ => ⟨S1024x4x1408, .f32⟩
  | .hbm, ⟨6, _⟩ => ⟨S1024x5632, .f32⟩
  | .hbm, ⟨7, _⟩ => ⟨S4096x5632, .f32⟩
  | .hbm, ⟨8, _⟩ => ⟨S4096x2816, .f32⟩
  | .hbm, ⟨9, _⟩ => ⟨S4096x2816, .f32⟩
  | .hbm, ⟨10, _⟩ => ⟨S1x4096x2816, .f32⟩
  | .hbm, ⟨11, _⟩ => ⟨S1x4096x2816, .f32⟩
  | .hbm, ⟨12, _⟩ => ⟨S2x4096x2816, .f32⟩
  | .hbm, ⟨13, _⟩ => ⟨S2x4096x2816, .f32⟩
  | .hbm, ⟨14, _⟩ => ⟨S1x4096x2816, .f32⟩
  | .hbm, ⟨15, _⟩ => ⟨S4096x2816, .f32⟩
  | .hbm, ⟨16, _⟩ => ⟨S1x4096x2816, .f32⟩
  | .hbm, ⟨17, _⟩ => ⟨S4096x2816, .f32⟩
  | .hbm, ⟨18, _⟩ => ⟨S_, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S5632x1024, .f32⟩
  | .hbm, ⟨24, _⟩ => ⟨S1024x5632, .f32⟩
  | .hbm, ⟨25, _⟩ => ⟨S1024x4x1408, .f32⟩
  | .hbm, ⟨26, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== OProjDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OProjDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ProjDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvDx.lean ====
abbrev S2x4096x1024 : Shape := ⟨3, ![2, 4096, 1024]⟩
abbrev S4x1x1024x512 : Shape := ⟨4, ![4, 1, 1024, 512]⟩
abbrev S4096x1024 : Shape := ⟨2, ![4096, 1024]⟩
abbrev S1x1024x512 : Shape := ⟨3, ![1, 1024, 512]⟩
abbrev S1x1x1024x512 : Shape := ⟨4, ![1, 1, 1024, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S4x1x1024x512, .bf16⟩
  | .hbm, ⟨2, _⟩ => ⟨S4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .f32⟩
  | .local _ .vmem, ⟨5, _⟩ => ⟨S1024x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KvDxRefIdeal.lean ====
abbrev S2x4096x1024 : Shape := ⟨3, ![2, 4096, 1024]⟩
abbrev S4x1x1024x512 : Shape := ⟨4, ![4, 1, 1024, 512]⟩
abbrev S_ : Shape := ⟨0, ![]⟩
abbrev S4096x1024 : Shape := ⟨2, ![4096, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩
abbrev S1x4096x1024 : Shape := ⟨3, ![1, 4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S4x1x1024x512, .bf16⟩
  | .hbm, ⟨2, _⟩ => ⟨S_, .f32⟩
  | .hbm, ⟨3, _⟩ => ⟨S4096x1024, .f32⟩
  | .hbm, ⟨4, _⟩ => ⟨S4x1x1024x512, .f32⟩
  | .hbm, ⟨5, _⟩ => ⟨S4x1024x512, .f32⟩
  | .hbm, ⟨6, _⟩ => ⟨S1024x4x512, .f32⟩
  | .hbm, ⟨7, _⟩ => ⟨S1024x2048, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S1x4096x1024, .f32⟩
  | .hbm, ⟨12, _⟩ => ⟨S1x4096x1024, .f32⟩
  | .hbm, ⟨13, _⟩ => ⟨S2x4096x1024, .f32⟩
  | .hbm, ⟨14, _⟩ => ⟨S2x4096x1024, .f32⟩
  | .hbm, ⟨15, _⟩ => ⟨S1x4096x1024, .f32⟩
  | .hbm, ⟨16, _⟩ => ⟨S4096x1024, .f32⟩
  | .hbm, ⟨17, _⟩ => ⟨S1x4096x1024, .f32⟩
  | .hbm, ⟨18, _⟩ => ⟨S4096x1024, .f32⟩
  | .hbm, ⟨19, _⟩ => ⟨S_, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x1024, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== KvDw.lean ====
abbrev S4096x1024 : Shape := ⟨2, ![4096, 1024]⟩
abbrev S2x4096x1024 : Shape := ⟨3, ![2, 4096, 1024]⟩
abbrev S4x1024x512 : Shape := ⟨3, ![4, 1024, 512]⟩
abbrev S2048x1024 : Shape := ⟨2, ![2048, 1024]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KvDwRefIdeal.lean ====
abbrev S4096x1024 : Shape := ⟨2, ![4096, 1024]⟩
abbrev S2x4096x1024 : Shape := ⟨3, ![2, 4096, 1024]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩
abbrev S1x4096x1024 : Shape := ⟨3, ![1, 4096, 1024]⟩
abbrev S2048x1024 : Shape := ⟨2, ![2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S_, .f32⟩
  | .hbm, ⟨3, _⟩ => ⟨S4x1024x512, .f32⟩
  | .hbm, ⟨4, _⟩ => ⟨S4096x1024, .f32⟩
  | .hbm, ⟨5, _⟩ => ⟨S1024x4x512, .f32⟩
  | .hbm, ⟨6, _⟩ => ⟨S1024x2048, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S1x4096x1024, .f32⟩
  | .hbm, ⟨11, _⟩ => ⟨S1x4096x1024, .f32⟩
  | .hbm, ⟨12, _⟩ => ⟨S2x4096x1024, .f32⟩
  | .hbm, ⟨13, _⟩ => ⟨S2x4096x1024, .f32⟩
  | .hbm, ⟨14, _⟩ => ⟨S1x4096x1024, .f32⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S_, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S2048x1024, .f32⟩
  | .hbm, ⟨24, _⟩ => ⟨S1024x2048, .f32⟩
  | .hbm, ⟨25, _⟩ => ⟨S1024x4x512, .f32⟩
  | .hbm, ⟨26, _⟩ => ⟨S4x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== GluDx.lean ====
abbrev S4096x2048 : Shape := ⟨2, ![4096, 2048]⟩
abbrev S4x1024x512 : Shape := ⟨3, ![4, 1024, 512]⟩
abbrev S4096x1024 : Shape := ⟨2, ![4096, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GluDxRefIdeal.lean ====
abbrev S4096x2048 : Shape := ⟨2, ![4096, 2048]⟩
abbrev S4x1024x512 : Shape := ⟨3, ![4, 1024, 512]⟩
abbrev S_ : Shape := ⟨0, ![]⟩
abbrev S4096x1024 : Shape := ⟨2, ![4096, 1024]⟩
abbrev S1024x4x512 : Shape := ⟨3, ![1024, 4, 512]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S_, .f32⟩
  | .hbm, ⟨3, _⟩ => ⟨S4096x1024, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDw.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GluDwRefIdeal.lean ====
abbrev S4096x1024 : Shape := ⟨2, ![4096, 1024]⟩
abbrev S4096x2048 : Shape := ⟨2, ![4096, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S4x1024x512, .f32⟩
  | .hbm, ⟨4, _⟩ => ⟨S4096x1024, .f32⟩
  | .hbm, ⟨5, _⟩ => ⟨S1024x4x512, .f32⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x4x512, .f32⟩
  | .hbm, ⟨12, _⟩ => ⟨S4x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUp.lean ====
abbrev S4096x1024 : Shape := ⟨2, ![4096, 1024]⟩
abbrev S4x1x1024x1408 : Shape := ⟨4, ![4, 1, 1024, 1408]⟩
abbrev S2x4096x2816 : Shape := ⟨3, ![2, 4096, 2816]⟩
abbrev S1024x1024 : Shape := ⟨2, ![1024, 1024]⟩
abbrev S1x1x1024x1408 : Shape := ⟨4, ![1, 1, 1024, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1024x1408, .bf16⟩
  | .local _ .vmem, ⟨5, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x1024 : Shape := ⟨2, ![4096, 1024]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S4096x1024, .f32⟩
  | .hbm, ⟨3, _⟩ => ⟨S4x1x1024x1408, .f32⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S4096x5632, .f32⟩
  | .hbm, ⟨8, _⟩ => ⟨S4096x2816, .f32⟩
  | .hbm, ⟨9, _⟩ => ⟨S4096x2816, .f32⟩
  | .hbm, ⟨10, _⟩ => ⟨S1x4096x2816, .f32⟩
  | .hbm, ⟨11, _⟩ => ⟨S1x4096x2816, .f32⟩
  | .hbm, ⟨12, _⟩ => ⟨S2x4096x2816, .f32⟩
  | .hbm, ⟨13, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Proj.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OProj.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvProj.lean ====
abbrev S4096x1024 : Shape := ⟨2, ![4096, 1024]⟩
abbrev S4x1x1024x512 : Shape := ⟨4, ![4, 1, 1024, 512]⟩
abbrev S2x4096x1024 : Shape := ⟨3, ![2, 4096, 1024]⟩
abbrev S1024x1024 : Shape := ⟨2, ![1024, 1024]⟩
abbrev S1x1x1024x512 : Shape := ⟨4, ![1, 1, 1024, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x512, .bf16⟩
  | .hbm, ⟨2, _⟩ => ⟨S2x4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1024x512, .bf16⟩
  | .local _ .vmem, ⟨5, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjRefIdeal.lean ====
abbrev S4096x1024 : Shape := ⟨2, ![4096, 1024]⟩
abbrev S4x1x1024x512 : Shape := ⟨4, ![4, 1, 1024, 512]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩
abbrev S1x4096x1024 : Shape := ⟨3, ![1, 4096, 1024]⟩
abbrev S2x4096x1024 : Shape := ⟨3, ![2, 4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x512, .bf16⟩
  | .hbm, ⟨2, _⟩ => ⟨S4096x1024, .f32⟩
  | .hbm, ⟨3, _⟩ => ⟨S4x1x1024x512, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S1x4096x1024, .f32⟩
  | .hbm, ⟨11, _⟩ => ⟨S1x4096x1024, .f32⟩
  | .hbm, ⟨12, _⟩ => ⟨S2x4096x1024, .f32⟩
  | .hbm, ⟨13, _⟩ => ⟨S2x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== GluProj.lean ====
abbrev S4096x1024 : Shape := ⟨2, ![4096, 1024]⟩
abbrev S4x1024x512 : Shape := ⟨3, ![4, 1024, 512]⟩
abbrev S4096x2048 : Shape := ⟨2, ![4096, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluProjRefIdeal.lean ====
abbrev S4096x1024 : Shape := ⟨2, ![4096, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x1024, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GluBwd.lean ====
abbrev S4096x2048 : Shape := ⟨2, ![4096, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluBwdRefIdeal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== GluFwd.lean ====
abbrev S4096x2048 : Shape := ⟨2, ![4096, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GluFwdRefIdeal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== NormFirst.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFirstRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormAdd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormAddRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== NormTwo.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormTwoRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== NormFirstDx.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v19 : BitVec 32 := Scalar.extui v12
  let c0_i32_10 : BitVec 32 := 0#32
  let v20 : BitVec 1 := Scalar.cmpi .ne v19 c0_i32_10
  v20

def k0_cond2 (i : grid0.Coords) : BitVec 1 :=
  let arg0 : BitVec 32 := BitVec.ofNat 32 (i 0).val
  let c0_i32 : BitVec 32 := 0#32
  let v12 : BitVec 1 := Scalar.cmpi .eq arg0 c0_i32
  let v_true : BitVec 1 := 1#1
  let v21 : BitVec 1 := Scalar.xori v12 v_true
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormFirstDxRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== NormAddDx.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v19 : BitVec 32 := Scalar.extui v12
  let c0_i32_10 : BitVec 32 := 0#32
  let v20 : BitVec 1 := Scalar.cmpi .ne v19 c0_i32_10
  v20

def k0_cond2 (i : grid0.Coords) : BitVec 1 :=
  let arg0 : BitVec 32 := BitVec.ofNat 32 (i 0).val
  let c0_i32 : BitVec 32 := 0#32
  let v12 : BitVec 1 := Scalar.cmpi .eq arg0 c0_i32
  let v_true : BitVec 1 := 1#1
  let v21 : BitVec 1 := Scalar.xori v12 v_true
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormAddDxRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormTwoDx.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v19 : BitVec 32 := Scalar.extui v12
  let c0_i32_10 : BitVec 32 := 0#32
  let v20 : BitVec 1 := Scalar.cmpi .ne v19 c0_i32_10
  v20

def k0_cond2 (i : grid0.Coords) : BitVec 1 :=
  let arg0 : BitVec 32 := BitVec.ofNat 32 (i 0).val
  let c0_i32 : BitVec 32 := 0#32
  let v12 : BitVec 1 := Scalar.cmpi .eq arg0 c0_i32
  let v_true : BitVec 1 := 1#1
  let v21 : BitVec 1 := Scalar.xori v12 v_true
  let v22 : BitVec 32 := Scalar.extui v21
  let c0_i32_11 : BitVec 32 := 0#32
  let v23 : BitVec 1 := Scalar.cmpi .ne v22 c0_i32_11
  v23

def k0_cond3 (i : grid0.Coords) : BitVec 1 :=
  let arg0 : BitVec 32 := BitVec.ofNat 32 (i 0).val
  let c0_i32 : BitVec 32 := 0#32
  let v12 : BitVec 1 := Scalar.cmpi .eq arg0 c0_i32
  let v43 : BitVec 32 := Scalar.extui v12
  let c0_i32_19 : BitVec 32 := 0#32
  let v44 : BitVec 1 := Scalar.cmpi .ne v43 c0_i32_19
  v44

def k0_cond4 (i : grid0.Coords) : BitVec 1 :=
  let arg0 : BitVec 32 := BitVec.ofNat 32 (i 0).val
  let c0_i32 : BitVec 32 := 0#32
  let v12 : BitVec 1 := Scalar.cmpi .eq arg0 c0_i32
  let true_20 : BitVec 1 := 1#1
  let v45 : BitVec 1 := Scalar.xori v12 true_20
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NormTwoDxRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S1x1024, .f32⟩
  | .hbm, ⟨99, _⟩ => ⟨S1x1024, .f32⟩
  | .hbm, ⟨100, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S8x128, .f32⟩
  | .hbm, ⟨6, _⟩ => ⟨S4096x1024, .f32⟩
  | .hbm, ⟨7, _⟩ => ⟨S1x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_21 : BitVec 32 := 0#32
  let v50 : BitVec 1 := Scalar.cmpi .ne v49 c0_i32_21
  v50

def k0_cond2 (i : grid0.Coords) : BitVec 1 :=
  let arg0 : BitVec 32 := BitVec.ofNat 32 (i 0).val
  let c0_i32 : BitVec 32 := 0#32
  let v48 : BitVec 1 := Scalar.cmpi .eq arg0 c0_i32
  let v_true : BitVec 1 := 1#1
  let v51 : BitVec 1 := Scalar.xori v48 v_true
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S8x128, .f32⟩
  | .hbm, ⟨74, _⟩ => ⟨S1x1024, .f32⟩
  | .hbm, ⟨75, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== DiscBwd.lean ====
abbrev S1x4096 : Shape := ⟨2, ![1, 4096]⟩
abbrev S16x4096 : Shape := ⟨2, ![16, 4096]⟩
abbrev S4096 : Shape := ⟨1, ![4096]⟩

abbrev nBuf : Space → Nat
  | .hbm => 14
  | .vmem => 14
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S16x4096, .f32⟩
  | .hbm, ⟨4, _⟩ => ⟨S16x4096, .f32⟩
  | .hbm, ⟨5, _⟩ => ⟨S1x4096, .f32⟩
  | .hbm, ⟨6, _⟩ => ⟨S1x4096, .f32⟩
  | .hbm, ⟨7, _⟩ => ⟨S16x4096, .f32⟩
  | .hbm, ⟨8, _⟩ => ⟨S16x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S16x4096, .f32⟩
  | .hbm, ⟨13, _⟩ => ⟨S16x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S16x4096, .f32⟩
  | .local _ .vmem, ⟨4, _⟩ => ⟨S16x4096, .f32⟩
  | .local _ .vmem, ⟨5, _⟩ => ⟨S1x4096, .f32⟩
  | .local _ .vmem, ⟨6, _⟩ => ⟨S1x4096, .f32⟩
  | .local _ .vmem, ⟨7, _⟩ => ⟨S16x4096, .f32⟩
  | .local _ .vmem, ⟨8, _⟩ => ⟨S16x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S16x4096, .f32⟩
  | .local _ .vmem, ⟨13, _⟩ => ⟨S16x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== DiscBwdRefIdeal.lean ====
abbrev S1x4096 : Shape := ⟨2, ![1, 4096]⟩
abbrev S16x4096 : Shape := ⟨2, ![16, 4096]⟩
abbrev S_ : Shape := ⟨0, ![]⟩
abbrev S4096 : Shape := ⟨1, ![4096]⟩

abbrev nBuf : Space → Nat
  | .hbm => 140
  | .vmem => 0
  | .smem => 0
  | _ => 0

abbrev hbmTy0_0 (i : Nat) : BufTy := match i % 128 with
  | 0 => ⟨S1x4096, .f32⟩
  | 1 => ⟨S1x4096, .f32⟩
  | 2 => ⟨S1x4096, .f32⟩
  | 3 => ⟨S16x4096, .f32⟩
  | 4 => ⟨S16x4096, .f32⟩
  | 5 => ⟨S1x4096, .f32⟩
  | 6 => ⟨S1x4096, .f32⟩
  | 7 => ⟨S16x4096, .f32⟩
  | 8 => ⟨S16x4096, .f32⟩
  | 9 => ⟨S1x4096, .f32⟩
  | 10 => ⟨S1x4096, .f32⟩
  | 11 => ⟨S1x4096, .f32⟩
  | 12 => ⟨S1x4096, .f32⟩
  | 13 => ⟨S1x4096, .f32⟩
  | 14 => ⟨S1x4096, .f32⟩
  | 15 => ⟨S1x4096, .f32⟩
  | 16 => ⟨S1x4096, .f32⟩
  | 17 => ⟨S1x4096, .f32⟩
  | 18 => ⟨S1x4096, .f32⟩
  | 19 => ⟨S1x4096, .f32⟩
  | 20 => ⟨S1x4096, .f32⟩
  | 21 => ⟨S1x4096, .f32⟩
  | 22 => ⟨S1x4096, .f32⟩
  | 23 => ⟨S_, .f32⟩
  | 24 => ⟨S1x4096, .f32⟩
  | 25 => ⟨S1x4096, .f32⟩
  | 26 => ⟨S1x4096, .f32⟩
  | 27 => ⟨S1x4096, .f32⟩
  | 28 => ⟨S1x4096, .f32⟩
  | 29 => ⟨S1x4096, .f32⟩
  | 30 => ⟨S1x4096, .f32⟩
  | 31 => ⟨S_, .f32⟩
  | 32 => ⟨S1x4096, .f32⟩
  | 33 => ⟨S1x4096, .f32⟩
  | 34 => ⟨S1x4096, .f32⟩
  | 35 => ⟨S_, .f32⟩
  | 36 => ⟨S1x4096, .f32⟩
  | 37 => ⟨S1x4096, .f32⟩
  | 38 => ⟨S1x4096, .f32⟩
  | 39 => ⟨S1x4096, .f32⟩
  | 40 => ⟨S1x4096, .f32⟩
  | 41 => ⟨S1x4096, .f32⟩
  | 42 => ⟨S_, .f32⟩
  | 43 => ⟨S1x4096, .f32⟩
  | 44 => ⟨S1x4096, .f32⟩
  | 45 => ⟨S16x4096, .f32⟩
  | 46 => ⟨S16x4096, .f32⟩
  | 47 => ⟨S16x4096, .f32⟩
  | 48 => ⟨S16x4096, .f32⟩
  | 49 => ⟨S16x4096, .f32⟩
  | 50 => ⟨S16x4096, .f32⟩
  | 51 => ⟨S16x4096, .f32⟩
  | 52 => ⟨S16x4096, .f32⟩
  | 53 => ⟨S16x4096, .f32⟩
  | 54 => ⟨S16x4096, .f32⟩
  | 55 => ⟨S16x4096, .f32⟩
  | 56 => ⟨S16x4096, .f32⟩
  | 57 => ⟨S16x4096, .f32⟩
  | 58 => ⟨S16x4096, .f32⟩
  | 59 => ⟨S16x4096, .f32⟩
  | 60 => ⟨S_, .f32⟩
  | 61 => ⟨S4096, .f32⟩
  | 62 => ⟨S1x4096, .f32⟩
  | 63 => ⟨S16x4096, .f32⟩
  | 64 => ⟨S16x4096, .f32⟩
  | 65 => ⟨S16x4096, .f32⟩
  | 66 => ⟨S_, .f32⟩
  | 67 => ⟨S4096, .f32⟩
  | 68 => ⟨S1x4096, .f32⟩
  | 69 => ⟨S16x4096, .f32⟩
  | 70 => ⟨S16x4096, .f32⟩
  | 71 => ⟨S16x4096, .f32⟩
  | 72 => ⟨S16x4096, .f32⟩
  | 73 => ⟨S16x4096, .f32⟩
  | 74 => ⟨S16x4096, .f32⟩
  | 75 => ⟨S_, .f32⟩
  | 76 => ⟨S4096, .f32⟩
  | 77 => ⟨S1x4096, .f32⟩
  | 78 => ⟨S1x4096, .f32⟩
  | 79 => ⟨S16x4096, .f32⟩
  | 80 => ⟨S16x4096, .f32⟩
  | 81 => ⟨S16x4096, .f32⟩
  | 82 => ⟨S16x4096, .f32⟩
  | 83 => ⟨S_, .f32⟩
  | 84 => ⟨S4096, .f32⟩
  | 85 => ⟨S1x4096, .f32⟩
  | 86 => ⟨S1x4096, .f32⟩
  | 87 => ⟨S1x4096, .f32⟩
  | 88 => ⟨S1x4096, .f32⟩
  | 89 => ⟨S1x4096, .f32⟩
  | 90 => ⟨S1x4096, .f32⟩
  | 91 => ⟨S1x4096, .f32⟩
  | 92 => ⟨S1x4096, .f32⟩
  | 93 => ⟨S1x4096, .f32⟩
  | 94 => ⟨S1x4096, .f32⟩
  | 95 => ⟨S1x4096, .f32⟩
  | 96 => ⟨S1x4096, .f32⟩
  | 97 => ⟨S1x4096, .f32⟩
  | 98 => ⟨S1x4096, .f32⟩
  | 99 => ⟨S1x4096, .f32⟩
  | 100 => ⟨S1x4096, .f32⟩
  | 101 => ⟨S1x4096, .f32⟩
  | 102 => ⟨S1x4096, .f32⟩
  | 103 => ⟨S1x4096, .f32⟩
  | 104 => ⟨S1x4096, .f32⟩
  | 105 => ⟨S1x4096, .f32⟩
  | 106 => ⟨S1x4096, .f32⟩
  | 107 => ⟨S1x4096, .f32⟩
  | 108 => ⟨S1x4096, .f32⟩
  | 109 => ⟨S1x4096, .f32⟩
  | 110 => ⟨S1x4096, .f32⟩
  | 111 => ⟨S1x4096, .f32⟩
  | 112 => ⟨S1x4096, .f32⟩
  | 113 => ⟨S1x4096, .f32⟩
  | 114 => ⟨S1x4096, .f32⟩
  | 115 => ⟨S1x4096, .f32⟩
  | 116 => ⟨S1x4096, .f32⟩
  | 117 => ⟨S1x4096, .f32⟩
  | 118 => ⟨S1x4096, .f32⟩
  | 119 => ⟨S1x4096, .f32⟩
  | 120 => ⟨S1x4096, .f32⟩
  | 121 => ⟨S1x4096, .f32⟩
  | 122 => ⟨S1x4096, .f32⟩
  | 123 => ⟨S1x4096, .f32⟩
  | 124 => ⟨S1x4096, .f32⟩
  | 125 => ⟨S1x4096, .f32⟩
  | 126 => ⟨S1x4096, .f32⟩
  | 127 => ⟨S1x4096, .f32⟩
  | _ => ⟨S1x4096, .f32⟩

abbrev hbmTy0_1 (i : Nat) : BufTy := match i % 128 with
  | 0 => ⟨S1x4096, .f32⟩
  | 1 => ⟨S1x4096, .f32⟩
  | 2 => ⟨S1x4096, .f32⟩
  | 3 => ⟨S1x4096, .f32⟩
  | 4 => ⟨S1x4096, .f32⟩
  | 5 => ⟨S1x4096, .f32⟩
  | 6 => ⟨S1x4096, .f32⟩
  | 7 => ⟨S1x4096, .f32⟩
  | 8 => ⟨S1x4096, .f32⟩
  | 9 => ⟨S1x4096, .f32⟩
  | 10 => ⟨S1x4096, .f32⟩
  | 11 => ⟨S1x4096, .f32⟩
  | _ => ⟨S1x4096, .f32⟩

abbrev hbmTy (i : Nat) : BufTy := match i / 128 with
  | 0 => hbmTy0_0 i
  | 1 => hbmTy0_1 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_6 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩

abbrev nD : Nat := 1
abbrev τ : Topo := Topo.v7x

variable {F : FTy → Type} [FloatOps F]
-- ==== Disc.lean ====
abbrev S1x4096 : Shape := ⟨2, ![1, 4096]⟩
abbrev S16x4096 : Shape := ⟨2, ![16, 4096]⟩

abbrev nBuf : Space → Nat
  | .hbm => 9
  | .vmem => 9
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S16x4096, .f32⟩
  | .hbm, ⟨4, _⟩ => ⟨S16x4096, .f32⟩
  | .hbm, ⟨5, _⟩ => ⟨S1x4096, .f32⟩
  | .hbm, ⟨6, _⟩ => ⟨S1x4096, .f32⟩
  | .hbm, ⟨7, _⟩ => ⟨S16x4096, .f32⟩
  | .hbm, ⟨8, _⟩ => ⟨S16x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S16x4096, .f32⟩
  | .local _ .vmem, ⟨4, _⟩ => ⟨S16x4096, .f32⟩
  | .local _ .vmem, ⟨5, _⟩ => ⟨S1x4096, .f32⟩
  | .local _ .vmem, ⟨6, _⟩ => ⟨S1x4096, .f32⟩
  | .local _ .vmem, ⟨7, _⟩ => ⟨S16x4096, .f32⟩
  | .local _ .vmem, ⟨8, _⟩ => ⟨S16x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DiscRefIdeal.lean ====
abbrev S1x4096 : Shape := ⟨2, ![1, 4096]⟩
abbrev S16x4096 : Shape := ⟨2, ![16, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S16x4096, .f32⟩
  | .hbm, ⟨4, _⟩ => ⟨S16x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S_, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S16x4096, .f32⟩
  | .hbm, ⟨32, _⟩ => ⟨S16x4096, .f32⟩
  | .hbm, ⟨33, _⟩ => ⟨S16x4096, .f32⟩
  | .hbm, ⟨34, _⟩ => ⟨S16x4096, .f32⟩
  | .hbm, ⟨35, _⟩ => ⟨S16x4096, .f32⟩
  | .hbm, ⟨36, _⟩ => ⟨S16x4096, .f32⟩
  | .hbm, ⟨37, _⟩ => ⟨S16x4096, .f32⟩
  | .hbm, ⟨38, _⟩ => ⟨S16x4096, .f32⟩
  | .hbm, ⟨39, _⟩ => ⟨S16x4096, .f32⟩
  | .hbm, ⟨40, _⟩ => ⟨S16x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== FfnGate.lean ====
abbrev S2x4096x2816 : Shape := ⟨3, ![2, 4096, 2816]⟩
abbrev S3x2816 : Shape := ⟨2, ![3, 2816]⟩
abbrev S1x2816 : Shape := ⟨2, ![1, 2816]⟩
abbrev S4096x2816 : Shape := ⟨2, ![4096, 2816]⟩
abbrev S2x4096x128 : Shape := ⟨3, ![2, 4096, 128]⟩
abbrev S3x128 : Shape := ⟨2, ![3, 128]⟩
abbrev S1x128 : Shape := ⟨2, ![1, 128]⟩
abbrev S4096x128 : Shape := ⟨2, ![4096, 128]⟩
abbrev S1x4096x128 : Shape := ⟨3, ![1, 4096, 128]⟩
abbrev S16x128 : Shape := ⟨2, ![16, 128]⟩
abbrev S4112x128 : Shape := ⟨2, ![4112, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x2816, .bf16⟩
  | .hbm, ⟨1, _⟩ => ⟨S3x2816, .f32⟩
  | .hbm, ⟨2, _⟩ => ⟨S1x2816, .f32⟩
  | .hbm, ⟨3, _⟩ => ⟨S4096x2816, .bf16⟩
  | .local _ .vmem, ⟨0, _⟩ => ⟨S2x4096x128, .bf16⟩
  | .local _ .vmem, ⟨1, _⟩ => ⟨S2x4096x128, .bf16⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S4096x128, .bf16⟩
  | .local _ .vmem, ⟨7, _⟩ => ⟨S4096x128, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnGateRefIdeal.lean ====
abbrev S2x4096x2816 : Shape := ⟨3, ![2, 4096, 2816]⟩
abbrev S3x2816 : Shape := ⟨2, ![3, 2816]⟩
abbrev S1x2816 : Shape := ⟨2, ![1, 2816]⟩
abbrev S1x4096x2816 : Shape := ⟨3, ![1, 4096, 2816]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S3x2816, .f32⟩
  | .hbm, ⟨2, _⟩ => ⟨S1x2816, .f32⟩
  | .hbm, ⟨3, _⟩ => ⟨S2x4096x2816, .f32⟩
  | .hbm, ⟨4, _⟩ => ⟨S1x4096x2816, .f32⟩
  | .hbm, ⟨5, _⟩ => ⟨S4096x2816, .f32⟩
  | .hbm, ⟨6, _⟩ => ⟨S1x4096x2816, .f32⟩
  | .hbm, ⟨7, _⟩ => ⟨S4096x2816, .f32⟩
  | .hbm, ⟨8, _⟩ => ⟨S_, .f32⟩
  | .hbm, ⟨9, _⟩ => ⟨S2x2816, .f32⟩
  | .hbm, ⟨10, _⟩ => ⟨S4098x2816, .f32⟩
  | .hbm, ⟨11, _⟩ => ⟨S4096x2816, .f32⟩
  | .hbm, ⟨12, _⟩ => ⟨S1x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S1x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== AdamNorms.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRows.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowsIdeal.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowsRefIdeal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamA.lean ====
abbrev S1x64x64 : Shape := ⟨3, ![1, 64, 64]⟩
abbrev S64x64 : Shape := ⟨2, ![64, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAIdeal.lean ====
abbrev S1x64x64 : Shape := ⟨3, ![1, 64, 64]⟩
abbrev S64x64 : Shape := ⟨2, ![64, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamARefIdeal.lean ====
abbrev S1x64x64 : Shape := ⟨3, ![1, 64, 64]⟩
abbrev S_ : Shape := ⟨0, ![]⟩
abbrev S64x64 : Shape := ⟨2, ![64, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S_, .f32⟩
  | .hbm, ⟨5, _⟩ => ⟨S1x64x64, .f32⟩
  | .hbm, ⟨6, _⟩ => ⟨S1x64x64, .f32⟩
  | .hbm, ⟨7, _⟩ => ⟨S_, .f32⟩
  | .hbm, ⟨8, _⟩ => ⟨S1x64x64, .f32⟩
  | .hbm, ⟨9, _⟩ => ⟨S1x64x64, .f32⟩
  | .hbm, ⟨10, _⟩ => ⟨S1x64x64, .f32⟩
  | .hbm, ⟨11, _⟩ => ⟨S_, .f32⟩
  | .hbm, ⟨12, _⟩ => ⟨S1x64x64, .f32⟩
  | .hbm, ⟨13, _⟩ => ⟨S1x64x64, .f32⟩
  | .hbm, ⟨14, _⟩ => ⟨S1x64x64, .f32⟩
  | .hbm, ⟨15, _⟩ => ⟨S_, .f32⟩
  | .hbm, ⟨16, _⟩ => ⟨S1x64x64, .f32⟩
  | .hbm, ⟨17, _⟩ => ⟨S1x64x64, .f32⟩
  | .hbm, ⟨18, _⟩ => ⟨S1x64x64, .f32⟩
  | .hbm, ⟨19, _⟩ => ⟨S_, .f32⟩
  | .hbm, ⟨20, _⟩ => ⟨S1x64x64, .f32⟩
  | .hbm, ⟨21, _⟩ => ⟨S1x64x64, .f32⟩
  | .hbm, ⟨22, _⟩ => ⟨S_, .f32⟩
  | .hbm, ⟨23, _⟩ => ⟨S1x64x64, .f32⟩
  | .hbm, ⟨24, _⟩ => ⟨S1x64x64, .f32⟩
  | .hbm, ⟨25, _⟩ => ⟨S1x64x64, .f32⟩
  | .hbm, ⟨26, _⟩ => ⟨S_, .f32⟩
  | .hbm, ⟨27, _⟩ => ⟨S1x64x64, .f32⟩
  | .hbm, ⟨28, _⟩ => ⟨S1x64x64, .f32⟩
  | .hbm, ⟨29, _⟩ => ⟨S1x64x64, .f32⟩
  | .hbm, ⟨30, _⟩ => ⟨S_, .f32⟩
  | .hbm, ⟨31, _⟩ => ⟨S1x64x64, .f32⟩
  | .hbm, ⟨32, _⟩ => ⟨S1x64x64, .f32⟩
  | .hbm, ⟨33, _⟩ => ⟨S1x64x64, .f32⟩
  | .hbm, ⟨34, _⟩ => ⟨S_, .f32⟩
  | .hbm, ⟨35, _⟩ => ⟨S1x64x64, .f32⟩
  | .hbm, ⟨36, _⟩ => ⟨S1x64x64, .f32⟩
  | .hbm, ⟨37, _⟩ => ⟨S64x64, .f32⟩
  | .hbm, ⟨38, _⟩ => ⟨S64x64, .f32⟩
  | .hbm, ⟨39, _⟩ => ⟨S64x64, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDt.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDtIdeal.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDtRefIdeal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamB.lean ====
abbrev S1x64x64x16 : Shape := ⟨4, ![1, 64, 64, 16]⟩
abbrev S4096x16 : Shape := ⟨2, ![4096, 16]⟩
abbrev S512x16 : Shape := ⟨2, ![512, 16]⟩

abbrev nBuf : Space → Nat
  | .hbm => 11
  | .vmem => 14
  | .smem => 0
  | _ => 0

abbrev bufTy : (tb : Table) → Fin (tcTables nBuf tb) → BufTy
  | .hbm, ⟨0, _⟩ => ⟨S1x64x64x16, .f32⟩
  | .hbm, ⟨1, _⟩ => ⟨S1x64x64x16, .f32⟩
  | .hbm, ⟨2, _⟩ => ⟨S1x64x64x16, .f32⟩
  | .hbm, ⟨3, _⟩ => ⟨S1x64x64x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | _, _ => ⟨S1x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBIdeal.lean ====
abbrev S1x64x64x16 : Shape := ⟨4, ![1, 64, 64, 16]⟩
abbrev S4096x16 : Shape := ⟨2, ![4096, 16]⟩
abbrev S512x16 : Shape := ⟨2, ![512, 16]⟩

abbrev nBuf : Space → Nat
  | .hbm => 11
  | .vmem => 14
  | .smem => 0
  | _ => 0

abbrev bufTy : (tb : Table) → Fin (tcTables nBuf tb) → BufTy
  | .hbm, ⟨0, _⟩ => ⟨S1x64x64x16, .f32⟩
  | .hbm, ⟨1, _⟩ => ⟨S1x64x64x16, .f32⟩
  | .hbm, ⟨2, _⟩ => ⟨S1x64x64x16, .f32⟩
  | .hbm, ⟨3, _⟩ => ⟨S1x64x64x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | _, _ => ⟨S1x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBRefIdeal.lean ====
abbrev S1x64x64x16 : Shape := ⟨4, ![1, 64, 64, 16]⟩
abbrev S_ : Shape := ⟨0, ![]⟩
abbrev S4096x16 : Shape := ⟨2, ![4096, 16]⟩

abbrev nBuf : Space → Nat
  | .hbm => 40
  | .vmem => 0
  | .smem => 0
  | _ => 0

abbrev bufTy : (tb : Table) → Fin (tcTables nBuf tb) → BufTy
  | .hbm, ⟨0, _⟩ => ⟨S1x64x64x16, .f32⟩
  | .hbm, ⟨1, _⟩ => ⟨S1x64x64x16, .f32⟩
  | .hbm, ⟨2, _⟩ => ⟨S1x64x64x16, .f32⟩
  | .hbm, ⟨3, _⟩ => ⟨S1x64x64x16, .f32⟩
  | .hbm, ⟨4, _⟩ => ⟨S_, .f32⟩
  | .hbm, ⟨5, _⟩ => ⟨S1x64x64x16, .f32⟩
  | .hbm, ⟨6, _⟩ => ⟨S1x64x64x16, .f32⟩
  | .hbm, ⟨7, _⟩ => ⟨S_, .f32⟩
  | .hbm, ⟨8, _⟩ => ⟨S1x64x64x16, .f32⟩
  | .hbm, ⟨9, _⟩ => ⟨S1x64x64x16, .f32⟩
  | .hbm, ⟨10, _⟩ => ⟨S1x64x64x16, .f32⟩
  | .hbm, ⟨11, _⟩ => ⟨S_, .f32⟩
  | .hbm, ⟨12, _⟩ => ⟨S1x64x64x16, .f32⟩
  | .hbm, ⟨13, _⟩ => ⟨S1x64x64x16, .f32⟩
  | .hbm, ⟨14, _⟩ => ⟨S1x64x64x16, .f32⟩
  | .hbm, ⟨15, _⟩ => ⟨S_, .f32⟩
  | .hbm, ⟨16, _⟩ => ⟨S1x64x64x16, .f32⟩
  | .hbm, ⟨17, _⟩ => ⟨S1x64x64x16, .f32⟩
  | .hbm, ⟨18, _⟩ => ⟨S1x64x64x16, .f32⟩
  | .hbm, ⟨19, _⟩ => ⟨S_, .f32⟩
  | .hbm, ⟨20, _⟩ => ⟨S1x64x64x16, .f32⟩
  | .hbm, ⟨21, _⟩ => ⟨S1x64x64x16, .f32⟩
  | .hbm, ⟨22, _⟩ => ⟨S_, .f32⟩
  | .hbm, ⟨23, _⟩ => ⟨S1x64x64x16, .f32⟩
  | .hbm, ⟨24, _⟩ => ⟨S1x64x64x16, .f32⟩
  | .hbm, ⟨25, _⟩ => ⟨S1x64x64x16, .f32⟩
  | .hbm, ⟨26, _⟩ => ⟨S_, .f32⟩
  | .hbm, ⟨27, _⟩ => ⟨S1x64x64x16, .f32⟩
  | .hbm, ⟨28, _⟩ => ⟨S1x64x64x16, .f32⟩
  | .hbm, ⟨29, _⟩ => ⟨S1x64x64x16, .f32⟩
  | .hbm, ⟨30, _⟩ => ⟨S_, .f32⟩
  | .hbm, ⟨31, _⟩ => ⟨S1x64x64x16, .f32⟩
  | .hbm, ⟨32, _⟩ => ⟨S1x64x64x16, .f32⟩
  | .hbm, ⟨33, _⟩ => ⟨S1x64x64x16, .f32⟩
  | .hbm, ⟨34, _⟩ => ⟨S_, .f32⟩
  | .hbm, ⟨35, _⟩ => ⟨S1x64x64x16, .f32⟩
  | .hbm, ⟨36, _⟩ => ⟨S1x64x64x16, .f32⟩
  | .hbm, ⟨37, _⟩ => ⟨S4096x16, .f32⟩
  | .hbm, ⟨38, _⟩ => ⟨S4096x16, .f32⟩
  | .hbm, ⟨39, _⟩ => ⟨S4096x16, .f32⟩
  | _, _ => ⟨S1x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamC.lean ====
abbrev S1x64x16x64 : Shape := ⟨4, ![1, 64, 16, 64]⟩
abbrev S1024x64 : Shape := ⟨2, ![1024, 64]⟩
abbrev S512x64 : Shape := ⟨2, ![512, 64]⟩

abbrev nBuf : Space → Nat
  | .hbm => 11
  | .vmem => 14
  | .smem => 0
  | _ => 0

abbrev bufTy : (tb : Table) → Fin (tcTables nBuf tb) → BufTy
  | .hbm, ⟨0, _⟩ => ⟨S1x64x16x64, .f32⟩
  | .hbm, ⟨1, _⟩ => ⟨S1x64x16x64, .f32⟩
  | .hbm, ⟨2, _⟩ => ⟨S1x64x16x64, .f32⟩
  | .hbm, ⟨3, _⟩ => ⟨S1x64x16x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S1x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCIdeal.lean ====
abbrev S1x64x16x64 : Shape := ⟨4, ![1, 64, 16, 64]⟩
abbrev S1024x64 : Shape := ⟨2, ![1024, 64]⟩
abbrev S512x64 : Shape := ⟨2, ![512, 64]⟩

abbrev nBuf : Space → Nat
  | .hbm => 11
  | .vmem => 14
  | .smem => 0
  | _ => 0

abbrev bufTy : (tb : Table) → Fin (tcTables nBuf tb) → BufTy
  | .hbm, ⟨0, _⟩ => ⟨S1x64x16x64, .f32⟩
  | .hbm, ⟨1, _⟩ => ⟨S1x64x16x64, .f32⟩
  | .hbm, ⟨2, _⟩ => ⟨S1x64x16x64, .f32⟩
  | .hbm, ⟨3, _⟩ => ⟨S1x64x16x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S1x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCRefIdeal.lean ====
abbrev S1x64x16x64 : Shape := ⟨4, ![1, 64, 16, 64]⟩
abbrev S_ : Shape := ⟨0, ![]⟩
abbrev S1024x64 : Shape := ⟨2, ![1024, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x64x16x64, .f32⟩
  | .hbm, ⟨1, _⟩ => ⟨S1x64x16x64, .f32⟩
  | .hbm, ⟨2, _⟩ => ⟨S1x64x16x64, .f32⟩
  | .hbm, ⟨3, _⟩ => ⟨S1x64x16x64, .f32⟩
  | .hbm, ⟨4, _⟩ => ⟨S_, .f32⟩
  | .hbm, ⟨5, _⟩ => ⟨S1x64x16x64, .f32⟩
  | .hbm, ⟨6, _⟩ => ⟨S1x64x16x64, .f32⟩
  | .hbm, ⟨7, _⟩ => ⟨S_, .f32⟩
  | .hbm, ⟨8, _⟩ => ⟨S1x64x16x64, .f32⟩
  | .hbm, ⟨9, _⟩ => ⟨S1x64x16x64, .f32⟩
  | .hbm, ⟨10, _⟩ => ⟨S1x64x16x64, .f32⟩
  | .hbm, ⟨11, _⟩ => ⟨S_, .f32⟩
  | .hbm, ⟨12, _⟩ => ⟨S1x64x16x64, .f32⟩
  | .hbm, ⟨13, _⟩ => ⟨S1x64x16x64, .f32⟩
  | .hbm, ⟨14, _⟩ => ⟨S1x64x16x64, .f32⟩
  | .hbm, ⟨15, _⟩ => ⟨S_, .f32⟩
  | .hbm, ⟨16, _⟩ => ⟨S1x64x16x64, .f32⟩
  | .hbm, ⟨17, _⟩ => ⟨S1x64x16x64, .f32⟩
  | .hbm, ⟨18, _⟩ => ⟨S1x64x16x64, .f32⟩
  | .hbm, ⟨19, _⟩ => ⟨S_, .f32⟩
  | .hbm, ⟨20, _⟩ => ⟨S1x64x16x64, .f32⟩
  | .hbm, ⟨21, _⟩ => ⟨S1x64x16x64, .f32⟩
  | .hbm, ⟨22, _⟩ => ⟨S_, .f32⟩
  | .hbm, ⟨23, _⟩ => ⟨S1x64x16x64, .f32⟩
  | .hbm, ⟨24, _⟩ => ⟨S1x64x16x64, .f32⟩
  | .hbm, ⟨25, _⟩ => ⟨S1x64x16x64, .f32⟩
  | .hbm, ⟨26, _⟩ => ⟨S_, .f32⟩
  | .hbm, ⟨27, _⟩ => ⟨S1x64x16x64, .f32⟩
  | .hbm, ⟨28, _⟩ => ⟨S1x64x16x64, .f32⟩
  | .hbm, ⟨29, _⟩ => ⟨S1x64x16x64, .f32⟩
  | .hbm, ⟨30, _⟩ => ⟨S_, .f32⟩
  | .hbm, ⟨31, _⟩ => ⟨S1x64x16x64, .f32⟩
  | .hbm, ⟨32, _⟩ => ⟨S1x64x16x64, .f32⟩
  | .hbm, ⟨33, _⟩ => ⟨S1x64x16x64, .f32⟩
  | .hbm, ⟨34, _⟩ => ⟨S_, .f32⟩
  | .hbm, ⟨35, _⟩ => ⟨S1x64x16x64, .f32⟩
  | .hbm, ⟨36, _⟩ => ⟨S1x64x16x64, .f32⟩
  | .hbm, ⟨37, _⟩ => ⟨S1024x64, .f32⟩
  | .hbm, ⟨38, _⟩ => ⟨S1024x64, .f32⟩
  | .hbm, ⟨39, _⟩ => ⟨S1024x64, .f32⟩
  | _, _ => ⟨S1x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamD.lean ====
abbrev S1x64x16 : Shape := ⟨3, ![1, 64, 16]⟩
abbrev S64x16 : Shape := ⟨2, ![64, 16]⟩

abbrev nBuf : Space → Nat
  | .hbm => 11
  | .vmem => 7
  | .smem => 0
  | _ => 0

abbrev bufTy : (tb : Table) → Fin (tcTables nBuf tb) → BufTy
  | .hbm, ⟨0, _⟩ => ⟨S1x64x16, .f32⟩
  | .hbm, ⟨1, _⟩ => ⟨S1x64x16, .f32⟩
  | .hbm, ⟨2, _⟩ => ⟨S1x64x16, .f32⟩
  | .hbm, ⟨3, _⟩ => ⟨S1x64x16, .f32⟩
  | .hbm, ⟨4, _⟩ => ⟨S64x16, .f32⟩
  | .hbm, ⟨5, _⟩ => ⟨S64x16, .f32⟩
  | .hbm, ⟨6, _⟩ => ⟨S64x16, .f32⟩
  | .hbm, ⟨7, _⟩ => ⟨S64x16, .f32⟩
  | .hbm, ⟨8, _⟩ => ⟨S64x16, .f32⟩
  | .hbm, ⟨9, _⟩ => ⟨S64x16, .f32⟩
  | .hbm, ⟨10, _⟩ => ⟨S64x16, .f32⟩
  | .local _ .vmem, ⟨0, _⟩ => ⟨S64x16, .f32⟩
  | .local _ .vmem, ⟨1, _⟩ => ⟨S64x16, .f32⟩
  | .local _ .vmem, ⟨2, _⟩ => ⟨S64x16, .f32⟩
  | .local _ .vmem, ⟨3, _⟩ => ⟨S64x16, .f32⟩
  | .local _ .vmem, ⟨4, _⟩ => ⟨S64x16, .f32⟩
  | .local _ .vmem, ⟨5, _⟩ => ⟨S64x16, .f32⟩
  | .local _ .vmem, ⟨6, _⟩ => ⟨S64x16, .f32⟩
  | _, _ => ⟨S1x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDIdeal.lean ====
abbrev S1x64x16 : Shape := ⟨3, ![1, 64, 16]⟩
abbrev S64x16 : Shape := ⟨2, ![64, 16]⟩

abbrev nBuf : Space → Nat
  | .hbm => 11
  | .vmem => 7
  | .smem => 0
  | _ => 0

abbrev bufTy : (tb : Table) → Fin (tcTables nBuf tb) → BufTy
  | .hbm, ⟨0, _⟩ => ⟨S1x64x16, .f32⟩
  | .hbm, ⟨1, _⟩ => ⟨S1x64x16, .f32⟩
  | .hbm, ⟨2, _⟩ => ⟨S1x64x16, .f32⟩
  | .hbm, ⟨3, _⟩ => ⟨S1x64x16, .f32⟩
  | .hbm, ⟨4, _⟩ => ⟨S64x16, .f32⟩
  | .hbm, ⟨5, _⟩ => ⟨S64x16, .f32⟩
  | .hbm, ⟨6, _⟩ => ⟨S64x16, .f32⟩
  | .hbm, ⟨7, _⟩ => ⟨S64x16, .f32⟩
  | .hbm, ⟨8, _⟩ => ⟨S64x16, .f32⟩
  | .hbm, ⟨9, _⟩ => ⟨S64x16, .f32⟩
  | .hbm, ⟨10, _⟩ => ⟨S64x16, .f32⟩
  | .local _ .vmem, ⟨0, _⟩ => ⟨S64x16, .f32⟩
  | .local _ .vmem, ⟨1, _⟩ => ⟨S64x16, .f32⟩
  | .local _ .vmem, ⟨2, _⟩ => ⟨S64x16, .f32⟩
  | .local _ .vmem, ⟨3, _⟩ => ⟨S64x16, .f32⟩
  | .local _ .vmem, ⟨4, _⟩ => ⟨S64x16, .f32⟩
  | .local _ .vmem, ⟨5, _⟩ => ⟨S64x16, .f32⟩
  | .local _ .vmem, ⟨6, _⟩ => ⟨S64x16, .f32⟩
  | _, _ => ⟨S1x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDRefIdeal.lean ====
abbrev S1x64x16 : Shape := ⟨3, ![1, 64, 16]⟩
abbrev S_ : Shape := ⟨0, ![]⟩
abbrev S64x16 : Shape := ⟨2, ![64, 16]⟩

abbrev nBuf : Space → Nat
  | .hbm => 40
  | .vmem => 0
  | .smem => 0
  | _ => 0

abbrev bufTy : (tb : Table) → Fin (tcTables nBuf tb) → BufTy
  | .hbm, ⟨0, _⟩ => ⟨S1x64x16, .f32⟩
  | .hbm, ⟨1, _⟩ => ⟨S1x64x16, .f32⟩
  | .hbm, ⟨2, _⟩ => ⟨S1x64x16, .f32⟩
  | .hbm, ⟨3, _⟩ => ⟨S1x64x16, .f32⟩
  | .hbm, ⟨4, _⟩ => ⟨S_, .f32⟩
  | .hbm, ⟨5, _⟩ => ⟨S1x64x16, .f32⟩
  | .hbm, ⟨6, _⟩ => ⟨S1x64x16, .f32⟩
  | .hbm, ⟨7, _⟩ => ⟨S_, .f32⟩
  | .hbm, ⟨8, _⟩ => ⟨S1x64x16, .f32⟩
  | .hbm, ⟨9, _⟩ => ⟨S1x64x16, .f32⟩
  | .hbm, ⟨10, _⟩ => ⟨S1x64x16, .f32⟩
  | .hbm, ⟨11, _⟩ => ⟨S_, .f32⟩
  | .hbm, ⟨12, _⟩ => ⟨S1x64x16, .f32⟩
  | .hbm, ⟨13, _⟩ => ⟨S1x64x16, .f32⟩
  | .hbm, ⟨14, _⟩ => ⟨S1x64x16, .f32⟩
  | .hbm, ⟨15, _⟩ => ⟨S_, .f32⟩
  | .hbm, ⟨16, _⟩ => ⟨S1x64x16, .f32⟩
  | .hbm, ⟨17, _⟩ => ⟨S1x64x16, .f32⟩
  | .hbm, ⟨18, _⟩ => ⟨S1x64x16, .f32⟩
  | .hbm, ⟨19, _⟩ => ⟨S_, .f32⟩
  | .hbm, ⟨20, _⟩ => ⟨S1x64x16, .f32⟩
  | .hbm, ⟨21, _⟩ => ⟨S1x64x16, .f32⟩
  | .hbm, ⟨22, _⟩ => ⟨S_, .f32⟩
  | .hbm, ⟨23, _⟩ => ⟨S1x64x16, .f32⟩
  | .hbm, ⟨24, _⟩ => ⟨S1x64x16, .f32⟩
  | .hbm, ⟨25, _⟩ => ⟨S1x64x16, .f32⟩
  | .hbm, ⟨26, _⟩ => ⟨S_, .f32⟩
  | .hbm, ⟨27, _⟩ => ⟨S1x64x16, .f32⟩
  | .hbm, ⟨28, _⟩ => ⟨S1x64x16, .f32⟩
  | .hbm, ⟨29, _⟩ => ⟨S1x64x16, .f32⟩
  | .hbm, ⟨30, _⟩ => ⟨S_, .f32⟩
  | .hbm, ⟨31, _⟩ => ⟨S1x64x16, .f32⟩
  | .hbm, ⟨32, _⟩ => ⟨S1x64x16, .f32⟩
  | .hbm, ⟨33, _⟩ => ⟨S1x64x16, .f32⟩
  | .hbm, ⟨34, _⟩ => ⟨S_, .f32⟩
  | .hbm, ⟨35, _⟩ => ⟨S1x64x16, .f32⟩
  | .hbm, ⟨36, _⟩ => ⟨S1x64x16, .f32⟩
  | .hbm, ⟨37, _⟩ => ⟨S64x16, .f32⟩
  | .hbm, ⟨38, _⟩ => ⟨S64x16, .f32⟩
  | .hbm, ⟨39, _⟩ => ⟨S64x16, .f32⟩
  | _, _ => ⟨S1x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGlu.lean ====
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluIdeal.lean ====
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S1x1024x512 : Shape := ⟨3, ![1, 1024, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamKv.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvIdeal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2x1024x1408 : Shape := ⟨3, ![2, 1024, 1408]⟩
abbrev S2048x1408 : Shape := ⟨2, ![2048, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S2x1024x1408 : Shape := ⟨3, ![2, 1024, 1408]⟩
abbrev S2048x1408 : Shape := ⟨2, ![2048, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConvW.lean ====
abbrev S2x3x1x704 : Shape := ⟨4, ![2, 3, 1, 704]⟩
abbrev S6x704 : Shape := ⟨2, ![6, 704]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1x704, .f32⟩
  | .hbm, ⟨1, _⟩ => ⟨S2x3x1x704, .f32⟩
  | .hbm, ⟨2, _⟩ => ⟨S2x3x1x704, .f32⟩
  | .hbm, ⟨3, _⟩ => ⟨S2x3x1x704, .f32⟩
  | .hbm, ⟨4, _⟩ => ⟨S6x704, .f32⟩
  | .hbm, ⟨5, _⟩ => ⟨S6x704, .f32⟩
  | .hbm, ⟨6, _⟩ => ⟨S6x704, .f32⟩
  | .hbm, ⟨7, _⟩ => ⟨S6x704, .f32⟩
  | .hbm, ⟨8, _⟩ => ⟨S6x704, .f32⟩
  | .hbm, ⟨9, _⟩ => ⟨S6x704, .f32⟩
  | .hbm, ⟨10, _⟩ => ⟨S6x704, .f32⟩
  | .local _ .vmem, ⟨0, _⟩ => ⟨S6x704, .f32⟩
  | .local _ .vmem, ⟨1, _⟩ => ⟨S6x704, .f32⟩
  | .local _ .vmem, ⟨2, _⟩ => ⟨S6x704, .f32⟩
  | .local _ .vmem, ⟨3, _⟩ => ⟨S6x704, .f32⟩
  | .local _ .vmem, ⟨4, _⟩ => ⟨S6x704, .f32⟩
  | .local _ .vmem, ⟨5, _⟩ => ⟨S6x704, .f32⟩
  | .local _ .vmem, ⟨6, _⟩ => ⟨S6x704, .f32⟩
  | _, _ => ⟨S2x3x1x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvWIdeal.lean ====
abbrev S2x3x1x704 : Shape := ⟨4, ![2, 3, 1, 704]⟩
abbrev S6x704 : Shape := ⟨2, ![6, 704]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1x704, .f32⟩
  | .hbm, ⟨1, _⟩ => ⟨S2x3x1x704, .f32⟩
  | .hbm, ⟨2, _⟩ => ⟨S2x3x1x704, .f32⟩
  | .hbm, ⟨3, _⟩ => ⟨S2x3x1x704, .f32⟩
  | .hbm, ⟨4, _⟩ => ⟨S6x704, .f32⟩
  | .hbm, ⟨5, _⟩ => ⟨S6x704, .f32⟩
  | .hbm, ⟨6, _⟩ => ⟨S6x704, .f32⟩
  | .hbm, ⟨7, _⟩ => ⟨S6x704, .f32⟩
  | .hbm, ⟨8, _⟩ => ⟨S6x704, .f32⟩
  | .hbm, ⟨9, _⟩ => ⟨S6x704, .f32⟩
  | .hbm, ⟨10, _⟩ => ⟨S6x704, .f32⟩
  | .local _ .vmem, ⟨0, _⟩ => ⟨S6x704, .f32⟩
  | .local _ .vmem, ⟨1, _⟩ => ⟨S6x704, .f32⟩
  | .local _ .vmem, ⟨2, _⟩ => ⟨S6x704, .f32⟩
  | .local _ .vmem, ⟨3, _⟩ => ⟨S6x704, .f32⟩
  | .local _ .vmem, ⟨4, _⟩ => ⟨S6x704, .f32⟩
  | .local _ .vmem, ⟨5, _⟩ => ⟨S6x704, .f32⟩
  | .local _ .vmem, ⟨6, _⟩ => ⟨S6x704, .f32⟩
  | _, _ => ⟨S2x3x1x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvWRefIdeal.lean ====
abbrev S2x3x1x704 : Shape := ⟨4, ![2, 3, 1, 704]⟩
abbrev S_ : Shape := ⟨0, ![]⟩
abbrev S6x704 : Shape := ⟨2, ![6, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x3x1x704, .f32⟩
  | .hbm, ⟨1, _⟩ => ⟨S2x3x1x704, .f32⟩
  | .hbm, ⟨2, _⟩ => ⟨S2x3x1x704, .f32⟩
  | .hbm, ⟨3, _⟩ => ⟨S2x3x1x704, .f32⟩
  | .hbm, ⟨4, _⟩ => ⟨S_, .f32⟩
  | .hbm, ⟨5, _⟩ => ⟨S2x3x1x704, .f32⟩
  | .hbm, ⟨6, _⟩ => ⟨S2x3x1x704, .f32⟩
  | .hbm, ⟨7, _⟩ => ⟨S_, .f32⟩
  | .hbm, ⟨8, _⟩ => ⟨S2x3x1x704, .f32⟩
  | .hbm, ⟨9, _⟩ => ⟨S2x3x1x704, .f32⟩
  | .hbm, ⟨10, _⟩ => ⟨S2x3x1x704, .f32⟩
  | .hbm, ⟨11, _⟩ => ⟨S_, .f32⟩
  | .hbm, ⟨12, _⟩ => ⟨S2x3x1x704, .f32⟩
  | .hbm, ⟨13, _⟩ => ⟨S2x3x1x704, .f32⟩
  | .hbm, ⟨14, _⟩ => ⟨S2x3x1x704, .f32⟩
  | .hbm, ⟨15, _⟩ => ⟨S_, .f32⟩
  | .hbm, ⟨16, _⟩ => ⟨S2x3x1x704, .f32⟩
  | .hbm, ⟨17, _⟩ => ⟨S2x3x1x704, .f32⟩
  | .hbm, ⟨18, _⟩ => ⟨S2x3x1x704, .f32⟩
  | .hbm, ⟨19, _⟩ => ⟨S_, .f32⟩
  | .hbm, ⟨20, _⟩ => ⟨S2x3x1x704, .f32⟩
  | .hbm, ⟨21, _⟩ => ⟨S2x3x1x704, .f32⟩
  | .hbm, ⟨22, _⟩ => ⟨S_, .f32⟩
  | .hbm, ⟨23, _⟩ => ⟨S2x3x1x704, .f32⟩
  | .hbm, ⟨24, _⟩ => ⟨S2x3x1x704, .f32⟩
  | .hbm, ⟨25, _⟩ => ⟨S2x3x1x704, .f32⟩
  | .hbm, ⟨26, _⟩ => ⟨S_, .f32⟩
  | .hbm, ⟨27, _⟩ => ⟨S2x3x1x704, .f32⟩
  | .hbm, ⟨28, _⟩ => ⟨S2x3x1x704, .f32⟩
  | .hbm, ⟨29, _⟩ => ⟨S2x3x1x704, .f32⟩
  | .hbm, ⟨30, _⟩ => ⟨S_, .f32⟩
  | .hbm, ⟨31, _⟩ => ⟨S2x3x1x704, .f32⟩
  | .hbm, ⟨32, _⟩ => ⟨S2x3x1x704, .f32⟩
  | .hbm, ⟨33, _⟩ => ⟨S2x3x1x704, .f32⟩
  | .hbm, ⟨34, _⟩ => ⟨S_, .f32⟩
  | .hbm, ⟨35, _⟩ => ⟨S2x3x1x704, .f32⟩
  | .hbm, ⟨36, _⟩ => ⟨S2x3x1x704, .f32⟩
  | .hbm, ⟨37, _⟩ => ⟨S6x704, .f32⟩
  | .hbm, ⟨38, _⟩ => ⟨S6x704, .f32⟩
  | .hbm, ⟨39, _⟩ => ⟨S6x704, .f32⟩
  | _, _ => ⟨S2x3x1x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConvB.lean ====
abbrev S2x2816 : Shape := ⟨2, ![2, 2816]⟩

abbrev nBuf : Space → Nat
  | .hbm => 7
  | .vmem => 7
  | .smem => 0
  | _ => 0

abbrev bufTy : (tb : Table) → Fin (tcTables nBuf tb) → BufTy
  | .hbm, ⟨0, _⟩ => ⟨S2x2816, .f32⟩
  | .hbm, ⟨1, _⟩ => ⟨S2x2816, .f32⟩
  | .hbm, ⟨2, _⟩ => ⟨S2x2816, .f32⟩
  | .hbm, ⟨3, _⟩ => ⟨S2x2816, .f32⟩
  | .hbm, ⟨4, _⟩ => ⟨S2x2816, .f32⟩
  | .hbm, ⟨5, _⟩ => ⟨S2x2816, .f32⟩
  | .hbm, ⟨6, _⟩ => ⟨S2x2816, .f32⟩
  | .local _ .vmem, ⟨0, _⟩ => ⟨S2x2816, .f32⟩
  | .local _ .vmem, ⟨1, _⟩ => ⟨S2x2816, .f32⟩
  | .local _ .vmem, ⟨2, _⟩ => ⟨S2x2816, .f32⟩
  | .local _ .vmem, ⟨3, _⟩ => ⟨S2x2816, .f32⟩
  | .local _ .vmem, ⟨4, _⟩ => ⟨S2x2816, .f32⟩
  | .local _ .vmem, ⟨5, _⟩ => ⟨S2x2816, .f32⟩
  | .local _ .vmem, ⟨6, _⟩ => ⟨S2x2816, .f32⟩
  | _, _ => ⟨S2x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBIdeal.lean ====
abbrev S2x2816 : Shape := ⟨2, ![2, 2816]⟩

abbrev nBuf : Space → Nat
  | .hbm => 7
  | .vmem => 7
  | .smem => 0
  | _ => 0

abbrev bufTy : (tb : Table) → Fin (tcTables nBuf tb) → BufTy
  | .hbm, ⟨0, _⟩ => ⟨S2x2816, .f32⟩
  | .hbm, ⟨1, _⟩ => ⟨S2x2816, .f32⟩
  | .hbm, ⟨2, _⟩ => ⟨S2x2816, .f32⟩
  | .hbm, ⟨3, _⟩ => ⟨S2x2816, .f32⟩
  | .hbm, ⟨4, _⟩ => ⟨S2x2816, .f32⟩
  | .hbm, ⟨5, _⟩ => ⟨S2x2816, .f32⟩
  | .hbm, ⟨6, _⟩ => ⟨S2x2816, .f32⟩
  | .local _ .vmem, ⟨0, _⟩ => ⟨S2x2816, .f32⟩
  | .local _ .vmem, ⟨1, _⟩ => ⟨S2x2816, .f32⟩
  | .local _ .vmem, ⟨2, _⟩ => ⟨S2x2816, .f32⟩
  | .local _ .vmem, ⟨3, _⟩ => ⟨S2x2816, .f32⟩
  | .local _ .vmem, ⟨4, _⟩ => ⟨S2x2816, .f32⟩
  | .local _ .vmem, ⟨5, _⟩ => ⟨S2x2816, .f32⟩
  | .local _ .vmem, ⟨6, _⟩ => ⟨S2x2816, .f32⟩
  | _, _ => ⟨S2x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBRefIdeal.lean ====
abbrev S2x2816 : Shape := ⟨2, ![2, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2816, .f32⟩
  | .hbm, ⟨1, _⟩ => ⟨S2x2816, .f32⟩
  | .hbm, ⟨2, _⟩ => ⟨S2x2816, .f32⟩
  | .hbm, ⟨3, _⟩ => ⟨S2x2816, .f32⟩
  | .hbm, ⟨4, _⟩ => ⟨S_, .f32⟩
  | .hbm, ⟨5, _⟩ => ⟨S2x2816, .f32⟩
  | .hbm, ⟨6, _⟩ => ⟨S2x2816, .f32⟩
  | .hbm, ⟨7, _⟩ => ⟨S_, .f32⟩
  | .hbm, ⟨8, _⟩ => ⟨S2x2816, .f32⟩
  | .hbm, ⟨9, _⟩ => ⟨S2x2816, .f32⟩
  | .hbm, ⟨10, _⟩ => ⟨S2x2816, .f32⟩
  | .hbm, ⟨11, _⟩ => ⟨S_, .f32⟩
  | .hbm, ⟨12, _⟩ => ⟨S2x2816, .f32⟩
  | .hbm, ⟨13, _⟩ => ⟨S2x2816, .f32⟩
  | .hbm, ⟨14, _⟩ => ⟨S2x2816, .f32⟩
  | .hbm, ⟨15, _⟩ => ⟨S_, .f32⟩
  | .hbm, ⟨16, _⟩ => ⟨S2x2816, .f32⟩
  | .hbm, ⟨17, _⟩ => ⟨S2x2816, .f32⟩
  | .hbm, ⟨18, _⟩ => ⟨S2x2816, .f32⟩
  | .hbm, ⟨19, _⟩ => ⟨S_, .f32⟩
  | .hbm, ⟨20, _⟩ => ⟨S2x2816, .f32⟩
  | .hbm, ⟨21, _⟩ => ⟨S2x2816, .f32⟩
  | .hbm, ⟨22, _⟩ => ⟨S_, .f32⟩
  | .hbm, ⟨23, _⟩ => ⟨S2x2816, .f32⟩
  | .hbm, ⟨24, _⟩ => ⟨S2x2816, .f32⟩
  | .hbm, ⟨25, _⟩ => ⟨S2x2816, .f32⟩
  | .hbm, ⟨26, _⟩ => ⟨S_, .f32⟩
  | .hbm, ⟨27, _⟩ => ⟨S2x2816, .f32⟩
  | .hbm, ⟨28, _⟩ => ⟨S2x2816, .f32⟩
  | .hbm, ⟨29, _⟩ => ⟨S2x2816, .f32⟩
  | .hbm, ⟨30, _⟩ => ⟨S_, .f32⟩
  | .hbm, ⟨31, _⟩ => ⟨S2x2816, .f32⟩
  | .hbm, ⟨32, _⟩ => ⟨S2x2816, .f32⟩
  | .hbm, ⟨33, _⟩ => ⟨S2x2816, .f32⟩
  | .hbm, ⟨34, _⟩ => ⟨S_, .f32⟩
  | .hbm, ⟨35, _⟩ => ⟨S2x2816, .f32⟩
  | .hbm, ⟨36, _⟩ => ⟨S2x2816, .f32⟩
  | _, _ => ⟨S2x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== GeluBwd.lean ====
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GeluBwdRefIdeal.lean ====
abbrev S4096x1024 : Shape := ⟨2, ![4096, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Starts.lean ====
abbrev S4096x1024 : Shape := ⟨2, ![4096, 1024]⟩
abbrev S4x256x1024 : Shape := ⟨3, ![4, 256, 1024]⟩
abbrev S2x4096 : Shape := ⟨2, ![2, 4096]⟩
abbrev S8x4096 : Shape := ⟨2, ![8, 4096]⟩
abbrev S512x256 : Shape := ⟨2, ![512, 256]⟩
abbrev S1x256x1024 : Shape := ⟨3, ![1, 256, 1024]⟩
abbrev S2x1024 : Shape := ⟨2, ![2, 1024]⟩
abbrev S8x1024 : Shape := ⟨2, ![8, 1024]⟩
abbrev S512x1024 : Shape := ⟨2, ![512, 1024]⟩
abbrev S256x1024 : Shape := ⟨2, ![256, 1024]⟩
abbrev S1x512 : Shape := ⟨2, ![1, 512]⟩
abbrev S8x512 : Shape := ⟨2, ![8, 512]⟩
abbrev S1x1024 : Shape := ⟨2, ![1, 1024]⟩

abbrev nBuf : Space → Nat
  | .hbm => 6
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4x256x1024, .bf16⟩
  | .hbm, ⟨3, _⟩ => ⟨S2x4096, .f32⟩
  | .hbm, ⟨4, _⟩ => ⟨S8x4096, .f32⟩
  | .hbm, ⟨5, _⟩ => ⟨S8x4096, .f32⟩
  | .local _ .vmem, ⟨0, _⟩ => ⟨S512x256, .bf16⟩
  | .local _ .vmem, ⟨1, _⟩ => ⟨S512x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S2x1024, .f32⟩
  | .local _ .vmem, ⟨7, _⟩ => ⟨S2x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_20 : BitVec 32 := 0#32
  let c64_i32 : BitVec 32 := 64#32
  let v24 : BitVec 32 := Scalar.addi c0_i32_20 c64_i32
  let c1_i32 : BitVec 32 := 1#32
  ⟨c0_i32_20, v24, c1_i32⟩
def k0_mult1 (k0_t1 : Fin k0_t1_loop.trips) : BitVec 32 :=
  let c0_i32_20 : BitVec 32 := 0#32
  let c1_i32 : BitVec 32 := 1#32
  let arg12 : BitVec 32 := Scf.iv c0_i32_20 c1_i32 k0_t1
  let c8_i32 : BitVec 32 := 8#32
  let v51 : BitVec 32 := Scalar.muli arg12 c8_i32
  v51
def k0_off1 (k0_t1 : Fin k0_t1_loop.trips) : Fin 2 → Nat :=
  let c0_i32_20 : BitVec 32 := 0#32
  let c1_i32 : BitVec 32 := 1#32
  let arg12 : BitVec 32 := Scf.iv c0_i32_20 c1_i32 k0_t1
  let c8_i32 : BitVec 32 := 8#32
  let v51 : BitVec 32 := Scalar.muli arg12 c8_i32
  let v52 : BitVec 32 := v51
  let v56 : Index := Scalar.indexCast v52
  let c0_42 : Index := 0#32
  ![v56.toNat, 0]
@[reducible] def k0_t2_loop : Scf.Loop 32 :=
  let c0_i32_33 : BitVec 32 := 0#32
  let c64_i32_34 : BitVec 32 := 64#32
  let v40 : BitVec 32 := Scalar.addi c0_i32_33 c64_i32_34
  let c1_i32_35 : BitVec 32 := 1#32
  ⟨c0_i32_33, v40, c1_i32_35⟩
def k0_mult2 (k0_t2 : Fin k0_t2_loop.trips) : BitVec 32 :=
  let c0_i32_33 : BitVec 32 := 0#32
  let c1_i32_35 : BitVec 32 := 1#32
  let arg12 : BitVec 32 := Scf.iv c0_i32_33 c1_i32_35 k0_t2
  let c8_i32 : BitVec 32 := 8#32
  let v51 : BitVec 32 := Scalar.muli arg12 c8_i32
  v51
def k0_off2 (k0_t2 : Fin k0_t2_loop.trips) : Fin 2 → Nat :=
  let c0_i32_33 : BitVec 32 := 0#32
  let c1_i32_35 : BitVec 32 := 1#32
  let arg12 : BitVec 32 := Scf.iv c0_i32_33 c1_i32_35 k0_t2
  let c8_i32 : BitVec 32 := 8#32
  let v51 : BitVec 32 := Scalar.muli arg12 c8_i32
  let v52 : BitVec 32 := v51
  let v56 : Index := Scalar.indexCast v52
  let c512_42 : Index := 512#32
  ![v56.toNat, 512]
def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_41 : BitVec 32 := 0#32
  let v50 : BitVec 1 := Scalar.cmpi .ne v49 c0_i32_41
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== StartsRefIdeal.lean ====
abbrev S4096x1024 : Shape := ⟨2, ![4096, 1024]⟩
abbrev S4x256x1024 : Shape := ⟨3, ![4, 256, 1024]⟩
abbrev S2x4096 : Shape := ⟨2, ![2, 4096]⟩
abbrev S4096x256 : Shape := ⟨2, ![4096, 256]⟩
abbrev S1x256x1024 : Shape := ⟨3, ![1, 256, 1024]⟩
abbrev S256x1024 : Shape := ⟨2, ![256, 1024]⟩
abbrev S4096x4096 : Shape := ⟨2, ![4096, 4096]⟩
abbrev S512x8x4096 : Shape := ⟨3, ![512, 8, 4096]⟩
abbrev S8x512x4096 : Shape := ⟨3, ![8, 512, 4096]⟩
abbrev S1x4096 : Shape := ⟨2, ![1, 4096]⟩
abbrev S4096 : Shape := ⟨1, ![4096]⟩
abbrev S_ : Shape := ⟨0, ![]⟩
abbrev S8x4096 : Shape := ⟨2, ![8, 4096]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4x256x1024, .bf16⟩
  | .hbm, ⟨3, _⟩ => ⟨S2x4096, .f32⟩
  | .hbm, ⟨4, _⟩ => ⟨S4096x256, .bf16⟩
  | .hbm, ⟨5, _⟩ => ⟨S4096x256, .f32⟩
  | .hbm, ⟨6, _⟩ => ⟨S1x256x1024, .bf16⟩
  | .hbm, ⟨7, _⟩ => ⟨S256x1024, .bf16⟩
  | .hbm, ⟨8, _⟩ => ⟨S256x1024, .f32⟩
  | .hbm, ⟨9, _⟩ => ⟨S4096x1024, .f32⟩
  | .hbm, ⟨10, _⟩ => ⟨S4096x256, .bf16⟩
  | .hbm, ⟨11, _⟩ => ⟨S4096x256, .f32⟩
  | .hbm, ⟨12, _⟩ => ⟨S1x256x1024, .bf16⟩
  | .hbm, ⟨13, _⟩ => ⟨S256x1024, .bf16⟩
  | .hbm, ⟨14, _⟩ => ⟨S256x1024, .f32⟩
  | .hbm, ⟨15, _⟩ => ⟨S4096x1024, .f32⟩
  | .hbm, ⟨16, _⟩ => ⟨S4096x256, .bf16⟩
  | .hbm, ⟨17, _⟩ => ⟨S4096x256, .f32⟩
  | .hbm, ⟨18, _⟩ => ⟨S1x256x1024, .bf16⟩
  | .hbm, ⟨19, _⟩ => ⟨S256x1024, .bf16⟩
  | .hbm, ⟨20, _⟩ => ⟨S256x1024, .f32⟩
  | .hbm, ⟨21, _⟩ => ⟨S4096x1024, .f32⟩
  | .hbm, ⟨22, _⟩ => ⟨S4096x256, .bf16⟩
  | .hbm, ⟨23, _⟩ => ⟨S4096x256, .f32⟩
  | .hbm, ⟨24, _⟩ => ⟨S1x256x1024, .bf16⟩
  | .hbm, ⟨25, _⟩ => ⟨S256x1024, .bf16⟩
  | .hbm, ⟨26, _⟩ => ⟨S256x1024, .f32⟩
  | .hbm, ⟨27, _⟩ => ⟨S4096x1024, .f32⟩
  | .hbm, ⟨28, _⟩ => ⟨S4096x4096, .f32⟩
  | .hbm, ⟨29, _⟩ => ⟨S512x8x4096, .f32⟩
  | .hbm, ⟨30, _⟩ => ⟨S8x512x4096, .f32⟩
  | .hbm, ⟨31, _⟩ => ⟨S4096x4096, .f32⟩
  | .hbm, ⟨32, _⟩ => ⟨S4096x256, .bf16⟩
  | .hbm, ⟨33, _⟩ => ⟨S4096x256, .f32⟩
  | .hbm, ⟨34, _⟩ => ⟨S1x256x1024, .bf16⟩
  | .hbm, ⟨35, _⟩ => ⟨S256x1024, .bf16⟩
  | .hbm, ⟨36, _⟩ => ⟨S256x1024, .f32⟩
  | .hbm, ⟨37, _⟩ => ⟨S4096x1024, .f32⟩
  | .hbm, ⟨38, _⟩ => ⟨S4096x256, .bf16⟩
  | .hbm, ⟨39, _⟩ => ⟨S4096x256, .f32⟩
  | .hbm, ⟨40, _⟩ => ⟨S1x256x1024, .bf16⟩
  | .hbm, ⟨41, _⟩ => ⟨S256x1024, .bf16⟩
  | .hbm, ⟨42, _⟩ => ⟨S256x1024, .f32⟩
  | .hbm, ⟨43, _⟩ => ⟨S4096x1024, .f32⟩
  | .hbm, ⟨44, _⟩ => ⟨S4096x256, .bf16⟩
  | .hbm, ⟨45, _⟩ => ⟨S4096x256, .f32⟩
  | .hbm, ⟨46, _⟩ => ⟨S1x256x1024, .bf16⟩
  | .hbm, ⟨47, _⟩ => ⟨S256x1024, .bf16⟩
  | .hbm, ⟨48, _⟩ => ⟨S256x1024, .f32⟩
  | .hbm, ⟨49, _⟩ => ⟨S4096x1024, .f32⟩
  | .hbm, ⟨50, _⟩ => ⟨S4096x256, .bf16⟩
  | .hbm, ⟨51, _⟩ => ⟨S4096x256, .f32⟩
  | .hbm, ⟨52, _⟩ => ⟨S1x256x1024, .bf16⟩
  | .hbm, ⟨53, _⟩ => ⟨S256x1024, .bf16⟩
  | .hbm, ⟨54, _⟩ => ⟨S256x1024, .f32⟩
  | .hbm, ⟨55, _⟩ => ⟨S4096x1024, .f32⟩
  | .hbm, ⟨56, _⟩ => ⟨S4096x4096, .f32⟩
  | .hbm, ⟨57, _⟩ => ⟨S512x8x4096, .f32⟩
  | .hbm, ⟨58, _⟩ => ⟨S8x512x4096, .f32⟩
  | .hbm, ⟨59, _⟩ => ⟨S4096x4096, .f32⟩
  | .hbm, ⟨60, _⟩ => ⟨S1x4096, .f32⟩
  | .hbm, ⟨61, _⟩ => ⟨S4096, .f32⟩
  | .hbm, ⟨62, _⟩ => ⟨S1x4096, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096x4096, .f32⟩
  | .hbm, ⟨68, _⟩ => ⟨S_, .f32⟩
  | .hbm, ⟨69, _⟩ => ⟨S4096x4096, .f32⟩
  | .hbm, ⟨70, _⟩ => ⟨S_, .i32⟩
  | .hbm, ⟨71, _⟩ => ⟨S4096x4096, .f32⟩
  | .hbm, ⟨72, _⟩ => ⟨S4096x4096, .f32⟩
  | .hbm, ⟨73, _⟩ => ⟨S4096, .f32⟩
  | .hbm, ⟨74, _⟩ => ⟨S4096, .f32⟩
  | .hbm, ⟨75, _⟩ => ⟨S_, .i32⟩
  | .hbm, ⟨76, _⟩ => ⟨S4096, .f32⟩
  | .hbm, ⟨77, _⟩ => ⟨S4096, .f32⟩
  | .hbm, ⟨78, _⟩ => ⟨S4096x4096, .f32⟩
  | .hbm, ⟨79, _⟩ => ⟨S4096x4096, .f32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S1x4096, .f32⟩
  | .hbm, ⟨84, _⟩ => ⟨S4096, .f32⟩
  | .hbm, ⟨85, _⟩ => ⟨S_, .i32⟩
  | .hbm, ⟨86, _⟩ => ⟨S1x4096, .f32⟩
  | .hbm, ⟨87, _⟩ => ⟨S4096, .f32⟩
  | .hbm, ⟨88, _⟩ => ⟨S4096, .f32⟩
  | .hbm, ⟨89, _⟩ => ⟨S4096, .f32⟩
  | .hbm, ⟨90, _⟩ => ⟨S4096, .f32⟩
  | .hbm, ⟨91, _⟩ => ⟨S4096, .f32⟩
  | .hbm, ⟨92, _⟩ => ⟨S4096, .f32⟩
  | .hbm, ⟨93, _⟩ => ⟨S4096, .f32⟩
  | .hbm, ⟨94, _⟩ => ⟨S4096, .f32⟩
  | .hbm, ⟨95, _⟩ => ⟨S4096, .f32⟩
  | .hbm, ⟨96, _⟩ => ⟨S1x4096, .f32⟩
  | .hbm, ⟨97, _⟩ => ⟨S_, .i32⟩
  | .hbm, ⟨98, _⟩ => ⟨S4096x4096, .f32⟩
  | .hbm, ⟨99, _⟩ => ⟨S1x4096, .f32⟩
  | .hbm, ⟨100, _⟩ => ⟨S_, .i32⟩
  | .hbm, ⟨101, _⟩ => ⟨S4096x4096, .f32⟩
  | .hbm, ⟨102, _⟩ => ⟨S_, .i32⟩
  | .hbm, ⟨103, _⟩ => ⟨S_, .i32⟩
  | .hbm, ⟨104, _⟩ => ⟨S8x4096, .f32⟩
  | .hbm, ⟨105, _⟩ => ⟨S8x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_cst : Ref sig .tc := ⟨.hbm, 64, rfl⟩
abbrev main_v60 : Ref sig .tc := ⟨.hbm, 65, rfl⟩
abbrev main_cst_0 : Ref sig .tc := ⟨.hbm, 66, rfl⟩
abbrev main_v61 : Ref sig .tc := ⟨.hbm, 67, rfl⟩
abbrev main_cst_1 : Ref sig .tc := ⟨.hbm, 68, rfl⟩
abbrev main_v62 : Ref sig .tc := ⟨.hbm, 69, rfl⟩
abbrev main_c : Ref sig .tc := ⟨.hbm, 70, rfl⟩
abbrev main_v63_0 : Ref sig .tc := ⟨.hbm, 71, rfl⟩
abbrev main_v63_1 : Ref sig .tc := ⟨.hbm, 72, rfl⟩
abbrev main_v63_2 : Ref sig .tc := ⟨.hbm, 73, rfl⟩
abbrev main_v63_3 : Ref sig .tc := ⟨.hbm, 74, rfl⟩
abbrev main_v63_4 : Ref sig .tc := ⟨.hbm, 75, rfl⟩
abbrev main_v63_5 : Ref sig .tc := ⟨.hbm, 76, rfl⟩
abbrev main_v63_6 : Ref sig .tc := ⟨.hbm, 77, rfl⟩
abbrev main_v63_7 : Ref sig .tc := ⟨.hbm, 78, rfl⟩
abbrev main_v63_8 : Ref sig .tc := ⟨.hbm, 79, rfl⟩
abbrev main_while0c_c_10 : Ref sig .tc := ⟨.hbm, 80, rfl⟩
abbrev main_while0c_v66 : Ref sig .tc := ⟨.hbm, 81, rfl⟩
abbrev main_while0b_call0_c : Ref sig .tc := ⟨.hbm, 82, rfl⟩
abbrev main_while0b_call0_v0 : Ref sig .tc := ⟨.hbm, 83, rfl⟩
abbrev main_while0b_v66 : Ref sig .tc := ⟨.hbm, 84, rfl⟩
abbrev main_while0b_call1_c : Ref sig .tc := ⟨.hbm, 85, rfl⟩
abbrev main_while0b_call1_v0 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_v73 : Ref sig .tc := ⟨.hbm, 93, rfl⟩
abbrev main_while0b_v74 : Ref sig .tc := ⟨.hbm, 94, rfl⟩
abbrev main_while0b_v75 : Ref sig .tc := ⟨.hbm, 95, rfl⟩
abbrev main_while0b_call2_v0 : Ref sig .tc := ⟨.hbm, 96, rfl⟩
abbrev main_while0b_call2_c : Ref sig .tc := ⟨.hbm, 97, rfl⟩
abbrev main_while0b_v76 : Ref sig .tc := ⟨.hbm, 98, rfl⟩
abbrev main_while0b_call3_v0 : Ref sig .tc := ⟨.hbm, 99, rfl⟩
abbrev main_while0b_call3_c : Ref sig .tc := ⟨.hbm, 100, rfl⟩
abbrev main_while0b_v77 : Ref sig .tc := ⟨.hbm, 101, rfl⟩
abbrev main_while0b_c_10 : Ref sig .tc := ⟨.hbm, 102, rfl⟩
abbrev main_while0b_v78 : Ref sig .tc := ⟨.hbm, 103, rfl⟩
abbrev main_v64 : Ref sig .tc := ⟨.hbm, 104, rfl⟩
abbrev main_v65 : Ref sig .tc := ⟨.hbm, 105, rfl⟩

abbrev nD : Nat := 1
abbrev τ : Topo := Topo.v7x

variable {F : FTy → Type} [FloatOps F]

abbrev main_while0_count : Scf.Loop 32 := ⟨0#32, 4096#32, 1#32⟩
-- ==== Ends.lean ====
abbrev S4096x1024 : Shape := ⟨2, ![4096, 1024]⟩
abbrev S4x256x1024 : Shape := ⟨3, ![4, 256, 1024]⟩
abbrev S2x4096 : Shape := ⟨2, ![2, 4096]⟩
abbrev S8x4096 : Shape := ⟨2, ![8, 4096]⟩
abbrev S512x256 : Shape := ⟨2, ![512, 256]⟩
abbrev S1x256x1024 : Shape := ⟨3, ![1, 256, 1024]⟩
abbrev S2x1024 : Shape := ⟨2, ![2, 1024]⟩
abbrev S8x1024 : Shape := ⟨2, ![8, 1024]⟩
abbrev S512x1024 : Shape := ⟨2, ![512, 1024]⟩
abbrev S256x1024 : Shape := ⟨2, ![256, 1024]⟩
abbrev S1x512 : Shape := ⟨2, ![1, 512]⟩
abbrev S8x512 : Shape := ⟨2, ![8, 512]⟩
abbrev S1x1024 : Shape := ⟨2, ![1, 1024]⟩

abbrev nBuf : Space → Nat
  | .hbm => 6
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4x256x1024, .bf16⟩
  | .hbm, ⟨3, _⟩ => ⟨S2x4096, .f32⟩
  | .hbm, ⟨4, _⟩ => ⟨S8x4096, .f32⟩
  | .hbm, ⟨5, _⟩ => ⟨S8x4096, .f32⟩
  | .local _ .vmem, ⟨0, _⟩ => ⟨S512x256, .bf16⟩
  | .local _ .vmem, ⟨1, _⟩ => ⟨S512x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S2x1024, .f32⟩
  | .local _ .vmem, ⟨7, _⟩ => ⟨S2x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_20 : BitVec 32 := 0#32
  let c64_i32 : BitVec 32 := 64#32
  let v24 : BitVec 32 := Scalar.addi c0_i32_20 c64_i32
  let c1_i32 : BitVec 32 := 1#32
  ⟨c0_i32_20, v24, c1_i32⟩
def k0_mult1 (k0_t1 : Fin k0_t1_loop.trips) : BitVec 32 :=
  let c63_i32 : BitVec 32 := 63#32
  let c0_i32_20 : BitVec 32 := 0#32
  let c1_i32 : BitVec 32 := 1#32
  let arg12 : BitVec 32 := Scf.iv c0_i32_20 c1_i32 k0_t1
  let v51 : BitVec 32 := Scalar.subi c63_i32 arg12
  let c8_i32 : BitVec 32 := 8#32
  let v52 : BitVec 32 := Scalar.muli v51 c8_i32
  v52
def k0_off1 (k0_t1 : Fin k0_t1_loop.trips) : Fin 2 → Nat :=
  let c63_i32 : BitVec 32 := 63#32
  let c0_i32_20 : BitVec 32 := 0#32
  let c1_i32 : BitVec 32 := 1#32
  let arg12 : BitVec 32 := Scf.iv c0_i32_20 c1_i32 k0_t1
  let v51 : BitVec 32 := Scalar.subi c63_i32 arg12
  let c8_i32 : BitVec 32 := 8#32
  let v52 : BitVec 32 := Scalar.muli v51 c8_i32
  let v53 : BitVec 32 := v52
  let v57 : Index := Scalar.indexCast v53
  let c0_42 : Index := 0#32
  ![v57.toNat, 0]
@[reducible] def k0_t2_loop : Scf.Loop 32 :=
  let c0_i32_33 : BitVec 32 := 0#32
  let c64_i32_34 : BitVec 32 := 64#32
  let v40 : BitVec 32 := Scalar.addi c0_i32_33 c64_i32_34
  let c1_i32_35 : BitVec 32 := 1#32
  ⟨c0_i32_33, v40, c1_i32_35⟩
def k0_mult2 (k0_t2 : Fin k0_t2_loop.trips) : BitVec 32 :=
  let c63_i32 : BitVec 32 := 63#32
  let c0_i32_33 : BitVec 32 := 0#32
  let c1_i32_35 : BitVec 32 := 1#32
  let arg12 : BitVec 32 := Scf.iv c0_i32_33 c1_i32_35 k0_t2
  let v51 : BitVec 32 := Scalar.subi c63_i32 arg12
  let c8_i32 : BitVec 32 := 8#32
  let v52 : BitVec 32 := Scalar.muli v51 c8_i32
  v52
def k0_off2 (k0_t2 : Fin k0_t2_loop.trips) : Fin 2 → Nat :=
  let c63_i32 : BitVec 32 := 63#32
  let c0_i32_33 : BitVec 32 := 0#32
  let c1_i32_35 : BitVec 32 := 1#32
  let arg12 : BitVec 32 := Scf.iv c0_i32_33 c1_i32_35 k0_t2
  let v51 : BitVec 32 := Scalar.subi c63_i32 arg12
  let c8_i32 : BitVec 32 := 8#32
  let v52 : BitVec 32 := Scalar.muli v51 c8_i32
  let v53 : BitVec 32 := v52
  let v57 : Index := Scalar.indexCast v53
  let c512_42 : Index := 512#32
  ![v57.toNat, 512]
def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_41 : BitVec 32 := 0#32
  let v50 : BitVec 1 := Scalar.cmpi .ne v49 c0_i32_41
  v50

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== EndsRefIdeal.lean ====
abbrev S4096x1024 : Shape := ⟨2, ![4096, 1024]⟩
abbrev S4x256x1024 : Shape := ⟨3, ![4, 256, 1024]⟩
abbrev S2x4096 : Shape := ⟨2, ![2, 4096]⟩
abbrev S4096x256 : Shape := ⟨2, ![4096, 256]⟩
abbrev S1x256x1024 : Shape := ⟨3, ![1, 256, 1024]⟩
abbrev S256x1024 : Shape := ⟨2, ![256, 1024]⟩
abbrev S4096x4096 : Shape := ⟨2, ![4096, 4096]⟩
abbrev S512x8x4096 : Shape := ⟨3, ![512, 8, 4096]⟩
abbrev S8x512x4096 : Shape := ⟨3, ![8, 512, 4096]⟩
abbrev S1x4096 : Shape := ⟨2, ![1, 4096]⟩
abbrev S4096 : Shape := ⟨1, ![4096]⟩
abbrev S_ : Shape := ⟨0, ![]⟩
abbrev S8x4096 : Shape := ⟨2, ![8, 4096]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4x256x1024, .bf16⟩
  | .hbm, ⟨3, _⟩ => ⟨S2x4096, .f32⟩
  | .hbm, ⟨4, _⟩ => ⟨S4096x256, .bf16⟩
  | .hbm, ⟨5, _⟩ => ⟨S4096x256, .f32⟩
  | .hbm, ⟨6, _⟩ => ⟨S1x256x1024, .bf16⟩
  | .hbm, ⟨7, _⟩ => ⟨S256x1024, .bf16⟩
  | .hbm, ⟨8, _⟩ => ⟨S256x1024, .f32⟩
  | .hbm, ⟨9, _⟩ => ⟨S4096x1024, .f32⟩
  | .hbm, ⟨10, _⟩ => ⟨S4096x256, .bf16⟩
  | .hbm, ⟨11, _⟩ => ⟨S4096x256, .f32⟩
  | .hbm, ⟨12, _⟩ => ⟨S1x256x1024, .bf16⟩
  | .hbm, ⟨13, _⟩ => ⟨S256x1024, .bf16⟩
  | .hbm, ⟨14, _⟩ => ⟨S256x1024, .f32⟩
  | .hbm, ⟨15, _⟩ => ⟨S4096x1024, .f32⟩
  | .hbm, ⟨16, _⟩ => ⟨S4096x256, .bf16⟩
  | .hbm, ⟨17, _⟩ => ⟨S4096x256, .f32⟩
  | .hbm, ⟨18, _⟩ => ⟨S1x256x1024, .bf16⟩
  | .hbm, ⟨19, _⟩ => ⟨S256x1024, .bf16⟩
  | .hbm, ⟨20, _⟩ => ⟨S256x1024, .f32⟩
  | .hbm, ⟨21, _⟩ => ⟨S4096x1024, .f32⟩
  | .hbm, ⟨22, _⟩ => ⟨S4096x256, .bf16⟩
  | .hbm, ⟨23, _⟩ => ⟨S4096x256, .f32⟩
  | .hbm, ⟨24, _⟩ => ⟨S1x256x1024, .bf16⟩
  | .hbm, ⟨25, _⟩ => ⟨S256x1024, .bf16⟩
  | .hbm, ⟨26, _⟩ => ⟨S256x1024, .f32⟩
  | .hbm, ⟨27, _⟩ => ⟨S4096x1024, .f32⟩
  | .hbm, ⟨28, _⟩ => ⟨S4096x4096, .f32⟩
  | .hbm, ⟨29, _⟩ => ⟨S512x8x4096, .f32⟩
  | .hbm, ⟨30, _⟩ => ⟨S8x512x4096, .f32⟩
  | .hbm, ⟨31, _⟩ => ⟨S4096x4096, .f32⟩
  | .hbm, ⟨32, _⟩ => ⟨S4096x4096, .f32⟩
  | .hbm, ⟨33, _⟩ => ⟨S4096x256, .bf16⟩
  | .hbm, ⟨34, _⟩ => ⟨S4096x256, .f32⟩
  | .hbm, ⟨35, _⟩ => ⟨S1x256x1024, .bf16⟩
  | .hbm, ⟨36, _⟩ => ⟨S256x1024, .bf16⟩
  | .hbm, ⟨37, _⟩ => ⟨S256x1024, .f32⟩
  | .hbm, ⟨38, _⟩ => ⟨S4096x1024, .f32⟩
  | .hbm, ⟨39, _⟩ => ⟨S4096x256, .bf16⟩
  | .hbm, ⟨40, _⟩ => ⟨S4096x256, .f32⟩
  | .hbm, ⟨41, _⟩ => ⟨S1x256x1024, .bf16⟩
  | .hbm, ⟨42, _⟩ => ⟨S256x1024, .bf16⟩
  | .hbm, ⟨43, _⟩ => ⟨S256x1024, .f32⟩
  | .hbm, ⟨44, _⟩ => ⟨S4096x1024, .f32⟩
  | .hbm, ⟨45, _⟩ => ⟨S4096x256, .bf16⟩
  | .hbm, ⟨46, _⟩ => ⟨S4096x256, .f32⟩
  | .hbm, ⟨47, _⟩ => ⟨S1x256x1024, .bf16⟩
  | .hbm, ⟨48, _⟩ => ⟨S256x1024, .bf16⟩
  | .hbm, ⟨49, _⟩ => ⟨S256x1024, .f32⟩
  | .hbm, ⟨50, _⟩ => ⟨S4096x1024, .f32⟩
  | .hbm, ⟨51, _⟩ => ⟨S4096x256, .bf16⟩
  | .hbm, ⟨52, _⟩ => ⟨S4096x256, .f32⟩
  | .hbm, ⟨53, _⟩ => ⟨S1x256x1024, .bf16⟩
  | .hbm, ⟨54, _⟩ => ⟨S256x1024, .bf16⟩
  | .hbm, ⟨55, _⟩ => ⟨S256x1024, .f32⟩
  | .hbm, ⟨56, _⟩ => ⟨S4096x1024, .f32⟩
  | .hbm, ⟨57, _⟩ => ⟨S4096x4096, .f32⟩
  | .hbm, ⟨58, _⟩ => ⟨S512x8x4096, .f32⟩
  | .hbm, ⟨59, _⟩ => ⟨S8x512x4096, .f32⟩
  | .hbm, ⟨60, _⟩ => ⟨S4096x4096, .f32⟩
  | .hbm, ⟨61, _⟩ => ⟨S4096x4096, .f32⟩
  | .hbm, ⟨62, _⟩ => ⟨S1x4096, .f32⟩
  | .hbm, ⟨63, _⟩ => ⟨S4096, .f32⟩
  | .hbm, ⟨64, _⟩ => ⟨S1x4096, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S_, .i32⟩
  | .hbm, ⟨73, _⟩ => ⟨S4096x4096, .f32⟩
  | .hbm, ⟨74, _⟩ => ⟨S4096x4096, .f32⟩
  | .hbm, ⟨75, _⟩ => ⟨S4096, .f32⟩
  | .hbm, ⟨76, _⟩ => ⟨S4096, .f32⟩
  | .hbm, ⟨77, _⟩ => ⟨S_, .i32⟩
  | .hbm, ⟨78, _⟩ => ⟨S4096, .f32⟩
  | .hbm, ⟨79, _⟩ => ⟨S4096, .f32⟩
  | .hbm, ⟨80, _⟩ => ⟨S4096x4096, .f32⟩
  | .hbm, ⟨81, _⟩ => ⟨S4096x4096, .f32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S1x4096, .f32⟩
  | .hbm, ⟨86, _⟩ => ⟨S4096, .f32⟩
  | .hbm, ⟨87, _⟩ => ⟨S_, .i32⟩
  | .hbm, ⟨88, _⟩ => ⟨S1x4096, .f32⟩
  | .hbm, ⟨89, _⟩ => ⟨S4096, .f32⟩
  | .hbm, ⟨90, _⟩ => ⟨S4096, .f32⟩
  | .hbm, ⟨91, _⟩ => ⟨S4096, .f32⟩
  | .hbm, ⟨92, _⟩ => ⟨S4096, .f32⟩
  | .hbm, ⟨93, _⟩ => ⟨S4096, .f32⟩
  | .hbm, ⟨94, _⟩ => ⟨S4096, .f32⟩
  | .hbm, ⟨95, _⟩ => ⟨S4096, .f32⟩
  | .hbm, ⟨96, _⟩ => ⟨S4096, .f32⟩
  | .hbm, ⟨97, _⟩ => ⟨S4096, .f32⟩
  | .hbm, ⟨98, _⟩ => ⟨S1x4096, .f32⟩
  | .hbm, ⟨99, _⟩ => ⟨S_, .i32⟩
  | .hbm, ⟨100, _⟩ => ⟨S4096x4096, .f32⟩
  | .hbm, ⟨101, _⟩ => ⟨S1x4096, .f32⟩
  | .hbm, ⟨102, _⟩ => ⟨S_, .i32⟩
  | .hbm, ⟨103, _⟩ => ⟨S4096x4096, .f32⟩
  | .hbm, ⟨104, _⟩ => ⟨S_, .i32⟩
  | .hbm, ⟨105, _⟩ => ⟨S_, .i32⟩
  | .hbm, ⟨106, _⟩ => ⟨S8x4096, .f32⟩
  | .hbm, ⟨107, _⟩ => ⟨S8x4096, .f32⟩
  | .hbm, ⟨108, _⟩ => ⟨S8x4096, .f32⟩
  | .hbm, ⟨109, _⟩ => ⟨S8x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_cst : Ref sig .tc := ⟨.hbm, 66, rfl⟩
abbrev main_v62 : Ref sig .tc := ⟨.hbm, 67, rfl⟩
abbrev main_cst_0 : Ref sig .tc := ⟨.hbm, 68, rfl⟩
abbrev main_v63 : Ref sig .tc := ⟨.hbm, 69, rfl⟩
abbrev main_cst_1 : Ref sig .tc := ⟨.hbm, 70, rfl⟩
abbrev main_v64 : Ref sig .tc := ⟨.hbm, 71, rfl⟩
abbrev main_c : Ref sig .tc := ⟨.hbm, 72, rfl⟩
abbrev main_v65_0 : Ref sig .tc := ⟨.hbm, 73, rfl⟩
abbrev main_v65_1 : Ref sig .tc := ⟨.hbm, 74, rfl⟩
abbrev main_v65_2 : Ref sig .tc := ⟨.hbm, 75, rfl⟩
abbrev main_v65_3 : Ref sig .tc := ⟨.hbm, 76, rfl⟩
abbrev main_v65_4 : Ref sig .tc := ⟨.hbm, 77, rfl⟩
abbrev main_v65_5 : Ref sig .tc := ⟨.hbm, 78, rfl⟩
abbrev main_v65_6 : Ref sig .tc := ⟨.hbm, 79, rfl⟩
abbrev main_v65_7 : Ref sig .tc := ⟨.hbm, 80, rfl⟩
abbrev main_v65_8 : Ref sig .tc := ⟨.hbm, 81, rfl⟩
abbrev main_while0c_c_10 : Ref sig .tc := ⟨.hbm, 82, rfl⟩
abbrev main_while0c_v70 : Ref sig .tc := ⟨.hbm, 83, rfl⟩
abbrev main_while0b_call0_c : Ref sig .tc := ⟨.hbm, 84, rfl⟩
abbrev main_while0b_call0_v0 : Ref sig .tc := ⟨.hbm, 85, rfl⟩
abbrev main_while0b_v70 : Ref sig .tc := ⟨.hbm, 86, rfl⟩
abbrev main_while0b_call1_c : Ref sig .tc := ⟨.hbm, 87, rfl⟩
abbrev main_while0b_call1_v0 : Ref sig .tc := ⟨.hbm, 88, rfl⟩
abbrev main_while0b_v71 : Ref sig .tc := ⟨.hbm, 89, rfl⟩
abbrev main_while0b_v72 : Ref sig .tc := ⟨.hbm, 90, rfl⟩
abbrev main_while0b_v73 : Ref sig .tc := ⟨.hbm, 91, rfl⟩
abbrev main_while0b_v74 : Ref sig .tc := ⟨.hbm, 92, rfl⟩
abbrev main_while0b_v75 : Ref sig .tc := ⟨.hbm, 93, rfl⟩
abbrev main_while0b_v76 : Ref sig .tc := ⟨.hbm, 94, rfl⟩
abbrev main_while0b_v77 : Ref sig .tc := ⟨.hbm, 95, rfl⟩
abbrev main_while0b_v78 : Ref sig .tc := ⟨.hbm, 96, rfl⟩
abbrev main_while0b_v79 : Ref sig .tc := ⟨.hbm, 97, rfl⟩
abbrev main_while0b_call2_v0 : Ref sig .tc := ⟨.hbm, 98, rfl⟩
abbrev main_while0b_call2_c : Ref sig .tc := ⟨.hbm, 99, rfl⟩
abbrev main_while0b_v80 : Ref sig .tc := ⟨.hbm, 100, rfl⟩
abbrev main_while0b_call3_v0 : Ref sig .tc := ⟨.hbm, 101, rfl⟩
abbrev main_while0b_call3_c : Ref sig .tc := ⟨.hbm, 102, rfl⟩
abbrev main_while0b_v81 : Ref sig .tc := ⟨.hbm, 103, rfl⟩
abbrev main_while0b_c_10 : Ref sig .tc := ⟨.hbm, 104, rfl⟩
abbrev main_while0b_v82 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩

abbrev nD : Nat := 1
abbrev τ : Topo := Topo.v7x

variable {F : FTy → Type} [FloatOps F]

abbrev main_while0_count : Scf.Loop 32 := ⟨0#32, 4096#32, 1#32⟩
-- ==== Proof.Mat.lean ====
module

public import Idealize.ShloMosaic.Lib.Pipeline.ValueKit

/-!
# Products of matrices, entry by entry

The three ways a product is contracted, each read at an index as a sum over the contracted axis, and the same for arrays
whose columns lie in consecutive slabs: slab `s` of `n` columns holds the columns `s * n + j` of the whole matrix.
-/

@[expose] public section

noncomputable section

namespace Cert.Mat

open Idealize.ShloMosaic

/-- An array of extended reals with two axes. -/
abbrev Arr2 (M N : ℕ) := (⟨2, ![M, N]⟩ : Shape).Idx → EReal

/-- An array of extended reals with three axes. -/
abbrev Arr3 (L M N : ℕ) := (⟨3, ![L, M, N]⟩ : Shape).Idx → EReal

/-- An array of extended reals with four axes. -/
abbrev Arr4 (K L M N : ℕ) := (⟨4, ![K, L, M, N]⟩ : Shape).Idx → EReal

variable {M N K : ℕ}

/-- `a b`: rows of `a` against columns of `b`. -/
def nn (a : Arr2 M K) (b : Arr2 K N) : Arr2 M N := fun i => ∑ k : Fin K, a (ix2 (i 0) k) * b (ix2 k (i 1))

/-- `a bᵀ`: rows of `a` against rows of `b`. -/
def nt (a : Arr2 M K) (b : Arr2 N K) : Arr2 M N := fun i => ∑ k : Fin K, a (ix2 (i 0) k) * b (ix2 (i 1) k)

/-- `aᵀ b`: columns of `a` against columns of `b`. -/
def tn (a : Arr2 K M) (b : Arr2 K N) : Arr2 M N := fun i => ∑ k : Fin K, a (ix2 k (i 0)) * b (ix2 k (i 1))

/-- Sums of equal products are equal. -/
theorem sum_mul_congr {a b a' b' : Fin K → EReal} (ha : ∀ k, a k = a' k) (hb : ∀ k, b k = b' k) :
    ∑ k, a k * b k = ∑ k, a' k * b' k := Finset.sum_congr rfl fun k _ => by rw [ha, hb]

/-- A contraction over an axis of `J` chunks of `n`, chunk by chunk. -/
theorem sum_chunks_congr {J n : ℕ} {f : Fin J → Fin n → EReal} {g : Fin K → EReal} (hK : K = J * n)
    (h : ∀ s l (k : Fin K), k.val = n * s.val + l.val → f s l = g k) : ∑ s, ∑ l, f s l = ∑ k, g k := by
  subst hK
  rw [← finProdFinEquiv.sum_comp, Fintype.sum_prod_type]
  exact Finset.sum_congr rfl fun s _ => Finset.sum_congr rfl fun l _ => h s l _ (by simp [finProdFinEquiv]; ring)

/-- `a bᵀ` over a long axis is the sum over its chunks of the chunks' products. -/
theorem nt_chunks {m n J C : ℕ} (hK : K = J * C) {a : Fin J → Arr2 m C} {b : Fin J → Arr2 n C} {A : Arr2 M K} {B : Arr2 N K}
    {i : (⟨2, ![m, n]⟩ : Shape).Idx} {j : (⟨2, ![M, N]⟩ : Shape).Idx}
    (ha : ∀ s l (k : Fin K), k.val = C * s.val + l.val → a s (ix2 (i 0) l) = A (ix2 (j 0) k))
    (hb : ∀ s l (k : Fin K), k.val = C * s.val + l.val → b s (ix2 (i 1) l) = B (ix2 (j 1) k)) :
    ∑ s, nt (a s) (b s) i = nt A B j :=
  sum_chunks_congr hK fun s l k hk => by rw [ha s l k hk, hb s l k hk]

/-- `aᵀ b` over a long axis is the sum over its chunks of the chunks' products. -/
theorem tn_chunks {m n J C : ℕ} (hK : K = J * C) {a : Fin J → Arr2 C m} {b : Fin J → Arr2 C n} {A : Arr2 K M} {B : Arr2 K N}
    {i : (⟨2, ![m, n]⟩ : Shape).Idx} {j : (⟨2, ![M, N]⟩ : Shape).Idx}
    (ha : ∀ s l (k : Fin K), k.val = C * s.val + l.val → a s (ix2 l (i 0)) = A (ix2 k (j 0)))
    (hb : ∀ s l (k : Fin K), k.val = C * s.val + l.val → b s (ix2 l (i 1)) = B (ix2 k (j 1))) :
    ∑ s, tn (a s) (b s) i = tn A B j :=
  sum_chunks_congr hK fun s l k hk => by rw [ha s l k hk, hb s l k hk]

theorem pos_of_lt_mul {a n C : ℕ} (h : a < C * n) : 0 < n := Nat.pos_of_ne_zero fun h0 => by simp [h0] at h

/-- The matrix whose columns lie in four slabs of `n`. -/
def wide3 {n : ℕ} (hN : N = 4 * n) (w : Arr3 4 K n) : Arr2 K N := fun i =>
  have h : (i 1).val < 4 * n := lt_of_lt_of_eq (i 1).isLt hN
  w (ix3 ⟨(i 1).val / n, Nat.div_lt_of_lt_mul (by rw [Nat.mul_comm]; exact h)⟩ (i 0) ⟨(i 1).val % n, Nat.mod_lt _ (pos_of_lt_mul h)⟩)

/-- The matrix whose columns lie in four slabs of `n`, each under an axis of one. -/
def wide {n : ℕ} (hN : N = 4 * n) (w : Arr4 4 1 K n) : Arr2 K N := wide3 hN fun i => w (ix4 (i 0) 0 (i 1) (i 2))

/-- Two matrices side by side. -/
def join {n : ℕ} (hN : N = 2 * n) (x : Arr3 2 M n) : Arr2 M N := fun i =>
  have h : (i 1).val < 2 * n := lt_of_lt_of_eq (i 1).isLt hN
  x (ix3 ⟨(i 1).val / n, Nat.div_lt_of_lt_mul (by rw [Nat.mul_comm]; exact h)⟩ (i 0) ⟨(i 1).val % n, Nat.mod_lt _ (pos_of_lt_mul h)⟩)

/-- A matrix's columns in `s` slabs of `n`. -/
def slabs {s n : ℕ} (hN : N = s * n) (X : Arr2 M N) : Arr3 s M n := fun i =>
  X (ix2 (i 1) ⟨n * (i 0).val + (i 2).val, by
    have h0 : (i 0).val + 1 ≤ s := (i 0).isLt
    have h2 : (i 2).val < n := (i 2).isLt
    calc n * (i 0).val + (i 2).val < n * ((i 0).val + 1) := by rw [Nat.mul_add]; omega
      _ ≤ n * s := Nat.mul_le_mul_left n h0
      _ = N := by rw [hN, Nat.mul_comm]⟩)

/-- An entry of a matrix is fixed by the values of its coordinates. -/
theorem at2 {m n : ℕ} (x : Arr2 m n) {a a' : Fin m} {b b' : Fin n} (ha : a.val = a'.val) (hb : b.val = b'.val) :
    x (ix2 a b) = x (ix2 a' b') := by
  rw [Fin.ext ha, Fin.ext hb]

/-- An entry of a stack of matrices is fixed by the values of its coordinates. -/
theorem at3 {l m n : ℕ} (x : Arr3 l m n) {a a' : Fin l} {b b' : Fin m} {c c' : Fin n} (ha : a.val = a'.val) (hb : b.val = b'.val)
    (hc : c.val = c'.val) : x (ix3 a b c) = x (ix3 a' b' c') := by
  rw [Fin.ext ha, Fin.ext hb, Fin.ext hc]

/-- The left one of two matrices side by side. -/
theorem join_left {n : ℕ} (hN : N = 2 * n) (x : Arr3 2 M n) (i : (⟨2, ![M, N]⟩ : Shape).Idx) (j : Fin n) (h : (i 1).val = j.val) :
    join hN x i = x (ix3 0 (i 0) j) := by
  unfold join
  refine at3 x ?_ rfl ?_
  · show (i 1).val / n = 0
    rw [h, Nat.div_eq_of_lt j.isLt]
  · show (i 1).val % n = j.val
    rw [h, Nat.mod_eq_of_lt j.isLt]

/-- The right one of two matrices side by side. -/
theorem join_right {n : ℕ} (hN : N = 2 * n) (x : Arr3 2 M n) (i : (⟨2, ![M, N]⟩ : Shape).Idx) (j : Fin n) (h : (i 1).val = j.val + n) :
    join hN x i = x (ix3 1 (i 0) j) := by
  unfold join
  have hn : 0 < n := lt_of_le_of_lt (Nat.zero_le _) j.isLt
  refine at3 x ?_ rfl ?_
  · show (i 1).val / n = 1
    rw [h, Nat.add_div_right _ hn, Nat.div_eq_of_lt j.isLt]
  · show (i 1).val % n = j.val
    rw [h, Nat.add_mod_right, Nat.mod_eq_of_lt j.isLt]

/-- Two zero-padded halves add up to the matrices side by side. -/
theorem join_of_pads {n : ℕ} (hN : N = 2 * n) (x : Arr3 2 M n) (i : (⟨2, ![M, N]⟩ : Shape).Idx) {P Q : Prop} [Decidable P] [Decidable Q]
    {p : P → Fin n} {q : Q → Fin n} (hP : P ↔ n ≤ (i 1).val) (hQ : Q ↔ (i 1).val < n) (hp : ∀ h, (p h).val = (i 1).val - n)
    (hq : ∀ h, (q h).val = (i 1).val) :
    ((if h : P then x (ix3 1 (i 0) (p h)) else 0) + if h : Q then x (ix3 0 (i 0) (q h)) else 0 : EReal) = join hN x i := by
  by_cases h : Q
  · have h' := hQ.mp h
    rw [dif_neg (fun c => absurd (hP.mp c) (by omega)), dif_pos h, zero_add, join_left hN x i _ (hq h).symm]
  · have h' : n ≤ (i 1).val := by have := mt hQ.mpr h; omega
    rw [dif_pos (hP.mpr h'), dif_neg h, add_zero, join_right hN x i (p (hP.mpr h')) (by rw [hp]; omega)]

end Cert.Mat

end
-- ==== Proof.FfnDownDxValue.lean ====
/-
The kernel of the gradient of the down projection's rows and its reference, both as the product of the argument matrices.
-/
module

public import proofs.«01_k».proof.Proof.Mat
public import proofs.«01_k».proof.Proof.Gen.FfnDownDxIdeal.Value
public import proofs.«01_k».proof.Proof.Gen.FfnDownDxRefIdeal.Run
public import proofs.«01_k».proof.Proof.Gen.FfnDownDxRefIdeal.Read

@[expose] public section

set_option maxRecDepth 16384

noncomputable section

namespace Cert.FfnDownDxIdeal.Rows

open Idealize.ShloMosaic Idealize.ShloMosaic.TcCoe Idealize.SL.Sem
open Cert.FfnDownDxIdeal Cert.FfnDownDxIdeal.Gen

variable (m : (ℓ : Loc nD τ sig) → Buf (Elt Ideal) ℓ)

/-- The product both programs compute: the gradient of the down projection's rows. -/
def product (a : Vec Ideal S4096x1024 .bf16) (b : Vec Ideal S2816x1024 .bf16) : Mat.Arr2 4096 2816 :=
  Mat.nt (M := 4096) (N := 2816) (K := 1024) a b

/-- The blocks a grid point reads and writes. -/
theorem windows_at : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨e0, e1, e2⟩ := windows_at t
  blk_simp
  rw [after0_2]
  frame_out
  pointwise [k0_pay1]
  unfold Mat.nt
  exact Mat.sum_mul_congr (fun k => by blk_ext [iblk, V, e0, e1, e2]) (fun k => by blk_ext [iblk, V, e0, e1, e2])

end Cert.FfnDownDxIdeal.Rows

namespace Cert.FfnDownDxRefIdeal.Rows

open Idealize.ShloMosaic Idealize.ShloMosaic.TcCoe Idealize.SL.Sem
open Cert.FfnDownDxRefIdeal Cert.FfnDownDxRefIdeal.Read

/-- The reference's result is the product. -/
theorem ref (a : Vec Ideal S4096x1024 .bf16) (b : Vec Ideal S2816x1024 .bf16) :
    val_main_v5 (F := Ideal) a b = Cert.FfnDownDxIdeal.Rows.product a b := by
  unfold Cert.FfnDownDxIdeal.Rows.product
  funext i
  pointwise [val_main_v5, val_main_v4, val_main_v3, val_main_v1]
  rfl

end Cert.FfnDownDxRefIdeal.Rows

end
-- ==== Proof.FfnDownDwValue.lean ====
/-
The kernel of the gradient of the down projection's weights and its reference, both as the product of the argument matrices.
-/
module

public import proofs.«01_k».proof.Proof.Mat
public import proofs.«01_k».proof.Proof.Gen.FfnDownDwIdeal.Value
public import proofs.«01_k».proof.Proof.Gen.FfnDownDwRefIdeal.Run
public import proofs.«01_k».proof.Proof.Gen.FfnDownDwRefIdeal.Read

@[expose] public section

set_option maxRecDepth 16384

noncomputable section

namespace Cert.FfnDownDwIdeal.Rows

open Idealize.ShloMosaic Idealize.ShloMosaic.TcCoe Idealize.SL.Sem
open Cert.FfnDownDwIdeal Cert.FfnDownDwIdeal.Gen

variable (m : (ℓ : Loc nD τ sig) → Buf (Elt Ideal) ℓ)

/-- The product both programs compute: the gradient of the down projection's weights. -/
def product (a : Vec Ideal S4096x2816 .bf16) (b : Vec Ideal S4096x1024 .bf16) : Mat.Arr2 2816 1024 :=
  Mat.tn (M := 2816) (N := 1024) (K := 4096) a b

/-- The blocks a grid point reads and writes. -/
theorem windows_at : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- One point's product of its two blocks. -/
theorem pay1_at (a : Vec Ideal S2048x1408 .bf16) (b : Vec Ideal S2048x1024 .bf16) (j : S1408x1024.Idx) :
    k0_pay1 a b j = Mat.tn (M := 1408) (N := 1024) (K := 2048) a b j := by
  pointwise [k0_pay1]
  rfl

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨-, -, e2⟩ := windows_at t
  blk_simp
  rw [after0_2, Pipeline.eq_sum_fin_of_reset_step_apply_of_flush (fun n h => outsAt0 m c n h) 2 (fun _ => 0)
    (fun n j => k0_pay1 (iblk m c 0 n) (iblk m c 1 n) j)
    (fun t h j => by rw [outsAt0_A m c t h (by omega)]; frame_out; exact (zero_add _).symm)
    (fun t h j => by rw [outsAt0_B m c t h (by omega)]; frame_out; pointwise [k0_pay2]) t ((flush0_2 t).mp hf) y, zero_add]
  simp only [pay1_at]
  refine Mat.tn_chunks (by norm_num) (fun s l k hk => ?_) fun s l k hk => ?_
  · obtain ⟨f0, f1, -⟩ := windows_at ⟨2 * (t.val / 2) + s.val, by have h := lt_of_lt_of_eq t.isLt N_0; have := s.isLt; exact lt_of_lt_of_eq (b := 4) (by omega) N_0.symm⟩
    blk_ext [iblk, V, f0, f1, e2]
  · obtain ⟨f0, f1, -⟩ := windows_at ⟨2 * (t.val / 2) + s.val, by have h := lt_of_lt_of_eq t.isLt N_0; have := s.isLt; exact lt_of_lt_of_eq (b := 4) (by omega) N_0.symm⟩
    blk_ext [iblk, V, f0, f1, e2]

end Cert.FfnDownDwIdeal.Rows

namespace Cert.FfnDownDwRefIdeal.Rows

open Idealize.ShloMosaic Idealize.ShloMosaic.TcCoe Idealize.SL.Sem
open Cert.FfnDownDwRefIdeal Cert.FfnDownDwRefIdeal.Read

/-- The reference's result is the product. -/
theorem ref (a : Vec Ideal S4096x2816 .bf16) (b : Vec Ideal S4096x1024 .bf16) :
    val_main_v5 (F := Ideal) a b = Cert.FfnDownDwIdeal.Rows.product a b := by
  unfold Cert.FfnDownDwIdeal.Rows.product
  funext i
  pointwise [val_main_v5, val_main_v4, val_main_v3, val_main_v1]
  unfold Mat.tn
  exact Finset.sum_congr rfl fun k _ => mul_comm _ _

end Cert.FfnDownDwRefIdeal.Rows

end
-- ==== Proof.FfnUpDxValue.lean ====
/-
The kernel of the gradient of the up projections' rows and its reference, both as the product of the argument matrices.
-/
module

public import proofs.«01_k».proof.Proof.Mat
public import proofs.«01_k».proof.Proof.Gen.FfnUpDxIdeal.Value
public import proofs.«01_k».proof.Proof.Gen.FfnUpDxRefIdeal.Run
public import proofs.«01_k».proof.Proof.Gen.FfnUpDxRefIdeal.Read

@[expose] public section

set_option maxRecDepth 16384

noncomputable section

namespace Cert.FfnUpDxIdeal.Rows

open Idealize.ShloMosaic Idealize.ShloMosaic.TcCoe Idealize.SL.Sem
open Cert.FfnUpDxIdeal Cert.FfnUpDxIdeal.Gen

variable (m : (ℓ : Loc nD τ sig) → Buf (Elt Ideal) ℓ)

/-- The product both programs compute: the gradient of the up projections' rows. -/
def product (a : Vec Ideal S2x4096x2816 .bf16) (b : Vec Ideal S4x1x1024x1408 .bf16) : Mat.Arr2 4096 1024 :=
  Mat.nt (M := 4096) (N := 1024) (K := 5632) (Mat.join (n := 2816) rfl a) (Mat.wide (n := 1408) rfl b)

/-- The blocks a grid point reads and writes. -/
theorem windows_at : ∀ t : Fin cfg0.N, win0_0.index t = ![t.val % 4 / 2, t.val / 4, t.val % 4 % 2] ∧ win0_1.index t = ![t.val % 4, 0, 0, 0]
    ∧ win0_2.index t = ![t.val / 4, 0] :=
  (by decide +kernel : ∀ t : Fin grid0.N, _)

/-- One point's product of its two blocks. -/
theorem pay1_at (a : Vec Ideal S1x1024x1408 .bf16) (b : Vec Ideal S1x1x1024x1408 .bf16) (j : S1024x1024.Idx) :
    k0_pay1 a b j = Mat.nt (M := 1024) (N := 1024) (K := 1408) (fun i => a (ix3 0 (i 0) (i 1))) (fun i => b (ix4 0 0 (i 0) (i 1))) j := by
  pointwise [k0_pay1]
  rfl

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨-, -, e2⟩ := windows_at t
  blk_simp
  rw [after0_2, Pipeline.eq_sum_fin_of_reset_step_apply_of_flush (fun n h => outsAt0 m c n h) 4 (fun _ => 0)
    (fun n j => k0_pay1 (iblk m c 0 n) (iblk m c 1 n) j)
    (fun t h j => by rw [outsAt0_A m c t h (by omega)]; frame_out; exact (zero_add _).symm)
    (fun t h j => by rw [outsAt0_B m c t h (by omega)]; frame_out; pointwise [k0_pay2]) t ((flush0_2 t).mp hf) y, zero_add]
  simp only [pay1_at]
  refine Mat.nt_chunks (by norm_num) (fun s l k hk => ?_) fun s l k hk => ?_
  · obtain ⟨f0, f1, -⟩ := windows_at ⟨4 * (t.val / 4) + s.val, by have h := lt_of_lt_of_eq t.isLt N_0; have := s.isLt; exact lt_of_lt_of_eq (b := 16) (by omega) N_0.symm⟩
    unfold Mat.join
    blk_ext [iblk, V, f0, f1, e2]
  · obtain ⟨f0, f1, -⟩ := windows_at ⟨4 * (t.val / 4) + s.val, by have h := lt_of_lt_of_eq t.isLt N_0; have := s.isLt; exact lt_of_lt_of_eq (b := 16) (by omega) N_0.symm⟩
    unfold Mat.wide Mat.wide3
    blk_ext [iblk, V, f0, f1, e2]

end Cert.FfnUpDxIdeal.Rows

namespace Cert.FfnUpDxRefIdeal.Rows

open Idealize.ShloMosaic Idealize.ShloMosaic.TcCoe Idealize.SL.Sem
open Cert.FfnUpDxRefIdeal Cert.FfnUpDxRefIdeal.Read

/-- The weights' slabs side by side. -/
theorem wide_eq (b : Vec Ideal S4x1x1024x1408 .bf16) : val_main_v4 (F := Ideal) b = Mat.wide (K := 1024) (n := 1408) rfl b := by
  funext i
  pointwise [val_main_v4, val_main_v3, val_main_v2, val_main_v1]
  rfl

/-- The gradients of the two branches side by side. -/
theorem join_eq (a : Vec Ideal S2x4096x2816 .bf16) : val_main_v18 (F := Ideal) a = Mat.join (M := 4096) (n := 2816) rfl a := by
  funext i
  pointwise [val_main_v18, val_main_v17, val_main_v16, val_main_v15, val_main_v14, val_main_v13, val_main_v12, val_main_v11, val_main_cst_0, val_main_cst_1]
  have h1 : (i 1).val < 5632 := (i 1).isLt
  exact Mat.join_of_pads rfl a i (by omega) Iff.rfl (fun _ => rfl) fun _ => rfl

/-- The reference's result is the product. -/
theorem ref (a : Vec Ideal S2x4096x2816 .bf16) (b : Vec Ideal S4x1x1024x1408 .bf16) :
    val_main_v19 (F := Ideal) a b = Cert.FfnUpDxIdeal.Rows.product a b := by
  unfold Cert.FfnUpDxIdeal.Rows.product
  funext i
  pointwise [val_main_v19]
  rw [wide_eq, join_eq]
  rfl

end Cert.FfnUpDxRefIdeal.Rows

end
-- ==== Proof.FfnUpDwValue.lean ====
/-
The kernel of the gradient of the up projections' weights and its reference, both as the product of the argument matrices.
-/
module

public import proofs.«01_k».proof.Proof.Mat
public import proofs.«01_k».proof.Proof.Gen.FfnUpDwIdeal.Value
public import proofs.«01_k».proof.Proof.Gen.FfnUpDwRefIdeal.Run
public import proofs.«01_k».proof.Proof.Gen.FfnUpDwRefIdeal.Read

@[expose] public section

set_option maxRecDepth 16384

noncomputable section

namespace Cert.FfnUpDwIdeal.Rows

open Idealize.ShloMosaic Idealize.ShloMosaic.TcCoe Idealize.SL.Sem
open Cert.FfnUpDwIdeal Cert.FfnUpDwIdeal.Gen

variable (m : (ℓ : Loc nD τ sig) → Buf (Elt Ideal) ℓ)

/-- The product both programs compute: the gradient of the up projections' weights. -/
def product (a : Vec Ideal S4096x1024 .bf16) (b : Vec Ideal S2x4096x2816 .bf16) : Mat.Arr3 4 1024 1408 :=
  Mat.slabs (s := 4) (n := 1408) rfl (Mat.tn (M := 1024) (N := 5632) (K := 4096) a (Mat.join (n := 2816) rfl b))

/-- The blocks a grid point reads and writes. -/
theorem windows_at : ∀ t : Fin cfg0.N, win0_0.index t = ![t.val % 2, 0] ∧ win0_1.index t = ![t.val / 2 / 2, t.val % 2, t.val / 2 % 2]
    ∧ win0_2.index t = ![t.val / 2, 0, 0] :=
  (by decide +kernel : ∀ t : Fin grid0.N, _)

/-- One point's product of its two blocks. -/
theorem pay1_at (a : Vec Ideal S2048x1024 .bf16) (b : Vec Ideal S1x2048x1408 .bf16) (j : S1024x1408.Idx) :
    k0_pay1 a b j = Mat.tn (M := 1024) (N := 1408) (K := 2048) a (fun i => b (ix3 0 (i 0) (i 1))) j := by
  pointwise [k0_pay1]
  rfl

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨-, -, e2⟩ := windows_at t
  blk_simp
  rw [after0_2, Pipeline.eq_sum_fin_of_reset_step_apply_of_flush (fun n h => outsAt0 m c n h) 2 (fun _ => 0)
    (fun n j => k0_pay1 (iblk m c 0 n) (iblk m c 1 n) (ix2 (j 1) (j 2)))
    (fun t h j => by rw [outsAt0_A m c t h (by omega)]; frame_out; pointwise [k0_pay2])
    (fun t h j => by rw [outsAt0_B m c t h (by omega)]; frame_out; pointwise [k0_pay3]) t ((flush0_2 t).mp hf) y, zero_add]
  simp only [pay1_at]
  unfold Mat.slabs
  refine Mat.tn_chunks (by norm_num) (fun s l k hk => ?_) fun s l k hk => ?_
  · obtain ⟨f0, f1, -⟩ := windows_at ⟨2 * (t.val / 2) + s.val, by have h := lt_of_lt_of_eq t.isLt N_0; have := s.isLt; exact lt_of_lt_of_eq (b := 8) (by omega) N_0.symm⟩
    blk_ext [iblk, V, f0, f1, e2]
  · obtain ⟨f0, f1, -⟩ := windows_at ⟨2 * (t.val / 2) + s.val, by have h := lt_of_lt_of_eq t.isLt N_0; have := s.isLt; exact lt_of_lt_of_eq (b := 8) (by omega) N_0.symm⟩
    unfold Mat.join
    blk_ext [iblk, V, f0, f1, e2]

end Cert.FfnUpDwIdeal.Rows

namespace Cert.FfnUpDwRefIdeal.Rows

open Idealize.ShloMosaic Idealize.ShloMosaic.TcCoe Idealize.SL.Sem
open Cert.FfnUpDwRefIdeal Cert.FfnUpDwRefIdeal.Read

/-- The gradients of the two branches side by side. -/
theorem join_eq (a : Vec Ideal S2x4096x2816 .bf16) : val_main_v17 (F := Ideal) a = Mat.join (M := 4096) (n := 2816) rfl a := by
  funext i
  pointwise [val_main_v17, val_main_v16, val_main_v15, val_main_v14, val_main_v13, val_main_v12, val_main_v11, val_main_v10, val_main_cst_0, val_main_cst_1]
  have h1 : (i 1).val < 5632 := (i 1).isLt
  exact Mat.join_of_pads rfl a i (by omega) Iff.rfl (fun _ => rfl) fun _ => rfl

/-- The reference's result is the product. -/
theorem ref (a : Vec Ideal S4096x1024 .bf16) (b : Vec Ideal S2x4096x2816 .bf16) :
    val_main_v21 (F := Ideal) a b = Cert.FfnUpDwIdeal.Rows.product a b := by
  unfold Cert.FfnUpDwIdeal.Rows.product
  funext i
  pointwise [val_main_v21, val_main_v20, val_main_v19, val_main_v18, val_main_v1]
  rw [join_eq]
  unfold Mat.slabs Mat.tn
  refine Finset.sum_congr rfl fun k _ => ?_
  rw [mul_comm]
  exact congrArg _ (Mat.at2 _ rfl (by show (i 0).val * 1408 + (i 2).val = 1408 * (i 0).val + (i 2).val; omega))

end Cert.FfnUpDwRefIdeal.Rows

end
-- ==== Proof.OProjDxValue.lean ====
/-
The kernel of the gradient of the output projection's rows and its reference, both as the product of the argument matrices.
-/
module

public import proofs.«01_k».proof.Proof.Mat
public import proofs.«01_k».proof.Proof.Gen.OProjDxIdeal.Value
public import proofs.«01_k».proof.Proof.Gen.OProjDxRefIdeal.Run
public import proofs.«01_k».proof.Proof.Gen.OProjDxRefIdeal.Read

@[expose] public section

set_option maxRecDepth 16384

noncomputable section

namespace Cert.OProjDxIdeal.Rows

open Idealize.ShloMosaic Idealize.ShloMosaic.TcCoe Idealize.SL.Sem
open Cert.OProjDxIdeal Cert.OProjDxIdeal.Gen

variable (m : (ℓ : Loc nD τ sig) → Buf (Elt Ideal) ℓ)

/-- The product both programs compute: the gradient of the output projection's rows. -/
def product (a : Vec Ideal S4096x1024 .bf16) (b : Vec Ideal S1024x1024 .bf16) : Mat.Arr2 4096 1024 :=
  Mat.nt (M := 4096) (N := 1024) (K := 1024) a b

/-- The blocks a grid point reads and writes. -/
theorem windows_at : ∀ t : Fin cfg0.N, win0_0.index t = ![t.val, 0] ∧ win0_1.index t = ![0, 0]
    ∧ win0_2.index t = ![t.val, 0] :=
  (by decide +kernel : ∀ t : Fin grid0.N, _)

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨e0, e1, e2⟩ := windows_at t
  blk_simp
  rw [after0_2]
  frame_out
  pointwise [k0_pay1]
  unfold Mat.nt
  exact Mat.sum_mul_congr (fun k => by blk_ext [iblk, V, e0, e1, e2]) (fun k => by blk_ext [iblk, V, e0, e1, e2])

end Cert.OProjDxIdeal.Rows

namespace Cert.OProjDxRefIdeal.Rows

open Idealize.ShloMosaic Idealize.ShloMosaic.TcCoe Idealize.SL.Sem
open Cert.OProjDxRefIdeal Cert.OProjDxRefIdeal.Read

/-- The reference's result is the product. -/
theorem ref (a : Vec Ideal S4096x1024 .bf16) (b : Vec Ideal S1024x1024 .bf16) :
    val_main_v5 (F := Ideal) a b = Cert.OProjDxIdeal.Rows.product a b := by
  unfold Cert.OProjDxIdeal.Rows.product
  funext i
  pointwise [val_main_v5, val_main_v4, val_main_v3, val_main_v1]
  rfl

end Cert.OProjDxRefIdeal.Rows

end
-- ==== Proof.ProjDxValue.lean ====
/-
The kernel of the gradient of a square projection's rows and its reference, both as the product of the argument matrices.
-/
module

public import proofs.«01_k».proof.Proof.Mat
public import proofs.«01_k».proof.Proof.Gen.ProjDxIdeal.Value
public import proofs.«01_k».proof.Proof.Gen.ProjDxRefIdeal.Run
public import proofs.«01_k».proof.Proof.Gen.ProjDxRefIdeal.Read

@[expose] public section

set_option maxRecDepth 16384

noncomputable section

namespace Cert.ProjDxIdeal.Rows

open Idealize.ShloMosaic Idealize.ShloMosaic.TcCoe Idealize.SL.Sem
open Cert.ProjDxIdeal Cert.ProjDxIdeal.Gen

variable (m : (ℓ : Loc nD τ sig) → Buf (Elt Ideal) ℓ)

/-- The product both programs compute: the gradient of a square projection's rows. -/
def product (a : Vec Ideal S4096x1024 .bf16) (b : Vec Ideal S1024x1024 .bf16) : Mat.Arr2 4096 1024 :=
  Mat.nt (M := 4096) (N := 1024) (K := 1024) a b

/-- The blocks a grid point reads and writes. -/
theorem windows_at : ∀ t : Fin cfg0.N, win0_0.index t = ![t.val, 0] ∧ win0_1.index t = ![0, 0]
    ∧ win0_2.index t = ![t.val, 0] :=
  (by decide +kernel : ∀ t : Fin grid0.N, _)

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨e0, e1, e2⟩ := windows_at t
  blk_simp
  rw [after0_2]
  frame_out
  pointwise [k0_pay1]
  unfold Mat.nt
  exact Mat.sum_mul_congr (fun k => by blk_ext [iblk, V, e0, e1, e2]) (fun k => by blk_ext [iblk, V, e0, e1, e2])

end Cert.ProjDxIdeal.Rows

namespace Cert.ProjDxRefIdeal.Rows

open Idealize.ShloMosaic Idealize.ShloMosaic.TcCoe Idealize.SL.Sem
open Cert.ProjDxRefIdeal Cert.ProjDxRefIdeal.Read

/-- The reference's result is the product. -/
theorem ref (a : Vec Ideal S4096x1024 .bf16) (b : Vec Ideal S1024x1024 .bf16) :
    val_main_v4 (F := Ideal) a b = Cert.ProjDxIdeal.Rows.product a b := by
  unfold Cert.ProjDxIdeal.Rows.product
  funext i
  pointwise [val_main_v4, val_main_v3, val_main_v1]
  rfl

end Cert.ProjDxRefIdeal.Rows

end
-- ==== Proof.ProjDwValue.lean ====
/-
The kernel of the gradient of a square projection's weights and its reference, both as the product of the argument matrices.
-/
module

public import proofs.«01_k».proof.Proof.Mat
public import proofs.«01_k».proof.Proof.Gen.ProjDwIdeal.Value
public import proofs.«01_k».proof.Proof.Gen.ProjDwRefIdeal.Run
public import proofs.«01_k».proof.Proof.Gen.ProjDwRefIdeal.Read

@[expose] public section

set_option maxRecDepth 16384

noncomputable section

namespace Cert.ProjDwIdeal.Rows

open Idealize.ShloMosaic Idealize.ShloMosaic.TcCoe Idealize.SL.Sem
open Cert.ProjDwIdeal Cert.ProjDwIdeal.Gen

variable (m : (ℓ : Loc nD τ sig) → Buf (Elt Ideal) ℓ)

/-- The product both programs compute: the gradient of a square projection's weights. -/
def product (a : Vec Ideal S4096x1024 .bf16) (b : Vec Ideal S4096x1024 .bf16) : Mat.Arr2 1024 1024 :=
  Mat.tn (M := 1024) (N := 1024) (K := 4096) a b

/-- The blocks a grid point reads and writes. -/
theorem windows_at : ∀ t : Fin cfg0.N, win0_0.index t = ![t.val, 0] ∧ win0_1.index t = ![t.val, 0]
    ∧ win0_2.index t = ![0, 0] :=
  (by decide +kernel : ∀ t : Fin grid0.N, _)

/-- One point's product of its two blocks. -/
theorem pay1_at (a : Vec Ideal S2048x1024 .bf16) (b : Vec Ideal S2048x1024 .bf16) (j : S1024x1024.Idx) :
    k0_pay1 a b j = Mat.tn (M := 1024) (N := 1024) (K := 2048) a b j := by
  pointwise [k0_pay1]
  rfl

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨-, -, e2⟩ := windows_at t
  blk_simp
  rw [after0_2, Pipeline.eq_sum_fin_of_reset_step_apply_of_flush (fun n h => outsAt0 m c n h) 2 (fun _ => 0)
    (fun n j => k0_pay1 (iblk m c 0 n) (iblk m c 1 n) j)
    (fun t h j => by rw [outsAt0_A m c t h (by omega)]; frame_out; exact (zero_add _).symm)
    (fun t h j => by rw [outsAt0_B m c t h (by omega)]; frame_out; pointwise [k0_pay2]) t ((flush0_2 t).mp hf) y, zero_add]
  simp only [pay1_at]
  refine Mat.tn_chunks (by norm_num) (fun s l k hk => ?_) fun s l k hk => ?_
  · obtain ⟨f0, f1, -⟩ := windows_at ⟨2 * (t.val / 2) + s.val, by have h := lt_of_lt_of_eq t.isLt N_0; have := s.isLt; exact lt_of_lt_of_eq (b := 2) (by omega) N_0.symm⟩
    blk_ext [iblk, V, f0, f1, e2]
  · obtain ⟨f0, f1, -⟩ := windows_at ⟨2 * (t.val / 2) + s.val, by have h := lt_of_lt_of_eq t.isLt N_0; have := s.isLt; exact lt_of_lt_of_eq (b := 2) (by omega) N_0.symm⟩
    blk_ext [iblk, V, f0, f1, e2]

end Cert.ProjDwIdeal.Rows

namespace Cert.ProjDwRefIdeal.Rows

open Idealize.ShloMosaic Idealize.ShloMosaic.TcCoe Idealize.SL.Sem
open Cert.ProjDwRefIdeal Cert.ProjDwRefIdeal.Read

/-- The reference's result is the product. -/
theorem ref (a : Vec Ideal S4096x1024 .bf16) (b : Vec Ideal S4096x1024 .bf16) :
    val_main_v5 (F := Ideal) a b = Cert.ProjDwIdeal.Rows.product a b := by
  unfold Cert.ProjDwIdeal.Rows.product
  funext i
  pointwise [val_main_v5, val_main_v4, val_main_v3, val_main_v1]
  unfold Mat.tn
  exact Finset.sum_congr rfl fun k _ => mul_comm _ _

end Cert.ProjDwRefIdeal.Rows

end
-- ==== Proof.KvDxValue.lean ====
/-
The kernel of the gradient of the key and value projections' rows and its reference, both as the product of the argument matrices.
-/
module

public import proofs.«01_k».proof.Proof.Mat
public import proofs.«01_k».proof.Proof.Gen.KvDxIdeal.Value
public import proofs.«01_k».proof.Proof.Gen.KvDxRefIdeal.Run
public import proofs.«01_k».proof.Proof.Gen.KvDxRefIdeal.Read

@[expose] public section

set_option maxRecDepth 16384

noncomputable section

namespace Cert.KvDxIdeal.Rows

open Idealize.ShloMosaic Idealize.ShloMosaic.TcCoe Idealize.SL.Sem
open Cert.KvDxIdeal Cert.KvDxIdeal.Gen

variable (m : (ℓ : Loc nD τ sig) → Buf (Elt Ideal) ℓ)

/-- The product both programs compute: the gradient of the key and value projections' rows. -/
def product (a : Vec Ideal S2x4096x1024 .bf16) (b : Vec Ideal S4x1x1024x512 .bf16) : Mat.Arr2 4096 1024 :=
  Mat.nt (M := 4096) (N := 1024) (K := 2048) (Mat.join (n := 1024) rfl a) (Mat.wide (n := 512) rfl b)

/-- The blocks a grid point reads and writes. -/
theorem windows_at : ∀ t : Fin cfg0.N, win0_0.index t = ![t.val % 4 / 2, t.val / 4, t.val % 4 % 2] ∧ win0_1.index t = ![t.val % 4, 0, 0, 0]
    ∧ win0_2.index t = ![t.val / 4, 0] :=
  (by decide +kernel : ∀ t : Fin grid0.N, _)

/-- One point's product of its two blocks. -/
theorem pay1_at (a : Vec Ideal S1x1024x512 .bf16) (b : Vec Ideal S1x1x1024x512 .bf16) (j : S1024x1024.Idx) :
    k0_pay1 a b j = Mat.nt (M := 1024) (N := 1024) (K := 512) (fun i => a (ix3 0 (i 0) (i 1))) (fun i => b (ix4 0 0 (i 0) (i 1))) j := by
  pointwise [k0_pay1]
  rfl

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨-, -, e2⟩ := windows_at t
  blk_simp
  rw [after0_2, Pipeline.eq_sum_fin_of_reset_step_apply_of_flush (fun n h => outsAt0 m c n h) 4 (fun _ => 0)
    (fun n j => k0_pay1 (iblk m c 0 n) (iblk m c 1 n) j)
    (fun t h j => by rw [outsAt0_A m c t h (by omega)]; frame_out; exact (zero_add _).symm)
    (fun t h j => by rw [outsAt0_B m c t h (by omega)]; frame_out; pointwise [k0_pay2]) t ((flush0_2 t).mp hf) y, zero_add]
  simp only [pay1_at]
  refine Mat.nt_chunks (by norm_num) (fun s l k hk => ?_) fun s l k hk => ?_
  · obtain ⟨f0, f1, -⟩ := windows_at ⟨4 * (t.val / 4) + s.val, by have h := lt_of_lt_of_eq t.isLt N_0; have := s.isLt; exact lt_of_lt_of_eq (b := 16) (by omega) N_0.symm⟩
    unfold Mat.join
    blk_ext [iblk, V, f0, f1, e2]
  · obtain ⟨f0, f1, -⟩ := windows_at ⟨4 * (t.val / 4) + s.val, by have h := lt_of_lt_of_eq t.isLt N_0; have := s.isLt; exact lt_of_lt_of_eq (b := 16) (by omega) N_0.symm⟩
    unfold Mat.wide Mat.wide3
    blk_ext [iblk, V, f0, f1, e2]

end Cert.KvDxIdeal.Rows

namespace Cert.KvDxRefIdeal.Rows

open Idealize.ShloMosaic Idealize.ShloMosaic.TcCoe Idealize.SL.Sem
open Cert.KvDxRefIdeal Cert.KvDxRefIdeal.Read

/-- The weights' slabs side by side. -/
theorem wide_eq (b : Vec Ideal S4x1x1024x512 .bf16) : val_main_v4 (F := Ideal) b = Mat.wide (K := 1024) (n := 512) rfl b := by
  funext i
  pointwise [val_main_v4, val_main_v3, val_main_v2, val_main_v1]
  rfl

/-- The gradients of the two branches side by side. -/
theorem join_eq (a : Vec Ideal S2x4096x1024 .bf16) : val_main_v18 (F := Ideal) a = Mat.join (M := 4096) (n := 1024) rfl a := by
  funext i
  pointwise [val_main_v18, val_main_v17, val_main_v16, val_main_v15, val_main_v14, val_main_v13, val_main_v12, val_main_v11, val_main_cst_0, val_main_cst_1]
  have h1 : (i 1).val < 2048 := (i 1).isLt
  exact Mat.join_of_pads rfl a i (by omega) Iff.rfl (fun _ => rfl) fun _ => rfl

/-- The reference's result is the product. -/
theorem ref (a : Vec Ideal S2x4096x1024 .bf16) (b : Vec Ideal S4x1x1024x512 .bf16) :
    val_main_v19 (F := Ideal) a b = Cert.KvDxIdeal.Rows.product a b := by
  unfold Cert.KvDxIdeal.Rows.product
  funext i
  pointwise [val_main_v19]
  rw [wide_eq, join_eq]
  rfl

end Cert.KvDxRefIdeal.Rows

end
-- ==== Proof.KvDwValue.lean ====
/-
The kernel of the gradient of the key and value projections' weights and its reference, both as the product of the argument matrices.
-/
module

public import proofs.«01_k».proof.Proof.Mat
public import proofs.«01_k».proof.Proof.Gen.KvDwIdeal.Value
public import proofs.«01_k».proof.Proof.Gen.KvDwRefIdeal.Run
public import proofs.«01_k».proof.Proof.Gen.KvDwRefIdeal.Read

@[expose] public section

set_option maxRecDepth 16384

noncomputable section

namespace Cert.KvDwIdeal.Rows

open Idealize.ShloMosaic Idealize.ShloMosaic.TcCoe Idealize.SL.Sem
open Cert.KvDwIdeal Cert.KvDwIdeal.Gen

variable (m : (ℓ : Loc nD τ sig) → Buf (Elt Ideal) ℓ)

/-- The product both programs compute: the gradient of the key and value projections' weights. -/
def product (a : Vec Ideal S4096x1024 .bf16) (b : Vec Ideal S2x4096x1024 .bf16) : Mat.Arr3 4 1024 512 :=
  Mat.slabs (s := 4) (n := 512) rfl (Mat.tn (M := 1024) (N := 2048) (K := 4096) a (Mat.join (n := 1024) rfl b))

/-- The blocks a grid point reads and writes. -/
theorem windows_at : ∀ t : Fin cfg0.N, win0_0.index t = ![t.val % 2, 0] ∧ win0_1.index t = ![t.val / 2 / 2, t.val % 2, t.val / 2 % 2]
    ∧ win0_2.index t = ![t.val / 2, 0, 0] :=
  (by decide +kernel : ∀ t : Fin grid0.N, _)

/-- One point's product of its two blocks. -/
theorem pay1_at (a : Vec Ideal S2048x1024 .bf16) (b : Vec Ideal S1x2048x512 .bf16) (j : S1024x512.Idx) :
    k0_pay1 a b j = Mat.tn (M := 1024) (N := 512) (K := 2048) a (fun i => b (ix3 0 (i 0) (i 1))) j := by
  pointwise [k0_pay1]
  rfl

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨-, -, e2⟩ := windows_at t
  blk_simp
  rw [after0_2, Pipeline.eq_sum_fin_of_reset_step_apply_of_flush (fun n h => outsAt0 m c n h) 2 (fun _ => 0)
    (fun n j => k0_pay1 (iblk m c 0 n) (iblk m c 1 n) (ix2 (j 1) (j 2)))
    (fun t h j => by rw [outsAt0_A m c t h (by omega)]; frame_out; pointwise [k0_pay2])
    (fun t h j => by rw [outsAt0_B m c t h (by omega)]; frame_out; pointwise [k0_pay3]) t ((flush0_2 t).mp hf) y, zero_add]
  simp only [pay1_at]
  unfold Mat.slabs
  refine Mat.tn_chunks (by norm_num) (fun s l k hk => ?_) fun s l k hk => ?_
  · obtain ⟨f0, f1, -⟩ := windows_at ⟨2 * (t.val / 2) + s.val, by have h := lt_of_lt_of_eq t.isLt N_0; have := s.isLt; exact lt_of_lt_of_eq (b := 8) (by omega) N_0.symm⟩
    blk_ext [iblk, V, f0, f1, e2]
  · obtain ⟨f0, f1, -⟩ := windows_at ⟨2 * (t.val / 2) + s.val, by have h := lt_of_lt_of_eq t.isLt N_0; have := s.isLt; exact lt_of_lt_of_eq (b := 8) (by omega) N_0.symm⟩
    unfold Mat.join
    blk_ext [iblk, V, f0, f1, e2]

end Cert.KvDwIdeal.Rows

namespace Cert.KvDwRefIdeal.Rows

open Idealize.ShloMosaic Idealize.ShloMosaic.TcCoe Idealize.SL.Sem
open Cert.KvDwRefIdeal Cert.KvDwRefIdeal.Read

/-- The gradients of the two branches side by side. -/
theorem join_eq (a : Vec Ideal S2x4096x1024 .bf16) : val_main_v17 (F := Ideal) a = Mat.join (M := 4096) (n := 1024) rfl a := by
  funext i
  pointwise [val_main_v17, val_main_v16, val_main_v15, val_main_v14, val_main_v13, val_main_v12, val_main_v11, val_main_v10, val_main_cst_0, val_main_cst_1]
  have h1 : (i 1).val < 2048 := (i 1).isLt
  exact Mat.join_of_pads rfl a i (by omega) Iff.rfl (fun _ => rfl) fun _ => rfl

/-- The reference's result is the product. -/
theorem ref (a : Vec Ideal S4096x1024 .bf16) (b : Vec Ideal S2x4096x1024 .bf16) :
    val_main_v21 (F := Ideal) a b = Cert.KvDwIdeal.Rows.product a b := by
  unfold Cert.KvDwIdeal.Rows.product
  funext i
  pointwise [val_main_v21, val_main_v20, val_main_v19, val_main_v18, val_main_v1]
  rw [join_eq]
  unfold Mat.slabs Mat.tn
  refine Finset.sum_congr rfl fun k _ => ?_
  rw [mul_comm]
  exact congrArg _ (Mat.at2 _ rfl (by show (i 0).val * 512 + (i 2).val = 512 * (i 0).val + (i 2).val; omega))

end Cert.KvDwRefIdeal.Rows

end
-- ==== Proof.GluDxValue.lean ====
/-
The kernel of the gradient of the gated unit's rows and its reference, both as the product of the argument matrices.
-/
module

public import proofs.«01_k».proof.Proof.Mat
public import proofs.«01_k».proof.Proof.Gen.GluDxIdeal.Value
public import proofs.«01_k».proof.Proof.Gen.GluDxRefIdeal.Run
public import proofs.«01_k».proof.Proof.Gen.GluDxRefIdeal.Read

@[expose] public section

set_option maxRecDepth 16384

noncomputable section

namespace Cert.GluDxIdeal.Rows

open Idealize.ShloMosaic Idealize.ShloMosaic.TcCoe Idealize.SL.Sem
open Cert.GluDxIdeal Cert.GluDxIdeal.Gen

variable (m : (ℓ : Loc nD τ sig) → Buf (Elt Ideal) ℓ)

/-- The product both programs compute: the gradient of the gated unit's rows. -/
def product (a : Vec Ideal S4096x2048 .bf16) (b : Vec Ideal S4x1024x512 .bf16) : Mat.Arr2 4096 1024 :=
  Mat.nt (M := 4096) (N := 1024) (K := 2048) a (Mat.wide3 (n := 512) rfl b)

/-- The blocks a grid point reads and writes. -/
theorem windows_at : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- One point's product of its two blocks. -/
theorem pay1_at (a : Vec Ideal S1024x512 .bf16) (b : Vec Ideal S1x1024x512 .bf16) (j : S1024x1024.Idx) :
    k0_pay1 a b j = Mat.nt (M := 1024) (N := 1024) (K := 512) a (fun i => b (ix3 0 (i 0) (i 1))) j := by
  pointwise [k0_pay1]
  rfl

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨-, -, e2⟩ := windows_at t
  blk_simp
  rw [after0_2, Pipeline.eq_sum_fin_of_reset_step_apply_of_flush (fun n h => outsAt0 m c n h) 4 (fun _ => 0)
    (fun n j => k0_pay1 (iblk m c 0 n) (iblk m c 1 n) j)
    (fun t h j => by rw [outsAt0_A m c t h (by omega)]; frame_out; exact (zero_add _).symm)
    (fun t h j => by rw [outsAt0_B m c t h (by omega)]; frame_out; pointwise [k0_pay2]) t ((flush0_2 t).mp hf) y, zero_add]
  simp only [pay1_at]
  refine Mat.nt_chunks (by norm_num) (fun s l k hk => ?_) fun s l k hk => ?_
  · obtain ⟨f0, f1, -⟩ := windows_at ⟨4 * (t.val / 4) + s.val, by have h := lt_of_lt_of_eq t.isLt N_0; have := s.isLt; exact lt_of_lt_of_eq (b := 16) (by omega) N_0.symm⟩
    blk_ext [iblk, V, f0, f1, e2]
  · obtain ⟨f0, f1, -⟩ := windows_at ⟨4 * (t.val / 4) + s.val, by have h := lt_of_lt_of_eq t.isLt N_0; have := s.isLt; exact lt_of_lt_of_eq (b := 16) (by omega) N_0.symm⟩
    unfold Mat.wide3
    blk_ext [iblk, V, f0, f1, e2]

end Cert.GluDxIdeal.Rows

namespace Cert.GluDxRefIdeal.Rows

open Idealize.ShloMosaic Idealize.ShloMosaic.TcCoe Idealize.SL.Sem
open Cert.GluDxRefIdeal Cert.GluDxRefIdeal.Read

/-- The weights' slabs side by side. -/
theorem wide_eq (b : Vec Ideal S4x1024x512 .bf16) : val_main_v3 (F := Ideal) b = Mat.wide3 (K := 1024) (n := 512) rfl b := by
  funext i
  pointwise [val_main_v3, val_main_v2, val_main_v1]
  rfl

/-- The reference's result is the product. -/
theorem ref (a : Vec Ideal S4096x2048 .bf16) (b : Vec Ideal S4x1024x512 .bf16) :
    val_main_v6 (F := Ideal) a b = Cert.GluDxIdeal.Rows.product a b := by
  unfold Cert.GluDxIdeal.Rows.product
  funext i
  pointwise [val_main_v6, val_main_v5]
  rw [wide_eq]
  rfl

end Cert.GluDxRefIdeal.Rows

end
-- ==== Proof.GluDwValue.lean ====
/-
The kernel of the gradient of the gated unit's weights and its reference, both as the product of the argument matrices.
-/
module

public import proofs.«01_k».proof.Proof.Mat
public import proofs.«01_k».proof.Proof.Gen.GluDwIdeal.Value
public import proofs.«01_k».proof.Proof.Gen.GluDwRefIdeal.Run
public import proofs.«01_k».proof.Proof.Gen.GluDwRefIdeal.Read

@[expose] public section

set_option maxRecDepth 16384

noncomputable section

namespace Cert.GluDwIdeal.Rows

open Idealize.ShloMosaic Idealize.ShloMosaic.TcCoe Idealize.SL.Sem
open Cert.GluDwIdeal Cert.GluDwIdeal.Gen

variable (m : (ℓ : Loc nD τ sig) → Buf (Elt Ideal) ℓ)

/-- The product both programs compute: the gradient of the gated unit's weights. -/
def product (a : Vec Ideal S4096x1024 .bf16) (b : Vec Ideal S4096x2048 .bf16) : Mat.Arr3 4 1024 512 :=
  Mat.slabs (s := 4) (n := 512) rfl (Mat.tn (M := 1024) (N := 2048) (K := 4096) a b)

/-- The blocks a grid point reads and writes. -/
theorem windows_at : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

/-- One point's product of its two blocks. -/
theorem pay1_at (a : Vec Ideal S2048x1024 .bf16) (b : Vec Ideal S2048x512 .bf16) (j : S1024x512.Idx) :
    k0_pay1 a b j = Mat.tn (M := 1024) (N := 512) (K := 2048) a b j := by
  pointwise [k0_pay1]
  rfl

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨-, -, e2⟩ := windows_at t
  blk_simp
  rw [after0_2, Pipeline.eq_sum_fin_of_reset_step_apply_of_flush (fun n h => outsAt0 m c n h) 2 (fun _ => 0)
    (fun n j => k0_pay1 (iblk m c 0 n) (iblk m c 1 n) (ix2 (j 1) (j 2)))
    (fun t h j => by rw [outsAt0_A m c t h (by omega)]; frame_out; pointwise [k0_pay2])
    (fun t h j => by rw [outsAt0_B m c t h (by omega)]; frame_out; pointwise [k0_pay3]) t ((flush0_2 t).mp hf) y, zero_add]
  simp only [pay1_at]
  unfold Mat.slabs
  refine Mat.tn_chunks (by norm_num) (fun s l k hk => ?_) fun s l k hk => ?_
  · obtain ⟨f0, f1, -⟩ := windows_at ⟨2 * (t.val / 2) + s.val, by have h := lt_of_lt_of_eq t.isLt N_0; have := s.isLt; exact lt_of_lt_of_eq (b := 8) (by omega) N_0.symm⟩
    blk_ext [iblk, V, f0, f1, e2]
  · obtain ⟨f0, f1, -⟩ := windows_at ⟨2 * (t.val / 2) + s.val, by have h := lt_of_lt_of_eq t.isLt N_0; have := s.isLt; exact lt_of_lt_of_eq (b := 8) (by omega) N_0.symm⟩
    blk_ext [iblk, V, f0, f1, e2]

end Cert.GluDwIdeal.Rows

namespace Cert.GluDwRefIdeal.Rows

open Idealize.ShloMosaic Idealize.ShloMosaic.TcCoe Idealize.SL.Sem
open Cert.GluDwRefIdeal Cert.GluDwRefIdeal.Read

/-- The reference's result is the product. -/
theorem ref (a : Vec Ideal S4096x1024 .bf16) (b : Vec Ideal S4096x2048 .bf16) :
    val_main_v9 (F := Ideal) a b = Cert.GluDwIdeal.Rows.product a b := by
  unfold Cert.GluDwIdeal.Rows.product
  funext i
  pointwise [val_main_v9, val_main_v8, val_main_v7, val_main_v6, val_main_v5, val_main_v1]
  unfold Mat.slabs Mat.tn
  refine Finset.sum_congr rfl fun k _ => ?_
  rw [mul_comm]
  exact congrArg _ (Mat.at2 _ rfl (by show (i 0).val * 512 + (i 2).val = 512 * (i 0).val + (i 2).val; omega))

end Cert.GluDwRefIdeal.Rows

end
-- ==== Proof.FfnDownValue.lean ====
/-
The kernel of the down projection and its reference, both as the product of the argument matrices.
-/
module

public import proofs.«01_k».proof.Proof.Mat
public import proofs.«01_k».proof.Proof.Gen.FfnDownIdeal.Value
public import proofs.«01_k».proof.Proof.Gen.FfnDownRefIdeal.Run
public import proofs.«01_k».proof.Proof.Gen.FfnDownRefIdeal.Read

@[expose] public section

set_option maxRecDepth 16384

noncomputable section

namespace Cert.FfnDownIdeal.Rows

open Idealize.ShloMosaic Idealize.ShloMosaic.TcCoe Idealize.SL.Sem
open Cert.FfnDownIdeal Cert.FfnDownIdeal.Gen

variable (m : (ℓ : Loc nD τ sig) → Buf (Elt Ideal) ℓ)

/-- The product both programs compute: the down projection. -/
def product (a : Vec Ideal S4096x2816 .bf16) (b : Vec Ideal S2816x1024 .bf16) : Mat.Arr2 4096 1024 :=
  Mat.nn (M := 4096) (N := 1024) (K := 2816) a b

/-- The blocks a grid point reads and writes. -/
theorem windows_at : ∀ t : Fin cfg0.N, win0_0.index t = ![t.val, 0] ∧ win0_1.index t = ![0, 0]
    ∧ win0_2.index t = ![t.val, 0] :=
  (by decide +kernel : ∀ t : Fin grid0.N, _)

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨e0, e1, e2⟩ := windows_at t
  blk_simp
  rw [after0_2]
  frame_out
  pointwise [k0_pay1]
  unfold Mat.nn
  exact Mat.sum_mul_congr (fun k => by blk_ext [iblk, V, e0, e1, e2]) (fun k => by blk_ext [iblk, V, e0, e1, e2])

end Cert.FfnDownIdeal.Rows

namespace Cert.FfnDownRefIdeal.Rows

open Idealize.ShloMosaic Idealize.ShloMosaic.TcCoe Idealize.SL.Sem
open Cert.FfnDownRefIdeal Cert.FfnDownRefIdeal.Read

/-- The reference's result is the product. -/
theorem ref (a : Vec Ideal S4096x2816 .bf16) (b : Vec Ideal S2816x1024 .bf16) :
    val_main_v2 (F := Ideal) a b = Cert.FfnDownIdeal.Rows.product a b := by
  unfold Cert.FfnDownIdeal.Rows.product
  funext i
  pointwise [val_main_v2, val_main_v1, val_main_v0]
  rfl

end Cert.FfnDownRefIdeal.Rows

end
-- ==== Proof.FfnUpValue.lean ====
/-
The kernel of the up projections and its reference, both as the product of the argument matrices.
-/
module

public import proofs.«01_k».proof.Proof.Mat
public import proofs.«01_k».proof.Proof.Gen.FfnUpIdeal.Value
public import proofs.«01_k».proof.Proof.Gen.FfnUpRefIdeal.Run
public import proofs.«01_k».proof.Proof.Gen.FfnUpRefIdeal.Read

@[expose] public section

set_option maxRecDepth 16384

noncomputable section

namespace Cert.FfnUpIdeal.Rows

open Idealize.ShloMosaic Idealize.ShloMosaic.TcCoe Idealize.SL.Sem
open Cert.FfnUpIdeal Cert.FfnUpIdeal.Gen

variable (m : (ℓ : Loc nD τ sig) → Buf (Elt Ideal) ℓ)

/-- The product both programs compute: the up projections. -/
def product (a : Vec Ideal S4096x1024 .bf16) (b : Vec Ideal S4x1x1024x1408 .bf16) : Mat.Arr3 2 4096 2816 :=
  Mat.slabs (s := 2) (n := 2816) rfl (Mat.nn (M := 4096) (N := 5632) (K := 1024) a (Mat.wide (n := 1408) rfl b))

/-- The blocks a grid point reads and writes. -/
theorem windows_at : ∀ t : Fin cfg0.N, win0_0.index t = ![t.val / 4, 0] ∧ win0_1.index t = ![t.val % 4, 0, 0, 0]
    ∧ win0_2.index t = ![t.val % 4 / 2, t.val / 4, t.val % 4 % 2] :=
  (by decide +kernel : ∀ t : Fin grid0.N, _)

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨e0, e1, e2⟩ := windows_at t
  blk_simp
  rw [after0_2]
  frame_out
  pointwise [k0_pay1]
  unfold Mat.slabs Mat.nn Mat.wide Mat.wide3
  exact Mat.sum_mul_congr (fun k => by blk_ext [iblk, V, e0, e1, e2]) (fun k => by blk_ext [iblk, V, e0, e1, e2])

end Cert.FfnUpIdeal.Rows

namespace Cert.FfnUpRefIdeal.Rows

open Idealize.ShloMosaic Idealize.ShloMosaic.TcCoe Idealize.SL.Sem
open Cert.FfnUpRefIdeal Cert.FfnUpRefIdeal.Read

/-- The weights' slabs side by side. -/
theorem wide_eq (b : Vec Ideal S4x1x1024x1408 .bf16) : val_main_v4 (F := Ideal) b = Mat.wide (K := 1024) (n := 1408) rfl b := by
  funext i
  pointwise [val_main_v4, val_main_v3, val_main_v2, val_main_v1]
  rfl

/-- The reference's result is the product. -/
theorem ref (a : Vec Ideal S4096x1024 .bf16) (b : Vec Ideal S4x1x1024x1408 .bf16) :
    val_main_v11 (F := Ideal) a b = Cert.FfnUpIdeal.Rows.product a b := by
  unfold Cert.FfnUpIdeal.Rows.product
  funext i
  pointwise [val_main_v11, val_main_v10, val_main_v9, val_main_v8, val_main_v7, val_main_v6, val_main_v5, val_main_v0]
  rw [wide_eq]
  have h0 : (i 0).val < 2 := (i 0).isLt
  unfold Mat.slabs Mat.nn
  split_ifs with h
  · exact Mat.sum_mul_congr (fun k => rfl) fun k => Mat.at2 _ rfl (by show (i 2).val = 2816 * (i 0).val + (i 2).val; omega)
  · exact Mat.sum_mul_congr (fun k => rfl) fun k => Mat.at2 _ rfl (by show 2816 + (i 2).val = 2816 * (i 0).val + (i 2).val; omega)

end Cert.FfnUpRefIdeal.Rows

end
-- ==== Proof.ProjValue.lean ====
/-
The kernel of a square projection and its reference, both as the product of the argument matrices.
-/
module

public import proofs.«01_k».proof.Proof.Mat
public import proofs.«01_k».proof.Proof.Gen.ProjIdeal.Value
public import proofs.«01_k».proof.Proof.Gen.ProjRefIdeal.Run
public import proofs.«01_k».proof.Proof.Gen.ProjRefIdeal.Read

@[expose] public section

set_option maxRecDepth 16384

noncomputable section

namespace Cert.ProjIdeal.Rows

open Idealize.ShloMosaic Idealize.ShloMosaic.TcCoe Idealize.SL.Sem
open Cert.ProjIdeal Cert.ProjIdeal.Gen

variable (m : (ℓ : Loc nD τ sig) → Buf (Elt Ideal) ℓ)

/-- The product both programs compute: a square projection. -/
def product (a : Vec Ideal S4096x1024 .bf16) (b : Vec Ideal S1024x1024 .bf16) : Mat.Arr2 4096 1024 :=
  Mat.nn (M := 4096) (N := 1024) (K := 1024) a b

/-- The blocks a grid point reads and writes. -/
theorem windows_at : ∀ t : Fin cfg0.N, win0_0.index t = ![t.val, 0] ∧ win0_1.index t = ![0, 0]
    ∧ win0_2.index t = ![t.val, 0] :=
  (by decide +kernel : ∀ t : Fin grid0.N, _)

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨e0, e1, e2⟩ := windows_at t
  blk_simp
  rw [after0_2]
  frame_out
  pointwise [k0_pay1]
  unfold Mat.nn
  exact Mat.sum_mul_congr (fun k => by blk_ext [iblk, V, e0, e1, e2]) (fun k => by blk_ext [iblk, V, e0, e1, e2])

end Cert.ProjIdeal.Rows

namespace Cert.ProjRefIdeal.Rows

open Idealize.ShloMosaic Idealize.ShloMosaic.TcCoe Idealize.SL.Sem
open Cert.ProjRefIdeal Cert.ProjRefIdeal.Read

/-- The reference's result is the product. -/
theorem ref (a : Vec Ideal S4096x1024 .bf16) (b : Vec Ideal S1024x1024 .bf16) :
    val_main_v3 (F := Ideal) a b = Cert.ProjIdeal.Rows.product a b := by
  unfold Cert.ProjIdeal.Rows.product
  funext i
  pointwise [val_main_v3, val_main_v2, val_main_v1, val_main_v0]
  rfl

end Cert.ProjRefIdeal.Rows

end
-- ==== Proof.OProjValue.lean ====
/-
The kernel of the output projection and its reference, both as the product of the argument matrices.
-/
module

public import proofs.«01_k».proof.Proof.Mat
public import proofs.«01_k».proof.Proof.Gen.OProjIdeal.Value
public import proofs.«01_k».proof.Proof.Gen.OProjRefIdeal.Run
public import proofs.«01_k».proof.Proof.Gen.OProjRefIdeal.Read

@[expose] public section

set_option maxRecDepth 16384

noncomputable section

namespace Cert.OProjIdeal.Rows

open Idealize.ShloMosaic Idealize.ShloMosaic.TcCoe Idealize.SL.Sem
open Cert.OProjIdeal Cert.OProjIdeal.Gen

variable (m : (ℓ : Loc nD τ sig) → Buf (Elt Ideal) ℓ)

/-- The product both programs compute: the output projection. -/
def product (a : Vec Ideal S4096x1024 .bf16) (b : Vec Ideal S1024x1024 .bf16) : Mat.Arr2 4096 1024 :=
  Mat.nn (M := 4096) (N := 1024) (K := 1024) a b

/-- The blocks a grid point reads and writes. -/
theorem windows_at : ∀ t : Fin cfg0.N, win0_0.index t = ![t.val, 0] ∧ win0_1.index t = ![0, 0]
    ∧ win0_2.index t = ![t.val, 0] :=
  (by decide +kernel : ∀ t : Fin grid0.N, _)

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨e0, e1, e2⟩ := windows_at t
  blk_simp
  rw [after0_2]
  frame_out
  pointwise [k0_pay1]
  unfold Mat.nn
  exact Mat.sum_mul_congr (fun k => by blk_ext [iblk, V, e0, e1, e2]) (fun k => by blk_ext [iblk, V, e0, e1, e2])

end Cert.OProjIdeal.Rows

namespace Cert.OProjRefIdeal.Rows

open Idealize.ShloMosaic Idealize.ShloMosaic.TcCoe Idealize.SL.Sem
open Cert.OProjRefIdeal Cert.OProjRefIdeal.Read

/-- The reference's result is the product. -/
theorem ref (a : Vec Ideal S4096x1024 .bf16) (b : Vec Ideal S1024x1024 .bf16) :
    val_main_v2 (F := Ideal) a b = Cert.OProjIdeal.Rows.product a b := by
  unfold Cert.OProjIdeal.Rows.product
  funext i
  pointwise [val_main_v2, val_main_v1, val_main_v0]
  rfl

end Cert.OProjRefIdeal.Rows

end
-- ==== Proof.KvProjValue.lean ====
/-
The kernel of the key and value projections and its reference, both as the product of the argument matrices.
-/
module

public import proofs.«01_k».proof.Proof.Mat
public import proofs.«01_k».proof.Proof.Gen.KvProjIdeal.Value
public import proofs.«01_k».proof.Proof.Gen.KvProjRefIdeal.Run
public import proofs.«01_k».proof.Proof.Gen.KvProjRefIdeal.Read

@[expose] public section

set_option maxRecDepth 16384

noncomputable section

namespace Cert.KvProjIdeal.Rows

open Idealize.ShloMosaic Idealize.ShloMosaic.TcCoe Idealize.SL.Sem
open Cert.KvProjIdeal Cert.KvProjIdeal.Gen

variable (m : (ℓ : Loc nD τ sig) → Buf (Elt Ideal) ℓ)

/-- The product both programs compute: the key and value projections. -/
def product (a : Vec Ideal S4096x1024 .bf16) (b : Vec Ideal S4x1x1024x512 .bf16) : Mat.Arr3 2 4096 1024 :=
  Mat.slabs (s := 2) (n := 1024) rfl (Mat.nn (M := 4096) (N := 2048) (K := 1024) a (Mat.wide (n := 512) rfl b))

/-- The blocks a grid point reads and writes. -/
theorem windows_at : ∀ t : Fin cfg0.N, win0_0.index t = ![t.val / 4, 0] ∧ win0_1.index t = ![t.val % 4, 0, 0, 0]
    ∧ win0_2.index t = ![t.val % 4 / 2, t.val / 4, t.val % 4 % 2] :=
  (by decide +kernel : ∀ t : Fin grid0.N, _)

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨e0, e1, e2⟩ := windows_at t
  blk_simp
  rw [after0_2]
  frame_out
  pointwise [k0_pay1]
  unfold Mat.slabs Mat.nn Mat.wide Mat.wide3
  exact Mat.sum_mul_congr (fun k => by blk_ext [iblk, V, e0, e1, e2]) (fun k => by blk_ext [iblk, V, e0, e1, e2])

end Cert.KvProjIdeal.Rows

namespace Cert.KvProjRefIdeal.Rows

open Idealize.ShloMosaic Idealize.ShloMosaic.TcCoe Idealize.SL.Sem
open Cert.KvProjRefIdeal Cert.KvProjRefIdeal.Read

/-- The weights' slabs side by side. -/
theorem wide_eq (b : Vec Ideal S4x1x1024x512 .bf16) : val_main_v4 (F := Ideal) b = Mat.wide (K := 1024) (n := 512) rfl b := by
  funext i
  pointwise [val_main_v4, val_main_v3, val_main_v2, val_main_v1]
  rfl

/-- The reference's result is the product. -/
theorem ref (a : Vec Ideal S4096x1024 .bf16) (b : Vec Ideal S4x1x1024x512 .bf16) :
    val_main_v11 (F := Ideal) a b = Cert.KvProjIdeal.Rows.product a b := by
  unfold Cert.KvProjIdeal.Rows.product
  funext i
  pointwise [val_main_v11, val_main_v10, val_main_v9, val_main_v8, val_main_v7, val_main_v6, val_main_v5, val_main_v0]
  rw [wide_eq]
  have h0 : (i 0).val < 2 := (i 0).isLt
  unfold Mat.slabs Mat.nn
  split_ifs with h
  · exact Mat.sum_mul_congr (fun k => rfl) fun k => Mat.at2 _ rfl (by show (i 2).val = 1024 * (i 0).val + (i 2).val; omega)
  · exact Mat.sum_mul_congr (fun k => rfl) fun k => Mat.at2 _ rfl (by show 1024 + (i 2).val = 1024 * (i 0).val + (i 2).val; omega)

end Cert.KvProjRefIdeal.Rows

end
-- ==== Proof.GluProjValue.lean ====
/-
The kernel of the projections of the gated unit and its reference, both as the product of the argument matrices.
-/
module

public import proofs.«01_k».proof.Proof.Mat
public import proofs.«01_k».proof.Proof.Gen.GluProjIdeal.Value
public import proofs.«01_k».proof.Proof.Gen.GluProjRefIdeal.Run
public import proofs.«01_k».proof.Proof.Gen.GluProjRefIdeal.Read

@[expose] public section

set_option maxRecDepth 16384

noncomputable section

namespace Cert.GluProjIdeal.Rows

open Idealize.ShloMosaic Idealize.ShloMosaic.TcCoe Idealize.SL.Sem
open Cert.GluProjIdeal Cert.GluProjIdeal.Gen

variable (m : (ℓ : Loc nD τ sig) → Buf (Elt Ideal) ℓ)

/-- The product both programs compute: the projections of the gated unit. -/
def product (a : Vec Ideal S4096x1024 .bf16) (b : Vec Ideal S4x1024x512 .bf16) : Mat.Arr2 4096 2048 :=
  Mat.nn (M := 4096) (N := 2048) (K := 1024) a (Mat.wide3 (n := 512) rfl b)

/-- The blocks a grid point reads and writes. -/
theorem windows_at : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

/-- The kernel's result array after the run is the product. -/
theorem arr2 (c : Dev nD) : (dats (F := Ideal) m 0 c).arrAt 2 cfg0.N = product (m ((c : Thread nD τ).loc main_arg0)) (m ((c : Thread nD τ).loc main_arg1)) := by
  unfold product
  refine (dats m 0 c).arrAt_eq_of_covers 2 _ (by decide +kernel) fun t hf y => ?_
  obtain ⟨e0, e1, e2⟩ := windows_at t
  blk_simp
  rw [after0_2]
  frame_out
  pointwise [k0_pay1]
  unfold Mat.nn Mat.wide3
  exact Mat.sum_mul_congr (fun k => by blk_ext [iblk, V, e0, e1, e2]) (fun k => by blk_ext [iblk, V, e0, e1, e2])

end Cert.GluProjIdeal.Rows

namespace Cert.GluProjRefIdeal.Rows

open Idealize.ShloMosaic Idealize.ShloMosaic.TcCoe Idealize.SL.Sem
open Cert.GluProjRefIdeal Cert.GluProjRefIdeal.Read

/-- The weights' slabs side by side. -/
theorem wide_eq (b : Vec Ideal S4x1024x512 .bf16) : val_main_v3 (F := Ideal) b = Mat.wide3 (K := 1024) (n := 512) rfl b := by
  funext i
  pointwise [val_main_v3, val_main_v2, val_main_v1]
  rfl

/-- The reference's result is the product. -/
theorem ref (a : Vec Ideal S4096x1024 .bf16) (b : Vec Ideal S4x1024x512 .bf16) :
    val_main_v4 (F := Ideal) a b = Cert.GluProjIdeal.Rows.product a b := by
  unfold Cert.GluProjIdeal.Rows.product
  funext i
  pointwise [val_main_v4, val_main_v0]
  rw [wide_eq]
  rfl

end Cert.GluProjRefIdeal.Rows

end
-- ==== Proof.Products.lean ====
/-
The programs that are products of matrices, kernel and reference.
-/
module

public import proofs.«01_k».proof.Proof.Gen.FfnDownDx.Frame
public import proofs.«01_k».proof.Proof.FfnDownDxValue
public import proofs.«01_k».proof.Proof.Gen.FfnDownDw.Frame
public import proofs.«01_k».proof.Proof.FfnDownDwValue
public import proofs.«01_k».proof.Proof.Gen.FfnUpDx.Frame
public import proofs.«01_k».proof.Proof.FfnUpDxValue
public import proofs.«01_k».proof.Proof.Gen.FfnUpDw.Frame
public import proofs.«01_k».proof.Proof.FfnUpDwValue
public import proofs.«01_k».proof.Proof.Gen.OProjDx.Frame
public import proofs.«01_k».proof.Proof.OProjDxValue
public import proofs.«01_k».proof.Proof.Gen.ProjDx.Frame
public import proofs.«01_k».proof.Proof.ProjDxValue
public import proofs.«01_k».proof.Proof.Gen.ProjDw.Frame
public import proofs.«01_k».proof.Proof.ProjDwValue
public import proofs.«01_k».proof.Proof.Gen.KvDx.Frame
public import proofs.«01_k».proof.Proof.KvDxValue
public import proofs.«01_k».proof.Proof.Gen.KvDw.Frame
public import proofs.«01_k».proof.Proof.KvDwValue
public import proofs.«01_k».proof.Proof.Gen.GluDx.Frame
public import proofs.«01_k».proof.Proof.GluDxValue
public import proofs.«01_k».proof.Proof.Gen.GluDw.Frame
public import proofs.«01_k».proof.Proof.GluDwValue
public import proofs.«01_k».proof.Proof.Gen.FfnDown.Frame
public import proofs.«01_k».proof.Proof.FfnDownValue
public import proofs.«01_k».proof.Proof.Gen.FfnUp.Frame
public import proofs.«01_k».proof.Proof.FfnUpValue
public import proofs.«01_k».proof.Proof.Gen.Proj.Frame
public import proofs.«01_k».proof.Proof.ProjValue
public import proofs.«01_k».proof.Proof.Gen.OProj.Frame
public import proofs.«01_k».proof.Proof.OProjValue
public import proofs.«01_k».proof.Proof.Gen.KvProj.Frame
public import proofs.«01_k».proof.Proof.KvProjValue
public import proofs.«01_k».proof.Proof.Gen.GluProj.Frame
public import proofs.«01_k».proof.Proof.GluProjValue

@[expose] public section

end
-- ==== Proof.ProductClaims.lean ====
/-
For each product, what the certificate states of it: kernel and reference leave the same product, and the reference keeps
its arguments.
-/
module

public import proofs.«01_k».proof.Defs
public import proofs.«01_k».proof.Proof.Products
public import Idealize.ShloMosaic.Adequacy
public import Idealize.ShloMosaic.Init

@[expose] public section

noncomputable section

namespace Cert.Proof

open Idealize.ShloMosaic Idealize.ShloMosaic.TcCoe Idealize.SL.Sem

/-- Kernel and reference leave the same array: the gradient of the down projection's rows. -/
theorem ffnDownDx_same : Cert.algebraic_FfnDownDxIdeal_FfnDownDxRefIdeal := by
  intro m ρ m' ρ' _ hagree
  refine ⟨fun c => Cert.FfnDownDxIdeal.Rows.product (m ((c.tc : Thread _ _).loc Cert.FfnDownDxIdeal.main_arg0)) (m ((c.tc : Thread _ _).loc Cert.FfnDownDxIdeal.main_arg1)), ?_, ?_⟩
  · exact (θ_run Cert.FfnDownDxIdeal.defs _ _).mono (fun r h c => ⟨(h c).1.trans (Cert.FfnDownDxIdeal.Rows.arr2 m c), (h c).2⟩)
      (Cert.FfnDownDxIdeal.Value.run_blocks (F := Ideal) m ρ)
  · refine (θ_run Cert.FfnDownDxRefIdeal.defs _ _).mono (fun r h c => ⟨(h c).1.trans ?_, (h c).2⟩) (Cert.FfnDownDxRefIdeal.Value.run (F := Ideal) m' ρ')
    rw [Cert.FfnDownDxRefIdeal.Read.val_main_v5_eq, (hagree c).1, (hagree c).2]
    exact Cert.FfnDownDxRefIdeal.Rows.ref _ _

/-- The reference keeps its arguments; it has no semaphore. -/
theorem ffnDownDx_reference_frame : Cert.quiescent_FfnDownDxRefIdeal := fun m ρ _ =>
  (θ_run Cert.FfnDownDxRefIdeal.defs _ _).mono (fun r h => ⟨fun c => (h c).2, sem_eq_zero_of_no_sems (by decide) r.2⟩)
    (Cert.FfnDownDxRefIdeal.Value.run (F := Ideal) m ρ)

/-- Kernel and reference leave the same array: the gradient of the down projection's weights. -/
theorem ffnDownDw_same : Cert.algebraic_FfnDownDwIdeal_FfnDownDwRefIdeal := by
  intro m ρ m' ρ' _ hagree
  refine ⟨fun c => Cert.FfnDownDwIdeal.Rows.product (m ((c.tc : Thread _ _).loc Cert.FfnDownDwIdeal.main_arg0)) (m ((c.tc : Thread _ _).loc Cert.FfnDownDwIdeal.main_arg1)), ?_, ?_⟩
  · exact (θ_run Cert.FfnDownDwIdeal.defs _ _).mono (fun r h c => ⟨(h c).1.trans (Cert.FfnDownDwIdeal.Rows.arr2 m c), (h c).2⟩)
      (Cert.FfnDownDwIdeal.Value.run_blocks (F := Ideal) m ρ)
  · refine (θ_run Cert.FfnDownDwRefIdeal.defs _ _).mono (fun r h c => ⟨(h c).1.trans ?_, (h c).2⟩) (Cert.FfnDownDwRefIdeal.Value.run (F := Ideal) m' ρ')
    rw [Cert.FfnDownDwRefIdeal.Read.val_main_v5_eq, (hagree c).1, (hagree c).2]
    exact Cert.FfnDownDwRefIdeal.Rows.ref _ _

/-- The reference keeps its arguments; it has no semaphore. -/
theorem ffnDownDw_reference_frame : Cert.quiescent_FfnDownDwRefIdeal := fun m ρ _ =>
  (θ_run Cert.FfnDownDwRefIdeal.defs _ _).mono (fun r h => ⟨fun c => (h c).2, sem_eq_zero_of_no_sems (by decide) r.2⟩)
    (Cert.FfnDownDwRefIdeal.Value.run (F := Ideal) m ρ)

/-- Kernel and reference leave the same array: the gradient of the up projections' rows. -/
theorem ffnUpDx_same : Cert.algebraic_FfnUpDxIdeal_FfnUpDxRefIdeal := by
  intro m ρ m' ρ' _ hagree
  refine ⟨fun c => Cert.FfnUpDxIdeal.Rows.product (m ((c.tc : Thread _ _).loc Cert.FfnUpDxIdeal.main_arg0)) (m ((c.tc : Thread _ _).loc Cert.FfnUpDxIdeal.main_arg1)), ?_, ?_⟩
  · exact (θ_run Cert.FfnUpDxIdeal.defs _ _).mono (fun r h c => ⟨(h c).1.trans (Cert.FfnUpDxIdeal.Rows.arr2 m c), (h c).2⟩)
      (Cert.FfnUpDxIdeal.Value.run_blocks (F := Ideal) m ρ)
  · refine (θ_run Cert.FfnUpDxRefIdeal.defs _ _).mono (fun r h c => ⟨(h c).1.trans ?_, (h c).2⟩) (Cert.FfnUpDxRefIdeal.Value.run (F := Ideal) m' ρ')
    rw [Cert.FfnUpDxRefIdeal.Read.val_main_v19_eq, (hagree c).1, (hagree c).2]
    exact Cert.FfnUpDxRefIdeal.Rows.ref _ _

/-- The reference keeps its arguments; it has no semaphore. -/
theorem ffnUpDx_reference_frame : Cert.quiescent_FfnUpDxRefIdeal := fun m ρ _ =>
  (θ_run Cert.FfnUpDxRefIdeal.defs _ _).mono (fun r h => ⟨fun c => (h c).2, sem_eq_zero_of_no_sems (by decide) r.2⟩)
    (Cert.FfnUpDxRefIdeal.Value.run (F := Ideal) m ρ)

/-- Kernel and reference leave the same array: the gradient of the up projections' weights. -/
theorem ffnUpDw_same : Cert.algebraic_FfnUpDwIdeal_FfnUpDwRefIdeal := by
  intro m ρ m' ρ' _ hagree
  refine ⟨fun c => Cert.FfnUpDwIdeal.Rows.product (m ((c.tc : Thread _ _).loc Cert.FfnUpDwIdeal.main_arg0)) (m ((c.tc : Thread _ _).loc Cert.FfnUpDwIdeal.main_arg1)), ?_, ?_⟩
  · exact (θ_run Cert.FfnUpDwIdeal.defs _ _).mono (fun r h c => ⟨(h c).1.trans (Cert.FfnUpDwIdeal.Rows.arr2 m c), (h c).2⟩)
      (Cert.FfnUpDwIdeal.Value.run_blocks (F := Ideal) m ρ)
  · refine (θ_run Cert.FfnUpDwRefIdeal.defs _ _).mono (fun r h c => ⟨(h c).1.trans ?_, (h c).2⟩) (Cert.FfnUpDwRefIdeal.Value.run (F := Ideal) m' ρ')
    rw [Cert.FfnUpDwRefIdeal.Read.val_main_v21_eq, (hagree c).1, (hagree c).2]
    exact Cert.FfnUpDwRefIdeal.Rows.ref _ _

/-- The reference keeps its arguments; it has no semaphore. -/
theorem ffnUpDw_reference_frame : Cert.quiescent_FfnUpDwRefIdeal := fun m ρ _ =>
  (θ_run Cert.FfnUpDwRefIdeal.defs _ _).mono (fun r h => ⟨fun c => (h c).2, sem_eq_zero_of_no_sems (by decide) r.2⟩)
    (Cert.FfnUpDwRefIdeal.Value.run (F := Ideal) m ρ)

/-- Kernel and reference leave the same array: the gradient of the output projection's rows. -/
theorem oProjDx_same : Cert.algebraic_OProjDxIdeal_OProjDxRefIdeal := by
  intro m ρ m' ρ' _ hagree
  refine ⟨fun c => Cert.OProjDxIdeal.Rows.product (m ((c.tc : Thread _ _).loc Cert.OProjDxIdeal.main_arg0)) (m ((c.tc : Thread _ _).loc Cert.OProjDxIdeal.main_arg1)), ?_, ?_⟩
  · exact (θ_run Cert.OProjDxIdeal.defs _ _).mono (fun r h c => ⟨(h c).1.trans (Cert.OProjDxIdeal.Rows.arr2 m c), (h c).2⟩)
      (Cert.OProjDxIdeal.Value.run_blocks (F := Ideal) m ρ)
  · refine (θ_run Cert.OProjDxRefIdeal.defs _ _).mono (fun r h c => ⟨(h c).1.trans ?_, (h c).2⟩) (Cert.OProjDxRefIdeal.Value.run (F := Ideal) m' ρ')
    rw [Cert.OProjDxRefIdeal.Read.val_main_v5_eq, (hagree c).1, (hagree c).2]
    exact Cert.OProjDxRefIdeal.Rows.ref _ _

/-- The reference keeps its arguments; it has no semaphore. -/
theorem oProjDx_reference_frame : Cert.quiescent_OProjDxRefIdeal := fun m ρ _ =>
  (θ_run Cert.OProjDxRefIdeal.defs _ _).mono (fun r h => ⟨fun c => (h c).2, sem_eq_zero_of_no_sems (by decide) r.2⟩)
    (Cert.OProjDxRefIdeal.Value.run (F := Ideal) m ρ)

/-- Kernel and reference leave the same array: the gradient of a square projection's rows. -/
theorem projDx_same : Cert.algebraic_ProjDxIdeal_ProjDxRefIdeal := by
  intro m ρ m' ρ' _ hagree
  refine ⟨fun c => Cert.ProjDxIdeal.Rows.product (m ((c.tc : Thread _ _).loc Cert.ProjDxIdeal.main_arg0)) (m ((c.tc : Thread _ _).loc Cert.ProjDxIdeal.main_arg1)), ?_, ?_⟩
  · exact (θ_run Cert.ProjDxIdeal.defs _ _).mono (fun r h c => ⟨(h c).1.trans (Cert.ProjDxIdeal.Rows.arr2 m c), (h c).2⟩)
      (Cert.ProjDxIdeal.Value.run_blocks (F := Ideal) m ρ)
  · refine (θ_run Cert.ProjDxRefIdeal.defs _ _).mono (fun r h c => ⟨(h c).1.trans ?_, (h c).2⟩) (Cert.ProjDxRefIdeal.Value.run (F := Ideal) m' ρ')
    rw [Cert.ProjDxRefIdeal.Read.val_main_v4_eq, (hagree c).1, (hagree c).2]
    exact Cert.ProjDxRefIdeal.Rows.ref _ _

/-- The reference keeps its arguments; it has no semaphore. -/
theorem projDx_reference_frame : Cert.quiescent_ProjDxRefIdeal := fun m ρ _ =>
  (θ_run Cert.ProjDxRefIdeal.defs _ _).mono (fun r h => ⟨fun c => (h c).2, sem_eq_zero_of_no_sems (by decide) r.2⟩)
    (Cert.ProjDxRefIdeal.Value.run (F := Ideal) m ρ)

/-- Kernel and reference leave the same array: the gradient of a square projection's weights. -/
theorem projDw_same : Cert.algebraic_ProjDwIdeal_ProjDwRefIdeal := by
  intro m ρ m' ρ' _ hagree
  refine ⟨fun c => Cert.ProjDwIdeal.Rows.product (m ((c.tc : Thread _ _).loc Cert.ProjDwIdeal.main_arg0)) (m ((c.tc : Thread _ _).loc Cert.ProjDwIdeal.main_arg1)), ?_, ?_⟩
  · exact (θ_run Cert.ProjDwIdeal.defs _ _).mono (fun r h c => ⟨(h c).1.trans (Cert.ProjDwIdeal.Rows.arr2 m c), (h c).2⟩)
      (Cert.ProjDwIdeal.Value.run_blocks (F := Ideal) m ρ)
  · refine (θ_run Cert.ProjDwRefIdeal.defs _ _).mono (fun r h c => ⟨(h c).1.trans ?_, (h c).2⟩) (Cert.ProjDwRefIdeal.Value.run (F := Ideal) m' ρ')
    rw [Cert.ProjDwRefIdeal.Read.val_main_v5_eq, (hagree c).1, (hagree c).2]
    exact Cert.ProjDwRefIdeal.Rows.ref _ _

/-- The reference keeps its arguments; it has no semaphore. -/
theorem projDw_reference_frame : Cert.quiescent_ProjDwRefIdeal := fun m ρ _ =>
  (θ_run Cert.ProjDwRefIdeal.defs _ _).mono (fun r h => ⟨fun c => (h c).2, sem_eq_zero_of_no_sems (by decide) r.2⟩)
    (Cert.ProjDwRefIdeal.Value.run (F := Ideal) m ρ)

/-- Kernel and reference leave the same array: the gradient of the key and value projections' rows. -/
theorem kvDx_same : Cert.algebraic_KvDxIdeal_KvDxRefIdeal := by
  intro m ρ m' ρ' _ hagree
  refine ⟨fun c => Cert.KvDxIdeal.Rows.product (m ((c.tc : Thread _ _).loc Cert.KvDxIdeal.main_arg0)) (m ((c.tc : Thread _ _).loc Cert.KvDxIdeal.main_arg1)), ?_, ?_⟩
  · exact (θ_run Cert.KvDxIdeal.defs _ _).mono (fun r h c => ⟨(h c).1.trans (Cert.KvDxIdeal.Rows.arr2 m c), (h c).2⟩)
      (Cert.KvDxIdeal.Value.run_blocks (F := Ideal) m ρ)
  · refine (θ_run Cert.KvDxRefIdeal.defs _ _).mono (fun r h c => ⟨(h c).1.trans ?_, (h c).2⟩) (Cert.KvDxRefIdeal.Value.run (F := Ideal) m' ρ')
    rw [Cert.KvDxRefIdeal.Read.val_main_v19_eq, (hagree c).1, (hagree c).2]
    exact Cert.KvDxRefIdeal.Rows.ref _ _

/-- The reference keeps its arguments; it has no semaphore. -/
theorem kvDx_reference_frame : Cert.quiescent_KvDxRefIdeal := fun m ρ _ =>
  (θ_run Cert.KvDxRefIdeal.defs _ _).mono (fun r h => ⟨fun c => (h c).2, sem_eq_zero_of_no_sems (by decide) r.2⟩)
    (Cert.KvDxRefIdeal.Value.run (F := Ideal) m ρ)

/-- Kernel and reference leave the same array: the gradient of the key and value projections' weights. -/
theorem kvDw_same : Cert.algebraic_KvDwIdeal_KvDwRefIdeal := by
  intro m ρ m' ρ' _ hagree
  refine ⟨fun c => Cert.KvDwIdeal.Rows.product (m ((c.tc : Thread _ _).loc Cert.KvDwIdeal.main_arg0)) (m ((c.tc : Thread _ _).loc Cert.KvDwIdeal.main_arg1)), ?_, ?_⟩
  · exact (θ_run Cert.KvDwIdeal.defs _ _).mono (fun r h c => ⟨(h c).1.trans (Cert.KvDwIdeal.Rows.arr2 m c), (h c).2⟩)
      (Cert.KvDwIdeal.Value.run_blocks (F := Ideal) m ρ)
  · refine (θ_run Cert.KvDwRefIdeal.defs _ _).mono (fun r h c => ⟨(h c).1.trans ?_, (h c).2⟩) (Cert.KvDwRefIdeal.Value.run (F := Ideal) m' ρ')
    rw [Cert.KvDwRefIdeal.Read.val_main_v21_eq, (hagree c).1, (hagree c).2]
    exact Cert.KvDwRefIdeal.Rows.ref _ _

/-- The reference keeps its arguments; it has no semaphore. -/
theorem kvDw_reference_frame : Cert.quiescent_KvDwRefIdeal := fun m ρ _ =>
  (θ_run Cert.KvDwRefIdeal.defs _ _).mono (fun r h => ⟨fun c => (h c).2, sem_eq_zero_of_no_sems (by decide) r.2⟩)
    (Cert.KvDwRefIdeal.Value.run (F := Ideal) m ρ)

/-- Kernel and reference leave the same array: the gradient of the gated unit's rows. -/
theorem gluDx_same : Cert.algebraic_GluDxIdeal_GluDxRefIdeal := by
  intro m ρ m' ρ' _ hagree
  refine ⟨fun c => Cert.GluDxIdeal.Rows.product (m ((c.tc : Thread _ _).loc Cert.GluDxIdeal.main_arg0)) (m ((c.tc : Thread _ _).loc Cert.GluDxIdeal.main_arg1)), ?_, ?_⟩
  · exact (θ_run Cert.GluDxIdeal.defs _ _).mono (fun r h c => ⟨(h c).1.trans (Cert.GluDxIdeal.Rows.arr2 m c), (h c).2⟩)
      (Cert.GluDxIdeal.Value.run_blocks (F := Ideal) m ρ)
  · refine (θ_run Cert.GluDxRefIdeal.defs _ _).mono (fun r h c => ⟨(h c).1.trans ?_, (h c).2⟩) (Cert.GluDxRefIdeal.Value.run (F := Ideal) m' ρ')
    rw [Cert.GluDxRefIdeal.Read.val_main_v6_eq, (hagree c).1, (hagree c).2]
    exact Cert.GluDxRefIdeal.Rows.ref _ _

/-- The reference keeps its arguments; it has no semaphore. -/
theorem gluDx_reference_frame : Cert.quiescent_GluDxRefIdeal := fun m ρ _ =>
  (θ_run Cert.GluDxRefIdeal.defs _ _).mono (fun r h => ⟨fun c => (h c).2, sem_eq_zero_of_no_sems (by decide) r.2⟩)
    (Cert.GluDxRefIdeal.Value.run (F := Ideal) m ρ)

/-- Kernel and reference leave the same array: the gradient of the gated unit's weights. -/
theorem gluDw_same : Cert.algebraic_GluDwIdeal_GluDwRefIdeal := by
  intro m ρ m' ρ' _ hagree
  refine ⟨fun c => Cert.GluDwIdeal.Rows.product (m ((c.tc : Thread _ _).loc Cert.GluDwIdeal.main_arg0)) (m ((c.tc : Thread _ _).loc Cert.GluDwIdeal.main_arg1)), ?_, ?_⟩
  · exact (θ_run Cert.GluDwIdeal.defs _ _).mono (fun r h c => ⟨(h c).1.trans (Cert.GluDwIdeal.Rows.arr2 m c), (h c).2⟩)
      (Cert.GluDwIdeal.Value.run_blocks (F := Ideal) m ρ)
  · refine (θ_run Cert.GluDwRefIdeal.defs _ _).mono (fun r h c => ⟨(h c).1.trans ?_, (h c).2⟩) (Cert.GluDwRefIdeal.Value.run (F := Ideal) m' ρ')
    rw [Cert.GluDwRefIdeal.Read.val_main_v9_eq, (hagree c).1, (hagree c).2]
    exact Cert.GluDwRefIdeal.Rows.ref _ _

/-- The reference keeps its arguments; it has no semaphore. -/
theorem gluDw_reference_frame : Cert.quiescent_GluDwRefIdeal := fun m ρ _ =>
  (θ_run Cert.GluDwRefIdeal.defs _ _).mono (fun r h => ⟨fun c => (h c).2, sem_eq_zero_of_no_sems (by decide) r.2⟩)
    (Cert.GluDwRefIdeal.Value.run (F := Ideal) m ρ)

/-- Kernel and reference leave the same array: the down projection. -/
theorem ffnDown_same : Cert.algebraic_FfnDownIdeal_FfnDownRefIdeal := by
  intro m ρ m' ρ' _ hagree
  refine ⟨fun c => Cert.FfnDownIdeal.Rows.product (m ((c.tc : Thread _ _).loc Cert.FfnDownIdeal.main_arg0)) (m ((c.tc : Thread _ _).loc Cert.FfnDownIdeal.main_arg1)), ?_, ?_⟩
  · exact (θ_run Cert.FfnDownIdeal.defs _ _).mono (fun r h c => ⟨(h c).1.trans (Cert.FfnDownIdeal.Rows.arr2 m c), (h c).2⟩)
      (Cert.FfnDownIdeal.Value.run_blocks (F := Ideal) m ρ)
  · refine (θ_run Cert.FfnDownRefIdeal.defs _ _).mono (fun r h c => ⟨(h c).1.trans ?_, (h c).2⟩) (Cert.FfnDownRefIdeal.Value.run (F := Ideal) m' ρ')
    rw [Cert.FfnDownRefIdeal.Read.val_main_v2_eq, (hagree c).1, (hagree c).2]
    exact Cert.FfnDownRefIdeal.Rows.ref _ _

/-- The reference keeps its arguments; it has no semaphore. -/
theorem ffnDown_reference_frame : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

/-- Kernel and reference leave the same array: the up projections. -/
theorem ffnUp_same : Cert.algebraic_FfnUpIdeal_FfnUpRefIdeal := by
  intro m ρ m' ρ' _ hagree
  refine ⟨fun c => Cert.FfnUpIdeal.Rows.product (m ((c.tc : Thread _ _).loc Cert.FfnUpIdeal.main_arg0)) (m ((c.tc : Thread _ _).loc Cert.FfnUpIdeal.main_arg1)), ?_, ?_⟩
  · exact (θ_run Cert.FfnUpIdeal.defs _ _).mono (fun r h c => ⟨(h c).1.trans (Cert.FfnUpIdeal.Rows.arr2 m c), (h c).2⟩)
      (Cert.FfnUpIdeal.Value.run_blocks (F := Ideal) m ρ)
  · refine (θ_run Cert.FfnUpRefIdeal.defs _ _).mono (fun r h c => ⟨(h c).1.trans ?_, (h c).2⟩) (Cert.FfnUpRefIdeal.Value.run (F := Ideal) m' ρ')
    rw [Cert.FfnUpRefIdeal.Read.val_main_v11_eq, (hagree c).1, (hagree c).2]
    exact Cert.FfnUpRefIdeal.Rows.ref _ _

/-- The reference keeps its arguments; it has no semaphore. -/
theorem ffnUp_reference_frame : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

/-- Kernel and reference leave the same array: a square projection. -/
theorem proj_same : Cert.algebraic_ProjIdeal_ProjRefIdeal := by
  intro m ρ m' ρ' _ hagree
  refine ⟨fun c => Cert.ProjIdeal.Rows.product (m ((c.tc : Thread _ _).loc Cert.ProjIdeal.main_arg0)) (m ((c.tc : Thread _ _).loc Cert.ProjIdeal.main_arg1)), ?_, ?_⟩
  · exact (θ_run Cert.ProjIdeal.defs _ _).mono (fun r h c => ⟨(h c).1.trans (Cert.ProjIdeal.Rows.arr2 m c), (h c).2⟩)
      (Cert.ProjIdeal.Value.run_blocks (F := Ideal) m ρ)
  · refine (θ_run Cert.ProjRefIdeal.defs _ _).mono (fun r h c => ⟨(h c).1.trans ?_, (h c).2⟩) (Cert.ProjRefIdeal.Value.run (F := Ideal) m' ρ')
    rw [Cert.ProjRefIdeal.Read.val_main_v3_eq, (hagree c).1, (hagree c).2]
    exact Cert.ProjRefIdeal.Rows.ref _ _

/-- The reference keeps its arguments; it has no semaphore. -/
theorem proj_reference_frame : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- Kernel and reference leave the same array: the output projection. -/
theorem oProj_same : Cert.algebraic_OProjIdeal_OProjRefIdeal := by
  intro m ρ m' ρ' _ hagree
  refine ⟨fun c => Cert.OProjIdeal.Rows.product (m ((c.tc : Thread _ _).loc Cert.OProjIdeal.main_arg0)) (m ((c.tc : Thread _ _).loc Cert.OProjIdeal.main_arg1)), ?_, ?_⟩
  · exact (θ_run Cert.OProjIdeal.defs _ _).mono (fun r h c => ⟨(h c).1.trans (Cert.OProjIdeal.Rows.arr2 m c), (h c).2⟩)
      (Cert.OProjIdeal.Value.run_blocks (F := Ideal) m ρ)
  · refine (θ_run Cert.OProjRefIdeal.defs _ _).mono (fun r h c => ⟨(h c).1.trans ?_, (h c).2⟩) (Cert.OProjRefIdeal.Value.run (F := Ideal) m' ρ')
    rw [Cert.OProjRefIdeal.Read.val_main_v2_eq, (hagree c).1, (hagree c).2]
    exact Cert.OProjRefIdeal.Rows.ref _ _

/-- The reference keeps its arguments; it has no semaphore. -/
theorem oProj_reference_frame : Cert.quiescent_OProjRefIdeal := fun m ρ _ =>
  (θ_run Cert.OProjRefIdeal.defs _ _).mono (fun r h => ⟨fun c => (h c).2, sem_eq_zero_of_no_sems (by decide) r.2⟩)
    (Cert.OProjRefIdeal.Value.run (F := Ideal) m ρ)

/-- Kernel and reference leave the same array: the key and value projections. -/
theorem kvProj_same : Cert.algebraic_KvProjIdeal_KvProjRefIdeal := by
  intro m ρ m' ρ' _ hagree
  refine ⟨fun c => Cert.KvProjIdeal.Rows.product (m ((c.tc : Thread _ _).loc Cert.KvProjIdeal.main_arg0)) (m ((c.tc : Thread _ _).loc Cert.KvProjIdeal.main_arg1)), ?_, ?_⟩
  · exact (θ_run Cert.KvProjIdeal.defs _ _).mono (fun r h c => ⟨(h c).1.trans (Cert.KvProjIdeal.Rows.arr2 m c), (h c).2⟩)
      (Cert.KvProjIdeal.Value.run_blocks (F := Ideal) m ρ)
  · refine (θ_run Cert.KvProjRefIdeal.defs _ _).mono (fun r h c => ⟨(h c).1.trans ?_, (h c).2⟩) (Cert.KvProjRefIdeal.Value.run (F := Ideal) m' ρ')
    rw [Cert.KvProjRefIdeal.Read.val_main_v11_eq, (hagree c).1, (hagree c).2]
    exact Cert.KvProjRefIdeal.Rows.ref _ _

/-- The reference keeps its arguments; it has no semaphore. -/
theorem kvProj_reference_frame : Cert.quiescent_KvProjRefIdeal := fun m ρ _ =>
  (θ_run Cert.KvProjRefIdeal.defs _ _).mono (fun r h => ⟨fun c => (h c).2, sem_eq_zero_of_no_sems (by decide) r.2⟩)
    (Cert.KvProjRefIdeal.Value.run (F := Ideal) m ρ)

/-- Kernel and reference leave the same array: the projections of the gated unit. -/
theorem gluProj_same : Cert.algebraic_GluProjIdeal_GluProjRefIdeal := by
  intro m ρ m' ρ' _ hagree
  refine ⟨fun c => Cert.GluProjIdeal.Rows.product (m ((c.tc : Thread _ _).loc Cert.GluProjIdeal.main_arg0)) (m ((c.tc : Thread _ _).loc Cert.GluProjIdeal.main_arg1)), ?_, ?_⟩
  · exact (θ_run Cert.GluProjIdeal.defs _ _).mono (fun r h c => ⟨(h c).1.trans (Cert.GluProjIdeal.Rows.arr2 m c), (h c).2⟩)
      (Cert.GluProjIdeal.Value.run_blocks (F := Ideal) m ρ)
  · refine (θ_run Cert.GluProjRefIdeal.defs _ _).mono (fun r h c => ⟨(h c).1.trans ?_, (h c).2⟩) (Cert.GluProjRefIdeal.Value.run (F := Ideal) m' ρ')
    rw [Cert.GluProjRefIdeal.Read.val_main_v4_eq, (hagree c).1, (hagree c).2]
    exact Cert.GluProjRefIdeal.Rows.ref _ _

/-- The reference keeps its arguments; it has no semaphore. -/
theorem gluProj_reference_frame : Cert.quiescent_GluProjRefIdeal := fun m ρ _ =>
  (θ_run Cert.GluProjRefIdeal.defs _ _).mono (fun r h => ⟨fun c => (h c).2, sem_eq_zero_of_no_sems (by decide) r.2⟩)
    (Cert.GluProjRefIdeal.Value.run (F := Ideal) m ρ)

end Cert.Proof

end
-- ==== Proof.AdamNormsValue.lean ====
/-
The optimiser's update of the gains of the mixer's and the feed-forward part's norms: what the kernel leaves in its three arrays is what the reference returns.
-/
module

public import Idealize.ShloMosaic.Lib.Pipeline.ValueKit
public import proofs.«01_k».proof.Proof.Gen.AdamNormsIdeal.Value
public import proofs.«01_k».proof.Proof.Gen.AdamNormsRefIdeal.Run
public import proofs.«01_k».proof.Proof.Gen.AdamNormsRefIdeal.Read

@[expose] public section

set_option maxRecDepth 16384

noncomputable section

namespace Cert.AdamNormsIdeal.Update

open Idealize.ShloMosaic Idealize.ShloMosaic.TcCoe Idealize.SL.Sem
open Cert.AdamNormsIdeal Cert.AdamNormsIdeal.Gen
open Cert.AdamNormsRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, e0, e1, e2, e3, e4, e5, e6]

/-- The running mean of the gradient it leaves in its second array is the reference's. -/
theorem mean (c : Dev nD) : (dats (F := Ideal) m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, val_main_cst, val_main_v0, val_main_v1, val_main_cst_0, val_main_v2, val_main_v3, val_main_v4]
  blk_point [iblk, V, e0, e1, e2, e3, e4, e5, e6]

/-- The running mean of the squared gradient it leaves in its third array is the reference's. -/
theorem square (c : Dev nD) : (dats (F := Ideal) m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, val_main_cst_1, val_main_v5, val_main_v6, val_main_v7, val_main_cst_2, val_main_v8, val_main_v9, val_main_v10]
  blk_point [iblk, V, e0, e1, e2, e3, e4, e5, e6]

end Cert.AdamNormsIdeal.Update

end
-- ==== Proof.AdamNormValue.lean ====
/-
The optimiser's update of a single gain of a norm: what the kernel leaves in its three arrays is what the reference returns.
-/
module

public import Idealize.ShloMosaic.Lib.Pipeline.ValueKit
public import proofs.«01_k».proof.Proof.Gen.AdamNormIdeal.Value
public import proofs.«01_k».proof.Proof.Gen.AdamNormRefIdeal.Run
public import proofs.«01_k».proof.Proof.Gen.AdamNormRefIdeal.Read

@[expose] public section

set_option maxRecDepth 16384

noncomputable section

namespace Cert.AdamNormIdeal.Update

open Idealize.ShloMosaic Idealize.ShloMosaic.TcCoe Idealize.SL.Sem
open Cert.AdamNormIdeal Cert.AdamNormIdeal.Gen
open Cert.AdamNormRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24]
  blk_point [iblk, V, e0, e1, e2, e3, e4, e5, e6]

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, k0_pay4, val_main_cst, val_main_v0, val_main_v1, val_main_cst_0, val_main_v2, val_main_v3, val_main_v4, val_main_v25]
  blk_point [iblk, V, e0, e1, e2, e3, e4, e5, e6]

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, k0_pay4, val_main_cst_1, val_main_v5, val_main_v6, val_main_v7, val_main_cst_2, val_main_v8, val_main_v9, val_main_v10, val_main_v26]
  blk_point [iblk, V, e0, e1, e2, e3, e4, e5, e6]

end Cert.AdamNormIdeal.Update

end
-- ==== Proof.AdamRowsValue.lean ====
/-
The optimiser's update of the square projections' slices of 256 rows: what the kernel leaves in its three arrays is what the reference returns.
-/
module

public import Idealize.ShloMosaic.Lib.Pipeline.ValueKit
public import proofs.«01_k».proof.Proof.Gen.AdamRowsIdeal.Value
public import proofs.«01_k».proof.Proof.Gen.AdamRowsRefIdeal.Run
public import proofs.«01_k».proof.Proof.Gen.AdamRowsRefIdeal.Read

@[expose] public section

set_option maxRecDepth 16384

noncomputable section

namespace Cert.AdamRowsIdeal.Update

open Idealize.ShloMosaic Idealize.ShloMosaic.TcCoe Idealize.SL.Sem
open Cert.AdamRowsIdeal Cert.AdamRowsIdeal.Gen
open Cert.AdamRowsRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24]
  blk_point [iblk, V, e0, e1, e2, e3, e4, e5, e6]

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, k0_pay4, val_main_cst, val_main_v0, val_main_v1, val_main_cst_0, val_main_v2, val_main_v3, val_main_v4, val_main_v25]
  blk_point [iblk, V, e0, e1, e2, e3, e4, e5, e6]

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, k0_pay4, val_main_cst_1, val_main_v5, val_main_v6, val_main_v7, val_main_cst_2, val_main_v8, val_main_v9, val_main_v10, val_main_v26]
  blk_point [iblk, V, e0, e1, e2, e3, e4, e5, e6]

end Cert.AdamRowsIdeal.Update

end
-- ==== Proof.AdamAValue.lean ====
/-
The optimiser's update of the diagonal of the state matrix: what the kernel leaves in its three arrays is what the reference returns.
-/
module

public import Idealize.ShloMosaic.Lib.Pipeline.ValueKit
public import proofs.«01_k».proof.Proof.Gen.AdamAIdeal.Value
public import proofs.«01_k».proof.Proof.Gen.AdamARefIdeal.Run
public import proofs.«01_k».proof.Proof.Gen.AdamARefIdeal.Read

@[expose] public section

set_option maxRecDepth 16384

noncomputable section

namespace Cert.AdamAIdeal.Update

open Idealize.ShloMosaic Idealize.ShloMosaic.TcCoe Idealize.SL.Sem
open Cert.AdamAIdeal Cert.AdamAIdeal.Gen
open Cert.AdamARefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24]
  blk_point [iblk, V, e0, e1, e2, e3, e4, e5, e6]

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, k0_pay4, val_main_cst, val_main_v0, val_main_v1, val_main_cst_0, val_main_v2, val_main_v3, val_main_v4, val_main_v25]
  blk_point [iblk, V, e0, e1, e2, e3, e4, e5, e6]

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, k0_pay4, val_main_cst_1, val_main_v5, val_main_v6, val_main_v7, val_main_cst_2, val_main_v8, val_main_v9, val_main_v10, val_main_v26]
  blk_point [iblk, V, e0, e1, e2, e3, e4, e5, e6]

end Cert.AdamAIdeal.Update

end
-- ==== Proof.AdamDtValue.lean ====
/-
The optimiser's update of the logarithms of the step sizes: what the kernel leaves in its three arrays is what the reference returns.
-/
module

public import Idealize.ShloMosaic.Lib.Pipeline.ValueKit
public import proofs.«01_k».proof.Proof.Gen.AdamDtIdeal.Value
public import proofs.«01_k».proof.Proof.Gen.AdamDtRefIdeal.Run
public import proofs.«01_k».proof.Proof.Gen.AdamDtRefIdeal.Read

@[expose] public section

set_option maxRecDepth 16384

noncomputable section

namespace Cert.AdamDtIdeal.Update

open Idealize.ShloMosaic Idealize.ShloMosaic.TcCoe Idealize.SL.Sem
open Cert.AdamDtIdeal Cert.AdamDtIdeal.Gen
open Cert.AdamDtRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, e0, e1, e2, e3, e4, e5, e6]

/-- The running mean of the gradient it leaves in its second array is the reference's. -/
theorem mean (c : Dev nD) : (dats (F := Ideal) m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, val_main_cst, val_main_v0, val_main_v1, val_main_cst_0, val_main_v2, val_main_v3, val_main_v4]
  blk_point [iblk, V, e0, e1, e2, e3, e4, e5, e6]

/-- The running mean of the squared gradient it leaves in its third array is the reference's. -/
theorem square (c : Dev nD) : (dats (F := Ideal) m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, val_main_cst_1, val_main_v5, val_main_v6, val_main_v7, val_main_cst_2, val_main_v8, val_main_v9, val_main_v10]
  blk_point [iblk, V, e0, e1, e2, e3, e4, e5, e6]

end Cert.AdamDtIdeal.Update

end
-- ==== Proof.AdamBValue.lean ====
/-
The optimiser's update of the state's input matrix: what the kernel leaves in its three arrays is what the reference returns.
-/
module

public import Idealize.ShloMosaic.Lib.Pipeline.ValueKit
public import proofs.«01_k».proof.Proof.Gen.AdamBIdeal.Value
public import proofs.«01_k».proof.Proof.Gen.AdamBRefIdeal.Run
public import proofs.«01_k».proof.Proof.Gen.AdamBRefIdeal.Read

@[expose] public section

set_option maxRecDepth 16384

noncomputable section

namespace Cert.AdamBIdeal.Update

open Idealize.ShloMosaic Idealize.ShloMosaic.TcCoe Idealize.SL.Sem
open Cert.AdamBIdeal Cert.AdamBIdeal.Gen
open Cert.AdamBRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24]
  blk_point [iblk, V, e0, e1, e2, e3, e4, e5, e6]

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, k0_pay4, val_main_cst, val_main_v0, val_main_v1, val_main_cst_0, val_main_v2, val_main_v3, val_main_v4, val_main_v25]
  blk_point [iblk, V, e0, e1, e2, e3, e4, e5, e6]

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, k0_pay4, val_main_cst_1, val_main_v5, val_main_v6, val_main_v7, val_main_cst_2, val_main_v8, val_main_v9, val_main_v10, val_main_v26]
  blk_point [iblk, V, e0, e1, e2, e3, e4, e5, e6]

end Cert.AdamBIdeal.Update

end
-- ==== Proof.AdamCValue.lean ====
/-
The optimiser's update of the state's output matrix: what the kernel leaves in its three arrays is what the reference returns.
-/
module

public import Idealize.ShloMosaic.Lib.Pipeline.ValueKit
public import proofs.«01_k».proof.Proof.Gen.AdamCIdeal.Value
public import proofs.«01_k».proof.Proof.Gen.AdamCRefIdeal.Run
public import proofs.«01_k».proof.Proof.Gen.AdamCRefIdeal.Read

@[expose] public section

set_option maxRecDepth 16384

noncomputable section

namespace Cert.AdamCIdeal.Update

open Idealize.ShloMosaic Idealize.ShloMosaic.TcCoe Idealize.SL.Sem
open Cert.AdamCIdeal Cert.AdamCIdeal.Gen
open Cert.AdamCRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24]
  blk_point [iblk, V, e0, e1, e2, e3, e4, e5, e6]

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, k0_pay4, val_main_cst, val_main_v0, val_main_v1, val_main_cst_0, val_main_v2, val_main_v3, val_main_v4, val_main_v25]
  blk_point [iblk, V, e0, e1, e2, e3, e4, e5, e6]

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, k0_pay4, val_main_cst_1, val_main_v5, val_main_v6, val_main_v7, val_main_cst_2, val_main_v8, val_main_v9, val_main_v10, val_main_v26]
  blk_point [iblk, V, e0, e1, e2, e3, e4, e5, e6]

end Cert.AdamCIdeal.Update

end
-- ==== Proof.AdamDValue.lean ====
/-
The optimiser's update of the skip of the state space: what the kernel leaves in its three arrays is what the reference returns.
-/
module

public import Idealize.ShloMosaic.Lib.Pipeline.ValueKit
public import proofs.«01_k».proof.Proof.Gen.AdamDIdeal.Value
public import proofs.«01_k».proof.Proof.Gen.AdamDRefIdeal.Run
public import proofs.«01_k».proof.Proof.Gen.AdamDRefIdeal.Read

@[expose] public section

set_option maxRecDepth 16384

noncomputable section

namespace Cert.AdamDIdeal.Update

open Idealize.ShloMosaic Idealize.ShloMosaic.TcCoe Idealize.SL.Sem
open Cert.AdamDIdeal Cert.AdamDIdeal.Gen
open Cert.AdamDRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24]
  blk_point [iblk, V, e0, e1, e2, e3, e4, e5, e6]

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, k0_pay4, val_main_cst, val_main_v0, val_main_v1, val_main_cst_0, val_main_v2, val_main_v3, val_main_v4, val_main_v25]
  blk_point [iblk, V, e0, e1, e2, e3, e4, e5, e6]

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, k0_pay4, val_main_cst_1, val_main_v5, val_main_v6, val_main_v7, val_main_cst_2, val_main_v8, val_main_v9, val_main_v10, val_main_v26]
  blk_point [iblk, V, e0, e1, e2, e3, e4, e5, e6]

end Cert.AdamDIdeal.Update

end
-- ==== Proof.AdamGluValue.lean ====
/-
The optimiser's update of the weights of the gated unit: what the kernel leaves in its three arrays is what the reference returns.
-/
module

public import Idealize.ShloMosaic.Lib.Pipeline.ValueKit
public import proofs.«01_k».proof.Proof.Gen.AdamGluIdeal.Value
public import proofs.«01_k».proof.Proof.Gen.AdamGluRefIdeal.Run
public import proofs.«01_k».proof.Proof.Gen.AdamGluRefIdeal.Read

@[expose] public section

set_option maxRecDepth 16384

noncomputable section

namespace Cert.AdamGluIdeal.Update

open Idealize.ShloMosaic Idealize.ShloMosaic.TcCoe Idealize.SL.Sem
open Cert.AdamGluIdeal Cert.AdamGluIdeal.Gen
open Cert.AdamGluRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24]
  blk_point [iblk, V, e0, e1, e2, e3, e4, e5, e6]

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, k0_pay4, val_main_cst, val_main_v0, val_main_v1, val_main_cst_0, val_main_v2, val_main_v3, val_main_v4, val_main_v25]
  blk_point [iblk, V, e0, e1, e2, e3, e4, e5, e6]

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, k0_pay4, val_main_cst_1, val_main_v5, val_main_v6, val_main_v7, val_main_cst_2, val_main_v8, val_main_v9, val_main_v10, val_main_v26]
  blk_point [iblk, V, e0, e1, e2, e3, e4, e5, e6]

end Cert.AdamGluIdeal.Update

end
-- ==== Proof.AdamKvValue.lean ====
/-
The optimiser's update of the projection to keys and values: what the kernel leaves in its three arrays is what the reference returns.
-/
module

public import Idealize.ShloMosaic.Lib.Pipeline.ValueKit
public import proofs.«01_k».proof.Proof.Gen.AdamKvIdeal.Value
public import proofs.«01_k».proof.Proof.Gen.AdamKvRefIdeal.Run
public import proofs.«01_k».proof.Proof.Gen.AdamKvRefIdeal.Read

@[expose] public section

set_option maxRecDepth 16384

noncomputable section

namespace Cert.AdamKvIdeal.Update

open Idealize.ShloMosaic Idealize.ShloMosaic.TcCoe Idealize.SL.Sem
open Cert.AdamKvIdeal Cert.AdamKvIdeal.Gen
open Cert.AdamKvRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, e0, e1, e2, e3, e4, e5, e6]

/-- The running mean of the gradient it leaves in its second array is the reference's. -/
theorem mean (c : Dev nD) : (dats (F := Ideal) m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, val_main_cst, val_main_v0, val_main_v1, val_main_cst_0, val_main_v2, val_main_v3, val_main_v4]
  blk_point [iblk, V, e0, e1, e2, e3, e4, e5, e6]

/-- The running mean of the squared gradient it leaves in its third array is the reference's. -/
theorem square (c : Dev nD) : (dats (F := Ideal) m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, val_main_cst_1, val_main_v5, val_main_v6, val_main_v7, val_main_cst_2, val_main_v8, val_main_v9, val_main_v10]
  blk_point [iblk, V, e0, e1, e2, e3, e4, e5, e6]

end Cert.AdamKvIdeal.Update

end
-- ==== Proof.AdamUpValue.lean ====
/-
The optimiser's update of the weights of the feed-forward part's first product: what the kernel leaves in its three arrays is what the reference returns.
-/
module

public import Idealize.ShloMosaic.Lib.Pipeline.ValueKit
public import proofs.«01_k».proof.Proof.Gen.AdamUpIdeal.Value
public import proofs.«01_k».proof.Proof.Gen.AdamUpRefIdeal.Run
public import proofs.«01_k».proof.Proof.Gen.AdamUpRefIdeal.Read

@[expose] public section

set_option maxRecDepth 16384

noncomputable section

namespace Cert.AdamUpIdeal.Update

open Idealize.ShloMosaic Idealize.ShloMosaic.TcCoe Idealize.SL.Sem
open Cert.AdamUpIdeal Cert.AdamUpIdeal.Gen
open Cert.AdamUpRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The running mean of the gradient at one weight. -/
def meanOf (g a : EReal) : EReal := Ideal.ofBits .f32 0x3F666666#32 * a + Ideal.ofBits .f32 0x3DCCCCCD#32 * g

/-- The running mean of the squared gradient at one weight. -/
def squareOf (g v : EReal) : EReal := Ideal.ofBits .f32 0x3F7FBE77#32 * v + Ideal.ofBits .f32 0x3A83126F#32 * (g * g)

/-- The step of one weight. -/
def stepOf (w g a v : EReal) : EReal :=
  Ideal.ofBits .f32 0xBA83126F#32 *
    (Ideal.div (Ideal.div (meanOf g a) (Ideal.ofBits .f32 0x3F26BD02#32)) (Ideal.sqrt (Ideal.div (squareOf g v) (Ideal.ofBits .f32 0x3C231ACC#32)) + Ideal.ofBits .f32 0x322BCC77#32)
      + Ideal.ofBits .f32 0x3C23D70A#32 * w)

/-- The rows of both halves one below the other. -/
def rows (x : Vec Ideal S2x1024x1408 .f32) : Vec Ideal S2048x1408 .f32 := shapeCast S2048x1408 x Cert.AdamUpRefIdeal.Facts₀.shapeCasts_S2x1024x1408_S2048x1408

/-- The region reads the weights' rows. -/
theorem entry0 (c : Dev nD) : V m c main_v0 = rows (m ((c : Thread nD τ).loc main_arg0)) := by entry_read; rfl
/-- The region reads the gradient's rows. -/
theorem entry1 (c : Dev nD) : V m c main_v1 = rows (m ((c : Thread nD τ).loc main_arg1)) := by entry_read; rfl
/-- The region reads the rows of the mean so far. -/
theorem entry2 (c : Dev nD) : V m c main_v2 = rows (m ((c : Thread nD τ).loc main_arg2)) := by entry_read; rfl
/-- The region reads the rows of the mean square so far. -/
theorem entry3 (c : Dev nD) : V m c main_v3 = rows (m ((c : Thread nD τ).loc main_arg3)) := by entry_read; rfl

/-- The kernel's mean at a point's place. -/
theorem pay_mean (g a : Vec Ideal S512x1408 .f32) (j : S512x1408.Idx) : k0_pay2 g a j = meanOf (g j) (a j) := by
  pointwise [k0_pay1, k0_pay2, k0_pay3, k0_pay4]
  rfl

/-- The kernel's mean square at a point's place. -/
theorem pay_square (g v : Vec Ideal S512x1408 .f32) (j : S512x1408.Idx) : k0_pay3 g v j = squareOf (g j) (v j) := by
  pointwise [k0_pay1, k0_pay2, k0_pay3, k0_pay4]
  rfl

/-- The kernel's step at a point's place. -/
theorem pay_step (g a v w : Vec Ideal S512x1408 .f32) (j : S512x1408.Idx) : k0_pay4 g a v w j = stepOf (w j) (g j) (a j) (v j) := by
  pointwise [k0_pay1, k0_pay2, k0_pay3, k0_pay4]
  rfl

/-- The reference's mean at one weight. -/
theorem ref_mean (g a : Vec Ideal S2x1024x1408 .f32) (i : S2x1024x1408.Idx) : val_main_v4 (F := Ideal) g a i = meanOf (g i) (a i) := by
  pointwise [val_main_cst, val_main_v0, val_main_v1, val_main_cst_0, val_main_v2, val_main_v3, val_main_v4]
  rfl

/-- The reference's mean square at one weight. -/
theorem ref_square (g v : Vec Ideal S2x1024x1408 .f32) (i : S2x1024x1408.Idx) : val_main_v10 (F := Ideal) g v i = squareOf (g i) (v i) := by
  pointwise [val_main_cst_1, val_main_v5, val_main_v6, val_main_v7, val_main_cst_2, val_main_v8, val_main_v9, val_main_v10]
  rfl

/-- The reference's step at one weight. -/
theorem ref_step (w g a v : Vec Ideal S2x1024x1408 .f32) (i : S2x1024x1408.Idx) : val_main_v23 (F := Ideal) w g a v i = stepOf (w i) (g i) (a i) (v i) := by
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rfl

/-- The reference's step at a place of the rows. -/
theorem rows_step (w g a v : Vec Ideal S2x1024x1408 .f32) (i : S2048x1408.Idx) :
    val_main_v24 (F := Ideal) w g a v i = stepOf (rows w i) (rows g i) (rows a i) (rows v i) := by
  unfold val_main_v24 rows shapeCast
  exact ref_step _ _ _ _ _

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  rw [pay_step, rows_step]
  have h0 := entry0 m c
  have h1 := entry1 m c
  have h2 := entry2 m c
  have h3 := entry3 m c
  generalize rows (m ((c : Thread nD τ).loc main_arg0)) = z0 at h0 ⊢
  generalize rows (m ((c : Thread nD τ).loc main_arg1)) = z1 at h1 ⊢
  generalize rows (m ((c : Thread nD τ).loc main_arg2)) = z2 at h2 ⊢
  generalize rows (m ((c : Thread nD τ).loc main_arg3)) = z3 at h3 ⊢
  exact congr (congr (congr (congrArg stepOf (by blk_ext [iblk, h0, e0, e1, e2, e3, e4, e5, e6])) (by blk_ext [iblk, h1, e0, e1, e2, e3, e4, e5, e6])) (by blk_ext [iblk, h2, e0, e1, e2, e3, e4, e5, e6])) (by blk_ext [iblk, h3, e0, e1, e2, e3, e4, e5, e6])

/-- The reference's mean at a place of the rows. -/
theorem rows_mean (g a : Vec Ideal S2x1024x1408 .f32) (i : S2048x1408.Idx) :
    val_main_v25 (F := Ideal) g a i = meanOf (rows g i) (rows a i) := by
  unfold val_main_v25 rows shapeCast
  exact ref_mean _ _ _

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  rw [pay_mean, rows_mean]
  have h1 := entry1 m c
  have h2 := entry2 m c
  generalize rows (m ((c : Thread nD τ).loc main_arg1)) = z1 at h1 ⊢
  generalize rows (m ((c : Thread nD τ).loc main_arg2)) = z2 at h2 ⊢
  exact congr (congrArg meanOf (by blk_ext [iblk, h1, e0, e1, e2, e3, e4, e5, e6])) (by blk_ext [iblk, h2, e0, e1, e2, e3, e4, e5, e6])

/-- The reference's square at a place of the rows. -/
theorem rows_square (g v : Vec Ideal S2x1024x1408 .f32) (i : S2048x1408.Idx) :
    val_main_v26 (F := Ideal) g v i = squareOf (rows g i) (rows v i) := by
  unfold val_main_v26 rows shapeCast
  exact ref_square _ _ _

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  rw [pay_square, rows_square]
  have h1 := entry1 m c
  have h3 := entry3 m c
  generalize rows (m ((c : Thread nD τ).loc main_arg1)) = z1 at h1 ⊢
  generalize rows (m ((c : Thread nD τ).loc main_arg3)) = z3 at h3 ⊢
  exact congr (congrArg squareOf (by blk_ext [iblk, h1, e0, e1, e2, e3, e4, e5, e6])) (by blk_ext [iblk, h3, e0, e1, e2, e3, e4, e5, e6])

end Cert.AdamUpIdeal.Update

end
-- ==== Proof.AdamConvWValue.lean ====
/-
The optimiser's update of the taps of the depthwise convolution: what the kernel leaves in its three arrays is what the reference returns.
-/
module

public import Idealize.ShloMosaic.Lib.Pipeline.ValueKit
public import proofs.«01_k».proof.Proof.Gen.AdamConvWIdeal.Value
public import proofs.«01_k».proof.Proof.Gen.AdamConvWRefIdeal.Run
public import proofs.«01_k».proof.Proof.Gen.AdamConvWRefIdeal.Read

@[expose] public section

set_option maxRecDepth 16384

noncomputable section

namespace Cert.AdamConvWIdeal.Update

open Idealize.ShloMosaic Idealize.ShloMosaic.TcCoe Idealize.SL.Sem
open Cert.AdamConvWIdeal Cert.AdamConvWIdeal.Gen
open Cert.AdamConvWRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24]
  blk_point [iblk, V, e0, e1, e2, e3, e4, e5, e6]

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, k0_pay4, val_main_cst, val_main_v0, val_main_v1, val_main_cst_0, val_main_v2, val_main_v3, val_main_v4, val_main_v25]
  blk_point [iblk, V, e0, e1, e2, e3, e4, e5, e6]

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, k0_pay4, val_main_cst_1, val_main_v5, val_main_v6, val_main_v7, val_main_cst_2, val_main_v8, val_main_v9, val_main_v10, val_main_v26]
  blk_point [iblk, V, e0, e1, e2, e3, e4, e5, e6]

end Cert.AdamConvWIdeal.Update

end
-- ==== Proof.AdamConvBValue.lean ====
/-
The optimiser's update of the bias of the depthwise convolution: what the kernel leaves in its three arrays is what the reference returns.
-/
module

public import Idealize.ShloMosaic.Lib.Pipeline.ValueKit
public import proofs.«01_k».proof.Proof.Gen.AdamConvBIdeal.Value
public import proofs.«01_k».proof.Proof.Gen.AdamConvBRefIdeal.Run
public import proofs.«01_k».proof.Proof.Gen.AdamConvBRefIdeal.Read

@[expose] public section

set_option maxRecDepth 16384

noncomputable section

namespace Cert.AdamConvBIdeal.Update

open Idealize.ShloMosaic Idealize.ShloMosaic.TcCoe Idealize.SL.Sem
open Cert.AdamConvBIdeal Cert.AdamConvBIdeal.Gen
open Cert.AdamConvBRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The step the kernel leaves in its first array is the reference's. -/
theorem delta (c : Dev nD) : (dats (F := Ideal) m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, e0, e1, e2, e3, e4, e5, e6]

/-- The running mean of the gradient it leaves in its second array is the reference's. -/
theorem mean (c : Dev nD) : (dats (F := Ideal) m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, val_main_cst, val_main_v0, val_main_v1, val_main_cst_0, val_main_v2, val_main_v3, val_main_v4]
  blk_point [iblk, V, e0, e1, e2, e3, e4, e5, e6]

/-- The running mean of the squared gradient it leaves in its third array is the reference's. -/
theorem square (c : Dev nD) : (dats (F := Ideal) m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, val_main_cst_1, val_main_v5, val_main_v6, val_main_v7, val_main_cst_2, val_main_v8, val_main_v9, val_main_v10]
  blk_point [iblk, V, e0, e1, e2, e3, e4, e5, e6]

end Cert.AdamConvBIdeal.Update

end
-- ==== Proof.AdamDownValue.lean ====
/-
The optimiser's update of the weights of the feed-forward part's second product: what the kernel leaves in its three arrays is what the reference returns.
-/
module

public import Idealize.ShloMosaic.Lib.Pipeline.ValueKit
public import proofs.«01_k».proof.Proof.Gen.AdamDownIdeal.Value
public import proofs.«01_k».proof.Proof.Gen.AdamDownRefIdeal.Run
public import proofs.«01_k».proof.Proof.Gen.AdamDownRefIdeal.Read

@[expose] public section

set_option maxRecDepth 16384

noncomputable section

namespace Cert.AdamDownIdeal.Update

open Idealize.ShloMosaic Idealize.ShloMosaic.TcCoe Idealize.SL.Sem
open Cert.AdamDownIdeal Cert.AdamDownIdeal.Gen
open Cert.AdamDownRefIdeal.Read

variable (m : (ℓ : Loc nD τ sig) → Buf (Elt Ideal) ℓ)

/-- Every window's block at a grid point is the point's own band of rows. -/
theorem windows_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The running mean of the gradient at one weight. -/
def meanOf (g a : EReal) : EReal := Ideal.ofBits .f32 0x3F666666#32 * a + Ideal.ofBits .f32 0x3DCCCCCD#32 * g

/-- The running mean of the squared gradient at one weight. -/
def squareOf (g v : EReal) : EReal := Ideal.ofBits .f32 0x3F7FBE77#32 * v + Ideal.ofBits .f32 0x3A83126F#32 * (g * g)

/-- The step of one weight. -/
def stepOf (w g a v : EReal) : EReal :=
  Ideal.ofBits .f32 0xBA83126F#32 *
    (Ideal.div (Ideal.div (meanOf g a) (Ideal.ofBits .f32 0x3F26BD02#32)) (Ideal.sqrt (Ideal.div (squareOf g v) (Ideal.ofBits .f32 0x3C231ACC#32)) + Ideal.ofBits .f32 0x322BCC77#32)
      + Ideal.ofBits .f32 0x3C23D70A#32 * w)

/-- The rows of both halves one below the other. -/
def rows (x : Vec Ideal S2x704x1024 .f32) : Vec Ideal S1408x1024 .f32 := shapeCast S1408x1024 x Cert.AdamDownRefIdeal.Facts₀.shapeCasts_S2x704x1024_S1408x1024

/-- The region reads the weights' rows. -/
theorem entry0 (c : Dev nD) : V m c main_v0 = rows (m ((c : Thread nD τ).loc main_arg0)) := by entry_read; rfl
/-- The region reads the gradient's rows. -/
theorem entry1 (c : Dev nD) : V m c main_v1 = rows (m ((c : Thread nD τ).loc main_arg1)) := by entry_read; rfl
/-- The region reads the rows of the mean so far. -/
theorem entry2 (c : Dev nD) : V m c main_v2 = rows (m ((c : Thread nD τ).loc main_arg2)) := by entry_read; rfl
/-- The region reads the rows of the mean square so far. -/
theorem entry3 (c : Dev nD) : V m c main_v3 = rows (m ((c : Thread nD τ).loc main_arg3)) := by entry_read; rfl

/-- The kernel's mean at a point's place. -/
theorem pay_mean (g a : Vec Ideal S352x1024 .f32) (j : S352x1024.Idx) : k0_pay2 g a j = meanOf (g j) (a j) := by
  pointwise [k0_pay1, k0_pay2, k0_pay3, k0_pay4]
  rfl

/-- The kernel's mean square at a point's place. -/
theorem pay_square (g v : Vec Ideal S352x1024 .f32) (j : S352x1024.Idx) : k0_pay3 g v j = squareOf (g j) (v j) := by
  pointwise [k0_pay1, k0_pay2, k0_pay3, k0_pay4]
  rfl

/-- The kernel's step at a point's place. -/
theorem pay_step (g a v w : Vec Ideal S352x1024 .f32) (j : S352x1024.Idx) : k0_pay4 g a v w j = stepOf (w j) (g j) (a j) (v j) := by
  pointwise [k0_pay1, k0_pay2, k0_pay3, k0_pay4]
  rfl

/-- The reference's mean at one weight. -/
theorem ref_mean (g a : Vec Ideal S2x704x1024 .f32) (i : S2x704x1024.Idx) : val_main_v4 (F := Ideal) g a i = meanOf (g i) (a i) := by
  pointwise [val_main_cst, val_main_v0, val_main_v1, val_main_cst_0, val_main_v2, val_main_v3, val_main_v4]
  rfl

/-- The reference's mean square at one weight. -/
theorem ref_square (g v : Vec Ideal S2x704x1024 .f32) (i : S2x704x1024.Idx) : val_main_v10 (F := Ideal) g v i = squareOf (g i) (v i) := by
  pointwise [val_main_cst_1, val_main_v5, val_main_v6, val_main_v7, val_main_cst_2, val_main_v8, val_main_v9, val_main_v10]
  rfl

/-- The reference's step at one weight. -/
theorem ref_step (w g a v : Vec Ideal S2x704x1024 .f32) (i : S2x704x1024.Idx) : val_main_v23 (F := Ideal) w g a v i = stepOf (w i) (g i) (a i) (v i) := by
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rfl

/-- The reference's step at a place of the rows. -/
theorem rows_step (w g a v : Vec Ideal S2x704x1024 .f32) (i : S1408x1024.Idx) :
    val_main_v24 (F := Ideal) w g a v i = stepOf (rows w i) (rows g i) (rows a i) (rows v i) := by
  unfold val_main_v24 rows shapeCast
  exact ref_step _ _ _ _ _

/-- The step the kernel leaves in its first array is the reference's. -/
theorem delta (c : Dev nD) : (dats (F := Ideal) m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  frame_out
  rw [pay_step, rows_step]
  have h0 := entry0 m c
  have h1 := entry1 m c
  have h2 := entry2 m c
  have h3 := entry3 m c
  generalize rows (m ((c : Thread nD τ).loc main_arg0)) = z0 at h0 ⊢
  generalize rows (m ((c : Thread nD τ).loc main_arg1)) = z1 at h1 ⊢
  generalize rows (m ((c : Thread nD τ).loc main_arg2)) = z2 at h2 ⊢
  generalize rows (m ((c : Thread nD τ).loc main_arg3)) = z3 at h3 ⊢
  exact congr (congr (congr (congrArg stepOf (by blk_ext [iblk, h0, e0, e1, e2, e3, e4, e5, e6])) (by blk_ext [iblk, h1, e0, e1, e2, e3, e4, e5, e6])) (by blk_ext [iblk, h2, e0, e1, e2, e3, e4, e5, e6])) (by blk_ext [iblk, h3, e0, e1, e2, e3, e4, e5, e6])

/-- The reference's mean at a place of the rows. -/
theorem rows_mean (g a : Vec Ideal S2x704x1024 .f32) (i : S1408x1024.Idx) :
    val_main_v25 (F := Ideal) g a i = meanOf (rows g i) (rows a i) := by
  unfold val_main_v25 rows shapeCast
  exact ref_mean _ _ _

/-- The running mean of the gradient it leaves in its second array is the reference's. -/
theorem mean (c : Dev nD) : (dats (F := Ideal) m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  rw [pay_mean, rows_mean]
  have h1 := entry1 m c
  have h2 := entry2 m c
  generalize rows (m ((c : Thread nD τ).loc main_arg1)) = z1 at h1 ⊢
  generalize rows (m ((c : Thread nD τ).loc main_arg2)) = z2 at h2 ⊢
  exact congr (congrArg meanOf (by blk_ext [iblk, h1, e0, e1, e2, e3, e4, e5, e6])) (by blk_ext [iblk, h2, e0, e1, e2, e3, e4, e5, e6])

/-- The reference's square at a place of the rows. -/
theorem rows_square (g v : Vec Ideal S2x704x1024 .f32) (i : S1408x1024.Idx) :
    val_main_v26 (F := Ideal) g v i = squareOf (rows g i) (rows v i) := by
  unfold val_main_v26 rows shapeCast
  exact ref_square _ _ _

/-- The running mean of the squared gradient it leaves in its third array is the reference's. -/
theorem square (c : Dev nD) : (dats (F := Ideal) m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  rw [pay_square, rows_square]
  have h1 := entry1 m c
  have h3 := entry3 m c
  generalize rows (m ((c : Thread nD τ).loc main_arg1)) = z1 at h1 ⊢
  generalize rows (m ((c : Thread nD τ).loc main_arg3)) = z3 at h3 ⊢
  exact congr (congrArg squareOf (by blk_ext [iblk, h1, e0, e1, e2, e3, e4, e5, e6])) (by blk_ext [iblk, h3, e0, e1, e2, e3, e4, e5, e6])

end Cert.AdamDownIdeal.Update

end
-- ==== Proof.Updates.lean ====
/-
The optimiser's updates, one module for each shape of parameter.
-/
module

public import proofs.«01_k».proof.Proof.AdamNormsValue
public import proofs.«01_k».proof.Proof.AdamNormValue
public import proofs.«01_k».proof.Proof.AdamRowsValue
public import proofs.«01_k».proof.Proof.AdamAValue
public import proofs.«01_k».proof.Proof.AdamDtValue
public import proofs.«01_k».proof.Proof.AdamBValue
public import proofs.«01_k».proof.Proof.AdamCValue
public import proofs.«01_k».proof.Proof.AdamDValue
public import proofs.«01_k».proof.Proof.AdamGluValue
public import proofs.«01_k».proof.Proof.AdamKvValue
public import proofs.«01_k».proof.Proof.AdamUpValue
public import proofs.«01_k».proof.Proof.AdamConvWValue
public import proofs.«01_k».proof.Proof.AdamConvBValue
public import proofs.«01_k».proof.Proof.AdamDownValue
-- ==== Proof.UpdateClaims.lean ====
/-
For each of the optimiser's updates, what the certificate states of it: kernel and reference leave the same three arrays, and
the reference keeps its arguments.
-/
module

public import proofs.«01_k».proof.Defs
public import proofs.«01_k».proof.Proof.Updates
public import Idealize.ShloMosaic.Adequacy
public import Idealize.ShloMosaic.Init

@[expose] public section

noncomputable section

namespace Cert.Proof

open Idealize.ShloMosaic Idealize.ShloMosaic.TcCoe Idealize.SL.Sem

/-- Kernel and reference leave the same: the update of the gains of the mixer's and the feed-forward part's norms. -/
theorem adamNorms_same : Cert.algebraic_AdamNormsIdeal_AdamNormsRefIdeal := by
  intro m ρ m' ρ' _ hagree
  refine ⟨fun c => Cert.AdamNormsRefIdeal.Read.val_main_v23 (F := Ideal) (m ((c.tc : Thread _ _).loc Cert.AdamNormsIdeal.main_arg0)) (m ((c.tc : Thread _ _).loc Cert.AdamNormsIdeal.main_arg1)) (m ((c.tc : Thread _ _).loc Cert.AdamNormsIdeal.main_arg2)) (m ((c.tc : Thread _ _).loc Cert.AdamNormsIdeal.main_arg3)),
    fun c => Cert.AdamNormsRefIdeal.Read.val_main_v4 (F := Ideal) (m ((c.tc : Thread _ _).loc Cert.AdamNormsIdeal.main_arg1)) (m ((c.tc : Thread _ _).loc Cert.AdamNormsIdeal.main_arg2)),
    fun c => Cert.AdamNormsRefIdeal.Read.val_main_v10 (F := Ideal) (m ((c.tc : Thread _ _).loc Cert.AdamNormsIdeal.main_arg1)) (m ((c.tc : Thread _ _).loc Cert.AdamNormsIdeal.main_arg3)), ?_, ?_⟩
  · exact (θ_run Cert.AdamNormsIdeal.defs _ _).mono (fun r h c => ⟨(h c).1.trans (Cert.AdamNormsIdeal.Update.delta m c), (h c).2.1.trans (Cert.AdamNormsIdeal.Update.mean m c), (h c).2.2.1.trans (Cert.AdamNormsIdeal.Update.square m c), (h c).2.2.2⟩)
      (Cert.AdamNormsIdeal.Value.run_blocks (F := Ideal) m ρ)
  · refine (θ_run Cert.AdamNormsRefIdeal.defs _ _).mono (fun r h c => ⟨(h c).1.trans ?_, (h c).2.1.trans ?_, (h c).2.2.1.trans ?_, (h c).2.2.2⟩)
      (Cert.AdamNormsRefIdeal.Value.run (F := Ideal) m' ρ')
    · rw [Cert.AdamNormsRefIdeal.Read.val_main_v23_eq, (hagree c).1, (hagree c).2.1, (hagree c).2.2.1, (hagree c).2.2.2]
    · rw [Cert.AdamNormsRefIdeal.Read.val_main_v4_eq, (hagree c).2.1, (hagree c).2.2.1]
    · rw [Cert.AdamNormsRefIdeal.Read.val_main_v10_eq, (hagree c).2.1, (hagree c).2.2.2]

/-- The reference keeps its arguments; it has no semaphore. -/
theorem adamNorms_reference_frame : Cert.quiescent_AdamNormsRefIdeal := fun m ρ _ =>
  (θ_run Cert.AdamNormsRefIdeal.defs _ _).mono (fun r h => ⟨fun c => (h c).2.2.2, sem_eq_zero_of_no_sems (by decide) r.2⟩)
    (Cert.AdamNormsRefIdeal.Value.run (F := Ideal) m ρ)

/-- Kernel and reference leave the same: the update of a single gain of a norm. -/
theorem adamNorm_same : Cert.algebraic_AdamNormIdeal_AdamNormRefIdeal := by
  intro m ρ m' ρ' _ hagree
  refine ⟨fun c => Cert.AdamNormRefIdeal.Read.val_main_v24 (F := Ideal) (m ((c.tc : Thread _ _).loc Cert.AdamNormIdeal.main_arg0)) (m ((c.tc : Thread _ _).loc Cert.AdamNormIdeal.main_arg1)) (m ((c.tc : Thread _ _).loc Cert.AdamNormIdeal.main_arg2)) (m ((c.tc : Thread _ _).loc Cert.AdamNormIdeal.main_arg3)),
    fun c => Cert.AdamNormRefIdeal.Read.val_main_v25 (F := Ideal) (m ((c.tc : Thread _ _).loc Cert.AdamNormIdeal.main_arg1)) (m ((c.tc : Thread _ _).loc Cert.AdamNormIdeal.main_arg2)),
    fun c => Cert.AdamNormRefIdeal.Read.val_main_v26 (F := Ideal) (m ((c.tc : Thread _ _).loc Cert.AdamNormIdeal.main_arg1)) (m ((c.tc : Thread _ _).loc Cert.AdamNormIdeal.main_arg3)), ?_, ?_⟩
  · exact (θ_run Cert.AdamNormIdeal.defs _ _).mono (fun r h c => ⟨(h c).1.trans (Cert.AdamNormIdeal.Update.delta m c), (h c).2.1.trans (Cert.AdamNormIdeal.Update.mean m c), (h c).2.2.1.trans (Cert.AdamNormIdeal.Update.square m c), (h c).2.2.2⟩)
      (Cert.AdamNormIdeal.Value.run_blocks (F := Ideal) m ρ)
  · refine (θ_run Cert.AdamNormRefIdeal.defs _ _).mono (fun r h c => ⟨(h c).1.trans ?_, (h c).2.1.trans ?_, (h c).2.2.1.trans ?_, (h c).2.2.2⟩)
      (Cert.AdamNormRefIdeal.Value.run (F := Ideal) m' ρ')
    · rw [Cert.AdamNormRefIdeal.Read.val_main_v24_eq, (hagree c).1, (hagree c).2.1, (hagree c).2.2.1, (hagree c).2.2.2]
    · rw [Cert.AdamNormRefIdeal.Read.val_main_v25_eq, (hagree c).2.1, (hagree c).2.2.1]
    · rw [Cert.AdamNormRefIdeal.Read.val_main_v26_eq, (hagree c).2.1, (hagree c).2.2.2]

/-- The reference keeps its arguments; it has no semaphore. -/
theorem adamNorm_reference_frame : Cert.quiescent_AdamNormRefIdeal := fun m ρ _ =>
  (θ_run Cert.AdamNormRefIdeal.defs _ _).mono (fun r h => ⟨fun c => (h c).2.2.2, sem_eq_zero_of_no_sems (by decide) r.2⟩)
    (Cert.AdamNormRefIdeal.Value.run (F := Ideal) m ρ)

/-- Kernel and reference leave the same: the update of the square projections' slices of 256 rows. -/
theorem adamRows_same : Cert.algebraic_AdamRowsIdeal_AdamRowsRefIdeal := by
  intro m ρ m' ρ' _ hagree
  refine ⟨fun c => Cert.AdamRowsRefIdeal.Read.val_main_v24 (F := Ideal) (m ((c.tc : Thread _ _).loc Cert.AdamRowsIdeal.main_arg0)) (m ((c.tc : Thread _ _).loc Cert.AdamRowsIdeal.main_arg1)) (m ((c.tc : Thread _ _).loc Cert.AdamRowsIdeal.main_arg2)) (m ((c.tc : Thread _ _).loc Cert.AdamRowsIdeal.main_arg3)),
    fun c => Cert.AdamRowsRefIdeal.Read.val_main_v25 (F := Ideal) (m ((c.tc : Thread _ _).loc Cert.AdamRowsIdeal.main_arg1)) (m ((c.tc : Thread _ _).loc Cert.AdamRowsIdeal.main_arg2)),
    fun c => Cert.AdamRowsRefIdeal.Read.val_main_v26 (F := Ideal) (m ((c.tc : Thread _ _).loc Cert.AdamRowsIdeal.main_arg1)) (m ((c.tc : Thread _ _).loc Cert.AdamRowsIdeal.main_arg3)), ?_, ?_⟩
  · exact (θ_run Cert.AdamRowsIdeal.defs _ _).mono (fun r h c => ⟨(h c).1.trans (Cert.AdamRowsIdeal.Update.delta m c), (h c).2.1.trans (Cert.AdamRowsIdeal.Update.mean m c), (h c).2.2.1.trans (Cert.AdamRowsIdeal.Update.square m c), (h c).2.2.2⟩)
      (Cert.AdamRowsIdeal.Value.run_blocks (F := Ideal) m ρ)
  · refine (θ_run Cert.AdamRowsRefIdeal.defs _ _).mono (fun r h c => ⟨(h c).1.trans ?_, (h c).2.1.trans ?_, (h c).2.2.1.trans ?_, (h c).2.2.2⟩)
      (Cert.AdamRowsRefIdeal.Value.run (F := Ideal) m' ρ')
    · rw [Cert.AdamRowsRefIdeal.Read.val_main_v24_eq, (hagree c).1, (hagree c).2.1, (hagree c).2.2.1, (hagree c).2.2.2]
    · rw [Cert.AdamRowsRefIdeal.Read.val_main_v25_eq, (hagree c).2.1, (hagree c).2.2.1]
    · rw [Cert.AdamRowsRefIdeal.Read.val_main_v26_eq, (hagree c).2.1, (hagree c).2.2.2]

/-- The reference keeps its arguments; it has no semaphore. -/
theorem adamRows_reference_frame : Cert.quiescent_AdamRowsRefIdeal := fun m ρ _ =>
  (θ_run Cert.AdamRowsRefIdeal.defs _ _).mono (fun r h => ⟨fun c => (h c).2.2.2, sem_eq_zero_of_no_sems (by decide) r.2⟩)
    (Cert.AdamRowsRefIdeal.Value.run (F := Ideal) m ρ)

/-- Kernel and reference leave the same: the update of the diagonal of the state matrix. -/
theorem adamA_same : Cert.algebraic_AdamAIdeal_AdamARefIdeal := by
  intro m ρ m' ρ' _ hagree
  refine ⟨fun c => Cert.AdamARefIdeal.Read.val_main_v24 (F := Ideal) (m ((c.tc : Thread _ _).loc Cert.AdamAIdeal.main_arg0)) (m ((c.tc : Thread _ _).loc Cert.AdamAIdeal.main_arg1)) (m ((c.tc : Thread _ _).loc Cert.AdamAIdeal.main_arg2)) (m ((c.tc : Thread _ _).loc Cert.AdamAIdeal.main_arg3)),
    fun c => Cert.AdamARefIdeal.Read.val_main_v25 (F := Ideal) (m ((c.tc : Thread _ _).loc Cert.AdamAIdeal.main_arg1)) (m ((c.tc : Thread _ _).loc Cert.AdamAIdeal.main_arg2)),
    fun c => Cert.AdamARefIdeal.Read.val_main_v26 (F := Ideal) (m ((c.tc : Thread _ _).loc Cert.AdamAIdeal.main_arg1)) (m ((c.tc : Thread _ _).loc Cert.AdamAIdeal.main_arg3)), ?_, ?_⟩
  · exact (θ_run Cert.AdamAIdeal.defs _ _).mono (fun r h c => ⟨(h c).1.trans (Cert.AdamAIdeal.Update.delta m c), (h c).2.1.trans (Cert.AdamAIdeal.Update.mean m c), (h c).2.2.1.trans (Cert.AdamAIdeal.Update.square m c), (h c).2.2.2⟩)
      (Cert.AdamAIdeal.Value.run_blocks (F := Ideal) m ρ)
  · refine (θ_run Cert.AdamARefIdeal.defs _ _).mono (fun r h c => ⟨(h c).1.trans ?_, (h c).2.1.trans ?_, (h c).2.2.1.trans ?_, (h c).2.2.2⟩)
      (Cert.AdamARefIdeal.Value.run (F := Ideal) m' ρ')
    · rw [Cert.AdamARefIdeal.Read.val_main_v24_eq, (hagree c).1, (hagree c).2.1, (hagree c).2.2.1, (hagree c).2.2.2]
    · rw [Cert.AdamARefIdeal.Read.val_main_v25_eq, (hagree c).2.1, (hagree c).2.2.1]
    · rw [Cert.AdamARefIdeal.Read.val_main_v26_eq, (hagree c).2.1, (hagree c).2.2.2]

/-- The reference keeps its arguments; it has no semaphore. -/
theorem adamA_reference_frame : Cert.quiescent_AdamARefIdeal := fun m ρ _ =>
  (θ_run Cert.AdamARefIdeal.defs _ _).mono (fun r h => ⟨fun c => (h c).2.2.2, sem_eq_zero_of_no_sems (by decide) r.2⟩)
    (Cert.AdamARefIdeal.Value.run (F := Ideal) m ρ)

/-- Kernel and reference leave the same: the update of the logarithms of the step sizes. -/
theorem adamDt_same : Cert.algebraic_AdamDtIdeal_AdamDtRefIdeal := by
  intro m ρ m' ρ' _ hagree
  refine ⟨fun c => Cert.AdamDtRefIdeal.Read.val_main_v23 (F := Ideal) (m ((c.tc : Thread _ _).loc Cert.AdamDtIdeal.main_arg0)) (m ((c.tc : Thread _ _).loc Cert.AdamDtIdeal.main_arg1)) (m ((c.tc : Thread _ _).loc Cert.AdamDtIdeal.main_arg2)) (m ((c.tc : Thread _ _).loc Cert.AdamDtIdeal.main_arg3)),
    fun c => Cert.AdamDtRefIdeal.Read.val_main_v4 (F := Ideal) (m ((c.tc : Thread _ _).loc Cert.AdamDtIdeal.main_arg1)) (m ((c.tc : Thread _ _).loc Cert.AdamDtIdeal.main_arg2)),
    fun c => Cert.AdamDtRefIdeal.Read.val_main_v10 (F := Ideal) (m ((c.tc : Thread _ _).loc Cert.AdamDtIdeal.main_arg1)) (m ((c.tc : Thread _ _).loc Cert.AdamDtIdeal.main_arg3)), ?_, ?_⟩
  · exact (θ_run Cert.AdamDtIdeal.defs _ _).mono (fun r h c => ⟨(h c).1.trans (Cert.AdamDtIdeal.Update.delta m c), (h c).2.1.trans (Cert.AdamDtIdeal.Update.mean m c), (h c).2.2.1.trans (Cert.AdamDtIdeal.Update.square m c), (h c).2.2.2⟩)
      (Cert.AdamDtIdeal.Value.run_blocks (F := Ideal) m ρ)
  · refine (θ_run Cert.AdamDtRefIdeal.defs _ _).mono (fun r h c => ⟨(h c).1.trans ?_, (h c).2.1.trans ?_, (h c).2.2.1.trans ?_, (h c).2.2.2⟩)
      (Cert.AdamDtRefIdeal.Value.run (F := Ideal) m' ρ')
    · rw [Cert.AdamDtRefIdeal.Read.val_main_v23_eq, (hagree c).1, (hagree c).2.1, (hagree c).2.2.1, (hagree c).2.2.2]
    · rw [Cert.AdamDtRefIdeal.Read.val_main_v4_eq, (hagree c).2.1, (hagree c).2.2.1]
    · rw [Cert.AdamDtRefIdeal.Read.val_main_v10_eq, (hagree c).2.1, (hagree c).2.2.2]

/-- The reference keeps its arguments; it has no semaphore. -/
theorem adamDt_reference_frame : Cert.quiescent_AdamDtRefIdeal := fun m ρ _ =>
  (θ_run Cert.AdamDtRefIdeal.defs _ _).mono (fun r h => ⟨fun c => (h c).2.2.2, sem_eq_zero_of_no_sems (by decide) r.2⟩)
    (Cert.AdamDtRefIdeal.Value.run (F := Ideal) m ρ)

/-- Kernel and reference leave the same: the update of the state's input matrix. -/
theorem adamB_same : Cert.algebraic_AdamBIdeal_AdamBRefIdeal := by
  intro m ρ m' ρ' _ hagree
  refine ⟨fun c => Cert.AdamBRefIdeal.Read.val_main_v24 (F := Ideal) (m ((c.tc : Thread _ _).loc Cert.AdamBIdeal.main_arg0)) (m ((c.tc : Thread _ _).loc Cert.AdamBIdeal.main_arg1)) (m ((c.tc : Thread _ _).loc Cert.AdamBIdeal.main_arg2)) (m ((c.tc : Thread _ _).loc Cert.AdamBIdeal.main_arg3)),
    fun c => Cert.AdamBRefIdeal.Read.val_main_v25 (F := Ideal) (m ((c.tc : Thread _ _).loc Cert.AdamBIdeal.main_arg1)) (m ((c.tc : Thread _ _).loc Cert.AdamBIdeal.main_arg2)),
    fun c => Cert.AdamBRefIdeal.Read.val_main_v26 (F := Ideal) (m ((c.tc : Thread _ _).loc Cert.AdamBIdeal.main_arg1)) (m ((c.tc : Thread _ _).loc Cert.AdamBIdeal.main_arg3)), ?_, ?_⟩
  · exact (θ_run Cert.AdamBIdeal.defs _ _).mono (fun r h c => ⟨(h c).1.trans (Cert.AdamBIdeal.Update.delta m c), (h c).2.1.trans (Cert.AdamBIdeal.Update.mean m c), (h c).2.2.1.trans (Cert.AdamBIdeal.Update.square m c), (h c).2.2.2⟩)
      (Cert.AdamBIdeal.Value.run_blocks (F := Ideal) m ρ)
  · refine (θ_run Cert.AdamBRefIdeal.defs _ _).mono (fun r h c => ⟨(h c).1.trans ?_, (h c).2.1.trans ?_, (h c).2.2.1.trans ?_, (h c).2.2.2⟩)
      (Cert.AdamBRefIdeal.Value.run (F := Ideal) m' ρ')
    · rw [Cert.AdamBRefIdeal.Read.val_main_v24_eq, (hagree c).1, (hagree c).2.1, (hagree c).2.2.1, (hagree c).2.2.2]
    · rw [Cert.AdamBRefIdeal.Read.val_main_v25_eq, (hagree c).2.1, (hagree c).2.2.1]
    · rw [Cert.AdamBRefIdeal.Read.val_main_v26_eq, (hagree c).2.1, (hagree c).2.2.2]

/-- The reference keeps its arguments; it has no semaphore. -/
theorem adamB_reference_frame : Cert.quiescent_AdamBRefIdeal := fun m ρ _ =>
  (θ_run Cert.AdamBRefIdeal.defs _ _).mono (fun r h => ⟨fun c => (h c).2.2.2, sem_eq_zero_of_no_sems (by decide) r.2⟩)
    (Cert.AdamBRefIdeal.Value.run (F := Ideal) m ρ)

/-- Kernel and reference leave the same: the update of the state's output matrix. -/
theorem adamC_same : Cert.algebraic_AdamCIdeal_AdamCRefIdeal := by
  intro m ρ m' ρ' _ hagree
  refine ⟨fun c => Cert.AdamCRefIdeal.Read.val_main_v24 (F := Ideal) (m ((c.tc : Thread _ _).loc Cert.AdamCIdeal.main_arg0)) (m ((c.tc : Thread _ _).loc Cert.AdamCIdeal.main_arg1)) (m ((c.tc : Thread _ _).loc Cert.AdamCIdeal.main_arg2)) (m ((c.tc : Thread _ _).loc Cert.AdamCIdeal.main_arg3)),
    fun c => Cert.AdamCRefIdeal.Read.val_main_v25 (F := Ideal) (m ((c.tc : Thread _ _).loc Cert.AdamCIdeal.main_arg1)) (m ((c.tc : Thread _ _).loc Cert.AdamCIdeal.main_arg2)),
    fun c => Cert.AdamCRefIdeal.Read.val_main_v26 (F := Ideal) (m ((c.tc : Thread _ _).loc Cert.AdamCIdeal.main_arg1)) (m ((c.tc : Thread _ _).loc Cert.AdamCIdeal.main_arg3)), ?_, ?_⟩
  · exact (θ_run Cert.AdamCIdeal.defs _ _).mono (fun r h c => ⟨(h c).1.trans (Cert.AdamCIdeal.Update.delta m c), (h c).2.1.trans (Cert.AdamCIdeal.Update.mean m c), (h c).2.2.1.trans (Cert.AdamCIdeal.Update.square m c), (h c).2.2.2⟩)
      (Cert.AdamCIdeal.Value.run_blocks (F := Ideal) m ρ)
  · refine (θ_run Cert.AdamCRefIdeal.defs _ _).mono (fun r h c => ⟨(h c).1.trans ?_, (h c).2.1.trans ?_, (h c).2.2.1.trans ?_, (h c).2.2.2⟩)
      (Cert.AdamCRefIdeal.Value.run (F := Ideal) m' ρ')
    · rw [Cert.AdamCRefIdeal.Read.val_main_v24_eq, (hagree c).1, (hagree c).2.1, (hagree c).2.2.1, (hagree c).2.2.2]
    · rw [Cert.AdamCRefIdeal.Read.val_main_v25_eq, (hagree c).2.1, (hagree c).2.2.1]
    · rw [Cert.AdamCRefIdeal.Read.val_main_v26_eq, (hagree c).2.1, (hagree c).2.2.2]

/-- The reference keeps its arguments; it has no semaphore. -/
theorem adamC_reference_frame : Cert.quiescent_AdamCRefIdeal := fun m ρ _ =>
  (θ_run Cert.AdamCRefIdeal.defs _ _).mono (fun r h => ⟨fun c => (h c).2.2.2, sem_eq_zero_of_no_sems (by decide) r.2⟩)
    (Cert.AdamCRefIdeal.Value.run (F := Ideal) m ρ)

/-- Kernel and reference leave the same: the update of the skip of the state space. -/
theorem adamD_same : Cert.algebraic_AdamDIdeal_AdamDRefIdeal := by
  intro m ρ m' ρ' _ hagree
  refine ⟨fun c => Cert.AdamDRefIdeal.Read.val_main_v24 (F := Ideal) (m ((c.tc : Thread _ _).loc Cert.AdamDIdeal.main_arg0)) (m ((c.tc : Thread _ _).loc Cert.AdamDIdeal.main_arg1)) (m ((c.tc : Thread _ _).loc Cert.AdamDIdeal.main_arg2)) (m ((c.tc : Thread _ _).loc Cert.AdamDIdeal.main_arg3)),
    fun c => Cert.AdamDRefIdeal.Read.val_main_v25 (F := Ideal) (m ((c.tc : Thread _ _).loc Cert.AdamDIdeal.main_arg1)) (m ((c.tc : Thread _ _).loc Cert.AdamDIdeal.main_arg2)),
    fun c => Cert.AdamDRefIdeal.Read.val_main_v26 (F := Ideal) (m ((c.tc : Thread _ _).loc Cert.AdamDIdeal.main_arg1)) (m ((c.tc : Thread _ _).loc Cert.AdamDIdeal.main_arg3)), ?_, ?_⟩
  · exact (θ_run Cert.AdamDIdeal.defs _ _).mono (fun r h c => ⟨(h c).1.trans (Cert.AdamDIdeal.Update.delta m c), (h c).2.1.trans (Cert.AdamDIdeal.Update.mean m c), (h c).2.2.1.trans (Cert.AdamDIdeal.Update.square m c), (h c).2.2.2⟩)
      (Cert.AdamDIdeal.Value.run_blocks (F := Ideal) m ρ)
  · refine (θ_run Cert.AdamDRefIdeal.defs _ _).mono (fun r h c => ⟨(h c).1.trans ?_, (h c).2.1.trans ?_, (h c).2.2.1.trans ?_, (h c).2.2.2⟩)
      (Cert.AdamDRefIdeal.Value.run (F := Ideal) m' ρ')
    · rw [Cert.AdamDRefIdeal.Read.val_main_v24_eq, (hagree c).1, (hagree c).2.1, (hagree c).2.2.1, (hagree c).2.2.2]
    · rw [Cert.AdamDRefIdeal.Read.val_main_v25_eq, (hagree c).2.1, (hagree c).2.2.1]
    · rw [Cert.AdamDRefIdeal.Read.val_main_v26_eq, (hagree c).2.1, (hagree c).2.2.2]

/-- The reference keeps its arguments; it has no semaphore. -/
theorem adamD_reference_frame : Cert.quiescent_AdamDRefIdeal := fun m ρ _ =>
  (θ_run Cert.AdamDRefIdeal.defs _ _).mono (fun r h => ⟨fun c => (h c).2.2.2, sem_eq_zero_of_no_sems (by decide) r.2⟩)
    (Cert.AdamDRefIdeal.Value.run (F := Ideal) m ρ)

/-- Kernel and reference leave the same: the update of the weights of the gated unit. -/
theorem adamGlu_same : Cert.algebraic_AdamGluIdeal_AdamGluRefIdeal := by
  intro m ρ m' ρ' _ hagree
  refine ⟨fun c => Cert.AdamGluRefIdeal.Read.val_main_v24 (F := Ideal) (m ((c.tc : Thread _ _).loc Cert.AdamGluIdeal.main_arg0)) (m ((c.tc : Thread _ _).loc Cert.AdamGluIdeal.main_arg1)) (m ((c.tc : Thread _ _).loc Cert.AdamGluIdeal.main_arg2)) (m ((c.tc : Thread _ _).loc Cert.AdamGluIdeal.main_arg3)),
    fun c => Cert.AdamGluRefIdeal.Read.val_main_v25 (F := Ideal) (m ((c.tc : Thread _ _).loc Cert.AdamGluIdeal.main_arg1)) (m ((c.tc : Thread _ _).loc Cert.AdamGluIdeal.main_arg2)),
    fun c => Cert.AdamGluRefIdeal.Read.val_main_v26 (F := Ideal) (m ((c.tc : Thread _ _).loc Cert.AdamGluIdeal.main_arg1)) (m ((c.tc : Thread _ _).loc Cert.AdamGluIdeal.main_arg3)), ?_, ?_⟩
  · exact (θ_run Cert.AdamGluIdeal.defs _ _).mono (fun r h c => ⟨(h c).1.trans (Cert.AdamGluIdeal.Update.delta m c), (h c).2.1.trans (Cert.AdamGluIdeal.Update.mean m c), (h c).2.2.1.trans (Cert.AdamGluIdeal.Update.square m c), (h c).2.2.2⟩)
      (Cert.AdamGluIdeal.Value.run_blocks (F := Ideal) m ρ)
  · refine (θ_run Cert.AdamGluRefIdeal.defs _ _).mono (fun r h c => ⟨(h c).1.trans ?_, (h c).2.1.trans ?_, (h c).2.2.1.trans ?_, (h c).2.2.2⟩)
      (Cert.AdamGluRefIdeal.Value.run (F := Ideal) m' ρ')
    · rw [Cert.AdamGluRefIdeal.Read.val_main_v24_eq, (hagree c).1, (hagree c).2.1, (hagree c).2.2.1, (hagree c).2.2.2]
    · rw [Cert.AdamGluRefIdeal.Read.val_main_v25_eq, (hagree c).2.1, (hagree c).2.2.1]
    · rw [Cert.AdamGluRefIdeal.Read.val_main_v26_eq, (hagree c).2.1, (hagree c).2.2.2]

/-- The reference keeps its arguments; it has no semaphore. -/
theorem adamGlu_reference_frame : Cert.quiescent_AdamGluRefIdeal := fun m ρ _ =>
  (θ_run Cert.AdamGluRefIdeal.defs _ _).mono (fun r h => ⟨fun c => (h c).2.2.2, sem_eq_zero_of_no_sems (by decide) r.2⟩)
    (Cert.AdamGluRefIdeal.Value.run (F := Ideal) m ρ)

/-- Kernel and reference leave the same: the update of the projection to keys and values. -/
theorem adamKv_same : Cert.algebraic_AdamKvIdeal_AdamKvRefIdeal := by
  intro m ρ m' ρ' _ hagree
  refine ⟨fun c => Cert.AdamKvRefIdeal.Read.val_main_v23 (F := Ideal) (m ((c.tc : Thread _ _).loc Cert.AdamKvIdeal.main_arg0)) (m ((c.tc : Thread _ _).loc Cert.AdamKvIdeal.main_arg1)) (m ((c.tc : Thread _ _).loc Cert.AdamKvIdeal.main_arg2)) (m ((c.tc : Thread _ _).loc Cert.AdamKvIdeal.main_arg3)),
    fun c => Cert.AdamKvRefIdeal.Read.val_main_v4 (F := Ideal) (m ((c.tc : Thread _ _).loc Cert.AdamKvIdeal.main_arg1)) (m ((c.tc : Thread _ _).loc Cert.AdamKvIdeal.main_arg2)),
    fun c => Cert.AdamKvRefIdeal.Read.val_main_v10 (F := Ideal) (m ((c.tc : Thread _ _).loc Cert.AdamKvIdeal.main_arg1)) (m ((c.tc : Thread _ _).loc Cert.AdamKvIdeal.main_arg3)), ?_, ?_⟩
  · exact (θ_run Cert.AdamKvIdeal.defs _ _).mono (fun r h c => ⟨(h c).1.trans (Cert.AdamKvIdeal.Update.delta m c), (h c).2.1.trans (Cert.AdamKvIdeal.Update.mean m c), (h c).2.2.1.trans (Cert.AdamKvIdeal.Update.square m c), (h c).2.2.2⟩)
      (Cert.AdamKvIdeal.Value.run_blocks (F := Ideal) m ρ)
  · refine (θ_run Cert.AdamKvRefIdeal.defs _ _).mono (fun r h c => ⟨(h c).1.trans ?_, (h c).2.1.trans ?_, (h c).2.2.1.trans ?_, (h c).2.2.2⟩)
      (Cert.AdamKvRefIdeal.Value.run (F := Ideal) m' ρ')
    · rw [Cert.AdamKvRefIdeal.Read.val_main_v23_eq, (hagree c).1, (hagree c).2.1, (hagree c).2.2.1, (hagree c).2.2.2]
    · rw [Cert.AdamKvRefIdeal.Read.val_main_v4_eq, (hagree c).2.1, (hagree c).2.2.1]
    · rw [Cert.AdamKvRefIdeal.Read.val_main_v10_eq, (hagree c).2.1, (hagree c).2.2.2]

/-- The reference keeps its arguments; it has no semaphore. -/
theorem adamKv_reference_frame : Cert.quiescent_AdamKvRefIdeal := fun m ρ _ =>
  (θ_run Cert.AdamKvRefIdeal.defs _ _).mono (fun r h => ⟨fun c => (h c).2.2.2, sem_eq_zero_of_no_sems (by decide) r.2⟩)
    (Cert.AdamKvRefIdeal.Value.run (F := Ideal) m ρ)

/-- Kernel and reference leave the same: the update of the weights of the feed-forward part's first product. -/
theorem adamUp_same : Cert.algebraic_AdamUpIdeal_AdamUpRefIdeal := by
  intro m ρ m' ρ' _ hagree
  refine ⟨fun c => Cert.AdamUpRefIdeal.Read.val_main_v24 (F := Ideal) (m ((c.tc : Thread _ _).loc Cert.AdamUpIdeal.main_arg0)) (m ((c.tc : Thread _ _).loc Cert.AdamUpIdeal.main_arg1)) (m ((c.tc : Thread _ _).loc Cert.AdamUpIdeal.main_arg2)) (m ((c.tc : Thread _ _).loc Cert.AdamUpIdeal.main_arg3)),
    fun c => Cert.AdamUpRefIdeal.Read.val_main_v25 (F := Ideal) (m ((c.tc : Thread _ _).loc Cert.AdamUpIdeal.main_arg1)) (m ((c.tc : Thread _ _).loc Cert.AdamUpIdeal.main_arg2)),
    fun c => Cert.AdamUpRefIdeal.Read.val_main_v26 (F := Ideal) (m ((c.tc : Thread _ _).loc Cert.AdamUpIdeal.main_arg1)) (m ((c.tc : Thread _ _).loc Cert.AdamUpIdeal.main_arg3)), ?_, ?_⟩
  · exact (θ_run Cert.AdamUpIdeal.defs _ _).mono (fun r h c => ⟨(h c).1.trans (Cert.AdamUpIdeal.Update.delta m c), (h c).2.1.trans (Cert.AdamUpIdeal.Update.mean m c), (h c).2.2.1.trans (Cert.AdamUpIdeal.Update.square m c), (h c).2.2.2⟩)
      (Cert.AdamUpIdeal.Value.run_blocks (F := Ideal) m ρ)
  · refine (θ_run Cert.AdamUpRefIdeal.defs _ _).mono (fun r h c => ⟨(h c).1.trans ?_, (h c).2.1.trans ?_, (h c).2.2.1.trans ?_, (h c).2.2.2⟩)
      (Cert.AdamUpRefIdeal.Value.run (F := Ideal) m' ρ')
    · rw [Cert.AdamUpRefIdeal.Read.val_main_v24_eq, (hagree c).1, (hagree c).2.1, (hagree c).2.2.1, (hagree c).2.2.2]
    · rw [Cert.AdamUpRefIdeal.Read.val_main_v25_eq, (hagree c).2.1, (hagree c).2.2.1]
    · rw [Cert.AdamUpRefIdeal.Read.val_main_v26_eq, (hagree c).2.1, (hagree c).2.2.2]

/-- The reference keeps its arguments; it has no semaphore. -/
theorem adamUp_reference_frame : Cert.quiescent_AdamUpRefIdeal := fun m ρ _ =>
  (θ_run Cert.AdamUpRefIdeal.defs _ _).mono (fun r h => ⟨fun c => (h c).2.2.2, sem_eq_zero_of_no_sems (by decide) r.2⟩)
    (Cert.AdamUpRefIdeal.Value.run (F := Ideal) m ρ)

/-- Kernel and reference leave the same: the update of the taps of the depthwise convolution. -/
theorem adamConvW_same : Cert.algebraic_AdamConvWIdeal_AdamConvWRefIdeal := by
  intro m ρ m' ρ' _ hagree
  refine ⟨fun c => Cert.AdamConvWRefIdeal.Read.val_main_v24 (F := Ideal) (m ((c.tc : Thread _ _).loc Cert.AdamConvWIdeal.main_arg0)) (m ((c.tc : Thread _ _).loc Cert.AdamConvWIdeal.main_arg1)) (m ((c.tc : Thread _ _).loc Cert.AdamConvWIdeal.main_arg2)) (m ((c.tc : Thread _ _).loc Cert.AdamConvWIdeal.main_arg3)),
    fun c => Cert.AdamConvWRefIdeal.Read.val_main_v25 (F := Ideal) (m ((c.tc : Thread _ _).loc Cert.AdamConvWIdeal.main_arg1)) (m ((c.tc : Thread _ _).loc Cert.AdamConvWIdeal.main_arg2)),
    fun c => Cert.AdamConvWRefIdeal.Read.val_main_v26 (F := Ideal) (m ((c.tc : Thread _ _).loc Cert.AdamConvWIdeal.main_arg1)) (m ((c.tc : Thread _ _).loc Cert.AdamConvWIdeal.main_arg3)), ?_, ?_⟩
  · exact (θ_run Cert.AdamConvWIdeal.defs _ _).mono (fun r h c => ⟨(h c).1.trans (Cert.AdamConvWIdeal.Update.delta m c), (h c).2.1.trans (Cert.AdamConvWIdeal.Update.mean m c), (h c).2.2.1.trans (Cert.AdamConvWIdeal.Update.square m c), (h c).2.2.2⟩)
      (Cert.AdamConvWIdeal.Value.run_blocks (F := Ideal) m ρ)
  · refine (θ_run Cert.AdamConvWRefIdeal.defs _ _).mono (fun r h c => ⟨(h c).1.trans ?_, (h c).2.1.trans ?_, (h c).2.2.1.trans ?_, (h c).2.2.2⟩)
      (Cert.AdamConvWRefIdeal.Value.run (F := Ideal) m' ρ')
    · rw [Cert.AdamConvWRefIdeal.Read.val_main_v24_eq, (hagree c).1, (hagree c).2.1, (hagree c).2.2.1, (hagree c).2.2.2]
    · rw [Cert.AdamConvWRefIdeal.Read.val_main_v25_eq, (hagree c).2.1, (hagree c).2.2.1]
    · rw [Cert.AdamConvWRefIdeal.Read.val_main_v26_eq, (hagree c).2.1, (hagree c).2.2.2]

/-- The reference keeps its arguments; it has no semaphore. -/
theorem adamConvW_reference_frame : Cert.quiescent_AdamConvWRefIdeal := fun m ρ _ =>
  (θ_run Cert.AdamConvWRefIdeal.defs _ _).mono (fun r h => ⟨fun c => (h c).2.2.2, sem_eq_zero_of_no_sems (by decide) r.2⟩)
    (Cert.AdamConvWRefIdeal.Value.run (F := Ideal) m ρ)

/-- Kernel and reference leave the same: the update of the bias of the depthwise convolution. -/
theorem adamConvB_same : Cert.algebraic_AdamConvBIdeal_AdamConvBRefIdeal := by
  intro m ρ m' ρ' _ hagree
  refine ⟨fun c => Cert.AdamConvBRefIdeal.Read.val_main_v23 (F := Ideal) (m ((c.tc : Thread _ _).loc Cert.AdamConvBIdeal.main_arg0)) (m ((c.tc : Thread _ _).loc Cert.AdamConvBIdeal.main_arg1)) (m ((c.tc : Thread _ _).loc Cert.AdamConvBIdeal.main_arg2)) (m ((c.tc : Thread _ _).loc Cert.AdamConvBIdeal.main_arg3)),
    fun c => Cert.AdamConvBRefIdeal.Read.val_main_v4 (F := Ideal) (m ((c.tc : Thread _ _).loc Cert.AdamConvBIdeal.main_arg1)) (m ((c.tc : Thread _ _).loc Cert.AdamConvBIdeal.main_arg2)),
    fun c => Cert.AdamConvBRefIdeal.Read.val_main_v10 (F := Ideal) (m ((c.tc : Thread _ _).loc Cert.AdamConvBIdeal.main_arg1)) (m ((c.tc : Thread _ _).loc Cert.AdamConvBIdeal.main_arg3)), ?_, ?_⟩
  · exact (θ_run Cert.AdamConvBIdeal.defs _ _).mono (fun r h c => ⟨(h c).1.trans (Cert.AdamConvBIdeal.Update.delta m c), (h c).2.1.trans (Cert.AdamConvBIdeal.Update.mean m c), (h c).2.2.1.trans (Cert.AdamConvBIdeal.Update.square m c), (h c).2.2.2⟩)
      (Cert.AdamConvBIdeal.Value.run_blocks (F := Ideal) m ρ)
  · refine (θ_run Cert.AdamConvBRefIdeal.defs _ _).mono (fun r h c => ⟨(h c).1.trans ?_, (h c).2.1.trans ?_, (h c).2.2.1.trans ?_, (h c).2.2.2⟩)
      (Cert.AdamConvBRefIdeal.Value.run (F := Ideal) m' ρ')
    · rw [Cert.AdamConvBRefIdeal.Read.val_main_v23_eq, (hagree c).1, (hagree c).2.1, (hagree c).2.2.1, (hagree c).2.2.2]
    · rw [Cert.AdamConvBRefIdeal.Read.val_main_v4_eq, (hagree c).2.1, (hagree c).2.2.1]
    · rw [Cert.AdamConvBRefIdeal.Read.val_main_v10_eq, (hagree c).2.1, (hagree c).2.2.2]

/-- The reference keeps its arguments; it has no semaphore. -/
theorem adamConvB_reference_frame : Cert.quiescent_AdamConvBRefIdeal := fun m ρ _ =>
  (θ_run Cert.AdamConvBRefIdeal.defs _ _).mono (fun r h => ⟨fun c => (h c).2.2.2, sem_eq_zero_of_no_sems (by decide) r.2⟩)
    (Cert.AdamConvBRefIdeal.Value.run (F := Ideal) m ρ)

/-- Kernel and reference leave the same: the update of the weights of the feed-forward part's second product. -/
theorem adamDown_same : Cert.algebraic_AdamDownIdeal_AdamDownRefIdeal := by
  intro m ρ m' ρ' _ hagree
  refine ⟨fun c => Cert.AdamDownRefIdeal.Read.val_main_v24 (F := Ideal) (m ((c.tc : Thread _ _).loc Cert.AdamDownIdeal.main_arg0)) (m ((c.tc : Thread _ _).loc Cert.AdamDownIdeal.main_arg1)) (m ((c.tc : Thread _ _).loc Cert.AdamDownIdeal.main_arg2)) (m ((c.tc : Thread _ _).loc Cert.AdamDownIdeal.main_arg3)),
    fun c => Cert.AdamDownRefIdeal.Read.val_main_v25 (F := Ideal) (m ((c.tc : Thread _ _).loc Cert.AdamDownIdeal.main_arg1)) (m ((c.tc : Thread _ _).loc Cert.AdamDownIdeal.main_arg2)),
    fun c => Cert.AdamDownRefIdeal.Read.val_main_v26 (F := Ideal) (m ((c.tc : Thread _ _).loc Cert.AdamDownIdeal.main_arg1)) (m ((c.tc : Thread _ _).loc Cert.AdamDownIdeal.main_arg3)), ?_, ?_⟩
  · exact (θ_run Cert.AdamDownIdeal.defs _ _).mono (fun r h c => ⟨(h c).1.trans (Cert.AdamDownIdeal.Update.delta m c), (h c).2.1.trans (Cert.AdamDownIdeal.Update.mean m c), (h c).2.2.1.trans (Cert.AdamDownIdeal.Update.square m c), (h c).2.2.2⟩)
      (Cert.AdamDownIdeal.Value.run_blocks (F := Ideal) m ρ)
  · refine (θ_run Cert.AdamDownRefIdeal.defs _ _).mono (fun r h c => ⟨(h c).1.trans ?_, (h c).2.1.trans ?_, (h c).2.2.1.trans ?_, (h c).2.2.2⟩)
      (Cert.AdamDownRefIdeal.Value.run (F := Ideal) m' ρ')
    · rw [Cert.AdamDownRefIdeal.Read.val_main_v24_eq, (hagree c).1, (hagree c).2.1, (hagree c).2.2.1, (hagree c).2.2.2]
    · rw [Cert.AdamDownRefIdeal.Read.val_main_v25_eq, (hagree c).2.1, (hagree c).2.2.1]
    · rw [Cert.AdamDownRefIdeal.Read.val_main_v26_eq, (hagree c).2.1, (hagree c).2.2.2]

/-- The reference keeps its arguments; it has no semaphore. -/
theorem adamDown_reference_frame : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

end Cert.Proof

end
-- ==== Proof.Column.lean ====
module

public import Idealize.ShloMosaic.Lib.Pointwise
public import Idealize.ShloMosaic.Lib.IdealHost

/-!
# One column of the gated causal convolution and of its gradient

Every column of the arrays is treated alike, so the mathematics is stated for one column: sequences of extended reals
over the row number, the three weights and the bias of that column being scalars.
-/

@[expose] public section

noncomputable section

namespace Cert.GatedConv

open Idealize.ShloMosaic

/-- The sequence `g` delayed by `s` rows: zero in the first `s` rows. -/
def delay (s : ℕ) (g : ℕ → EReal) (r : ℕ) : EReal := if r < s then 0 else g (r - s)

/-- One column's data: the gate's sequence `g`, the other branch `u`, the incoming gradient `a`, the weights of the
    present row (`w2`), of the row before (`w1`) and of the one before that (`w0`), and the bias. -/
structure Col where
  g : ℕ → EReal
  u : ℕ → EReal
  a : ℕ → EReal
  w0 : EReal
  w1 : EReal
  w2 : EReal
  b : EReal

/-- One half, as the program's constant reads. -/
def half : EReal := Ideal.ofBits .f32 0x3F000000#32

/-- The sigmoid as the program computes it, from the hyperbolic tangent. -/
def sig (x : EReal) : EReal := half * Ideal.tanh (half * x) + half

namespace Col

variable (K : Col)

/-- The convolution's value in row `r`: three rows' gates weighted, and the bias. -/
def conv (r : ℕ) : EReal := K.w0 * delay 2 K.g r + K.w1 * delay 1 K.g r + K.w2 * K.g r + K.b

/-- The gradient with respect to the convolution's value in row `r`; zero after the last row. -/
def dconv (r : ℕ) : EReal :=
  if r < 4096 then
    K.a r * K.u r * (sig (K.conv r) * (1 + K.conv r * (1 - sig (K.conv r))))
  else 0

/-- The gradient with respect to the gate in row `r`: the rows `r`, `r + 1`, `r + 2` read it. -/
def dgate (r : ℕ) : EReal := K.w2 * K.dconv r + K.w1 * K.dconv (r + 1) + K.w0 * K.dconv (r + 2)

/-- The gradient with respect to the other branch in row `r`. -/
def dup (r : ℕ) : EReal := K.a r * K.conv r * sig (K.conv r)

/-- What row `r` adds to the gradient of the weight with delay `s`. -/
def dtap (s : ℕ) (r : ℕ) : EReal := K.dconv r * delay s K.g r

end Col

/-- A sequence of 4096 rows continued by zeros. -/
def rows (f : Fin 4096 → EReal) (r : ℕ) : EReal := if h : r < 4096 then f ⟨r, h⟩ else 0

theorem rows_val (f : Fin 4096 → EReal) (r : Fin 4096) : rows f r.val = f r := dif_pos r.isLt

theorem rows_of_lt (f : Fin 4096 → EReal) {r : ℕ} (h : r < 4096) : rows f r = f ⟨r, h⟩ := dif_pos h

section Arrays

variable {n : ℕ} (x0 : (⟨3, ![2, 4096, n]⟩ : Shape).Idx → EReal) (x1 : (⟨2, ![4096, n]⟩ : Shape).Idx → EReal)
  (x2 : (⟨2, ![3, n]⟩ : Shape).Idx → EReal) (x3 : (⟨2, ![1, n]⟩ : Shape).Idx → EReal)

/-- Column `l` of the arrays: gate and other branch stacked, the incoming gradient, the weights, the bias. -/
def col (l : Fin n) : Col where
  g := rows fun r => x0 (ix3 0 r l)
  u := rows fun r => x0 (ix3 1 r l)
  a := rows fun r => x1 (ix2 r l)
  w0 := x2 (ix2 0 l)
  w1 := x2 (ix2 1 l)
  w2 := x2 (ix2 2 l)
  b := x3 (ix2 0 l)

theorem col_g (l : Fin n) {r : ℕ} (h : r < 4096) : (col x0 x1 x2 x3 l).g r = x0 (ix3 0 ⟨r, h⟩ l) :=
  rows_of_lt (fun r => x0 (ix3 0 r l)) h

theorem col_u (l : Fin n) {r : ℕ} (h : r < 4096) : (col x0 x1 x2 x3 l).u r = x0 (ix3 1 ⟨r, h⟩ l) :=
  rows_of_lt (fun r => x0 (ix3 1 r l)) h

theorem col_a (l : Fin n) {r : ℕ} (h : r < 4096) : (col x0 x1 x2 x3 l).a r = x1 (ix2 ⟨r, h⟩ l) :=
  rows_of_lt (fun r => x1 (ix2 r l)) h

/-- The gradients of the gate (first plane) and of the other branch (second plane). -/
def gradBranches (j : (⟨3, ![2, 4096, n]⟩ : Shape).Idx) : EReal :=
  if (j 0).val = 0 then (col x0 x1 x2 x3 (j 2)).dgate (j 1).val else (col x0 x1 x2 x3 (j 2)).dup (j 1).val

/-- The gradients of the three weights: row `t` holds the weight with delay `2 - t`. -/
def gradWeights (j : (⟨2, ![3, n]⟩ : Shape).Idx) : EReal :=
  ∑ r : Fin 4096, (col x0 x1 x2 x3 (j 1)).dtap (2 - (j 0).val) r.val

/-- The gradient of the bias. -/
def gradBias (j : (⟨2, ![1, n]⟩ : Shape).Idx) : EReal :=
  ∑ r : Fin 4096, (col x0 x1 x2 x3 (j 1)).dconv r.val

end Arrays

theorem delay_zero (g : ℕ → EReal) (r : ℕ) : delay 0 g r = g r := by simp [delay]

/-- A sum over 4096 rows, taken as 32 chunks from the last to the first, each of 16 groups of 8 rows. -/
theorem sum_chunks (f : ℕ → EReal) :
    ∑ s : Fin 8, ∑ q ∈ Finset.range 32, ∑ a : Fin 16, f (3968 - 128 * q + (a.val * 8 + s.val))
      = ∑ r : Fin 4096, f r.val := by
  have h1 : ∀ q : ℕ, ∑ s : Fin 8, ∑ a : Fin 16, f (q * 128 + (a.val * 8 + s.val))
      = ∑ j ∈ Finset.range 128, f (q * 128 + j) := by
    intro q
    rw [Finset.sum_comm, ← Fin.sum_univ_eq_sum_range (fun j => f (q * 128 + j)) 128]
    have := (finProdFinEquiv (m := 16) (n := 8)).sum_comp (fun j : Fin (16 * 8) => f (q * 128 + j.val))
    rw [show (∑ j : Fin 128, f (q * 128 + j.val)) = ∑ j : Fin (16 * 8), f (q * 128 + j.val) from rfl, ← this,
      Fintype.sum_prod_type]
    refine Finset.sum_congr rfl fun a _ => Finset.sum_congr rfl fun s _ => ?_
    simp only [finProdFinEquiv_apply_val]
    congr 1
    omega
  have h2 : ∀ n : ℕ, ∑ r ∈ Finset.range (n * 128), f r = ∑ q ∈ Finset.range n, ∑ j ∈ Finset.range 128, f (q * 128 + j) := by
    intro n
    induction n with
    | zero => simp
    | succ n ih => rw [Finset.sum_range_succ, ← ih, Nat.succ_mul, Finset.sum_range_add]
  rw [Finset.sum_comm, Fin.sum_univ_eq_sum_range (fun r => f r) 4096, show (4096 : ℕ) = 32 * 128 from rfl, h2 32,
    ← Finset.sum_range_reflect]
  refine Finset.sum_congr rfl fun q hq => ?_
  have hq' : q < 32 := Finset.mem_range.mp hq
  rw [← h1]
  refine Finset.sum_congr rfl fun s _ => Finset.sum_congr rfl fun a _ => ?_
  congr 1
  omega

end Cert.GatedConv

end
-- ==== Proof.Sigmoid.lean ====
module

public import proofs.«01_k».proof.Proof.Column

/-!
# The sigmoid, in two spellings

`1 / (1 + exp (-x))` against `tanh (x / 2) / 2 + 1 / 2`, and the derivative of `x * sigmoid x` in two spellings.
-/

@[expose] public section

noncomputable section

namespace Cert.GatedConv

open Idealize.ShloMosaic

/-- The program's constant is one half. -/
theorem half_eq : half = ((1 / 2 : ℝ) : EReal) := by
  unfold half
  simp [Ideal.ofBits, Ideal.ieee, -EReal.coe_mul]
  norm_num

/-- Both spellings of the sigmoid agree, also at the infinities. -/
theorem sig_eq (x : EReal) : sig x = Ideal.logistic x := by
  unfold sig
  rw [half_eq]
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe x =>
    rw [← EReal.coe_mul, Ideal.tanh_coe, ← EReal.coe_mul, ← EReal.coe_add, Ideal.logistic_coe]
    congr 1
    rw [Real.tanh_eq_sinh_div_cosh, Real.sinh_eq, Real.cosh_eq]
    have h1 : Real.exp (-x) = Real.exp (-(1 / 2 * x)) * Real.exp (-(1 / 2 * x)) := by rw [← Real.exp_add]; congr 1; ring
    have h2 : Real.exp (1 / 2 * x) * Real.exp (-(1 / 2 * x)) = 1 := by rw [← Real.exp_add]; simp
    rw [h1]
    have p1 := Real.exp_pos (1 / 2 * x)
    have p2 := Real.exp_pos (-(1 / 2 * x))
    generalize Real.exp (1 / 2 * x) = p at *
    generalize Real.exp (-(1 / 2 * x)) = q at *
    field_simp
    nlinarith [h2]

/-- The derivative of `x * sigmoid x` times a real number, summed in two ways. -/
theorem silu_grad (a x : EReal) (ha : ∃ r : ℝ, a = r) :
    a * Ideal.logistic x + x * a * (Ideal.logistic x * (1 - Ideal.logistic x))
      = a * (sig x * (1 + x * (1 - sig x))) := by
  obtain ⟨a, rfl⟩ := ha
  rw [sig_eq]
  induction x with
  | bot => simp
  | top =>
    rw [Ideal.logistic_top, show (1 : EReal) - 1 = 0 by rw [← EReal.coe_one, ← EReal.coe_sub, sub_self, EReal.coe_zero]]
    simp
  | coe x =>
    rw [Ideal.logistic_coe]
    simp only [← EReal.coe_one, ← EReal.coe_mul, ← EReal.coe_add, ← EReal.coe_sub]
    congr 1
    ring

end Cert.GatedConv

end
-- ==== Proof.GluBwdValue.lean ====
/-
The gradient of the gated unit.
-/
module

public import Idealize.ShloMosaic.Lib.Pipeline.ValueKit
public import proofs.«01_k».proof.Proof.Sigmoid
public import proofs.«01_k».proof.Proof.Gen.GluBwdIdeal.Value
public import proofs.«01_k».proof.Proof.Gen.GluBwdRefIdeal.Run
public import proofs.«01_k».proof.Proof.Gen.GluBwdRefIdeal.Read

@[expose] public section

set_option maxRecDepth 16384

noncomputable section

namespace Cert.GluBwdIdeal.Rows

open Idealize.ShloMosaic Idealize.ShloMosaic.TcCoe Idealize.SL.Sem
open Cert.GluBwdIdeal Cert.GluBwdIdeal.Gen
open Cert.GluBwdRefIdeal.Read

variable (m : (ℓ : Loc nD τ sig) → Buf (Elt Ideal) ℓ)

open Cert.GatedConv

/-- The blocks a grid point reads and writes. -/
theorem windows_at : ∀ t : Fin cfg0.N, win0_0.index t = ![t.val, 0] ∧ win0_1.index t = ![t.val, 0] ∧ win0_2.index t = ![t.val, 0] :=
  (by decide +kernel : ∀ t : Fin grid0.N, _)

/-- The gradient of the left half. -/
theorem left_at (b d : Vec Ideal S512x1024 .f32) (j : S512x1024.Idx) : k0_pay2 b d j = d j * Ideal.logistic (b j) := by
  rw [← sig_eq]
  pointwise [k0_pay1, k0_pay2]
  rfl

/-- The gradient of the right half. -/
theorem right_at (b d a : Vec Ideal S512x1024 .f32) (j : S512x1024.Idx) :
    k0_pay3 b d a j = a j * d j * (Ideal.logistic (b j) * (1 - Ideal.logistic (b j))) := by
  rw [← sig_eq, ← mul_assoc, mul_comm (a j)]
  pointwise [k0_pay1, k0_pay3]
  rfl

/-- The left half of the reference's result. -/
theorem ref_left (x0 : (⟨S4096x2048, .f32⟩ : BufTy).Contents (Elt Ideal)) (x1 : (⟨S4096x1024, .f32⟩ : BufTy).Contents (Elt Ideal))
    (r : Fin 4096) (k : Fin 1024) : val_main_v18 (F := Ideal) x0 x1 (ix2 r ⟨k.val, by omega⟩)
      = x1 (ix2 r k) * Ideal.logistic (x0 (ix2 r ⟨1024 + k.val, by omega⟩)) := by
  have hk := k.isLt
  pointwise [val_main_v0, val_main_v1, val_main_v2, val_main_v3, val_main_cst, val_main_v4, val_main_v5, val_main_cst_0, val_main_v6, val_main_v7, val_main_cst_1, val_main_v8, val_main_v9, val_main_v10, val_main_v12, val_main_v13, val_main_v14, val_main_cst_2, val_main_v15, val_main_cst_3, val_main_v16, val_main_v17, val_main_v18]
  rw [dif_neg (fun h => h.1), zero_add]
  rfl

/-- The right half of the reference's result. -/
theorem ref_right (x0 : (⟨S4096x2048, .f32⟩ : BufTy).Contents (Elt Ideal)) (x1 : (⟨S4096x1024, .f32⟩ : BufTy).Contents (Elt Ideal))
    (r : Fin 4096) (k : Fin 1024) : val_main_v18 (F := Ideal) x0 x1 (ix2 r ⟨1024 + k.val, by omega⟩)
      = x0 (ix2 r ⟨k.val, by omega⟩) * x1 (ix2 r k)
        * (Ideal.logistic (x0 (ix2 r ⟨1024 + k.val, by omega⟩)) * (1 - Ideal.logistic (x0 (ix2 r ⟨1024 + k.val, by omega⟩)))) := by
  have hk := k.isLt
  pointwise [val_main_v0, val_main_v1, val_main_v2, val_main_v3, val_main_cst, val_main_v4, val_main_v5, val_main_cst_0, val_main_v6, val_main_v7, val_main_cst_1, val_main_v8, val_main_v9, val_main_v10, val_main_v12, val_main_v13, val_main_v14, val_main_cst_2, val_main_v15, val_main_cst_3, val_main_v16, val_main_v17, val_main_v18]
  rfl

/-- The rows of a point's blocks are rows of the arrays. -/
theorem row_lt (t : Fin cfg0.N) (r : Fin 512) : 512 * t.val + r.val < 4096 := by
  have h := lt_of_lt_of_eq t.isLt N_0
  have := r.isLt
  omega

/-- The kernel's result array is the reference's. -/
theorem gated_grad (c : Dev nD) : (dats (F := Ideal) m 0 c).arrAt 2 cfg0.N
    = val_main_v18 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := windows_at t
  blk_simp
  rw [after0_2]
  unfold out0_2
  refine View.canon_apply_of_pieces (fun z => val_main_v18 (F := Ideal) (m ((c : Thread nD τ).loc main_arg0))
    (m ((c : Thread nD τ).loc main_arg1)) ((win0_2.blk t).view.emb z)) _ (fun p hp x => ?_) y (cover0_2 _ _ y)
  rcases List.mem_cons.mp hp with rfl | hp
  · have e : (win0_2.blk t).view.emb (r0_0.emb x) = ix2 ⟨512 * t.val + (x 0).val, row_lt t (x 0)⟩ ⟨1024 + (x 1).val, by have h : (x 1).val < 1024 := (x 1).isLt; omega⟩ := by
      blk_ext [e2]
    refine Eq.trans ?_ ((congrArg _ e).trans (ref_right _ _ _ (x 1))).symm
    refine (right_at _ _ _ x).trans ?_
    blk_point [iblk, V, e0, e1]
  · obtain rfl := List.mem_singleton.mp hp
    have e : (win0_2.blk t).view.emb (r0_2.emb x) = ix2 ⟨512 * t.val + (x 0).val, row_lt t (x 0)⟩ ⟨(x 1).val, by have h : (x 1).val < 1024 := (x 1).isLt; omega⟩ := by
      blk_ext [e2]
    refine Eq.trans ?_ ((congrArg _ e).trans (ref_left _ _ _ (x 1))).symm
    refine (left_at _ _ x).trans ?_
    blk_point [iblk, V, e0, e1]

end Cert.GluBwdIdeal.Rows

end
-- ==== Proof.GluFwdValue.lean ====
/-
The gated unit: the left half of each row times the sigmoid of its right half.
-/
module

public import Idealize.ShloMosaic.Lib.Pipeline.ValueKit
public import proofs.«01_k».proof.Proof.Sigmoid
public import proofs.«01_k».proof.Proof.Gen.GluFwdIdeal.Value
public import proofs.«01_k».proof.Proof.Gen.GluFwdRefIdeal.Run
public import proofs.«01_k».proof.Proof.Gen.GluFwdRefIdeal.Read

@[expose] public section

set_option maxRecDepth 16384

noncomputable section

namespace Cert.GluFwdIdeal.Rows

open Idealize.ShloMosaic Idealize.ShloMosaic.TcCoe Idealize.SL.Sem
open Cert.GluFwdIdeal Cert.GluFwdIdeal.Gen
open Cert.GluFwdRefIdeal.Read

variable (m : (ℓ : Loc nD τ sig) → Buf (Elt Ideal) ℓ)

open Cert.GatedConv

/-- The blocks a grid point reads and writes. -/
theorem windows_at : ∀ t : Fin cfg0.N, win0_0.index t = ![t.val, 0] ∧ win0_1.index t = ![t.val, 0] :=
  (by decide +kernel : ∀ t : Fin grid0.N, _)

/-- The kernel's gate, its sigmoid spelled by the logistic function. -/
theorem pay_at (a b : Vec Ideal S512x1024 .f32) (j : S512x1024.Idx) : k0_pay1 a b j = a j * Ideal.logistic (b j) := by
  rw [← sig_eq]
  pointwise [k0_pay1]
  rfl

/-- The kernel's result array is the reference's. -/
theorem gated (c : Dev nD) : (dats (F := Ideal) m 0 c).arrAt 1 cfg0.N
    = val_main_v8 (F := Ideal) (m ((c : Thread nD τ).loc main_arg0)) := by
  refine (dats m 0 c).arrAt_eq_of_covers 1 _ (by decide +kernel) fun t hf y => ?_
  obtain ⟨e0, e1⟩ := windows_at t
  blk_simp
  rw [after0_1]
  frame_out
  rw [pay_at]
  pointwise [val_main_v0, val_main_v1, val_main_v2, val_main_v3, val_main_cst, val_main_v4, val_main_v5, val_main_cst_0, val_main_v6, val_main_v7, val_main_v8]
  unfold Ideal.logistic
  blk_point [iblk, V, e0, e1]

end Cert.GluFwdIdeal.Rows

end
-- ==== Proof.NormFirstValue.lean ====
/-
The root mean square norm of the residual stream's rows.
-/
module

public import Idealize.ShloMosaic.Lib.Pipeline.ValueKit
public import proofs.«01_k».proof.Proof.Gen.NormFirstIdeal.Value
public import proofs.«01_k».proof.Proof.Gen.NormFirstRefIdeal.Run
public import proofs.«01_k».proof.Proof.Gen.NormFirstRefIdeal.Read

@[expose] public section

set_option maxRecDepth 16384

noncomputable section

namespace Cert.NormFirstIdeal.Rows

open Idealize.ShloMosaic Idealize.ShloMosaic.TcCoe Idealize.SL.Sem
open Cert.NormFirstIdeal Cert.NormFirstIdeal.Gen
open Cert.NormFirstRefIdeal.Read

variable (m : (ℓ : Loc nD τ sig) → Buf (Elt Ideal) ℓ)

/-- The blocks a grid point reads and writes. -/
theorem windows_at : ∀ t : Fin cfg0.N, win0_0.index t = ![t.val, 0] ∧ win0_1.index t = ![0, 0] ∧ win0_2.index t = ![t.val, 0] :=
  (by decide +kernel : ∀ t : Fin grid0.N, _)

/-- The kernel's result array is the reference's. -/
theorem normed (c : Dev nD) : (dats (F := Ideal) m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := windows_at t
  blk_simp
  rw [after0_2]
  frame_out
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, e0, e1, e2]

end Cert.NormFirstIdeal.Rows

end
-- ==== Proof.NormAddValue.lean ====
/-
The residual stream's next value and the root mean square norm of its rows.
-/
module

public import Idealize.ShloMosaic.Lib.Pipeline.ValueKit
public import proofs.«01_k».proof.Proof.Gen.NormAddIdeal.Value
public import proofs.«01_k».proof.Proof.Gen.NormAddRefIdeal.Run
public import proofs.«01_k».proof.Proof.Gen.NormAddRefIdeal.Read

@[expose] public section

set_option maxRecDepth 16384

noncomputable section

namespace Cert.NormAddIdeal.Rows

open Idealize.ShloMosaic Idealize.ShloMosaic.TcCoe Idealize.SL.Sem
open Cert.NormAddIdeal Cert.NormAddIdeal.Gen
open Cert.NormAddRefIdeal.Read

variable (m : (ℓ : Loc nD τ sig) → Buf (Elt Ideal) ℓ)

/-- The blocks a grid point reads and writes. -/
theorem windows_at : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

/-- The kernel's sum is the reference's. -/
theorem stream (c : Dev nD) : (dats (F := Ideal) m 0 c).arrAt 3 cfg0.N
    = val_main_v0 (F := Ideal) (m ((c : Thread nD τ).loc main_arg0)) (m ((c : Thread nD τ).loc main_arg1)) := by
  refine (dats m 0 c).arrAt_eq_of_covers 3 _ (by decide +kernel) fun t hf y => ?_
  obtain ⟨e0, e1, e2, e3, e4⟩ := windows_at t
  blk_simp
  rw [after0_3]
  frame_out
  pointwise [k0_pay1, k0_pay2, val_main_v0]
  blk_point [iblk, V, e0, e1, e2, e3, e4]

/-- The kernel's normed rows are the reference's. -/
theorem normed (c : Dev nD) : (dats (F := Ideal) m 0 c).arrAt 4 cfg0.N
    = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4⟩ := windows_at t
  blk_simp
  rw [after0_4]
  frame_out
  pointwise [k0_pay1, k0_pay2, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15]
  blk_point [iblk, V, e0, e1, e2, e3, e4]

end Cert.NormAddIdeal.Rows

end
-- ==== Proof.NormTwoValue.lean ====
/-
The residual stream's next value and the root mean square norm of its rows under two gains.
-/
module

public import Idealize.ShloMosaic.Lib.Pipeline.ValueKit
public import proofs.«01_k».proof.Proof.Gen.NormTwoIdeal.Value
public import proofs.«01_k».proof.Proof.Gen.NormTwoRefIdeal.Run
public import proofs.«01_k».proof.Proof.Gen.NormTwoRefIdeal.Read

@[expose] public section

set_option maxRecDepth 16384

noncomputable section

namespace Cert.NormTwoIdeal.Rows

open Idealize.ShloMosaic Idealize.ShloMosaic.TcCoe Idealize.SL.Sem
open Cert.NormTwoIdeal Cert.NormTwoIdeal.Gen
open Cert.NormTwoRefIdeal.Read

variable (m : (ℓ : Loc nD τ sig) → Buf (Elt Ideal) ℓ)

/-- The blocks a grid point reads and writes. -/
theorem windows_at : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, _)

/-- The kernel's sum is the reference's. -/
theorem stream (c : Dev nD) : (dats (F := Ideal) m 0 c).arrAt 4 cfg0.N
    = val_main_v0 (F := Ideal) (m ((c : Thread nD τ).loc main_arg0)) (m ((c : Thread nD τ).loc main_arg1)) := by
  refine (dats m 0 c).arrAt_eq_of_covers 4 _ (by decide +kernel) fun t hf y => ?_
  obtain ⟨e0, e1, e2, e3, e4, e5, e6⟩ := windows_at t
  blk_simp
  rw [after0_4]
  frame_out
  pointwise [k0_pay1, k0_pay2, k0_pay3, k0_pay4, val_main_v0]
  blk_point [iblk, V, e0, e1, e2, e3, e4, e5, e6]

/-- The rows normed under the first gain are the reference's. -/
theorem normed (c : Dev nD) : (dats (F := Ideal) m 0 c).arrAt 5 cfg0.N
    = val_main_v15 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := windows_at t
  blk_simp
  rw [after0_5]
  frame_out
  pointwise [k0_pay1, k0_pay2, k0_pay3, k0_pay4, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15]
  blk_point [iblk, V, e0, e1, e2, e3, e4, e5, e6]

/-- The rows normed under the second gain are the reference's. -/
theorem normed_other (c : Dev nD) : (dats (F := Ideal) m 0 c).arrAt 6 cfg0.N
    = val_main_v30 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  frame_out
  pointwise [k0_pay1, k0_pay2, k0_pay3, k0_pay4, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30]
  blk_point [iblk, V, e0, e1, e2, e3, e4, e5, e6]

end Cert.NormTwoIdeal.Rows

end
-- ==== Proof.NormGrad.lean ====
module

public import Idealize.ShloMosaic.Lib.Pipeline.ValueKit

/-!
# The gradient of a root mean square norm, in two spellings

A row `x` is divided by the root `1 / r` of its mean square `μ` (plus a small constant). The chain rule taken operation by
operation passes through the mean square's own gradient, `-r / (2 μ)`; collected by hand it subtracts from each entry of the
cotangent the normed row times a mean. Both agree for extended reals: where the mean square is infinite `r` is zero, elsewhere the
row consists of real numbers and `r` is a positive real number, which may be taken out of any sum.
-/

@[expose] public section

noncomputable section

namespace Cert.NormGrad

open Idealize.ShloMosaic

/-- A nonnegative real number may be taken out of a sum. -/
theorem mul_sum {ι : Type*} (s : Finset ι) {r : ℝ} (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A square is not negative. -/
theorem sq_nonneg (x : EReal) : 0 ≤ x * x := by
  induction x with
  | bot => simp
  | top => simp
  | coe x => exact_mod_cast mul_self_nonneg x

/-- A number whose square is not infinite is real. -/
theorem real_of_sq {x : EReal} (h : x * x ≠ ⊤) : ∃ r : ℝ, x = r := by
  induction x with
  | bot => simp at h
  | top => simp at h
  | coe x => exact ⟨x, rfl⟩

/-- Twice a half. -/
theorem halves (a : ℝ) (s : EReal) : ((-(1 / 2) * a : ℝ) : EReal) * s + ((-(1 / 2) * a : ℝ) : EReal) * s = -((a : EReal) * s) := by
  have h2 : ∀ z : EReal, z + z = ((2 : ℝ) : EReal) * z := fun z => by
    induction z with
    | bot => rw [EReal.coe_mul_bot_of_pos (by norm_num)]; rfl
    | top => rw [EReal.coe_mul_top_of_pos (by norm_num)]; rfl
    | coe z => rw [← EReal.coe_add, ← EReal.coe_mul]; congr 1; ring
  rw [h2, ← mul_assoc, ← EReal.coe_mul, ← neg_mul, ← EReal.coe_neg]
  congr 2
  ring

variable {n : ℕ}

/-- The mean square of a row plus a small constant. -/
def mean (c e : EReal) (x : Fin n → EReal) : EReal := Ideal.div (∑ k, x k * x k) c + e

/-- The mean square is infinite, or it is a positive real number and the row consists of real numbers. -/
theorem mean_cases {C E : ℝ} (hC : 0 < C) (hE : 0 < E) (x : Fin n → EReal) :
    mean C E x = ⊤ ∨ (∃ μ : ℝ, 0 < μ ∧ mean C E x = μ) ∧ ∀ k, ∃ r : ℝ, x k = r := by
  have h0 : (0 : EReal) ≤ ∑ k, x k * x k := Finset.sum_nonneg fun k _ => sq_nonneg (x k)
  have hle : ∀ k, x k * x k ≤ ∑ k, x k * x k := fun k =>
    Finset.single_le_sum (f := fun k => x k * x k) (fun k _ => sq_nonneg (x k)) (Finset.mem_univ k)
  unfold mean
  rw [Ideal.div_coe hC.ne']
  generalize (∑ k, x k * x k) = s at h0 hle
  induction s with
  | bot => simp at h0
  | top =>
    left
    rw [EReal.top_mul_coe_of_pos (by positivity), EReal.top_add_coe]
  | coe s =>
    right
    have hs : 0 ≤ s := by exact_mod_cast h0
    refine ⟨⟨s * (1 / C) + E, by positivity, by rw [← EReal.coe_mul, ← EReal.coe_add]⟩, fun k => real_of_sq fun h => ?_⟩
    have := hle k
    rw [h] at this
    exact absurd (top_le_iff.mp this) (EReal.coe_ne_top s)

/-- The length of a row, as the programs' constant reads. -/
def width : EReal := Ideal.ofBits .f32 0x44800000#32

/-- The small constant added to a mean square. -/
def eps : EReal := Ideal.ofBits .f32 0x358637BD#32

/-- Minus one half, as the reference's constant reads. -/
def minusHalf : EReal := Ideal.ofBits .f32 0xBF000000#32

/-- A row has `1024` entries. -/
theorem width_eq : width = ((1024 : ℝ) : EReal) := by
  unfold width
  simp [Ideal.ofBits, Ideal.ieee, -EReal.coe_mul]
  norm_num

/-- The small constant is a positive real. -/
theorem eps_eq : ∃ E : ℝ, 0 < E ∧ eps = (E : EReal) := by
  refine ⟨8796093 / 2 ^ 43, by positivity, ?_⟩
  unfold eps
  simp [Ideal.ofBits, Ideal.ieee, -EReal.coe_mul]
  norm_num

/-- The constant is minus one half. -/
theorem minusHalf_eq : minusHalf = ((-(1 / 2) : ℝ) : EReal) := by
  unfold minusHalf
  simp [Ideal.ofBits, Ideal.ieee, -EReal.coe_mul]
  norm_num

/-- The reciprocal root of a row's mean square. -/
def scale (x : Fin n → EReal) : EReal := Ideal.rsqrt (mean width eps x)

/-- What the norm adds to the cotangent of an entry `a` of the row `x`, collected by hand; `b g` is the cotangent times the gain at
that entry, `y` and `h` are the row's cotangent and gain. -/
def collected (a b g : EReal) (x y h : Fin n → EReal) : EReal :=
  scale x * (b * g - a * scale x * Ideal.div (∑ k, y k * h k * (x k * scale x)) width)

/-- The factor by which the mean square's gradient weighs an entry. -/
def weight (x y h : Fin n → EReal) : EReal :=
  Ideal.div ((∑ k, x k * (y k * h k)) * (minusHalf * Ideal.div (scale x) (mean width eps x))) width

/-- The same by the chain rule, operation by operation, on top of `d`. -/
def chained (d a b g : EReal) (x y h : Fin n → EReal) : EReal :=
  d + b * g * scale x + a * weight x y h + weight x y h * a

/-- Both spellings agree. -/
theorem chained_eq (d a b g : EReal) (x y h : Fin n → EReal) (ha : ∃ j, a = x j) :
    chained d a b g x y h = d + collected a b g x y h := by
  obtain ⟨E, hE, he⟩ := eps_eq
  have hC : (0 : ℝ) < 1024 := by norm_num
  obtain ⟨j, rfl⟩ := ha
  unfold chained collected weight scale
  rw [he, width_eq, minusHalf_eq]
  generalize b * g = v
  rcases mean_cases hC hE x with h' | ⟨⟨μ, hμ, h'⟩, hx⟩
  · rw [h', Ideal.rsqrt_top, Ideal.div_coe hC.ne', Ideal.div_coe hC.ne']
    simp [Ideal.div]
  · obtain ⟨ξ, hξ⟩ := hx j
    rw [h', hξ, Ideal.rsqrt_coe, if_neg hμ.not_gt, if_neg hμ.ne', Ideal.div_coe hC.ne', Ideal.div_coe hC.ne', Ideal.div_coe hμ.ne']
    have hρ : 0 < (Real.sqrt μ)⁻¹ := inv_pos.mpr (Real.sqrt_pos.mpr hμ)
    have hρμ : 1 / μ = (Real.sqrt μ)⁻¹ * (Real.sqrt μ)⁻¹ := by
      rw [← mul_inv, Real.mul_self_sqrt hμ.le, one_div]
    rw [hρμ]
    generalize (Real.sqrt μ)⁻¹ = ρ at hρ
    have hs : ∑ k, y k * h k * (x k * (ρ : EReal)) = (ρ : EReal) * ∑ k, x k * (y k * h k) := by
      rw [mul_sum _ hρ.le]
      exact Finset.sum_congr rfl fun k _ => by rw [mul_comm (y k * h k), mul_comm (x k) (ρ : EReal), mul_assoc]
    rw [hs]
    generalize (∑ k, x k * (y k * h k)) = s
    have e1 : (ξ : EReal) * (ρ : EReal) * ((ρ : EReal) * s * ((1 / 1024 : ℝ) : EReal)) = ((ξ * ρ * ρ * (1 / 1024) : ℝ) : EReal) * s := by
      rw [EReal.coe_mul, EReal.coe_mul, EReal.coe_mul]
      ac_rfl
    have e2 : (ξ : EReal) * (s * (((-(1 / 2) : ℝ) : EReal) * ((ρ : EReal) * ((ρ * ρ : ℝ) : EReal))) * ((1 / 1024 : ℝ) : EReal))
        = ((-(1 / 2) * (ρ * (ξ * ρ * ρ * (1 / 1024))) : ℝ) : EReal) * s := by
      simp only [EReal.coe_mul]
      ac_rfl
    have e3 : s * (((-(1 / 2) : ℝ) : EReal) * ((ρ : EReal) * ((ρ * ρ : ℝ) : EReal))) * ((1 / 1024 : ℝ) : EReal) * (ξ : EReal)
        = ((-(1 / 2) * (ρ * (ξ * ρ * ρ * (1 / 1024))) : ℝ) : EReal) * s := by
      rw [mul_comm, e2]
    rw [e1, e2, e3, add_assoc, halves, sub_eq_add_neg,
      EReal.left_distrib_of_nonneg_of_ne_top (by exact_mod_cast hρ.le) (EReal.coe_ne_top ρ), mul_comm v, ← add_assoc, mul_neg,
      EReal.coe_mul ρ (ξ * ρ * ρ * (1 / 1024)), mul_assoc (ρ : EReal)]

/-- Equal entries and rows give equal contributions. -/
theorem collected_congr {a b g a' b' g' : EReal} {x y h x' y' h' : Fin n → EReal} (ha : a = a') (hb : b = b') (hg : g = g')
    (hx : ∀ k, x k = x' k) (hy : ∀ k, y k = y' k) (hh : ∀ k, h k = h' k) :
    collected a b g x y h = collected a' b' g' x' y' h' := by
  rw [ha, hb, hg, funext hx, funext hy, funext hh]

/-- Equal rows have equal scales. -/
theorem scale_congr {x x' : Fin n → EReal} (hx : ∀ k, x k = x' k) : scale x = scale x' := by
  rw [funext hx]

end Cert.NormGrad

end
-- ==== Proof.NormFirstDxValue.lean ====
/-
The gradient of the root mean square norm of a block of rows, with respect to the rows and to the gain.
-/
module

public import Idealize.ShloMosaic.Lib.Pipeline.ValueKit
public import proofs.«01_k».proof.Proof.Mat
public import proofs.«01_k».proof.Proof.NormGrad
public import proofs.«01_k».proof.Proof.Gen.NormFirstDxIdeal.Value
public import proofs.«01_k».proof.Proof.Gen.NormFirstDxRefIdeal.Run
public import proofs.«01_k».proof.Proof.Gen.NormFirstDxRefIdeal.Read

@[expose] public section

set_option maxRecDepth 16384

noncomputable section

namespace Cert.NormFirstDxIdeal.Rows

open Idealize.ShloMosaic Idealize.ShloMosaic.TcCoe Idealize.SL.Sem
open Cert.NormFirstDxIdeal Cert.NormFirstDxIdeal.Gen
open Cert.NormFirstDxRefIdeal.Read

variable (m : (ℓ : Loc nD τ sig) → Buf (Elt Ideal) ℓ)

/-- The blocks a grid point reads and writes. -/
theorem windows_at : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, _)

/-- The gradient a point adds to its block of rows. -/
theorem pay_at (x d : Vec Ideal S512x1024 .f32) (g : Vec Ideal S1x1024 .f32) (y : Vec Ideal S512x1024 .f32) (j : S512x1024.Idx) :
    k0_pay5 x d g y j = d j + NormGrad.collected (x j) (y j) (g (ix2 0 (j 1))) (fun k : Fin 1024 => x (ix2 (j 0) k)) (fun k : Fin 1024 => y (ix2 (j 0) k)) (fun k : Fin 1024 => g (ix2 0 k)) := by
  pointwise [k0_pay1, k0_pay2, k0_pay3, k0_pay4, k0_pay5]
  rfl

/-- The reference's gradient of the rows, the mean square's gradient collected. -/
theorem ref_at (x d : Vec Ideal S4096x1024 .f32) (g : Vec Ideal S1024 .f32) (y : Vec Ideal S4096x1024 .f32) (i : S4096x1024.Idx) :
    val_main_v36 (F := Ideal) x d g y i = d i + NormGrad.collected (x i) (y i) (g (ix1 (i 1))) (fun k : Fin 1024 => x (ix2 (i 0) k)) (fun k : Fin 1024 => y (ix2 (i 0) k)) (fun k : Fin 1024 => g (ix1 k)) := by
  have h : val_main_v36 (F := Ideal) x d g y i = NormGrad.chained (d i) (x i) (y i) (g (ix1 (i 1))) (fun k : Fin 1024 => x (ix2 (i 0) k)) (fun k : Fin 1024 => y (ix2 (i 0) k)) (fun k : Fin 1024 => g (ix1 k)) := by
    pointwise [val_main_v0, val_main_cst, val_main_v1, val_main_v2, val_main_cst_0, val_main_v3, val_main_v4, val_main_cst_1, val_main_v5, val_main_v6, val_main_v7, val_main_v8, val_main_cst_2, val_main_v9, val_main_v10, val_main_v13, val_main_v19, val_main_v20, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36]
    simp only [Finset.univ_unique, Finset.sum_singleton]
    rfl
  have hx : ∃ k : Fin 1024, x i = x (ix2 (i 0) k) := ⟨i 1, congrArg x (ix2_eta i).symm⟩
  rw [h, NormGrad.chained_eq _ _ _ _ _ _ _ hx]

set_option maxHeartbeats 2000000

/-- The kernel's gradient of the rows is the reference's. -/
theorem rows_grad (c : Dev nD) : (dats (F := Ideal) m 0 c).arrAt 4 cfg0.N
    = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5⟩ := windows_at t
  blk_simp
  rw [after0_4]
  refine Eq.trans (b := k0_pay5 (iblk m c 0 t) (iblk m c 1 t) (iblk m c 2 t) (iblk m c 3 t) y) ?_ ?_
  · by_cases h0 : t.val % 8 = 0
    · rw [outsAt0_A m c t h0 (by have := lt_of_lt_of_eq t.isLt N_0; omega)]
      frame_out
      try rfl
    · rw [outsAt0_B m c t h0 (by omega)]
      frame_out
      try rfl
  rw [pay_at, ref_at]
  exact congrArg₂ (· + ·) (by blk_ext [iblk, V, e0, e1, e2, e3, e4, e5]) (NormGrad.collected_congr (by blk_ext [iblk, V, e0, e1, e2, e3, e4, e5]) (by blk_ext [iblk, V, e0, e1, e2, e3, e4, e5]) (by blk_ext! [iblk, V, e0, e1, e2, e3, e4, e5]) (fun k => by blk_ext [iblk, V, e0, e1, e2, e3, e4, e5]) (fun k => by blk_ext [iblk, V, e0, e1, e2, e3, e4, e5]) (fun k => by blk_ext! [iblk, V, e0, e1, e2, e3, e4, e5]))

/-- A row's summand in the gradient of the gain. -/
def term {n : ℕ} (x y : Mat.Arr2 n 1024) (r : Fin n) (j : Fin 1024) : EReal :=
  y (ix2 r j) * (x (ix2 r j) * NormGrad.scale fun k : Fin 1024 => x (ix2 r k))

/-- A point's sum over its rows. -/
theorem gain_at (x y : Vec Ideal S512x1024 .f32) (j : S1x1024.Idx) : k0_pay3 x y j = ∑ r : Fin 512, term (n := 512) x y r (j 1) := by
  pointwise [k0_pay1, k0_pay2, k0_pay3, k0_pay4, k0_pay5]
  rfl

/-- The reference's sum over all rows. -/
theorem gain_ref (x y : Vec Ideal S4096x1024 .f32) (i : S1x1024.Idx) :
    val_main_v37 (F := Ideal) x y i = ∑ r : Fin 4096, term (n := 4096) x y r (i 1) := by
  pointwise [val_main_v0, val_main_cst, val_main_v1, val_main_v2, val_main_cst_0, val_main_v3, val_main_v4, val_main_cst_1, val_main_v5, val_main_v6, val_main_v7, val_main_v11, val_main_v12, val_main_v16, val_main_cst_3, val_main_v17, val_main_v18, val_main_cst_4, val_main_v21, val_main_v37]
  simp only [Finset.univ_unique, Finset.sum_singleton]
  exact Finset.sum_congr rfl fun r _ => mul_comm (G := EReal) _ _

/-- The kernel's gradient of the gain is the reference's. -/
theorem gain_grad (c : Dev nD) : (dats (F := Ideal) m 0 c).arrAt 5 cfg0.N
    = val_main_v37 (F := Ideal) (m ((c : Thread nD τ).loc main_arg0)) (m ((c : Thread nD τ).loc main_arg3)) := by
  refine (dats m 0 c).arrAt_eq_of_covers 5 _ (by decide +kernel) fun t hf y => ?_
  obtain ⟨e0, e1, e2, e3, e4, e5⟩ := windows_at t
  blk_simp
  rw [after0_5, Pipeline.eq_sum_fin_of_reset_step_apply_of_flush (fun n h => (outsAt0 m c n h).2) 8 (fun _ => 0)
    (fun n j => k0_pay3 (iblk m c 0 n) (iblk m c 3 n) j)
    (fun t h j => by
      have h0 := h
      rw [outsAt0_A m c t h0 (by have := lt_of_lt_of_eq t.isLt N_0; omega)]; frame_out; exact (zero_add _).symm)
    (fun t h j => by
      have h0 := h
      rw [outsAt0_B m c t h0 (by omega)]; frame_out; pointwise [k0_pay4]) t ((flush0_5 t).mp hf) y, zero_add, gain_ref]
  simp only [gain_at]
  refine Mat.sum_chunks_congr (by norm_num) fun s l k hk => ?_
  obtain ⟨f0, f1, f2, f3, f4, f5⟩ := windows_at ⟨8 * (t.val / 8) + s.val, by have h := lt_of_lt_of_eq t.isLt N_0; have := s.isLt; exact lt_of_lt_of_eq (b := 8) (by omega) N_0.symm⟩
  unfold term
  refine congrArg₂ (· * ·) ?_ (congrArg₂ (· * ·) ?_ (NormGrad.scale_congr fun q => ?_)) <;> blk_ext [iblk, V, f0, f3, e5]

end Cert.NormFirstDxIdeal.Rows

end
-- ==== Proof.NormAddDxValue.lean ====
/-
The gradient of the root mean square norm of a block of rows, with respect to the rows and to the gain.
-/
module

public import Idealize.ShloMosaic.Lib.Pipeline.ValueKit
public import proofs.«01_k».proof.Proof.Mat
public import proofs.«01_k».proof.Proof.NormGrad
public import proofs.«01_k».proof.Proof.Gen.NormAddDxIdeal.Value
public import proofs.«01_k».proof.Proof.Gen.NormAddDxRefIdeal.Run
public import proofs.«01_k».proof.Proof.Gen.NormAddDxRefIdeal.Read

@[expose] public section

set_option maxRecDepth 16384

noncomputable section

namespace Cert.NormAddDxIdeal.Rows

open Idealize.ShloMosaic Idealize.ShloMosaic.TcCoe Idealize.SL.Sem
open Cert.NormAddDxIdeal Cert.NormAddDxIdeal.Gen
open Cert.NormAddDxRefIdeal.Read

variable (m : (ℓ : Loc nD τ sig) → Buf (Elt Ideal) ℓ)

/-- The blocks a grid point reads and writes. -/
theorem windows_at : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![t.val, 0] :=
  (by decide +kernel : ∀ t : Fin grid0.N, _)

/-- The gradient a point adds to its block of rows. -/
theorem pay_at (x d : Vec Ideal S512x1024 .f32) (g : Vec Ideal S1x1024 .f32) (y : Vec Ideal S512x1024 .f32) (j : S512x1024.Idx) :
    k0_pay6 x d g y j = d j + NormGrad.collected (x j) (y j) (g (ix2 0 (j 1))) (fun k : Fin 1024 => x (ix2 (j 0) k)) (fun k : Fin 1024 => y (ix2 (j 0) k)) (fun k : Fin 1024 => g (ix2 0 k)) := by
  pointwise [k0_pay1, k0_pay2, k0_pay3, k0_pay4, k0_pay5, k0_pay6]
  rfl

/-- The reference's gradient of the rows, the mean square's gradient collected. -/
theorem ref_at (x d : Vec Ideal S4096x1024 .f32) (g : Vec Ideal S1024 .f32) (y : Vec Ideal S4096x1024 .f32) (i : S4096x1024.Idx) :
    val_main_v36 (F := Ideal) x d g y i = d i + NormGrad.collected (x i) (y i) (g (ix1 (i 1))) (fun k : Fin 1024 => x (ix2 (i 0) k)) (fun k : Fin 1024 => y (ix2 (i 0) k)) (fun k : Fin 1024 => g (ix1 k)) := by
  have h : val_main_v36 (F := Ideal) x d g y i = NormGrad.chained (d i) (x i) (y i) (g (ix1 (i 1))) (fun k : Fin 1024 => x (ix2 (i 0) k)) (fun k : Fin 1024 => y (ix2 (i 0) k)) (fun k : Fin 1024 => g (ix1 k)) := by
    pointwise [val_main_v0, val_main_cst, val_main_v1, val_main_v2, val_main_cst_0, val_main_v3, val_main_v4, val_main_cst_1, val_main_v5, val_main_v6, val_main_v7, val_main_v8, val_main_cst_2, val_main_v9, val_main_v10, val_main_v13, val_main_v19, val_main_v20, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36]
    simp only [Finset.univ_unique, Finset.sum_singleton]
    rfl
  have hx : ∃ k : Fin 1024, x i = x (ix2 (i 0) k) := ⟨i 1, congrArg x (ix2_eta i).symm⟩
  rw [h, NormGrad.chained_eq _ _ _ _ _ _ _ hx]

set_option maxHeartbeats 2000000

/-- The kernel's gradient of the rows is the reference's. -/
theorem rows_grad (c : Dev nD) : (dats (F := Ideal) m 0 c).arrAt 4 cfg0.N
    = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := windows_at t
  blk_simp
  rw [after0_4]
  refine Eq.trans (b := k0_pay6 (iblk m c 0 t) (iblk m c 1 t) (iblk m c 2 t) (iblk m c 3 t) y) ?_ ?_
  · by_cases h0 : t.val % 8 = 0
    · rw [outsAt0_A m c t h0 (by have := lt_of_lt_of_eq t.isLt N_0; omega)]
      frame_out
      try rfl
    · rw [outsAt0_B m c t h0 (by omega)]
      frame_out
      try rfl
  rw [pay_at, ref_at]
  exact congrArg₂ (· + ·) (by blk_ext [iblk, V, e0, e1, e2, e3, e4, e5, e6]) (NormGrad.collected_congr (by blk_ext [iblk, V, e0, e1, e2, e3, e4, e5, e6]) (by blk_ext [iblk, V, e0, e1, e2, e3, e4, e5, e6]) (by blk_ext! [iblk, V, e0, e1, e2, e3, e4, e5, e6]) (fun k => by blk_ext [iblk, V, e0, e1, e2, e3, e4, e5, e6]) (fun k => by blk_ext [iblk, V, e0, e1, e2, e3, e4, e5, e6]) (fun k => by blk_ext! [iblk, V, e0, e1, e2, e3, e4, e5, e6]))

/-- The narrower copy of the gradient of the rows is the reference's. -/
theorem rows_copy (c : Dev nD) : (dats (F := Ideal) m 0 c).arrAt 6 cfg0.N
    = val_main_v38 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨e0, e1, e2, e3, e4, e5, e6⟩ := windows_at t
  blk_simp
  rw [after0_6]
  refine Eq.trans (b := k0_pay6 (iblk m c 0 t) (iblk m c 1 t) (iblk m c 2 t) (iblk m c 3 t) y) ?_ ?_
  · by_cases h0 : t.val % 8 = 0
    · rw [outsAt0_A m c t h0 (by have := lt_of_lt_of_eq t.isLt N_0; omega)]
      frame_out
      pointwise [k0_pay1]
    · rw [outsAt0_B m c t h0 (by omega)]
      frame_out
      pointwise [k0_pay1]
  pointwise [val_main_v38]
  rw [pay_at, ref_at]
  exact congrArg₂ (· + ·) (by blk_ext [iblk, V, e0, e1, e2, e3, e4, e5, e6]) (NormGrad.collected_congr (by blk_ext [iblk, V, e0, e1, e2, e3, e4, e5, e6]) (by blk_ext [iblk, V, e0, e1, e2, e3, e4, e5, e6]) (by blk_ext! [iblk, V, e0, e1, e2, e3, e4, e5, e6]) (fun k => by blk_ext [iblk, V, e0, e1, e2, e3, e4, e5, e6]) (fun k => by blk_ext [iblk, V, e0, e1, e2, e3, e4, e5, e6]) (fun k => by blk_ext! [iblk, V, e0, e1, e2, e3, e4, e5, e6]))

/-- A row's summand in the gradient of the gain. -/
def term {n : ℕ} (x y : Mat.Arr2 n 1024) (r : Fin n) (j : Fin 1024) : EReal :=
  y (ix2 r j) * (x (ix2 r j) * NormGrad.scale fun k : Fin 1024 => x (ix2 r k))

/-- A point's sum over its rows. -/
theorem gain_at (x y : Vec Ideal S512x1024 .f32) (j : S1x1024.Idx) : k0_pay4 x y j = ∑ r : Fin 512, term (n := 512) x y r (j 1) := by
  pointwise [k0_pay1, k0_pay2, k0_pay3, k0_pay4, k0_pay5, k0_pay6]
  rfl

/-- The reference's sum over all rows. -/
theorem gain_ref (x y : Vec Ideal S4096x1024 .f32) (i : S1x1024.Idx) :
    val_main_v37 (F := Ideal) x y i = ∑ r : Fin 4096, term (n := 4096) x y r (i 1) := by
  pointwise [val_main_v0, val_main_cst, val_main_v1, val_main_v2, val_main_cst_0, val_main_v3, val_main_v4, val_main_cst_1, val_main_v5, val_main_v6, val_main_v7, val_main_v11, val_main_v12, val_main_v16, val_main_cst_3, val_main_v17, val_main_v18, val_main_cst_4, val_main_v21, val_main_v37]
  simp only [Finset.univ_unique, Finset.sum_singleton]
  exact Finset.sum_congr rfl fun r _ => mul_comm (G := EReal) _ _

/-- The kernel's gradient of the gain is the reference's. -/
theorem gain_grad (c : Dev nD) : (dats (F := Ideal) m 0 c).arrAt 5 cfg0.N
    = val_main_v37 (F := Ideal) (m ((c : Thread nD τ).loc main_arg0)) (m ((c : Thread nD τ).loc main_arg3)) := by
  refine (dats m 0 c).arrAt_eq_of_covers 5 _ (by decide +kernel) fun t hf y => ?_
  obtain ⟨e0, e1, e2, e3, e4, e5, e6⟩ := windows_at t
  blk_simp
  rw [after0_5, Pipeline.eq_sum_fin_of_reset_step_apply_of_flush (fun n h => (outsAt0 m c n h).2.1) 8 (fun _ => 0)
    (fun n j => k0_pay4 (iblk m c 0 n) (iblk m c 3 n) j)
    (fun t h j => by
      have h0 := h
      rw [outsAt0_A m c t h0 (by have := lt_of_lt_of_eq t.isLt N_0; omega)]; frame_out; exact (zero_add _).symm)
    (fun t h j => by
      have h0 := h
      rw [outsAt0_B m c t h0 (by omega)]; frame_out; pointwise [k0_pay5]) t ((flush0_5 t).mp hf) y, zero_add, gain_ref]
  simp only [gain_at]
  refine Mat.sum_chunks_congr (by norm_num) fun s l k hk => ?_
  obtain ⟨f0, f1, f2, f3, f4, f5, f6⟩ := windows_at ⟨8 * (t.val / 8) + s.val, by have h := lt_of_lt_of_eq t.isLt N_0; have := s.isLt; exact lt_of_lt_of_eq (b := 8) (by omega) N_0.symm⟩
  unfold term
  refine congrArg₂ (· * ·) ?_ (congrArg₂ (· * ·) ?_ (NormGrad.scale_congr fun q => ?_)) <;> blk_ext [iblk, V, f0, f3, e5]

end Cert.NormAddDxIdeal.Rows

end
-- ==== Proof.NormTwoDxValue.lean ====
/-
The gradient of the root mean square norm of a block of rows, with respect to the rows and to the gain.
-/
module

public import Idealize.ShloMosaic.Lib.Pipeline.ValueKit
public import proofs.«01_k».proof.Proof.Mat
public import proofs.«01_k».proof.Proof.NormGrad
public import proofs.«01_k».proof.Proof.Gen.NormTwoDxIdeal.Value
public import proofs.«01_k».proof.Proof.Gen.NormTwoDxRefIdeal.Run
public import proofs.«01_k».proof.Proof.Gen.NormTwoDxRefIdeal.Read

@[expose] public section

set_option maxRecDepth 16384

noncomputable section

namespace Cert.NormTwoDxIdeal.Rows

open Idealize.ShloMosaic Idealize.ShloMosaic.TcCoe Idealize.SL.Sem
open Cert.NormTwoDxIdeal Cert.NormTwoDxIdeal.Gen
open Cert.NormTwoDxRefIdeal.Read

variable (m : (ℓ : Loc nD τ sig) → Buf (Elt Ideal) ℓ)

/-- The blocks a grid point reads and writes. -/
theorem windows_at : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_6.index t = ![t.val, 0] ∧ win0_7.index t = ![0, 0] ∧ win0_8.index t = ![0, 0] ∧ win0_9.index t = ![t.val, 0] :=
  (by decide +kernel : ∀ t : Fin grid0.N, _)

/-- The gradient a point adds to its block of rows. -/
theorem pay_at (x d : Vec Ideal S512x1024 .f32) (g : Vec Ideal S1x1024 .f32) (y : Vec Ideal S512x1024 .f32) (h : Vec Ideal S1x1024 .f32) (z : Vec Ideal S512x1024 .f32) (j : S512x1024.Idx) :
    k0_pay3 (k0_pay5 x) (k0_pay6 x) (k0_pay9 x d g y) h z j = d j + NormGrad.collected (x j) (y j) (g (ix2 0 (j 1))) (fun k : Fin 1024 => x (ix2 (j 0) k)) (fun k : Fin 1024 => y (ix2 (j 0) k)) (fun k : Fin 1024 => g (ix2 0 k))
      + NormGrad.collected (x j) (z j) (h (ix2 0 (j 1))) (fun k : Fin 1024 => x (ix2 (j 0) k)) (fun k : Fin 1024 => z (ix2 (j 0) k)) (fun k : Fin 1024 => h (ix2 0 k)) := by
  pointwise [k0_pay1, k0_pay2, k0_pay3, k0_pay4, k0_pay5, k0_pay6, k0_pay7, k0_pay8, k0_pay9]
  rfl

/-- The reference's gradient of the rows, the mean square's gradient collected. -/
theorem ref_at (x d : Vec Ideal S4096x1024 .f32) (g : Vec Ideal S1024 .f32) (y : Vec Ideal S4096x1024 .f32) (h : Vec Ideal S1024 .f32) (z : Vec Ideal S4096x1024 .f32) (i : S4096x1024.Idx) :
    val_main_v73 (F := Ideal) x d g y h z i = d i + NormGrad.collected (x i) (y i) (g (ix1 (i 1))) (fun k : Fin 1024 => x (ix2 (i 0) k)) (fun k : Fin 1024 => y (ix2 (i 0) k)) (fun k : Fin 1024 => g (ix1 k))
      + NormGrad.collected (x i) (z i) (h (ix1 (i 1))) (fun k : Fin 1024 => x (ix2 (i 0) k)) (fun k : Fin 1024 => z (ix2 (i 0) k)) (fun k : Fin 1024 => h (ix1 k)) := by
  have h : val_main_v73 (F := Ideal) x d g y h z i = NormGrad.chained (NormGrad.chained (d i) (x i) (z i) (h (ix1 (i 1))) (fun k : Fin 1024 => x (ix2 (i 0) k)) (fun k : Fin 1024 => z (ix2 (i 0) k)) (fun k : Fin 1024 => h (ix1 k))) (x i) (y i) (g (ix1 (i 1))) (fun k : Fin 1024 => x (ix2 (i 0) k)) (fun k : Fin 1024 => y (ix2 (i 0) k)) (fun k : Fin 1024 => g (ix1 k)) := by
    pointwise [val_main_v0, val_main_cst, val_main_v1, val_main_v2, val_main_cst_0, val_main_v3, val_main_v4, val_main_cst_1, val_main_v5, val_main_v6, val_main_v7, val_main_v8, val_main_cst_2, val_main_v9, val_main_v10, val_main_v13, val_main_v16, val_main_cst_3, val_main_v17, val_main_v18, val_main_cst_4, val_main_v19, val_main_v20, val_main_cst_5, val_main_v21, val_main_v22, val_main_v23, val_main_v24, val_main_cst_6, val_main_v25, val_main_v26, val_main_v29, val_main_v35, val_main_v36, val_main_v38, val_main_cst_9, val_main_v39, val_main_v40, val_main_v41, val_main_v42, val_main_v43, val_main_v44, val_main_cst_10, val_main_v45, val_main_v46, val_main_cst_11, val_main_v47, val_main_v48, val_main_v49, val_main_v50, val_main_v51, val_main_v52, val_main_v56, val_main_v57, val_main_v59, val_main_cst_14, val_main_v60, val_main_v61, val_main_v62, val_main_v63, val_main_v64, val_main_v65, val_main_cst_15, val_main_v66, val_main_v67, val_main_cst_16, val_main_v68, val_main_v69, val_main_v70, val_main_v71, val_main_v72, val_main_v73]
    simp only [Finset.univ_unique, Finset.sum_singleton]
    rfl
  have hx : ∃ k : Fin 1024, x i = x (ix2 (i 0) k) := ⟨i 1, congrArg x (ix2_eta i).symm⟩
  rw [h, NormGrad.chained_eq _ _ _ _ _ _ _ hx, NormGrad.chained_eq _ _ _ _ _ _ _ hx, add_right_comm]

set_option maxHeartbeats 2000000

/-- The kernel's gradient of the rows is the reference's. -/
theorem rows_grad (c : Dev nD) : (dats (F := Ideal) m 0 c).arrAt 6 cfg0.N
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨e0, e1, e2, e3, e4, e5, e6, e7, e8, e9⟩ := windows_at t
  blk_simp
  rw [after0_6]
  refine Eq.trans (b := k0_pay3 (k0_pay5 (iblk m c 0 t)) (k0_pay6 (iblk m c 0 t)) (k0_pay9 (iblk m c 0 t) (iblk m c 1 t) (iblk m c 2 t) (iblk m c 3 t)) (iblk m c 4 t) (iblk m c 5 t) y) ?_ ?_
  · by_cases h0 : t.val % 8 = 0
    · rw [outsAt0_A m c t h0 (by have := lt_of_lt_of_eq t.isLt N_0; omega) h0 (by have := lt_of_lt_of_eq t.isLt N_0; omega)]
      frame_out
      try rfl
    · rw [outsAt0_B m c t h0 (by omega) h0 (by omega)]
      frame_out
      try rfl
  rw [pay_at, ref_at]
  exact congrArg₂ (· + ·) (congrArg₂ (· + ·) (by blk_ext [iblk, V, e0, e1, e2, e3, e4, e5, e6, e7, e8, e9]) (NormGrad.collected_congr (by blk_ext [iblk, V, e0, e1, e2, e3, e4, e5, e6, e7, e8, e9]) (by blk_ext [iblk, V, e0, e1, e2, e3, e4, e5, e6, e7, e8, e9]) (by blk_ext! [iblk, V, e0, e1, e2, e3, e4, e5, e6, e7, e8, e9]) (fun k => by blk_ext [iblk, V, e0, e1, e2, e3, e4, e5, e6, e7, e8, e9]) (fun k => by blk_ext [iblk, V, e0, e1, e2, e3, e4, e5, e6, e7, e8, e9]) (fun k => by blk_ext! [iblk, V, e0, e1, e2, e3, e4, e5, e6, e7, e8, e9]))) (NormGrad.collected_congr (by blk_ext [iblk, V, e0, e1, e2, e3, e4, e5, e6, e7, e8, e9]) (by blk_ext [iblk, V, e0, e1, e2, e3, e4, e5, e6, e7, e8, e9]) (by blk_ext! [iblk, V, e0, e1, e2, e3, e4, e5, e6, e7, e8, e9]) (fun k => by blk_ext [iblk, V, e0, e1, e2, e3, e4, e5, e6, e7, e8, e9]) (fun k => by blk_ext [iblk, V, e0, e1, e2, e3, e4, e5, e6, e7, e8, e9]) (fun k => by blk_ext! [iblk, V, e0, e1, e2, e3, e4, e5, e6, e7, e8, e9]))

/-- The narrower copy of the gradient of the rows is the reference's. -/
theorem rows_copy (c : Dev nD) : (dats (F := Ideal) m 0 c).arrAt 9 cfg0.N
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  obtain ⟨e0, e1, e2, e3, e4, e5, e6, e7, e8, e9⟩ := windows_at t
  blk_simp
  rw [after0_9]
  refine Eq.trans (b := k0_pay3 (k0_pay5 (iblk m c 0 t)) (k0_pay6 (iblk m c 0 t)) (k0_pay9 (iblk m c 0 t) (iblk m c 1 t) (iblk m c 2 t) (iblk m c 3 t)) (iblk m c 4 t) (iblk m c 5 t) y) ?_ ?_
  · by_cases h0 : t.val % 8 = 0
    · rw [outsAt0_A m c t h0 (by have := lt_of_lt_of_eq t.isLt N_0; omega) h0 (by have := lt_of_lt_of_eq t.isLt N_0; omega)]
      frame_out
      pointwise [k0_pay4]
    · rw [outsAt0_B m c t h0 (by omega) h0 (by omega)]
      frame_out
      pointwise [k0_pay4]
  pointwise [val_main_v76]
  rw [pay_at, ref_at]
  exact congrArg₂ (· + ·) (congrArg₂ (· + ·) (by blk_ext [iblk, V, e0, e1, e2, e3, e4, e5, e6, e7, e8, e9]) (NormGrad.collected_congr (by blk_ext [iblk, V, e0, e1, e2, e3, e4, e5, e6, e7, e8, e9]) (by blk_ext [iblk, V, e0, e1, e2, e3, e4, e5, e6, e7, e8, e9]) (by blk_ext! [iblk, V, e0, e1, e2, e3, e4, e5, e6, e7, e8, e9]) (fun k => by blk_ext [iblk, V, e0, e1, e2, e3, e4, e5, e6, e7, e8, e9]) (fun k => by blk_ext [iblk, V, e0, e1, e2, e3, e4, e5, e6, e7, e8, e9]) (fun k => by blk_ext! [iblk, V, e0, e1, e2, e3, e4, e5, e6, e7, e8, e9]))) (NormGrad.collected_congr (by blk_ext [iblk, V, e0, e1, e2, e3, e4, e5, e6, e7, e8, e9]) (by blk_ext [iblk, V, e0, e1, e2, e3, e4, e5, e6, e7, e8, e9]) (by blk_ext! [iblk, V, e0, e1, e2, e3, e4, e5, e6, e7, e8, e9]) (fun k => by blk_ext [iblk, V, e0, e1, e2, e3, e4, e5, e6, e7, e8, e9]) (fun k => by blk_ext [iblk, V, e0, e1, e2, e3, e4, e5, e6, e7, e8, e9]) (fun k => by blk_ext! [iblk, V, e0, e1, e2, e3, e4, e5, e6, e7, e8, e9]))

/-- A row's summand in the gradient of the gain. -/
def term {n : ℕ} (x y : Mat.Arr2 n 1024) (r : Fin n) (j : Fin 1024) : EReal :=
  y (ix2 r j) * (x (ix2 r j) * NormGrad.scale fun k : Fin 1024 => x (ix2 r k))

/-- A point's sum over its rows. -/
theorem gain_at (x y : Vec Ideal S512x1024 .f32) (j : S1x1024.Idx) : k0_pay7 x y j = ∑ r : Fin 512, term (n := 512) x y r (j 1) := by
  pointwise [k0_pay1, k0_pay2, k0_pay3, k0_pay4, k0_pay5, k0_pay6, k0_pay7, k0_pay8, k0_pay9]
  rfl

/-- The reference's sum over all rows. -/
theorem gain_ref (x y : Vec Ideal S4096x1024 .f32) (i : S1x1024.Idx) :
    val_main_v74 (F := Ideal) x y i = ∑ r : Fin 4096, term (n := 4096) x y r (i 1) := by
  pointwise [val_main_v0, val_main_cst, val_main_v1, val_main_v2, val_main_cst_0, val_main_v3, val_main_v4, val_main_cst_1, val_main_v5, val_main_v6, val_main_v7, val_main_v11, val_main_v12, val_main_v53, val_main_cst_12, val_main_v54, val_main_v55, val_main_cst_13, val_main_v58, val_main_v74]
  simp only [Finset.univ_unique, Finset.sum_singleton]
  exact Finset.sum_congr rfl fun r _ => mul_comm (G := EReal) _ _

/-- The kernel's gradient of the gain is the reference's. -/
theorem gain_grad (c : Dev nD) : (dats (F := Ideal) m 0 c).arrAt 7 cfg0.N
    = val_main_v74 (F := Ideal) (m ((c : Thread nD τ).loc main_arg0)) (m ((c : Thread nD τ).loc main_arg3)) := by
  refine (dats m 0 c).arrAt_eq_of_covers 7 _ (by decide +kernel) fun t hf y => ?_
  obtain ⟨e0, e1, e2, e3, e4, e5, e6, e7, e8, e9⟩ := windows_at t
  blk_simp
  rw [after0_7, Pipeline.eq_sum_fin_of_reset_step_apply_of_flush (fun n h => (outsAt0 m c n h).2.1) 8 (fun _ => 0)
    (fun n j => k0_pay7 (iblk m c 0 n) (iblk m c 3 n) j)
    (fun t h j => by
      have h0 := h
      rw [outsAt0_A m c t h0 (by have := lt_of_lt_of_eq t.isLt N_0; omega) h0 (by have := lt_of_lt_of_eq t.isLt N_0; omega)]; frame_out; exact (zero_add _).symm)
    (fun t h j => by
      have h0 := h
      rw [outsAt0_B m c t h0 (by omega) h0 (by omega)]; frame_out; pointwise [k0_pay8]) t ((flush0_7 t).mp hf) y, zero_add, gain_ref]
  simp only [gain_at]
  refine Mat.sum_chunks_congr (by norm_num) fun s l k hk => ?_
  obtain ⟨f0, f1, f2, f3, f4, f5, f6, f7, f8, f9⟩ := windows_at ⟨8 * (t.val / 8) + s.val, by have h := lt_of_lt_of_eq t.isLt N_0; have := s.isLt; exact lt_of_lt_of_eq (b := 8) (by omega) N_0.symm⟩
  unfold term
  refine congrArg₂ (· * ·) ?_ (congrArg₂ (· * ·) ?_ (NormGrad.scale_congr fun q => ?_)) <;> blk_ext [iblk, V, f0, f3, e7]

/-- A point's sum over its rows. -/
theorem gain_at_other (x y : Vec Ideal S512x1024 .f32) (j : S1x1024.Idx) : k0_pay1 (k0_pay6 x) y j = ∑ r : Fin 512, term (n := 512) x y r (j 1) := by
  pointwise [k0_pay1, k0_pay2, k0_pay3, k0_pay4, k0_pay5, k0_pay6, k0_pay7, k0_pay8, k0_pay9]
  rfl

/-- The reference's sum over all rows. -/
theorem gain_ref_other (x y : Vec Ideal S4096x1024 .f32) (i : S1x1024.Idx) :
    val_main_v75 (F := Ideal) x y i = ∑ r : Fin 4096, term (n := 4096) x y r (i 1) := by
  pointwise [val_main_v16, val_main_cst_3, val_main_v17, val_main_v18, val_main_cst_4, val_main_v19, val_main_v20, val_main_cst_5, val_main_v21, val_main_v22, val_main_v23, val_main_v27, val_main_v28, val_main_v32, val_main_cst_7, val_main_v33, val_main_v34, val_main_cst_8, val_main_v37, val_main_v75]
  simp only [Finset.univ_unique, Finset.sum_singleton]
  exact Finset.sum_congr rfl fun r _ => mul_comm (G := EReal) _ _

/-- The kernel's gradient of the gain is the reference's. -/
theorem gain_grad_other (c : Dev nD) : (dats (F := Ideal) m 0 c).arrAt 8 cfg0.N
    = val_main_v75 (F := Ideal) (m ((c : Thread nD τ).loc main_arg0)) (m ((c : Thread nD τ).loc main_arg5)) := by
  refine (dats m 0 c).arrAt_eq_of_covers 8 _ (by decide +kernel) fun t hf y => ?_
  obtain ⟨e0, e1, e2, e3, e4, e5, e6, e7, e8, e9⟩ := windows_at t
  blk_simp
  rw [after0_8, Pipeline.eq_sum_fin_of_reset_step_apply_of_flush (fun n h => (outsAt0 m c n h).2.2.1) 8 (fun _ => 0)
    (fun n j => k0_pay1 (k0_pay6 (iblk m c 0 n)) (iblk m c 5 n) j)
    (fun t h j => by
      have h0 := h
      rw [outsAt0_A m c t h0 (by have := lt_of_lt_of_eq t.isLt N_0; omega) h0 (by have := lt_of_lt_of_eq t.isLt N_0; omega)]; frame_out; exact (zero_add _).symm)
    (fun t h j => by
      have h0 := h
      rw [outsAt0_B m c t h0 (by omega) h0 (by omega)]; frame_out; pointwise [k0_pay2]) t ((flush0_8 t).mp hf) y, zero_add, gain_ref_other]
  simp only [gain_at_other]
  refine Mat.sum_chunks_congr (by norm_num) fun s l k hk => ?_
  obtain ⟨f0, f1, f2, f3, f4, f5, f6, f7, f8, f9⟩ := windows_at ⟨8 * (t.val / 8) + s.val, by have h := lt_of_lt_of_eq t.isLt N_0; have := s.isLt; exact lt_of_lt_of_eq (b := 8) (by omega) N_0.symm⟩
  unfold term
  refine congrArg₂ (· * ·) ?_ (congrArg₂ (· * ·) ?_ (NormGrad.scale_congr fun q => ?_)) <;> blk_ext [iblk, V, f0, f5, e8]

end Cert.NormTwoDxIdeal.Rows

end
-- ==== Proof.LossHeadValue.lean ====
/-
The loss, its gradient with respect to the last rows, and the gradient of the last gain.
-/
module

public import Idealize.ShloMosaic.Lib.Pipeline.ValueKit
public import proofs.«01_k».proof.Proof.Mat
public import proofs.«01_k».proof.Proof.Sigmoid
public import proofs.«01_k».proof.Proof.NormGrad
public import proofs.«01_k».proof.Proof.Gen.LossHeadIdeal.Value
public import proofs.«01_k».proof.Proof.Gen.LossHeadRefIdeal.Run
public import proofs.«01_k».proof.Proof.Gen.LossHeadRefIdeal.Read

@[expose] public section

set_option maxRecDepth 16384
set_option maxHeartbeats 2000000

noncomputable section

namespace Cert.LossHeadIdeal.Rows

open Idealize.ShloMosaic Idealize.ShloMosaic.TcCoe Idealize.SL.Sem
open Cert.LossHeadIdeal Cert.LossHeadIdeal.Gen
open Cert.LossHeadRefIdeal.Read

variable (m : (ℓ : Loc nD τ sig) → Buf (Elt Ideal) ℓ)

/-- The blocks a grid point reads and writes. -/
theorem windows_at : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![t.val, 0] :=
  (by decide +kernel : ∀ t : Fin grid0.N, _)

section

variable {n : ℕ}

/-- The last rows: the sum of the residual stream and of what is added to it. -/
def sum2 (x r : Mat.Arr2 n 1024) : Mat.Arr2 n 1024 := fun i => x i + r i

/-- The normed rows, before the gain. -/
def unit (s : Mat.Arr2 n 1024) : Mat.Arr2 n 1024 := fun i => s i * NormGrad.scale fun k : Fin 1024 => s (ix2 (i 0) k)

/-- The error of the normed rows. -/
def err (s : Mat.Arr2 n 1024) (g : Fin 1024 → EReal) (t : Mat.Arr2 n 1024) : Mat.Arr2 n 1024 := fun i => unit s i * g (i 1) - t i

/-- One part in 1024. -/
def share : EReal := Ideal.ofBits .f32 0x3A800000#32

/-- The cotangent of the normed rows. -/
def cot (s : Mat.Arr2 n 1024) (g : Fin 1024 → EReal) (t : Mat.Arr2 n 1024) : Mat.Arr2 n 1024 := fun i => err s g t i * share

/-- The gradient of the rows. -/
def dx (s : Mat.Arr2 n 1024) (g : Fin 1024 → EReal) (t : Mat.Arr2 n 1024) : Mat.Arr2 n 1024 := fun i =>
  NormGrad.collected (s i) (cot s g t i) (g (i 1)) (fun k : Fin 1024 => s (ix2 (i 0) k)) (fun k : Fin 1024 => cot s g t (ix2 (i 0) k)) g

/-- A row's loss. -/
def rowLoss (s : Mat.Arr2 n 1024) (g : Fin 1024 → EReal) (t : Mat.Arr2 n 1024) (r : Fin n) : EReal :=
  Ideal.div (∑ k : Fin 1024, err s g t (ix2 r k) * err s g t (ix2 r k)) NormGrad.width

/-- A row's summand in the gradient of the gain. -/
def term (s : Mat.Arr2 n 1024) (g : Fin 1024 → EReal) (t : Mat.Arr2 n 1024) (r : Fin n) (j : Fin 1024) : EReal :=
  cot s g t (ix2 r j) * unit s (ix2 r j)

end

/-- One part in 1024 is the real number. -/
theorem share_eq : share = ((1 / 1024 : ℝ) : EReal) := by
  unfold share
  simp [Ideal.ofBits, Ideal.ieee, -EReal.coe_mul]
  norm_num

/-- Half of twice an error over the width is its part in 1024. -/
theorem share_of (e : EReal) :
    Ideal.div (Ideal.ofBits .f32 0x3F000000#32) (Ideal.ofBits .f32 0x44800000#32) * (Ideal.ofBits .f32 0x40000000#32 * e) = e * share := by
  have h2 : Ideal.ofBits .f32 0x40000000#32 = ((2 : ℝ) : EReal) := by
    simp [Ideal.ofBits, Ideal.ieee, -EReal.coe_mul]
    norm_num
  rw [h2, show Ideal.ofBits .f32 0x44800000#32 = _ from NormGrad.width_eq, show Ideal.ofBits .f32 0x3F000000#32 = _ from GatedConv.half_eq,
    Ideal.div_coe (by norm_num), ← mul_assoc, ← EReal.coe_mul, ← EReal.coe_mul, share_eq, mul_comm]
  congr 2
  norm_num

/-- Equal rows have equal errors. -/
theorem err_congr {a b : ℕ} (s : Mat.Arr2 a 1024) (s' : Mat.Arr2 b 1024) (g g' : Fin 1024 → EReal) (t : Mat.Arr2 a 1024) (t' : Mat.Arr2 b 1024)
    (r : Fin a) (r' : Fin b) (hs : ∀ k, s (ix2 r k) = s' (ix2 r' k)) (hg : ∀ k, g k = g' k) (ht : ∀ k, t (ix2 r k) = t' (ix2 r' k)) (k : Fin 1024) :
    err s g t (ix2 r k) = err s' g' t' (ix2 r' k) := by
  unfold err unit
  exact congrArg₂ (· - ·) (congrArg₂ (· * ·) (congrArg₂ (· * ·) (hs k) (NormGrad.scale_congr hs)) (hg k)) (ht k)

/-- Equal rows have equal gradients. -/
theorem dx_congr {a b : ℕ} (s : Mat.Arr2 a 1024) (s' : Mat.Arr2 b 1024) (g g' : Fin 1024 → EReal) (t : Mat.Arr2 a 1024) (t' : Mat.Arr2 b 1024)
    (r : Fin a) (r' : Fin b) (hs : ∀ k, s (ix2 r k) = s' (ix2 r' k)) (hg : ∀ k, g k = g' k) (ht : ∀ k, t (ix2 r k) = t' (ix2 r' k)) (k : Fin 1024) :
    dx s g t (ix2 r k) = dx s' g' t' (ix2 r' k) := by
  have he := err_congr s s' g g' t t' r r' hs hg ht
  unfold dx cot
  exact NormGrad.collected_congr (hs k) (congrArg (· * share) (he k)) (hg k) hs (fun k => congrArg (· * share) (he k)) hg

/-- The cotangent in the reference. -/
theorem ref_cot (x r t : Vec Ideal S4096x1024 .f32) (g : Vec Ideal S1024 .f32) (i : S4096x1024.Idx) :
    val_main_v31 (F := Ideal) x r t g i = cot (sum2 x r) (fun k => g (ix1 k)) t i := by
  pointwise [val_main_v0, val_main_v1, val_main_cst, val_main_v2, val_main_v3, val_main_cst_0, val_main_v4, val_main_v5, val_main_cst_1, val_main_v6, val_main_v7, val_main_v8, val_main_v12, val_main_v13, val_main_v14, val_main_v15, val_main_v16, val_main_v17, val_main_cst_3, val_main_v19, val_main_v20, val_main_cst_8, val_main_cst_9, val_main_v26, val_main_v27, val_main_cst_10, val_main_v28, val_main_v29, val_main_v30, val_main_v31]
  exact share_of _

/-- The gradient a point writes to its block of rows. -/
theorem pay_at (x r : Vec Ideal S512x1024 .f32) (g : Vec Ideal S1x1024 .f32) (t : Vec Ideal S512x1024 .f32) (j : S512x1024.Idx) :
    k0_pay1 (k0_pay8 x r) (k0_pay9 x r) (k0_pay14 x r g t) (k0_pay15 x r g t) j = dx (sum2 x r) (fun k => g (ix2 0 k)) t j := by
  pointwise [k0_pay1, k0_pay2, k0_pay3, k0_pay4, k0_pay5, k0_pay6, k0_pay7, k0_pay8, k0_pay9, k0_pay10, k0_pay11, k0_pay12, k0_pay13, k0_pay14, k0_pay15]
  rfl

/-- The reference's gradient of the rows. -/
theorem ref_at (x r t : Vec Ideal S4096x1024 .f32) (g : Vec Ideal S1024 .f32) (i : S4096x1024.Idx) :
    val_main_v51 (F := Ideal) x r t g i = dx (sum2 x r) (fun k => g (ix1 k)) t i := by
  have hx : ∃ k : Fin 1024, sum2 x r i = sum2 x r (ix2 (i 0) k) := ⟨i 1, congrArg (sum2 x r) (ix2_eta i).symm⟩
  refine Eq.trans ?_ (zero_add (dx (sum2 x r) (fun k => g (ix1 k)) t i))
  refine Eq.trans ?_ (NormGrad.chained_eq 0 _ _ _ _ _ _ hx)
  unfold NormGrad.chained
  rw [zero_add]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v19, val_main_v20, val_main_cst_8, val_main_cst_9, val_main_v26, val_main_v27, val_main_cst_10, val_main_v28, val_main_v29, val_main_v30, val_main_v35, val_main_v36, val_main_v38, val_main_cst_13, val_main_v39, val_main_v40, val_main_v41, val_main_v42, val_main_v43, val_main_cst_14, val_main_v44, val_main_v45, val_main_cst_15, val_main_v46, val_main_v47, val_main_v48, val_main_v49, val_main_v50, val_main_v51]
  simp only [ref_cot, Finset.univ_unique, Finset.sum_singleton]
  rfl

/-- A point's sum over its rows. -/
theorem gain_at (x r : Vec Ideal S512x1024 .f32) (g : Vec Ideal S1x1024 .f32) (t : Vec Ideal S512x1024 .f32) (j : S1x1024.Idx) :
    k0_pay13 x r g t j = ∑ q : Fin 512, term (n := 512) (sum2 x r) (fun k => g (ix2 0 k)) t q (j 1) := by
  pointwise [k0_pay1, k0_pay2, k0_pay3, k0_pay4, k0_pay5, k0_pay6, k0_pay7, k0_pay8, k0_pay9, k0_pay10, k0_pay11, k0_pay12, k0_pay13, k0_pay14, k0_pay15]
  rfl

/-- The reference's sum over all rows. -/
theorem gain_ref (x r t : Vec Ideal S4096x1024 .f32) (g : Vec Ideal S1024 .f32) (i : S1x1024.Idx) :
    val_main_v53 (F := Ideal) x r t g i = ∑ q : Fin 4096, term (n := 4096) (sum2 x r) (fun k => g (ix1 k)) t q (i 1) := by
  pointwise [val_main_v0, val_main_v1, val_main_cst, val_main_v2, val_main_v3, val_main_cst_0, val_main_v4, val_main_v5, val_main_cst_1, val_main_v6, val_main_v7, val_main_v8, val_main_v12, val_main_v13, val_main_v14, val_main_v15, val_main_v16, val_main_v17, val_main_cst_3, val_main_v19, val_main_v20, val_main_cst_8, val_main_cst_9, val_main_v26, val_main_v27, val_main_cst_10, val_main_v28, val_main_v29, val_main_v30, val_main_v32, val_main_cst_11, val_main_v33, val_main_v34, val_main_cst_12, val_main_v37, val_main_v53]
  simp only [ref_cot, Finset.univ_unique, Finset.sum_singleton]
  exact Finset.sum_congr rfl fun q _ => mul_comm (G := EReal) _ _

/-- A point's part of the loss. -/
theorem loss_at (x r : Vec Ideal S512x1024 .f32) (g : Vec Ideal S1x1024 .f32) (t : Vec Ideal S512x1024 .f32) (j : S8x128.Idx) :
    k0_pay3 (k0_pay11 x r g t) j = GatedConv.half * ∑ q : Fin 512, rowLoss (n := 512) (sum2 x r) (fun k => g (ix2 0 k)) t q := by
  pointwise [k0_pay1, k0_pay2, k0_pay3, k0_pay4, k0_pay5, k0_pay6, k0_pay7, k0_pay8, k0_pay9, k0_pay10, k0_pay11, k0_pay12, k0_pay13, k0_pay14, k0_pay15]
  rfl

/-- The reference's loss. -/
theorem loss_ref (x r t : Vec Ideal S4096x1024 .f32) (g : Vec Ideal S1024 .f32) (i : S8x128.Idx) :
    val_main_v52 (F := Ideal) x r t g i = GatedConv.half * ∑ q : Fin 4096, rowLoss (n := 4096) (sum2 x r) (fun k => g (ix1 k)) t q := by
  pointwise [val_main_v0, val_main_v1, val_main_cst, val_main_v2, val_main_v3, val_main_cst_0, val_main_v4, val_main_v5, val_main_cst_1, val_main_v6, val_main_v7, val_main_v8, val_main_v12, val_main_v13, val_main_v14, val_main_v15, val_main_v16, val_main_v17, val_main_v18, val_main_cst_4, val_main_v21, val_main_cst_5, val_main_v22, val_main_v23, val_main_cst_6, val_main_v24, val_main_cst_7, val_main_v25, val_main_v52]
  rfl

/-- The kernel's gradient of the rows is the reference's. -/
theorem rows_grad (c : Dev nD) : (dats (F := Ideal) m 0 c).arrAt 5 cfg0.N
    = val_main_v51 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨e0, e1, e2, e3, e4, e5, e6, e7⟩ := windows_at t
  blk_simp
  rw [after0_5]
  by_cases h0 : t.val % 8 = 0
  on_goal 1 => rw [outsAt0_A m c t h0 (by have := lt_of_lt_of_eq t.isLt N_0; omega)]
  on_goal 2 => rw [outsAt0_B m c t h0 (by omega)]
  all_goals
    frame_out
    rw [pay_at, ref_at]
    have hj : ∀ A : Vec Ideal S4096x1024 .f32, A (ix2 ((((View.whole main_v1_1).slice (win0_5.rect t)).emb y) 0) (y 1)) = A (((View.whole main_v1_1).slice (win0_5.rect t)).emb y) := fun A => by blk_ext [iblk, V, e0, e1, e2, e3, e4, e5, e6, e7]
    exact (congrArg (dx _ _ _) (ix2_eta y).symm).trans ((dx_congr _ _ _ _ _ _ (y 0) ((((View.whole main_v1_1).slice (win0_5.rect t)).emb y) 0)
      (fun k => congrArg₂ (· + ·) (by blk_ext [iblk, V, e0, e1, e2, e3, e4, e5, e6, e7]) (by blk_ext [iblk, V, e0, e1, e2, e3, e4, e5, e6, e7])) (fun k => by blk_ext! [iblk, V, e0, e1, e2, e3, e4, e5, e6, e7])
      (fun k => by blk_ext [iblk, V, e0, e1, e2, e3, e4, e5, e6, e7]) (y 1)).trans (hj (dx _ _ _)))

/-- The narrower copy of the gradient of the rows is the reference's. -/
theorem rows_copy (c : Dev nD) : (dats (F := Ideal) m 0 c).arrAt 7 cfg0.N
    = val_main_v54 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨e0, e1, e2, e3, e4, e5, e6, e7⟩ := windows_at t
  blk_simp
  rw [after0_7]
  by_cases h0 : t.val % 8 = 0
  on_goal 1 => rw [outsAt0_A m c t h0 (by have := lt_of_lt_of_eq t.isLt N_0; omega)]
  on_goal 2 => rw [outsAt0_B m c t h0 (by omega)]
  all_goals
    frame_out
    pointwise [k0_pay2, val_main_v54]
    rw [pay_at, ref_at]
    have hj : ∀ A : Vec Ideal S4096x1024 .f32, A (ix2 ((((View.whole main_v1_3).slice (win0_7.rect t)).emb y) 0) (y 1)) = A (((View.whole main_v1_3).slice (win0_7.rect t)).emb y) := fun A => by blk_ext [iblk, V, e0, e1, e2, e3, e4, e5, e6, e7]
    exact (congrArg (dx _ _ _) (ix2_eta y).symm).trans ((dx_congr _ _ _ _ _ _ (y 0) ((((View.whole main_v1_3).slice (win0_7.rect t)).emb y) 0)
      (fun k => congrArg₂ (· + ·) (by blk_ext [iblk, V, e0, e1, e2, e3, e4, e5, e6, e7]) (by blk_ext [iblk, V, e0, e1, e2, e3, e4, e5, e6, e7])) (fun k => by blk_ext! [iblk, V, e0, e1, e2, e3, e4, e5, e6, e7])
      (fun k => by blk_ext [iblk, V, e0, e1, e2, e3, e4, e5, e6, e7]) (y 1)).trans (hj (dx _ _ _)))

/-- The kernel's gradient of the gain is the reference's. -/
theorem gain_grad (c : Dev nD) : (dats (F := Ideal) m 0 c).arrAt 6 cfg0.N
    = val_main_v53 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨e0, e1, e2, e3, e4, e5, e6, e7⟩ := windows_at t
  blk_simp
  rw [after0_6, Pipeline.eq_sum_fin_of_reset_step_apply_of_flush (fun n h => (outsAt0 m c n h).2.2.1) 8 (fun _ => 0)
    (fun n j => k0_pay13 (iblk m c 0 n) (iblk m c 1 n) (iblk m c 3 n) (iblk m c 2 n) j)
    (fun t h j => by rw [outsAt0_A m c t h (by have := lt_of_lt_of_eq t.isLt N_0; omega)]; frame_out; exact (zero_add _).symm)
    (fun t h j => by rw [outsAt0_B m c t h (by omega)]; frame_out; pointwise [k0_pay5]) t ((flush0_6 t).mp hf) y, zero_add, gain_ref]
  simp only [gain_at]
  refine Mat.sum_chunks_congr (by norm_num) fun q l k hk => ?_
  obtain ⟨f0, f1, f2, f3, -⟩ := windows_at ⟨8 * (t.val / 8) + q.val, by have h := lt_of_lt_of_eq t.isLt N_0; have := q.isLt; exact lt_of_lt_of_eq (b := 8) (by omega) N_0.symm⟩
  have hs : ∀ j : Fin 1024, sum2 (iblk m c 0 ⟨8 * (t.val / 8) + q.val, by have h := lt_of_lt_of_eq t.isLt N_0; have := q.isLt; exact lt_of_lt_of_eq (b := 8) (by omega) N_0.symm⟩) (iblk m c 1 ⟨8 * (t.val / 8) + q.val, by have h := lt_of_lt_of_eq t.isLt N_0; have := q.isLt; exact lt_of_lt_of_eq (b := 8) (by omega) N_0.symm⟩) (ix2 l j) = sum2 (m ((c : Thread nD τ).loc main_arg0)) (m ((c : Thread nD τ).loc main_arg1)) (ix2 k j) :=
    fun j => congrArg₂ (· + ·) (by blk_ext [iblk, V, f0, f1, f2, f3]) (by blk_ext [iblk, V, f0, f1, f2, f3])
  have hg : ∀ j : Fin 1024, (iblk m c 3 ⟨8 * (t.val / 8) + q.val, by have h := lt_of_lt_of_eq t.isLt N_0; have := q.isLt; exact lt_of_lt_of_eq (b := 8) (by omega) N_0.symm⟩) (ix2 0 j) = (m ((c : Thread nD τ).loc main_arg3)) (ix1 j) := fun j => by blk_ext! [iblk, V, f3]
  have ht : ∀ j : Fin 1024, (iblk m c 2 ⟨8 * (t.val / 8) + q.val, by have h := lt_of_lt_of_eq t.isLt N_0; have := q.isLt; exact lt_of_lt_of_eq (b := 8) (by omega) N_0.symm⟩) (ix2 l j) = (m ((c : Thread nD τ).loc main_arg2)) (ix2 k j) := fun j => (by blk_ext [iblk, V, f0, f1, f2, f3])
  have he := err_congr _ _ _ _ _ _ l k hs hg ht
  have hj : ∀ A : Vec Ideal S4096x1024 .f32, A (ix2 k (y 1)) = A (ix2 k ((((View.whole main_v1_2).slice (win0_6.rect t)).emb y) 1)) := fun A => by blk_ext [iblk, V, e6]
  refine Eq.trans ?_ (hj fun i => term (sum2 (m ((c : Thread nD τ).loc main_arg0)) (m ((c : Thread nD τ).loc main_arg1))) (fun k => (m ((c : Thread nD τ).loc main_arg3)) (ix1 k)) (m ((c : Thread nD τ).loc main_arg2)) (i 0) (i 1))
  unfold term cot unit
  exact congrArg₂ (· * ·) (congrArg (· * share) (he (y 1))) (congrArg₂ (· * ·) (hs (y 1)) (NormGrad.scale_congr hs))

/-- The kernel's loss is the reference's. -/
theorem loss (c : Dev nD) : (dats (F := Ideal) m 0 c).arrAt 4 cfg0.N
    = val_main_v52 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6, e7⟩ := windows_at t
  blk_simp
  rw [after0_4, Pipeline.eq_sum_fin_of_reset_step_apply_of_flush (fun n h => (outsAt0 m c n h).1) 8 (fun _ => 0)
    (fun n j => k0_pay3 (k0_pay11 (iblk m c 0 n) (iblk m c 1 n) (iblk m c 3 n) (iblk m c 2 n)) j)
    (fun t h j => by rw [outsAt0_A m c t h (by have := lt_of_lt_of_eq t.isLt N_0; omega)]; frame_out; exact (zero_add _).symm)
    (fun t h j => by rw [outsAt0_B m c t h (by omega)]; frame_out; pointwise [k0_pay4, k0_pay3]) t ((flush0_4 t).mp hf) y, zero_add, loss_ref]
  simp only [loss_at]
  rw [GatedConv.half_eq, ← NormGrad.mul_sum _ (by norm_num)]
  congr 1
  refine Mat.sum_chunks_congr (by norm_num) fun q l k hk => ?_
  obtain ⟨f0, f1, f2, f3, -⟩ := windows_at ⟨8 * (t.val / 8) + q.val, by have h := lt_of_lt_of_eq t.isLt N_0; have := q.isLt; exact lt_of_lt_of_eq (b := 8) (by omega) N_0.symm⟩
  have hs : ∀ j : Fin 1024, sum2 (iblk m c 0 ⟨8 * (t.val / 8) + q.val, by have h := lt_of_lt_of_eq t.isLt N_0; have := q.isLt; exact lt_of_lt_of_eq (b := 8) (by omega) N_0.symm⟩) (iblk m c 1 ⟨8 * (t.val / 8) + q.val, by have h := lt_of_lt_of_eq t.isLt N_0; have := q.isLt; exact lt_of_lt_of_eq (b := 8) (by omega) N_0.symm⟩) (ix2 l j) = sum2 (m ((c : Thread nD τ).loc main_arg0)) (m ((c : Thread nD τ).loc main_arg1)) (ix2 k j) :=
    fun j => congrArg₂ (· + ·) (by blk_ext [iblk, V, f0, f1, f2, f3]) (by blk_ext [iblk, V, f0, f1, f2, f3])
  have hg : ∀ j : Fin 1024, (iblk m c 3 ⟨8 * (t.val / 8) + q.val, by have h := lt_of_lt_of_eq t.isLt N_0; have := q.isLt; exact lt_of_lt_of_eq (b := 8) (by omega) N_0.symm⟩) (ix2 0 j) = (m ((c : Thread nD τ).loc main_arg3)) (ix1 j) := fun j => by blk_ext! [iblk, V, f3]
  have ht : ∀ j : Fin 1024, (iblk m c 2 ⟨8 * (t.val / 8) + q.val, by have h := lt_of_lt_of_eq t.isLt N_0; have := q.isLt; exact lt_of_lt_of_eq (b := 8) (by omega) N_0.symm⟩) (ix2 l j) = (m ((c : Thread nD τ).loc main_arg2)) (ix2 k j) := fun j => (by blk_ext [iblk, V, f0, f1, f2, f3])
  have he := err_congr _ _ _ _ _ _ l k hs hg ht
  unfold rowLoss
  exact congrArg (Ideal.div · _) (Finset.sum_congr rfl fun j _ => congrArg₂ (· * ·) (he j) (he j))

end Cert.LossHeadIdeal.Rows

end
-- ==== Proof.DiscBwdValue.lean ====
/-
The gradient of the discretisation of the state space: the five arrays the kernel leaves are the reference's.
-/
module

public import Idealize.ShloMosaic.Lib.Pipeline.ValueKit
public import proofs.«01_k».proof.Proof.Gen.DiscBwdIdeal.Value
public import proofs.«01_k».proof.Proof.Gen.DiscBwdRefIdeal.Run
public import proofs.«01_k».proof.Proof.Gen.DiscBwdRefIdeal.Read

@[expose] public section

set_option maxRecDepth 16384

noncomputable section

namespace Cert.DiscBwdIdeal.Rows

open Idealize.ShloMosaic Idealize.ShloMosaic.TcCoe Idealize.SL.Sem
open Cert.DiscBwdIdeal Cert.DiscBwdIdeal.Gen
open Cert.DiscBwdRefIdeal.Read

/-- A row of `4096` numbers. -/
abbrev Row : Type := (⟨S1x4096, .f32⟩ : BufTy).Contents (Elt Ideal)

/-- Sixteen rows of `4096` numbers. -/
abbrev Rows : Type := (⟨S16x4096, .f32⟩ : BufTy).Contents (Elt Ideal)

variable (m : (ℓ : Loc nD τ sig) → Buf (Elt Ideal) ℓ)

/-- A row taken from zero is the row with its signs turned. -/
theorem turned_row (x : Row) : subf (broadcast S1x4096 (Scalar.ofBits (F := Ideal) .f32 0x00000000#32)) x = Host.negf x := by
  funext i
  pointwise []
  exact zero_sub _

/-- Rows taken from zero are the rows with their signs turned. -/
theorem turned_rows (x : Rows) : subf (broadcast S16x4096 (Scalar.ofBits (F := Ideal) .f32 0x00000000#32)) x = Host.negf x := by
  funext i
  pointwise []
  exact zero_sub _

/-- A row written under itself sixteen times, in the kernel's words and in the reference's. -/
theorem spread (x : Row) : broadcastTo S16x4096 x broadcasts_S1x4096_S16x4096
    = broadcastInDim S16x4096 ![0, 1] Cert.DiscBwdRefIdeal.Facts₀.bcast_S1x4096_S16x4096_0_1 x := by
  funext i
  pointwise []

/-- A load of the whole of a row reads the row. -/
theorem ld_row (x : Row) : View.ld x r0_0 = x :=
  View.ld_unit_lit _ x (by decide)

/-- A load of the whole of the rows reads the rows. -/
theorem ld_rows (x : Rows) : View.ld x r0_1 = x :=
  View.ld_unit_lit _ x (by decide)

variable (x0 x1 x2 x5 x6 : Row) (x3 x4 x7 x8 : Rows)

/-- The kernel's value of step 1 is the reference's. -/
theorem step1 : k0_pay1 (F := Ideal) x2
    = val_main_v0 (F := Ideal) x2 := by
  simp only [k0_pay1]
  rfl

/-- The kernel's value of step 2 is the reference's. -/
theorem step2 : k0_pay2 (F := Ideal) x0 x2
    = val_main_v2 (F := Ideal) x0 x2 := by
  simp only [k0_pay2, step1]
  rfl

/-- The kernel's value of step 3 is the reference's. -/
theorem step3 : k0_pay3 (F := Ideal) x1 x2
    = val_main_v3 (F := Ideal) x1 x2 := by
  simp only [k0_pay3, step1]
  rfl

/-- The kernel's value of step 4 is the reference's. -/
theorem step4 : k0_pay4 (F := Ideal) x1 x2
    = val_main_v4 (F := Ideal) x1 x2 := by
  simp only [k0_pay4, step3]
  rfl

/-- The kernel's value of step 5 is the reference's. -/
theorem step5 : k0_pay5 (F := Ideal) x1 x2
    = val_main_v5 (F := Ideal) x1 x2 := by
  simp only [k0_pay5, step3]
  rfl

/-- The kernel's value of step 6 is the reference's. -/
theorem step6 : k0_pay6 (F := Ideal) x0 x1 x2
    = val_main_v6 (F := Ideal) x0 x1 x2 := by
  simp only [k0_pay6, step2, step4]
  rfl

/-- The kernel's value of step 7 is the reference's. -/
theorem step7 : k0_pay7 (F := Ideal) x1 x2
    = val_main_v7 (F := Ideal) x1 x2 := by
  simp only [k0_pay7, step1]
  rfl

/-- The kernel's value of step 8 is the reference's. -/
theorem step8 : k0_pay8 (F := Ideal) x1 x2
    = val_main_v8 (F := Ideal) x1 x2 := by
  simp only [k0_pay8, step7]
  rfl

/-- The kernel's value of step 9 is the reference's. -/
theorem step9 : k0_pay9 (F := Ideal) x1 x2
    = val_main_v9 (F := Ideal) x1 x2 := by
  simp only [k0_pay9, step7]
  rfl

/-- The kernel's value of step 10 is the reference's. -/
theorem step10 : k0_pay10 (F := Ideal) x0 x1 x2
    = val_main_v10 (F := Ideal) x0 x1 x2 := by
  simp only [k0_pay10, step2, step8]
  rfl

/-- The kernel's value of step 11 is the reference's. -/
theorem step11 : k0_pay11 (F := Ideal) x0 x1
    = val_main_v13 (F := Ideal) x0 x1 := by
  simp only [k0_pay11]
  rfl

/-- The kernel's value of step 12 is the reference's. -/
theorem step12 : k0_pay12 (F := Ideal) x0 x1 x2
    = val_main_v15 (F := Ideal) x0 x1 x2 := by
  simp only [k0_pay12, step6]
  rfl

/-- The kernel's value of step 13 is the reference's. -/
theorem step13 : k0_pay13 (F := Ideal) x0 x1 x2
    = val_main_v18 (F := Ideal) x0 x1 x2 := by
  simp only [k0_pay13, step10, step12]
  rfl

/-- The kernel's value of step 14 is the reference's. -/
theorem step14 : k0_pay14 (F := Ideal) x0 x1 x2
    = val_main_v19 (F := Ideal) x0 x1 x2 := by
  simp only [k0_pay14, step11, step13]
  rfl

/-- The kernel's value of step 15 is the reference's. -/
theorem step15 : k0_pay15 (F := Ideal) x0 x1
    = val_main_v22 (F := Ideal) x0 x1 := by
  simp only [k0_pay15, step11]
  rfl

/-- The kernel's value of step 16 is the reference's. -/
theorem step16 : k0_pay16 (F := Ideal) x0 x1 x2
    = val_main_v25 (F := Ideal) x0 x1 x2 := by
  simp only [k0_pay16, step6]
  rfl

/-- The kernel's value of step 17 is the reference's. -/
theorem step17 : k0_pay17 (F := Ideal) x0 x1 x2
    = val_main_v27 (F := Ideal) x0 x1 x2 := by
  simp only [k0_pay17, step10, step16]
  rfl

/-- The kernel's value of step 18 is the reference's. -/
theorem step18 : k0_pay18 (F := Ideal) x0 x1 x2
    = val_main_v28 (F := Ideal) x0 x1 x2 := by
  simp only [k0_pay18, step11, step17]
  rfl

/-- The kernel's value of step 19 is the reference's. -/
theorem step19 : k0_pay19 (F := Ideal) x0 x1
    = val_main_v31 (F := Ideal) x0 x1 := by
  simp only [k0_pay19, step11]
  rfl

/-- The kernel's value of step 20 is the reference's. -/
theorem step20 : k0_pay20 (F := Ideal) x8
    = val_main_v42 (F := Ideal) x8 := by
  simp only [k0_pay20]
  rfl

/-- The kernel's value of step 21 is the reference's. -/
theorem step21 : k0_pay21 (F := Ideal) x8
    = val_main_v43 (F := Ideal) x8 := by
  simp only [k0_pay21]
  rfl

/-- The kernel's value of step 22 is the reference's. -/
theorem step22 : k0_pay22 (F := Ideal) x7
    = val_main_v54 (F := Ideal) x7 := by
  simp only [k0_pay22]
  rfl

/-- The kernel's value of step 23 is the reference's. -/
theorem step23 : k0_pay23 (F := Ideal) x7
    = val_main_v55 (F := Ideal) x7 := by
  simp only [k0_pay23, turned_rows]
  rfl

/-- The kernel's value of step 24 is the reference's. -/
theorem step24 : k0_pay24 (F := Ideal) (val_main_v19 (F := Ideal) x0 x1 x2) (val_main_v28 (F := Ideal) x0 x1 x2) x7 x8
    = val_main_v58 (F := Ideal) x0 x1 x2 x7 x8 := by
  simp only [k0_pay24, step20, step23]
  exact congrArg₂ addf (congrArg₂ mulf (spread _) rfl) (congrArg₂ mulf (spread _) rfl)

/-- The kernel's value of step 25 is the reference's. -/
theorem step25 : k0_pay25 (F := Ideal) x3 x4 x7 x8
    = val_main_v62 (F := Ideal) x3 x4 x7 x8 := by
  unfold k0_pay25
  simp only [step21, step23]
  funext i
  pointwise [val_main_v47, val_main_v48, val_main_v60, val_main_v61, val_main_v62, val_main_v46, val_main_v59, val_main_cst_3, val_main_cst_4, val_main_cst_5, val_main_cst_6]

/-- The kernel's value of step 26 is the reference's. -/
theorem step26 : k0_pay26 (F := Ideal) (val_main_v19 (F := Ideal) x0 x1 x2) (val_main_v28 (F := Ideal) x0 x1 x2) x7 x8
    = val_main_v65 (F := Ideal) x0 x1 x2 x7 x8 := by
  simp only [k0_pay26, step21, step22]
  exact congrArg₂ addf (congrArg₂ mulf (spread _) rfl) (congrArg₂ mulf (spread _) rfl)

/-- The kernel's value of step 27 is the reference's. -/
theorem step27 : k0_pay27 (F := Ideal) x3 x4 x7 x8
    = val_main_v69 (F := Ideal) x3 x4 x7 x8 := by
  unfold k0_pay27
  simp only [step20, step22]
  funext i
  pointwise [val_main_v52, val_main_v53, val_main_v67, val_main_v68, val_main_v69, val_main_v51, val_main_v66, val_main_cst_3, val_main_cst_4, val_main_cst_5, val_main_cst_6]

/-- The kernel's value of step 28 is the reference's. -/
theorem step28 : k0_pay28 (F := Ideal) x3 x4 (val_main_v13 (F := Ideal) x0 x1) x7 x8
    = val_main_v73 (F := Ideal) x0 x1 x3 x4 x7 x8 := by
  simp only [k0_pay28, step25]
  rfl

/-- The kernel's value of step 29 is the reference's. -/
theorem step29 : k0_pay29 (F := Ideal) x3 x4 (val_main_v13 (F := Ideal) x0 x1) x7 x8
    = val_main_v74 (F := Ideal) x0 x1 x3 x4 x7 x8 := by
  simp only [k0_pay29, step28, turned_row]
  rfl

/-- The kernel's value of step 30 is the reference's. -/
theorem step30 : k0_pay30 (F := Ideal) x3 x4 (val_main_v13 (F := Ideal) x0 x1) (val_main_v25 (F := Ideal) x0 x1 x2) x7 x8
    = val_main_v75 (F := Ideal) x0 x1 x2 x3 x4 x7 x8 := by
  simp only [k0_pay30, step29]
  rfl

/-- The kernel's value of step 31 is the reference's. -/
theorem step31 : k0_pay31 (F := Ideal) x1 x3 x4 (val_main_v13 (F := Ideal) x0 x1) x5 x7 x8
    = val_main_v77 (F := Ideal) x0 x1 x3 x4 x5 x7 x8 := by
  simp only [k0_pay31, step29]
  rfl

/-- The kernel's value of step 32 is the reference's. -/
theorem step32 : k0_pay32 (F := Ideal) x3 x4 (val_main_v10 (F := Ideal) x0 x1 x2) (val_main_v13 (F := Ideal) x0 x1) x7 x8
    = val_main_v78 (F := Ideal) x0 x1 x2 x3 x4 x7 x8 := by
  simp only [k0_pay32, step28]
  rfl

/-- The kernel's value of step 33 is the reference's. -/
theorem step33 : k0_pay33 (F := Ideal) x0 x3 x4 (val_main_v13 (F := Ideal) x0 x1) x6 x7 x8
    = val_main_v80 (F := Ideal) x0 x1 x3 x4 x6 x7 x8 := by
  simp only [k0_pay33, step28]
  rfl

/-- The kernel's value of step 34 is the reference's. -/
theorem step34 : k0_pay34 (F := Ideal) x3 x4 (val_main_v18 (F := Ideal) x0 x1 x2) (val_main_v22 (F := Ideal) x0 x1) (val_main_v27 (F := Ideal) x0 x1 x2) (val_main_v31 (F := Ideal) x0 x1) x7 x8
    = val_main_v84 (F := Ideal) x0 x1 x2 x3 x4 x7 x8 := by
  simp only [k0_pay34, step25, step27, turned_row]
  rfl

/-- The kernel's value of step 35 is the reference's. -/
theorem step35 : k0_pay35 (F := Ideal) x3 x4 (val_main_v13 (F := Ideal) x0 x1) x7 x8
    = val_main_v85 (F := Ideal) x0 x1 x3 x4 x7 x8 := by
  simp only [k0_pay35, step27]
  rfl

/-- The kernel's value of step 36 is the reference's. -/
theorem step36 : k0_pay36 (F := Ideal) x3 x4 (val_main_v10 (F := Ideal) x0 x1 x2) (val_main_v13 (F := Ideal) x0 x1) x7 x8
    = val_main_v86 (F := Ideal) x0 x1 x2 x3 x4 x7 x8 := by
  simp only [k0_pay36, step35]
  rfl

/-- The kernel's value of step 37 is the reference's. -/
theorem step37 : k0_pay37 (F := Ideal) x1 (val_main_v80 (F := Ideal) x0 x1 x3 x4 x6 x7 x8) (val_main_v85 (F := Ideal) x0 x1 x3 x4 x7 x8)
    = val_main_v89 (F := Ideal) x0 x1 x3 x4 x6 x7 x8 := by
  simp only [k0_pay37]
  rfl

/-- The kernel's value of step 38 is the reference's. -/
theorem step38 : k0_pay38 (F := Ideal) x0 (val_main_v77 (F := Ideal) x0 x1 x3 x4 x5 x7 x8) (val_main_v85 (F := Ideal) x0 x1 x3 x4 x7 x8)
    = val_main_v93 (F := Ideal) x0 x1 x3 x4 x5 x7 x8 := by
  simp only [k0_pay38]
  rfl

/-- The kernel's value of step 39 is the reference's. -/
theorem step39 : k0_pay39 (F := Ideal) x1 (val_main_v2 (F := Ideal) x0 x2) (val_main_v9 (F := Ideal) x1 x2) (val_main_v80 (F := Ideal) x0 x1 x3 x4 x6 x7 x8) (val_main_v85 (F := Ideal) x0 x1 x3 x4 x7 x8)
    = val_main_v104 (F := Ideal) x0 x1 x2 x3 x4 x6 x7 x8 := by
  simp only [k0_pay39, step37]
  rfl

/-- The kernel's value of step 40 is the reference's. -/
theorem step40 : k0_pay40 (F := Ideal) x0 (val_main_v2 (F := Ideal) x0 x2) (val_main_v5 (F := Ideal) x1 x2) (val_main_v77 (F := Ideal) x0 x1 x3 x4 x5 x7 x8) (val_main_v85 (F := Ideal) x0 x1 x3 x4 x7 x8)
    = val_main_v112 (F := Ideal) x0 x1 x2 x3 x4 x5 x7 x8 := by
  simp only [k0_pay40, step38, turned_row]
  rfl

/-- The kernel's value of step 41 is the reference's. -/
theorem step41 : k0_pay41 (F := Ideal) x0 x1 (val_main_v0 (F := Ideal) x2) (val_main_v2 (F := Ideal) x0 x2) (val_main_v5 (F := Ideal) x1 x2) (val_main_v9 (F := Ideal) x1 x2) (val_main_v75 (F := Ideal) x0 x1 x2 x3 x4 x7 x8) (val_main_v77 (F := Ideal) x0 x1 x3 x4 x5 x7 x8) (val_main_v80 (F := Ideal) x0 x1 x3 x4 x6 x7 x8) (val_main_v84 (F := Ideal) x0 x1 x2 x3 x4 x7 x8) (val_main_v85 (F := Ideal) x0 x1 x3 x4 x7 x8) (val_main_v86 (F := Ideal) x0 x1 x2 x3 x4 x7 x8)
    = val_main_v116 (F := Ideal) x0 x1 x2 x3 x4 x5 x6 x7 x8 := by
  simp only [k0_pay41, step39, step40]
  rfl

/-- The kernel's value of step 42 is the reference's. -/
theorem step42 : k0_pay42 (F := Ideal) x0 x1 (val_main_v2 (F := Ideal) x0 x2) (val_main_v4 (F := Ideal) x1 x2) (val_main_v8 (F := Ideal) x1 x2) (val_main_v77 (F := Ideal) x0 x1 x3 x4 x5 x7 x8) (val_main_v80 (F := Ideal) x0 x1 x3 x4 x6 x7 x8) (val_main_v85 (F := Ideal) x0 x1 x3 x4 x7 x8)
    = val_main_v117 (F := Ideal) x0 x1 x2 x3 x4 x5 x6 x7 x8 := by
  simp only [k0_pay42, step37, step38]
  rfl

/-- The kernel's value of step 43 is the reference's. -/
theorem step43 : k0_pay43 (F := Ideal) x0 x1 (val_main_v0 (F := Ideal) x2) (val_main_v2 (F := Ideal) x0 x2) (val_main_v4 (F := Ideal) x1 x2) (val_main_v8 (F := Ideal) x1 x2) (val_main_v15 (F := Ideal) x0 x1 x2) (val_main_v77 (F := Ideal) x0 x1 x3 x4 x5 x7 x8) (val_main_v78 (F := Ideal) x0 x1 x2 x3 x4 x7 x8) (val_main_v80 (F := Ideal) x0 x1 x3 x4 x6 x7 x8) (val_main_v84 (F := Ideal) x0 x1 x2 x3 x4 x7 x8) (val_main_v85 (F := Ideal) x0 x1 x3 x4 x7 x8)
    = val_main_v121 (F := Ideal) x0 x1 x2 x3 x4 x5 x6 x7 x8 := by
  simp only [k0_pay43, step42]
  rfl

/-- The kernel's value of step 44 is the reference's. -/
theorem step44 : k0_pay44 (F := Ideal) x0 x1 (val_main_v0 (F := Ideal) x2) (val_main_v2 (F := Ideal) x0 x2) (val_main_v4 (F := Ideal) x1 x2) (val_main_v5 (F := Ideal) x1 x2) (val_main_v8 (F := Ideal) x1 x2) (val_main_v9 (F := Ideal) x1 x2) (val_main_v77 (F := Ideal) x0 x1 x3 x4 x5 x7 x8) (val_main_v80 (F := Ideal) x0 x1 x3 x4 x6 x7 x8) (val_main_v85 (F := Ideal) x0 x1 x3 x4 x7 x8)
    = val_main_v122 (F := Ideal) x0 x1 x2 x3 x4 x5 x6 x7 x8 := by
  simp only [k0_pay44, step39, step40, step42]
  rfl

/-- The gradient of the real exponents is the reference's. -/
theorem grad_re_of : Value.G9 (F := Ideal) x0 x1 x2 x3 x4 x5 x6 x7 x8 = val_main_v121 (F := Ideal) x0 x1 x2 x3 x4 x5 x6 x7 x8 := by
  unfold Value.G9
  unfold k0_pay58 k0_pay57 k0_pay56 k0_pay55 k0_pay52 k0_pay51 k0_pay49 k0_pay47 k0_pay46 k0_pay45
  simp only [ld_row, ld_rows]
  simp only [step1, step2, step3, step4, step5, step6, step7, step8, step9, step10, step11, step12, step13, step14, step15, step16, step17, step18, step19, step20, step21, step22, step23, step24, step25, step26, step27, step28, step29, step30, step31, step32, step33, step34, step35, step36, step37, step38, step39, step40, step41, step42, step43, step44]

/-- The gradient of the imaginary exponents is the reference's. -/
theorem grad_im_of : Value.G10 (F := Ideal) x0 x1 x2 x3 x4 x5 x6 x7 x8 = val_main_v116 (F := Ideal) x0 x1 x2 x3 x4 x5 x6 x7 x8 := by
  unfold Value.G10
  unfold k0_pay58 k0_pay57 k0_pay56 k0_pay55 k0_pay52 k0_pay51 k0_pay50 k0_pay48 k0_pay46 k0_pay45
  simp only [ld_row, ld_rows]
  simp only [step1, step2, step3, step4, step5, step6, step7, step8, step9, step10, step11, step12, step13, step14, step15, step16, step17, step18, step19, step20, step21, step22, step23, step24, step25, step26, step27, step28, step29, step30, step31, step32, step33, step34, step35, step36, step37, step38, step39, step40, step41, step42, step43, step44]

/-- The gradient of the logarithm of the step is the reference's. -/
theorem grad_dt_of : Value.G11 (F := Ideal) x0 x1 x2 x3 x4 x5 x6 x7 x8 = val_main_v122 (F := Ideal) x0 x1 x2 x3 x4 x5 x6 x7 x8 := by
  unfold Value.G11
  unfold k0_pay58 k0_pay56 k0_pay55 k0_pay52 k0_pay50 k0_pay49 k0_pay48 k0_pay47 k0_pay46 k0_pay45
  simp only [ld_row, ld_rows]
  simp only [step1, step2, step3, step4, step5, step6, step7, step8, step9, step10, step11, step12, step13, step14, step15, step16, step17, step18, step19, step20, step21, step22, step23, step24, step25, step26, step27, step28, step29, step30, step31, step32, step33, step34, step35, step36, step37, step38, step39, step40, step41, step42, step43, step44]

/-- The gradient of the real input weights is the reference's. -/
theorem grad_b_re_of : Value.G12 (F := Ideal) x0 x1 x2 x3 x4 x5 x6 x7 x8 = val_main_v65 (F := Ideal) x0 x1 x2 x7 x8 := by
  unfold Value.G12
  unfold k0_pay54 k0_pay53
  simp only [ld_row, ld_rows]
  simp only [step1, step2, step3, step4, step5, step6, step7, step8, step9, step10, step11, step12, step13, step14, step15, step16, step17, step18, step19, step20, step21, step22, step23, step24, step25, step26, step27, step28, step29, step30, step31, step32, step33, step34, step35, step36, step37, step38, step39, step40, step41, step42, step43, step44]

/-- The gradient of the imaginary input weights is the reference's. -/
theorem grad_b_im_of : Value.G13 (F := Ideal) x0 x1 x2 x3 x4 x5 x6 x7 x8 = val_main_v58 (F := Ideal) x0 x1 x2 x7 x8 := by
  unfold Value.G13
  unfold k0_pay54 k0_pay53
  simp only [ld_row, ld_rows]
  simp only [step1, step2, step3, step4, step5, step6, step7, step8, step9, step10, step11, step12, step13, step14, step15, step16, step17, step18, step19, step20, step21, step22, step23, step24, step25, step26, step27, step28, step29, step30, step31, step32, step33, step34, step35, step36, step37, step38, step39, step40, step41, step42, step43, step44]

/-- The gradient of the real exponents is the reference's. -/
theorem grad_re (c : Dev nD) : (dats (F := Ideal) m 0 c).arrAt 9 cfg0.N
    = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (Value.final9 (F := Ideal) m c).trans (grad_re_of (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg3)) (m ((c : Thread nD τ).loc main_arg4)) (m ((c : Thread nD τ).loc main_arg7)) (m ((c : Thread nD τ).loc main_arg8)))

/-- The gradient of the imaginary exponents is the reference's. -/
theorem grad_im (c : Dev nD) : (dats (F := Ideal) m 0 c).arrAt 10 cfg0.N
    = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (Value.final10 (F := Ideal) m c).trans (grad_im_of (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg3)) (m ((c : Thread nD τ).loc main_arg4)) (m ((c : Thread nD τ).loc main_arg7)) (m ((c : Thread nD τ).loc main_arg8)))

/-- The gradient of the logarithm of the step is the reference's. -/
theorem grad_dt (c : Dev nD) : (dats (F := Ideal) m 0 c).arrAt 11 cfg0.N
    = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (Value.final11 (F := Ideal) m c).trans (grad_dt_of (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg3)) (m ((c : Thread nD τ).loc main_arg4)) (m ((c : Thread nD τ).loc main_arg7)) (m ((c : Thread nD τ).loc main_arg8)))

/-- The gradient of the real input weights is the reference's. -/
theorem grad_b_re (c : Dev nD) : (dats (F := Ideal) m 0 c).arrAt 12 cfg0.N
    = val_main_v65 (F := Ideal) (m ((c : Thread nD τ).loc main_arg0)) (m ((c : Thread nD τ).loc main_arg1)) (m ((c : Thread nD τ).loc main_arg2)) (m ((c : Thread nD τ).loc main_arg7)) (m ((c : Thread nD τ).loc main_arg8)) :=
  (Value.final12 (F := Ideal) m c).trans (grad_b_re_of (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg3)) (m ((c : Thread nD τ).loc main_arg4)) (m ((c : Thread nD τ).loc main_arg7)) (m ((c : Thread nD τ).loc main_arg8)))

/-- The gradient of the imaginary input weights is the reference's. -/
theorem grad_b_im (c : Dev nD) : (dats (F := Ideal) m 0 c).arrAt 13 cfg0.N
    = val_main_v58 (F := Ideal) (m ((c : Thread nD τ).loc main_arg0)) (m ((c : Thread nD τ).loc main_arg1)) (m ((c : Thread nD τ).loc main_arg2)) (m ((c : Thread nD τ).loc main_arg7)) (m ((c : Thread nD τ).loc main_arg8)) :=
  (Value.final13 (F := Ideal) m c).trans (grad_b_im_of (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg3)) (m ((c : Thread nD τ).loc main_arg4)) (m ((c : Thread nD τ).loc main_arg7)) (m ((c : Thread nD τ).loc main_arg8)))

end Cert.DiscBwdIdeal.Rows

end
-- ==== Proof.DiscValue.lean ====
/-
The discretisation of the state space: the four arrays the kernel leaves are the reference's.
-/
module

public import Idealize.ShloMosaic.Lib.Pipeline.ValueKit
public import proofs.«01_k».proof.Proof.Gen.DiscIdeal.Value
public import proofs.«01_k».proof.Proof.Gen.DiscRefIdeal.Run
public import proofs.«01_k».proof.Proof.Gen.DiscRefIdeal.Read

@[expose] public section

set_option maxRecDepth 16384

noncomputable section

namespace Cert.DiscIdeal.Rows

open Idealize.ShloMosaic Idealize.ShloMosaic.TcCoe Idealize.SL.Sem
open Cert.DiscIdeal Cert.DiscIdeal.Gen
open Cert.DiscRefIdeal.Read

/-- A row of `4096` numbers. -/
abbrev Row : Type := (⟨S1x4096, .f32⟩ : BufTy).Contents (Elt Ideal)

/-- Sixteen rows of `4096` numbers. -/
abbrev Rows : Type := (⟨S16x4096, .f32⟩ : BufTy).Contents (Elt Ideal)

variable (m : (ℓ : Loc nD τ sig) → Buf (Elt Ideal) ℓ)

/-- A row written under itself sixteen times, in the kernel's words and in the reference's. -/
theorem spread (x : Row) : broadcastTo S16x4096 x broadcasts_S1x4096_S16x4096
    = broadcastInDim S16x4096 ![0, 1] Cert.DiscRefIdeal.Facts₀.bcast_S1x4096_S16x4096_0_1 x := by
  funext i
  pointwise []

variable (x0 x1 x2 : Row) (x3 x4 : Rows)

/-- The kernel's value of step 1 is the reference's. -/
theorem step1 : k0_pay1 (F := Ideal) x2
    = val_main_v0 (F := Ideal) x2 := by
  simp only [k0_pay1]
  rfl

/-- The kernel's value of step 2 is the reference's. -/
theorem step2 : k0_pay2 (F := Ideal) x0 x2
    = val_main_v2 (F := Ideal) x0 x2 := by
  simp only [k0_pay2, step1]
  rfl

/-- The kernel's value of step 3 is the reference's. -/
theorem step3 : k0_pay3 (F := Ideal) x0 x1 x2
    = val_main_v5 (F := Ideal) x0 x1 x2 := by
  simp only [k0_pay3, step1, step2]
  rfl

/-- The kernel's value of step 4 is the reference's. -/
theorem step4 : k0_pay4 (F := Ideal) x0 x1 x2
    = val_main_v8 (F := Ideal) x0 x1 x2 := by
  simp only [k0_pay4, step1, step2]
  rfl

/-- The kernel's value of step 5 is the reference's. -/
theorem step5 : k0_pay5 (F := Ideal) x0 x1
    = val_main_v11 (F := Ideal) x0 x1 := by
  simp only [k0_pay5]
  rfl

/-- The kernel's value of step 6 is the reference's. -/
theorem step6 : k0_pay6 (F := Ideal) x0 x1 x2
    = val_main_v17 (F := Ideal) x0 x1 x2 := by
  simp only [k0_pay6, step3, step4, step5]
  rfl

/-- The kernel's value of step 7 is the reference's. -/
theorem step7 : k0_pay7 (F := Ideal) x0 x1 x2
    = val_main_v23 (F := Ideal) x0 x1 x2 := by
  simp only [k0_pay7, step3, step4, step5]
  rfl

/-- The kernel's value of step 8 is the reference's. -/
theorem step8 : k0_pay8 (F := Ideal) x0 x1 x2 x3 x4
    = val_main_v28 (F := Ideal) x0 x1 x2 x3 x4 := by
  simp only [k0_pay8, step6, step7]
  exact congrArg₂ subf (congrArg₂ mulf (spread _) rfl) (congrArg₂ mulf (spread _) rfl)

/-- The kernel's value of step 9 is the reference's. -/
theorem step9 : k0_pay9 (F := Ideal) x0 x1 x2 x3 x4
    = val_main_v33 (F := Ideal) x0 x1 x2 x3 x4 := by
  simp only [k0_pay9, step6, step7]
  exact congrArg₂ addf (congrArg₂ mulf (spread _) rfl) (congrArg₂ mulf (spread _) rfl)

/-- The real part of the kept share is the reference's. -/
theorem growth_re_of : Value.G5 (F := Ideal) x0 x1 x2 x3 x4 = val_main_v5 (F := Ideal) x0 x1 x2 := by
  unfold Value.G5
  simp only [step1, step2, step3, step4, step5, step6, step7, step8, step9]

/-- The imaginary part of the kept share is the reference's. -/
theorem growth_im_of : Value.G6 (F := Ideal) x0 x1 x2 x3 x4 = val_main_v8 (F := Ideal) x0 x1 x2 := by
  unfold Value.G6
  simp only [step1, step2, step3, step4, step5, step6, step7, step8, step9]

/-- The real part of the input's weights is the reference's. -/
theorem input_re_of : Value.G7 (F := Ideal) x0 x1 x2 x3 x4 = val_main_v28 (F := Ideal) x0 x1 x2 x3 x4 := by
  unfold Value.G7
  simp only [step1, step2, step3, step4, step5, step6, step7, step8, step9]

/-- The imaginary part of the input's weights is the reference's. -/
theorem input_im_of : Value.G8 (F := Ideal) x0 x1 x2 x3 x4 = val_main_v33 (F := Ideal) x0 x1 x2 x3 x4 := by
  unfold Value.G8
  simp only [step1, step2, step3, step4, step5, step6, step7, step8, step9]

/-- The real part of the kept share is the reference's. -/
theorem growth_re (c : Dev nD) : (dats (F := Ideal) m 0 c).arrAt 5 cfg0.N
    = val_main_v5 (F := Ideal) (m ((c : Thread nD τ).loc main_arg0)) (m ((c : Thread nD τ).loc main_arg1)) (m ((c : Thread nD τ).loc main_arg2)) :=
  (Value.final5 (F := Ideal) m c).trans (growth_re_of (m ((c : Thread nD τ).loc main_arg0)) (m ((c : Thread nD τ).loc main_arg1)) (m ((c : Thread nD τ).loc main_arg2)) (m ((c : Thread nD τ).loc main_arg3)) (m ((c : Thread nD τ).loc main_arg4)))

/-- The imaginary part of the kept share is the reference's. -/
theorem growth_im (c : Dev nD) : (dats (F := Ideal) m 0 c).arrAt 6 cfg0.N
    = val_main_v8 (F := Ideal) (m ((c : Thread nD τ).loc main_arg0)) (m ((c : Thread nD τ).loc main_arg1)) (m ((c : Thread nD τ).loc main_arg2)) :=
  (Value.final6 (F := Ideal) m c).trans (growth_im_of (m ((c : Thread nD τ).loc main_arg0)) (m ((c : Thread nD τ).loc main_arg1)) (m ((c : Thread nD τ).loc main_arg2)) (m ((c : Thread nD τ).loc main_arg3)) (m ((c : Thread nD τ).loc main_arg4)))

/-- The real part of the input's weights is the reference's. -/
theorem input_re (c : Dev nD) : (dats (F := Ideal) m 0 c).arrAt 7 cfg0.N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Value.final7 (F := Ideal) m c).trans (input_re_of (m ((c : Thread nD τ).loc main_arg0)) (m ((c : Thread nD τ).loc main_arg1)) (m ((c : Thread nD τ).loc main_arg2)) (m ((c : Thread nD τ).loc main_arg3)) (m ((c : Thread nD τ).loc main_arg4)))

/-- The imaginary part of the input's weights is the reference's. -/
theorem input_im (c : Dev nD) : (dats (F := Ideal) m 0 c).arrAt 8 cfg0.N
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Value.final8 (F := Ideal) m c).trans (input_im_of (m ((c : Thread nD τ).loc main_arg0)) (m ((c : Thread nD τ).loc main_arg1)) (m ((c : Thread nD τ).loc main_arg2)) (m ((c : Thread nD τ).loc main_arg3)) (m ((c : Thread nD τ).loc main_arg4)))

end Cert.DiscIdeal.Rows

end
-- ==== Proof.FfnGateValue.lean ====
/-
The gate of the feed-forward network: a causal convolution of three rows, its sigmoid-weighted value times the other branch.
-/
module

public import Idealize.ShloMosaic.Lib.Pipeline.ValueKit
public import proofs.«01_k».proof.Proof.Sigmoid
public import proofs.«01_k».proof.Proof.Gen.FfnGateIdeal.Value
public import proofs.«01_k».proof.Proof.Gen.FfnGateRefIdeal.Run
public import proofs.«01_k».proof.Proof.Gen.FfnGateRefIdeal.Read

@[expose] public section

set_option maxRecDepth 16384

noncomputable section

namespace Cert.FfnGateIdeal.Rows

open Idealize.ShloMosaic Idealize.ShloMosaic.TcCoe Idealize.SL.Sem
open Cert.FfnGateIdeal Cert.FfnGateIdeal.Gen
open Cert.FfnGateRefIdeal.Read

variable (m : (ℓ : Loc nD τ sig) → Buf (Elt Ideal) ℓ)

open Cert.GatedConv

/-- The blocks a grid point reads and writes. -/
theorem windows_at : ∀ t : Fin cfg0.N, win0_0.index t = ![0, 0, t.val] ∧ win0_1.index t = ![0, t.val] ∧ win0_2.index t = ![0, t.val]
    ∧ win0_3.index t = ![0, t.val] :=
  (by decide +kernel : ∀ t : Fin grid0.N, _)

/-- One column of the result. -/
def gatedRow (K : Col) (r : ℕ) : EReal := K.conv r * Ideal.logistic (K.conv r) * K.u r

section

variable {K : Fin 128 → Col} {v0 v3 : Vec Ideal S1x4096x128 .bf16} {v12 v15 v19 v23 : Vec Ideal S1x128 .f32}

/-- A rotation by `s` rows below sixteen rows of zeros: the rows delayed by `s`. -/
theorem rotated_at (hg : ∀ (r : Fin 4096) l, v0 (ix3 0 r l) = (K l).g r.val) (r : Fin 4096) (l : Fin 128) (s : ℕ) (h0 : 0 < s) (hs : s ≤ 2)
    (hlt : ¬ (16 + r.val + 4112 - s) % 4112 < 16 → (16 + r.val + 4112 - s) % 4112 - 16 < 4096) :
    (if h : (16 + r.val + 4112 - s) % 4112 < 16 then (0 : EReal) else v0 (ix3 0 ⟨(16 + r.val + 4112 - s) % 4112 - 16, hlt h⟩ l))
      = delay s (K l).g r.val := by
  have e : (16 + r.val + 4112 - s) % 4112 = 16 + r.val - s := by omega
  unfold delay
  by_cases hr : r.val < s
  · rw [dif_pos (by omega), if_pos hr]
  · rw [dif_neg (by omega), if_neg hr, hg]
    congr 1
    show (16 + r.val + 4112 - s) % 4112 - 16 = _
    omega

/-- What a point computes, when the vectors it loads hold the columns `K`. -/
theorem pay_at (hg : ∀ (r : Fin 4096) l, v0 (ix3 0 r l) = (K l).g r.val) (hu : ∀ (r : Fin 4096) l, v3 (ix3 0 r l) = (K l).u r.val)
    (h0 : ∀ l, v12 (ix2 0 l) = (K l).w0) (h1 : ∀ l, v15 (ix2 0 l) = (K l).w1) (h2 : ∀ l, v19 (ix2 0 l) = (K l).w2)
    (hb : ∀ l, v23 (ix2 0 l) = (K l).b) (r : Fin 4096) (l : Fin 128) :
    k0_pay1 v0 v3 v12 v15 v19 v23 (ix2 r l) = gatedRow (K l) r.val := by
  unfold gatedRow Col.conv
  rw [← sig_eq]
  pointwise [k0_pay1]
  rw [rotated_at hg r l 1 (by omega) (by omega) (by omega), rotated_at hg r l 2 (by omega) (by omega) (by omega), h0, h1, h2, hb, hu, hg]
  rfl

end

variable (x0 : (⟨S2x4096x2816, .bf16⟩ : BufTy).Contents (Elt Ideal))
  (x2 : (⟨S3x2816, .f32⟩ : BufTy).Contents (Elt Ideal)) (x3 : (⟨S1x2816, .f32⟩ : BufTy).Contents (Elt Ideal))
  (r : Fin 4096) (l : Fin 2816)

/-- A column of the arrays. -/
abbrev column : Col := col x0 (fun _ => 0) x2 x3 l

/-- The gate's branch of the reference. -/
theorem gate_at : val_main_v2 (F := Ideal) x0 (ix2 r l) = (column x0 x2 x3 l).g r := by
  rw [column, col_g x0 _ x2 x3 l r.isLt]
  pointwise [val_main_v2, val_main_v1, val_main_v0]

/-- The other branch of the reference. -/
theorem other_at : val_main_v4 (F := Ideal) x0 (ix2 r l) = (column x0 x2 x3 l).u r := by
  rw [column, col_u x0 _ x2 x3 l r.isLt]
  pointwise [val_main_v4, val_main_v3, val_main_v0]

/-- The gate's rows below two rows of zeros, from one of the first three rows on. -/
theorem padded_at (y : (⟨S4096x2816, .f32⟩ : BufTy).Contents (Elt Ideal)) (g : ℕ → EReal)
    (h : ∀ r : Fin 4096, y (ix2 r l) = g r) (s : ℕ) (hs : s ≤ 2) (z : EReal) (hz : z = 0)
    (hlt : ¬ r.val + (2 - s) < 2 → r.val + (2 - s) - 2 < 4096) :
    (if hr : r.val + (2 - s) < 2 then z else y (ix2 ⟨r.val + (2 - s) - 2, hlt hr⟩ l)) = delay s g r.val := by
  unfold delay
  by_cases hr : r.val + (2 - s) < 2
  · rw [dif_pos hr, if_pos (by omega), hz]
  · rw [dif_neg hr, if_neg (by omega), h]
    congr 1
    show r.val + (2 - s) - 2 = _
    omega

/-- The reference's gate delayed by two rows. -/
theorem delay2_at : val_main_v7 (F := Ideal) x0 (ix2 r l) = delay 2 (column x0 x2 x3 l).g r := by
  have h := gate_at x0 x2 x3 (l := l)
  unfold val_main_v7 val_main_v6
  generalize val_main_v2 (F := Ideal) x0 = y at h ⊢
  refine Eq.trans ?_ (padded_at r l y _ h 2 le_rfl (val_main_cst (F := Ideal) ix0) (by pointwise [val_main_cst]) (by omega))
  pointwise [val_main_v5]

/-- The reference's gate delayed by one row. -/
theorem delay1_at : val_main_v11 (F := Ideal) x0 (ix2 r l) = delay 1 (column x0 x2 x3 l).g r := by
  have h := gate_at x0 x2 x3 (l := l)
  unfold val_main_v11 val_main_v6
  generalize val_main_v2 (F := Ideal) x0 = y at h ⊢
  refine Eq.trans ?_ (padded_at r l y _ h 1 (by omega) (val_main_cst (F := Ideal) ix0) (by pointwise [val_main_cst]) (by omega))
  pointwise [val_main_v5]
  simp only [Nat.add_comm 1 r.val]

/-- The reference's gate, not delayed. -/
theorem delay0_at : val_main_v16 (F := Ideal) x0 (ix2 r l) = (column x0 x2 x3 l).g r := by
  have h := gate_at x0 x2 x3 (l := l)
  unfold val_main_v16 val_main_v6
  generalize val_main_v2 (F := Ideal) x0 = y at h ⊢
  refine Eq.trans ?_ ((padded_at r l y _ h 0 (by omega) (val_main_cst (F := Ideal) ix0) (by pointwise [val_main_cst]) (by omega)).trans
    (delay_zero _ _))
  pointwise [val_main_v5]
  rw [dif_neg (by omega)]
  rfl

/-- The reference's convolution. -/
theorem conv_at : val_main_v22 (F := Ideal) x0 x2 x3 (ix2 r l) = (column x0 x2 x3 l).conv r := by
  have h7 := delay2_at x0 x2 x3 r l
  have h11 := delay1_at x0 x2 x3 r l
  have h16 := delay0_at x0 x2 x3 r l
  unfold val_main_v22 val_main_v20 val_main_v15 val_main_v10 val_main_v14 val_main_v19
  generalize val_main_v7 (F := Ideal) x0 = y7 at h7 ⊢
  generalize val_main_v11 (F := Ideal) x0 = y11 at h11 ⊢
  generalize val_main_v16 (F := Ideal) x0 = y16 at h16 ⊢
  pointwise [val_main_v8, val_main_v9, val_main_v12, val_main_v13, val_main_v17, val_main_v18, val_main_v21]
  rw [h7, h11, h16]
  unfold Col.conv
  rw [mul_comm (delay 2 _ _), mul_comm (delay 1 _ _), mul_comm ((column x0 x2 x3 l).g _)]
  rfl

/-- The reference's result, column by column. -/
theorem ref_at : val_main_v25 (F := Ideal) x0 x2 x3 (ix2 r l) = gatedRow (column x0 x2 x3 l) r := by
  have h := conv_at x0 x2 x3 r l
  have h4 := other_at x0 x2 x3 r l
  unfold val_main_v25 val_main_v24 val_main_v23 val_main_call0_v5 val_main_call0_v3 val_main_call0_v1 val_main_call0_v0
  generalize val_main_v22 (F := Ideal) x0 x2 x3 = y at h ⊢
  generalize val_main_v4 (F := Ideal) x0 = z at h4 ⊢
  pointwise [val_main_call0_v4, val_main_call0_cst_0, val_main_call0_v2, val_main_call0_cst]
  rw [h, h4]
  rfl

/-- The columns of a point's blocks are columns of the arrays. -/
theorem lane_lt (t : Fin cfg0.N) (l : Fin 128) : 128 * t.val + l.val < 2816 := by
  have h := lt_of_lt_of_eq t.isLt N_0
  have := l.isLt
  omega

/-- The kernel's result array is the reference's. -/
theorem gated (c : Dev nD) : (dats (F := Ideal) m 0 c).arrAt 3 cfg0.N
    = val_main_v25 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := windows_at t
  blk_simp
  rw [after0_3]
  frame_out
  rw [← ix2_eta y]
  refine (pay_at (K := fun l => column (m ((c : Thread nD τ).loc main_arg0)) (m ((c : Thread nD τ).loc main_arg1))
    (m ((c : Thread nD τ).loc main_arg2)) ⟨128 * t.val + l.val, lane_lt t l⟩) ?_ ?_ ?_ ?_ ?_ ?_ (y 0) (y 1)).trans
    (Eq.trans (ref_at _ _ _ (y 0) ⟨128 * t.val + (y 1).val, lane_lt t (y 1)⟩).symm ?_)
  · intro r l
    rw [column, col_g _ _ _ _ _ r.isLt]
    blk_point [iblk, V, e0]
  · intro r l
    rw [column, col_u _ _ _ _ _ r.isLt]
    blk_point [iblk, V, e0]
  · intro l
    show _ = m ((c : Thread nD τ).loc main_arg1) (ix2 0 _)
    blk_point [iblk, V, e1]
  · intro l
    show _ = m ((c : Thread nD τ).loc main_arg1) (ix2 1 _)
    blk_point [iblk, V, e1]
  · intro l
    show _ = m ((c : Thread nD τ).loc main_arg1) (ix2 2 _)
    blk_point [iblk, V, e1]
  · intro l
    show _ = m ((c : Thread nD τ).loc main_arg2) (ix2 0 _)
    blk_point [iblk, V, e2]
  · congr 1
    blk_ext [e3]

end Cert.FfnGateIdeal.Rows

end
-- ==== Proof.LayerClaims.lean ====
/-
For each further call of the layers and of the loss, what the certificate states of it: kernel and reference leave the same
arrays, and the reference keeps its arguments.
-/
module

public import proofs.«01_k».proof.Defs
public import proofs.«01_k».proof.Proof.GluBwdValue
public import proofs.«01_k».proof.Proof.GluFwdValue
public import proofs.«01_k».proof.Proof.NormFirstValue
public import proofs.«01_k».proof.Proof.NormAddValue
public import proofs.«01_k».proof.Proof.NormTwoValue
public import proofs.«01_k».proof.Proof.NormFirstDxValue
public import proofs.«01_k».proof.Proof.NormAddDxValue
public import proofs.«01_k».proof.Proof.NormTwoDxValue
public import proofs.«01_k».proof.Proof.LossHeadValue
public import proofs.«01_k».proof.Proof.DiscBwdValue
public import proofs.«01_k».proof.Proof.DiscValue
public import proofs.«01_k».proof.Proof.FfnGateValue
public import Idealize.ShloMosaic.Adequacy
public import Idealize.ShloMosaic.Init

@[expose] public section

noncomputable section

namespace Cert.Proof

open Idealize.ShloMosaic Idealize.ShloMosaic.TcCoe Idealize.SL.Sem

/-- Kernel and reference leave the same: the gated unit's gradient. -/
theorem gluBwd_same : Cert.algebraic_GluBwdIdeal_GluBwdRefIdeal := by
  intro m ρ m' ρ' _ hagree
  refine ⟨fun c => Cert.GluBwdRefIdeal.Read.val_main_v18 (F := Ideal) (m ((c.tc : Thread _ _).loc Cert.GluBwdIdeal.main_arg0)) (m ((c.tc : Thread _ _).loc Cert.GluBwdIdeal.main_arg1)), ?_, ?_⟩
  · exact (θ_run Cert.GluBwdIdeal.defs _ _).mono (fun r h c => ⟨(h c).1.trans (Cert.GluBwdIdeal.Rows.gated_grad m c), (h c).2⟩)
      (Cert.GluBwdIdeal.Value.run_blocks (F := Ideal) m ρ)
  · refine (θ_run Cert.GluBwdRefIdeal.defs _ _).mono (fun r h c => ⟨(h c).1.trans ?_, (h c).2⟩)
      (Cert.GluBwdRefIdeal.Value.run (F := Ideal) m' ρ')
    · rw [Cert.GluBwdRefIdeal.Read.val_main_v18_eq, (hagree c).1, (hagree c).2]

/-- The reference keeps its arguments; it has no semaphore. -/
theorem gluBwd_reference_frame : Cert.quiescent_GluBwdRefIdeal := fun m ρ _ =>
  (θ_run Cert.GluBwdRefIdeal.defs _ _).mono (fun r h => ⟨fun c => (h c).2, sem_eq_zero_of_no_sems (by decide) r.2⟩)
    (Cert.GluBwdRefIdeal.Value.run (F := Ideal) m ρ)

/-- Kernel and reference leave the same: the gated unit. -/
theorem gluFwd_same : Cert.algebraic_GluFwdIdeal_GluFwdRefIdeal := by
  intro m ρ m' ρ' _ hagree
  refine ⟨fun c => Cert.GluFwdRefIdeal.Read.val_main_v8 (F := Ideal) (m ((c.tc : Thread _ _).loc Cert.GluFwdIdeal.main_arg0)), ?_, ?_⟩
  · exact (θ_run Cert.GluFwdIdeal.defs _ _).mono (fun r h c => ⟨(h c).1.trans (Cert.GluFwdIdeal.Rows.gated m c), (h c).2⟩)
      (Cert.GluFwdIdeal.Value.run_blocks (F := Ideal) m ρ)
  · refine (θ_run Cert.GluFwdRefIdeal.defs _ _).mono (fun r h c => ⟨(h c).1.trans ?_, (h c).2⟩)
      (Cert.GluFwdRefIdeal.Value.run (F := Ideal) m' ρ')
    · rw [Cert.GluFwdRefIdeal.Read.val_main_v8_eq, (hagree c)]

/-- The reference keeps its arguments; it has no semaphore. -/
theorem gluFwd_reference_frame : Cert.quiescent_GluFwdRefIdeal := fun m ρ _ =>
  (θ_run Cert.GluFwdRefIdeal.defs _ _).mono (fun r h => ⟨fun c => (h c).2, sem_eq_zero_of_no_sems (by decide) r.2⟩)
    (Cert.GluFwdRefIdeal.Value.run (F := Ideal) m ρ)

/-- Kernel and reference leave the same: the first norm. -/
theorem normFirst_same : Cert.algebraic_NormFirstIdeal_NormFirstRefIdeal := by
  intro m ρ m' ρ' _ hagree
  refine ⟨fun c => Cert.NormFirstRefIdeal.Read.val_main_v13 (F := Ideal) (m ((c.tc : Thread _ _).loc Cert.NormFirstIdeal.main_arg0)) (m ((c.tc : Thread _ _).loc Cert.NormFirstIdeal.main_arg1)), ?_, ?_⟩
  · exact (θ_run Cert.NormFirstIdeal.defs _ _).mono (fun r h c => ⟨(h c).1.trans (Cert.NormFirstIdeal.Rows.normed m c), (h c).2⟩)
      (Cert.NormFirstIdeal.Value.run_blocks (F := Ideal) m ρ)
  · refine (θ_run Cert.NormFirstRefIdeal.defs _ _).mono (fun r h c => ⟨(h c).1.trans ?_, (h c).2⟩)
      (Cert.NormFirstRefIdeal.Value.run (F := Ideal) m' ρ')
    · rw [Cert.NormFirstRefIdeal.Read.val_main_v13_eq, (hagree c).1, (hagree c).2]

/-- The reference keeps its arguments; it has no semaphore. -/
theorem normFirst_reference_frame : Cert.quiescent_NormFirstRefIdeal := fun m ρ _ =>
  (θ_run Cert.NormFirstRefIdeal.defs _ _).mono (fun r h => ⟨fun c => (h c).2, sem_eq_zero_of_no_sems (by decide) r.2⟩)
    (Cert.NormFirstRefIdeal.Value.run (F := Ideal) m ρ)

/-- Kernel and reference leave the same: the residual stream and its norm. -/
theorem normAdd_same : Cert.algebraic_NormAddIdeal_NormAddRefIdeal := by
  intro m ρ m' ρ' _ hagree
  refine ⟨fun c => Cert.NormAddRefIdeal.Read.val_main_v0 (F := Ideal) (m ((c.tc : Thread _ _).loc Cert.NormAddIdeal.main_arg0)) (m ((c.tc : Thread _ _).loc Cert.NormAddIdeal.main_arg1)),
    fun c => Cert.NormAddRefIdeal.Read.val_main_v15 (F := Ideal) (m ((c.tc : Thread _ _).loc Cert.NormAddIdeal.main_arg0)) (m ((c.tc : Thread _ _).loc Cert.NormAddIdeal.main_arg1)) (m ((c.tc : Thread _ _).loc Cert.NormAddIdeal.main_arg2)), ?_, ?_⟩
  · exact (θ_run Cert.NormAddIdeal.defs _ _).mono (fun r h c => ⟨(h c).1.trans (Cert.NormAddIdeal.Rows.stream m c), (h c).2.1.trans (Cert.NormAddIdeal.Rows.normed m c), (h c).2.2⟩)
      (Cert.NormAddIdeal.Value.run_blocks (F := Ideal) m ρ)
  · refine (θ_run Cert.NormAddRefIdeal.defs _ _).mono (fun r h c => ⟨(h c).1.trans ?_, (h c).2.1.trans ?_, (h c).2.2⟩)
      (Cert.NormAddRefIdeal.Value.run (F := Ideal) m' ρ')
    · rw [Cert.NormAddRefIdeal.Read.val_main_v0_eq, (hagree c).1, (hagree c).2.1]
    · rw [Cert.NormAddRefIdeal.Read.val_main_v15_eq, (hagree c).1, (hagree c).2.1, (hagree c).2.2]

/-- The reference keeps its arguments; it has no semaphore. -/
theorem normAdd_reference_frame : Cert.quiescent_NormAddRefIdeal := fun m ρ _ =>
  (θ_run Cert.NormAddRefIdeal.defs _ _).mono (fun r h => ⟨fun c => (h c).2.2, sem_eq_zero_of_no_sems (by decide) r.2⟩)
    (Cert.NormAddRefIdeal.Value.run (F := Ideal) m ρ)

/-- Kernel and reference leave the same: the residual stream and its two norms. -/
theorem normTwo_same : Cert.algebraic_NormTwoIdeal_NormTwoRefIdeal := by
  intro m ρ m' ρ' _ hagree
  refine ⟨fun c => Cert.NormTwoRefIdeal.Read.val_main_v0 (F := Ideal) (m ((c.tc : Thread _ _).loc Cert.NormTwoIdeal.main_arg0)) (m ((c.tc : Thread _ _).loc Cert.NormTwoIdeal.main_arg1)),
    fun c => Cert.NormTwoRefIdeal.Read.val_main_v15 (F := Ideal) (m ((c.tc : Thread _ _).loc Cert.NormTwoIdeal.main_arg0)) (m ((c.tc : Thread _ _).loc Cert.NormTwoIdeal.main_arg1)) (m ((c.tc : Thread _ _).loc Cert.NormTwoIdeal.main_arg2)),
    fun c => Cert.NormTwoRefIdeal.Read.val_main_v30 (F := Ideal) (m ((c.tc : Thread _ _).loc Cert.NormTwoIdeal.main_arg0)) (m ((c.tc : Thread _ _).loc Cert.NormTwoIdeal.main_arg1)) (m ((c.tc : Thread _ _).loc Cert.NormTwoIdeal.main_arg3)), ?_, ?_⟩
  · exact (θ_run Cert.NormTwoIdeal.defs _ _).mono (fun r h c => ⟨(h c).1.trans (Cert.NormTwoIdeal.Rows.stream m c), (h c).2.1.trans (Cert.NormTwoIdeal.Rows.normed m c), (h c).2.2.1.trans (Cert.NormTwoIdeal.Rows.normed_other m c), (h c).2.2.2⟩)
      (Cert.NormTwoIdeal.Value.run_blocks (F := Ideal) m ρ)
  · refine (θ_run Cert.NormTwoRefIdeal.defs _ _).mono (fun r h c => ⟨(h c).1.trans ?_, (h c).2.1.trans ?_, (h c).2.2.1.trans ?_, (h c).2.2.2⟩)
      (Cert.NormTwoRefIdeal.Value.run (F := Ideal) m' ρ')
    · rw [Cert.NormTwoRefIdeal.Read.val_main_v0_eq, (hagree c).1, (hagree c).2.1]
    · rw [Cert.NormTwoRefIdeal.Read.val_main_v15_eq, (hagree c).1, (hagree c).2.1, (hagree c).2.2.1]
    · rw [Cert.NormTwoRefIdeal.Read.val_main_v30_eq, (hagree c).1, (hagree c).2.1, (hagree c).2.2.2]

/-- The reference keeps its arguments; it has no semaphore. -/
theorem normTwo_reference_frame : Cert.quiescent_NormTwoRefIdeal := fun m ρ _ =>
  (θ_run Cert.NormTwoRefIdeal.defs _ _).mono (fun r h => ⟨fun c => (h c).2.2.2, sem_eq_zero_of_no_sems (by decide) r.2⟩)
    (Cert.NormTwoRefIdeal.Value.run (F := Ideal) m ρ)

/-- Kernel and reference leave the same: the first norm's gradients. -/
theorem normFirstDx_same : Cert.algebraic_NormFirstDxIdeal_NormFirstDxRefIdeal := by
  intro m ρ m' ρ' _ hagree
  refine ⟨fun c => Cert.NormFirstDxRefIdeal.Read.val_main_v36 (F := Ideal) (m ((c.tc : Thread _ _).loc Cert.NormFirstDxIdeal.main_arg0)) (m ((c.tc : Thread _ _).loc Cert.NormFirstDxIdeal.main_arg1)) (m ((c.tc : Thread _ _).loc Cert.NormFirstDxIdeal.main_arg2)) (m ((c.tc : Thread _ _).loc Cert.NormFirstDxIdeal.main_arg3)),
    fun c => Cert.NormFirstDxRefIdeal.Read.val_main_v37 (F := Ideal) (m ((c.tc : Thread _ _).loc Cert.NormFirstDxIdeal.main_arg0)) (m ((c.tc : Thread _ _).loc Cert.NormFirstDxIdeal.main_arg3)), ?_, ?_⟩
  · exact (θ_run Cert.NormFirstDxIdeal.defs _ _).mono (fun r h c => ⟨(h c).1.trans (Cert.NormFirstDxIdeal.Rows.rows_grad m c), (h c).2.1.trans (Cert.NormFirstDxIdeal.Rows.gain_grad m c), (h c).2.2⟩)
      (Cert.NormFirstDxIdeal.Value.run_blocks (F := Ideal) m ρ)
  · refine (θ_run Cert.NormFirstDxRefIdeal.defs _ _).mono (fun r h c => ⟨(h c).1.trans ?_, (h c).2.1.trans ?_, (h c).2.2⟩)
      (Cert.NormFirstDxRefIdeal.Value.run (F := Ideal) m' ρ')
    · rw [Cert.NormFirstDxRefIdeal.Read.val_main_v36_eq, (hagree c).1, (hagree c).2.1, (hagree c).2.2.1, (hagree c).2.2.2]
    · rw [Cert.NormFirstDxRefIdeal.Read.val_main_v37_eq, (hagree c).1, (hagree c).2.2.2]

/-- The reference keeps its arguments; it has no semaphore. -/
theorem normFirstDx_reference_frame : Cert.quiescent_NormFirstDxRefIdeal := fun m ρ _ =>
  (θ_run Cert.NormFirstDxRefIdeal.defs _ _).mono (fun r h => ⟨fun c => (h c).2.2, sem_eq_zero_of_no_sems (by decide) r.2⟩)
    (Cert.NormFirstDxRefIdeal.Value.run (F := Ideal) m ρ)

/-- Kernel and reference leave the same: the norm's gradients. -/
theorem normAddDx_same : Cert.algebraic_NormAddDxIdeal_NormAddDxRefIdeal := by
  intro m ρ m' ρ' _ hagree
  refine ⟨fun c => Cert.NormAddDxRefIdeal.Read.val_main_v36 (F := Ideal) (m ((c.tc : Thread _ _).loc Cert.NormAddDxIdeal.main_arg0)) (m ((c.tc : Thread _ _).loc Cert.NormAddDxIdeal.main_arg1)) (m ((c.tc : Thread _ _).loc Cert.NormAddDxIdeal.main_arg2)) (m ((c.tc : Thread _ _).loc Cert.NormAddDxIdeal.main_arg3)),
    fun c => Cert.NormAddDxRefIdeal.Read.val_main_v37 (F := Ideal) (m ((c.tc : Thread _ _).loc Cert.NormAddDxIdeal.main_arg0)) (m ((c.tc : Thread _ _).loc Cert.NormAddDxIdeal.main_arg3)),
    fun c => Cert.NormAddDxRefIdeal.Read.val_main_v38 (F := Ideal) (m ((c.tc : Thread _ _).loc Cert.NormAddDxIdeal.main_arg0)) (m ((c.tc : Thread _ _).loc Cert.NormAddDxIdeal.main_arg1)) (m ((c.tc : Thread _ _).loc Cert.NormAddDxIdeal.main_arg2)) (m ((c.tc : Thread _ _).loc Cert.NormAddDxIdeal.main_arg3)), ?_, ?_⟩
  · exact (θ_run Cert.NormAddDxIdeal.defs _ _).mono (fun r h c => ⟨(h c).1.trans (Cert.NormAddDxIdeal.Rows.rows_grad m c), (h c).2.1.trans (Cert.NormAddDxIdeal.Rows.gain_grad m c), (h c).2.2.1.trans (Cert.NormAddDxIdeal.Rows.rows_copy m c), (h c).2.2.2⟩)
      (Cert.NormAddDxIdeal.Value.run_blocks (F := Ideal) m ρ)
  · refine (θ_run Cert.NormAddDxRefIdeal.defs _ _).mono (fun r h c => ⟨(h c).1.trans ?_, (h c).2.1.trans ?_, (h c).2.2.1.trans ?_, (h c).2.2.2⟩)
      (Cert.NormAddDxRefIdeal.Value.run (F := Ideal) m' ρ')
    · rw [Cert.NormAddDxRefIdeal.Read.val_main_v36_eq, (hagree c).1, (hagree c).2.1, (hagree c).2.2.1, (hagree c).2.2.2]
    · rw [Cert.NormAddDxRefIdeal.Read.val_main_v37_eq, (hagree c).1, (hagree c).2.2.2]
    · rw [Cert.NormAddDxRefIdeal.Read.val_main_v38_eq, (hagree c).1, (hagree c).2.1, (hagree c).2.2.1, (hagree c).2.2.2]

/-- The reference keeps its arguments; it has no semaphore. -/
theorem normAddDx_reference_frame : Cert.quiescent_NormAddDxRefIdeal := fun m ρ _ =>
  (θ_run Cert.NormAddDxRefIdeal.defs _ _).mono (fun r h => ⟨fun c => (h c).2.2.2, sem_eq_zero_of_no_sems (by decide) r.2⟩)
    (Cert.NormAddDxRefIdeal.Value.run (F := Ideal) m ρ)

/-- Kernel and reference leave the same: the two norms' gradients. -/
theorem normTwoDx_same : Cert.algebraic_NormTwoDxIdeal_NormTwoDxRefIdeal := by
  intro m ρ m' ρ' _ hagree
  refine ⟨fun c => Cert.NormTwoDxRefIdeal.Read.val_main_v73 (F := Ideal) (m ((c.tc : Thread _ _).loc Cert.NormTwoDxIdeal.main_arg0)) (m ((c.tc : Thread _ _).loc Cert.NormTwoDxIdeal.main_arg1)) (m ((c.tc : Thread _ _).loc Cert.NormTwoDxIdeal.main_arg2)) (m ((c.tc : Thread _ _).loc Cert.NormTwoDxIdeal.main_arg3)) (m ((c.tc : Thread _ _).loc Cert.NormTwoDxIdeal.main_arg4)) (m ((c.tc : Thread _ _).loc Cert.NormTwoDxIdeal.main_arg5)),
    fun c => Cert.NormTwoDxRefIdeal.Read.val_main_v74 (F := Ideal) (m ((c.tc : Thread _ _).loc Cert.NormTwoDxIdeal.main_arg0)) (m ((c.tc : Thread _ _).loc Cert.NormTwoDxIdeal.main_arg3)),
    fun c => Cert.NormTwoDxRefIdeal.Read.val_main_v75 (F := Ideal) (m ((c.tc : Thread _ _).loc Cert.NormTwoDxIdeal.main_arg0)) (m ((c.tc : Thread _ _).loc Cert.NormTwoDxIdeal.main_arg5)),
    fun c => Cert.NormTwoDxRefIdeal.Read.val_main_v76 (F := Ideal) (m ((c.tc : Thread _ _).loc Cert.NormTwoDxIdeal.main_arg0)) (m ((c.tc : Thread _ _).loc Cert.NormTwoDxIdeal.main_arg1)) (m ((c.tc : Thread _ _).loc Cert.NormTwoDxIdeal.main_arg2)) (m ((c.tc : Thread _ _).loc Cert.NormTwoDxIdeal.main_arg3)) (m ((c.tc : Thread _ _).loc Cert.NormTwoDxIdeal.main_arg4)) (m ((c.tc : Thread _ _).loc Cert.NormTwoDxIdeal.main_arg5)), ?_, ?_⟩
  · exact (θ_run Cert.NormTwoDxIdeal.defs _ _).mono (fun r h c => ⟨(h c).1.trans (Cert.NormTwoDxIdeal.Rows.rows_grad m c), (h c).2.1.trans (Cert.NormTwoDxIdeal.Rows.gain_grad m c), (h c).2.2.1.trans (Cert.NormTwoDxIdeal.Rows.gain_grad_other m c), (h c).2.2.2.1.trans (Cert.NormTwoDxIdeal.Rows.rows_copy m c), (h c).2.2.2.2⟩)
      (Cert.NormTwoDxIdeal.Value.run_blocks (F := Ideal) m ρ)
  · refine (θ_run Cert.NormTwoDxRefIdeal.defs _ _).mono (fun r h c => ⟨(h c).1.trans ?_, (h c).2.1.trans ?_, (h c).2.2.1.trans ?_, (h c).2.2.2.1.trans ?_, (h c).2.2.2.2⟩)
      (Cert.NormTwoDxRefIdeal.Value.run (F := Ideal) m' ρ')
    · rw [Cert.NormTwoDxRefIdeal.Read.val_main_v73_eq, (hagree c).1, (hagree c).2.1, (hagree c).2.2.1, (hagree c).2.2.2.1, (hagree c).2.2.2.2.1, (hagree c).2.2.2.2.2]
    · rw [Cert.NormTwoDxRefIdeal.Read.val_main_v74_eq, (hagree c).1, (hagree c).2.2.2.1]
    · rw [Cert.NormTwoDxRefIdeal.Read.val_main_v75_eq, (hagree c).1, (hagree c).2.2.2.2.2]
    · rw [Cert.NormTwoDxRefIdeal.Read.val_main_v76_eq, (hagree c).1, (hagree c).2.1, (hagree c).2.2.1, (hagree c).2.2.2.1, (hagree c).2.2.2.2.1, (hagree c).2.2.2.2.2]

/-- The reference keeps its arguments; it has no semaphore. -/
theorem normTwoDx_reference_frame : Cert.quiescent_NormTwoDxRefIdeal := fun m ρ _ =>
  (θ_run Cert.NormTwoDxRefIdeal.defs _ _).mono (fun r h => ⟨fun c => (h c).2.2.2.2, sem_eq_zero_of_no_sems (by decide) r.2⟩)
    (Cert.NormTwoDxRefIdeal.Value.run (F := Ideal) m ρ)

/-- Kernel and reference leave the same: the loss and the gradients of its norm. -/
theorem lossHead_same : Cert.algebraic_LossHeadIdeal_LossHeadRefIdeal := by
  intro m ρ m' ρ' _ hagree
  refine ⟨fun c => Cert.LossHeadRefIdeal.Read.val_main_v52 (F := Ideal) (m ((c.tc : Thread _ _).loc Cert.LossHeadIdeal.main_arg0)) (m ((c.tc : Thread _ _).loc Cert.LossHeadIdeal.main_arg1)) (m ((c.tc : Thread _ _).loc Cert.LossHeadIdeal.main_arg2)) (m ((c.tc : Thread _ _).loc Cert.LossHeadIdeal.main_arg3)),
    fun c => Cert.LossHeadRefIdeal.Read.val_main_v51 (F := Ideal) (m ((c.tc : Thread _ _).loc Cert.LossHeadIdeal.main_arg0)) (m ((c.tc : Thread _ _).loc Cert.LossHeadIdeal.main_arg1)) (m ((c.tc : Thread _ _).loc Cert.LossHeadIdeal.main_arg2)) (m ((c.tc : Thread _ _).loc Cert.LossHeadIdeal.main_arg3)),
    fun c => Cert.LossHeadRefIdeal.Read.val_main_v53 (F := Ideal) (m ((c.tc : Thread _ _).loc Cert.LossHeadIdeal.main_arg0)) (m ((c.tc : Thread _ _).loc Cert.LossHeadIdeal.main_arg1)) (m ((c.tc : Thread _ _).loc Cert.LossHeadIdeal.main_arg2)) (m ((c.tc : Thread _ _).loc Cert.LossHeadIdeal.main_arg3)),
    fun c => Cert.LossHeadRefIdeal.Read.val_main_v54 (F := Ideal) (m ((c.tc : Thread _ _).loc Cert.LossHeadIdeal.main_arg0)) (m ((c.tc : Thread _ _).loc Cert.LossHeadIdeal.main_arg1)) (m ((c.tc : Thread _ _).loc Cert.LossHeadIdeal.main_arg2)) (m ((c.tc : Thread _ _).loc Cert.LossHeadIdeal.main_arg3)), ?_, ?_⟩
  · exact (θ_run Cert.LossHeadIdeal.defs _ _).mono (fun r h c => ⟨(h c).1.trans (Cert.LossHeadIdeal.Rows.loss m c), (h c).2.1.trans (Cert.LossHeadIdeal.Rows.rows_grad m c), (h c).2.2.1.trans (Cert.LossHeadIdeal.Rows.gain_grad m c), (h c).2.2.2.1.trans (Cert.LossHeadIdeal.Rows.rows_copy m c), (h c).2.2.2.2⟩)
      (Cert.LossHeadIdeal.Value.run_blocks (F := Ideal) m ρ)
  · refine (θ_run Cert.LossHeadRefIdeal.defs _ _).mono (fun r h c => ⟨(h c).1.trans ?_, (h c).2.1.trans ?_, (h c).2.2.1.trans ?_, (h c).2.2.2.1.trans ?_, (h c).2.2.2.2⟩)
      (Cert.LossHeadRefIdeal.Value.run (F := Ideal) m' ρ')
    · rw [Cert.LossHeadRefIdeal.Read.val_main_v52_eq, (hagree c).1, (hagree c).2.1, (hagree c).2.2.1, (hagree c).2.2.2]
    · rw [Cert.LossHeadRefIdeal.Read.val_main_v51_eq, (hagree c).1, (hagree c).2.1, (hagree c).2.2.1, (hagree c).2.2.2]
    · rw [Cert.LossHeadRefIdeal.Read.val_main_v53_eq, (hagree c).1, (hagree c).2.1, (hagree c).2.2.1, (hagree c).2.2.2]
    · rw [Cert.LossHeadRefIdeal.Read.val_main_v54_eq, (hagree c).1, (hagree c).2.1, (hagree c).2.2.1, (hagree c).2.2.2]

/-- The reference keeps its arguments; it has no semaphore. -/
theorem lossHead_reference_frame : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

/-- Kernel and reference leave the same: the discretisation's gradients. -/
theorem discBwd_same : Cert.algebraic_DiscBwdIdeal_DiscBwdRefIdeal := by
  intro m ρ m' ρ' _ hagree
  refine ⟨fun c => Cert.DiscBwdRefIdeal.Read.val_main_v121 (F := Ideal) (m ((c.tc : Thread _ _).loc Cert.DiscBwdIdeal.main_arg0)) (m ((c.tc : Thread _ _).loc Cert.DiscBwdIdeal.main_arg1)) (m ((c.tc : Thread _ _).loc Cert.DiscBwdIdeal.main_arg2)) (m ((c.tc : Thread _ _).loc Cert.DiscBwdIdeal.main_arg3)) (m ((c.tc : Thread _ _).loc Cert.DiscBwdIdeal.main_arg4)) (m ((c.tc : Thread _ _).loc Cert.DiscBwdIdeal.main_arg5)) (m ((c.tc : Thread _ _).loc Cert.DiscBwdIdeal.main_arg6)) (m ((c.tc : Thread _ _).loc Cert.DiscBwdIdeal.main_arg7)) (m ((c.tc : Thread _ _).loc Cert.DiscBwdIdeal.main_arg8)),
    fun c => Cert.DiscBwdRefIdeal.Read.val_main_v116 (F := Ideal) (m ((c.tc : Thread _ _).loc Cert.DiscBwdIdeal.main_arg0)) (m ((c.tc : Thread _ _).loc Cert.DiscBwdIdeal.main_arg1)) (m ((c.tc : Thread _ _).loc Cert.DiscBwdIdeal.main_arg2)) (m ((c.tc : Thread _ _).loc Cert.DiscBwdIdeal.main_arg3)) (m ((c.tc : Thread _ _).loc Cert.DiscBwdIdeal.main_arg4)) (m ((c.tc : Thread _ _).loc Cert.DiscBwdIdeal.main_arg5)) (m ((c.tc : Thread _ _).loc Cert.DiscBwdIdeal.main_arg6)) (m ((c.tc : Thread _ _).loc Cert.DiscBwdIdeal.main_arg7)) (m ((c.tc : Thread _ _).loc Cert.DiscBwdIdeal.main_arg8)),
    fun c => Cert.DiscBwdRefIdeal.Read.val_main_v122 (F := Ideal) (m ((c.tc : Thread _ _).loc Cert.DiscBwdIdeal.main_arg0)) (m ((c.tc : Thread _ _).loc Cert.DiscBwdIdeal.main_arg1)) (m ((c.tc : Thread _ _).loc Cert.DiscBwdIdeal.main_arg2)) (m ((c.tc : Thread _ _).loc Cert.DiscBwdIdeal.main_arg3)) (m ((c.tc : Thread _ _).loc Cert.DiscBwdIdeal.main_arg4)) (m ((c.tc : Thread _ _).loc Cert.DiscBwdIdeal.main_arg5)) (m ((c.tc : Thread _ _).loc Cert.DiscBwdIdeal.main_arg6)) (m ((c.tc : Thread _ _).loc Cert.DiscBwdIdeal.main_arg7)) (m ((c.tc : Thread _ _).loc Cert.DiscBwdIdeal.main_arg8)),
    fun c => Cert.DiscBwdRefIdeal.Read.val_main_v65 (F := Ideal) (m ((c.tc : Thread _ _).loc Cert.DiscBwdIdeal.main_arg0)) (m ((c.tc : Thread _ _).loc Cert.DiscBwdIdeal.main_arg1)) (m ((c.tc : Thread _ _).loc Cert.DiscBwdIdeal.main_arg2)) (m ((c.tc : Thread _ _).loc Cert.DiscBwdIdeal.main_arg7)) (m ((c.tc : Thread _ _).loc Cert.DiscBwdIdeal.main_arg8)),
    fun c => Cert.DiscBwdRefIdeal.Read.val_main_v58 (F := Ideal) (m ((c.tc : Thread _ _).loc Cert.DiscBwdIdeal.main_arg0)) (m ((c.tc : Thread _ _).loc Cert.DiscBwdIdeal.main_arg1)) (m ((c.tc : Thread _ _).loc Cert.DiscBwdIdeal.main_arg2)) (m ((c.tc : Thread _ _).loc Cert.DiscBwdIdeal.main_arg7)) (m ((c.tc : Thread _ _).loc Cert.DiscBwdIdeal.main_arg8)), ?_, ?_⟩
  · exact (θ_run Cert.DiscBwdIdeal.defs _ _).mono (fun r h c => ⟨(h c).1.trans (Cert.DiscBwdIdeal.Rows.grad_re m c), (h c).2.1.trans (Cert.DiscBwdIdeal.Rows.grad_im m c), (h c).2.2.1.trans (Cert.DiscBwdIdeal.Rows.grad_dt m c), (h c).2.2.2.1.trans (Cert.DiscBwdIdeal.Rows.grad_b_re m c), (h c).2.2.2.2.1.trans (Cert.DiscBwdIdeal.Rows.grad_b_im m c), (h c).2.2.2.2.2⟩)
      (Cert.DiscBwdIdeal.Value.run_blocks (F := Ideal) m ρ)
  · refine (θ_run Cert.DiscBwdRefIdeal.defs _ _).mono (fun r h c => ⟨(h c).1.trans ?_, (h c).2.1.trans ?_, (h c).2.2.1.trans ?_, (h c).2.2.2.1.trans ?_, (h c).2.2.2.2.1.trans ?_, (h c).2.2.2.2.2⟩)
      (Cert.DiscBwdRefIdeal.Value.run (F := Ideal) m' ρ')
    · rw [Cert.DiscBwdRefIdeal.Read.val_main_v121_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    · rw [Cert.DiscBwdRefIdeal.Read.val_main_v116_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    · rw [Cert.DiscBwdRefIdeal.Read.val_main_v122_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    · rw [Cert.DiscBwdRefIdeal.Read.val_main_v65_eq, (hagree c).1, (hagree c).2.1, (hagree c).2.2.1, (hagree c).2.2.2.2.2.2.2.1, (hagree c).2.2.2.2.2.2.2.2]
    · rw [Cert.DiscBwdRefIdeal.Read.val_main_v58_eq, (hagree c).1, (hagree c).2.1, (hagree c).2.2.1, (hagree c).2.2.2.2.2.2.2.1, (hagree c).2.2.2.2.2.2.2.2]

/-- The reference keeps its arguments; it has no semaphore. -/
theorem discBwd_reference_frame : Cert.quiescent_DiscBwdRefIdeal := fun m ρ _ =>
  (θ_run Cert.DiscBwdRefIdeal.defs _ _).mono (fun r h => ⟨fun c => (h c).2.2.2.2.2, sem_eq_zero_of_no_sems (by decide) r.2⟩)
    (Cert.DiscBwdRefIdeal.Value.run (F := Ideal) m ρ)

/-- Kernel and reference leave the same: the discretisation of the state space. -/
theorem disc_same : Cert.algebraic_DiscIdeal_DiscRefIdeal := by
  intro m ρ m' ρ' _ hagree
  refine ⟨fun c => Cert.DiscRefIdeal.Read.val_main_v5 (F := Ideal) (m ((c.tc : Thread _ _).loc Cert.DiscIdeal.main_arg0)) (m ((c.tc : Thread _ _).loc Cert.DiscIdeal.main_arg1)) (m ((c.tc : Thread _ _).loc Cert.DiscIdeal.main_arg2)),
    fun c => Cert.DiscRefIdeal.Read.val_main_v8 (F := Ideal) (m ((c.tc : Thread _ _).loc Cert.DiscIdeal.main_arg0)) (m ((c.tc : Thread _ _).loc Cert.DiscIdeal.main_arg1)) (m ((c.tc : Thread _ _).loc Cert.DiscIdeal.main_arg2)),
    fun c => Cert.DiscRefIdeal.Read.val_main_v28 (F := Ideal) (m ((c.tc : Thread _ _).loc Cert.DiscIdeal.main_arg0)) (m ((c.tc : Thread _ _).loc Cert.DiscIdeal.main_arg1)) (m ((c.tc : Thread _ _).loc Cert.DiscIdeal.main_arg2)) (m ((c.tc : Thread _ _).loc Cert.DiscIdeal.main_arg3)) (m ((c.tc : Thread _ _).loc Cert.DiscIdeal.main_arg4)),
    fun c => Cert.DiscRefIdeal.Read.val_main_v33 (F := Ideal) (m ((c.tc : Thread _ _).loc Cert.DiscIdeal.main_arg0)) (m ((c.tc : Thread _ _).loc Cert.DiscIdeal.main_arg1)) (m ((c.tc : Thread _ _).loc Cert.DiscIdeal.main_arg2)) (m ((c.tc : Thread _ _).loc Cert.DiscIdeal.main_arg3)) (m ((c.tc : Thread _ _).loc Cert.DiscIdeal.main_arg4)), ?_, ?_⟩
  · exact (θ_run Cert.DiscIdeal.defs _ _).mono (fun r h c => ⟨(h c).1.trans (Cert.DiscIdeal.Rows.growth_re m c), (h c).2.1.trans (Cert.DiscIdeal.Rows.growth_im m c), (h c).2.2.1.trans (Cert.DiscIdeal.Rows.input_re m c), (h c).2.2.2.1.trans (Cert.DiscIdeal.Rows.input_im m c), (h c).2.2.2.2⟩)
      (Cert.DiscIdeal.Value.run_blocks (F := Ideal) m ρ)
  · refine (θ_run Cert.DiscRefIdeal.defs _ _).mono (fun r h c => ⟨(h c).1.trans ?_, (h c).2.1.trans ?_, (h c).2.2.1.trans ?_, (h c).2.2.2.1.trans ?_, (h c).2.2.2.2⟩)
      (Cert.DiscRefIdeal.Value.run (F := Ideal) m' ρ')
    · rw [Cert.DiscRefIdeal.Read.val_main_v5_eq, (hagree c).1, (hagree c).2.1, (hagree c).2.2.1]
    · rw [Cert.DiscRefIdeal.Read.val_main_v8_eq, (hagree c).1, (hagree c).2.1, (hagree c).2.2.1]
    · rw [Cert.DiscRefIdeal.Read.val_main_v28_eq, (hagree c).1, (hagree c).2.1, (hagree c).2.2.1, (hagree c).2.2.2.1, (hagree c).2.2.2.2]
    · rw [Cert.DiscRefIdeal.Read.val_main_v33_eq, (hagree c).1, (hagree c).2.1, (hagree c).2.2.1, (hagree c).2.2.2.1, (hagree c).2.2.2.2]

/-- The reference keeps its arguments; it has no semaphore. -/
theorem disc_reference_frame : Cert.quiescent_DiscRefIdeal := fun m ρ _ =>
  (θ_run Cert.DiscRefIdeal.defs _ _).mono (fun r h => ⟨fun c => (h c).2.2.2.2, sem_eq_zero_of_no_sems (by decide) r.2⟩)
    (Cert.DiscRefIdeal.Value.run (F := Ideal) m ρ)

/-- Kernel and reference leave the same: the gated convolution, forward. -/
theorem ffnGate_same : Cert.algebraic_FfnGateIdeal_FfnGateRefIdeal := by
  intro m ρ m' ρ' _ hagree
  refine ⟨fun c => Cert.FfnGateRefIdeal.Read.val_main_v25 (F := Ideal) (m ((c.tc : Thread _ _).loc Cert.FfnGateIdeal.main_arg0)) (m ((c.tc : Thread _ _).loc Cert.FfnGateIdeal.main_arg1)) (m ((c.tc : Thread _ _).loc Cert.FfnGateIdeal.main_arg2)), ?_, ?_⟩
  · exact (θ_run Cert.FfnGateIdeal.defs _ _).mono (fun r h c => ⟨(h c).1.trans (Cert.FfnGateIdeal.Rows.gated m c), (h c).2⟩)
      (Cert.FfnGateIdeal.Value.run_blocks (F := Ideal) m ρ)
  · refine (θ_run Cert.FfnGateRefIdeal.defs _ _).mono (fun r h c => ⟨(h c).1.trans ?_, (h c).2⟩)
      (Cert.FfnGateRefIdeal.Value.run (F := Ideal) m' ρ')
    · rw [Cert.FfnGateRefIdeal.Read.val_main_v25_eq, (hagree c).1, (hagree c).2.1, (hagree c).2.2]

/-- The reference keeps its arguments; it has no semaphore. -/
theorem ffnGate_reference_frame : Cert.quiescent_FfnGateRefIdeal := fun m ρ _ =>
  (θ_run Cert.FfnGateRefIdeal.defs _ _).mono (fun r h => ⟨fun c => (h c).2, sem_eq_zero_of_no_sems (by decide) r.2⟩)
    (Cert.FfnGateRefIdeal.Value.run (F := Ideal) m ρ)

end Cert.Proof

end
-- ==== Proof.More.lean ====
module

public import proofs.«01_k».proof.Proof.Gen.GluBwd.Frame
public import proofs.«01_k».proof.Proof.Gen.GluBwdIdeal.Value
public import proofs.«01_k».proof.Proof.Gen.GluBwdRefIdeal.Run
public import proofs.«01_k».proof.Proof.Gen.GluBwdRefIdeal.Read
public import proofs.«01_k».proof.Proof.Gen.GluFwd.Frame
public import proofs.«01_k».proof.Proof.Gen.GluFwdIdeal.Value
public import proofs.«01_k».proof.Proof.Gen.GluFwdRefIdeal.Run
public import proofs.«01_k».proof.Proof.Gen.GluFwdRefIdeal.Read
public import proofs.«01_k».proof.Proof.Gen.NormFirst.Frame
public import proofs.«01_k».proof.Proof.Gen.NormFirstIdeal.Value
public import proofs.«01_k».proof.Proof.Gen.NormFirstRefIdeal.Run
public import proofs.«01_k».proof.Proof.Gen.NormFirstRefIdeal.Read
public import proofs.«01_k».proof.Proof.Gen.NormAdd.Frame
public import proofs.«01_k».proof.Proof.Gen.NormAddIdeal.Value
public import proofs.«01_k».proof.Proof.Gen.NormAddRefIdeal.Run
public import proofs.«01_k».proof.Proof.Gen.NormAddRefIdeal.Read
public import proofs.«01_k».proof.Proof.Gen.NormTwo.Frame
public import proofs.«01_k».proof.Proof.Gen.NormTwoIdeal.Value
public import proofs.«01_k».proof.Proof.Gen.NormTwoRefIdeal.Run
public import proofs.«01_k».proof.Proof.Gen.NormTwoRefIdeal.Read
public import proofs.«01_k».proof.Proof.Gen.NormFirstDx.Frame
public import proofs.«01_k».proof.Proof.Gen.NormFirstDxIdeal.Value
public import proofs.«01_k».proof.Proof.Gen.NormFirstDxRefIdeal.Run
public import proofs.«01_k».proof.Proof.Gen.NormFirstDxRefIdeal.Read
public import proofs.«01_k».proof.Proof.Gen.NormAddDx.Frame
public import proofs.«01_k».proof.Proof.Gen.NormAddDxIdeal.Value
public import proofs.«01_k».proof.Proof.Gen.NormAddDxRefIdeal.Run
public import proofs.«01_k».proof.Proof.Gen.NormAddDxRefIdeal.Read
public import proofs.«01_k».proof.Proof.Gen.NormTwoDx.Frame
public import proofs.«01_k».proof.Proof.Gen.NormTwoDxIdeal.Value
public import proofs.«01_k».proof.Proof.Gen.NormTwoDxRefIdeal.Run
public import proofs.«01_k».proof.Proof.Gen.NormTwoDxRefIdeal.Read
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.DiscBwd.Frame
public import proofs.«01_k».proof.Proof.Gen.DiscBwdIdeal.Value
public import proofs.«01_k».proof.Proof.Gen.DiscBwdRefIdeal.Run
public import proofs.«01_k».proof.Proof.Gen.DiscBwdRefIdeal.Read
public import proofs.«01_k».proof.Proof.Gen.Disc.Frame
public import proofs.«01_k».proof.Proof.Gen.DiscIdeal.Value
public import proofs.«01_k».proof.Proof.Gen.DiscRefIdeal.Run
public import proofs.«01_k».proof.Proof.Gen.DiscRefIdeal.Read
public import proofs.«01_k».proof.Proof.Gen.FfnGate.Frame
public import proofs.«01_k».proof.Proof.Gen.FfnGateIdeal.Value
public import proofs.«01_k».proof.Proof.Gen.FfnGateRefIdeal.Run
public import proofs.«01_k».proof.Proof.Gen.FfnGateRefIdeal.Read
public import proofs.«01_k».proof.Proof.Gen.AdamNorms.Frame
public import proofs.«01_k».proof.Proof.Gen.AdamNormsIdeal.Value
public import proofs.«01_k».proof.Proof.Gen.AdamNormsRefIdeal.Run
public import proofs.«01_k».proof.Proof.Gen.AdamNormsRefIdeal.Read
public import proofs.«01_k».proof.Proof.Gen.AdamNorm.Frame
public import proofs.«01_k».proof.Proof.Gen.AdamNormIdeal.Value
public import proofs.«01_k».proof.Proof.Gen.AdamNormRefIdeal.Run
public import proofs.«01_k».proof.Proof.Gen.AdamNormRefIdeal.Read
public import proofs.«01_k».proof.Proof.Gen.AdamRows.Frame
public import proofs.«01_k».proof.Proof.Gen.AdamRowsIdeal.Value
public import proofs.«01_k».proof.Proof.Gen.AdamRowsRefIdeal.Run
public import proofs.«01_k».proof.Proof.Gen.AdamRowsRefIdeal.Read
public import proofs.«01_k».proof.Proof.Gen.AdamA.Frame
public import proofs.«01_k».proof.Proof.Gen.AdamAIdeal.Value
public import proofs.«01_k».proof.Proof.Gen.AdamARefIdeal.Run
public import proofs.«01_k».proof.Proof.Gen.AdamARefIdeal.Read
public import proofs.«01_k».proof.Proof.Gen.AdamDt.Frame
public import proofs.«01_k».proof.Proof.Gen.AdamDtIdeal.Value
public import proofs.«01_k».proof.Proof.Gen.AdamDtRefIdeal.Run
public import proofs.«01_k».proof.Proof.Gen.AdamDtRefIdeal.Read
public import proofs.«01_k».proof.Proof.Gen.AdamB.Frame
public import proofs.«01_k».proof.Proof.Gen.AdamBIdeal.Value
public import proofs.«01_k».proof.Proof.Gen.AdamBRefIdeal.Run
public import proofs.«01_k».proof.Proof.Gen.AdamBRefIdeal.Read
public import proofs.«01_k».proof.Proof.Gen.AdamC.Frame
public import proofs.«01_k».proof.Proof.Gen.AdamCIdeal.Value
public import proofs.«01_k».proof.Proof.Gen.AdamCRefIdeal.Run
public import proofs.«01_k».proof.Proof.Gen.AdamCRefIdeal.Read
public import proofs.«01_k».proof.Proof.Gen.AdamD.Frame
public import proofs.«01_k».proof.Proof.Gen.AdamDIdeal.Value
public import proofs.«01_k».proof.Proof.Gen.AdamDRefIdeal.Run
public import proofs.«01_k».proof.Proof.Gen.AdamDRefIdeal.Read
public import proofs.«01_k».proof.Proof.Gen.AdamGlu.Frame
public import proofs.«01_k».proof.Proof.Gen.AdamGluIdeal.Value
public import proofs.«01_k».proof.Proof.Gen.AdamGluRefIdeal.Run
public import proofs.«01_k».proof.Proof.Gen.AdamGluRefIdeal.Read
public import proofs.«01_k».proof.Proof.Gen.AdamKv.Frame
public import proofs.«01_k».proof.Proof.Gen.AdamKvIdeal.Value
public import proofs.«01_k».proof.Proof.Gen.AdamKvRefIdeal.Run
public import proofs.«01_k».proof.Proof.Gen.AdamKvRefIdeal.Read
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamConvW.Frame
public import proofs.«01_k».proof.Proof.Gen.AdamConvWIdeal.Value
public import proofs.«01_k».proof.Proof.Gen.AdamConvWRefIdeal.Run
public import proofs.«01_k».proof.Proof.Gen.AdamConvWRefIdeal.Read
public import proofs.«01_k».proof.Proof.Gen.AdamConvB.Frame
public import proofs.«01_k».proof.Proof.Gen.AdamConvBIdeal.Value
public import proofs.«01_k».proof.Proof.Gen.AdamConvBRefIdeal.Run
public import proofs.«01_k».proof.Proof.Gen.AdamConvBRefIdeal.Read
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamDownRefIdeal.Read

@[expose] public section

end
-- ==== Proof.GeluBwdValue.lean ====
/-
The gradient of the gelu in its form with the hyperbolic tangent: the incoming gradient times the derivative at each element.
-/
module

public import Idealize.ShloMosaic.Lib.Pipeline.ValueKit
public import proofs.«01_k».proof.Proof.Gen.GeluBwdIdeal.Value
public import proofs.«01_k».proof.Proof.Gen.GeluBwdRefIdeal.Run
public import proofs.«01_k».proof.Proof.Gen.GeluBwdRefIdeal.Read

@[expose] public section

set_option maxRecDepth 16384

noncomputable section

namespace Cert.GeluBwdIdeal.Rows

open Idealize.ShloMosaic Idealize.ShloMosaic.TcCoe Idealize.SL.Sem
open Cert.GeluBwdIdeal Cert.GeluBwdIdeal.Gen
open Cert.GeluBwdRefIdeal.Read

variable (m : (ℓ : Loc nD τ sig) → Buf (Elt Ideal) ℓ)

/-- The blocks a grid point reads and writes. -/
theorem windows_at : ∀ t : Fin cfg0.N, win0_0.index t = ![t.val, 0] ∧ win0_1.index t = ![t.val, 0] ∧ win0_2.index t = ![t.val, 0] :=
  (by decide +kernel : ∀ t : Fin grid0.N, _)

/-- The derivative at one element, its factors in the kernel's order. -/
def slope (y : EReal) : EReal :=
  Ideal.ofBits FTy.f32 1056964608#32 * (1 + Ideal.tanh (Ideal.ofBits FTy.f32 1061962282#32 * (y + Ideal.ofBits FTy.f32 1027024659#32 * y * y * y)))
    + Ideal.ofBits FTy.f32 1056964608#32 * y
      * (1 - Ideal.tanh (Ideal.ofBits FTy.f32 1061962282#32 * (y + Ideal.ofBits FTy.f32 1027024659#32 * y * y * y))
          * Ideal.tanh (Ideal.ofBits FTy.f32 1061962282#32 * (y + Ideal.ofBits FTy.f32 1027024659#32 * y * y * y)))
      * Ideal.ofBits FTy.f32 1061962282#32 * (1 + Ideal.ofBits FTy.f32 1040801103#32 * y * y)

/-- The kernel's payload at one element. -/
theorem pay_at (d y : Vec Ideal S512x1024 .f32) (j : S512x1024.Idx) : k0_pay1 d y j = d j * slope (y j) := by
  pointwise [k0_pay1]
  rfl

/-- The reference's result at one element: its powers are the kernel's products, grouped otherwise. -/
theorem ref_at (y d : (⟨S4096x1024, .f32⟩ : BufTy).Contents (Elt Ideal)) (i : S4096x1024.Idx) :
    val_main_v28 (F := Ideal) y d i = d i * slope (y i) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7]
  unfold slope
  simp only [mul_assoc]

/-- The kernel's result array is the reference's. -/
theorem gelu_grad (c : Dev nD) : (dats (F := Ideal) m 0 c).arrAt 2 cfg0.N
    = val_main_v28 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := windows_at t
  blk_simp
  rw [after0_2]
  frame_out
  rw [pay_at, ref_at]
  blk_point [iblk, V, e0, e1, e2]

end Cert.GeluBwdIdeal.Rows

end
-- ==== Proof.GeluClaims.lean ====
/-
For the gradient of the gelu, what the certificate states of it: kernel and reference leave the same array, and the reference
keeps its arguments.
-/
module

public import proofs.«01_k».proof.Defs
public import proofs.«01_k».proof.Proof.GeluBwdValue
public import Idealize.ShloMosaic.Adequacy
public import Idealize.ShloMosaic.Init

@[expose] public section

noncomputable section

namespace Cert.Proof

open Idealize.ShloMosaic Idealize.ShloMosaic.TcCoe Idealize.SL.Sem

/-- Kernel and reference leave the same: the gradient of the gelu. -/
theorem geluBwd_same : Cert.algebraic_GeluBwdIdeal_GeluBwdRefIdeal := by
  intro m ρ m' ρ' _ hagree
  refine ⟨fun c => Cert.GeluBwdRefIdeal.Read.val_main_v28 (F := Ideal) (m ((c.tc : Thread _ _).loc Cert.GeluBwdIdeal.main_arg0)) (m ((c.tc : Thread _ _).loc Cert.GeluBwdIdeal.main_arg1)), ?_, ?_⟩
  · exact (θ_run Cert.GeluBwdIdeal.defs _ _).mono (fun r h c => ⟨(h c).1.trans (Cert.GeluBwdIdeal.Rows.gelu_grad m c), (h c).2⟩)
      (Cert.GeluBwdIdeal.Value.run_blocks (F := Ideal) m ρ)
  · refine (θ_run Cert.GeluBwdRefIdeal.defs _ _).mono (fun r h c => ⟨(h c).1.trans ?_, (h c).2⟩)
      (Cert.GeluBwdRefIdeal.Value.run (F := Ideal) m' ρ')
    · rw [Cert.GeluBwdRefIdeal.Read.val_main_v28_eq, (hagree c).1, (hagree c).2]

/-- The reference keeps its arguments; it has no semaphore. -/
theorem geluBwd_reference_frame : Cert.quiescent_GeluBwdRefIdeal := fun m ρ _ =>
  (θ_run Cert.GeluBwdRefIdeal.defs _ _).mono (fun r h => ⟨fun c => (h c).2, sem_eq_zero_of_no_sems (by decide) r.2⟩)
    (Cert.GeluBwdRefIdeal.Value.run (F := Ideal) m ρ)

end Cert.Proof

end
-- ==== Proof.Recurrence.lean ====
module

public import Idealize.ShloMosaic.Lib.Pipeline.ValueKit
public import Mathlib.Data.Complex.Basic

/-!
# A complex recurrence held as pairs of extended reals

The state of the recurrence and the pairs of numbers that hold it; the recurrence restarted from zero in streams and put
together again; and reads of an array stored block by block.
-/

@[expose] public section

noncomputable section

namespace Cert.Scan

open Idealize.ShloMosaic

/-- Two extended reals are the parts of a complex number. -/
structure Is (x y : EReal) (z : ℂ) : Prop where
  re : x = ((z.re : ℝ) : EReal)
  im : y = ((z.im : ℝ) : EReal)

theorem Is.of_eq {x y x' y' : EReal} {z : ℂ} (h : Is x y z) (hx : x' = x) (hy : y' = y) : Is x' y' z :=
  hx ▸ hy ▸ h

theorem Is.zero : Is 0 0 0 := ⟨by simp, by simp⟩

theorem Is.one : Is 1 0 1 := ⟨by simp, by simp⟩

theorem Is.of_real {x y : EReal} {a b : ℝ} (hx : x = a) (hy : y = b) : Is x y ⟨x.toReal, y.toReal⟩ :=
  ⟨by rw [hx]; simp, by rw [hy]; simp⟩

section

variable {ar ai x y u v : EReal} {a z d : ℂ}

theorem Is.mul (ha : Is ar ai a) (hz : Is x y z) : Is (ar * x - ai * y) (ar * y + ai * x) (a * z) where
  re := by rw [ha.re, ha.im, hz.re, hz.im, Complex.mul_re]; push_cast; rfl
  im := by rw [ha.re, ha.im, hz.re, hz.im, Complex.mul_im]; push_cast; rfl

theorem Is.sq (hz : Is x y z) : Is (x * x - y * y) (2 * x * y) (z * z) where
  re := by rw [hz.re, hz.im, Complex.mul_re]; push_cast; rfl
  im := by
    rw [hz.re, hz.im, Complex.mul_im]
    have e : z.re * z.im + z.im * z.re = 2 * z.re * z.im := by ring
    rw [e]
    push_cast
    rfl

theorem Is.step (ha : Is ar ai a) (hz : Is x y z) (hd : Is u v d) :
    Is (ar * x - ai * y + u) (ar * y + ai * x + v) (a * z + d) where
  re := by rw [(ha.mul hz).re, hd.re, Complex.add_re]; push_cast; rfl
  im := by rw [(ha.mul hz).im, hd.im, Complex.add_im]; push_cast; rfl

theorem Is.carry (ha : Is ar ai a) (hz : Is x y z) (hd : Is u v d) :
    Is (u + ar * x - ai * y) (v + ar * y + ai * x) (a * z + d) where
  re := by
    rw [ha.re, ha.im, hz.re, hz.im, hd.re, Complex.add_re, Complex.mul_re]
    norm_cast
    ring
  im := by
    rw [ha.re, ha.im, hz.re, hz.im, hd.im, Complex.add_im, Complex.mul_im]
    norm_cast
    ring

end

/-- The recurrence from state `z`, driven by `d`. -/
def run (a : ℂ) (d : ℕ → ℂ) (z : ℂ) : ℕ → ℂ
  | 0 => z
  | n + 1 => a * run a d z n + d n

/-- The recurrence goes on from where it stands. -/
theorem run_add (a : ℂ) (d : ℕ → ℂ) (z : ℂ) (p : ℕ) : ∀ n, run a d z (p + n) = run a (fun i => d (p + i)) (run a d z p) n
  | 0 => rfl
  | n + 1 => by
    show a * run a d z (p + n) + d (p + n) = _
    rw [run_add a d z p n]
    rfl

/-- The recurrence from a state is the one from zero, plus the state advanced. -/
theorem run_from (a : ℂ) (d : ℕ → ℂ) (z : ℂ) : ∀ n, run a d z n = a ^ n * z + run a d 0 n
  | 0 => by simp [run]
  | n + 1 => by
    show a * run a d z n + d n = a ^ (n + 1) * z + (a * run a d 0 n + d n)
    rw [run_from a d z n]
    ring

/-- The same drive gives the same state. -/
theorem run_congr (a : ℂ) {d d' : ℕ → ℂ} (z : ℂ) : ∀ n, (∀ i, i < n → d i = d' i) → run a d z n = run a d' z n
  | 0, _ => rfl
  | n + 1, h => by
    show a * run a d z n + d n = a * run a d' z n + d' n
    rw [run_congr a z n (fun i hi => h i (by omega)), h n (by omega)]

/-- The state at the start of each stream follows from the one before it and from the stream restarted at zero. -/
theorem run_streams (a : ℂ) (d : ℕ → ℂ) (J : ℕ) (s : ℕ) :
    run a d 0 (J * (s + 1)) = a ^ J * run a d 0 (J * s) + run a (fun i => d (J * s + i)) 0 J := by
  rw [show J * (s + 1) = J * s + J by ring, run_add, run_from]

section

variable {Val : EltTy → Type} [∀ e, Nonempty (Val e)] {e : EltTy} {H W h w o0 o1 : ℕ}

/-- A block's element of an array. -/
theorem ld_at (inb : ∀ a, (![o0, o1] : Fin 2 → ℕ) a + (![h, w] : Fin 2 → ℕ) a ≤ (⟨2, ![H, W]⟩ : Shape).size a)
    (x : (⟨2, ![H, W]⟩ : Shape).Idx → Val e) (i : Fin h) (j : Fin w) (I : Fin H) (J : Fin W) (hI : I.val = o0 + i.val)
    (hJ : J.val = o1 + j.val) : View.ld x (Rect.unit (s := ⟨2, ![H, W]⟩) ![o0, o1] ![h, w] inb) (ix2 i j) = x (ix2 I J) := by
  refine congrArg x (funext fun a => Fin.ext ?_)
  match a with
  | ⟨0, _⟩ => show o0 + 1 * i.val = I.val; omega
  | ⟨1, _⟩ => show o1 + 1 * j.val = J.val; omega

/-- A block's element of what has been stored. -/
theorem cov_at {sig : RefSig} {κ : Kind} {sp : Space} (v : View sig κ sp (⟨2, ![H, W]⟩ : Shape) e)
    (inb : ∀ a, (![o0, o1] : Fin 2 → ℕ) a + (![h, w] : Fin 2 → ℕ) a ≤ (⟨2, ![H, W]⟩ : Shape).size a)
    (L : List (View.Piece Val (⟨2, ![H, W]⟩ : Shape) e)) (i : Fin h) (j : Fin w) (I : Fin H) (J : Fin W) (hI : I.val = o0 + i.val)
    (hJ : J.val = o1 + j.val) :
    v.readCov L (Rect.unit (s := ⟨2, ![H, W]⟩) ![o0, o1] ![h, w] inb).toLoadRect (ix2 i j) = View.canon L (ix2 I J) := by
  rw [View.readCov_eq_canon']
  refine congrArg (View.canon L) (funext fun a => Fin.ext ?_)
  match a with
  | ⟨0, _⟩ => show o0 + 1 * i.val = I.val; omega
  | ⟨1, _⟩ => show o1 + 1 * j.val = J.val; omega

/-- Within the last block stored, an array stored block by block reads that block. -/
theorem canon_in (inb : ∀ a, (![o0, o1] : Fin 2 → ℕ) a + (![h, w] : Fin 2 → ℕ) a ≤ (⟨2, ![H, W]⟩ : Shape).size a)
    (p : (⟨2, ![h, w]⟩ : Shape).Idx → Val e) (L : List (View.Piece Val (⟨2, ![H, W]⟩ : Shape) e))
    (i : Fin h) (j : Fin w) (I : Fin H) (J : Fin W) (hI : I.val = o0 + i.val) (hJ : J.val = o1 + j.val) :
    View.canon (⟨Rect.unit (s := ⟨2, ![H, W]⟩) ![o0, o1] ![h, w] inb, p⟩ :: L) (ix2 I J) = p (ix2 i j) := by
  have ee : (Rect.unit (s := ⟨2, ![H, W]⟩) ![o0, o1] ![h, w] inb).emb (ix2 i j) = ix2 I J := by
    funext a
    refine Fin.ext ?_
    match a with
    | ⟨0, _⟩ => show o0 + 1 * i.val = I.val; omega
    | ⟨1, _⟩ => show o1 + 1 * j.val = J.val; omega
  rw [← ee]
  exact View.canon_cons_emb (Rect.unit (s := ⟨2, ![H, W]⟩) ![o0, o1] ![h, w] inb) p L (ix2 i j)

/-- Outside it, it reads the blocks stored before. -/
theorem canon_out (inb : ∀ a, (![o0, o1] : Fin 2 → ℕ) a + (![h, w] : Fin 2 → ℕ) a ≤ (⟨2, ![H, W]⟩ : Shape).size a)
    (p : (⟨2, ![h, w]⟩ : Shape).Idx → Val e) (L : List (View.Piece Val (⟨2, ![H, W]⟩ : Shape) e))
    (I : Fin H) (J : Fin W) (hn : I.val < o0 ∨ o0 + h ≤ I.val ∨ J.val < o1 ∨ o1 + w ≤ J.val) :
    View.canon (⟨Rect.unit (s := ⟨2, ![H, W]⟩) ![o0, o1] ![h, w] inb, p⟩ :: L) (ix2 I J) = View.canon L (ix2 I J) := by
  refine View.canon_cons_of_not_mem _ _ fun hm => ?_
  have hm := (Rect.mem_set_unit (s := ⟨2, ![H, W]⟩) (inb := inb) (i := ix2 I J)).mp hm
  have h0 : o0 ≤ I.val ∧ I.val < o0 + h := hm 0
  have h1 : o1 ≤ J.val ∧ J.val < o1 + w := hm 1
  omega

end

end Cert.Scan

end
-- ==== Proof.StartsTrips.lean ====
module

public import Idealize.ShloMosaic.Lib.WholeRead
public import Idealize.ShloMosaic.Lib.Pipeline.ValueKit
public import proofs.«01_k».proof.Proof.Recurrence
public import proofs.«01_k».proof.Proof.Gen.StartsIdeal.Value

/-!
# The loop over a block of time steps

What the two loops of `Starts` carry before each trip, and what a grid point leaves of the states it found.
-/

@[expose] public section

set_option maxRecDepth 16384
set_option maxHeartbeats 2000000

noncomputable section

namespace Cert.StartsIdeal.Rows

open Idealize.ShloMosaic Idealize.ShloMosaic.TcCoe Idealize.SL.Sem
open Cert.StartsIdeal Cert.StartsIdeal.Gen Cert.Scan

/-- The states of the eight streams, half of the lanes. -/
abbrev Half : Type := Vec Ideal S8x512 .f32 × Vec Ideal S8x512 .f32

theorem factor1_re (v : Vec Ideal S1x512 .f32) (s : Fin 8) (l : Fin 512) : k0_pay53 v (ix2 s l) = v (ix2 0 l) := by
  unfold k0_pay53
  pointwise []

theorem factor1_im (v : Vec Ideal S1x512 .f32) (s : Fin 8) (l : Fin 512) : k0_pay54 v (ix2 s l) = v (ix2 0 l) := by
  unfold k0_pay54
  pointwise []

/-- One step of the recurrence. -/
theorem step1 {v w : Vec Ideal S1x512 .f32} {x y d f : Vec Ideal S8x512 .f32} {a z δ : ℂ} {s : Fin 8} {l : Fin 512}
    (ha : Is (v (ix2 0 l)) (w (ix2 0 l)) a) (hz : Is (x (ix2 s l)) (y (ix2 s l)) z) (hd : Is (d (ix2 s l)) (f (ix2 s l)) δ) :
    Is (k0_pay55 v w x y d (ix2 s l)) (k0_pay56 v w x y f (ix2 s l)) (a * z + δ) := by
  have e := Is.step ha hz hd
  have er := factor1_re v s l
  have ei := factor1_im w s l
  refine ⟨Eq.trans ?_ e.re, Eq.trans ?_ e.im⟩
  · rw [← er, ← ei]
    rfl
  · rw [← er, ← ei]
    rfl

section

variable (𝒱 : Variants) (c : Dev nD) (bd : Option 𝒱.V) (i : grid0.Coords)
  (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
  (v w : Vec Ideal S1x512 .f32) (X8 : BufTy.Contents (Elt Ideal) arg8.view.ty) (X9 : BufTy.Contents (Elt Ideal) arg9.view.ty)

/-- The real parts of the drive a trip loads. -/
abbrev ldRe1 (k : Fin k0_t1_loop.trips) : Vec Ideal S8x512 .f32 :=
  View.readAt (Elt Ideal) arg8.view (Rect.unit (s := S512x1024) (k0_off1 k) S8x512.size (k0_off1_inb k)).toLoadRect X8

/-- The imaginary parts. -/
abbrev ldIm1 (k : Fin k0_t1_loop.trips) : Vec Ideal S8x512 .f32 :=
  View.readAt (Elt Ideal) arg9.view (Rect.unit (s := S512x1024) (k0_off1 k) S8x512.size (k0_off1_inb k)).toLoadRect X9

/-- What a trip yields. -/
theorem trip1_yields (k : Fin k0_t1_loop.trips) (acc : Half) :
    tripR_k0_t1 (F := Ideal) 𝒱 c bd i arg2 harg2 arg3 harg3 arg4 harg4 arg5 harg5 arg6 harg6 arg7 harg7 arg8 harg8 arg9 harg9 arg10 harg10 arg11 harg11 v w X8 X9 k acc
      = (k0_pay55 v w acc.1 acc.2 (ldRe1 arg8 X8 k), k0_pay56 v w acc.1 acc.2 (ldIm1 arg9 X9 k)) := by
  unfold tripR_k0_t1 trip_k0_t1
  rfl

/-- The states before each trip. -/
theorem states1 (init : Half) (a : ℂ) (z : ℂ) (d : ℕ → ℂ) (s : Fin 8) (l : Fin 512)
    (ha : Is (v (ix2 0 l)) (w (ix2 0 l)) a) (hz : Is (init.1 (ix2 s l)) (init.2 (ix2 s l)) z)
    (hd : ∀ k, Is (ldRe1 arg8 X8 k (ix2 s l)) (ldIm1 arg9 X9 k (ix2 s l)) (d k.val)) :
    ∀ n, n ≤ k0_t1_loop.trips →
      Is ((st_k0_t1 (F := Ideal) 𝒱 c bd i arg2 harg2 arg3 harg3 arg4 harg4 arg5 harg5 arg6 harg6 arg7 harg7 arg8 harg8 arg9 harg9 arg10 harg10 arg11 harg11 v w X8 X9 init n).1 (ix2 s l))
        ((st_k0_t1 (F := Ideal) 𝒱 c bd i arg2 harg2 arg3 harg3 arg4 harg4 arg5 harg5 arg6 harg6 arg7 harg7 arg8 harg8 arg9 harg9 arg10 harg10 arg11 harg11 v w X8 X9 init n).2 (ix2 s l)) (run a d z n)
  | 0, _ => hz
  | n + 1, hn => by
    have ih := states1 init a z d s l ha hz hd n (by omega)
    have e := st_k0_t1_succ (F := Ideal) 𝒱 c bd i arg2 harg2 arg3 harg3 arg4 harg4 arg5 harg5 arg6 harg6 arg7 harg7 arg8 harg8 arg9 harg9 arg10 harg10 arg11 harg11 v w X8 X9 init ⟨n, hn⟩
    rw [trip1_yields] at e
    dsimp only at e
    rw [e]
    exact step1 ha ih (hd ⟨n, hn⟩)

end

theorem trips1 : k0_t1_loop.trips = 64 := by
  decide +kernel

theorem off1_eq : ∀ k : Fin k0_t1_loop.trips, k0_off1 k = ![8 * (k.val), 0] := by
  decide +kernel

/-- The rows of the drive a trip loads. -/
theorem loaded1_re (arg8 : Memref sig .tc .vmem S512x1024 .f32) (D : Vec Ideal S512x1024 .f32)
    (inb : ∀ a, (![0, 0] : Fin 2 → ℕ) a + (![512, 1024] : Fin 2 → ℕ) a ≤ S512x1024.size a)
    (k : Fin k0_t1_loop.trips) (s : Fin 8) (l : Fin 512) (r : Fin 512) (L : Fin 1024) (hr : r.val = 8 * k.val + s.val) (hL : L.val = 0 + l.val) :
    ldRe1 arg8 (arg8.view.writes (Elt Ideal) arg8.view.junk [⟨Rect.unit (s := S512x1024) ![0, 0] ![512, 1024] inb, D⟩]) k (ix2 s l) = D (ix2 r L) := by
  show View.readAt (Elt Ideal) arg8.view _ _ _ = _
  rw [View.readAt_unit_congr_cast _ (off1_eq k), View.readAt_writes_junk_eq_canon]
  dsimp only
  refine Eq.trans (congrArg (View.canon _) (?_ : _ = ix2 r L)) (canon_in inb D [] r L r L (by omega) (by omega))
  funext a
  refine Fin.ext ?_
  match a with
  | ⟨0, _⟩ => show 8 * (k.val) + 1 * s.val = r.val; omega
  | ⟨1, _⟩ => show 0 + 1 * l.val = L.val; omega

theorem loaded1_im (arg9 : Memref sig .tc .vmem S512x1024 .f32) (D : Vec Ideal S512x1024 .f32)
    (inb : ∀ a, (![0, 0] : Fin 2 → ℕ) a + (![512, 1024] : Fin 2 → ℕ) a ≤ S512x1024.size a)
    (k : Fin k0_t1_loop.trips) (s : Fin 8) (l : Fin 512) (r : Fin 512) (L : Fin 1024) (hr : r.val = 8 * k.val + s.val) (hL : L.val = 0 + l.val) :
    ldIm1 arg9 (arg9.view.writes (Elt Ideal) arg9.view.junk [⟨Rect.unit (s := S512x1024) ![0, 0] ![512, 1024] inb, D⟩]) k (ix2 s l) = D (ix2 r L) :=
  loaded1_re arg9 D inb k s l r L hr hL

theorem factor2_re (v : Vec Ideal S1x512 .f32) (s : Fin 8) (l : Fin 512) : k0_pay3 v (ix2 s l) = v (ix2 0 l) := by
  unfold k0_pay3
  pointwise []

theorem factor2_im (v : Vec Ideal S1x512 .f32) (s : Fin 8) (l : Fin 512) : k0_pay4 v (ix2 s l) = v (ix2 0 l) := by
  unfold k0_pay4
  pointwise []

/-- One step of the recurrence. -/
theorem step2 {v w : Vec Ideal S1x512 .f32} {x y d f : Vec Ideal S8x512 .f32} {a z δ : ℂ} {s : Fin 8} {l : Fin 512}
    (ha : Is (v (ix2 0 l)) (w (ix2 0 l)) a) (hz : Is (x (ix2 s l)) (y (ix2 s l)) z) (hd : Is (d (ix2 s l)) (f (ix2 s l)) δ) :
    Is (k0_pay5 v w x y d (ix2 s l)) (k0_pay6 v w x y f (ix2 s l)) (a * z + δ) := by
  have e := Is.step ha hz hd
  have er := factor2_re v s l
  have ei := factor2_im w s l
  refine ⟨Eq.trans ?_ e.re, Eq.trans ?_ e.im⟩
  · rw [← er, ← ei]
    rfl
  · rw [← er, ← ei]
    rfl

section

variable (𝒱 : Variants) (c : Dev nD) (bd : Option 𝒱.V) (i : grid0.Coords)
  (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
  (v w : Vec Ideal S1x512 .f32) (X8 : BufTy.Contents (Elt Ideal) arg8.view.ty) (X9 : BufTy.Contents (Elt Ideal) arg9.view.ty)

/-- The real parts of the drive a trip loads. -/
abbrev ldRe2 (k : Fin k0_t2_loop.trips) : Vec Ideal S8x512 .f32 :=
  View.readAt (Elt Ideal) arg8.view (Rect.unit (s := S512x1024) (k0_off2 k) S8x512.size (k0_off2_inb k)).toLoadRect X8

/-- The imaginary parts. -/
abbrev ldIm2 (k : Fin k0_t2_loop.trips) : Vec Ideal S8x512 .f32 :=
  View.readAt (Elt Ideal) arg9.view (Rect.unit (s := S512x1024) (k0_off2 k) S8x512.size (k0_off2_inb k)).toLoadRect X9

/-- What a trip yields. -/
theorem trip2_yields (k : Fin k0_t2_loop.trips) (acc : Half) :
    tripR_k0_t2 (F := Ideal) 𝒱 c bd i arg2 harg2 arg3 harg3 arg4 harg4 arg5 harg5 arg6 harg6 arg7 harg7 arg8 harg8 arg9 harg9 arg10 harg10 arg11 harg11 v w X8 X9 k acc
      = (k0_pay5 v w acc.1 acc.2 (ldRe2 arg8 X8 k), k0_pay6 v w acc.1 acc.2 (ldIm2 arg9 X9 k)) := by
  unfold tripR_k0_t2 trip_k0_t2
  rfl

/-- The states before each trip. -/
theorem states2 (init : Half) (a : ℂ) (z : ℂ) (d : ℕ → ℂ) (s : Fin 8) (l : Fin 512)
    (ha : Is (v (ix2 0 l)) (w (ix2 0 l)) a) (hz : Is (init.1 (ix2 s l)) (init.2 (ix2 s l)) z)
    (hd : ∀ k, Is (ldRe2 arg8 X8 k (ix2 s l)) (ldIm2 arg9 X9 k (ix2 s l)) (d k.val)) :
    ∀ n, n ≤ k0_t2_loop.trips →
      Is ((st_k0_t2 (F := Ideal) 𝒱 c bd i arg2 harg2 arg3 harg3 arg4 harg4 arg5 harg5 arg6 harg6 arg7 harg7 arg8 harg8 arg9 harg9 arg10 harg10 arg11 harg11 v w X8 X9 init n).1 (ix2 s l))
        ((st_k0_t2 (F := Ideal) 𝒱 c bd i arg2 harg2 arg3 harg3 arg4 harg4 arg5 harg5 arg6 harg6 arg7 harg7 arg8 harg8 arg9 harg9 arg10 harg10 arg11 harg11 v w X8 X9 init n).2 (ix2 s l)) (run a d z n)
  | 0, _ => hz
  | n + 1, hn => by
    have ih := states2 init a z d s l ha hz hd n (by omega)
    have e := st_k0_t2_succ (F := Ideal) 𝒱 c bd i arg2 harg2 arg3 harg3 arg4 harg4 arg5 harg5 arg6 harg6 arg7 harg7 arg8 harg8 arg9 harg9 arg10 harg10 arg11 harg11 v w X8 X9 init ⟨n, hn⟩
    rw [trip2_yields] at e
    dsimp only at e
    rw [e]
    exact step2 ha ih (hd ⟨n, hn⟩)

end

theorem trips2 : k0_t2_loop.trips = 64 := by
  decide +kernel

theorem off2_eq : ∀ k : Fin k0_t2_loop.trips, k0_off2 k = ![8 * (k.val), 512] := by
  decide +kernel

/-- The rows of the drive a trip loads. -/
theorem loaded2_re (arg8 : Memref sig .tc .vmem S512x1024 .f32) (D : Vec Ideal S512x1024 .f32)
    (inb : ∀ a, (![0, 0] : Fin 2 → ℕ) a + (![512, 1024] : Fin 2 → ℕ) a ≤ S512x1024.size a)
    (k : Fin k0_t2_loop.trips) (s : Fin 8) (l : Fin 512) (r : Fin 512) (L : Fin 1024) (hr : r.val = 8 * k.val + s.val) (hL : L.val = 512 + l.val) :
    ldRe2 arg8 (arg8.view.writes (Elt Ideal) arg8.view.junk [⟨Rect.unit (s := S512x1024) ![0, 0] ![512, 1024] inb, D⟩]) k (ix2 s l) = D (ix2 r L) := by
  show View.readAt (Elt Ideal) arg8.view _ _ _ = _
  rw [View.readAt_unit_congr_cast _ (off2_eq k), View.readAt_writes_junk_eq_canon]
  dsimp only
  refine Eq.trans (congrArg (View.canon _) (?_ : _ = ix2 r L)) (canon_in inb D [] r L r L (by omega) (by omega))
  funext a
  refine Fin.ext ?_
  match a with
  | ⟨0, _⟩ => show 8 * (k.val) + 1 * s.val = r.val; omega
  | ⟨1, _⟩ => show 512 + 1 * l.val = L.val; omega

theorem loaded2_im (arg9 : Memref sig .tc .vmem S512x1024 .f32) (D : Vec Ideal S512x1024 .f32)
    (inb : ∀ a, (![0, 0] : Fin 2 → ℕ) a + (![512, 1024] : Fin 2 → ℕ) a ≤ S512x1024.size a)
    (k : Fin k0_t2_loop.trips) (s : Fin 8) (l : Fin 512) (r : Fin 512) (L : Fin 1024) (hr : r.val = 8 * k.val + s.val) (hL : L.val = 512 + l.val) :
    ldIm2 arg9 (arg9.view.writes (Elt Ideal) arg9.view.junk [⟨Rect.unit (s := S512x1024) ![0, 0] ![512, 1024] inb, D⟩]) k (ix2 s l) = D (ix2 r L) :=
  loaded2_re arg9 D inb k s l r L hr hL

end Cert.StartsIdeal.Rows

end
-- ==== Proof.StartsPoints.lean ====
module

public import proofs.«01_k».proof.Proof.StartsTrips

/-!
# What a grid point leaves of the states

Each point advances the states of the eight streams by the 64 steps of its block; the first one starts them at zero.
-/

@[expose] public section

set_option maxRecDepth 16384
set_option maxHeartbeats 4000000

noncomputable section

namespace Cert.StartsIdeal.Rows

open Idealize.ShloMosaic Idealize.ShloMosaic.TcCoe Idealize.SL.Sem
open Cert.StartsIdeal Cert.StartsIdeal.Gen Cert.Scan

theorem kept1 (v : Vec Ideal S8x512 .f32) (y : S8x512.Idx) : k0_pay1 v y = v y := by
  unfold k0_pay1
  pointwise []

theorem kept2 (v : Vec Ideal S8x512 .f32) (y : S8x512.Idx) : k0_pay2 v y = v y := by
  unfold k0_pay2
  pointwise []

theorem kept7 (v : Vec Ideal S8x512 .f32) (y : S8x512.Idx) : k0_pay7 v y = v y := by
  unfold k0_pay7
  pointwise []

theorem kept8 (v : Vec Ideal S8x512 .f32) (y : S8x512.Idx) : k0_pay8 v y = v y := by
  unfold k0_pay8
  pointwise []

theorem zeros49 (y : S8x1024.Idx) : k0_pay49 (F := Ideal) y = 0 := by
  unfold k0_pay49
  pointwise []

theorem zeros50 (y : S8x1024.Idx) : k0_pay50 (F := Ideal) y = 0 := by
  unfold k0_pay50
  pointwise []

theorem point_B (c : Dev nD) (i : grid0.Coords)
    (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
    (hc0 : ¬cond0_0 i) (hc1 : ¬cond0_1 i)
    (x0 : Vec Ideal S512x256 .bf16) (x1 x2 : Vec Ideal S1x256x1024 .bf16) (x3 : Vec Ideal S2x1024 .f32)
    (s : Fin 8) (l : Fin 1024) (a : ℂ) (δ : ℕ → ℂ) (xs2 xs3 : Vec Ideal S8x1024 .f32) (z : ℂ)
    (hz : Is (xs2 (ix2 s l)) (xs3 (ix2 s l)) z)
    (ha : Is (x3 (ix2 0 l)) (x3 (ix2 1 l)) a)
    (hd : ∀ r : Fin 512, Is (k0_pay51 x0 x1 (ix2 r l)) (k0_pay52 x0 x2 (ix2 r l)) (δ r.val)) :
    Is (sout0_B_2 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (sout0_B_3 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l))
      (run a (fun n => δ (8 * n + s.val)) z 64) := by
  have hl := l.isLt
  have hs := s.isLt
  constructor
  · unfold sout0_B_2 kernelRun0_B
    dsimp only
    frame_out
    by_cases h : l.val < 512
    · refine (canon_out _ _ _ s l (by omega)).trans ((canon_in _ _ _ s ⟨l.val, h⟩ s l (by simp) (by simp)).trans ((kept1 _ _).trans ?_))
      exact (states1 Variants.none c none i arg2 harg2 arg3 harg3 arg4 harg4 arg5 harg5 arg6 harg6 arg7 harg7 arg8 harg8 arg9 harg9 arg10 harg10 arg11 harg11 _ _ _ _ _ a z
        (fun n => δ (8 * n + s.val)) s ⟨l.val, h⟩
        (ha.of_eq (ld_at _ x3 0 ⟨l.val, h⟩ 0 l (by simp) (by simp)) (ld_at _ x3 0 ⟨l.val, h⟩ 1 l (by simp) (by simp)))
        (hz.of_eq (ld_at _ xs2 s ⟨l.val, h⟩ s l (by simp) (by simp)) (ld_at _ xs3 s ⟨l.val, h⟩ s l (by simp) (by simp)))
        (fun k => (hd ⟨8 * k.val + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).re
    · refine (canon_in _ _ _ s ⟨l.val - 512, by omega⟩ s l (by simp) (by show l.val = 512 + (l.val - 512); omega)).trans ((kept7 _ _).trans ?_)
      exact (states2 Variants.none c none i arg2 harg2 arg3 harg3 arg4 harg4 arg5 harg5 arg6 harg6 arg7 harg7 arg8 harg8 arg9 harg9 arg10 harg10 arg11 harg11 _ _ _ _ _ a z
        (fun n => δ (8 * n + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (hz.of_eq (ld_at _ xs2 s ⟨l.val - 512, by omega⟩ s l (by simp) (by show l.val = 512 + (l.val - 512); omega)) (ld_at _ xs3 s ⟨l.val - 512, by omega⟩ s l (by simp) (by show l.val = 512 + (l.val - 512); omega)))
        (fun k => (hd ⟨8 * k.val + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).re
  · unfold sout0_B_3 kernelRun0_B
    dsimp only
    frame_out
    by_cases h : l.val < 512
    · refine (canon_out _ _ _ s l (by omega)).trans ((canon_in _ _ _ s ⟨l.val, h⟩ s l (by simp) (by simp)).trans ((kept2 _ _).trans ?_))
      exact (states1 Variants.none c none i arg2 harg2 arg3 harg3 arg4 harg4 arg5 harg5 arg6 harg6 arg7 harg7 arg8 harg8 arg9 harg9 arg10 harg10 arg11 harg11 _ _ _ _ _ a z
        (fun n => δ (8 * n + s.val)) s ⟨l.val, h⟩
        (ha.of_eq (ld_at _ x3 0 ⟨l.val, h⟩ 0 l (by simp) (by simp)) (ld_at _ x3 0 ⟨l.val, h⟩ 1 l (by simp) (by simp)))
        (hz.of_eq (ld_at _ xs2 s ⟨l.val, h⟩ s l (by simp) (by simp)) (ld_at _ xs3 s ⟨l.val, h⟩ s l (by simp) (by simp)))
        (fun k => (hd ⟨8 * k.val + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).im
    · refine (canon_in _ _ _ s ⟨l.val - 512, by omega⟩ s l (by simp) (by show l.val = 512 + (l.val - 512); omega)).trans ((kept8 _ _).trans ?_)
      exact (states2 Variants.none c none i arg2 harg2 arg3 harg3 arg4 harg4 arg5 harg5 arg6 harg6 arg7 harg7 arg8 harg8 arg9 harg9 arg10 harg10 arg11 harg11 _ _ _ _ _ a z
        (fun n => δ (8 * n + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (hz.of_eq (ld_at _ xs2 s ⟨l.val - 512, by omega⟩ s l (by simp) (by show l.val = 512 + (l.val - 512); omega)) (ld_at _ xs3 s ⟨l.val - 512, by omega⟩ s l (by simp) (by show l.val = 512 + (l.val - 512); omega)))
        (fun k => (hd ⟨8 * k.val + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).im

theorem point_A (c : Dev nD) (i : grid0.Coords)
    (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
    (hc0 : cond0_0 i) (hc1 : ¬cond0_1 i)
    (x0 : Vec Ideal S512x256 .bf16) (x1 x2 : Vec Ideal S1x256x1024 .bf16) (x3 : Vec Ideal S2x1024 .f32)
    (s : Fin 8) (l : Fin 1024) (a : ℂ) (δ : ℕ → ℂ) (ha : Is (x3 (ix2 0 l)) (x3 (ix2 1 l)) a)
    (hd : ∀ r : Fin 512, Is (k0_pay51 x0 x1 (ix2 r l)) (k0_pay52 x0 x2 (ix2 r l)) (δ r.val)) :
    Is (sout0_A_2 (F := Ideal) c i arg2 harg2 arg3 harg3 arg4 harg4 arg5 harg5 arg6 harg6 arg7 harg7 arg8 harg8 arg9 harg9 arg10 harg10 arg11 harg11 hc0 hc1 x0 x1 x2 x3 (ix2 s l)) (sout0_A_3 (F := Ideal) c i arg2 harg2 arg3 harg3 arg4 harg4 arg5 harg5 arg6 harg6 arg7 harg7 arg8 harg8 arg9 harg9 arg10 harg10 arg11 harg11 hc0 hc1 x0 x1 x2 x3 (ix2 s l))
      (run a (fun n => δ (8 * n + s.val)) 0 64) := by
  have hl := l.isLt
  have hs := s.isLt
  constructor
  · unfold sout0_A_2 kernelRun0_A
    dsimp only
    frame_out
    by_cases h : l.val < 512
    · refine (canon_out _ _ _ s l (by omega)).trans ((canon_in _ _ _ s ⟨l.val, h⟩ s l (by simp) (by simp)).trans ((kept1 _ _).trans ?_))
      exact (states1 Variants.none c none i arg2 harg2 arg3 harg3 arg4 harg4 arg5 harg5 arg6 harg6 arg7 harg7 arg8 harg8 arg9 harg9 arg10 harg10 arg11 harg11 _ _ _ _ _ a 0
        (fun n => δ (8 * n + s.val)) s ⟨l.val, h⟩
        (ha.of_eq (ld_at _ x3 0 ⟨l.val, h⟩ 0 l (by simp) (by simp)) (ld_at _ x3 0 ⟨l.val, h⟩ 1 l (by simp) (by simp)))
        (Is.zero.of_eq ((cov_at _ _ _ s ⟨l.val, h⟩ s l (by simp) (by simp)).trans ((canon_in _ _ _ s l s l (by simp) (by simp)).trans (zeros49 _))) ((cov_at _ _ _ s ⟨l.val, h⟩ s l (by simp) (by simp)).trans ((canon_in _ _ _ s l s l (by simp) (by simp)).trans (zeros50 _))))
        (fun k => (hd ⟨8 * k.val + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).re
    · refine (canon_in _ _ _ s ⟨l.val - 512, by omega⟩ s l (by simp) (by show l.val = 512 + (l.val - 512); omega)).trans ((kept7 _ _).trans ?_)
      exact (states2 Variants.none c none i arg2 harg2 arg3 harg3 arg4 harg4 arg5 harg5 arg6 harg6 arg7 harg7 arg8 harg8 arg9 harg9 arg10 harg10 arg11 harg11 _ _ _ _ _ a 0
        (fun n => δ (8 * n + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (Is.zero.of_eq ((cov_at _ _ _ s ⟨l.val - 512, by omega⟩ s l (by simp) (by show l.val = 512 + (l.val - 512); omega)).trans ((canon_out _ _ _ s l (by omega)).trans ((canon_in _ _ _ s l s l (by simp) (by simp)).trans (zeros49 _)))) ((cov_at _ _ _ s ⟨l.val - 512, by omega⟩ s l (by simp) (by show l.val = 512 + (l.val - 512); omega)).trans ((canon_out _ _ _ s l (by omega)).trans ((canon_in _ _ _ s l s l (by simp) (by simp)).trans (zeros50 _)))))
        (fun k => (hd ⟨8 * k.val + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).re
  · unfold sout0_A_3 kernelRun0_A
    dsimp only
    frame_out
    by_cases h : l.val < 512
    · refine (canon_out _ _ _ s l (by omega)).trans ((canon_in _ _ _ s ⟨l.val, h⟩ s l (by simp) (by simp)).trans ((kept2 _ _).trans ?_))
      exact (states1 Variants.none c none i arg2 harg2 arg3 harg3 arg4 harg4 arg5 harg5 arg6 harg6 arg7 harg7 arg8 harg8 arg9 harg9 arg10 harg10 arg11 harg11 _ _ _ _ _ a 0
        (fun n => δ (8 * n + s.val)) s ⟨l.val, h⟩
        (ha.of_eq (ld_at _ x3 0 ⟨l.val, h⟩ 0 l (by simp) (by simp)) (ld_at _ x3 0 ⟨l.val, h⟩ 1 l (by simp) (by simp)))
        (Is.zero.of_eq ((cov_at _ _ _ s ⟨l.val, h⟩ s l (by simp) (by simp)).trans ((canon_in _ _ _ s l s l (by simp) (by simp)).trans (zeros49 _))) ((cov_at _ _ _ s ⟨l.val, h⟩ s l (by simp) (by simp)).trans ((canon_in _ _ _ s l s l (by simp) (by simp)).trans (zeros50 _))))
        (fun k => (hd ⟨8 * k.val + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).im
    · refine (canon_in _ _ _ s ⟨l.val - 512, by omega⟩ s l (by simp) (by show l.val = 512 + (l.val - 512); omega)).trans ((kept8 _ _).trans ?_)
      exact (states2 Variants.none c none i arg2 harg2 arg3 harg3 arg4 harg4 arg5 harg5 arg6 harg6 arg7 harg7 arg8 harg8 arg9 harg9 arg10 harg10 arg11 harg11 _ _ _ _ _ a 0
        (fun n => δ (8 * n + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (Is.zero.of_eq ((cov_at _ _ _ s ⟨l.val - 512, by omega⟩ s l (by simp) (by show l.val = 512 + (l.val - 512); omega)).trans ((canon_out _ _ _ s l (by omega)).trans ((canon_in _ _ _ s l s l (by simp) (by simp)).trans (zeros49 _)))) ((cov_at _ _ _ s ⟨l.val - 512, by omega⟩ s l (by simp) (by show l.val = 512 + (l.val - 512); omega)).trans ((canon_out _ _ _ s l (by omega)).trans ((canon_in _ _ _ s l s l (by simp) (by simp)).trans (zeros50 _)))))
        (fun k => (hd ⟨8 * k.val + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).im

theorem point_C (c : Dev nD) (i : grid0.Coords)
    (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
    (hc0 : ¬cond0_0 i) (hc1 : cond0_1 i)
    (x0 : Vec Ideal S512x256 .bf16) (x1 x2 : Vec Ideal S1x256x1024 .bf16) (x3 : Vec Ideal S2x1024 .f32)
    (s : Fin 8) (l : Fin 1024) (a : ℂ) (δ : ℕ → ℂ) (xs2 xs3 : Vec Ideal S8x1024 .f32) (z : ℂ)
    (hz : Is (xs2 (ix2 s l)) (xs3 (ix2 s l)) z)
    (ha : Is (x3 (ix2 0 l)) (x3 (ix2 1 l)) a)
    (hd : ∀ r : Fin 512, Is (k0_pay51 x0 x1 (ix2 r l)) (k0_pay52 x0 x2 (ix2 r l)) (δ r.val)) :
    Is (sout0_C_2 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (sout0_C_3 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l))
      (run a (fun n => δ (8 * n + s.val)) z 64) := by
  have hl := l.isLt
  have hs := s.isLt
  constructor
  · unfold sout0_C_2 kernelRun0_C
    dsimp only
    frame_out
    by_cases h : l.val < 512
    · refine (canon_out _ _ _ s l (by omega)).trans ((canon_in _ _ _ s ⟨l.val, h⟩ s l (by simp) (by simp)).trans ((kept1 _ _).trans ?_))
      exact (states1 Variants.none c none i arg2 harg2 arg3 harg3 arg4 harg4 arg5 harg5 arg6 harg6 arg7 harg7 arg8 harg8 arg9 harg9 arg10 harg10 arg11 harg11 _ _ _ _ _ a z
        (fun n => δ (8 * n + s.val)) s ⟨l.val, h⟩
        (ha.of_eq (ld_at _ x3 0 ⟨l.val, h⟩ 0 l (by simp) (by simp)) (ld_at _ x3 0 ⟨l.val, h⟩ 1 l (by simp) (by simp)))
        (hz.of_eq (ld_at _ xs2 s ⟨l.val, h⟩ s l (by simp) (by simp)) (ld_at _ xs3 s ⟨l.val, h⟩ s l (by simp) (by simp)))
        (fun k => (hd ⟨8 * k.val + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).re
    · refine (canon_in _ _ _ s ⟨l.val - 512, by omega⟩ s l (by simp) (by show l.val = 512 + (l.val - 512); omega)).trans ((kept7 _ _).trans ?_)
      exact (states2 Variants.none c none i arg2 harg2 arg3 harg3 arg4 harg4 arg5 harg5 arg6 harg6 arg7 harg7 arg8 harg8 arg9 harg9 arg10 harg10 arg11 harg11 _ _ _ _ _ a z
        (fun n => δ (8 * n + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (hz.of_eq (ld_at _ xs2 s ⟨l.val - 512, by omega⟩ s l (by simp) (by show l.val = 512 + (l.val - 512); omega)) (ld_at _ xs3 s ⟨l.val - 512, by omega⟩ s l (by simp) (by show l.val = 512 + (l.val - 512); omega)))
        (fun k => (hd ⟨8 * k.val + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).re
  · unfold sout0_C_3 kernelRun0_C
    dsimp only
    frame_out
    by_cases h : l.val < 512
    · refine (canon_out _ _ _ s l (by omega)).trans ((canon_in _ _ _ s ⟨l.val, h⟩ s l (by simp) (by simp)).trans ((kept2 _ _).trans ?_))
      exact (states1 Variants.none c none i arg2 harg2 arg3 harg3 arg4 harg4 arg5 harg5 arg6 harg6 arg7 harg7 arg8 harg8 arg9 harg9 arg10 harg10 arg11 harg11 _ _ _ _ _ a z
        (fun n => δ (8 * n + s.val)) s ⟨l.val, h⟩
        (ha.of_eq (ld_at _ x3 0 ⟨l.val, h⟩ 0 l (by simp) (by simp)) (ld_at _ x3 0 ⟨l.val, h⟩ 1 l (by simp) (by simp)))
        (hz.of_eq (ld_at _ xs2 s ⟨l.val, h⟩ s l (by simp) (by simp)) (ld_at _ xs3 s ⟨l.val, h⟩ s l (by simp) (by simp)))
        (fun k => (hd ⟨8 * k.val + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).im
    · refine (canon_in _ _ _ s ⟨l.val - 512, by omega⟩ s l (by simp) (by show l.val = 512 + (l.val - 512); omega)).trans ((kept8 _ _).trans ?_)
      exact (states2 Variants.none c none i arg2 harg2 arg3 harg3 arg4 harg4 arg5 harg5 arg6 harg6 arg7 harg7 arg8 harg8 arg9 harg9 arg10 harg10 arg11 harg11 _ _ _ _ _ a z
        (fun n => δ (8 * n + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (hz.of_eq (ld_at _ xs2 s ⟨l.val - 512, by omega⟩ s l (by simp) (by show l.val = 512 + (l.val - 512); omega)) (ld_at _ xs3 s ⟨l.val - 512, by omega⟩ s l (by simp) (by show l.val = 512 + (l.val - 512); omega)))
        (fun k => (hd ⟨8 * k.val + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).im

end Cert.StartsIdeal.Rows

end
-- ==== Proof.StartsOut.lean ====
module

public import proofs.«01_k».proof.Proof.StartsPoints

/-!
# The states at the streams' starts

The last point of a sweep squares the factor nine times and carries the state from one stream to the next.
-/

@[expose] public section

set_option maxRecDepth 16384
set_option maxHeartbeats 4000000

noncomputable section

namespace Cert.StartsIdeal.Rows

open Idealize.ShloMosaic Idealize.ShloMosaic.TcCoe Idealize.SL.Sem
open Cert.StartsIdeal Cert.StartsIdeal.Gen Cert.Scan

/-- One row over the lanes. -/
abbrev Row : Type := FVec Ideal S1x1024 .f32

/-- Two rows hold a complex number at a lane. -/
abbrev At (l : Fin 1024) (x y : Row) (z : ℂ) : Prop := Is (x (ix2 0 l)) (y (ix2 0 l)) z

theorem two_eq : (Scalar.ofBits (F := Ideal) .f32 0x40000000#32 : EReal) = 2 := by
  show Ideal.ofBits .f32 0x40000000#32 = 2
  have e1 : ¬BitVec.extractLsb' 31 1 1073741824#32 = 1#1 := by decide
  have e2 : (1073741824 >>> 23 % 256 : ℕ) = 128 := by decide
  simp [Ideal.ofBits, Ideal.ieee, e1, e2]
  norm_num
  rw [← EReal.coe_mul, show (8388608 : ℝ) * (1 / 4194304) = 2 by norm_num]
  rfl

theorem ones_at (l : Fin 1024) : k0_pay9 (F := Ideal) (ix2 0 l) = 1 := by
  unfold k0_pay9
  pointwise []

theorem zeros_at (l : Fin 1024) : k0_pay10 (F := Ideal) (ix2 0 l) = 0 := by
  unfold k0_pay10
  pointwise []

theorem none_at (l : Fin 1024) : k0_pay32 (F := Ideal) (ix2 0 l) = 0 := by
  unfold k0_pay32
  pointwise []

theorem none_at' (l : Fin 1024) : k0_pay33 (F := Ideal) (ix2 0 l) = 0 := by
  unfold k0_pay33
  pointwise []

section

variable {l : Fin 1024} {a R : ℂ} {n : ℕ}

/-- A square. -/
theorem square {x y : Row} (h : At l x y (a ^ n)) :
    At l (subf (mulf x x) (mulf y y)) (mulf (mulf (broadcast S1x1024 (Scalar.ofBits (F := Ideal) .f32 0x40000000#32)) x) y) (a ^ (n + n)) := by
  have e := h.sq
  rw [← pow_add, ← two_eq] at e
  exact e

/-- A state carried over. -/
theorem carried {x y u v p q : Row} {z d : ℂ} (hR : At l p q R) (hz : At l x y z) (hd : At l u v d) :
    At l (subf (addf u (mulf p x)) (mulf q y)) (addf (addf v (mulf p y)) (mulf q x)) (R * z + d) :=
  Is.carry hR hz hd

/-- The factor's 512th power. -/
theorem power {v51 v52 : Row} (h : At l v51 v52 a) :
    At l (k0_pay30 (k0_pay9 (F := Ideal)) (k0_pay10 (F := Ideal)) (k0_pay23 v51 v52) (k0_pay24 v51 v52) (k0_pay25 v51 v52))
      (k0_pay31 (k0_pay9 (F := Ideal)) (k0_pay10 (F := Ideal)) (k0_pay23 v51 v52) (k0_pay24 v51 v52) (k0_pay25 v51 v52)) (a ^ 512) := by
  have h1 : At l v51 v52 (a ^ 1) := by rw [pow_one]; exact h
  have h2 : At l (k0_pay11 v51 v52) (k0_pay12 v51 v52) (a ^ 2) := square h1
  have h4 : At l (k0_pay13 v51 v52) (k0_pay14 v51 v52) (a ^ 4) := square h2
  have h8 : At l (k0_pay15 v51 v52) (k0_pay16 v51 v52) (a ^ 8) := square h4
  have h16 : At l (k0_pay17 v51 v52) (k0_pay18 v51 v52) (a ^ 16) := square h8
  have h32 : At l (k0_pay19 v51 v52) (k0_pay20 v51 v52) (a ^ 32) := square h16
  have h64 : At l (k0_pay21 v51 v52) (k0_pay22 v51 v52) (a ^ 64) := square h32
  have h128 : At l (k0_pay23 v51 v52) (k0_pay24 v51 v52) (a ^ 128) := square h64
  have h256 : At l (k0_pay26 (k0_pay24 v51 v52) (k0_pay25 v51 v52)) (k0_pay27 (k0_pay23 v51 v52) (k0_pay24 v51 v52)) (a ^ 256) := square h128
  have h512 : At l (k0_pay28 (k0_pay23 v51 v52) (k0_pay24 v51 v52) (k0_pay25 v51 v52))
      (k0_pay29 (k0_pay23 v51 v52) (k0_pay24 v51 v52) (k0_pay25 v51 v52)) (a ^ 512) := square h256
  have h0 : At l (k0_pay9 (F := Ideal)) (k0_pay10 (F := Ideal)) 1 := Is.one.of_eq (ones_at l) (zeros_at l)
  have e := Is.mul h0 h512
  rw [one_mul] at e
  exact e

theorem row0 : At l (k0_pay32 (F := Ideal)) (k0_pay33 (F := Ideal)) 0 := Is.zero.of_eq (none_at l) (none_at' l)

variable {E : ℕ → ℂ} {v53 v54 v93 v96 v97 v111 v114 v119 v120 v124 v128 v131 v132 v133 v143 v144 v155 v156 v160 v164 v167 v168 v179 v180 v191 v192 : Row} {z : ℂ}

theorem row1 (hR : At l (k0_pay30 v53 v54 v93 v96 v97) (k0_pay31 v53 v54 v93 v96 v97) R) (h : At l v119 v120 (E 0)) :
    At l (k0_pay34 v53 v54 v93 v96 v97 v119) (k0_pay35 v53 v54 v93 v96 v97 v120) (run R E 0 1) :=
  carried hR row0 h

theorem row2 (hR : At l v111 v114 R) (hz : At l v124 v128 (run R E 0 1)) (h : At l v131 v132 (E 1)) (hm : v133 = mulf v111 v124) :
    At l (k0_pay37 v114 v128 v131 v133) (k0_pay38 v111 v114 v124 v128 v132) (run R E 0 2) := by
  subst hm
  exact carried hR hz h

theorem row3 (hR : At l v111 v114 R) (hz : At l v124 v128 (run R E 0 1)) (h : At l v131 v132 (E 1)) (hm : v133 = mulf v111 v124)
    (h2 : At l v143 v144 (E 2)) :
    At l (k0_pay39 v111 v114 v124 v128 v131 v132 v133 v143) (k0_pay40 v111 v114 v124 v128 v131 v132 v133 v144) (run R E 0 3) :=
  carried hR (row2 hR hz h hm) h2

theorem row4 (hR : At l v111 v114 R) (hz : At l v124 v128 (run R E 0 1)) (h : At l v131 v132 (E 1)) (hm : v133 = mulf v111 v124)
    (h2 : At l v143 v144 (E 2)) (h3 : At l v155 v156 (E 3)) :
    At l (k0_pay41 v111 v114 v124 v128 v131 v132 v133 v143 v144 v155) (k0_pay42 v111 v114 v124 v128 v131 v132 v133 v143 v144 v156) (run R E 0 4) :=
  carried hR (row3 hR hz h hm h2) h3

theorem row5 (hR : At l v111 v114 R) (hz : At l v160 v164 (run R E 0 4)) (h4 : At l v167 v168 (E 4)) :
    At l (k0_pay43 v111 v114 v160 v164 v167) (k0_pay44 v111 v114 v160 v164 v168) (run R E 0 5) :=
  carried hR hz h4

theorem row6 (hR : At l v111 v114 R) (hz : At l v160 v164 (run R E 0 4)) (h4 : At l v167 v168 (E 4)) (h5 : At l v179 v180 (E 5)) :
    At l (k0_pay45 v111 v114 v160 v164 v167 v168 v179) (k0_pay46 v111 v114 v160 v164 v167 v168 v180) (run R E 0 6) :=
  carried hR (row5 hR hz h4) h5

theorem row7 (hR : At l v111 v114 R) (hz : At l v160 v164 (run R E 0 4)) (h4 : At l v167 v168 (E 4)) (h5 : At l v179 v180 (E 5))
    (h6 : At l v191 v192 (E 6)) :
    At l (k0_pay47 v111 v114 v160 v164 v167 v168 v179 v180 v191) (k0_pay48 v111 v114 v160 v164 v167 v168 v179 v180 v192) (run R E 0 7) :=
  carried hR (row6 hR hz h4 h5) h6

end

theorem out_C (c : Dev nD) (i : grid0.Coords)
    (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
    (hc0 : ¬cond0_0 i) (hc1 : cond0_1 i)
    (x0 : Vec Ideal S512x256 .bf16) (x1 x2 : Vec Ideal S1x256x1024 .bf16) (x3 : Vec Ideal S2x1024 .f32) (xs2 xs3 : Vec Ideal S8x1024 .f32)
    (l : Fin 1024) (a : ℂ) (E : ℕ → ℂ) (ha : Is (x3 (ix2 0 l)) (x3 (ix2 1 l)) a)
    (hE : ∀ s : Fin 8, Is (sout0_C_2 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (sout0_C_3 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (E s.val)) (s : Fin 8) :
    Is (out0_C_4 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (out0_C_5 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (run (a ^ 512) E 0 s.val) := by
  have h30 := power (l := l) (a := a) (v51 := View.ld x3 (Rect.unit (s := S2x1024) ![0, 0] ![1, 1024] (by decide))) (v52 := View.ld x3 (Rect.unit (s := S2x1024) ![1, 0] ![1, 1024] (by decide)))
    (ha.of_eq (ld_at _ x3 0 l 0 l (by simp) (by simp)) (ld_at _ x3 0 l 1 l (by simp) (by simp)))
  unfold out0_C_4 out0_C_5 kernelRun0_C
  dsimp only
  frame_out
  rcases s with ⟨s, hs⟩
  interval_cases s
  · refine Is.of_eq ?_ ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp))))))))) ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp)))))))))
    exact row0
  · refine Is.of_eq ?_ ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp)))))))) ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp))))))))
    exact (row1 (E := E) h30 ((hE ⟨0, by decide⟩).of_eq ((cov_at _ _ _ 0 l ⟨0, by decide⟩ l (by simp) (by simp)).trans (by unfold sout0_C_2 kernelRun0_C; dsimp only; frame_out)) ((cov_at _ _ _ 0 l ⟨0, by decide⟩ l (by simp) (by simp)).trans (by unfold sout0_C_3 kernelRun0_C; dsimp only; frame_out))))
  · refine Is.of_eq ?_ ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp))))))) ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp)))))))
    exact (row2 (E := E) h30 (row1 (E := E) h30 ((hE ⟨0, by decide⟩).of_eq ((cov_at _ _ _ 0 l ⟨0, by decide⟩ l (by simp) (by simp)).trans (by unfold sout0_C_2 kernelRun0_C; dsimp only; frame_out)) ((cov_at _ _ _ 0 l ⟨0, by decide⟩ l (by simp) (by simp)).trans (by unfold sout0_C_3 kernelRun0_C; dsimp only; frame_out)))) ((hE ⟨1, by decide⟩).of_eq ((cov_at _ _ _ 0 l ⟨1, by decide⟩ l (by simp) (by simp)).trans (by unfold sout0_C_2 kernelRun0_C; dsimp only; frame_out)) ((cov_at _ _ _ 0 l ⟨1, by decide⟩ l (by simp) (by simp)).trans (by unfold sout0_C_3 kernelRun0_C; dsimp only; frame_out))) rfl)
  · refine Is.of_eq ?_ ((canon_out _ _ _ _ l (by simp)).trans ((canon_out _ _ _ _ l (by simp)).trans ((canon_out _ _ _ _ l (by simp)).trans ((canon_out _ _ _ _ l (by simp)).trans (canon_in _ _ _ 0 l _ l (by simp) (by simp)))))) ((canon_out _ _ _ _ l (by simp)).trans ((canon_out _ _ _ _ l (by simp)).trans ((canon_out _ _ _ _ l (by simp)).trans ((canon_out _ _ _ _ l (by simp)).trans (canon_in _ _ _ 0 l _ l (by simp) (by simp))))))
    exact (row3 (E := E) h30 (row1 (E := E) h30 ((hE ⟨0, by decide⟩).of_eq ((cov_at _ _ _ 0 l ⟨0, by decide⟩ l (by simp) (by simp)).trans (by unfold sout0_C_2 kernelRun0_C; dsimp only; frame_out)) ((cov_at _ _ _ 0 l ⟨0, by decide⟩ l (by simp) (by simp)).trans (by unfold sout0_C_3 kernelRun0_C; dsimp only; frame_out)))) ((hE ⟨1, by decide⟩).of_eq ((cov_at _ _ _ 0 l ⟨1, by decide⟩ l (by simp) (by simp)).trans (by unfold sout0_C_2 kernelRun0_C; dsimp only; frame_out)) ((cov_at _ _ _ 0 l ⟨1, by decide⟩ l (by simp) (by simp)).trans (by unfold sout0_C_3 kernelRun0_C; dsimp only; frame_out))) rfl ((hE ⟨2, by decide⟩).of_eq ((cov_at _ _ _ 0 l ⟨2, by decide⟩ l (by simp) (by simp)).trans (by unfold sout0_C_2 kernelRun0_C; dsimp only; frame_out)) ((cov_at _ _ _ 0 l ⟨2, by decide⟩ l (by simp) (by simp)).trans (by unfold sout0_C_3 kernelRun0_C; dsimp only; frame_out))))
  · refine Is.of_eq ?_ ((canon_out _ _ _ _ l (by simp)).trans ((canon_out _ _ _ _ l (by simp)).trans ((canon_out _ _ _ _ l (by simp)).trans (canon_in _ _ _ 0 l _ l (by simp) (by simp))))) ((canon_out _ _ _ _ l (by simp)).trans ((canon_out _ _ _ _ l (by simp)).trans ((canon_out _ _ _ _ l (by simp)).trans (canon_in _ _ _ 0 l _ l (by simp) (by simp)))))
    exact (row4 (E := E) h30 (row1 (E := E) h30 ((hE ⟨0, by decide⟩).of_eq ((cov_at _ _ _ 0 l ⟨0, by decide⟩ l (by simp) (by simp)).trans (by unfold sout0_C_2 kernelRun0_C; dsimp only; frame_out)) ((cov_at _ _ _ 0 l ⟨0, by decide⟩ l (by simp) (by simp)).trans (by unfold sout0_C_3 kernelRun0_C; dsimp only; frame_out)))) ((hE ⟨1, by decide⟩).of_eq ((cov_at _ _ _ 0 l ⟨1, by decide⟩ l (by simp) (by simp)).trans (by unfold sout0_C_2 kernelRun0_C; dsimp only; frame_out)) ((cov_at _ _ _ 0 l ⟨1, by decide⟩ l (by simp) (by simp)).trans (by unfold sout0_C_3 kernelRun0_C; dsimp only; frame_out))) rfl ((hE ⟨2, by decide⟩).of_eq ((cov_at _ _ _ 0 l ⟨2, by decide⟩ l (by simp) (by simp)).trans (by unfold sout0_C_2 kernelRun0_C; dsimp only; frame_out)) ((cov_at _ _ _ 0 l ⟨2, by decide⟩ l (by simp) (by simp)).trans (by unfold sout0_C_3 kernelRun0_C; dsimp only; frame_out))) ((hE ⟨3, by decide⟩).of_eq ((cov_at _ _ _ 0 l ⟨3, by decide⟩ l (by simp) (by simp)).trans (by unfold sout0_C_2 kernelRun0_C; dsimp only; frame_out)) ((cov_at _ _ _ 0 l ⟨3, by decide⟩ l (by simp) (by simp)).trans (by unfold sout0_C_3 kernelRun0_C; dsimp only; frame_out))))
  · refine Is.of_eq ?_ ((canon_out _ _ _ _ l (by simp)).trans ((canon_out _ _ _ _ l (by simp)).trans (canon_in _ _ _ 0 l _ l (by simp) (by simp)))) ((canon_out _ _ _ _ l (by simp)).trans ((canon_out _ _ _ _ l (by simp)).trans (canon_in _ _ _ 0 l _ l (by simp) (by simp))))
    exact (row5 (E := E) h30 (row4 (E := E) h30 (row1 (E := E) h30 ((hE ⟨0, by decide⟩).of_eq ((cov_at _ _ _ 0 l ⟨0, by decide⟩ l (by simp) (by simp)).trans (by unfold sout0_C_2 kernelRun0_C; dsimp only; frame_out)) ((cov_at _ _ _ 0 l ⟨0, by decide⟩ l (by simp) (by simp)).trans (by unfold sout0_C_3 kernelRun0_C; dsimp only; frame_out)))) ((hE ⟨1, by decide⟩).of_eq ((cov_at _ _ _ 0 l ⟨1, by decide⟩ l (by simp) (by simp)).trans (by unfold sout0_C_2 kernelRun0_C; dsimp only; frame_out)) ((cov_at _ _ _ 0 l ⟨1, by decide⟩ l (by simp) (by simp)).trans (by unfold sout0_C_3 kernelRun0_C; dsimp only; frame_out))) rfl ((hE ⟨2, by decide⟩).of_eq ((cov_at _ _ _ 0 l ⟨2, by decide⟩ l (by simp) (by simp)).trans (by unfold sout0_C_2 kernelRun0_C; dsimp only; frame_out)) ((cov_at _ _ _ 0 l ⟨2, by decide⟩ l (by simp) (by simp)).trans (by unfold sout0_C_3 kernelRun0_C; dsimp only; frame_out))) ((hE ⟨3, by decide⟩).of_eq ((cov_at _ _ _ 0 l ⟨3, by decide⟩ l (by simp) (by simp)).trans (by unfold sout0_C_2 kernelRun0_C; dsimp only; frame_out)) ((cov_at _ _ _ 0 l ⟨3, by decide⟩ l (by simp) (by simp)).trans (by unfold sout0_C_3 kernelRun0_C; dsimp only; frame_out)))) ((hE ⟨4, by decide⟩).of_eq ((cov_at _ _ _ 0 l ⟨4, by decide⟩ l (by simp) (by simp)).trans (by unfold sout0_C_2 kernelRun0_C; dsimp only; frame_out)) ((cov_at _ _ _ 0 l ⟨4, by decide⟩ l (by simp) (by simp)).trans (by unfold sout0_C_3 kernelRun0_C; dsimp only; frame_out))))
  · refine Is.of_eq ?_ ((canon_out _ _ _ _ l (by simp)).trans (canon_in _ _ _ 0 l _ l (by simp) (by simp))) ((canon_out _ _ _ _ l (by simp)).trans (canon_in _ _ _ 0 l _ l (by simp) (by simp)))
    exact (row6 (E := E) h30 (row4 (E := E) h30 (row1 (E := E) h30 ((hE ⟨0, by decide⟩).of_eq ((cov_at _ _ _ 0 l ⟨0, by decide⟩ l (by simp) (by simp)).trans (by unfold sout0_C_2 kernelRun0_C; dsimp only; frame_out)) ((cov_at _ _ _ 0 l ⟨0, by decide⟩ l (by simp) (by simp)).trans (by unfold sout0_C_3 kernelRun0_C; dsimp only; frame_out)))) ((hE ⟨1, by decide⟩).of_eq ((cov_at _ _ _ 0 l ⟨1, by decide⟩ l (by simp) (by simp)).trans (by unfold sout0_C_2 kernelRun0_C; dsimp only; frame_out)) ((cov_at _ _ _ 0 l ⟨1, by decide⟩ l (by simp) (by simp)).trans (by unfold sout0_C_3 kernelRun0_C; dsimp only; frame_out))) rfl ((hE ⟨2, by decide⟩).of_eq ((cov_at _ _ _ 0 l ⟨2, by decide⟩ l (by simp) (by simp)).trans (by unfold sout0_C_2 kernelRun0_C; dsimp only; frame_out)) ((cov_at _ _ _ 0 l ⟨2, by decide⟩ l (by simp) (by simp)).trans (by unfold sout0_C_3 kernelRun0_C; dsimp only; frame_out))) ((hE ⟨3, by decide⟩).of_eq ((cov_at _ _ _ 0 l ⟨3, by decide⟩ l (by simp) (by simp)).trans (by unfold sout0_C_2 kernelRun0_C; dsimp only; frame_out)) ((cov_at _ _ _ 0 l ⟨3, by decide⟩ l (by simp) (by simp)).trans (by unfold sout0_C_3 kernelRun0_C; dsimp only; frame_out)))) ((hE ⟨4, by decide⟩).of_eq ((cov_at _ _ _ 0 l ⟨4, by decide⟩ l (by simp) (by simp)).trans (by unfold sout0_C_2 kernelRun0_C; dsimp only; frame_out)) ((cov_at _ _ _ 0 l ⟨4, by decide⟩ l (by simp) (by simp)).trans (by unfold sout0_C_3 kernelRun0_C; dsimp only; frame_out))) ((hE ⟨5, by decide⟩).of_eq ((cov_at _ _ _ 0 l ⟨5, by decide⟩ l (by simp) (by simp)).trans (by unfold sout0_C_2 kernelRun0_C; dsimp only; frame_out)) ((cov_at _ _ _ 0 l ⟨5, by decide⟩ l (by simp) (by simp)).trans (by unfold sout0_C_3 kernelRun0_C; dsimp only; frame_out))))
  · refine Is.of_eq ?_ (canon_in _ _ _ 0 l _ l (by simp) (by simp)) (canon_in _ _ _ 0 l _ l (by simp) (by simp))
    exact (row7 (E := E) h30 (row4 (E := E) h30 (row1 (E := E) h30 ((hE ⟨0, by decide⟩).of_eq ((cov_at _ _ _ 0 l ⟨0, by decide⟩ l (by simp) (by simp)).trans (by unfold sout0_C_2 kernelRun0_C; dsimp only; frame_out)) ((cov_at _ _ _ 0 l ⟨0, by decide⟩ l (by simp) (by simp)).trans (by unfold sout0_C_3 kernelRun0_C; dsimp only; frame_out)))) ((hE ⟨1, by decide⟩).of_eq ((cov_at _ _ _ 0 l ⟨1, by decide⟩ l (by simp) (by simp)).trans (by unfold sout0_C_2 kernelRun0_C; dsimp only; frame_out)) ((cov_at _ _ _ 0 l ⟨1, by decide⟩ l (by simp) (by simp)).trans (by unfold sout0_C_3 kernelRun0_C; dsimp only; frame_out))) rfl ((hE ⟨2, by decide⟩).of_eq ((cov_at _ _ _ 0 l ⟨2, by decide⟩ l (by simp) (by simp)).trans (by unfold sout0_C_2 kernelRun0_C; dsimp only; frame_out)) ((cov_at _ _ _ 0 l ⟨2, by decide⟩ l (by simp) (by simp)).trans (by unfold sout0_C_3 kernelRun0_C; dsimp only; frame_out))) ((hE ⟨3, by decide⟩).of_eq ((cov_at _ _ _ 0 l ⟨3, by decide⟩ l (by simp) (by simp)).trans (by unfold sout0_C_2 kernelRun0_C; dsimp only; frame_out)) ((cov_at _ _ _ 0 l ⟨3, by decide⟩ l (by simp) (by simp)).trans (by unfold sout0_C_3 kernelRun0_C; dsimp only; frame_out)))) ((hE ⟨4, by decide⟩).of_eq ((cov_at _ _ _ 0 l ⟨4, by decide⟩ l (by simp) (by simp)).trans (by unfold sout0_C_2 kernelRun0_C; dsimp only; frame_out)) ((cov_at _ _ _ 0 l ⟨4, by decide⟩ l (by simp) (by simp)).trans (by unfold sout0_C_3 kernelRun0_C; dsimp only; frame_out))) ((hE ⟨5, by decide⟩).of_eq ((cov_at _ _ _ 0 l ⟨5, by decide⟩ l (by simp) (by simp)).trans (by unfold sout0_C_2 kernelRun0_C; dsimp only; frame_out)) ((cov_at _ _ _ 0 l ⟨5, by decide⟩ l (by simp) (by simp)).trans (by unfold sout0_C_3 kernelRun0_C; dsimp only; frame_out))) ((hE ⟨6, by decide⟩).of_eq ((cov_at _ _ _ 0 l ⟨6, by decide⟩ l (by simp) (by simp)).trans (by unfold sout0_C_2 kernelRun0_C; dsimp only; frame_out)) ((cov_at _ _ _ 0 l ⟨6, by decide⟩ l (by simp) (by simp)).trans (by unfold sout0_C_3 kernelRun0_C; dsimp only; frame_out))))

end Cert.StartsIdeal.Rows

end
-- ==== Proof.Drive.lean ====
module

public import proofs.«01_k».proof.Proof.Recurrence

/-!
# What drives the recurrence

The rows of 1024 numbers lie in four slices of 256, each multiplied by a matrix of its own; the products' real and imaginary
parts drive the 4096 lanes. Row `8 n + s` holds step `512 s + n`.
-/

@[expose] public section

noncomputable section

namespace Cert.Scan

open Idealize.ShloMosaic

/-- Equal numbers are held alike. -/
theorem Is.to {x y : EReal} {z w : ℂ} (h : Is x y z) (e : z = w) : Is x y w := e ▸ h

/-- One part of the drive. -/
def drive (x : (⟨2, ![4096, 1024]⟩ : Shape).Idx → EReal) (w : (⟨3, ![4, 256, 1024]⟩ : Shape).Idx → EReal) (r L : Fin 4096) : EReal :=
  ∑ k : Fin 256, x (ix2 r ⟨256 * (L.val / 1024) + k.val, by omega⟩) * w (ix3 ⟨L.val / 1024, by omega⟩ k ⟨L.val % 1024, by omega⟩)

/-- The arguments are finite. -/
structure Finite (x : (⟨2, ![4096, 1024]⟩ : Shape).Idx → EReal) (w v : (⟨3, ![4, 256, 1024]⟩ : Shape).Idx → EReal)
    (a : (⟨2, ![2, 4096]⟩ : Shape).Idx → EReal) : Prop where
  x : ∀ i, ∃ r : ℝ, x i = r
  w : ∀ i, ∃ r : ℝ, w i = r
  v : ∀ i, ∃ r : ℝ, v i = r
  a : ∀ i, ∃ r : ℝ, a i = r

section

variable {x : (⟨2, ![4096, 1024]⟩ : Shape).Idx → EReal} {w v : (⟨3, ![4, 256, 1024]⟩ : Shape).Idx → EReal}
  {a : (⟨2, ![2, 4096]⟩ : Shape).Idx → EReal}

theorem drive_real (hx : ∀ i, ∃ r : ℝ, x i = r) (hw : ∀ i, ∃ r : ℝ, w i = r) (r L : Fin 4096) : ∃ q : ℝ, drive x w r L = q := by
  unfold drive
  refine Finset.sum_induction _ (fun y : EReal => ∃ q : ℝ, y = q) ?_ ⟨0, by simp⟩ ?_
  · rintro _ _ ⟨p, rfl⟩ ⟨q, rfl⟩
    exact ⟨p + q, by push_cast; rfl⟩
  · intro k _
    obtain ⟨p, hp⟩ := hx (ix2 r ⟨256 * (L.val / 1024) + k.val, by omega⟩)
    obtain ⟨q, hq⟩ := hw (ix3 ⟨L.val / 1024, by omega⟩ k ⟨L.val % 1024, by omega⟩)
    exact ⟨p * q, by rw [hp, hq]; push_cast; rfl⟩

variable (x w v a)

/-- The drive of a row, as a complex number. -/
def push (L : Fin 4096) (r : ℕ) : ℂ :=
  if h : r < 4096 then ⟨(drive x w ⟨r, h⟩ L).toReal, (drive x v ⟨r, h⟩ L).toReal⟩ else 0

/-- The factor of a lane, as a complex number. -/
def factor (L : Fin 4096) : ℂ := ⟨(a (ix2 0 L)).toReal, (a (ix2 1 L)).toReal⟩

variable {x w v a}

theorem push_is (hf : Finite x w v a) (r L : Fin 4096) : Is (drive x w r L) (drive x v r L) (push x w v L r.val) := by
  unfold push
  rw [dif_pos r.isLt]
  obtain ⟨p, hp⟩ := drive_real hf.x hf.w r L
  obtain ⟨q, hq⟩ := drive_real hf.x hf.v r L
  exact Is.of_real hp hq

theorem factor_is (hf : Finite x w v a) (L : Fin 4096) : Is (a (ix2 0 L)) (a (ix2 1 L)) (factor a L) := by
  obtain ⟨p, hp⟩ := hf.a (ix2 0 L)
  obtain ⟨q, hq⟩ := hf.a (ix2 1 L)
  exact Is.of_real hp hq

end

/-- Streams restarted at zero and carried on from one another give the recurrence at their starts. -/
theorem run_chain (a : ℂ) (T : ℕ → ℂ) (J : ℕ) : ∀ s, run (a ^ J) (fun j => run a (fun n => T (J * j + n)) 0 J) 0 s = run a T 0 (J * s)
  | 0 => rfl
  | s + 1 => by
    rw [run_streams, ← run_chain a T J s]
    rfl

end Cert.Scan

end
-- ==== Proof.StartsSweep.lean ====
module

public import proofs.«01_k».proof.Proof.StartsOut
public import proofs.«01_k».proof.Proof.Drive

/-!
# What the grid leaves

Eight points sweep the rows of 1024 lanes; the last of them writes the states.
-/

@[expose] public section

set_option maxRecDepth 16384
set_option maxHeartbeats 400000

noncomputable section

namespace Cert.StartsIdeal.Rows

open Idealize.ShloMosaic Idealize.ShloMosaic.TcCoe Idealize.SL.Sem
open Cert.StartsIdeal Cert.StartsIdeal.Gen Cert.Scan
open Cert.StartsIdeal.Value hiding run

attribute [local irreducible] Cert.Scan.run

variable (m : (ℓ : Loc nD τ sig) → Buf (Elt Ideal) ℓ) (c : Dev nD)

/-- The kernel's arguments. -/
abbrev argX : Vec Ideal S4096x1024 .bf16 := m ((c : Thread nD τ).loc main_arg0)
abbrev argW : Vec Ideal S4x256x1024 .bf16 := m ((c : Thread nD τ).loc main_arg1)
abbrev argV : Vec Ideal S4x256x1024 .bf16 := m ((c : Thread nD τ).loc main_arg2)
abbrev argA : Vec Ideal S2x4096 .f32 := m ((c : Thread nD τ).loc main_arg3)

/-- The blocks a grid point reads. -/
theorem windows_at : ∀ t : Fin cfg0.N, win0_0.index t = ![t.val % 8, t.val / 8] ∧ win0_1.index t = ![t.val / 8, 0, 0]
    ∧ win0_2.index t = ![t.val / 8, 0, 0] ∧ win0_3.index t = ![0, t.val / 8] :=
  (by decide +kernel : ∀ t : Fin grid0.N, _)

theorem points_lt (t : Fin cfg0.N) : t.val < 32 := lt_of_lt_of_eq t.isLt N_0

/-- The drive a point computes. -/
theorem drive_re (t : Fin cfg0.N) (r : Fin 512) (l : Fin 1024) (R L : Fin 4096) (hR : R.val = 512 * (t.val % 8) + r.val)
    (hL : L.val = 1024 * (t.val / 8) + l.val) :
    k0_pay51 (F := Ideal) (iblk m c 0 t) (iblk m c 1 t) (ix2 r l) = drive (argX m c) (argW m c) R L := by
  obtain ⟨e0, e1, e2, e3⟩ := windows_at t
  have ht := points_lt t
  pointwise [k0_pay51]
  unfold drive
  refine Finset.sum_congr rfl fun k _ => ?_
  refine congrArg₂ (· * ·) ?_ ?_
  · blk_ext [iblk, V, e0, e1, e2]
  · blk_ext [iblk, V, e0, e1, e2]

theorem drive_im (t : Fin cfg0.N) (r : Fin 512) (l : Fin 1024) (R L : Fin 4096) (hR : R.val = 512 * (t.val % 8) + r.val)
    (hL : L.val = 1024 * (t.val / 8) + l.val) :
    k0_pay52 (F := Ideal) (iblk m c 0 t) (iblk m c 2 t) (ix2 r l) = drive (argX m c) (argV m c) R L := by
  obtain ⟨e0, e1, e2, e3⟩ := windows_at t
  have ht := points_lt t
  pointwise [k0_pay52]
  unfold drive
  refine Finset.sum_congr rfl fun k _ => ?_
  refine congrArg₂ (· * ·) ?_ ?_
  · blk_ext [iblk, V, e0, e1, e2]
  · blk_ext [iblk, V, e0, e1, e2]

theorem factor_at (t : Fin cfg0.N) (p : Fin 2) (l : Fin 1024) (L : Fin 4096) (hL : L.val = 1024 * (t.val / 8) + l.val) :
    iblk m c 3 t (ix2 p l) = argA m c (ix2 p L) := by
  obtain ⟨e0, e1, e2, e3⟩ := windows_at t
  have ht := points_lt t
  blk_ext [iblk, V, e3]

variable {m c}

/-- The drive of the stream's steps. -/
abbrev steps (L : Fin 4096) (s : ℕ) (n : ℕ) : ℂ := push (argX m c) (argW m c) (argV m c) L (8 * n + s)

section

variable (hf : Finite (argX m c) (argW m c) (argV m c) (argA m c)) (t : Fin cfg0.N)
  (acc : Vec Ideal S8x1024 .f32 × Vec Ideal S8x1024 .f32 × Vec Ideal S8x1024 .f32 × Vec Ideal S8x1024 .f32)
  (s : Fin 8) (l : Fin 1024) (L : Fin 4096) (hL : L.val = 1024 * (t.val / 8) + l.val)

include hf hL

theorem factor_holds : Is (iblk m c 3 t (ix2 0 l)) (iblk m c 3 t (ix2 1 l)) (factor (argA m c) L) :=
  (factor_is hf L).of_eq (factor_at m c t 0 l L hL) (factor_at m c t 1 l L hL)

theorem drive_holds (r : Fin 512) :
    Is (k0_pay51 (F := Ideal) (iblk m c 0 t) (iblk m c 1 t) (ix2 r l)) (k0_pay52 (F := Ideal) (iblk m c 0 t) (iblk m c 2 t) (ix2 r l))
      (push (argX m c) (argW m c) (argV m c) L (512 * (t.val % 8) + r.val)) := by
  have ht := points_lt t
  exact (push_is hf ⟨512 * (t.val % 8) + r.val, by omega⟩ L).of_eq (drive_re m c t r l _ L rfl hL) (drive_im m c t r l _ L rfl hL)

theorem steps_eq (z : ℂ) :
    run (factor (argA m c) L) (fun n => push (argX m c) (argW m c) (argV m c) L (512 * (t.val % 8) + (8 * n + s.val))) z 64
      = run (factor (argA m c) L) (fun n => steps (m := m) (c := c) L s.val (64 * (t.val % 8) + n)) z 64 := by
  have ht := points_lt t
  refine run_congr _ _ 64 fun n hn => ?_
  exact congrArg (push (argX m c) (argW m c) (argV m c) L) (by omega)

end

end Cert.StartsIdeal.Rows

end
-- ==== Proof.StartsSweepPoints.lean ====
module

public import proofs.«01_k».proof.Proof.StartsSweep
public import proofs.«01_k».proof.Proof.Drive

/-!
# A grid point takes the states on
-/

@[expose] public section

set_option maxRecDepth 16384
set_option maxHeartbeats 400000

noncomputable section

namespace Cert.StartsIdeal.Rows

open Idealize.ShloMosaic Idealize.ShloMosaic.TcCoe Idealize.SL.Sem
open Cert.StartsIdeal Cert.StartsIdeal.Gen Cert.Scan
open Cert.StartsIdeal.Value hiding run

attribute [local irreducible] Cert.Scan.run

variable (m : (ℓ : Loc nD τ sig) → Buf (Elt Ideal) ℓ) (c : Dev nD)

variable {m c}

section

variable (hf : Finite (argX m c) (argW m c) (argV m c) (argA m c)) (t : Fin cfg0.N)
  (acc : Vec Ideal S8x1024 .f32 × Vec Ideal S8x1024 .f32 × Vec Ideal S8x1024 .f32 × Vec Ideal S8x1024 .f32)
  (s : Fin 8) (l : Fin 1024) (L : Fin 4096) (hL : L.val = 1024 * (t.val / 8) + l.val)

include hf hL

/-- The first point of a sweep. -/
theorem first_point (h : t.val % 8 = 0) :
    Is ((stAt0 m c t.val t.isLt acc).2.2.1 (ix2 s l)) ((stAt0 m c t.val t.isLt acc).2.2.2 (ix2 s l))
      (run (factor (argA m c) L) (steps (m := m) (c := c) L s.val) 0 64) := by
  rw [stAt0_A m c t acc h (by omega)]
  dsimp only
  have e : run (factor (argA m c) L) (fun n => steps (m := m) (c := c) L s.val (64 * (t.val % 8) + n)) 0 64
      = run (factor (argA m c) L) (steps (m := m) (c := c) L s.val) 0 64 := by
    rw [h]
    simp only [Nat.mul_zero, Nat.zero_add]
  have p := point_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
    ((hcond0_0 t).mpr h) (fun h' => by have := (hcond0_1 t).mp h'; omega) (iblk m c 0 t) (iblk m c 1 t) (iblk m c 2 t) (iblk m c 3 t) s l _ (fun k => push (argX m c) (argW m c) (argV m c) L (512 * (t.val % 8) + k))
    (factor_holds hf t l L hL) (drive_holds hf t l L hL)
  have q := (p.to (steps_eq hf t s l L hL 0)).to e
  exact q

/-- A later point. -/
theorem later_point (h : ¬t.val % 8 = 0) {z : ℂ} (hz : Is (acc.2.2.1 (ix2 s l)) (acc.2.2.2 (ix2 s l)) z) :
    Is ((stAt0 m c t.val t.isLt acc).2.2.1 (ix2 s l)) ((stAt0 m c t.val t.isLt acc).2.2.2 (ix2 s l))
      (run (factor (argA m c) L) (fun n => steps (m := m) (c := c) L s.val (64 * (t.val % 8) + n)) z 64) := by
  by_cases h7 : t.val % 8 = 7
  · rw [stAt0_C m c t acc h h7]
    dsimp only
    have p := point_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (fun h' => h ((hcond0_0 t).mp h')) ((hcond0_1 t).mpr h7) (iblk m c 0 t) (iblk m c 1 t) (iblk m c 2 t) (iblk m c 3 t) s l _ (fun k => push (argX m c) (argW m c) (argV m c) L (512 * (t.val % 8) + k)) acc.2.2.1 acc.2.2.2 z hz
      (factor_holds hf t l L hL) (drive_holds hf t l L hL)
    exact p.to (steps_eq hf t s l L hL z)
  · rw [stAt0_B m c t acc h h7]
    dsimp only
    have p := point_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (fun h' => h ((hcond0_0 t).mp h')) (fun h' => h7 ((hcond0_1 t).mp h')) (iblk m c 0 t) (iblk m c 1 t) (iblk m c 2 t) (iblk m c 3 t) s l _ (fun k => push (argX m c) (argW m c) (argV m c) L (512 * (t.val % 8) + k)) acc.2.2.1 acc.2.2.2 z hz
      (factor_holds hf t l L hL) (drive_holds hf t l L hL)
    exact p.to (steps_eq hf t s l L hL z)

end

end Cert.StartsIdeal.Rows

end
-- ==== Proof.StartsSweepEnd.lean ====
module

public import proofs.«01_k».proof.Proof.StartsSweepPoints
public import proofs.«01_k».proof.Proof.Drive

/-!
# What the last point of a sweep writes
-/

@[expose] public section

set_option maxRecDepth 16384
set_option maxHeartbeats 400000

noncomputable section

namespace Cert.StartsIdeal.Rows

open Idealize.ShloMosaic Idealize.ShloMosaic.TcCoe Idealize.SL.Sem
open Cert.StartsIdeal Cert.StartsIdeal.Gen Cert.Scan
open Cert.StartsIdeal.Value hiding run

attribute [local irreducible] Cert.Scan.run

variable (m : (ℓ : Loc nD τ sig) → Buf (Elt Ideal) ℓ) (c : Dev nD)

variable {m c}

/-- The states after each point. -/
theorem states_at (hf : Finite (argX m c) (argW m c) (argV m c) (argA m c)) (s : Fin 8) (l : Fin 1024) (L : Fin 4096) :
    ∀ (n : ℕ) (hn : n < cfg0.N), L.val = 1024 * (n / 8) + l.val →
      Is ((outsAt0 m c n hn).2.2.1 (ix2 s l)) ((outsAt0 m c n hn).2.2.2 (ix2 s l))
        (run (factor (argA m c) L) (steps (m := m) (c := c) L s.val) 0 (64 * (n % 8 + 1)))
  | 0, hn, hL => by
    rw [outsAt0_zero]
    rw [show 64 * (0 % 8 + 1) = 64 from rfl]
    exact first_point hf ⟨0, hn⟩ _ s l L hL rfl
  | n + 1, hn, hL => by
    rw [outsAt0_succ]
    by_cases h : (n + 1) % 8 = 0
    · rw [h, show 64 * (0 + 1) = 64 from rfl]
      exact first_point hf ⟨n + 1, hn⟩ _ s l L hL h
    · have e1 : (n + 1) / 8 = n / 8 := by omega
      have e2 : (n + 1) % 8 = n % 8 + 1 := by omega
      have ih := states_at hf s l L n (Nat.lt_of_succ_lt hn) (by rw [← e1]; exact hL)
      have p := later_point hf ⟨n + 1, hn⟩ _ s l L hL h ih
      dsimp only at p
      rw [e2] at p ⊢
      rw [show 64 * (n % 8 + 1 + 1) = 64 * (n % 8 + 1) + 64 by ring, run_add]
      exact p

/-- The drive in the order of the recurrence. -/
abbrev timed (L : Fin 4096) (n : ℕ) : ℂ := push (argX m c) (argW m c) (argV m c) L (8 * (n % 512) + n / 512)

/-- What the last point of a sweep writes. -/
theorem written (hf : Finite (argX m c) (argW m c) (argV m c) (argA m c)) (s : Fin 8) (l : Fin 1024) (L : Fin 4096)
    (n : ℕ) (hn : n + 1 < cfg0.N) (hL : L.val = 1024 * ((n + 1) / 8) + l.val) (h7 : (n + 1) % 8 = 7) :
    Is ((outsAt0 m c (n + 1) hn).1 (ix2 s l)) ((outsAt0 m c (n + 1) hn).2.1 (ix2 s l))
      (run (factor (argA m c) L) (timed (m := m) (c := c) L) 0 (512 * s.val)) := by
  have hE : ∀ s : Fin 8, Is ((stAt0 m c (n + 1) hn (outsAt0 m c n (Nat.lt_of_succ_lt hn))).2.2.1 (ix2 s l))
      ((stAt0 m c (n + 1) hn (outsAt0 m c n (Nat.lt_of_succ_lt hn))).2.2.2 (ix2 s l))
      (run (factor (argA m c) L) (fun i => timed (m := m) (c := c) L (512 * s.val + i)) 0 512) := fun s => by
    have hs := s.isLt
    have e := states_at hf s l L (n + 1) hn hL
    rw [h7, outsAt0_succ, show 64 * (7 + 1) = 512 from rfl] at e
    refine e.to (run_congr _ _ 512 fun i hi => ?_)
    exact congrArg (push (argX m c) (argW m c) (argV m c) L) (by omega)
  rw [outsAt0_succ]
  rw [← run_chain]
  have h0 : ¬(n + 1) % 8 = 0 := by omega
  rw [stAt0_C m c ⟨n + 1, hn⟩ _ h0 h7] at hE ⊢
  dsimp only at hE ⊢
  exact out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _)
    (fun h' => h0 ((hcond0_0 ⟨n + 1, hn⟩).mp h')) ((hcond0_1 ⟨n + 1, hn⟩).mpr h7) (iblk m c 0 ⟨n + 1, hn⟩) (iblk m c 1 ⟨n + 1, hn⟩) (iblk m c 2 ⟨n + 1, hn⟩) (iblk m c 3 ⟨n + 1, hn⟩)
    (outsAt0 m c n (Nat.lt_of_succ_lt hn)).2.2.1 (outsAt0 m c n (Nat.lt_of_succ_lt hn)).2.2.2 l (factor (argA m c) L) (fun j => run (factor (argA m c) L) (fun i => timed (m := m) (c := c) L (512 * j + i)) 0 512)
    (factor_holds hf ⟨n + 1, hn⟩ l L hL) hE s

theorem outs_congr (m : (ℓ : Loc nD τ sig) → Buf (Elt Ideal) ℓ) (c : Dev nD) {p q : ℕ} (h : p = q) (hp : p < cfg0.N) (hq : q < cfg0.N) :
    outsAt0 m c p hp = outsAt0 m c q hq := by
  subst h
  rfl

/-- The arrays the kernel leaves. -/
theorem arrays (hf : Finite (argX m c) (argW m c) (argV m c) (argA m c)) (s : Fin 8) (L : Fin 4096) :
    Is (G4 m c (ix2 s L)) (G5 m c (ix2 s L)) (run (factor (argA m c) L) (timed (m := m) (c := c) L) 0 (512 * s.val)) := by
  have hs := s.isLt
  have hl := L.isLt
  have er : 8 * (4 * (s.val / 8 - 0) + 1 * (L.val / 1024 - 0)) + 7 = (8 * (L.val / 1024) + 6) + 1 := by omega
  have hN : (8 * (L.val / 1024) + 6) + 1 < cfg0.N := by rw [show cfg0.N = 32 from N_0]; omega
  have e := written hf s ⟨L.val % 1024, by omega⟩ L (8 * (L.val / 1024) + 6) hN (by dsimp only; omega) (by omega)
  have loc : ∀ q : S8x1024.Idx, q = loc4Of (ix2 s L) → q = ix2 s ⟨L.val % 1024, by omega⟩ := by
    rintro q rfl
    funext a
    refine Fin.ext ?_
    match a with
    | ⟨0, _⟩ => show s.val % 8 = s.val; omega
    | ⟨1, _⟩ => rfl
  refine e.of_eq ?_ ?_
  · unfold G4
    have hp : pt4Of (ix2 s L) < cfg0.N := lt_of_eq_of_lt er hN
    rw [dif_pos hp, loc _ rfl, ← outsAt0_sweep m c _ hp]
    exact congrArg (fun o : Vec Ideal S8x1024 .f32 × Vec Ideal S8x1024 .f32 × Vec Ideal S8x1024 .f32 × Vec Ideal S8x1024 .f32 => o.1 (ix2 s ⟨L.val % 1024, by omega⟩))
      (outs_congr m c er _ _)
  · unfold G5
    have hp : pt5Of (ix2 s L) < cfg0.N := lt_of_eq_of_lt er hN
    rw [dif_pos hp, loc (loc5Of (ix2 s L)) rfl, ← outsAt0_sweep m c _ hp]
    exact congrArg (fun o : Vec Ideal S8x1024 .f32 × Vec Ideal S8x1024 .f32 × Vec Ideal S8x1024 .f32 × Vec Ideal S8x1024 .f32 => o.2.1 (ix2 s ⟨L.val % 1024, by omega⟩))
      (outs_congr m c er _ _)

end Cert.StartsIdeal.Rows

end
-- ==== Proof.StartsWalk.lean ====
module

public import proofs.«01_k».proof.Proof.Gen.StartsRefIdeal.Run
public import proofs.«01_k».proof.Proof.Gen.StartsRefIdeal.Step

/-!
# The reference's run

Every value a trip of the loop computes is the one `Step` names, so the run ends in the last iterate of `step`.
-/

@[expose] public section

noncomputable section

namespace Cert.StartsRefIdeal.Walk

open Idealize.ShloMosaic Idealize.ShloMosaic.TcCoe Idealize.SL.Sem Idealize.ShloMosaic.StableHlo
open Cert.StartsRefIdeal Cert.StartsRefIdeal.Gen Cert.StartsRefIdeal.Value
open Cert.StartsRefIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v63_5) = s.main_v63_5
  f_6 : V0 (Proc.devRef .tc main_v63_6) = s.main_v63_6
  f_7 : V0 (Proc.devRef .tc main_v63_7) = s.main_v63_7
  f_8 : V0 (Proc.devRef .tc main_v63_8) = s.main_v63_8
  f_0 : V0 (Proc.devRef .tc main_v63_0) = s.main_v63_0
  f_1 : V0 (Proc.devRef .tc main_v63_1) = s.main_v63_1
  f_2 : V0 (Proc.devRef .tc main_v63_2) = s.main_v63_2
  f_3 : V0 (Proc.devRef .tc main_v63_3) = s.main_v63_3
  n_4 : V0 (Proc.devRef .tc main_v63_4) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.StartsRefIdeal.Step.b0 j s := by
  unfold Cert.StartsRefIdeal.Step.b0
  rfl
set_option maxRecDepth 8192 in
theorem al_1 (h : Holds V0 s j) : (Host.dynamicSlice S1x4096 (V0 (Proc.devRef .tc main_v63_0)) (fun k => (((![V0 (Proc.devRef .tc main_v63_4), constantI S_ 32 0#32] : Fin 2 → (⟨S_, .i32⟩ : BufTy).Contents (Elt F))) k (Shape.Idx.first h_S_)).toInt) sliceFits_S4096x4096_S1x4096 : (Proc.devRef .tc main_while0b_call0_v0 : DevRef τ sig).ty.Contents (Elt F)) = Cert.StartsRefIdeal.Step.b1 j s := by
  unfold Cert.StartsRefIdeal.Step.b1
  rw [← al_0 h, h.f_0, h.n_4]
  try rfl
set_option maxRecDepth 8192 in
theorem al_2 (h : Holds V0 s j) : (shapeCast S4096 (Host.dynamicSlice S1x4096 (V0 (Proc.devRef .tc main_v63_0)) (fun k => (((![V0 (Proc.devRef .tc main_v63_4), constantI S_ 32 0#32] : Fin 2 → (⟨S_, .i32⟩ : BufTy).Contents (Elt F))) k (Shape.Idx.first h_S_)).toInt) sliceFits_S4096x4096_S1x4096) shapeCasts_S1x4096_S4096 : (Proc.devRef .tc main_while0b_v66 : DevRef τ sig).ty.Contents (Elt F)) = Cert.StartsRefIdeal.Step.b2 j s := by
  unfold Cert.StartsRefIdeal.Step.b2
  rw [← al_1 h]
  try rfl
set_option maxRecDepth 8192 in
theorem al_3 (h : Holds V0 s j) : (constantI S_ 32 0#32 : (Proc.devRef .tc main_while0b_call1_c : DevRef τ sig).ty.Contents (Elt F)) = Cert.StartsRefIdeal.Step.b3 j s := by
  unfold Cert.StartsRefIdeal.Step.b3
  rfl
set_option maxRecDepth 8192 in
theorem al_4 (h : Holds V0 s j) : (Host.dynamicSlice S1x4096 (V0 (Proc.devRef .tc main_v63_1)) (fun k => (((![V0 (Proc.devRef .tc main_v63_4), constantI S_ 32 0#32] : Fin 2 → (⟨S_, .i32⟩ : BufTy).Contents (Elt F))) k (Shape.Idx.first h_S_)).toInt) sliceFits_S4096x4096_S1x4096 : (Proc.devRef .tc main_while0b_call1_v0 : DevRef τ sig).ty.Contents (Elt F)) = Cert.StartsRefIdeal.Step.b4 j s := by
  unfold Cert.StartsRefIdeal.Step.b4
  rw [← al_3 h, h.f_1, h.n_4]
  try rfl
set_option maxRecDepth 8192 in
theorem al_5 (h : Holds V0 s j) : (shapeCast S4096 (Host.dynamicSlice S1x4096 (V0 (Proc.devRef .tc main_v63_1)) (fun k => (((![V0 (Proc.devRef .tc main_v63_4), constantI S_ 32 0#32] : Fin 2 → (⟨S_, .i32⟩ : BufTy).Contents (Elt F))) k (Shape.Idx.first h_S_)).toInt) sliceFits_S4096x4096_S1x4096) shapeCasts_S1x4096_S4096 : (Proc.devRef .tc main_while0b_v67 : DevRef τ sig).ty.Contents (Elt F)) = Cert.StartsRefIdeal.Step.b5 j s := by
  unfold Cert.StartsRefIdeal.Step.b5
  rw [← al_4 h]
  try rfl
set_option maxRecDepth 8192 in
theorem al_6 (h : Holds V0 s j) : (mulf (V0 (Proc.devRef .tc main_v63_2)) (V0 (Proc.devRef .tc main_v63_5)) : (Proc.devRef .tc main_while0b_v68 : DevRef τ sig).ty.Contents (Elt F)) = Cert.StartsRefIdeal.Step.b6 j s := by
  unfold Cert.StartsRefIdeal.Step.b6
  rw [h.f_2, h.f_5]
  try rfl
set_option maxRecDepth 8192 in
theorem al_7 (h : Holds V0 s j) : (mulf (V0 (Proc.devRef .tc main_v63_3)) (V0 (Proc.devRef .tc main_v63_6)) : (Proc.devRef .tc main_while0b_v69 : DevRef τ sig).ty.Contents (Elt F)) = Cert.StartsRefIdeal.Step.b7 j s := by
  unfold Cert.StartsRefIdeal.Step.b7
  rw [h.f_3, h.f_6]
  try rfl
set_option maxRecDepth 8192 in
theorem al_8 (h : Holds V0 s j) : (subf (mulf (V0 (Proc.devRef .tc main_v63_2)) (V0 (Proc.devRef .tc main_v63_5))) (mulf (V0 (Proc.devRef .tc main_v63_3)) (V0 (Proc.devRef .tc main_v63_6))) : (Proc.devRef .tc main_while0b_v70 : DevRef τ sig).ty.Contents (Elt F)) = Cert.StartsRefIdeal.Step.b8 j s := by
  unfold Cert.StartsRefIdeal.Step.b8
  rw [← al_6 h, ← al_7 h]
  try rfl
set_option maxRecDepth 8192 in
theorem al_9 (h : Holds V0 s j) : (addf (subf (mulf (V0 (Proc.devRef .tc main_v63_2)) (V0 (Proc.devRef .tc main_v63_5))) (mulf (V0 (Proc.devRef .tc main_v63_3)) (V0 (Proc.devRef .tc main_v63_6)))) (shapeCast S4096 (Host.dynamicSlice S1x4096 (V0 (Proc.devRef .tc main_v63_0)) (fun k => (((![V0 (Proc.devRef .tc main_v63_4), constantI S_ 32 0#32] : Fin 2 → (⟨S_, .i32⟩ : BufTy).Contents (Elt F))) k (Shape.Idx.first h_S_)).toInt) sliceFits_S4096x4096_S1x4096) shapeCasts_S1x4096_S4096) : (Proc.devRef .tc main_while0b_v71 : DevRef τ sig).ty.Contents (Elt F)) = Cert.StartsRefIdeal.Step.b9 j s := by
  unfold Cert.StartsRefIdeal.Step.b9
  rw [← al_8 h, ← al_2 h]
  try rfl
set_option maxRecDepth 8192 in
theorem al_10 (h : Holds V0 s j) : (mulf (V0 (Proc.devRef .tc main_v63_2)) (V0 (Proc.devRef .tc main_v63_6)) : (Proc.devRef .tc main_while0b_v72 : DevRef τ sig).ty.Contents (Elt F)) = Cert.StartsRefIdeal.Step.b10 j s := by
  unfold Cert.StartsRefIdeal.Step.b10
  rw [h.f_2, h.f_6]
  try rfl
set_option maxRecDepth 8192 in
theorem al_11 (h : Holds V0 s j) : (mulf (V0 (Proc.devRef .tc main_v63_3)) (V0 (Proc.devRef .tc main_v63_5)) : (Proc.devRef .tc main_while0b_v73 : DevRef τ sig).ty.Contents (Elt F)) = Cert.StartsRefIdeal.Step.b11 j s := by
  unfold Cert.StartsRefIdeal.Step.b11
  rw [h.f_3, h.f_5]
  try rfl
set_option maxRecDepth 8192 in
theorem al_12 (h : Holds V0 s j) : (addf (mulf (V0 (Proc.devRef .tc main_v63_2)) (V0 (Proc.devRef .tc main_v63_6))) (mulf (V0 (Proc.devRef .tc main_v63_3)) (V0 (Proc.devRef .tc main_v63_5))) : (Proc.devRef .tc main_while0b_v74 : DevRef τ sig).ty.Contents (Elt F)) = Cert.StartsRefIdeal.Step.b12 j s := by
  unfold Cert.StartsRefIdeal.Step.b12
  rw [← al_10 h, ← al_11 h]
  try rfl
set_option maxRecDepth 8192 in
theorem al_13 (h : Holds V0 s j) : (addf (addf (mulf (V0 (Proc.devRef .tc main_v63_2)) (V0 (Proc.devRef .tc main_v63_6))) (mulf (V0 (Proc.devRef .tc main_v63_3)) (V0 (Proc.devRef .tc main_v63_5)))) (shapeCast S4096 (Host.dynamicSlice S1x4096 (V0 (Proc.devRef .tc main_v63_1)) (fun k => (((![V0 (Proc.devRef .tc main_v63_4), constantI S_ 32 0#32] : Fin 2 → (⟨S_, .i32⟩ : BufTy).Contents (Elt F))) k (Shape.Idx.first h_S_)).toInt) sliceFits_S4096x4096_S1x4096) shapeCasts_S1x4096_S4096) : (Proc.devRef .tc main_while0b_v75 : DevRef τ sig).ty.Contents (Elt F)) = Cert.StartsRefIdeal.Step.b13 j s := by
  unfold Cert.StartsRefIdeal.Step.b13
  rw [← al_12 h, ← al_5 h]
  try rfl
set_option maxRecDepth 8192 in
theorem al_14 (h : Holds V0 s j) : (broadcastInDim S1x4096 ![1] bcast_S4096_S1x4096_1 (V0 (Proc.devRef .tc main_v63_5)) : (Proc.devRef .tc main_while0b_call2_v0 : DevRef τ sig).ty.Contents (Elt F)) = Cert.StartsRefIdeal.Step.b14 j s := by
  unfold Cert.StartsRefIdeal.Step.b14
  rw [h.f_5]
  try rfl
set_option maxRecDepth 8192 in
theorem al_15 (h : Holds V0 s j) : (constantI S_ 32 0#32 : (Proc.devRef .tc main_while0b_call2_c : DevRef τ sig).ty.Contents (Elt F)) = Cert.StartsRefIdeal.Step.b15 j s := by
  unfold Cert.StartsRefIdeal.Step.b15
  rfl
set_option maxRecDepth 8192 in
theorem al_16 (h : Holds V0 s j) : (Host.dynamicUpdateSlice (V0 (Proc.devRef .tc main_v63_7)) (broadcastInDim S1x4096 ![1] bcast_S4096_S1x4096_1 (V0 (Proc.devRef .tc main_v63_5))) (fun k => (((![V0 (Proc.devRef .tc main_v63_4), constantI S_ 32 0#32] : Fin 2 → (⟨S_, .i32⟩ : BufTy).Contents (Elt F))) k (Shape.Idx.first h_S_)).toInt) updateFits_S4096x4096_S1x4096 : (Proc.devRef .tc main_while0b_v76 : DevRef τ sig).ty.Contents (Elt F)) = Cert.StartsRefIdeal.Step.b16 j s := by
  unfold Cert.StartsRefIdeal.Step.b16
  rw [← al_14 h, ← al_15 h, h.f_7, h.n_4]
  try rfl
set_option maxRecDepth 8192 in
theorem al_17 (h : Holds V0 s j) : (broadcastInDim S1x4096 ![1] bcast_S4096_S1x4096_1 (V0 (Proc.devRef .tc main_v63_6)) : (Proc.devRef .tc main_while0b_call3_v0 : DevRef τ sig).ty.Contents (Elt F)) = Cert.StartsRefIdeal.Step.b17 j s := by
  unfold Cert.StartsRefIdeal.Step.b17
  rw [h.f_6]
  try rfl
set_option maxRecDepth 8192 in
theorem al_18 (h : Holds V0 s j) : (constantI S_ 32 0#32 : (Proc.devRef .tc main_while0b_call3_c : DevRef τ sig).ty.Contents (Elt F)) = Cert.StartsRefIdeal.Step.b18 j s := by
  unfold Cert.StartsRefIdeal.Step.b18
  rfl
set_option maxRecDepth 8192 in
theorem al_19 (h : Holds V0 s j) : (Host.dynamicUpdateSlice (V0 (Proc.devRef .tc main_v63_8)) (broadcastInDim S1x4096 ![1] bcast_S4096_S1x4096_1 (V0 (Proc.devRef .tc main_v63_6))) (fun k => (((![V0 (Proc.devRef .tc main_v63_4), constantI S_ 32 0#32] : Fin 2 → (⟨S_, .i32⟩ : BufTy).Contents (Elt F))) k (Shape.Idx.first h_S_)).toInt) updateFits_S4096x4096_S1x4096 : (Proc.devRef .tc main_while0b_v77 : DevRef τ sig).ty.Contents (Elt F)) = Cert.StartsRefIdeal.Step.b19 j s := by
  unfold Cert.StartsRefIdeal.Step.b19
  rw [← al_17 h, ← al_18 h, h.f_8, h.n_4]
  try rfl

/-! One trip's step of the carried values is `step`, field by field; a counter steps to the next number. -/

theorem step_5 (h : Holds V0 s j) : step_main_v63_5 V0 = (step j s).main_v63_5 := by
  unfold step_main_v63_5 Cert.StartsRefIdeal.Step.step
  show id (addf (subf (mulf (V0 (Proc.devRef .tc main_v63_2)) (V0 (Proc.devRef .tc main_v63_5))) (mulf (V0 (Proc.devRef .tc main_v63_3)) (V0 (Proc.devRef .tc main_v63_6)))) (shapeCast S4096 (Host.dynamicSlice S1x4096 (V0 (Proc.devRef .tc main_v63_0)) (fun k => (((![V0 (Proc.devRef .tc main_v63_4), constantI S_ 32 0#32] : Fin 2 → (⟨S_, .i32⟩ : BufTy).Contents (Elt F))) k (Shape.Idx.first h_S_)).toInt) sliceFits_S4096x4096_S1x4096) shapeCasts_S1x4096_S4096)) = _
  rw [al_9 h]
  try rfl
theorem step_6 (h : Holds V0 s j) : step_main_v63_6 V0 = (step j s).main_v63_6 := by
  unfold step_main_v63_6 Cert.StartsRefIdeal.Step.step
  show id (addf (addf (mulf (V0 (Proc.devRef .tc main_v63_2)) (V0 (Proc.devRef .tc main_v63_6))) (mulf (V0 (Proc.devRef .tc main_v63_3)) (V0 (Proc.devRef .tc main_v63_5)))) (shapeCast S4096 (Host.dynamicSlice S1x4096 (V0 (Proc.devRef .tc main_v63_1)) (fun k => (((![V0 (Proc.devRef .tc main_v63_4), constantI S_ 32 0#32] : Fin 2 → (⟨S_, .i32⟩ : BufTy).Contents (Elt F))) k (Shape.Idx.first h_S_)).toInt) sliceFits_S4096x4096_S1x4096) shapeCasts_S1x4096_S4096)) = _
  rw [al_13 h]
  try rfl
theorem step_7 (h : Holds V0 s j) : step_main_v63_7 V0 = (step j s).main_v63_7 := by
  unfold step_main_v63_7 Cert.StartsRefIdeal.Step.step
  show id (Host.dynamicUpdateSlice (V0 (Proc.devRef .tc main_v63_7)) (broadcastInDim S1x4096 ![1] bcast_S4096_S1x4096_1 (V0 (Proc.devRef .tc main_v63_5))) (fun k => (((![V0 (Proc.devRef .tc main_v63_4), constantI S_ 32 0#32] : Fin 2 → (⟨S_, .i32⟩ : BufTy).Contents (Elt F))) k (Shape.Idx.first h_S_)).toInt) updateFits_S4096x4096_S1x4096) = _
  exact al_16 h
theorem step_8 (h : Holds V0 s j) : step_main_v63_8 V0 = (step j s).main_v63_8 := by
  unfold step_main_v63_8 Cert.StartsRefIdeal.Step.step
  show id (Host.dynamicUpdateSlice (V0 (Proc.devRef .tc main_v63_8)) (broadcastInDim S1x4096 ![1] bcast_S4096_S1x4096_1 (V0 (Proc.devRef .tc main_v63_6))) (fun k => (((![V0 (Proc.devRef .tc main_v63_4), constantI S_ 32 0#32] : Fin 2 → (⟨S_, .i32⟩ : BufTy).Contents (Elt F))) k (Shape.Idx.first h_S_)).toInt) updateFits_S4096x4096_S1x4096) = _
  exact al_19 h
theorem step_4 (h : Holds V0 s j) : step_main_v63_4 V0 = constantI S_ 32 (BitVec.ofNat 32 (j + 1)) := by
  unfold step_main_v63_4
  rw [h.n_4]
  funext i
  show BitVec.ofNat 32 j + 1#32 = BitVec.ofNat 32 (j + 1)
  simp only [BitVec.ofNat_add]

set_option maxRecDepth 8192 in
theorem out_main_v64_holds (h : Holds V0 s j) : out_main_v64 V0 = Cert.StartsRefIdeal.Step.R_main_v64 s := by
  unfold out_main_v64 Cert.StartsRefIdeal.Step.R_main_v64
  rw [h.f_7]
  try rfl

set_option maxRecDepth 8192 in
theorem out_main_v65_holds (h : Holds V0 s j) : out_main_v65 V0 = Cert.StartsRefIdeal.Step.R_main_v65 s := by
  unfold out_main_v65 Cert.StartsRefIdeal.Step.R_main_v65
  rw [h.f_8]
  try rfl

/-- One trip keeps the valuation holding: `step` of the state, the same set-up values, the next number. -/
theorem holds_step (h : Holds V0 s j) : Holds (STEP V0) (step j s) (j + 1) where
  f_5 := (STEP_main_v63_5 V0).trans (step_5 h)
  f_6 := (STEP_main_v63_6 V0).trans (step_6 h)
  f_7 := (STEP_main_v63_7 V0).trans (step_7 h)
  f_8 := (STEP_main_v63_8 V0).trans (step_8 h)
  n_4 := (STEP_main_v63_4 V0).trans (step_4 h)
  f_0 := (STEP_main_v63_0 V0).trans h.f_0
  f_1 := (STEP_main_v63_1 V0).trans h.f_1
  f_2 := (STEP_main_v63_2 V0).trans h.f_2
  f_3 := (STEP_main_v63_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 4000000 in
/-- What @main's operations before the loop leave: the set-up values, number 0, the initial state. -/
theorem entry_holds : Holds (entryContents preI m c) (initState m c) 0 := by
  constructor
  all_goals (simp only [entryContents, afterL_cons, afterL_nil]; after_reads_simp)
  case f_5 => rfl
  case f_6 => rfl
  case f_7 => rfl
  case f_8 => rfl
  case f_2 => rfl
  case f_3 => rfl
  case n_4 => rfl
  case f_0 => rfl
  case f_1 => rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `StartsRefIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v64) = Cert.StartsRefIdeal.Step.R_main_v64 (it c 4096)
      ∧ r.2.mem ((c.tc : Thread nD τ).loc main_v65) = Cert.StartsRefIdeal.Step.R_main_v65 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 4096
    ⟨(h c).1.trans (out_main_v64_holds hk), (h c).2.1.trans (out_main_v65_holds hk), (h c).2.2.1, (h c).2.2.2.1, (h c).2.2.2.2.1, (h c).2.2.2.2.2⟩) (Value.run m ρ)

end Cert.StartsRefIdeal.Walk

end
-- ==== Proof.StartsLoop.lean ====
module

public import proofs.«01_k».proof.Proof.Gen.StartsRefIdeal.Step
public import proofs.«01_k».proof.Proof.Drive

/-!
# What the reference's loop holds

After `n` steps the state is the recurrence's `n`-th, and of the noted rows those below `n` hold the states before them.
-/

@[expose] public section

set_option maxRecDepth 16384
set_option maxHeartbeats 1000000

noncomputable section

namespace Cert.StartsRefIdeal.Loop

open Idealize.ShloMosaic
open Cert.StartsRefIdeal Cert.StartsRefIdeal.Gen Cert.StartsRefIdeal.Step Cert.Scan

attribute [local irreducible] Cert.Scan.run

theorem word_nat (j : ℕ) (hj : j < 4096) : (BitVec.ofNat 32 j).toInt = (j : ℤ) := by
  rw [BitVec.toInt_eq_toNat_of_lt (by rw [BitVec.toNat_ofNat]; omega), BitVec.toNat_ofNat]
  omega

/-- The row a step reads. -/
theorem read_row (x : S4096x4096.Idx → EReal) (st : Fin 2 → ℤ) (h : S4096x4096.Slices (fun _ => 0) S1x4096) (j : ℕ) (hj : j < 4096)
    (e0 : st 0 = (j : ℤ)) (e1 : st 1 = 0) (L : Fin 4096) : Host.dynamicSlice S1x4096 x st h (ix2 0 L) = x (ix2 ⟨j, hj⟩ L) := by
  rw [Host.dynamicSlice_apply]
  refine congrArg x (funext fun a => Fin.ext ?_)
  match a with
  | ⟨0, _⟩ =>
    show (min (max (st 0) 0) ((4096 - 1 : ℕ) : ℤ)).toNat + 0 = j
    rw [e0]; omega
  | ⟨1, _⟩ =>
    show (min (max (st 1) 0) ((4096 - 4096 : ℕ) : ℤ)).toNat + L.val = L.val
    rw [e1]; omega

/-- The row a step writes. -/
theorem write_row (x : S4096x4096.Idx → EReal) (u : S1x4096.Idx → EReal) (st : Fin 2 → ℤ) (h : S4096x4096.Slices (fun _ => 0) S1x4096) (j : ℕ)
    (hj : j < 4096) (e0 : st 0 = (j : ℤ)) (e1 : st 1 = 0) (r L : Fin 4096) :
    Host.dynamicUpdateSlice x u st h (ix2 r L) = if r.val = j then u (ix2 0 L) else x (ix2 r L) := by
  have hk : S4096x4096.Slices ![j, 0] S1x4096 := ⟨h.1, fun a => by
    match a with
    | ⟨0, _⟩ => show j + 1 ≤ 4096; omega
    | ⟨1, _⟩ => show 0 + 4096 ≤ 4096; omega⟩
  rw [Host.dynamicUpdateSlice_eq_updateSlice x u st h ![j, 0] (fun a => by
    match a with
    | ⟨0, _⟩ =>
      show (min (max (st 0) 0) ((4096 - 1 : ℕ) : ℤ)).toNat = j
      rw [e0]; omega
    | ⟨1, _⟩ =>
      show (min (max (st 1) 0) ((4096 - 4096 : ℕ) : ℤ)).toNat = 0
      rw [e1]; omega) hk]
  unfold updateSlice
  by_cases hr : r.val = j
  · rw [if_pos hr, dif_pos (by
      intro a
      match a with
      | ⟨0, _⟩ => show j ≤ r.val ∧ r.val < j + 1; omega
      | ⟨1, _⟩ => show 0 ≤ L.val ∧ L.val < 0 + 4096; omega)]
    refine congrArg u (funext fun a => Fin.ext ?_)
    match a with
    | ⟨0, _⟩ => show r.val - j = 0; omega
    | ⟨1, _⟩ => rfl
  · rw [if_neg hr, dif_neg (by
      intro hin
      have := hin ⟨0, by decide⟩
      change j ≤ r.val ∧ r.val < j + 1 at this
      omega)]

section

variable (x : Vec Ideal S4096x1024 .bf16) (w v : Vec Ideal S4x256x1024 .bf16) (a : Vec Ideal S2x4096 .f32)

theorem part_re0 (r : Fin 4096) (l : Fin 1024) (L : Fin 4096) (hL : L.val = 0 + l.val) :
    A_main_v5 (F := Ideal) x w v a (ix2 r l) = drive x w r L := by
  have hq : L.val / 1024 = 0 := by omega
  have hl : L.val % 1024 = l.val := by omega
  pointwise [A_main_v5, A_main_v4, A_main_v3, A_main_v2, A_main_v1, A_main_v0]
  unfold drive
  refine Finset.sum_congr rfl fun k _ => ?_
  refine congrArg₂ (· * ·) (congrArg x ?_) (congrArg w ?_)
  · refine funext fun b => Fin.ext ?_
    match b with
    | ⟨0, _⟩ => rfl
    | ⟨1, _⟩ => show k.val = 256 * (L.val / 1024) + k.val; omega
  · refine funext fun b => Fin.ext ?_
    match b with
    | ⟨0, _⟩ => show 0 = L.val / 1024; omega
    | ⟨1, _⟩ => rfl
    | ⟨2, _⟩ => show l.val = L.val % 1024; omega

theorem part_re1 (r : Fin 4096) (l : Fin 1024) (L : Fin 4096) (hL : L.val = 1024 + l.val) :
    A_main_v11 (F := Ideal) x w v a (ix2 r l) = drive x w r L := by
  have hq : L.val / 1024 = 1 := by omega
  have hl : L.val % 1024 = l.val := by omega
  pointwise [A_main_v11, A_main_v10, A_main_v9, A_main_v8, A_main_v7, A_main_v6]
  unfold drive
  refine Finset.sum_congr rfl fun k _ => ?_
  refine congrArg₂ (· * ·) (congrArg x ?_) (congrArg w ?_)
  · refine funext fun b => Fin.ext ?_
    match b with
    | ⟨0, _⟩ => rfl
    | ⟨1, _⟩ => show 256 + k.val = 256 * (L.val / 1024) + k.val; omega
  · refine funext fun b => Fin.ext ?_
    match b with
    | ⟨0, _⟩ => show 1 = L.val / 1024; omega
    | ⟨1, _⟩ => rfl
    | ⟨2, _⟩ => show l.val = L.val % 1024; omega

theorem part_re2 (r : Fin 4096) (l : Fin 1024) (L : Fin 4096) (hL : L.val = 2048 + l.val) :
    A_main_v17 (F := Ideal) x w v a (ix2 r l) = drive x w r L := by
  have hq : L.val / 1024 = 2 := by omega
  have hl : L.val % 1024 = l.val := by omega
  pointwise [A_main_v17, A_main_v16, A_main_v15, A_main_v14, A_main_v13, A_main_v12]
  unfold drive
  refine Finset.sum_congr rfl fun k _ => ?_
  refine congrArg₂ (· * ·) (congrArg x ?_) (congrArg w ?_)
  · refine funext fun b => Fin.ext ?_
    match b with
    | ⟨0, _⟩ => rfl
    | ⟨1, _⟩ => show 512 + k.val = 256 * (L.val / 1024) + k.val; omega
  · refine funext fun b => Fin.ext ?_
    match b with
    | ⟨0, _⟩ => show 2 = L.val / 1024; omega
    | ⟨1, _⟩ => rfl
    | ⟨2, _⟩ => show l.val = L.val % 1024; omega

theorem part_re3 (r : Fin 4096) (l : Fin 1024) (L : Fin 4096) (hL : L.val = 3072 + l.val) :
    A_main_v23 (F := Ideal) x w v a (ix2 r l) = drive x w r L := by
  have hq : L.val / 1024 = 3 := by omega
  have hl : L.val % 1024 = l.val := by omega
  pointwise [A_main_v23, A_main_v22, A_main_v21, A_main_v20, A_main_v19, A_main_v18]
  unfold drive
  refine Finset.sum_congr rfl fun k _ => ?_
  refine congrArg₂ (· * ·) (congrArg x ?_) (congrArg w ?_)
  · refine funext fun b => Fin.ext ?_
    match b with
    | ⟨0, _⟩ => rfl
    | ⟨1, _⟩ => show 768 + k.val = 256 * (L.val / 1024) + k.val; omega
  · refine funext fun b => Fin.ext ?_
    match b with
    | ⟨0, _⟩ => show 3 = L.val / 1024; omega
    | ⟨1, _⟩ => rfl
    | ⟨2, _⟩ => show l.val = L.val % 1024; omega

theorem drive_re (r L : Fin 4096) : A_main_v24 (F := Ideal) x w v a (ix2 r L) = drive x w r L := by
  have hL := L.isLt
  pointwise [A_main_v24]
  by_cases h0 : L.val < 1024
  · rw [dif_pos h0]
    exact part_re0 x w v a r ⟨L.val, h0⟩ L (by dsimp only; omega)
  · rw [dif_neg h0]
    by_cases h1 : L.val - 1024 < 1024
    · rw [dif_pos h1]
      exact part_re1 x w v a r ⟨L.val - 1024, h1⟩ L (by dsimp only; omega)
    · rw [dif_neg h1]
      by_cases h2 : L.val - 1024 - 1024 < 1024
      · rw [dif_pos h2]
        exact part_re2 x w v a r ⟨L.val - 1024 - 1024, h2⟩ L (by dsimp only; omega)
      · rw [dif_neg h2]
        exact part_re3 x w v a r ⟨L.val - 1024 - 1024 - 1024, by omega⟩ L (by dsimp only; omega)

theorem part_im0 (r : Fin 4096) (l : Fin 1024) (L : Fin 4096) (hL : L.val = 0 + l.val) :
    A_main_v33 (F := Ideal) x w v a (ix2 r l) = drive x v r L := by
  have hq : L.val / 1024 = 0 := by omega
  have hl : L.val % 1024 = l.val := by omega
  pointwise [A_main_v33, A_main_v32, A_main_v31, A_main_v30, A_main_v29, A_main_v28]
  unfold drive
  refine Finset.sum_congr rfl fun k _ => ?_
  refine congrArg₂ (· * ·) (congrArg x ?_) (congrArg v ?_)
  · refine funext fun b => Fin.ext ?_
    match b with
    | ⟨0, _⟩ => rfl
    | ⟨1, _⟩ => show k.val = 256 * (L.val / 1024) + k.val; omega
  · refine funext fun b => Fin.ext ?_
    match b with
    | ⟨0, _⟩ => show 0 = L.val / 1024; omega
    | ⟨1, _⟩ => rfl
    | ⟨2, _⟩ => show l.val = L.val % 1024; omega

theorem part_im1 (r : Fin 4096) (l : Fin 1024) (L : Fin 4096) (hL : L.val = 1024 + l.val) :
    A_main_v39 (F := Ideal) x w v a (ix2 r l) = drive x v r L := by
  have hq : L.val / 1024 = 1 := by omega
  have hl : L.val % 1024 = l.val := by omega
  pointwise [A_main_v39, A_main_v38, A_main_v37, A_main_v36, A_main_v35, A_main_v34]
  unfold drive
  refine Finset.sum_congr rfl fun k _ => ?_
  refine congrArg₂ (· * ·) (congrArg x ?_) (congrArg v ?_)
  · refine funext fun b => Fin.ext ?_
    match b with
    | ⟨0, _⟩ => rfl
    | ⟨1, _⟩ => show 256 + k.val = 256 * (L.val / 1024) + k.val; omega
  · refine funext fun b => Fin.ext ?_
    match b with
    | ⟨0, _⟩ => show 1 = L.val / 1024; omega
    | ⟨1, _⟩ => rfl
    | ⟨2, _⟩ => show l.val = L.val % 1024; omega

theorem part_im2 (r : Fin 4096) (l : Fin 1024) (L : Fin 4096) (hL : L.val = 2048 + l.val) :
    A_main_v45 (F := Ideal) x w v a (ix2 r l) = drive x v r L := by
  have hq : L.val / 1024 = 2 := by omega
  have hl : L.val % 1024 = l.val := by omega
  pointwise [A_main_v45, A_main_v44, A_main_v43, A_main_v42, A_main_v41, A_main_v40]
  unfold drive
  refine Finset.sum_congr rfl fun k _ => ?_
  refine congrArg₂ (· * ·) (congrArg x ?_) (congrArg v ?_)
  · refine funext fun b => Fin.ext ?_
    match b with
    | ⟨0, _⟩ => rfl
    | ⟨1, _⟩ => show 512 + k.val = 256 * (L.val / 1024) + k.val; omega
  · refine funext fun b => Fin.ext ?_
    match b with
    | ⟨0, _⟩ => show 2 = L.val / 1024; omega
    | ⟨1, _⟩ => rfl
    | ⟨2, _⟩ => show l.val = L.val % 1024; omega

theorem part_im3 (r : Fin 4096) (l : Fin 1024) (L : Fin 4096) (hL : L.val = 3072 + l.val) :
    A_main_v51 (F := Ideal) x w v a (ix2 r l) = drive x v r L := by
  have hq : L.val / 1024 = 3 := by omega
  have hl : L.val % 1024 = l.val := by omega
  pointwise [A_main_v51, A_main_v50, A_main_v49, A_main_v48, A_main_v47, A_main_v46]
  unfold drive
  refine Finset.sum_congr rfl fun k _ => ?_
  refine congrArg₂ (· * ·) (congrArg x ?_) (congrArg v ?_)
  · refine funext fun b => Fin.ext ?_
    match b with
    | ⟨0, _⟩ => rfl
    | ⟨1, _⟩ => show 768 + k.val = 256 * (L.val / 1024) + k.val; omega
  · refine funext fun b => Fin.ext ?_
    match b with
    | ⟨0, _⟩ => show 3 = L.val / 1024; omega
    | ⟨1, _⟩ => rfl
    | ⟨2, _⟩ => show l.val = L.val % 1024; omega

theorem drive_im (r L : Fin 4096) : A_main_v52 (F := Ideal) x w v a (ix2 r L) = drive x v r L := by
  have hL := L.isLt
  pointwise [A_main_v52]
  by_cases h0 : L.val < 1024
  · rw [dif_pos h0]
    exact part_im0 x w v a r ⟨L.val, h0⟩ L (by dsimp only; omega)
  · rw [dif_neg h0]
    by_cases h1 : L.val - 1024 < 1024
    · rw [dif_pos h1]
      exact part_im1 x w v a r ⟨L.val - 1024, h1⟩ L (by dsimp only; omega)
    · rw [dif_neg h1]
      by_cases h2 : L.val - 1024 - 1024 < 1024
      · rw [dif_pos h2]
        exact part_im2 x w v a r ⟨L.val - 1024 - 1024, h2⟩ L (by dsimp only; omega)
      · rw [dif_neg h2]
        exact part_im3 x w v a r ⟨L.val - 1024 - 1024 - 1024, by omega⟩ L (by dsimp only; omega)

theorem timed_re (j : ℕ) (hj : j < 4096) (L : Fin 4096) :
    A_main_v27 (F := Ideal) x w v a (ix2 ⟨j, hj⟩ L) = drive x w ⟨8 * (j % 512) + j / 512, by omega⟩ L := by
  rw [← drive_re x w v a]
  pointwise [A_main_v27, A_main_v26, A_main_v25]
  refine congrArg (A_main_v24 (F := Ideal) x w v a) (funext fun b => Fin.ext ?_)
  match b with
  | ⟨0, _⟩ => first | rfl | (dsimp only; omega) | (simp <;> omega)
  | ⟨1, _⟩ => first | rfl | (dsimp only; omega) | (simp <;> omega)

theorem timed_im (j : ℕ) (hj : j < 4096) (L : Fin 4096) :
    A_main_v55 (F := Ideal) x w v a (ix2 ⟨j, hj⟩ L) = drive x v ⟨8 * (j % 512) + j / 512, by omega⟩ L := by
  rw [← drive_im x w v a]
  pointwise [A_main_v55, A_main_v54, A_main_v53]
  refine congrArg (A_main_v52 (F := Ideal) x w v a) (funext fun b => Fin.ext ?_)
  match b with
  | ⟨0, _⟩ => first | rfl | (dsimp only; omega) | (simp <;> omega)
  | ⟨1, _⟩ => first | rfl | (dsimp only; omega) | (simp <;> omega)

theorem factor_0 (L : Fin 4096) : A_main_v57 (F := Ideal) x w v a (ix1 L) = a (ix2 0 L) := by
  pointwise [A_main_v57, A_main_v56]

theorem factor_1 (L : Fin 4096) : A_main_v59 (F := Ideal) x w v a (ix1 L) = a (ix2 1 L) := by
  pointwise [A_main_v59, A_main_v58]

/-- The drive in the order of the steps. -/
abbrev timed (L : Fin 4096) (j : ℕ) : ℂ := push x w v L (8 * (j % 512) + j / 512)

end

section

variable {x : Vec Ideal S4096x1024 .bf16} {w v : Vec Ideal S4x256x1024 .bf16} {a : Vec Ideal S2x4096 .f32}

/-- What is known after `n` steps. -/
structure Known (x : Vec Ideal S4096x1024 .bf16) (w v : Vec Ideal S4x256x1024 .bf16) (a : Vec Ideal S2x4096 .f32) (n : ℕ) (s : State Ideal) : Prop where
  state : ∀ L, Is (s.main_v63_5 (ix1 L)) (s.main_v63_6 (ix1 L)) (Cert.Scan.run (factor a L) (timed x w v L) 0 n)
  noted : ∀ r L : Fin 4096, r.val < n → Is (s.main_v63_7 (ix2 r L)) (s.main_v63_8 (ix2 r L)) (Cert.Scan.run (factor a L) (timed x w v L) 0 r.val)
  re : s.main_v63_0 = A_main_v27 x w v a
  im : s.main_v63_1 = A_main_v55 x w v a
  fre : s.main_v63_2 = A_main_v57 x w v a
  fim : s.main_v63_3 = A_main_v59 x w v a

theorem known_init : Known x w v a 0 (init x w v a) where
  state L := by
    have e : Cert.Scan.run (factor a L) (timed x w v L) 0 0 = 0 := by with_unfolding_all rfl
    rw [e]
    refine Is.zero.of_eq ?_ ?_
    · show K_main_v60 (F := Ideal) (ix1 L) = 0
      pointwise [K_main_v60, K_main_cst]
      all_goals simp [Ideal.ofBits, Ideal.ieee]
    · show K_main_v60 (F := Ideal) (ix1 L) = 0
      pointwise [K_main_v60, K_main_cst]
      all_goals simp [Ideal.ofBits, Ideal.ieee]
  noted r L h := absurd h (by omega)
  re := rfl
  im := rfl
  fre := rfl
  fim := rfl

theorem known_step (hf : Finite x w v a) (n : ℕ) (hn : n < 4096) (s : State Ideal) (h : Known x w v a n s) : Known x w v a (n + 1) (step n s) where
  state L := by
    have e : Cert.Scan.run (factor a L) (timed x w v L) 0 (n + 1) = factor a L * Cert.Scan.run (factor a L) (timed x w v L) 0 n + timed x w v L n := by
      with_unfolding_all rfl
    rw [e, step_main_v63_5, step_main_v63_6]
    have hd : Is (b2 n s (ix1 L)) (b5 n s (ix1 L)) (timed x w v L n) := by
      refine (push_is hf ⟨8 * (n % 512) + n / 512, by omega⟩ L).of_eq ?_ ?_
      · have p := read_row (s.main_v63_0) (fun k => (((![(constantI S_ 32 (BitVec.ofNat 32 n) : (⟨S_, .i32⟩ : BufTy).Contents (Elt Ideal)), (b0 n s)] : Fin 2 → (⟨S_, .i32⟩ : BufTy).Contents (Elt Ideal))) k (Shape.Idx.first h_S_)).toInt) sliceFits_S4096x4096_S1x4096 n hn (word_nat n hn) rfl L
        have q : b2 n s (ix1 L) = b1 n s (ix2 0 L) := by pointwise [b2]
        exact q.trans (p.trans ((congrFun h.re _).trans (timed_re x w v a n hn L)))
      · have p := read_row (s.main_v63_1) (fun k => (((![(constantI S_ 32 (BitVec.ofNat 32 n) : (⟨S_, .i32⟩ : BufTy).Contents (Elt Ideal)), (b3 n s)] : Fin 2 → (⟨S_, .i32⟩ : BufTy).Contents (Elt Ideal))) k (Shape.Idx.first h_S_)).toInt) sliceFits_S4096x4096_S1x4096 n hn (word_nat n hn) rfl L
        have q : b5 n s (ix1 L) = b4 n s (ix2 0 L) := by pointwise [b5]
        exact q.trans (p.trans ((congrFun h.im _).trans (timed_im x w v a n hn L)))
    have ha : Is (s.main_v63_2 (ix1 L)) (s.main_v63_3 (ix1 L)) (factor a L) :=
      (factor_is hf L).of_eq ((congrFun h.fre _).trans (factor_0 x w v a L)) ((congrFun h.fim _).trans (factor_1 x w v a L))
    exact Is.step ha (h.state L) hd
  noted r L hr := by
    rw [step_main_v63_7, step_main_v63_8]
    have p := write_row (s.main_v63_7) (b14 n s) (fun k => (((![(constantI S_ 32 (BitVec.ofNat 32 n) : (⟨S_, .i32⟩ : BufTy).Contents (Elt Ideal)), (b15 n s)] : Fin 2 → (⟨S_, .i32⟩ : BufTy).Contents (Elt Ideal))) k (Shape.Idx.first h_S_)).toInt) updateFits_S4096x4096_S1x4096 n hn (word_nat n hn) rfl r L
    have q := write_row (s.main_v63_8) (b17 n s) (fun k => (((![(constantI S_ 32 (BitVec.ofNat 32 n) : (⟨S_, .i32⟩ : BufTy).Contents (Elt Ideal)), (b18 n s)] : Fin 2 → (⟨S_, .i32⟩ : BufTy).Contents (Elt Ideal))) k (Shape.Idx.first h_S_)).toInt) updateFits_S4096x4096_S1x4096 n hn (word_nat n hn) rfl r L
    by_cases hrn : r.val = n
    · rw [if_pos hrn] at p q
      rw [hrn]
      refine (h.state L).of_eq (p.trans ?_) (q.trans ?_)
      · pointwise [b14]
      · pointwise [b17]
    · rw [if_neg hrn] at p q
      exact (h.noted r L (by omega)).of_eq p q
  re := h.re
  im := h.im
  fre := h.fre
  fim := h.fim

/-- The reference's iterates. -/
def iter (x : Vec Ideal S4096x1024 .bf16) (w v : Vec Ideal S4x256x1024 .bf16) (a : Vec Ideal S2x4096 .f32) : ℕ → State Ideal
  | 0 => init x w v a
  | n + 1 => step n (iter x w v a n)

theorem known_iter (hf : Finite x w v a) : ∀ n, n ≤ 4096 → Known x w v a n (iter x w v a n)
  | 0, _ => known_init
  | n + 1, h => known_step hf n h _ (known_iter hf n (Nat.le_of_succ_le h))

/-- The arrays the reference leaves. -/
theorem left (hf : Finite x w v a) (s : Fin 8) (L : Fin 4096) :
    Is (R_main_v64 (iter x w v a 4096) (ix2 s L)) (R_main_v65 (iter x w v a 4096) (ix2 s L))
      (Cert.Scan.run (factor a L) (timed x w v L) 0 (512 * s.val)) := by
  have hs := s.isLt
  refine ((known_iter hf 4096 le_rfl).noted ⟨512 * s.val, by omega⟩ L (by dsimp only; omega)).of_eq ?_ ?_
  · generalize iter x w v a 4096 = z
    pointwise [R_main_v64]
    all_goals
      refine congrArg z.main_v63_7 (funext fun b => Fin.ext ?_)
      match b with
      | ⟨0, _⟩ => first | rfl | (dsimp only; omega) | (simp <;> omega)
      | ⟨1, _⟩ => first | rfl | (dsimp only; omega) | (simp <;> omega)
  · generalize iter x w v a 4096 = z
    pointwise [R_main_v65]
    all_goals
      refine congrArg z.main_v63_8 (funext fun b => Fin.ext ?_)
      match b with
      | ⟨0, _⟩ => first | rfl | (dsimp only; omega) | (simp <;> omega)
      | ⟨1, _⟩ => first | rfl | (dsimp only; omega) | (simp <;> omega)

end

end Cert.StartsRefIdeal.Loop

end
-- ==== Proof.Finite.lean ====
module

public import proofs.«01_k».proof.Proof.Column
public import proofs.«01_k».proof.Pre_finite_gate
public import Idealize.ShloMosaic.Lib.Affine
public import proofs.«01_k».proof.Proof.Gen.Pre_finite_gate

/-!
# What the precondition says

The incoming gradient and the other branch are finite.
-/

@[expose] public section

set_option maxRecDepth 16384

noncomputable section

namespace Cert.GatedConv

open Idealize.ShloMosaic Cert.Pre_finite_gate Cert.Pre_finite_gate.Facts

/-- A number whose absolute value is below the infinity is real. -/
theorem real_of_abs_lt {x : EReal} (h : max x (-x) < Ideal.ofBits .f32 0x7F800000#32) : ∃ r : ℝ, x = r := by
  have e : Ideal.ofBits .f32 0x7F800000#32 = ⊤ := by simp [Ideal.ofBits, Ideal.ieee]
  rw [e] at h
  induction x with
  | bot => simp at h
  | top => simp at h
  | coe x => exact ⟨x, rfl⟩

/-- Under the precondition the product of the incoming gradient and the other branch is a real number. -/
theorem real_of_finite_gate [Cert.Pre_finite_gate.Facts] (x0 : FVec Ideal S2x4096x2816 .bf16) (x1 : FVec Ideal S4096x2816 .bf16) (x2 : FVec Ideal S3x2816 .f32)
    (x3 : FVec Ideal S1x2816 .f32) (h : fn (F := Ideal) x0 x1 x2 x3 = fun _ => 1#1) (r : Fin 4096) (l : Fin 2816) :
    ∃ q : ℝ, (col x0 x1 x2 x3 l).a r * (col x0 x1 x2 x3 l).u r = q := by
  have h := congrFun h (ix2 r l)
  unfold fn at h
  pointwise [] at h
  rw [IntOp.andi_eq_one] at h
  obtain ⟨hu, ha⟩ := h
  obtain ⟨u, hu⟩ := real_of_abs_lt (x := x0 (ix3 1 r l)) (by
    by_contra hn
    exact absurd ((congrArg BitVec.ofBool (decide_eq_false hn)).symm.trans hu) (by decide))
  obtain ⟨a, ha⟩ := real_of_abs_lt (x := x1 (ix2 r l)) (by
    by_contra hn
    exact absurd ((congrArg BitVec.ofBool (decide_eq_false hn)).symm.trans ha) (by decide))
  refine ⟨a * u, ?_⟩
  rw [col_a x0 x1 x2 x3 l r.isLt, col_u x0 x1 x2 x3 l r.isLt, EReal.coe_mul, ← hu, ← ha]

end Cert.GatedConv

end
-- ==== Proof.FiniteDrive.lean ====
module

public import proofs.«01_k».proof.Proof.Finite
public import proofs.«01_k».proof.Proof.Drive
public import proofs.«01_k».proof.Pre_finite_drive
public import Idealize.ShloMosaic.Lib.ReduceAll

/-!
# Under the precondition every argument of the recurrence is a real number
-/

@[expose] public section

set_option maxRecDepth 16384

noncomputable section

namespace Cert.Scan

open Idealize.ShloMosaic Cert.Pre_finite_drive Cert.Pre_finite_drive.Facts

instance : Subsingleton S_.Idx := ⟨fun a b => funext fun k => k.elim0⟩

/-- A comparison that holds says that the number is real. -/
theorem real_of_bit {x : EReal} (h : BitVec.ofBool (decide (max x (-x) < Ideal.ofBits .f32 0x7F800000#32)) = 1#1) : ∃ r : ℝ, x = r :=
  Cert.GatedConv.real_of_abs_lt (by
    by_contra hn
    exact absurd ((congrArg BitVec.ofBool (decide_eq_false hn)).symm.trans h) (by decide))

theorem finite_of_pre [Cert.Pre_finite_drive.Facts] (x : FVec Ideal S4096x1024 .bf16) (w v : FVec Ideal S4x256x1024 .bf16)
    (a : FVec Ideal S2x4096 .f32) (h : fn (F := Ideal) x w v a = fun _ => 1#1) : Finite x w v a := by
  have h := congrFun h (fun k => k.elim0)
  unfold fn fn_part1 at h
  obtain ⟨h0, h1⟩ := IntOp.andi_eq_one.1 h
  obtain ⟨hx, hw⟩ := IntOp.andi_eq_one.1 h0
  obtain ⟨hv, ha⟩ := IntOp.andi_eq_one.1 h1
  exact ⟨fun i => real_of_bit (Host.reduce_andi_all _ _ _ _ _ hx i), fun i => real_of_bit (Host.reduce_andi_all _ _ _ _ _ hw i),
    fun i => real_of_bit (Host.reduce_andi_all _ _ _ _ _ hv i), fun i => real_of_bit (Host.reduce_andi_all _ _ _ _ _ ha i)⟩

end Cert.Scan

end
-- ==== Proof.StartsClaims.lean ====
module

public import proofs.«01_k».proof.Defs
public import proofs.«01_k».proof.Proof.StartsSweepEnd
public import proofs.«01_k».proof.Proof.StartsWalk
public import proofs.«01_k».proof.Proof.StartsLoop
public import proofs.«01_k».proof.Proof.FiniteDrive
public import Idealize.ShloMosaic.Adequacy
public import Idealize.ShloMosaic.Init

/-!
# What the certificate states of `Starts`

Kernel and reference leave the same arrays where the arguments are finite, and the reference keeps its arguments.
-/

@[expose] public section

noncomputable section

namespace Cert.Proof

open Idealize.ShloMosaic Idealize.ShloMosaic.TcCoe Idealize.SL.Sem

/-- Kernel and reference leave the same real and imaginary parts. -/
theorem starts_same [Cert.Pre_finite_drive.Facts] : Cert.algebraic_StartsIdeal_StartsRefIdeal_pre_finite_drive := by
  intro m ρ m' ρ' hpre hagree
  refine ⟨fun c => Cert.StartsIdeal.Value.G4 m c, fun c => Cert.StartsIdeal.Value.G5 m c, ?_, ?_⟩
  · exact Cert.StartsIdeal.Value.run (F := Ideal) m ρ
  · refine (θ_run Cert.StartsRefIdeal.defs _ _).mono (fun r h c => ⟨(h c).1.trans ?_, (h c).2.1.trans ?_, (h c).2.2⟩)
      (Cert.StartsRefIdeal.Walk.run_iter (F := Ideal) m' ρ'
        (fun c => Cert.StartsRefIdeal.Loop.iter (m' ((c.tc : Thread _ _).loc Cert.StartsRefIdeal.main_arg0)) (m' ((c.tc : Thread _ _).loc Cert.StartsRefIdeal.main_arg1))
          (m' ((c.tc : Thread _ _).loc Cert.StartsRefIdeal.main_arg2)) (m' ((c.tc : Thread _ _).loc Cert.StartsRefIdeal.main_arg3)))
        (fun c => rfl) (fun c n => rfl))
    · have hf := Cert.Scan.finite_of_pre _ _ _ _ (hpre c)
      rw [(hagree c).1, (hagree c).2.1, (hagree c).2.2.1, (hagree c).2.2.2]
      funext i
      obtain ⟨s, L, rfl⟩ : ∃ (s : Fin 8) (L : Fin 4096), i = ix2 s L := ⟨_, _, eq_ix2 i⟩
      exact (Cert.StartsRefIdeal.Loop.left hf s L).re.trans (Cert.StartsIdeal.Rows.arrays hf s L).re.symm
    · have hf := Cert.Scan.finite_of_pre _ _ _ _ (hpre c)
      rw [(hagree c).1, (hagree c).2.1, (hagree c).2.2.1, (hagree c).2.2.2]
      funext i
      obtain ⟨s, L, rfl⟩ : ∃ (s : Fin 8) (L : Fin 4096), i = ix2 s L := ⟨_, _, eq_ix2 i⟩
      exact (Cert.StartsRefIdeal.Loop.left hf s L).im.trans (Cert.StartsIdeal.Rows.arrays hf s L).im.symm

/-- The reference keeps its arguments; it has no semaphore. -/
theorem starts_reference_frame : Cert.quiescent_StartsRefIdeal := fun m ρ _ =>
  (θ_run Cert.StartsRefIdeal.defs _ _).mono (fun r h => ⟨fun c => (h c).2.2, sem_eq_zero_of_no_sems (by decide) r.2⟩)
    (Cert.StartsRefIdeal.Walk.run_iter (F := Ideal) m ρ
      (fun c => Cert.StartsRefIdeal.Loop.iter (m ((c.tc : Thread _ _).loc Cert.StartsRefIdeal.main_arg0)) (m ((c.tc : Thread _ _).loc Cert.StartsRefIdeal.main_arg1))
        (m ((c.tc : Thread _ _).loc Cert.StartsRefIdeal.main_arg2)) (m ((c.tc : Thread _ _).loc Cert.StartsRefIdeal.main_arg3)))
      (fun c => rfl) (fun c n => rfl))

end Cert.Proof

end
-- ==== Proof.EndsTrips.lean ====
module

public import Idealize.ShloMosaic.Lib.WholeRead
public import Idealize.ShloMosaic.Lib.Pipeline.ValueKit
public import proofs.«01_k».proof.Proof.Recurrence
public import proofs.«01_k».proof.Proof.Gen.EndsIdeal.Value

/-!
# The loop over a block of time steps

What the two loops of `Ends` carry before each trip, and what a grid point leaves of the states it found.
-/

@[expose] public section

set_option maxRecDepth 16384
set_option maxHeartbeats 2000000

noncomputable section

namespace Cert.EndsIdeal.Rows

open Idealize.ShloMosaic Idealize.ShloMosaic.TcCoe Idealize.SL.Sem
open Cert.EndsIdeal Cert.EndsIdeal.Gen Cert.Scan

/-- The states of the eight streams, half of the lanes. -/
abbrev Half : Type := Vec Ideal S8x512 .f32 × Vec Ideal S8x512 .f32

theorem factor1_re (v : Vec Ideal S1x512 .f32) (s : Fin 8) (l : Fin 512) : k0_pay53 v (ix2 s l) = v (ix2 0 l) := by
  unfold k0_pay53
  pointwise []

theorem factor1_im (v : Vec Ideal S1x512 .f32) (s : Fin 8) (l : Fin 512) : k0_pay54 v (ix2 s l) = v (ix2 0 l) := by
  unfold k0_pay54
  pointwise []

/-- One step of the recurrence. -/
theorem step1 {v w : Vec Ideal S1x512 .f32} {x y d f : Vec Ideal S8x512 .f32} {a z δ : ℂ} {s : Fin 8} {l : Fin 512}
    (ha : Is (v (ix2 0 l)) (w (ix2 0 l)) a) (hz : Is (x (ix2 s l)) (y (ix2 s l)) z) (hd : Is (d (ix2 s l)) (f (ix2 s l)) δ) :
    Is (k0_pay55 v w x y d (ix2 s l)) (k0_pay56 v w x y f (ix2 s l)) (a * z + δ) := by
  have e := Is.step ha hz hd
  have er := factor1_re v s l
  have ei := factor1_im w s l
  refine ⟨Eq.trans ?_ e.re, Eq.trans ?_ e.im⟩
  · rw [← er, ← ei]
    rfl
  · rw [← er, ← ei]
    rfl

section

variable (𝒱 : Variants) (c : Dev nD) (bd : Option 𝒱.V) (i : grid0.Coords)
  (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
  (v w : Vec Ideal S1x512 .f32) (X8 : BufTy.Contents (Elt Ideal) arg8.view.ty) (X9 : BufTy.Contents (Elt Ideal) arg9.view.ty)

/-- The real parts of the drive a trip loads. -/
abbrev ldRe1 (k : Fin k0_t1_loop.trips) : Vec Ideal S8x512 .f32 :=
  View.readAt (Elt Ideal) arg8.view (Rect.unit (s := S512x1024) (k0_off1 k) S8x512.size (k0_off1_inb k)).toLoadRect X8

/-- The imaginary parts. -/
abbrev ldIm1 (k : Fin k0_t1_loop.trips) : Vec Ideal S8x512 .f32 :=
  View.readAt (Elt Ideal) arg9.view (Rect.unit (s := S512x1024) (k0_off1 k) S8x512.size (k0_off1_inb k)).toLoadRect X9

/-- What a trip yields. -/
theorem trip1_yields (k : Fin k0_t1_loop.trips) (acc : Half) :
    tripR_k0_t1 (F := Ideal) 𝒱 c bd i arg2 harg2 arg3 harg3 arg4 harg4 arg5 harg5 arg6 harg6 arg7 harg7 arg8 harg8 arg9 harg9 arg10 harg10 arg11 harg11 v w X8 X9 k acc
      = (k0_pay55 v w acc.1 acc.2 (ldRe1 arg8 X8 k), k0_pay56 v w acc.1 acc.2 (ldIm1 arg9 X9 k)) := by
  unfold tripR_k0_t1 trip_k0_t1
  rfl

/-- The states before each trip. -/
theorem states1 (init : Half) (a : ℂ) (z : ℂ) (d : ℕ → ℂ) (s : Fin 8) (l : Fin 512)
    (ha : Is (v (ix2 0 l)) (w (ix2 0 l)) a) (hz : Is (init.1 (ix2 s l)) (init.2 (ix2 s l)) z)
    (hd : ∀ k, Is (ldRe1 arg8 X8 k (ix2 s l)) (ldIm1 arg9 X9 k (ix2 s l)) (d k.val)) :
    ∀ n, n ≤ k0_t1_loop.trips →
      Is ((st_k0_t1 (F := Ideal) 𝒱 c bd i arg2 harg2 arg3 harg3 arg4 harg4 arg5 harg5 arg6 harg6 arg7 harg7 arg8 harg8 arg9 harg9 arg10 harg10 arg11 harg11 v w X8 X9 init n).1 (ix2 s l))
        ((st_k0_t1 (F := Ideal) 𝒱 c bd i arg2 harg2 arg3 harg3 arg4 harg4 arg5 harg5 arg6 harg6 arg7 harg7 arg8 harg8 arg9 harg9 arg10 harg10 arg11 harg11 v w X8 X9 init n).2 (ix2 s l)) (run a d z n)
  | 0, _ => hz
  | n + 1, hn => by
    have ih := states1 init a z d s l ha hz hd n (by omega)
    have e := st_k0_t1_succ (F := Ideal) 𝒱 c bd i arg2 harg2 arg3 harg3 arg4 harg4 arg5 harg5 arg6 harg6 arg7 harg7 arg8 harg8 arg9 harg9 arg10 harg10 arg11 harg11 v w X8 X9 init ⟨n, hn⟩
    rw [trip1_yields] at e
    dsimp only at e
    rw [e]
    exact step1 ha ih (hd ⟨n, hn⟩)

end

theorem trips1 : k0_t1_loop.trips = 64 := by
  decide +kernel

theorem off1_eq : ∀ k : Fin k0_t1_loop.trips, k0_off1 k = ![8 * (63 - k.val), 0] := by
  decide +kernel

/-- The rows of the drive a trip loads. -/
theorem loaded1_re (arg8 : Memref sig .tc .vmem S512x1024 .f32) (D : Vec Ideal S512x1024 .f32)
    (inb : ∀ a, (![0, 0] : Fin 2 → ℕ) a + (![512, 1024] : Fin 2 → ℕ) a ≤ S512x1024.size a)
    (k : Fin k0_t1_loop.trips) (s : Fin 8) (l : Fin 512) (r : Fin 512) (L : Fin 1024) (hr : r.val = 8 * (63 - k.val) + s.val) (hL : L.val = 0 + l.val) :
    ldRe1 arg8 (arg8.view.writes (Elt Ideal) arg8.view.junk [⟨Rect.unit (s := S512x1024) ![0, 0] ![512, 1024] inb, D⟩]) k (ix2 s l) = D (ix2 r L) := by
  show View.readAt (Elt Ideal) arg8.view _ _ _ = _
  rw [View.readAt_unit_congr_cast _ (off1_eq k), View.readAt_writes_junk_eq_canon]
  dsimp only
  refine Eq.trans (congrArg (View.canon _) (?_ : _ = ix2 r L)) (canon_in inb D [] r L r L (by omega) (by omega))
  funext a
  refine Fin.ext ?_
  match a with
  | ⟨0, _⟩ => show 8 * (63 - k.val) + 1 * s.val = r.val; omega
  | ⟨1, _⟩ => show 0 + 1 * l.val = L.val; omega

theorem loaded1_im (arg9 : Memref sig .tc .vmem S512x1024 .f32) (D : Vec Ideal S512x1024 .f32)
    (inb : ∀ a, (![0, 0] : Fin 2 → ℕ) a + (![512, 1024] : Fin 2 → ℕ) a ≤ S512x1024.size a)
    (k : Fin k0_t1_loop.trips) (s : Fin 8) (l : Fin 512) (r : Fin 512) (L : Fin 1024) (hr : r.val = 8 * (63 - k.val) + s.val) (hL : L.val = 0 + l.val) :
    ldIm1 arg9 (arg9.view.writes (Elt Ideal) arg9.view.junk [⟨Rect.unit (s := S512x1024) ![0, 0] ![512, 1024] inb, D⟩]) k (ix2 s l) = D (ix2 r L) :=
  loaded1_re arg9 D inb k s l r L hr hL

theorem factor2_re (v : Vec Ideal S1x512 .f32) (s : Fin 8) (l : Fin 512) : k0_pay3 v (ix2 s l) = v (ix2 0 l) := by
  unfold k0_pay3
  pointwise []

theorem factor2_im (v : Vec Ideal S1x512 .f32) (s : Fin 8) (l : Fin 512) : k0_pay4 v (ix2 s l) = v (ix2 0 l) := by
  unfold k0_pay4
  pointwise []

/-- One step of the recurrence. -/
theorem step2 {v w : Vec Ideal S1x512 .f32} {x y d f : Vec Ideal S8x512 .f32} {a z δ : ℂ} {s : Fin 8} {l : Fin 512}
    (ha : Is (v (ix2 0 l)) (w (ix2 0 l)) a) (hz : Is (x (ix2 s l)) (y (ix2 s l)) z) (hd : Is (d (ix2 s l)) (f (ix2 s l)) δ) :
    Is (k0_pay5 v w x y d (ix2 s l)) (k0_pay6 v w x y f (ix2 s l)) (a * z + δ) := by
  have e := Is.step ha hz hd
  have er := factor2_re v s l
  have ei := factor2_im w s l
  refine ⟨Eq.trans ?_ e.re, Eq.trans ?_ e.im⟩
  · rw [← er, ← ei]
    rfl
  · rw [← er, ← ei]
    rfl

section

variable (𝒱 : Variants) (c : Dev nD) (bd : Option 𝒱.V) (i : grid0.Coords)
  (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
  (v w : Vec Ideal S1x512 .f32) (X8 : BufTy.Contents (Elt Ideal) arg8.view.ty) (X9 : BufTy.Contents (Elt Ideal) arg9.view.ty)

/-- The real parts of the drive a trip loads. -/
abbrev ldRe2 (k : Fin k0_t2_loop.trips) : Vec Ideal S8x512 .f32 :=
  View.readAt (Elt Ideal) arg8.view (Rect.unit (s := S512x1024) (k0_off2 k) S8x512.size (k0_off2_inb k)).toLoadRect X8

/-- The imaginary parts. -/
abbrev ldIm2 (k : Fin k0_t2_loop.trips) : Vec Ideal S8x512 .f32 :=
  View.readAt (Elt Ideal) arg9.view (Rect.unit (s := S512x1024) (k0_off2 k) S8x512.size (k0_off2_inb k)).toLoadRect X9

/-- What a trip yields. -/
theorem trip2_yields (k : Fin k0_t2_loop.trips) (acc : Half) :
    tripR_k0_t2 (F := Ideal) 𝒱 c bd i arg2 harg2 arg3 harg3 arg4 harg4 arg5 harg5 arg6 harg6 arg7 harg7 arg8 harg8 arg9 harg9 arg10 harg10 arg11 harg11 v w X8 X9 k acc
      = (k0_pay5 v w acc.1 acc.2 (ldRe2 arg8 X8 k), k0_pay6 v w acc.1 acc.2 (ldIm2 arg9 X9 k)) := by
  unfold tripR_k0_t2 trip_k0_t2
  rfl

/-- The states before each trip. -/
theorem states2 (init : Half) (a : ℂ) (z : ℂ) (d : ℕ → ℂ) (s : Fin 8) (l : Fin 512)
    (ha : Is (v (ix2 0 l)) (w (ix2 0 l)) a) (hz : Is (init.1 (ix2 s l)) (init.2 (ix2 s l)) z)
    (hd : ∀ k, Is (ldRe2 arg8 X8 k (ix2 s l)) (ldIm2 arg9 X9 k (ix2 s l)) (d k.val)) :
    ∀ n, n ≤ k0_t2_loop.trips →
      Is ((st_k0_t2 (F := Ideal) 𝒱 c bd i arg2 harg2 arg3 harg3 arg4 harg4 arg5 harg5 arg6 harg6 arg7 harg7 arg8 harg8 arg9 harg9 arg10 harg10 arg11 harg11 v w X8 X9 init n).1 (ix2 s l))
        ((st_k0_t2 (F := Ideal) 𝒱 c bd i arg2 harg2 arg3 harg3 arg4 harg4 arg5 harg5 arg6 harg6 arg7 harg7 arg8 harg8 arg9 harg9 arg10 harg10 arg11 harg11 v w X8 X9 init n).2 (ix2 s l)) (run a d z n)
  | 0, _ => hz
  | n + 1, hn => by
    have ih := states2 init a z d s l ha hz hd n (by omega)
    have e := st_k0_t2_succ (F := Ideal) 𝒱 c bd i arg2 harg2 arg3 harg3 arg4 harg4 arg5 harg5 arg6 harg6 arg7 harg7 arg8 harg8 arg9 harg9 arg10 harg10 arg11 harg11 v w X8 X9 init ⟨n, hn⟩
    rw [trip2_yields] at e
    dsimp only at e
    rw [e]
    exact step2 ha ih (hd ⟨n, hn⟩)

end

theorem trips2 : k0_t2_loop.trips = 64 := by
  decide +kernel

theorem off2_eq : ∀ k : Fin k0_t2_loop.trips, k0_off2 k = ![8 * (63 - k.val), 512] := by
  decide +kernel

/-- The rows of the drive a trip loads. -/
theorem loaded2_re (arg8 : Memref sig .tc .vmem S512x1024 .f32) (D : Vec Ideal S512x1024 .f32)
    (inb : ∀ a, (![0, 0] : Fin 2 → ℕ) a + (![512, 1024] : Fin 2 → ℕ) a ≤ S512x1024.size a)
    (k : Fin k0_t2_loop.trips) (s : Fin 8) (l : Fin 512) (r : Fin 512) (L : Fin 1024) (hr : r.val = 8 * (63 - k.val) + s.val) (hL : L.val = 512 + l.val) :
    ldRe2 arg8 (arg8.view.writes (Elt Ideal) arg8.view.junk [⟨Rect.unit (s := S512x1024) ![0, 0] ![512, 1024] inb, D⟩]) k (ix2 s l) = D (ix2 r L) := by
  show View.readAt (Elt Ideal) arg8.view _ _ _ = _
  rw [View.readAt_unit_congr_cast _ (off2_eq k), View.readAt_writes_junk_eq_canon]
  dsimp only
  refine Eq.trans (congrArg (View.canon _) (?_ : _ = ix2 r L)) (canon_in inb D [] r L r L (by omega) (by omega))
  funext a
  refine Fin.ext ?_
  match a with
  | ⟨0, _⟩ => show 8 * (63 - k.val) + 1 * s.val = r.val; omega
  | ⟨1, _⟩ => show 512 + 1 * l.val = L.val; omega

theorem loaded2_im (arg9 : Memref sig .tc .vmem S512x1024 .f32) (D : Vec Ideal S512x1024 .f32)
    (inb : ∀ a, (![0, 0] : Fin 2 → ℕ) a + (![512, 1024] : Fin 2 → ℕ) a ≤ S512x1024.size a)
    (k : Fin k0_t2_loop.trips) (s : Fin 8) (l : Fin 512) (r : Fin 512) (L : Fin 1024) (hr : r.val = 8 * (63 - k.val) + s.val) (hL : L.val = 512 + l.val) :
    ldIm2 arg9 (arg9.view.writes (Elt Ideal) arg9.view.junk [⟨Rect.unit (s := S512x1024) ![0, 0] ![512, 1024] inb, D⟩]) k (ix2 s l) = D (ix2 r L) :=
  loaded2_re arg9 D inb k s l r L hr hL

end Cert.EndsIdeal.Rows

end
-- ==== Proof.EndsPoints.lean ====
module

public import proofs.«01_k».proof.Proof.EndsTrips

/-!
# What a grid point leaves of the states

Each point advances the states of the eight streams by the 64 steps of its block; the first one starts them at zero.
-/

@[expose] public section

set_option maxRecDepth 16384
set_option maxHeartbeats 4000000

noncomputable section

namespace Cert.EndsIdeal.Rows

open Idealize.ShloMosaic Idealize.ShloMosaic.TcCoe Idealize.SL.Sem
open Cert.EndsIdeal Cert.EndsIdeal.Gen Cert.Scan

theorem kept1 (v : Vec Ideal S8x512 .f32) (y : S8x512.Idx) : k0_pay1 v y = v y := by
  unfold k0_pay1
  pointwise []

theorem kept2 (v : Vec Ideal S8x512 .f32) (y : S8x512.Idx) : k0_pay2 v y = v y := by
  unfold k0_pay2
  pointwise []

theorem kept7 (v : Vec Ideal S8x512 .f32) (y : S8x512.Idx) : k0_pay7 v y = v y := by
  unfold k0_pay7
  pointwise []

theorem kept8 (v : Vec Ideal S8x512 .f32) (y : S8x512.Idx) : k0_pay8 v y = v y := by
  unfold k0_pay8
  pointwise []

theorem zeros49 (y : S8x1024.Idx) : k0_pay49 (F := Ideal) y = 0 := by
  unfold k0_pay49
  pointwise []

theorem zeros50 (y : S8x1024.Idx) : k0_pay50 (F := Ideal) y = 0 := by
  unfold k0_pay50
  pointwise []

theorem point_B (c : Dev nD) (i : grid0.Coords)
    (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
    (hc0 : ¬cond0_0 i) (hc1 : ¬cond0_1 i)
    (x0 : Vec Ideal S512x256 .bf16) (x1 x2 : Vec Ideal S1x256x1024 .bf16) (x3 : Vec Ideal S2x1024 .f32)
    (s : Fin 8) (l : Fin 1024) (a : ℂ) (δ : ℕ → ℂ) (xs2 xs3 : Vec Ideal S8x1024 .f32) (z : ℂ)
    (hz : Is (xs2 (ix2 s l)) (xs3 (ix2 s l)) z)
    (ha : Is (x3 (ix2 0 l)) (x3 (ix2 1 l)) a)
    (hd : ∀ r : Fin 512, Is (k0_pay51 x0 x1 (ix2 r l)) (k0_pay52 x0 x2 (ix2 r l)) (δ r.val)) :
    Is (sout0_B_2 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (sout0_B_3 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l))
      (run a (fun n => δ (8 * (63 - n) + s.val)) z 64) := by
  have hl := l.isLt
  have hs := s.isLt
  constructor
  · unfold sout0_B_2 kernelRun0_B
    dsimp only
    frame_out
    by_cases h : l.val < 512
    · refine (canon_out _ _ _ s l (by omega)).trans ((canon_in _ _ _ s ⟨l.val, h⟩ s l (by simp) (by simp)).trans ((kept1 _ _).trans ?_))
      exact (states1 Variants.none c none i arg2 harg2 arg3 harg3 arg4 harg4 arg5 harg5 arg6 harg6 arg7 harg7 arg8 harg8 arg9 harg9 arg10 harg10 arg11 harg11 _ _ _ _ _ a z
        (fun n => δ (8 * (63 - n) + s.val)) s ⟨l.val, h⟩
        (ha.of_eq (ld_at _ x3 0 ⟨l.val, h⟩ 0 l (by simp) (by simp)) (ld_at _ x3 0 ⟨l.val, h⟩ 1 l (by simp) (by simp)))
        (hz.of_eq (ld_at _ xs2 s ⟨l.val, h⟩ s l (by simp) (by simp)) (ld_at _ xs3 s ⟨l.val, h⟩ s l (by simp) (by simp)))
        (fun k => (hd ⟨8 * (63 - k.val) + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).re
    · refine (canon_in _ _ _ s ⟨l.val - 512, by omega⟩ s l (by simp) (by show l.val = 512 + (l.val - 512); omega)).trans ((kept7 _ _).trans ?_)
      exact (states2 Variants.none c none i arg2 harg2 arg3 harg3 arg4 harg4 arg5 harg5 arg6 harg6 arg7 harg7 arg8 harg8 arg9 harg9 arg10 harg10 arg11 harg11 _ _ _ _ _ a z
        (fun n => δ (8 * (63 - n) + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (hz.of_eq (ld_at _ xs2 s ⟨l.val - 512, by omega⟩ s l (by simp) (by show l.val = 512 + (l.val - 512); omega)) (ld_at _ xs3 s ⟨l.val - 512, by omega⟩ s l (by simp) (by show l.val = 512 + (l.val - 512); omega)))
        (fun k => (hd ⟨8 * (63 - k.val) + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).re
  · unfold sout0_B_3 kernelRun0_B
    dsimp only
    frame_out
    by_cases h : l.val < 512
    · refine (canon_out _ _ _ s l (by omega)).trans ((canon_in _ _ _ s ⟨l.val, h⟩ s l (by simp) (by simp)).trans ((kept2 _ _).trans ?_))
      exact (states1 Variants.none c none i arg2 harg2 arg3 harg3 arg4 harg4 arg5 harg5 arg6 harg6 arg7 harg7 arg8 harg8 arg9 harg9 arg10 harg10 arg11 harg11 _ _ _ _ _ a z
        (fun n => δ (8 * (63 - n) + s.val)) s ⟨l.val, h⟩
        (ha.of_eq (ld_at _ x3 0 ⟨l.val, h⟩ 0 l (by simp) (by simp)) (ld_at _ x3 0 ⟨l.val, h⟩ 1 l (by simp) (by simp)))
        (hz.of_eq (ld_at _ xs2 s ⟨l.val, h⟩ s l (by simp) (by simp)) (ld_at _ xs3 s ⟨l.val, h⟩ s l (by simp) (by simp)))
        (fun k => (hd ⟨8 * (63 - k.val) + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).im
    · refine (canon_in _ _ _ s ⟨l.val - 512, by omega⟩ s l (by simp) (by show l.val = 512 + (l.val - 512); omega)).trans ((kept8 _ _).trans ?_)
      exact (states2 Variants.none c none i arg2 harg2 arg3 harg3 arg4 harg4 arg5 harg5 arg6 harg6 arg7 harg7 arg8 harg8 arg9 harg9 arg10 harg10 arg11 harg11 _ _ _ _ _ a z
        (fun n => δ (8 * (63 - n) + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (hz.of_eq (ld_at _ xs2 s ⟨l.val - 512, by omega⟩ s l (by simp) (by show l.val = 512 + (l.val - 512); omega)) (ld_at _ xs3 s ⟨l.val - 512, by omega⟩ s l (by simp) (by show l.val = 512 + (l.val - 512); omega)))
        (fun k => (hd ⟨8 * (63 - k.val) + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).im

theorem point_A (c : Dev nD) (i : grid0.Coords)
    (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
    (hc0 : cond0_0 i) (hc1 : ¬cond0_1 i)
    (x0 : Vec Ideal S512x256 .bf16) (x1 x2 : Vec Ideal S1x256x1024 .bf16) (x3 : Vec Ideal S2x1024 .f32)
    (s : Fin 8) (l : Fin 1024) (a : ℂ) (δ : ℕ → ℂ) (ha : Is (x3 (ix2 0 l)) (x3 (ix2 1 l)) a)
    (hd : ∀ r : Fin 512, Is (k0_pay51 x0 x1 (ix2 r l)) (k0_pay52 x0 x2 (ix2 r l)) (δ r.val)) :
    Is (sout0_A_2 (F := Ideal) c i arg2 harg2 arg3 harg3 arg4 harg4 arg5 harg5 arg6 harg6 arg7 harg7 arg8 harg8 arg9 harg9 arg10 harg10 arg11 harg11 hc0 hc1 x0 x1 x2 x3 (ix2 s l)) (sout0_A_3 (F := Ideal) c i arg2 harg2 arg3 harg3 arg4 harg4 arg5 harg5 arg6 harg6 arg7 harg7 arg8 harg8 arg9 harg9 arg10 harg10 arg11 harg11 hc0 hc1 x0 x1 x2 x3 (ix2 s l))
      (run a (fun n => δ (8 * (63 - n) + s.val)) 0 64) := by
  have hl := l.isLt
  have hs := s.isLt
  constructor
  · unfold sout0_A_2 kernelRun0_A
    dsimp only
    frame_out
    by_cases h : l.val < 512
    · refine (canon_out _ _ _ s l (by omega)).trans ((canon_in _ _ _ s ⟨l.val, h⟩ s l (by simp) (by simp)).trans ((kept1 _ _).trans ?_))
      exact (states1 Variants.none c none i arg2 harg2 arg3 harg3 arg4 harg4 arg5 harg5 arg6 harg6 arg7 harg7 arg8 harg8 arg9 harg9 arg10 harg10 arg11 harg11 _ _ _ _ _ a 0
        (fun n => δ (8 * (63 - n) + s.val)) s ⟨l.val, h⟩
        (ha.of_eq (ld_at _ x3 0 ⟨l.val, h⟩ 0 l (by simp) (by simp)) (ld_at _ x3 0 ⟨l.val, h⟩ 1 l (by simp) (by simp)))
        (Is.zero.of_eq ((cov_at _ _ _ s ⟨l.val, h⟩ s l (by simp) (by simp)).trans ((canon_in _ _ _ s l s l (by simp) (by simp)).trans (zeros49 _))) ((cov_at _ _ _ s ⟨l.val, h⟩ s l (by simp) (by simp)).trans ((canon_in _ _ _ s l s l (by simp) (by simp)).trans (zeros50 _))))
        (fun k => (hd ⟨8 * (63 - k.val) + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).re
    · refine (canon_in _ _ _ s ⟨l.val - 512, by omega⟩ s l (by simp) (by show l.val = 512 + (l.val - 512); omega)).trans ((kept7 _ _).trans ?_)
      exact (states2 Variants.none c none i arg2 harg2 arg3 harg3 arg4 harg4 arg5 harg5 arg6 harg6 arg7 harg7 arg8 harg8 arg9 harg9 arg10 harg10 arg11 harg11 _ _ _ _ _ a 0
        (fun n => δ (8 * (63 - n) + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (Is.zero.of_eq ((cov_at _ _ _ s ⟨l.val - 512, by omega⟩ s l (by simp) (by show l.val = 512 + (l.val - 512); omega)).trans ((canon_out _ _ _ s l (by omega)).trans ((canon_in _ _ _ s l s l (by simp) (by simp)).trans (zeros49 _)))) ((cov_at _ _ _ s ⟨l.val - 512, by omega⟩ s l (by simp) (by show l.val = 512 + (l.val - 512); omega)).trans ((canon_out _ _ _ s l (by omega)).trans ((canon_in _ _ _ s l s l (by simp) (by simp)).trans (zeros50 _)))))
        (fun k => (hd ⟨8 * (63 - k.val) + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).re
  · unfold sout0_A_3 kernelRun0_A
    dsimp only
    frame_out
    by_cases h : l.val < 512
    · refine (canon_out _ _ _ s l (by omega)).trans ((canon_in _ _ _ s ⟨l.val, h⟩ s l (by simp) (by simp)).trans ((kept2 _ _).trans ?_))
      exact (states1 Variants.none c none i arg2 harg2 arg3 harg3 arg4 harg4 arg5 harg5 arg6 harg6 arg7 harg7 arg8 harg8 arg9 harg9 arg10 harg10 arg11 harg11 _ _ _ _ _ a 0
        (fun n => δ (8 * (63 - n) + s.val)) s ⟨l.val, h⟩
        (ha.of_eq (ld_at _ x3 0 ⟨l.val, h⟩ 0 l (by simp) (by simp)) (ld_at _ x3 0 ⟨l.val, h⟩ 1 l (by simp) (by simp)))
        (Is.zero.of_eq ((cov_at _ _ _ s ⟨l.val, h⟩ s l (by simp) (by simp)).trans ((canon_in _ _ _ s l s l (by simp) (by simp)).trans (zeros49 _))) ((cov_at _ _ _ s ⟨l.val, h⟩ s l (by simp) (by simp)).trans ((canon_in _ _ _ s l s l (by simp) (by simp)).trans (zeros50 _))))
        (fun k => (hd ⟨8 * (63 - k.val) + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).im
    · refine (canon_in _ _ _ s ⟨l.val - 512, by omega⟩ s l (by simp) (by show l.val = 512 + (l.val - 512); omega)).trans ((kept8 _ _).trans ?_)
      exact (states2 Variants.none c none i arg2 harg2 arg3 harg3 arg4 harg4 arg5 harg5 arg6 harg6 arg7 harg7 arg8 harg8 arg9 harg9 arg10 harg10 arg11 harg11 _ _ _ _ _ a 0
        (fun n => δ (8 * (63 - n) + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (Is.zero.of_eq ((cov_at _ _ _ s ⟨l.val - 512, by omega⟩ s l (by simp) (by show l.val = 512 + (l.val - 512); omega)).trans ((canon_out _ _ _ s l (by omega)).trans ((canon_in _ _ _ s l s l (by simp) (by simp)).trans (zeros49 _)))) ((cov_at _ _ _ s ⟨l.val - 512, by omega⟩ s l (by simp) (by show l.val = 512 + (l.val - 512); omega)).trans ((canon_out _ _ _ s l (by omega)).trans ((canon_in _ _ _ s l s l (by simp) (by simp)).trans (zeros50 _)))))
        (fun k => (hd ⟨8 * (63 - k.val) + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).im

theorem point_C (c : Dev nD) (i : grid0.Coords)
    (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
    (hc0 : ¬cond0_0 i) (hc1 : cond0_1 i)
    (x0 : Vec Ideal S512x256 .bf16) (x1 x2 : Vec Ideal S1x256x1024 .bf16) (x3 : Vec Ideal S2x1024 .f32)
    (s : Fin 8) (l : Fin 1024) (a : ℂ) (δ : ℕ → ℂ) (xs2 xs3 : Vec Ideal S8x1024 .f32) (z : ℂ)
    (hz : Is (xs2 (ix2 s l)) (xs3 (ix2 s l)) z)
    (ha : Is (x3 (ix2 0 l)) (x3 (ix2 1 l)) a)
    (hd : ∀ r : Fin 512, Is (k0_pay51 x0 x1 (ix2 r l)) (k0_pay52 x0 x2 (ix2 r l)) (δ r.val)) :
    Is (sout0_C_2 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (sout0_C_3 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l))
      (run a (fun n => δ (8 * (63 - n) + s.val)) z 64) := by
  have hl := l.isLt
  have hs := s.isLt
  constructor
  · unfold sout0_C_2 kernelRun0_C
    dsimp only
    frame_out
    by_cases h : l.val < 512
    · refine (canon_out _ _ _ s l (by omega)).trans ((canon_in _ _ _ s ⟨l.val, h⟩ s l (by simp) (by simp)).trans ((kept1 _ _).trans ?_))
      exact (states1 Variants.none c none i arg2 harg2 arg3 harg3 arg4 harg4 arg5 harg5 arg6 harg6 arg7 harg7 arg8 harg8 arg9 harg9 arg10 harg10 arg11 harg11 _ _ _ _ _ a z
        (fun n => δ (8 * (63 - n) + s.val)) s ⟨l.val, h⟩
        (ha.of_eq (ld_at _ x3 0 ⟨l.val, h⟩ 0 l (by simp) (by simp)) (ld_at _ x3 0 ⟨l.val, h⟩ 1 l (by simp) (by simp)))
        (hz.of_eq (ld_at _ xs2 s ⟨l.val, h⟩ s l (by simp) (by simp)) (ld_at _ xs3 s ⟨l.val, h⟩ s l (by simp) (by simp)))
        (fun k => (hd ⟨8 * (63 - k.val) + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).re
    · refine (canon_in _ _ _ s ⟨l.val - 512, by omega⟩ s l (by simp) (by show l.val = 512 + (l.val - 512); omega)).trans ((kept7 _ _).trans ?_)
      exact (states2 Variants.none c none i arg2 harg2 arg3 harg3 arg4 harg4 arg5 harg5 arg6 harg6 arg7 harg7 arg8 harg8 arg9 harg9 arg10 harg10 arg11 harg11 _ _ _ _ _ a z
        (fun n => δ (8 * (63 - n) + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (hz.of_eq (ld_at _ xs2 s ⟨l.val - 512, by omega⟩ s l (by simp) (by show l.val = 512 + (l.val - 512); omega)) (ld_at _ xs3 s ⟨l.val - 512, by omega⟩ s l (by simp) (by show l.val = 512 + (l.val - 512); omega)))
        (fun k => (hd ⟨8 * (63 - k.val) + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).re
  · unfold sout0_C_3 kernelRun0_C
    dsimp only
    frame_out
    by_cases h : l.val < 512
    · refine (canon_out _ _ _ s l (by omega)).trans ((canon_in _ _ _ s ⟨l.val, h⟩ s l (by simp) (by simp)).trans ((kept2 _ _).trans ?_))
      exact (states1 Variants.none c none i arg2 harg2 arg3 harg3 arg4 harg4 arg5 harg5 arg6 harg6 arg7 harg7 arg8 harg8 arg9 harg9 arg10 harg10 arg11 harg11 _ _ _ _ _ a z
        (fun n => δ (8 * (63 - n) + s.val)) s ⟨l.val, h⟩
        (ha.of_eq (ld_at _ x3 0 ⟨l.val, h⟩ 0 l (by simp) (by simp)) (ld_at _ x3 0 ⟨l.val, h⟩ 1 l (by simp) (by simp)))
        (hz.of_eq (ld_at _ xs2 s ⟨l.val, h⟩ s l (by simp) (by simp)) (ld_at _ xs3 s ⟨l.val, h⟩ s l (by simp) (by simp)))
        (fun k => (hd ⟨8 * (63 - k.val) + s.val, by have := lt_of_lt_of_eq k.isLt trips1; omega⟩).of_eq
          (loaded1_re arg8 _ _ k s ⟨l.val, h⟩ _ l rfl (by simp))
          (loaded1_im arg9 _ _ k s ⟨l.val, h⟩ _ l rfl (by simp))) 64 (le_of_eq trips1.symm)).im
    · refine (canon_in _ _ _ s ⟨l.val - 512, by omega⟩ s l (by simp) (by show l.val = 512 + (l.val - 512); omega)).trans ((kept8 _ _).trans ?_)
      exact (states2 Variants.none c none i arg2 harg2 arg3 harg3 arg4 harg4 arg5 harg5 arg6 harg6 arg7 harg7 arg8 harg8 arg9 harg9 arg10 harg10 arg11 harg11 _ _ _ _ _ a z
        (fun n => δ (8 * (63 - n) + s.val)) s ⟨l.val - 512, by omega⟩
        (ha.of_eq (ld_at _ x3 0 ⟨l.val - 512, by omega⟩ 0 l (by simp) (by show l.val = 512 + (l.val - 512); omega)) (ld_at _ x3 0 ⟨l.val - 512, by omega⟩ 1 l (by simp) (by show l.val = 512 + (l.val - 512); omega)))
        (hz.of_eq (ld_at _ xs2 s ⟨l.val - 512, by omega⟩ s l (by simp) (by show l.val = 512 + (l.val - 512); omega)) (ld_at _ xs3 s ⟨l.val - 512, by omega⟩ s l (by simp) (by show l.val = 512 + (l.val - 512); omega)))
        (fun k => (hd ⟨8 * (63 - k.val) + s.val, by have := lt_of_lt_of_eq k.isLt trips2; omega⟩).of_eq
          (loaded2_re arg8 _ _ k s ⟨l.val - 512, by omega⟩ _ l rfl (by show l.val = 512 + (l.val - 512); omega))
          (loaded2_im arg9 _ _ k s ⟨l.val - 512, by omega⟩ _ l rfl (by show l.val = 512 + (l.val - 512); omega))) 64 (le_of_eq trips2.symm)).im

end Cert.EndsIdeal.Rows

end
-- ==== Proof.EndsOut.lean ====
module

public import proofs.«01_k».proof.Proof.EndsPoints

/-!
# The states at the streams' starts

The last point of a sweep squares the factor nine times and carries the state from one stream to the next.
-/

@[expose] public section

set_option maxRecDepth 16384
set_option maxHeartbeats 4000000

noncomputable section

namespace Cert.EndsIdeal.Rows

open Idealize.ShloMosaic Idealize.ShloMosaic.TcCoe Idealize.SL.Sem
open Cert.EndsIdeal Cert.EndsIdeal.Gen Cert.Scan

/-- One row over the lanes. -/
abbrev Row : Type := FVec Ideal S1x1024 .f32

/-- Two rows hold a complex number at a lane. -/
abbrev At (l : Fin 1024) (x y : Row) (z : ℂ) : Prop := Is (x (ix2 0 l)) (y (ix2 0 l)) z

theorem two_eq : (Scalar.ofBits (F := Ideal) .f32 0x40000000#32 : EReal) = 2 := by
  show Ideal.ofBits .f32 0x40000000#32 = 2
  have e1 : ¬BitVec.extractLsb' 31 1 1073741824#32 = 1#1 := by decide
  have e2 : (1073741824 >>> 23 % 256 : ℕ) = 128 := by decide
  simp [Ideal.ofBits, Ideal.ieee, e1, e2]
  norm_num
  rw [← EReal.coe_mul, show (8388608 : ℝ) * (1 / 4194304) = 2 by norm_num]
  rfl

theorem ones_at (l : Fin 1024) : k0_pay9 (F := Ideal) (ix2 0 l) = 1 := by
  unfold k0_pay9
  pointwise []

theorem zeros_at (l : Fin 1024) : k0_pay10 (F := Ideal) (ix2 0 l) = 0 := by
  unfold k0_pay10
  pointwise []

theorem none_at (l : Fin 1024) : k0_pay32 (F := Ideal) (ix2 0 l) = 0 := by
  unfold k0_pay32
  pointwise []

theorem none_at' (l : Fin 1024) : k0_pay33 (F := Ideal) (ix2 0 l) = 0 := by
  unfold k0_pay33
  pointwise []

section

variable {l : Fin 1024} {a R : ℂ} {n : ℕ}

/-- A square. -/
theorem square {x y : Row} (h : At l x y (a ^ n)) :
    At l (subf (mulf x x) (mulf y y)) (mulf (mulf (broadcast S1x1024 (Scalar.ofBits (F := Ideal) .f32 0x40000000#32)) x) y) (a ^ (n + n)) := by
  have e := h.sq
  rw [← pow_add, ← two_eq] at e
  exact e

/-- A state carried over. -/
theorem carried {x y u v p q : Row} {z d : ℂ} (hR : At l p q R) (hz : At l x y z) (hd : At l u v d) :
    At l (subf (addf u (mulf p x)) (mulf q y)) (addf (addf v (mulf p y)) (mulf q x)) (R * z + d) :=
  Is.carry hR hz hd

/-- The factor's 512th power. -/
theorem power {v51 v52 : Row} (h : At l v51 v52 a) :
    At l (k0_pay30 (k0_pay9 (F := Ideal)) (k0_pay10 (F := Ideal)) (k0_pay23 v51 v52) (k0_pay24 v51 v52) (k0_pay25 v51 v52))
      (k0_pay31 (k0_pay9 (F := Ideal)) (k0_pay10 (F := Ideal)) (k0_pay23 v51 v52) (k0_pay24 v51 v52) (k0_pay25 v51 v52)) (a ^ 512) := by
  have h1 : At l v51 v52 (a ^ 1) := by rw [pow_one]; exact h
  have h2 : At l (k0_pay11 v51 v52) (k0_pay12 v51 v52) (a ^ 2) := square h1
  have h4 : At l (k0_pay13 v51 v52) (k0_pay14 v51 v52) (a ^ 4) := square h2
  have h8 : At l (k0_pay15 v51 v52) (k0_pay16 v51 v52) (a ^ 8) := square h4
  have h16 : At l (k0_pay17 v51 v52) (k0_pay18 v51 v52) (a ^ 16) := square h8
  have h32 : At l (k0_pay19 v51 v52) (k0_pay20 v51 v52) (a ^ 32) := square h16
  have h64 : At l (k0_pay21 v51 v52) (k0_pay22 v51 v52) (a ^ 64) := square h32
  have h128 : At l (k0_pay23 v51 v52) (k0_pay24 v51 v52) (a ^ 128) := square h64
  have h256 : At l (k0_pay26 (k0_pay24 v51 v52) (k0_pay25 v51 v52)) (k0_pay27 (k0_pay23 v51 v52) (k0_pay24 v51 v52)) (a ^ 256) := square h128
  have h512 : At l (k0_pay28 (k0_pay23 v51 v52) (k0_pay24 v51 v52) (k0_pay25 v51 v52))
      (k0_pay29 (k0_pay23 v51 v52) (k0_pay24 v51 v52) (k0_pay25 v51 v52)) (a ^ 512) := square h256
  have h0 : At l (k0_pay9 (F := Ideal)) (k0_pay10 (F := Ideal)) 1 := Is.one.of_eq (ones_at l) (zeros_at l)
  have e := Is.mul h0 h512
  rw [one_mul] at e
  exact e

theorem row0 : At l (k0_pay32 (F := Ideal)) (k0_pay33 (F := Ideal)) 0 := Is.zero.of_eq (none_at l) (none_at' l)

variable {E : ℕ → ℂ} {v53 v54 v93 v96 v97 v111 v114 v119 v120 v124 v128 v131 v132 v133 v143 v144 v155 v156 v160 v164 v167 v168 v179 v180 v191 v192 : Row} {z : ℂ}

theorem row1 (hR : At l (k0_pay30 v53 v54 v93 v96 v97) (k0_pay31 v53 v54 v93 v96 v97) R) (h : At l v119 v120 (E 0)) :
    At l (k0_pay34 v53 v54 v93 v96 v97 v119) (k0_pay35 v53 v54 v93 v96 v97 v120) (run R E 0 1) :=
  carried hR row0 h

theorem row2 (hR : At l v111 v114 R) (hz : At l v124 v128 (run R E 0 1)) (h : At l v131 v132 (E 1)) (hm : v133 = mulf v111 v124) :
    At l (k0_pay37 v114 v128 v131 v133) (k0_pay38 v111 v114 v124 v128 v132) (run R E 0 2) := by
  subst hm
  exact carried hR hz h

theorem row3 (hR : At l v111 v114 R) (hz : At l v124 v128 (run R E 0 1)) (h : At l v131 v132 (E 1)) (hm : v133 = mulf v111 v124)
    (h2 : At l v143 v144 (E 2)) :
    At l (k0_pay39 v111 v114 v124 v128 v131 v132 v133 v143) (k0_pay40 v111 v114 v124 v128 v131 v132 v133 v144) (run R E 0 3) :=
  carried hR (row2 hR hz h hm) h2

theorem row4 (hR : At l v111 v114 R) (hz : At l v124 v128 (run R E 0 1)) (h : At l v131 v132 (E 1)) (hm : v133 = mulf v111 v124)
    (h2 : At l v143 v144 (E 2)) (h3 : At l v155 v156 (E 3)) :
    At l (k0_pay41 v111 v114 v124 v128 v131 v132 v133 v143 v144 v155) (k0_pay42 v111 v114 v124 v128 v131 v132 v133 v143 v144 v156) (run R E 0 4) :=
  carried hR (row3 hR hz h hm h2) h3

theorem row5 (hR : At l v111 v114 R) (hz : At l v160 v164 (run R E 0 4)) (h4 : At l v167 v168 (E 4)) :
    At l (k0_pay43 v111 v114 v160 v164 v167) (k0_pay44 v111 v114 v160 v164 v168) (run R E 0 5) :=
  carried hR hz h4

theorem row6 (hR : At l v111 v114 R) (hz : At l v160 v164 (run R E 0 4)) (h4 : At l v167 v168 (E 4)) (h5 : At l v179 v180 (E 5)) :
    At l (k0_pay45 v111 v114 v160 v164 v167 v168 v179) (k0_pay46 v111 v114 v160 v164 v167 v168 v180) (run R E 0 6) :=
  carried hR (row5 hR hz h4) h5

theorem row7 (hR : At l v111 v114 R) (hz : At l v160 v164 (run R E 0 4)) (h4 : At l v167 v168 (E 4)) (h5 : At l v179 v180 (E 5))
    (h6 : At l v191 v192 (E 6)) :
    At l (k0_pay47 v111 v114 v160 v164 v167 v168 v179 v180 v191) (k0_pay48 v111 v114 v160 v164 v167 v168 v179 v180 v192) (run R E 0 7) :=
  carried hR (row6 hR hz h4 h5) h6

end

theorem out_C (c : Dev nD) (i : grid0.Coords)
    (arg2 : Memref sig .tc .vmem S512x256 .bf16) (harg2 : arg2.IsWhole)
  (arg3 : Memref sig .tc .vmem S1x256x1024 .bf16) (harg3 : arg3.IsWhole)
  (arg4 : Memref sig .tc .vmem S1x256x1024 .bf16) (harg4 : arg4.IsWhole)
  (arg5 : Memref sig .tc .vmem S2x1024 .f32) (harg5 : arg5.IsWhole)
  (arg6 : Memref sig .tc .vmem S8x1024 .f32) (harg6 : arg6.IsWhole)
  (arg7 : Memref sig .tc .vmem S8x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S8x1024 .f32) (harg10 : arg10.IsWhole)
  (arg11 : Memref sig .tc .vmem S8x1024 .f32) (harg11 : arg11.IsWhole)
    (hc0 : ¬cond0_0 i) (hc1 : cond0_1 i)
    (x0 : Vec Ideal S512x256 .bf16) (x1 x2 : Vec Ideal S1x256x1024 .bf16) (x3 : Vec Ideal S2x1024 .f32) (xs2 xs3 : Vec Ideal S8x1024 .f32)
    (l : Fin 1024) (a : ℂ) (E : ℕ → ℂ) (ha : Is (x3 (ix2 0 l)) (x3 (ix2 1 l)) a)
    (hE : ∀ s : Fin 8, Is (sout0_C_2 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (sout0_C_3 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (E (7 - s.val))) (s : Fin 8) :
    Is (out0_C_4 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (out0_C_5 (F := Ideal) c i arg2 harg2 arg3 harg3 arg4 harg4 arg5 harg5 arg6 harg6 arg7 harg7 arg8 harg8 arg9 harg9 arg10 harg10 arg11 harg11 hc0 hc1 x0 x1 x2 x3 xs2 xs3 (ix2 s l)) (run (a ^ 512) E 0 (7 - s.val)) := by
  have h30 := power (l := l) (a := a) (v51 := View.ld x3 (Rect.unit (s := S2x1024) ![0, 0] ![1, 1024] (by decide))) (v52 := View.ld x3 (Rect.unit (s := S2x1024) ![1, 0] ![1, 1024] (by decide)))
    (ha.of_eq (ld_at _ x3 0 l 0 l (by simp) (by simp)) (ld_at _ x3 0 l 1 l (by simp) (by simp)))
  unfold out0_C_4 out0_C_5 kernelRun0_C
  dsimp only
  frame_out
  rcases s with ⟨s, hs⟩
  interval_cases s
  · refine Is.of_eq ?_ (canon_in _ _ _ 0 l _ l (by simp) (by simp)) (canon_in _ _ _ 0 l _ l (by simp) (by simp))
    exact (row7 (E := E) h30 (row4 (E := E) h30 (row1 (E := E) h30 ((hE ⟨7, by decide⟩).of_eq ((cov_at _ _ _ 0 l ⟨7, by decide⟩ l (by simp) (by simp)).trans (by unfold sout0_C_2 kernelRun0_C; dsimp only; frame_out)) ((cov_at _ _ _ 0 l ⟨7, by decide⟩ l (by simp) (by simp)).trans (by unfold sout0_C_3 kernelRun0_C; dsimp only; frame_out)))) ((hE ⟨6, by decide⟩).of_eq ((cov_at _ _ _ 0 l ⟨6, by decide⟩ l (by simp) (by simp)).trans (by unfold sout0_C_2 kernelRun0_C; dsimp only; frame_out)) ((cov_at _ _ _ 0 l ⟨6, by decide⟩ l (by simp) (by simp)).trans (by unfold sout0_C_3 kernelRun0_C; dsimp only; frame_out))) rfl ((hE ⟨5, by decide⟩).of_eq ((cov_at _ _ _ 0 l ⟨5, by decide⟩ l (by simp) (by simp)).trans (by unfold sout0_C_2 kernelRun0_C; dsimp only; frame_out)) ((cov_at _ _ _ 0 l ⟨5, by decide⟩ l (by simp) (by simp)).trans (by unfold sout0_C_3 kernelRun0_C; dsimp only; frame_out))) ((hE ⟨4, by decide⟩).of_eq ((cov_at _ _ _ 0 l ⟨4, by decide⟩ l (by simp) (by simp)).trans (by unfold sout0_C_2 kernelRun0_C; dsimp only; frame_out)) ((cov_at _ _ _ 0 l ⟨4, by decide⟩ l (by simp) (by simp)).trans (by unfold sout0_C_3 kernelRun0_C; dsimp only; frame_out)))) ((hE ⟨3, by decide⟩).of_eq ((cov_at _ _ _ 0 l ⟨3, by decide⟩ l (by simp) (by simp)).trans (by unfold sout0_C_2 kernelRun0_C; dsimp only; frame_out)) ((cov_at _ _ _ 0 l ⟨3, by decide⟩ l (by simp) (by simp)).trans (by unfold sout0_C_3 kernelRun0_C; dsimp only; frame_out))) ((hE ⟨2, by decide⟩).of_eq ((cov_at _ _ _ 0 l ⟨2, by decide⟩ l (by simp) (by simp)).trans (by unfold sout0_C_2 kernelRun0_C; dsimp only; frame_out)) ((cov_at _ _ _ 0 l ⟨2, by decide⟩ l (by simp) (by simp)).trans (by unfold sout0_C_3 kernelRun0_C; dsimp only; frame_out))) ((hE ⟨1, by decide⟩).of_eq ((cov_at _ _ _ 0 l ⟨1, by decide⟩ l (by simp) (by simp)).trans (by unfold sout0_C_2 kernelRun0_C; dsimp only; frame_out)) ((cov_at _ _ _ 0 l ⟨1, by decide⟩ l (by simp) (by simp)).trans (by unfold sout0_C_3 kernelRun0_C; dsimp only; frame_out))))
  · refine Is.of_eq ?_ ((canon_out _ _ _ _ l (by simp)).trans (canon_in _ _ _ 0 l _ l (by simp) (by simp))) ((canon_out _ _ _ _ l (by simp)).trans (canon_in _ _ _ 0 l _ l (by simp) (by simp)))
    exact (row6 (E := E) h30 (row4 (E := E) h30 (row1 (E := E) h30 ((hE ⟨7, by decide⟩).of_eq ((cov_at _ _ _ 0 l ⟨7, by decide⟩ l (by simp) (by simp)).trans (by unfold sout0_C_2 kernelRun0_C; dsimp only; frame_out)) ((cov_at _ _ _ 0 l ⟨7, by decide⟩ l (by simp) (by simp)).trans (by unfold sout0_C_3 kernelRun0_C; dsimp only; frame_out)))) ((hE ⟨6, by decide⟩).of_eq ((cov_at _ _ _ 0 l ⟨6, by decide⟩ l (by simp) (by simp)).trans (by unfold sout0_C_2 kernelRun0_C; dsimp only; frame_out)) ((cov_at _ _ _ 0 l ⟨6, by decide⟩ l (by simp) (by simp)).trans (by unfold sout0_C_3 kernelRun0_C; dsimp only; frame_out))) rfl ((hE ⟨5, by decide⟩).of_eq ((cov_at _ _ _ 0 l ⟨5, by decide⟩ l (by simp) (by simp)).trans (by unfold sout0_C_2 kernelRun0_C; dsimp only; frame_out)) ((cov_at _ _ _ 0 l ⟨5, by decide⟩ l (by simp) (by simp)).trans (by unfold sout0_C_3 kernelRun0_C; dsimp only; frame_out))) ((hE ⟨4, by decide⟩).of_eq ((cov_at _ _ _ 0 l ⟨4, by decide⟩ l (by simp) (by simp)).trans (by unfold sout0_C_2 kernelRun0_C; dsimp only; frame_out)) ((cov_at _ _ _ 0 l ⟨4, by decide⟩ l (by simp) (by simp)).trans (by unfold sout0_C_3 kernelRun0_C; dsimp only; frame_out)))) ((hE ⟨3, by decide⟩).of_eq ((cov_at _ _ _ 0 l ⟨3, by decide⟩ l (by simp) (by simp)).trans (by unfold sout0_C_2 kernelRun0_C; dsimp only; frame_out)) ((cov_at _ _ _ 0 l ⟨3, by decide⟩ l (by simp) (by simp)).trans (by unfold sout0_C_3 kernelRun0_C; dsimp only; frame_out))) ((hE ⟨2, by decide⟩).of_eq ((cov_at _ _ _ 0 l ⟨2, by decide⟩ l (by simp) (by simp)).trans (by unfold sout0_C_2 kernelRun0_C; dsimp only; frame_out)) ((cov_at _ _ _ 0 l ⟨2, by decide⟩ l (by simp) (by simp)).trans (by unfold sout0_C_3 kernelRun0_C; dsimp only; frame_out))))
  · refine Is.of_eq ?_ ((canon_out _ _ _ _ l (by simp)).trans ((canon_out _ _ _ _ l (by simp)).trans (canon_in _ _ _ 0 l _ l (by simp) (by simp)))) ((canon_out _ _ _ _ l (by simp)).trans ((canon_out _ _ _ _ l (by simp)).trans (canon_in _ _ _ 0 l _ l (by simp) (by simp))))
    exact (row5 (E := E) h30 (row4 (E := E) h30 (row1 (E := E) h30 ((hE ⟨7, by decide⟩).of_eq ((cov_at _ _ _ 0 l ⟨7, by decide⟩ l (by simp) (by simp)).trans (by unfold sout0_C_2 kernelRun0_C; dsimp only; frame_out)) ((cov_at _ _ _ 0 l ⟨7, by decide⟩ l (by simp) (by simp)).trans (by unfold sout0_C_3 kernelRun0_C; dsimp only; frame_out)))) ((hE ⟨6, by decide⟩).of_eq ((cov_at _ _ _ 0 l ⟨6, by decide⟩ l (by simp) (by simp)).trans (by unfold sout0_C_2 kernelRun0_C; dsimp only; frame_out)) ((cov_at _ _ _ 0 l ⟨6, by decide⟩ l (by simp) (by simp)).trans (by unfold sout0_C_3 kernelRun0_C; dsimp only; frame_out))) rfl ((hE ⟨5, by decide⟩).of_eq ((cov_at _ _ _ 0 l ⟨5, by decide⟩ l (by simp) (by simp)).trans (by unfold sout0_C_2 kernelRun0_C; dsimp only; frame_out)) ((cov_at _ _ _ 0 l ⟨5, by decide⟩ l (by simp) (by simp)).trans (by unfold sout0_C_3 kernelRun0_C; dsimp only; frame_out))) ((hE ⟨4, by decide⟩).of_eq ((cov_at _ _ _ 0 l ⟨4, by decide⟩ l (by simp) (by simp)).trans (by unfold sout0_C_2 kernelRun0_C; dsimp only; frame_out)) ((cov_at _ _ _ 0 l ⟨4, by decide⟩ l (by simp) (by simp)).trans (by unfold sout0_C_3 kernelRun0_C; dsimp only; frame_out)))) ((hE ⟨3, by decide⟩).of_eq ((cov_at _ _ _ 0 l ⟨3, by decide⟩ l (by simp) (by simp)).trans (by unfold sout0_C_2 kernelRun0_C; dsimp only; frame_out)) ((cov_at _ _ _ 0 l ⟨3, by decide⟩ l (by simp) (by simp)).trans (by unfold sout0_C_3 kernelRun0_C; dsimp only; frame_out))))
  · refine Is.of_eq ?_ ((canon_out _ _ _ _ l (by simp)).trans ((canon_out _ _ _ _ l (by simp)).trans ((canon_out _ _ _ _ l (by simp)).trans (canon_in _ _ _ 0 l _ l (by simp) (by simp))))) ((canon_out _ _ _ _ l (by simp)).trans ((canon_out _ _ _ _ l (by simp)).trans ((canon_out _ _ _ _ l (by simp)).trans (canon_in _ _ _ 0 l _ l (by simp) (by simp)))))
    exact (row4 (E := E) h30 (row1 (E := E) h30 ((hE ⟨7, by decide⟩).of_eq ((cov_at _ _ _ 0 l ⟨7, by decide⟩ l (by simp) (by simp)).trans (by unfold sout0_C_2 kernelRun0_C; dsimp only; frame_out)) ((cov_at _ _ _ 0 l ⟨7, by decide⟩ l (by simp) (by simp)).trans (by unfold sout0_C_3 kernelRun0_C; dsimp only; frame_out)))) ((hE ⟨6, by decide⟩).of_eq ((cov_at _ _ _ 0 l ⟨6, by decide⟩ l (by simp) (by simp)).trans (by unfold sout0_C_2 kernelRun0_C; dsimp only; frame_out)) ((cov_at _ _ _ 0 l ⟨6, by decide⟩ l (by simp) (by simp)).trans (by unfold sout0_C_3 kernelRun0_C; dsimp only; frame_out))) rfl ((hE ⟨5, by decide⟩).of_eq ((cov_at _ _ _ 0 l ⟨5, by decide⟩ l (by simp) (by simp)).trans (by unfold sout0_C_2 kernelRun0_C; dsimp only; frame_out)) ((cov_at _ _ _ 0 l ⟨5, by decide⟩ l (by simp) (by simp)).trans (by unfold sout0_C_3 kernelRun0_C; dsimp only; frame_out))) ((hE ⟨4, by decide⟩).of_eq ((cov_at _ _ _ 0 l ⟨4, by decide⟩ l (by simp) (by simp)).trans (by unfold sout0_C_2 kernelRun0_C; dsimp only; frame_out)) ((cov_at _ _ _ 0 l ⟨4, by decide⟩ l (by simp) (by simp)).trans (by unfold sout0_C_3 kernelRun0_C; dsimp only; frame_out))))
  · refine Is.of_eq ?_ ((canon_out _ _ _ _ l (by simp)).trans ((canon_out _ _ _ _ l (by simp)).trans ((canon_out _ _ _ _ l (by simp)).trans ((canon_out _ _ _ _ l (by simp)).trans (canon_in _ _ _ 0 l _ l (by simp) (by simp)))))) ((canon_out _ _ _ _ l (by simp)).trans ((canon_out _ _ _ _ l (by simp)).trans ((canon_out _ _ _ _ l (by simp)).trans ((canon_out _ _ _ _ l (by simp)).trans (canon_in _ _ _ 0 l _ l (by simp) (by simp))))))
    exact (row3 (E := E) h30 (row1 (E := E) h30 ((hE ⟨7, by decide⟩).of_eq ((cov_at _ _ _ 0 l ⟨7, by decide⟩ l (by simp) (by simp)).trans (by unfold sout0_C_2 kernelRun0_C; dsimp only; frame_out)) ((cov_at _ _ _ 0 l ⟨7, by decide⟩ l (by simp) (by simp)).trans (by unfold sout0_C_3 kernelRun0_C; dsimp only; frame_out)))) ((hE ⟨6, by decide⟩).of_eq ((cov_at _ _ _ 0 l ⟨6, by decide⟩ l (by simp) (by simp)).trans (by unfold sout0_C_2 kernelRun0_C; dsimp only; frame_out)) ((cov_at _ _ _ 0 l ⟨6, by decide⟩ l (by simp) (by simp)).trans (by unfold sout0_C_3 kernelRun0_C; dsimp only; frame_out))) rfl ((hE ⟨5, by decide⟩).of_eq ((cov_at _ _ _ 0 l ⟨5, by decide⟩ l (by simp) (by simp)).trans (by unfold sout0_C_2 kernelRun0_C; dsimp only; frame_out)) ((cov_at _ _ _ 0 l ⟨5, by decide⟩ l (by simp) (by simp)).trans (by unfold sout0_C_3 kernelRun0_C; dsimp only; frame_out))))
  · refine Is.of_eq ?_ ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp))))))) ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp)))))))
    exact (row2 (E := E) h30 (row1 (E := E) h30 ((hE ⟨7, by decide⟩).of_eq ((cov_at _ _ _ 0 l ⟨7, by decide⟩ l (by simp) (by simp)).trans (by unfold sout0_C_2 kernelRun0_C; dsimp only; frame_out)) ((cov_at _ _ _ 0 l ⟨7, by decide⟩ l (by simp) (by simp)).trans (by unfold sout0_C_3 kernelRun0_C; dsimp only; frame_out)))) ((hE ⟨6, by decide⟩).of_eq ((cov_at _ _ _ 0 l ⟨6, by decide⟩ l (by simp) (by simp)).trans (by unfold sout0_C_2 kernelRun0_C; dsimp only; frame_out)) ((cov_at _ _ _ 0 l ⟨6, by decide⟩ l (by simp) (by simp)).trans (by unfold sout0_C_3 kernelRun0_C; dsimp only; frame_out))) rfl)
  · refine Is.of_eq ?_ ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp)))))))) ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp))))))))
    exact (row1 (E := E) h30 ((hE ⟨7, by decide⟩).of_eq ((cov_at _ _ _ 0 l ⟨7, by decide⟩ l (by simp) (by simp)).trans (by unfold sout0_C_2 kernelRun0_C; dsimp only; frame_out)) ((cov_at _ _ _ 0 l ⟨7, by decide⟩ l (by simp) (by simp)).trans (by unfold sout0_C_3 kernelRun0_C; dsimp only; frame_out))))
  · refine Is.of_eq ?_ ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp))))))))) ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans ((canon_out _ _ _ _ l (by simp)).trans (canon_in _ _ _ 0 l _ l (by simp) (by simp)))))))))
    exact row0

end Cert.EndsIdeal.Rows

end
-- ==== Proof.EndsSweep.lean ====
module

public import proofs.«01_k».proof.Proof.EndsOut
public import proofs.«01_k».proof.Proof.Drive

/-!
# What the grid leaves

Eight points sweep the rows of 1024 lanes; the last of them writes the states.
-/

@[expose] public section

set_option maxRecDepth 16384
set_option maxHeartbeats 400000

noncomputable section

namespace Cert.EndsIdeal.Rows

open Idealize.ShloMosaic Idealize.ShloMosaic.TcCoe Idealize.SL.Sem
open Cert.EndsIdeal Cert.EndsIdeal.Gen Cert.Scan
open Cert.EndsIdeal.Value hiding run

attribute [local irreducible] Cert.Scan.run

variable (m : (ℓ : Loc nD τ sig) → Buf (Elt Ideal) ℓ) (c : Dev nD)

/-- The kernel's arguments. -/
abbrev argX : Vec Ideal S4096x1024 .bf16 := m ((c : Thread nD τ).loc main_arg0)
abbrev argW : Vec Ideal S4x256x1024 .bf16 := m ((c : Thread nD τ).loc main_arg1)
abbrev argV : Vec Ideal S4x256x1024 .bf16 := m ((c : Thread nD τ).loc main_arg2)
abbrev argA : Vec Ideal S2x4096 .f32 := m ((c : Thread nD τ).loc main_arg3)

/-- The blocks a grid point reads. -/
theorem windows_at : ∀ t : Fin cfg0.N, win0_0.index t = ![7 - t.val % 8, t.val / 8] ∧ win0_1.index t = ![t.val / 8, 0, 0]
    ∧ win0_2.index t = ![t.val / 8, 0, 0] ∧ win0_3.index t = ![0, t.val / 8] :=
  (by decide +kernel : ∀ t : Fin grid0.N, _)

theorem points_lt (t : Fin cfg0.N) : t.val < 32 := lt_of_lt_of_eq t.isLt N_0

/-- The drive a point computes. -/
theorem drive_re (t : Fin cfg0.N) (r : Fin 512) (l : Fin 1024) (R L : Fin 4096) (hR : R.val = 512 * (7 - t.val % 8) + r.val)
    (hL : L.val = 1024 * (t.val / 8) + l.val) :
    k0_pay51 (F := Ideal) (iblk m c 0 t) (iblk m c 1 t) (ix2 r l) = drive (argX m c) (argW m c) R L := by
  obtain ⟨e0, e1, e2, e3⟩ := windows_at t
  have ht := points_lt t
  pointwise [k0_pay51]
  unfold drive
  refine Finset.sum_congr rfl fun k _ => ?_
  refine congrArg₂ (· * ·) ?_ ?_
  · blk_ext [iblk, V, e0, e1, e2]
  · blk_ext [iblk, V, e0, e1, e2]

theorem drive_im (t : Fin cfg0.N) (r : Fin 512) (l : Fin 1024) (R L : Fin 4096) (hR : R.val = 512 * (7 - t.val % 8) + r.val)
    (hL : L.val = 1024 * (t.val / 8) + l.val) :
    k0_pay52 (F := Ideal) (iblk m c 0 t) (iblk m c 2 t) (ix2 r l) = drive (argX m c) (argV m c) R L := by
  obtain ⟨e0, e1, e2, e3⟩ := windows_at t
  have ht := points_lt t
  pointwise [k0_pay52]
  unfold drive
  refine Finset.sum_congr rfl fun k _ => ?_
  refine congrArg₂ (· * ·) ?_ ?_
  · blk_ext [iblk, V, e0, e1, e2]
  · blk_ext [iblk, V, e0, e1, e2]

theorem factor_at (t : Fin cfg0.N) (p : Fin 2) (l : Fin 1024) (L : Fin 4096) (hL : L.val = 1024 * (t.val / 8) + l.val) :
    iblk m c 3 t (ix2 p l) = argA m c (ix2 p L) := by
  obtain ⟨e0, e1, e2, e3⟩ := windows_at t
  have ht := points_lt t
  blk_ext [iblk, V, e3]

variable {m c}

/-- The drive of the stream's steps. -/
abbrev steps (L : Fin 4096) (s : ℕ) (n : ℕ) : ℂ := push (argX m c) (argW m c) (argV m c) L (8 * (511 - n) + s)

section

variable (hf : Finite (argX m c) (argW m c) (argV m c) (argA m c)) (t : Fin cfg0.N)
  (acc : Vec Ideal S8x1024 .f32 × Vec Ideal S8x1024 .f32 × Vec Ideal S8x1024 .f32 × Vec Ideal S8x1024 .f32)
  (s : Fin 8) (l : Fin 1024) (L : Fin 4096) (hL : L.val = 1024 * (t.val / 8) + l.val)

include hf hL

theorem factor_holds : Is (iblk m c 3 t (ix2 0 l)) (iblk m c 3 t (ix2 1 l)) (factor (argA m c) L) :=
  (factor_is hf L).of_eq (factor_at m c t 0 l L hL) (factor_at m c t 1 l L hL)

theorem drive_holds (r : Fin 512) :
    Is (k0_pay51 (F := Ideal) (iblk m c 0 t) (iblk m c 1 t) (ix2 r l)) (k0_pay52 (F := Ideal) (iblk m c 0 t) (iblk m c 2 t) (ix2 r l))
      (push (argX m c) (argW m c) (argV m c) L (512 * (7 - t.val % 8) + r.val)) := by
  have ht := points_lt t
  exact (push_is hf ⟨512 * (7 - t.val % 8) + r.val, by omega⟩ L).of_eq (drive_re m c t r l _ L rfl hL) (drive_im m c t r l _ L rfl hL)

theorem steps_eq (z : ℂ) :
    run (factor (argA m c) L) (fun n => push (argX m c) (argW m c) (argV m c) L (512 * (7 - t.val % 8) + (8 * (63 - n) + s.val))) z 64
      = run (factor (argA m c) L) (fun n => steps (m := m) (c := c) L s.val (64 * (t.val % 8) + n)) z 64 := by
  have ht := points_lt t
  refine run_congr _ _ 64 fun n hn => ?_
  exact congrArg (push (argX m c) (argW m c) (argV m c) L) (by omega)

end

end Cert.EndsIdeal.Rows

end
-- ==== Proof.EndsSweepPoints.lean ====
module

public import proofs.«01_k».proof.Proof.EndsSweep
public import proofs.«01_k».proof.Proof.Drive

/-!
# A grid point takes the states on
-/

@[expose] public section

set_option maxRecDepth 16384
set_option maxHeartbeats 400000

noncomputable section

namespace Cert.EndsIdeal.Rows

open Idealize.ShloMosaic Idealize.ShloMosaic.TcCoe Idealize.SL.Sem
open Cert.EndsIdeal Cert.EndsIdeal.Gen Cert.Scan
open Cert.EndsIdeal.Value hiding run

attribute [local irreducible] Cert.Scan.run

variable (m : (ℓ : Loc nD τ sig) → Buf (Elt Ideal) ℓ) (c : Dev nD)

variable {m c}

section

variable (hf : Finite (argX m c) (argW m c) (argV m c) (argA m c)) (t : Fin cfg0.N)
  (acc : Vec Ideal S8x1024 .f32 × Vec Ideal S8x1024 .f32 × Vec Ideal S8x1024 .f32 × Vec Ideal S8x1024 .f32)
  (s : Fin 8) (l : Fin 1024) (L : Fin 4096) (hL : L.val = 1024 * (t.val / 8) + l.val)

include hf hL

/-- The first point of a sweep. -/
theorem first_point (h : t.val % 8 = 0) :
    Is ((stAt0 m c t.val t.isLt acc).2.2.1 (ix2 s l)) ((stAt0 m c t.val t.isLt acc).2.2.2 (ix2 s l))
      (run (factor (argA m c) L) (steps (m := m) (c := c) L s.val) 0 64) := by
  rw [stAt0_A m c t acc h (by omega)]
  dsimp only
  have e : run (factor (argA m c) L) (fun n => steps (m := m) (c := c) L s.val (64 * (t.val % 8) + n)) 0 64
      = run (factor (argA m c) L) (steps (m := m) (c := c) L s.val) 0 64 := by
    rw [h]
    simp only [Nat.mul_zero, Nat.zero_add]
  have p := point_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
    ((hcond0_0 t).mpr h) (fun h' => by have := (hcond0_1 t).mp h'; omega) (iblk m c 0 t) (iblk m c 1 t) (iblk m c 2 t) (iblk m c 3 t) s l _ (fun k => push (argX m c) (argW m c) (argV m c) L (512 * (7 - t.val % 8) + k))
    (factor_holds hf t l L hL) (drive_holds hf t l L hL)
  have q := (p.to (steps_eq hf t s l L hL 0)).to e
  exact q

/-- A later point. -/
theorem later_point (h : ¬t.val % 8 = 0) {z : ℂ} (hz : Is (acc.2.2.1 (ix2 s l)) (acc.2.2.2 (ix2 s l)) z) :
    Is ((stAt0 m c t.val t.isLt acc).2.2.1 (ix2 s l)) ((stAt0 m c t.val t.isLt acc).2.2.2 (ix2 s l))
      (run (factor (argA m c) L) (fun n => steps (m := m) (c := c) L s.val (64 * (t.val % 8) + n)) z 64) := by
  by_cases h7 : t.val % 8 = 7
  · rw [stAt0_C m c t acc h h7]
    dsimp only
    have p := point_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (fun h' => h ((hcond0_0 t).mp h')) ((hcond0_1 t).mpr h7) (iblk m c 0 t) (iblk m c 1 t) (iblk m c 2 t) (iblk m c 3 t) s l _ (fun k => push (argX m c) (argW m c) (argV m c) L (512 * (7 - t.val % 8) + k)) acc.2.2.1 acc.2.2.2 z hz
      (factor_holds hf t l L hL) (drive_holds hf t l L hL)
    exact p.to (steps_eq hf t s l L hL z)
  · rw [stAt0_B m c t acc h h7]
    dsimp only
    have p := point_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (fun h' => h ((hcond0_0 t).mp h')) (fun h' => h7 ((hcond0_1 t).mp h')) (iblk m c 0 t) (iblk m c 1 t) (iblk m c 2 t) (iblk m c 3 t) s l _ (fun k => push (argX m c) (argW m c) (argV m c) L (512 * (7 - t.val % 8) + k)) acc.2.2.1 acc.2.2.2 z hz
      (factor_holds hf t l L hL) (drive_holds hf t l L hL)
    exact p.to (steps_eq hf t s l L hL z)

end

end Cert.EndsIdeal.Rows

end
-- ==== Proof.EndsSweepEnd.lean ====
module

public import proofs.«01_k».proof.Proof.EndsSweepPoints
public import proofs.«01_k».proof.Proof.Drive

/-!
# What the last point of a sweep writes
-/

@[expose] public section

set_option maxRecDepth 16384
set_option maxHeartbeats 400000

noncomputable section

namespace Cert.EndsIdeal.Rows

open Idealize.ShloMosaic Idealize.ShloMosaic.TcCoe Idealize.SL.Sem
open Cert.EndsIdeal Cert.EndsIdeal.Gen Cert.Scan
open Cert.EndsIdeal.Value hiding run

attribute [local irreducible] Cert.Scan.run

variable (m : (ℓ : Loc nD τ sig) → Buf (Elt Ideal) ℓ) (c : Dev nD)

variable {m c}

/-- The states after each point. -/
theorem states_at (hf : Finite (argX m c) (argW m c) (argV m c) (argA m c)) (s : Fin 8) (l : Fin 1024) (L : Fin 4096) :
    ∀ (n : ℕ) (hn : n < cfg0.N), L.val = 1024 * (n / 8) + l.val →
      Is ((outsAt0 m c n hn).2.2.1 (ix2 s l)) ((outsAt0 m c n hn).2.2.2 (ix2 s l))
        (run (factor (argA m c) L) (steps (m := m) (c := c) L s.val) 0 (64 * (n % 8 + 1)))
  | 0, hn, hL => by
    rw [outsAt0_zero]
    rw [show 64 * (0 % 8 + 1) = 64 from rfl]
    exact first_point hf ⟨0, hn⟩ _ s l L hL rfl
  | n + 1, hn, hL => by
    rw [outsAt0_succ]
    by_cases h : (n + 1) % 8 = 0
    · rw [h, show 64 * (0 + 1) = 64 from rfl]
      exact first_point hf ⟨n + 1, hn⟩ _ s l L hL h
    · have e1 : (n + 1) / 8 = n / 8 := by omega
      have e2 : (n + 1) % 8 = n % 8 + 1 := by omega
      have ih := states_at hf s l L n (Nat.lt_of_succ_lt hn) (by rw [← e1]; exact hL)
      have p := later_point hf ⟨n + 1, hn⟩ _ s l L hL h ih
      dsimp only at p
      rw [e2] at p ⊢
      rw [show 64 * (n % 8 + 1 + 1) = 64 * (n % 8 + 1) + 64 by ring, run_add]
      exact p

/-- The drive in the order of the recurrence. -/
abbrev timed (L : Fin 4096) (n : ℕ) : ℂ := push (argX m c) (argW m c) (argV m c) L (8 * (511 - n % 512) + (7 - n / 512))

/-- What the last point of a sweep writes. -/
theorem written (hf : Finite (argX m c) (argW m c) (argV m c) (argA m c)) (s : Fin 8) (l : Fin 1024) (L : Fin 4096)
    (n : ℕ) (hn : n + 1 < cfg0.N) (hL : L.val = 1024 * ((n + 1) / 8) + l.val) (h7 : (n + 1) % 8 = 7) :
    Is ((outsAt0 m c (n + 1) hn).1 (ix2 s l)) ((outsAt0 m c (n + 1) hn).2.1 (ix2 s l))
      (run (factor (argA m c) L) (timed (m := m) (c := c) L) 0 (512 * (7 - s.val))) := by
  have hE : ∀ s : Fin 8, Is ((stAt0 m c (n + 1) hn (outsAt0 m c n (Nat.lt_of_succ_lt hn))).2.2.1 (ix2 s l))
      ((stAt0 m c (n + 1) hn (outsAt0 m c n (Nat.lt_of_succ_lt hn))).2.2.2 (ix2 s l))
      (run (factor (argA m c) L) (fun i => timed (m := m) (c := c) L (512 * (7 - s.val) + i)) 0 512) := fun s => by
    have hs := s.isLt
    have e := states_at hf s l L (n + 1) hn hL
    rw [h7, outsAt0_succ, show 64 * (7 + 1) = 512 from rfl] at e
    refine e.to (run_congr _ _ 512 fun i hi => ?_)
    exact congrArg (push (argX m c) (argW m c) (argV m c) L) (by omega)
  rw [outsAt0_succ]
  rw [← run_chain]
  have h0 : ¬(n + 1) % 8 = 0 := by omega
  rw [stAt0_C m c ⟨n + 1, hn⟩ _ h0 h7] at hE ⊢
  dsimp only at hE ⊢
  exact out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _)
    (fun h' => h0 ((hcond0_0 ⟨n + 1, hn⟩).mp h')) ((hcond0_1 ⟨n + 1, hn⟩).mpr h7) (iblk m c 0 ⟨n + 1, hn⟩) (iblk m c 1 ⟨n + 1, hn⟩) (iblk m c 2 ⟨n + 1, hn⟩) (iblk m c 3 ⟨n + 1, hn⟩)
    (outsAt0 m c n (Nat.lt_of_succ_lt hn)).2.2.1 (outsAt0 m c n (Nat.lt_of_succ_lt hn)).2.2.2 l (factor (argA m c) L) (fun j => run (factor (argA m c) L) (fun i => timed (m := m) (c := c) L (512 * j + i)) 0 512)
    (factor_holds hf ⟨n + 1, hn⟩ l L hL) hE s

theorem outs_congr (m : (ℓ : Loc nD τ sig) → Buf (Elt Ideal) ℓ) (c : Dev nD) {p q : ℕ} (h : p = q) (hp : p < cfg0.N) (hq : q < cfg0.N) :
    outsAt0 m c p hp = outsAt0 m c q hq := by
  subst h
  rfl

/-- The arrays the kernel leaves. -/
theorem arrays (hf : Finite (argX m c) (argW m c) (argV m c) (argA m c)) (s : Fin 8) (L : Fin 4096) :
    Is (G4 m c (ix2 s L)) (G5 m c (ix2 s L)) (run (factor (argA m c) L) (timed (m := m) (c := c) L) 0 (512 * (7 - s.val))) := by
  have hs := s.isLt
  have hl := L.isLt
  have er : 8 * (4 * (s.val / 8 - 0) + 1 * (L.val / 1024 - 0)) + 7 = (8 * (L.val / 1024) + 6) + 1 := by omega
  have hN : (8 * (L.val / 1024) + 6) + 1 < cfg0.N := by rw [show cfg0.N = 32 from N_0]; omega
  have e := written hf s ⟨L.val % 1024, by omega⟩ L (8 * (L.val / 1024) + 6) hN (by dsimp only; omega) (by omega)
  have loc : ∀ q : S8x1024.Idx, q = loc4Of (ix2 s L) → q = ix2 s ⟨L.val % 1024, by omega⟩ := by
    rintro q rfl
    funext a
    refine Fin.ext ?_
    match a with
    | ⟨0, _⟩ => show s.val % 8 = s.val; omega
    | ⟨1, _⟩ => rfl
  refine e.of_eq ?_ ?_
  · unfold G4
    have hp : pt4Of (ix2 s L) < cfg0.N := lt_of_eq_of_lt er hN
    rw [dif_pos hp, loc _ rfl, ← outsAt0_sweep m c _ hp]
    exact congrArg (fun o : Vec Ideal S8x1024 .f32 × Vec Ideal S8x1024 .f32 × Vec Ideal S8x1024 .f32 × Vec Ideal S8x1024 .f32 => o.1 (ix2 s ⟨L.val % 1024, by omega⟩))
      (outs_congr m c er _ _)
  · unfold G5
    have hp : pt5Of (ix2 s L) < cfg0.N := lt_of_eq_of_lt er hN
    rw [dif_pos hp, loc (loc5Of (ix2 s L)) rfl, ← outsAt0_sweep m c _ hp]
    exact congrArg (fun o : Vec Ideal S8x1024 .f32 × Vec Ideal S8x1024 .f32 × Vec Ideal S8x1024 .f32 × Vec Ideal S8x1024 .f32 => o.2.1 (ix2 s ⟨L.val % 1024, by omega⟩))
      (outs_congr m c er _ _)

end Cert.EndsIdeal.Rows

end
-- ==== Proof.EndsWalk.lean ====
module

public import proofs.«01_k».proof.Proof.Gen.EndsRefIdeal.Run
public import proofs.«01_k».proof.Proof.Gen.EndsRefIdeal.Step

/-!
# The reference's run

Every value a trip of the loop computes is the one `Step` names, so the run ends in the last iterate of `step`.
-/

@[expose] public section

noncomputable section

namespace Cert.EndsRefIdeal.Walk

open Idealize.ShloMosaic Idealize.ShloMosaic.TcCoe Idealize.SL.Sem Idealize.ShloMosaic.StableHlo
open Cert.EndsRefIdeal Cert.EndsRefIdeal.Gen Cert.EndsRefIdeal.Value
open Cert.EndsRefIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v65_5) = s.main_v65_5
  f_6 : V0 (Proc.devRef .tc main_v65_6) = s.main_v65_6
  f_7 : V0 (Proc.devRef .tc main_v65_7) = s.main_v65_7
  f_8 : V0 (Proc.devRef .tc main_v65_8) = s.main_v65_8
  f_0 : V0 (Proc.devRef .tc main_v65_0) = s.main_v65_0
  f_1 : V0 (Proc.devRef .tc main_v65_1) = s.main_v65_1
  f_2 : V0 (Proc.devRef .tc main_v65_2) = s.main_v65_2
  f_3 : V0 (Proc.devRef .tc main_v65_3) = s.main_v65_3
  n_4 : V0 (Proc.devRef .tc main_v65_4) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.EndsRefIdeal.Step.b0 j s := by
  unfold Cert.EndsRefIdeal.Step.b0
  rfl
set_option maxRecDepth 8192 in
theorem al_1 (h : Holds V0 s j) : (Host.dynamicSlice S1x4096 (V0 (Proc.devRef .tc main_v65_0)) (fun k => (((![V0 (Proc.devRef .tc main_v65_4), constantI S_ 32 0#32] : Fin 2 → (⟨S_, .i32⟩ : BufTy).Contents (Elt F))) k (Shape.Idx.first h_S_)).toInt) sliceFits_S4096x4096_S1x4096 : (Proc.devRef .tc main_while0b_call0_v0 : DevRef τ sig).ty.Contents (Elt F)) = Cert.EndsRefIdeal.Step.b1 j s := by
  unfold Cert.EndsRefIdeal.Step.b1
  rw [← al_0 h, h.f_0, h.n_4]
  try rfl
set_option maxRecDepth 8192 in
theorem al_2 (h : Holds V0 s j) : (shapeCast S4096 (Host.dynamicSlice S1x4096 (V0 (Proc.devRef .tc main_v65_0)) (fun k => (((![V0 (Proc.devRef .tc main_v65_4), constantI S_ 32 0#32] : Fin 2 → (⟨S_, .i32⟩ : BufTy).Contents (Elt F))) k (Shape.Idx.first h_S_)).toInt) sliceFits_S4096x4096_S1x4096) shapeCasts_S1x4096_S4096 : (Proc.devRef .tc main_while0b_v70 : DevRef τ sig).ty.Contents (Elt F)) = Cert.EndsRefIdeal.Step.b2 j s := by
  unfold Cert.EndsRefIdeal.Step.b2
  rw [← al_1 h]
  try rfl
set_option maxRecDepth 8192 in
theorem al_3 (h : Holds V0 s j) : (constantI S_ 32 0#32 : (Proc.devRef .tc main_while0b_call1_c : DevRef τ sig).ty.Contents (Elt F)) = Cert.EndsRefIdeal.Step.b3 j s := by
  unfold Cert.EndsRefIdeal.Step.b3
  rfl
set_option maxRecDepth 8192 in
theorem al_4 (h : Holds V0 s j) : (Host.dynamicSlice S1x4096 (V0 (Proc.devRef .tc main_v65_1)) (fun k => (((![V0 (Proc.devRef .tc main_v65_4), constantI S_ 32 0#32] : Fin 2 → (⟨S_, .i32⟩ : BufTy).Contents (Elt F))) k (Shape.Idx.first h_S_)).toInt) sliceFits_S4096x4096_S1x4096 : (Proc.devRef .tc main_while0b_call1_v0 : DevRef τ sig).ty.Contents (Elt F)) = Cert.EndsRefIdeal.Step.b4 j s := by
  unfold Cert.EndsRefIdeal.Step.b4
  rw [← al_3 h, h.f_1, h.n_4]
  try rfl
set_option maxRecDepth 8192 in
theorem al_5 (h : Holds V0 s j) : (shapeCast S4096 (Host.dynamicSlice S1x4096 (V0 (Proc.devRef .tc main_v65_1)) (fun k => (((![V0 (Proc.devRef .tc main_v65_4), constantI S_ 32 0#32] : Fin 2 → (⟨S_, .i32⟩ : BufTy).Contents (Elt F))) k (Shape.Idx.first h_S_)).toInt) sliceFits_S4096x4096_S1x4096) shapeCasts_S1x4096_S4096 : (Proc.devRef .tc main_while0b_v71 : DevRef τ sig).ty.Contents (Elt F)) = Cert.EndsRefIdeal.Step.b5 j s := by
  unfold Cert.EndsRefIdeal.Step.b5
  rw [← al_4 h]
  try rfl
set_option maxRecDepth 8192 in
theorem al_6 (h : Holds V0 s j) : (mulf (V0 (Proc.devRef .tc main_v65_2)) (V0 (Proc.devRef .tc main_v65_5)) : (Proc.devRef .tc main_while0b_v72 : DevRef τ sig).ty.Contents (Elt F)) = Cert.EndsRefIdeal.Step.b6 j s := by
  unfold Cert.EndsRefIdeal.Step.b6
  rw [h.f_2, h.f_5]
  try rfl
set_option maxRecDepth 8192 in
theorem al_7 (h : Holds V0 s j) : (mulf (V0 (Proc.devRef .tc main_v65_3)) (V0 (Proc.devRef .tc main_v65_6)) : (Proc.devRef .tc main_while0b_v73 : DevRef τ sig).ty.Contents (Elt F)) = Cert.EndsRefIdeal.Step.b7 j s := by
  unfold Cert.EndsRefIdeal.Step.b7
  rw [h.f_3, h.f_6]
  try rfl
set_option maxRecDepth 8192 in
theorem al_8 (h : Holds V0 s j) : (subf (mulf (V0 (Proc.devRef .tc main_v65_2)) (V0 (Proc.devRef .tc main_v65_5))) (mulf (V0 (Proc.devRef .tc main_v65_3)) (V0 (Proc.devRef .tc main_v65_6))) : (Proc.devRef .tc main_while0b_v74 : DevRef τ sig).ty.Contents (Elt F)) = Cert.EndsRefIdeal.Step.b8 j s := by
  unfold Cert.EndsRefIdeal.Step.b8
  rw [← al_6 h, ← al_7 h]
  try rfl
set_option maxRecDepth 8192 in
theorem al_9 (h : Holds V0 s j) : (addf (subf (mulf (V0 (Proc.devRef .tc main_v65_2)) (V0 (Proc.devRef .tc main_v65_5))) (mulf (V0 (Proc.devRef .tc main_v65_3)) (V0 (Proc.devRef .tc main_v65_6)))) (shapeCast S4096 (Host.dynamicSlice S1x4096 (V0 (Proc.devRef .tc main_v65_0)) (fun k => (((![V0 (Proc.devRef .tc main_v65_4), constantI S_ 32 0#32] : Fin 2 → (⟨S_, .i32⟩ : BufTy).Contents (Elt F))) k (Shape.Idx.first h_S_)).toInt) sliceFits_S4096x4096_S1x4096) shapeCasts_S1x4096_S4096) : (Proc.devRef .tc main_while0b_v75 : DevRef τ sig).ty.Contents (Elt F)) = Cert.EndsRefIdeal.Step.b9 j s := by
  unfold Cert.EndsRefIdeal.Step.b9
  rw [← al_8 h, ← al_2 h]
  try rfl
set_option maxRecDepth 8192 in
theorem al_10 (h : Holds V0 s j) : (mulf (V0 (Proc.devRef .tc main_v65_2)) (V0 (Proc.devRef .tc main_v65_6)) : (Proc.devRef .tc main_while0b_v76 : DevRef τ sig).ty.Contents (Elt F)) = Cert.EndsRefIdeal.Step.b10 j s := by
  unfold Cert.EndsRefIdeal.Step.b10
  rw [h.f_2, h.f_6]
  try rfl
set_option maxRecDepth 8192 in
theorem al_11 (h : Holds V0 s j) : (mulf (V0 (Proc.devRef .tc main_v65_3)) (V0 (Proc.devRef .tc main_v65_5)) : (Proc.devRef .tc main_while0b_v77 : DevRef τ sig).ty.Contents (Elt F)) = Cert.EndsRefIdeal.Step.b11 j s := by
  unfold Cert.EndsRefIdeal.Step.b11
  rw [h.f_3, h.f_5]
  try rfl
set_option maxRecDepth 8192 in
theorem al_12 (h : Holds V0 s j) : (addf (mulf (V0 (Proc.devRef .tc main_v65_2)) (V0 (Proc.devRef .tc main_v65_6))) (mulf (V0 (Proc.devRef .tc main_v65_3)) (V0 (Proc.devRef .tc main_v65_5))) : (Proc.devRef .tc main_while0b_v78 : DevRef τ sig).ty.Contents (Elt F)) = Cert.EndsRefIdeal.Step.b12 j s := by
  unfold Cert.EndsRefIdeal.Step.b12
  rw [← al_10 h, ← al_11 h]
  try rfl
set_option maxRecDepth 8192 in
theorem al_13 (h : Holds V0 s j) : (addf (addf (mulf (V0 (Proc.devRef .tc main_v65_2)) (V0 (Proc.devRef .tc main_v65_6))) (mulf (V0 (Proc.devRef .tc main_v65_3)) (V0 (Proc.devRef .tc main_v65_5)))) (shapeCast S4096 (Host.dynamicSlice S1x4096 (V0 (Proc.devRef .tc main_v65_1)) (fun k => (((![V0 (Proc.devRef .tc main_v65_4), constantI S_ 32 0#32] : Fin 2 → (⟨S_, .i32⟩ : BufTy).Contents (Elt F))) k (Shape.Idx.first h_S_)).toInt) sliceFits_S4096x4096_S1x4096) shapeCasts_S1x4096_S4096) : (Proc.devRef .tc main_while0b_v79 : DevRef τ sig).ty.Contents (Elt F)) = Cert.EndsRefIdeal.Step.b13 j s := by
  unfold Cert.EndsRefIdeal.Step.b13
  rw [← al_12 h, ← al_5 h]
  try rfl
set_option maxRecDepth 8192 in
theorem al_14 (h : Holds V0 s j) : (broadcastInDim S1x4096 ![1] bcast_S4096_S1x4096_1 (V0 (Proc.devRef .tc main_v65_5)) : (Proc.devRef .tc main_while0b_call2_v0 : DevRef τ sig).ty.Contents (Elt F)) = Cert.EndsRefIdeal.Step.b14 j s := by
  unfold Cert.EndsRefIdeal.Step.b14
  rw [h.f_5]
  try rfl
set_option maxRecDepth 8192 in
theorem al_15 (h : Holds V0 s j) : (constantI S_ 32 0#32 : (Proc.devRef .tc main_while0b_call2_c : DevRef τ sig).ty.Contents (Elt F)) = Cert.EndsRefIdeal.Step.b15 j s := by
  unfold Cert.EndsRefIdeal.Step.b15
  rfl
set_option maxRecDepth 8192 in
theorem al_16 (h : Holds V0 s j) : (Host.dynamicUpdateSlice (V0 (Proc.devRef .tc main_v65_7)) (broadcastInDim S1x4096 ![1] bcast_S4096_S1x4096_1 (V0 (Proc.devRef .tc main_v65_5))) (fun k => (((![V0 (Proc.devRef .tc main_v65_4), constantI S_ 32 0#32] : Fin 2 → (⟨S_, .i32⟩ : BufTy).Contents (Elt F))) k (Shape.Idx.first h_S_)).toInt) updateFits_S4096x4096_S1x4096 : (Proc.devRef .tc main_while0b_v80 : DevRef τ sig).ty.Contents (Elt F)) = Cert.EndsRefIdeal.Step.b16 j s := by
  unfold Cert.EndsRefIdeal.Step.b16
  rw [← al_14 h, ← al_15 h, h.f_7, h.n_4]
  try rfl
set_option maxRecDepth 8192 in
theorem al_17 (h : Holds V0 s j) : (broadcastInDim S1x4096 ![1] bcast_S4096_S1x4096_1 (V0 (Proc.devRef .tc main_v65_6)) : (Proc.devRef .tc main_while0b_call3_v0 : DevRef τ sig).ty.Contents (Elt F)) = Cert.EndsRefIdeal.Step.b17 j s := by
  unfold Cert.EndsRefIdeal.Step.b17
  rw [h.f_6]
  try rfl
set_option maxRecDepth 8192 in
theorem al_18 (h : Holds V0 s j) : (constantI S_ 32 0#32 : (Proc.devRef .tc main_while0b_call3_c : DevRef τ sig).ty.Contents (Elt F)) = Cert.EndsRefIdeal.Step.b18 j s := by
  unfold Cert.EndsRefIdeal.Step.b18
  rfl
set_option maxRecDepth 8192 in
theorem al_19 (h : Holds V0 s j) : (Host.dynamicUpdateSlice (V0 (Proc.devRef .tc main_v65_8)) (broadcastInDim S1x4096 ![1] bcast_S4096_S1x4096_1 (V0 (Proc.devRef .tc main_v65_6))) (fun k => (((![V0 (Proc.devRef .tc main_v65_4), constantI S_ 32 0#32] : Fin 2 → (⟨S_, .i32⟩ : BufTy).Contents (Elt F))) k (Shape.Idx.first h_S_)).toInt) updateFits_S4096x4096_S1x4096 : (Proc.devRef .tc main_while0b_v81 : DevRef τ sig).ty.Contents (Elt F)) = Cert.EndsRefIdeal.Step.b19 j s := by
  unfold Cert.EndsRefIdeal.Step.b19
  rw [← al_17 h, ← al_18 h, h.f_8, h.n_4]
  try rfl

/-! One trip's step of the carried values is `step`, field by field; a counter steps to the next number. -/

theorem step_5 (h : Holds V0 s j) : step_main_v65_5 V0 = (step j s).main_v65_5 := by
  unfold step_main_v65_5 Cert.EndsRefIdeal.Step.step
  show id (addf (subf (mulf (V0 (Proc.devRef .tc main_v65_2)) (V0 (Proc.devRef .tc main_v65_5))) (mulf (V0 (Proc.devRef .tc main_v65_3)) (V0 (Proc.devRef .tc main_v65_6)))) (shapeCast S4096 (Host.dynamicSlice S1x4096 (V0 (Proc.devRef .tc main_v65_0)) (fun k => (((![V0 (Proc.devRef .tc main_v65_4), constantI S_ 32 0#32] : Fin 2 → (⟨S_, .i32⟩ : BufTy).Contents (Elt F))) k (Shape.Idx.first h_S_)).toInt) sliceFits_S4096x4096_S1x4096) shapeCasts_S1x4096_S4096)) = _
  rw [al_9 h]
  try rfl
theorem step_6 (h : Holds V0 s j) : step_main_v65_6 V0 = (step j s).main_v65_6 := by
  unfold step_main_v65_6 Cert.EndsRefIdeal.Step.step
  show id (addf (addf (mulf (V0 (Proc.devRef .tc main_v65_2)) (V0 (Proc.devRef .tc main_v65_6))) (mulf (V0 (Proc.devRef .tc main_v65_3)) (V0 (Proc.devRef .tc main_v65_5)))) (shapeCast S4096 (Host.dynamicSlice S1x4096 (V0 (Proc.devRef .tc main_v65_1)) (fun k => (((![V0 (Proc.devRef .tc main_v65_4), constantI S_ 32 0#32] : Fin 2 → (⟨S_, .i32⟩ : BufTy).Contents (Elt F))) k (Shape.Idx.first h_S_)).toInt) sliceFits_S4096x4096_S1x4096) shapeCasts_S1x4096_S4096)) = _
  rw [al_13 h]
  try rfl
theorem step_7 (h : Holds V0 s j) : step_main_v65_7 V0 = (step j s).main_v65_7 := by
  unfold step_main_v65_7 Cert.EndsRefIdeal.Step.step
  show id (Host.dynamicUpdateSlice (V0 (Proc.devRef .tc main_v65_7)) (broadcastInDim S1x4096 ![1] bcast_S4096_S1x4096_1 (V0 (Proc.devRef .tc main_v65_5))) (fun k => (((![V0 (Proc.devRef .tc main_v65_4), constantI S_ 32 0#32] : Fin 2 → (⟨S_, .i32⟩ : BufTy).Contents (Elt F))) k (Shape.Idx.first h_S_)).toInt) updateFits_S4096x4096_S1x4096) = _
  exact al_16 h
theorem step_8 (h : Holds V0 s j) : step_main_v65_8 V0 = (step j s).main_v65_8 := by
  unfold step_main_v65_8 Cert.EndsRefIdeal.Step.step
  show id (Host.dynamicUpdateSlice (V0 (Proc.devRef .tc main_v65_8)) (broadcastInDim S1x4096 ![1] bcast_S4096_S1x4096_1 (V0 (Proc.devRef .tc main_v65_6))) (fun k => (((![V0 (Proc.devRef .tc main_v65_4), constantI S_ 32 0#32] : Fin 2 → (⟨S_, .i32⟩ : BufTy).Contents (Elt F))) k (Shape.Idx.first h_S_)).toInt) updateFits_S4096x4096_S1x4096) = _
  exact al_19 h
theorem step_4 (h : Holds V0 s j) : step_main_v65_4 V0 = constantI S_ 32 (BitVec.ofNat 32 (j + 1)) := by
  unfold step_main_v65_4
  rw [h.n_4]
  funext i
  show BitVec.ofNat 32 j + 1#32 = BitVec.ofNat 32 (j + 1)
  simp only [BitVec.ofNat_add]

set_option maxRecDepth 8192 in
theorem out_main_v67_holds (h : Holds V0 s j) : out_main_v67 V0 = Cert.EndsRefIdeal.Step.R_main_v67 s := by
  unfold out_main_v67 Cert.EndsRefIdeal.Step.R_main_v67
  rw [h.f_7]
  try rfl

set_option maxRecDepth 8192 in
theorem out_main_v69_holds (h : Holds V0 s j) : out_main_v69 V0 = Cert.EndsRefIdeal.Step.R_main_v69 s := by
  unfold out_main_v69 Cert.EndsRefIdeal.Step.R_main_v69
  rw [h.f_8]
  try rfl

/-- One trip keeps the valuation holding: `step` of the state, the same set-up values, the next number. -/
theorem holds_step (h : Holds V0 s j) : Holds (STEP V0) (step j s) (j + 1) where
  f_5 := (STEP_main_v65_5 V0).trans (step_5 h)
  f_6 := (STEP_main_v65_6 V0).trans (step_6 h)
  f_7 := (STEP_main_v65_7 V0).trans (step_7 h)
  f_8 := (STEP_main_v65_8 V0).trans (step_8 h)
  n_4 := (STEP_main_v65_4 V0).trans (step_4 h)
  f_0 := (STEP_main_v65_0 V0).trans h.f_0
  f_1 := (STEP_main_v65_1 V0).trans h.f_1
  f_2 := (STEP_main_v65_2 V0).trans h.f_2
  f_3 := (STEP_main_v65_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 4000000 in
/-- What @main's operations before the loop leave: the set-up values, number 0, the initial state. -/
theorem entry_holds : Holds (entryContents preI m c) (initState m c) 0 := by
  constructor
  all_goals (simp only [entryContents, afterL_cons, afterL_nil]; after_reads_simp)
  case f_5 => rfl
  case f_6 => rfl
  case f_7 => rfl
  case f_8 => rfl
  case f_2 => rfl
  case f_3 => rfl
  case n_4 => rfl
  case f_0 => rfl
  case f_1 => rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `EndsRefIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v67) = Cert.EndsRefIdeal.Step.R_main_v67 (it c 4096)
      ∧ r.2.mem ((c.tc : Thread nD τ).loc main_v69) = Cert.EndsRefIdeal.Step.R_main_v69 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 4096
    ⟨(h c).1.trans (out_main_v67_holds hk), (h c).2.1.trans (out_main_v69_holds hk), (h c).2.2.1, (h c).2.2.2.1, (h c).2.2.2.2.1, (h c).2.2.2.2.2⟩) (Value.run m ρ)

end Cert.EndsRefIdeal.Walk

end
-- ==== Proof.EndsLoop.lean ====
module

public import proofs.«01_k».proof.Proof.Gen.EndsRefIdeal.Step
public import proofs.«01_k».proof.Proof.Drive

/-!
# What the reference's loop holds

After `n` steps the state is the recurrence's `n`-th, and of the noted rows those below `n` hold the states before them.
-/

@[expose] public section

set_option maxRecDepth 16384
set_option maxHeartbeats 1000000

noncomputable section

namespace Cert.EndsRefIdeal.Loop

open Idealize.ShloMosaic
open Cert.EndsRefIdeal Cert.EndsRefIdeal.Gen Cert.EndsRefIdeal.Step Cert.Scan

attribute [local irreducible] Cert.Scan.run

theorem word_nat (j : ℕ) (hj : j < 4096) : (BitVec.ofNat 32 j).toInt = (j : ℤ) := by
  rw [BitVec.toInt_eq_toNat_of_lt (by rw [BitVec.toNat_ofNat]; omega), BitVec.toNat_ofNat]
  omega

/-- The row a step reads. -/
theorem read_row (x : S4096x4096.Idx → EReal) (st : Fin 2 → ℤ) (h : S4096x4096.Slices (fun _ => 0) S1x4096) (j : ℕ) (hj : j < 4096)
    (e0 : st 0 = (j : ℤ)) (e1 : st 1 = 0) (L : Fin 4096) : Host.dynamicSlice S1x4096 x st h (ix2 0 L) = x (ix2 ⟨j, hj⟩ L) := by
  rw [Host.dynamicSlice_apply]
  refine congrArg x (funext fun a => Fin.ext ?_)
  match a with
  | ⟨0, _⟩ =>
    show (min (max (st 0) 0) ((4096 - 1 : ℕ) : ℤ)).toNat + 0 = j
    rw [e0]; omega
  | ⟨1, _⟩ =>
    show (min (max (st 1) 0) ((4096 - 4096 : ℕ) : ℤ)).toNat + L.val = L.val
    rw [e1]; omega

/-- The row a step writes. -/
theorem write_row (x : S4096x4096.Idx → EReal) (u : S1x4096.Idx → EReal) (st : Fin 2 → ℤ) (h : S4096x4096.Slices (fun _ => 0) S1x4096) (j : ℕ)
    (hj : j < 4096) (e0 : st 0 = (j : ℤ)) (e1 : st 1 = 0) (r L : Fin 4096) :
    Host.dynamicUpdateSlice x u st h (ix2 r L) = if r.val = j then u (ix2 0 L) else x (ix2 r L) := by
  have hk : S4096x4096.Slices ![j, 0] S1x4096 := ⟨h.1, fun a => by
    match a with
    | ⟨0, _⟩ => show j + 1 ≤ 4096; omega
    | ⟨1, _⟩ => show 0 + 4096 ≤ 4096; omega⟩
  rw [Host.dynamicUpdateSlice_eq_updateSlice x u st h ![j, 0] (fun a => by
    match a with
    | ⟨0, _⟩ =>
      show (min (max (st 0) 0) ((4096 - 1 : ℕ) : ℤ)).toNat = j
      rw [e0]; omega
    | ⟨1, _⟩ =>
      show (min (max (st 1) 0) ((4096 - 4096 : ℕ) : ℤ)).toNat = 0
      rw [e1]; omega) hk]
  unfold updateSlice
  by_cases hr : r.val = j
  · rw [if_pos hr, dif_pos (by
      intro a
      match a with
      | ⟨0, _⟩ => show j ≤ r.val ∧ r.val < j + 1; omega
      | ⟨1, _⟩ => show 0 ≤ L.val ∧ L.val < 0 + 4096; omega)]
    refine congrArg u (funext fun a => Fin.ext ?_)
    match a with
    | ⟨0, _⟩ => show r.val - j = 0; omega
    | ⟨1, _⟩ => rfl
  · rw [if_neg hr, dif_neg (by
      intro hin
      have := hin ⟨0, by decide⟩
      change j ≤ r.val ∧ r.val < j + 1 at this
      omega)]

section

variable (x : Vec Ideal S4096x1024 .bf16) (w v : Vec Ideal S4x256x1024 .bf16) (a : Vec Ideal S2x4096 .f32)

theorem part_re0 (r : Fin 4096) (l : Fin 1024) (L : Fin 4096) (hL : L.val = 0 + l.val) :
    A_main_v5 (F := Ideal) x w v a (ix2 r l) = drive x w r L := by
  have hq : L.val / 1024 = 0 := by omega
  have hl : L.val % 1024 = l.val := by omega
  pointwise [A_main_v5, A_main_v4, A_main_v3, A_main_v2, A_main_v1, A_main_v0]
  unfold drive
  refine Finset.sum_congr rfl fun k _ => ?_
  refine congrArg₂ (· * ·) (congrArg x ?_) (congrArg w ?_)
  · refine funext fun b => Fin.ext ?_
    match b with
    | ⟨0, _⟩ => rfl
    | ⟨1, _⟩ => show k.val = 256 * (L.val / 1024) + k.val; omega
  · refine funext fun b => Fin.ext ?_
    match b with
    | ⟨0, _⟩ => show 0 = L.val / 1024; omega
    | ⟨1, _⟩ => rfl
    | ⟨2, _⟩ => show l.val = L.val % 1024; omega

theorem part_re1 (r : Fin 4096) (l : Fin 1024) (L : Fin 4096) (hL : L.val = 1024 + l.val) :
    A_main_v11 (F := Ideal) x w v a (ix2 r l) = drive x w r L := by
  have hq : L.val / 1024 = 1 := by omega
  have hl : L.val % 1024 = l.val := by omega
  pointwise [A_main_v11, A_main_v10, A_main_v9, A_main_v8, A_main_v7, A_main_v6]
  unfold drive
  refine Finset.sum_congr rfl fun k _ => ?_
  refine congrArg₂ (· * ·) (congrArg x ?_) (congrArg w ?_)
  · refine funext fun b => Fin.ext ?_
    match b with
    | ⟨0, _⟩ => rfl
    | ⟨1, _⟩ => show 256 + k.val = 256 * (L.val / 1024) + k.val; omega
  · refine funext fun b => Fin.ext ?_
    match b with
    | ⟨0, _⟩ => show 1 = L.val / 1024; omega
    | ⟨1, _⟩ => rfl
    | ⟨2, _⟩ => show l.val = L.val % 1024; omega

theorem part_re2 (r : Fin 4096) (l : Fin 1024) (L : Fin 4096) (hL : L.val = 2048 + l.val) :
    A_main_v17 (F := Ideal) x w v a (ix2 r l) = drive x w r L := by
  have hq : L.val / 1024 = 2 := by omega
  have hl : L.val % 1024 = l.val := by omega
  pointwise [A_main_v17, A_main_v16, A_main_v15, A_main_v14, A_main_v13, A_main_v12]
  unfold drive
  refine Finset.sum_congr rfl fun k _ => ?_
  refine congrArg₂ (· * ·) (congrArg x ?_) (congrArg w ?_)
  · refine funext fun b => Fin.ext ?_
    match b with
    | ⟨0, _⟩ => rfl
    | ⟨1, _⟩ => show 512 + k.val = 256 * (L.val / 1024) + k.val; omega
  · refine funext fun b => Fin.ext ?_
    match b with
    | ⟨0, _⟩ => show 2 = L.val / 1024; omega
    | ⟨1, _⟩ => rfl
    | ⟨2, _⟩ => show l.val = L.val % 1024; omega

theorem part_re3 (r : Fin 4096) (l : Fin 1024) (L : Fin 4096) (hL : L.val = 3072 + l.val) :
    A_main_v23 (F := Ideal) x w v a (ix2 r l) = drive x w r L := by
  have hq : L.val / 1024 = 3 := by omega
  have hl : L.val % 1024 = l.val := by omega
  pointwise [A_main_v23, A_main_v22, A_main_v21, A_main_v20, A_main_v19, A_main_v18]
  unfold drive
  refine Finset.sum_congr rfl fun k _ => ?_
  refine congrArg₂ (· * ·) (congrArg x ?_) (congrArg w ?_)
  · refine funext fun b => Fin.ext ?_
    match b with
    | ⟨0, _⟩ => rfl
    | ⟨1, _⟩ => show 768 + k.val = 256 * (L.val / 1024) + k.val; omega
  · refine funext fun b => Fin.ext ?_
    match b with
    | ⟨0, _⟩ => show 3 = L.val / 1024; omega
    | ⟨1, _⟩ => rfl
    | ⟨2, _⟩ => show l.val = L.val % 1024; omega

theorem drive_re (r L : Fin 4096) : A_main_v24 (F := Ideal) x w v a (ix2 r L) = drive x w r L := by
  have hL := L.isLt
  pointwise [A_main_v24]
  by_cases h0 : L.val < 1024
  · rw [dif_pos h0]
    exact part_re0 x w v a r ⟨L.val, h0⟩ L (by dsimp only; omega)
  · rw [dif_neg h0]
    by_cases h1 : L.val - 1024 < 1024
    · rw [dif_pos h1]
      exact part_re1 x w v a r ⟨L.val - 1024, h1⟩ L (by dsimp only; omega)
    · rw [dif_neg h1]
      by_cases h2 : L.val - 1024 - 1024 < 1024
      · rw [dif_pos h2]
        exact part_re2 x w v a r ⟨L.val - 1024 - 1024, h2⟩ L (by dsimp only; omega)
      · rw [dif_neg h2]
        exact part_re3 x w v a r ⟨L.val - 1024 - 1024 - 1024, by omega⟩ L (by dsimp only; omega)

theorem part_im0 (r : Fin 4096) (l : Fin 1024) (L : Fin 4096) (hL : L.val = 0 + l.val) :
    A_main_v34 (F := Ideal) x w v a (ix2 r l) = drive x v r L := by
  have hq : L.val / 1024 = 0 := by omega
  have hl : L.val % 1024 = l.val := by omega
  pointwise [A_main_v34, A_main_v33, A_main_v32, A_main_v31, A_main_v30, A_main_v29]
  unfold drive
  refine Finset.sum_congr rfl fun k _ => ?_
  refine congrArg₂ (· * ·) (congrArg x ?_) (congrArg v ?_)
  · refine funext fun b => Fin.ext ?_
    match b with
    | ⟨0, _⟩ => rfl
    | ⟨1, _⟩ => show k.val = 256 * (L.val / 1024) + k.val; omega
  · refine funext fun b => Fin.ext ?_
    match b with
    | ⟨0, _⟩ => show 0 = L.val / 1024; omega
    | ⟨1, _⟩ => rfl
    | ⟨2, _⟩ => show l.val = L.val % 1024; omega

theorem part_im1 (r : Fin 4096) (l : Fin 1024) (L : Fin 4096) (hL : L.val = 1024 + l.val) :
    A_main_v40 (F := Ideal) x w v a (ix2 r l) = drive x v r L := by
  have hq : L.val / 1024 = 1 := by omega
  have hl : L.val % 1024 = l.val := by omega
  pointwise [A_main_v40, A_main_v39, A_main_v38, A_main_v37, A_main_v36, A_main_v35]
  unfold drive
  refine Finset.sum_congr rfl fun k _ => ?_
  refine congrArg₂ (· * ·) (congrArg x ?_) (congrArg v ?_)
  · refine funext fun b => Fin.ext ?_
    match b with
    | ⟨0, _⟩ => rfl
    | ⟨1, _⟩ => show 256 + k.val = 256 * (L.val / 1024) + k.val; omega
  · refine funext fun b => Fin.ext ?_
    match b with
    | ⟨0, _⟩ => show 1 = L.val / 1024; omega
    | ⟨1, _⟩ => rfl
    | ⟨2, _⟩ => show l.val = L.val % 1024; omega

theorem part_im2 (r : Fin 4096) (l : Fin 1024) (L : Fin 4096) (hL : L.val = 2048 + l.val) :
    A_main_v46 (F := Ideal) x w v a (ix2 r l) = drive x v r L := by
  have hq : L.val / 1024 = 2 := by omega
  have hl : L.val % 1024 = l.val := by omega
  pointwise [A_main_v46, A_main_v45, A_main_v44, A_main_v43, A_main_v42, A_main_v41]
  unfold drive
  refine Finset.sum_congr rfl fun k _ => ?_
  refine congrArg₂ (· * ·) (congrArg x ?_) (congrArg v ?_)
  · refine funext fun b => Fin.ext ?_
    match b with
    | ⟨0, _⟩ => rfl
    | ⟨1, _⟩ => show 512 + k.val = 256 * (L.val / 1024) + k.val; omega
  · refine funext fun b => Fin.ext ?_
    match b with
    | ⟨0, _⟩ => show 2 = L.val / 1024; omega
    | ⟨1, _⟩ => rfl
    | ⟨2, _⟩ => show l.val = L.val % 1024; omega

theorem part_im3 (r : Fin 4096) (l : Fin 1024) (L : Fin 4096) (hL : L.val = 3072 + l.val) :
    A_main_v52 (F := Ideal) x w v a (ix2 r l) = drive x v r L := by
  have hq : L.val / 1024 = 3 := by omega
  have hl : L.val % 1024 = l.val := by omega
  pointwise [A_main_v52, A_main_v51, A_main_v50, A_main_v49, A_main_v48, A_main_v47]
  unfold drive
  refine Finset.sum_congr rfl fun k _ => ?_
  refine congrArg₂ (· * ·) (congrArg x ?_) (congrArg v ?_)
  · refine funext fun b => Fin.ext ?_
    match b with
    | ⟨0, _⟩ => rfl
    | ⟨1, _⟩ => show 768 + k.val = 256 * (L.val / 1024) + k.val; omega
  · refine funext fun b => Fin.ext ?_
    match b with
    | ⟨0, _⟩ => show 3 = L.val / 1024; omega
    | ⟨1, _⟩ => rfl
    | ⟨2, _⟩ => show l.val = L.val % 1024; omega

theorem drive_im (r L : Fin 4096) : A_main_v53 (F := Ideal) x w v a (ix2 r L) = drive x v r L := by
  have hL := L.isLt
  pointwise [A_main_v53]
  by_cases h0 : L.val < 1024
  · rw [dif_pos h0]
    exact part_im0 x w v a r ⟨L.val, h0⟩ L (by dsimp only; omega)
  · rw [dif_neg h0]
    by_cases h1 : L.val - 1024 < 1024
    · rw [dif_pos h1]
      exact part_im1 x w v a r ⟨L.val - 1024, h1⟩ L (by dsimp only; omega)
    · rw [dif_neg h1]
      by_cases h2 : L.val - 1024 - 1024 < 1024
      · rw [dif_pos h2]
        exact part_im2 x w v a r ⟨L.val - 1024 - 1024, h2⟩ L (by dsimp only; omega)
      · rw [dif_neg h2]
        exact part_im3 x w v a r ⟨L.val - 1024 - 1024 - 1024, by omega⟩ L (by dsimp only; omega)

theorem timed_re (j : ℕ) (hj : j < 4096) (L : Fin 4096) :
    A_main_v28 (F := Ideal) x w v a (ix2 ⟨j, hj⟩ L) = drive x w ⟨8 * (511 - j % 512) + (7 - j / 512), by omega⟩ L := by
  rw [← drive_re x w v a]
  pointwise [A_main_v28, A_main_v27, A_main_v26, A_main_v25]
  refine congrArg (A_main_v24 (F := Ideal) x w v a) (funext fun b => Fin.ext ?_)
  match b with
  | ⟨0, _⟩ => first | rfl | (dsimp only; omega) | (simp <;> omega)
  | ⟨1, _⟩ => first | rfl | (dsimp only; omega) | (simp <;> omega)

theorem timed_im (j : ℕ) (hj : j < 4096) (L : Fin 4096) :
    A_main_v57 (F := Ideal) x w v a (ix2 ⟨j, hj⟩ L) = drive x v ⟨8 * (511 - j % 512) + (7 - j / 512), by omega⟩ L := by
  rw [← drive_im x w v a]
  pointwise [A_main_v57, A_main_v56, A_main_v55, A_main_v54]
  refine congrArg (A_main_v53 (F := Ideal) x w v a) (funext fun b => Fin.ext ?_)
  match b with
  | ⟨0, _⟩ => first | rfl | (dsimp only; omega) | (simp <;> omega)
  | ⟨1, _⟩ => first | rfl | (dsimp only; omega) | (simp <;> omega)

theorem factor_0 (L : Fin 4096) : A_main_v59 (F := Ideal) x w v a (ix1 L) = a (ix2 0 L) := by
  pointwise [A_main_v59, A_main_v58]

theorem factor_1 (L : Fin 4096) : A_main_v61 (F := Ideal) x w v a (ix1 L) = a (ix2 1 L) := by
  pointwise [A_main_v61, A_main_v60]

/-- The drive in the order of the steps. -/
abbrev timed (L : Fin 4096) (j : ℕ) : ℂ := push x w v L (8 * (511 - j % 512) + (7 - j / 512))

end

section

variable {x : Vec Ideal S4096x1024 .bf16} {w v : Vec Ideal S4x256x1024 .bf16} {a : Vec Ideal S2x4096 .f32}

/-- What is known after `n` steps. -/
structure Known (x : Vec Ideal S4096x1024 .bf16) (w v : Vec Ideal S4x256x1024 .bf16) (a : Vec Ideal S2x4096 .f32) (n : ℕ) (s : State Ideal) : Prop where
  state : ∀ L, Is (s.main_v65_5 (ix1 L)) (s.main_v65_6 (ix1 L)) (Cert.Scan.run (factor a L) (timed x w v L) 0 n)
  noted : ∀ r L : Fin 4096, r.val < n → Is (s.main_v65_7 (ix2 r L)) (s.main_v65_8 (ix2 r L)) (Cert.Scan.run (factor a L) (timed x w v L) 0 r.val)
  re : s.main_v65_0 = A_main_v28 x w v a
  im : s.main_v65_1 = A_main_v57 x w v a
  fre : s.main_v65_2 = A_main_v59 x w v a
  fim : s.main_v65_3 = A_main_v61 x w v a

theorem known_init : Known x w v a 0 (init x w v a) where
  state L := by
    have e : Cert.Scan.run (factor a L) (timed x w v L) 0 0 = 0 := by with_unfolding_all rfl
    rw [e]
    refine Is.zero.of_eq ?_ ?_
    · show K_main_v62 (F := Ideal) (ix1 L) = 0
      pointwise [K_main_v62, K_main_cst]
      all_goals simp [Ideal.ofBits, Ideal.ieee]
    · show K_main_v62 (F := Ideal) (ix1 L) = 0
      pointwise [K_main_v62, K_main_cst]
      all_goals simp [Ideal.ofBits, Ideal.ieee]
  noted r L h := absurd h (by omega)
  re := rfl
  im := rfl
  fre := rfl
  fim := rfl

theorem known_step (hf : Finite x w v a) (n : ℕ) (hn : n < 4096) (s : State Ideal) (h : Known x w v a n s) : Known x w v a (n + 1) (step n s) where
  state L := by
    have e : Cert.Scan.run (factor a L) (timed x w v L) 0 (n + 1) = factor a L * Cert.Scan.run (factor a L) (timed x w v L) 0 n + timed x w v L n := by
      with_unfolding_all rfl
    rw [e, step_main_v65_5, step_main_v65_6]
    have hd : Is (b2 n s (ix1 L)) (b5 n s (ix1 L)) (timed x w v L n) := by
      refine (push_is hf ⟨8 * (511 - n % 512) + (7 - n / 512), by omega⟩ L).of_eq ?_ ?_
      · have p := read_row (s.main_v65_0) (fun k => (((![(constantI S_ 32 (BitVec.ofNat 32 n) : (⟨S_, .i32⟩ : BufTy).Contents (Elt Ideal)), (b0 n s)] : Fin 2 → (⟨S_, .i32⟩ : BufTy).Contents (Elt Ideal))) k (Shape.Idx.first h_S_)).toInt) sliceFits_S4096x4096_S1x4096 n hn (word_nat n hn) rfl L
        have q : b2 n s (ix1 L) = b1 n s (ix2 0 L) := by pointwise [b2]
        exact q.trans (p.trans ((congrFun h.re _).trans (timed_re x w v a n hn L)))
      · have p := read_row (s.main_v65_1) (fun k => (((![(constantI S_ 32 (BitVec.ofNat 32 n) : (⟨S_, .i32⟩ : BufTy).Contents (Elt Ideal)), (b3 n s)] : Fin 2 → (⟨S_, .i32⟩ : BufTy).Contents (Elt Ideal))) k (Shape.Idx.first h_S_)).toInt) sliceFits_S4096x4096_S1x4096 n hn (word_nat n hn) rfl L
        have q : b5 n s (ix1 L) = b4 n s (ix2 0 L) := by pointwise [b5]
        exact q.trans (p.trans ((congrFun h.im _).trans (timed_im x w v a n hn L)))
    have ha : Is (s.main_v65_2 (ix1 L)) (s.main_v65_3 (ix1 L)) (factor a L) :=
      (factor_is hf L).of_eq ((congrFun h.fre _).trans (factor_0 x w v a L)) ((congrFun h.fim _).trans (factor_1 x w v a L))
    exact Is.step ha (h.state L) hd
  noted r L hr := by
    rw [step_main_v65_7, step_main_v65_8]
    have p := write_row (s.main_v65_7) (b14 n s) (fun k => (((![(constantI S_ 32 (BitVec.ofNat 32 n) : (⟨S_, .i32⟩ : BufTy).Contents (Elt Ideal)), (b15 n s)] : Fin 2 → (⟨S_, .i32⟩ : BufTy).Contents (Elt Ideal))) k (Shape.Idx.first h_S_)).toInt) updateFits_S4096x4096_S1x4096 n hn (word_nat n hn) rfl r L
    have q := write_row (s.main_v65_8) (b17 n s) (fun k => (((![(constantI S_ 32 (BitVec.ofNat 32 n) : (⟨S_, .i32⟩ : BufTy).Contents (Elt Ideal)), (b18 n s)] : Fin 2 → (⟨S_, .i32⟩ : BufTy).Contents (Elt Ideal))) k (Shape.Idx.first h_S_)).toInt) updateFits_S4096x4096_S1x4096 n hn (word_nat n hn) rfl r L
    by_cases hrn : r.val = n
    · rw [if_pos hrn] at p q
      rw [hrn]
      refine (h.state L).of_eq (p.trans ?_) (q.trans ?_)
      · pointwise [b14]
      · pointwise [b17]
    · rw [if_neg hrn] at p q
      exact (h.noted r L (by omega)).of_eq p q
  re := h.re
  im := h.im
  fre := h.fre
  fim := h.fim

/-- The reference's iterates. -/
def iter (x : Vec Ideal S4096x1024 .bf16) (w v : Vec Ideal S4x256x1024 .bf16) (a : Vec Ideal S2x4096 .f32) : ℕ → State Ideal
  | 0 => init x w v a
  | n + 1 => step n (iter x w v a n)

theorem known_iter (hf : Finite x w v a) : ∀ n, n ≤ 4096 → Known x w v a n (iter x w v a n)
  | 0, _ => known_init
  | n + 1, h => known_step hf n h _ (known_iter hf n (Nat.le_of_succ_le h))

/-- The arrays the reference leaves. -/
theorem left (hf : Finite x w v a) (s : Fin 8) (L : Fin 4096) :
    Is (R_main_v67 (iter x w v a 4096) (ix2 s L)) (R_main_v69 (iter x w v a 4096) (ix2 s L))
      (Cert.Scan.run (factor a L) (timed x w v L) 0 (512 * (7 - s.val))) := by
  have hs := s.isLt
  refine ((known_iter hf 4096 le_rfl).noted ⟨512 * (7 - s.val), by omega⟩ L (by dsimp only; omega)).of_eq ?_ ?_
  · generalize iter x w v a 4096 = z
    pointwise [R_main_v67]
    all_goals
      refine congrArg z.main_v65_7 (funext fun b => Fin.ext ?_)
      match b with
      | ⟨0, _⟩ => first | rfl | (dsimp only; omega) | (simp <;> omega)
      | ⟨1, _⟩ => first | rfl | (dsimp only; omega) | (simp <;> omega)
  · generalize iter x w v a 4096 = z
    pointwise [R_main_v69]
    all_goals
      refine congrArg z.main_v65_8 (funext fun b => Fin.ext ?_)
      match b with
      | ⟨0, _⟩ => first | rfl | (dsimp only; omega) | (simp <;> omega)
      | ⟨1, _⟩ => first | rfl | (dsimp only; omega) | (simp <;> omega)

end

end Cert.EndsRefIdeal.Loop

end
-- ==== Proof.EndsClaims.lean ====
module

public import proofs.«01_k».proof.Defs
public import proofs.«01_k».proof.Proof.EndsSweepEnd
public import proofs.«01_k».proof.Proof.EndsWalk
public import proofs.«01_k».proof.Proof.EndsLoop
public import proofs.«01_k».proof.Proof.FiniteDrive
public import Idealize.ShloMosaic.Adequacy
public import Idealize.ShloMosaic.Init

/-!
# What the certificate states of `Ends`

Kernel and reference leave the same arrays where the arguments are finite, and the reference keeps its arguments.
-/

@[expose] public section

noncomputable section

namespace Cert.Proof

open Idealize.ShloMosaic Idealize.ShloMosaic.TcCoe Idealize.SL.Sem

/-- Kernel and reference leave the same real and imaginary parts. -/
theorem ends_same [Cert.Pre_finite_drive.Facts] : Cert.algebraic_EndsIdeal_EndsRefIdeal_pre_finite_drive := by
  intro m ρ m' ρ' hpre hagree
  refine ⟨fun c => Cert.EndsIdeal.Value.G4 m c, fun c => Cert.EndsIdeal.Value.G5 m c, ?_, ?_⟩
  · exact Cert.EndsIdeal.Value.run (F := Ideal) m ρ
  · refine (θ_run Cert.EndsRefIdeal.defs _ _).mono (fun r h c => ⟨(h c).1.trans ?_, (h c).2.1.trans ?_, (h c).2.2⟩)
      (Cert.EndsRefIdeal.Walk.run_iter (F := Ideal) m' ρ'
        (fun c => Cert.EndsRefIdeal.Loop.iter (m' ((c.tc : Thread _ _).loc Cert.EndsRefIdeal.main_arg0)) (m' ((c.tc : Thread _ _).loc Cert.EndsRefIdeal.main_arg1))
          (m' ((c.tc : Thread _ _).loc Cert.EndsRefIdeal.main_arg2)) (m' ((c.tc : Thread _ _).loc Cert.EndsRefIdeal.main_arg3)))
        (fun c => rfl) (fun c n => rfl))
    · have hf := Cert.Scan.finite_of_pre _ _ _ _ (hpre c)
      rw [(hagree c).1, (hagree c).2.1, (hagree c).2.2.1, (hagree c).2.2.2]
      funext i
      obtain ⟨s, L, rfl⟩ : ∃ (s : Fin 8) (L : Fin 4096), i = ix2 s L := ⟨_, _, eq_ix2 i⟩
      exact (Cert.EndsRefIdeal.Loop.left hf s L).re.trans (Cert.EndsIdeal.Rows.arrays hf s L).re.symm
    · have hf := Cert.Scan.finite_of_pre _ _ _ _ (hpre c)
      rw [(hagree c).1, (hagree c).2.1, (hagree c).2.2.1, (hagree c).2.2.2]
      funext i
      obtain ⟨s, L, rfl⟩ : ∃ (s : Fin 8) (L : Fin 4096), i = ix2 s L := ⟨_, _, eq_ix2 i⟩
      exact (Cert.EndsRefIdeal.Loop.left hf s L).im.trans (Cert.EndsIdeal.Rows.arrays hf s L).im.symm

/-- The reference keeps its arguments; it has no semaphore. -/
theorem ends_reference_frame : Cert.quiescent_EndsRefIdeal := fun m ρ _ =>
  (θ_run Cert.EndsRefIdeal.defs _ _).mono (fun r h => ⟨fun c => (h c).2.2, sem_eq_zero_of_no_sems (by decide) r.2⟩)
    (Cert.EndsRefIdeal.Walk.run_iter (F := Ideal) m ρ
      (fun c => Cert.EndsRefIdeal.Loop.iter (m ((c.tc : Thread _ _).loc Cert.EndsRefIdeal.main_arg0)) (m ((c.tc : Thread _ _).loc Cert.EndsRefIdeal.main_arg1))
        (m ((c.tc : Thread _ _).loc Cert.EndsRefIdeal.main_arg2)) (m ((c.tc : Thread _ _).loc Cert.EndsRefIdeal.main_arg3)))
      (fun c => rfl) (fun c n => rfl))

end Cert.Proof

end
-- ==== Proof.Trip.lean ====
module

public import proofs.«01_k».proof.Proof.Column
public import proofs.«01_k».proof.Proof.Gen.KernelIdeal.Frame
public import Idealize.ShloMosaic.Lib.WholeRead

/-!
# What one trip of the row loop computes

Trip `k` takes the 128 rows from row `3968 - 128 k` on. Its vectors are read at an index, as the columns' sequences.
-/

@[expose] public section

set_option maxRecDepth 16384

noncomputable section

namespace Cert.KernelIdeal.Rows

open Idealize.ShloMosaic Idealize.ShloMosaic.TcCoe Idealize.SL.Sem
open Cert.KernelIdeal Cert.KernelIdeal.Gen Cert.GatedConv

/-- The loop makes 32 trips. -/
theorem trip_lt (k : Fin k0_t1_loop.trips) : k.val < 32 := Nat.lt_of_lt_of_le k.isLt k0_t1_abs.2.1

/-- The first row of trip `k`'s chunk. -/
def base (k : ℕ) : ℕ := 3968 - 128 * k

/-- Every trip but the last, which takes the first rows, has rows before its chunk. -/
theorem not_first : ∀ k : Fin k0_t1_loop.trips,
    Scalar.cmpi .sgt (Scalar.subi (31#32) (Scf.iv 0#32 1#32 k.val)) 0#32 = if k.val < 31 then 1#1 else 0#1 := by
  decide +kernel

/-- The vectors a trip loads hold the columns `K`: the weights and the bias; the gate's 16 rows before the chunk, if
    there are any; the chunk's rows of the gate, of the other branch and of the incoming gradient. -/
structure Loaded (K : Fin 128 → Col) (k : Fin k0_t1_loop.trips) (v0 v1 v2 v3 : Vec Ideal S1x128 .f32)
    (v28 : Vec Ideal S1x16x128 .bf16) (v34 v38 : Vec Ideal S1x128x128 .bf16) (v42 : Vec Ideal S128x128 .bf16) : Prop where
  w0 : ∀ l, v0 (ix2 0 l) = (K l).w0
  w1 : ∀ l, v1 (ix2 0 l) = (K l).w1
  w2 : ∀ l, v2 (ix2 0 l) = (K l).w2
  b : ∀ l, v3 (ix2 0 l) = (K l).b
  tail : k.val < 31 → ∀ (r : Fin 16) l, v28 (ix3 0 r l) = (K l).g (base k - 16 + r.val)
  gate : ∀ (r : Fin 128) l, v34 (ix3 0 r l) = (K l).g (base k + r.val)
  other : ∀ (r : Fin 128) l, v38 (ix3 0 r l) = (K l).u (base k + r.val)
  grad : ∀ (r : Fin 128) l, v42 (ix2 r l) = (K l).a (base k + r.val)

section

variable {K : Fin 128 → Col} {k : Fin k0_t1_loop.trips} {v0 v1 v2 v3 : Vec Ideal S1x128 .f32}
  {v28 : Vec Ideal S1x16x128 .bf16} {v34 v38 : Vec Ideal S1x128x128 .bf16} {v42 : Vec Ideal S128x128 .bf16}

/-- The chunk's rows of the gate. -/
theorem gate_at (h : Loaded K k v0 v1 v2 v3 v28 v34 v38 v42) (r l : Fin 128) :
    k0_pay9 v34 (ix2 r l) = (K l).g (base k + r.val) := by
  pointwise [k0_pay9]
  exact h.gate r l

/-- The chunk's rows of the other branch. -/
theorem other_at (h : Loaded K k v0 v1 v2 v3 v28 v34 v38 v42) (r l : Fin 128) :
    k0_pay10 v38 (ix2 r l) = (K l).u (base k + r.val) := by
  pointwise [k0_pay10]
  exact h.other r l

/-- The chunk's rows of the incoming gradient. -/
theorem grad_at (h : Loaded K k v0 v1 v2 v3 v28 v34 v38 v42) (r l : Fin 128) :
    k0_pay11 v42 (ix2 r l) = (K l).a (base k + r.val) := by
  pointwise [k0_pay11]
  exact h.grad r l

/-- The gate's rows delayed by one: the rotation brings the row before to each row, across the chunk's first. -/
theorem delay1_at (h : Loaded K k v0 v1 v2 v3 v28 v34 v38 v42) (r l : Fin 128) :
    k0_pay13 0#32 1#32 k v28 v34 (ix2 r l) = delay 1 (K l).g (base k + r.val) := by
  have hk := trip_lt k
  have hg := h.gate
  have ht := h.tail
  unfold base at *
  pointwise [k0_pay13, k0_pay12, k0_pay9]
  unfold delay
  split
  · rename_i hr
    have hr0 : r.val = 0 := by omega
    rw [not_first]
    by_cases hk31 : k.val < 31
    · rw [if_pos hk31]
      refine (if_pos rfl).trans ((ht hk31 _ _).trans (Eq.trans ?_ (if_neg (by omega)).symm))
      congr 1
      dsimp only
      omega
    · rw [if_neg hk31]
      exact (if_neg (by decide)).trans (if_pos (by omega)).symm
  · refine (hg _ _).trans (Eq.trans ?_ (if_neg (by omega)).symm)
    congr 1
    dsimp only
    omega

/-- The gate's rows delayed by two. -/
theorem delay2_at (h : Loaded K k v0 v1 v2 v3 v28 v34 v38 v42) (r l : Fin 128) :
    k0_pay14 0#32 1#32 k v28 v34 (ix2 r l) = delay 2 (K l).g (base k + r.val) := by
  have hk := trip_lt k
  have hg := h.gate
  have ht := h.tail
  unfold base at *
  pointwise [k0_pay14, k0_pay12, k0_pay9]
  unfold delay
  split
  · rename_i hr
    have hr0 : r.val < 2 := by omega
    rw [not_first]
    by_cases hk31 : k.val < 31
    · rw [if_pos hk31]
      refine (if_pos rfl).trans ((ht hk31 _ _).trans (Eq.trans ?_ (if_neg (by omega)).symm))
      congr 1
      dsimp only
      omega
    · rw [if_neg hk31]
      exact (if_neg (by decide)).trans (if_pos (by omega)).symm
  · refine (hg _ _).trans (Eq.trans ?_ (if_neg (by omega)).symm)
    congr 1
    dsimp only
    omega

/-- The convolution's values in the chunk's rows. -/
theorem conv_at (h : Loaded K k v0 v1 v2 v3 v28 v34 v38 v42) (r l : Fin 128) :
    k0_pay15 v0 v1 v2 v3 0#32 1#32 k v28 v34 (ix2 r l) = (K l).conv (base k + r.val) := by
  have h2 := delay2_at h r l
  have h1 := delay1_at h r l
  have h0 := gate_at h r l
  unfold k0_pay15
  generalize k0_pay14 0#32 1#32 k v28 v34 = x2 at *
  generalize k0_pay13 0#32 1#32 k v28 v34 = x1 at *
  generalize k0_pay9 v34 = x0 at *
  pointwise []
  rw [h2, h1, h0, h.w0, h.w1, h.w2, h.b]
  rfl

/-- The hyperbolic tangent of half the convolution's values. -/
theorem tanh_at (h : Loaded K k v0 v1 v2 v3 v28 v34 v38 v42) (r l : Fin 128) :
    k0_pay16 v0 v1 v2 v3 0#32 1#32 k v28 v34 (ix2 r l) = Ideal.tanh (half * (K l).conv (base k + r.val)) := by
  have hc := conv_at h r l
  unfold k0_pay16
  generalize k0_pay15 v0 v1 v2 v3 0#32 1#32 k v28 v34 = x at *
  pointwise []
  rw [hc]
  rfl

/-- The gradient of the convolution's values in the chunk's rows. -/
theorem dconv_at (h : Loaded K k v0 v1 v2 v3 v28 v34 v38 v42) (r l : Fin 128) :
    k0_pay19 (k0_pay10 v38) (k0_pay11 v42) (k0_pay15 v0 v1 v2 v3 0#32 1#32 k v28 v34)
        (k0_pay16 v0 v1 v2 v3 0#32 1#32 k v28 v34) (Scalar.ofBits .f32 0x3F000000#32) (ix2 r l)
      = (K l).dconv (base k + r.val) := by
  have hk := trip_lt k
  have hc := conv_at h r l
  have ht := tanh_at h r l
  have hu := other_at h r l
  have ha := grad_at h r l
  generalize k0_pay16 v0 v1 v2 v3 0#32 1#32 k v28 v34 = x at *
  generalize k0_pay15 v0 v1 v2 v3 0#32 1#32 k v28 v34 = x at *
  generalize k0_pay10 v38 = x at *
  generalize k0_pay11 v42 = x at *
  pointwise [k0_pay19, k0_pay17]
  rw [hc, ht, hu, ha, Col.dconv, if_pos (by unfold base; omega)]
  rfl

/-- What the trip stores for the other branch. -/
theorem dup_at (h : Loaded K k v0 v1 v2 v3 v28 v34 v38 v42) (r l : Fin 128) :
    k0_pay18 (k0_pay11 v42) (k0_pay15 v0 v1 v2 v3 0#32 1#32 k v28 v34)
        (k0_pay16 v0 v1 v2 v3 0#32 1#32 k v28 v34) (Scalar.ofBits .f32 0x3F000000#32) (ix3 0 r l)
      = (K l).dup (base k + r.val) := by
  have hc := conv_at h r l
  have ht := tanh_at h r l
  have ha := grad_at h r l
  generalize k0_pay16 v0 v1 v2 v3 0#32 1#32 k v28 v34 = x at *
  generalize k0_pay15 v0 v1 v2 v3 0#32 1#32 k v28 v34 = x at *
  generalize k0_pay11 v42 = x at *
  pointwise [k0_pay18, k0_pay17]
  rw [hc, ht, ha]
  rfl

/-- What the trip stores for the gate, the carried rows being the first 16 of the chunk after: the rotation brings the
    next rows' gradients to each row, across the chunk's last. -/
theorem dgate_at (h : Loaded K k v0 v1 v2 v3 v28 v34 v38 v42) (acc : FVec Ideal S16x128 .f32)
    (hacc : ∀ (r : Fin 16) l, acc (ix2 r l) = (K l).dconv (base k + 128 + r.val)) (r l : Fin 128) :
    k0_pay20 v0 v1 v2 acc (k0_pay10 v38) (k0_pay11 v42) (k0_pay15 v0 v1 v2 v3 0#32 1#32 k v28 v34)
        (k0_pay16 v0 v1 v2 v3 0#32 1#32 k v28 v34) (Scalar.ofBits .f32 0x3F000000#32) (ix3 0 r l)
      = (K l).dgate (base k + r.val) := by
  have hd := fun r => dconv_at h r l
  unfold k0_pay20
  generalize k0_pay19 (k0_pay10 v38) (k0_pay11 v42) (k0_pay15 v0 v1 v2 v3 0#32 1#32 k v28 v34)
    (k0_pay16 v0 v1 v2 v3 0#32 1#32 k v28 v34) (Scalar.ofBits .f32 0x3F000000#32) = D at *
  have e1 : (if h : (r.val + 144 - 143) % 144 < 128 then D (ix2 ⟨(r.val + 144 - 143) % 144, h⟩ l)
      else acc (ix2 ⟨(r.val + 144 - 143) % 144 - 128, by omega⟩ l)) = (K l).dconv (base k + r.val + 1) := by
    split
    · refine (hd _).trans ?_; congr 1; dsimp only; omega
    · refine (hacc _ _).trans ?_; congr 1; dsimp only; omega
  have e2 : (if h : (r.val + 144 - 142) % 144 < 128 then D (ix2 ⟨(r.val + 144 - 142) % 144, h⟩ l)
      else acc (ix2 ⟨(r.val + 144 - 142) % 144 - 128, by omega⟩ l)) = (K l).dconv (base k + r.val + 2) := by
    split
    · refine (hd _).trans ?_; congr 1; dsimp only; omega
    · refine (hacc _ _).trans ?_; congr 1; dsimp only; omega
  pointwise []
  rw [e1, e2, hd, h.w0, h.w1, h.w2]
  rfl

/-- The rows the trip hands on: the chunk's first 16. -/
theorem head_at (h : Loaded K k v0 v1 v2 v3 v28 v34 v38 v42) (r : Fin 16) (l : Fin 128) :
    k0_pay21 (k0_pay10 v38) (k0_pay11 v42) (k0_pay15 v0 v1 v2 v3 0#32 1#32 k v28 v34)
        (k0_pay16 v0 v1 v2 v3 0#32 1#32 k v28 v34) (Scalar.ofBits .f32 0x3F000000#32) (ix2 r l)
      = (K l).dconv (base k + r.val) := by
  have hd := fun r => dconv_at h r l
  unfold k0_pay21
  generalize k0_pay19 (k0_pay10 v38) (k0_pay11 v42) (k0_pay15 v0 v1 v2 v3 0#32 1#32 k v28 v34)
    (k0_pay16 v0 v1 v2 v3 0#32 1#32 k v28 v34) (Scalar.ofBits .f32 0x3F000000#32) = D at *
  pointwise []
  exact hd _

/-- The running sums of the weight with delay two, after the trip. -/
theorem tap2_at (h : Loaded K k v0 v1 v2 v3 v28 v34 v38 v42) (acc : FVec Ideal S8x128 .f32) (s : Fin 8) (l : Fin 128) :
    k0_pay22 acc (k0_pay10 v38) (k0_pay11 v42) (k0_pay14 0#32 1#32 k v28 v34)
        (k0_pay15 v0 v1 v2 v3 0#32 1#32 k v28 v34)
        (k0_pay16 v0 v1 v2 v3 0#32 1#32 k v28 v34) (Scalar.ofBits .f32 0x3F000000#32) (ix2 s l)
      = acc (ix2 s l) + ∑ q : Fin 16, (K l).dtap 2 (base k + (q.val * 8 + s.val)) := by
  have hd := fun r => dconv_at h r l
  have hg := fun r => delay2_at h r l
  unfold k0_pay22
  generalize k0_pay19 (k0_pay10 v38) (k0_pay11 v42) (k0_pay15 v0 v1 v2 v3 0#32 1#32 k v28 v34)
    (k0_pay16 v0 v1 v2 v3 0#32 1#32 k v28 v34) (Scalar.ofBits .f32 0x3F000000#32) = D at *
  generalize k0_pay14 0#32 1#32 k v28 v34 = G at *
  pointwise []
  simp only [hd, hg]
  rfl

/-- The running sums of the weight with delay one, after the trip. -/
theorem tap1_at (h : Loaded K k v0 v1 v2 v3 v28 v34 v38 v42) (acc : FVec Ideal S8x128 .f32) (s : Fin 8) (l : Fin 128) :
    k0_pay23 acc (k0_pay10 v38) (k0_pay11 v42) (k0_pay13 0#32 1#32 k v28 v34)
        (k0_pay15 v0 v1 v2 v3 0#32 1#32 k v28 v34)
        (k0_pay16 v0 v1 v2 v3 0#32 1#32 k v28 v34) (Scalar.ofBits .f32 0x3F000000#32) (ix2 s l)
      = acc (ix2 s l) + ∑ q : Fin 16, (K l).dtap 1 (base k + (q.val * 8 + s.val)) := by
  have hd := fun r => dconv_at h r l
  have hg := fun r => delay1_at h r l
  unfold k0_pay23
  generalize k0_pay19 (k0_pay10 v38) (k0_pay11 v42) (k0_pay15 v0 v1 v2 v3 0#32 1#32 k v28 v34)
    (k0_pay16 v0 v1 v2 v3 0#32 1#32 k v28 v34) (Scalar.ofBits .f32 0x3F000000#32) = D at *
  generalize k0_pay13 0#32 1#32 k v28 v34 = G at *
  pointwise []
  simp only [hd, hg]
  rfl

/-- The running sums of the weight without delay, after the trip. -/
theorem tap0_at (h : Loaded K k v0 v1 v2 v3 v28 v34 v38 v42) (acc : FVec Ideal S8x128 .f32) (s : Fin 8) (l : Fin 128) :
    k0_pay3 acc (k0_pay24 (k0_pay9 v34) (k0_pay10 v38) (k0_pay11 v42)
        (k0_pay15 v0 v1 v2 v3 0#32 1#32 k v28 v34)
        (k0_pay16 v0 v1 v2 v3 0#32 1#32 k v28 v34) (Scalar.ofBits .f32 0x3F000000#32)) (ix2 s l)
      = acc (ix2 s l) + ∑ q : Fin 16, (K l).dtap 0 (base k + (q.val * 8 + s.val)) := by
  have hd := fun r => dconv_at h r l
  have hg := fun r => gate_at h r l
  unfold k0_pay3 k0_pay24
  generalize k0_pay19 (k0_pay10 v38) (k0_pay11 v42) (k0_pay15 v0 v1 v2 v3 0#32 1#32 k v28 v34)
    (k0_pay16 v0 v1 v2 v3 0#32 1#32 k v28 v34) (Scalar.ofBits .f32 0x3F000000#32) = D at *
  generalize k0_pay9 v34 = G at *
  pointwise []
  simp only [hd, hg, Col.dtap, delay_zero]

/-- The running sums of the bias, after the trip. -/
theorem bias_at (h : Loaded K k v0 v1 v2 v3 v28 v34 v38 v42) (acc : FVec Ideal S8x128 .f32) (s : Fin 8) (l : Fin 128) :
    k0_pay4 acc (k0_pay19 (k0_pay10 v38) (k0_pay11 v42)
        (k0_pay15 v0 v1 v2 v3 0#32 1#32 k v28 v34)
        (k0_pay16 v0 v1 v2 v3 0#32 1#32 k v28 v34) (Scalar.ofBits .f32 0x3F000000#32)) (ix2 s l)
      = acc (ix2 s l) + ∑ q : Fin 16, (K l).dconv (base k + (q.val * 8 + s.val)) := by
  have hd := fun r => dconv_at h r l
  unfold k0_pay4
  generalize k0_pay19 (k0_pay10 v38) (k0_pay11 v42) (k0_pay15 v0 v1 v2 v3 0#32 1#32 k v28 v34)
    (k0_pay16 v0 v1 v2 v3 0#32 1#32 k v28 v34) (Scalar.ofBits .f32 0x3F000000#32) = D at *
  pointwise []
  simp only [hd]

end

end Cert.KernelIdeal.Rows

end
-- ==== Proof.State.lean ====
module

public import proofs.«01_k».proof.Proof.Trip

/-!
# The row loop

What a trip yields and stores as functions of the rows it loads; by induction over the trips, what the loop carries and
what it has stored before each trip.
-/

@[expose] public section

set_option maxRecDepth 16384

noncomputable section

namespace Cert.KernelIdeal.Rows

open Idealize.ShloMosaic Idealize.ShloMosaic.TcCoe Idealize.SL.Sem
open Cert.KernelIdeal Cert.KernelIdeal.Gen Cert.GatedConv

/-- What the loop carries: the rows handed on and the four running sums. -/
abbrev Carry : Type :=
  FVec Ideal S16x128 .f32 × FVec Ideal S8x128 .f32 × FVec Ideal S8x128 .f32 × FVec Ideal S8x128 .f32 × FVec Ideal S8x128 .f32

section

variable (𝒱 : Variants) (c : Dev nD) (bd : Option 𝒱.V) (i : grid0.Coords)
  (arg1 : Memref sig .tc .vmem S2x4096x128 .bf16) (harg1 : arg1.IsWhole)
  (arg2 : Memref sig .tc .vmem S4096x128 .bf16) (harg2 : arg2.IsWhole)
  (arg3 : Memref sig .tc .vmem S3x128 .f32) (harg3 : arg3.IsWhole)
  (arg4 : Memref sig .tc .vmem S1x128 .f32) (harg4 : arg4.IsWhole)
  (arg5 : Memref sig .tc .vmem S2x4096x128 .bf16) (harg5 : arg5.IsWhole)
  (arg6 : Memref sig .tc .vmem S3x128 .f32) (harg6 : arg6.IsWhole)
  (arg7 : Memref sig .tc .vmem S1x128 .f32) (harg7 : arg7.IsWhole)
  (v0 v1 v2 v3 : Vec Ideal S1x128 .f32)
  (X1 : BufTy.Contents (Elt Ideal) arg1.view.ty) (X2 : BufTy.Contents (Elt Ideal) arg2.view.ty)
  (k : Fin k0_t1_loop.trips)

/-- The gate's 16 rows before the chunk, as loaded. -/
abbrev ldTail : Vec Ideal S1x16x128 .bf16 :=
  View.readAt (Elt Ideal) arg1.view (Rect.unit (s := S2x4096x128) (k0_off1 k) S1x16x128.size (k0_off1_inb k)).toLoadRect X1

/-- The gate's rows of the chunk, as loaded. -/
abbrev ldGate : Vec Ideal S1x128x128 .bf16 :=
  View.readAt (Elt Ideal) arg1.view (Rect.unit (s := S2x4096x128) (k0_off2 k) S1x128x128.size (k0_off2_inb k)).toLoadRect X1

/-- The other branch's rows of the chunk, as loaded. -/
abbrev ldOther : Vec Ideal S1x128x128 .bf16 :=
  View.readAt (Elt Ideal) arg1.view (Rect.unit (s := S2x4096x128) (k0_off3 k) S1x128x128.size (k0_off3_inb k)).toLoadRect X1

/-- The incoming gradient's rows of the chunk, as loaded. -/
abbrev ldGrad : Vec Ideal S128x128 .bf16 :=
  View.readAt (Elt Ideal) arg2.view (Rect.unit (s := S4096x128) (k0_off4 k) S128x128.size (k0_off4_inb k)).toLoadRect X2

/-- What trip `k` yields. -/
theorem trip_yields (acc : Carry) :
    tripR_k0_t1 (F := Ideal) 𝒱 c bd i arg1 harg1 arg2 harg2 arg3 harg3 arg4 harg4 arg5 harg5 arg6 harg6 arg7 harg7 v0 v1 v2 v3 X1 X2 k acc
      = (k0_pay21 (k0_pay10 (ldOther arg1 X1 k)) (k0_pay11 (ldGrad arg2 X2 k))
            (k0_pay15 v0 v1 v2 v3 0#32 1#32 k (ldTail arg1 X1 k) (ldGate arg1 X1 k))
            (k0_pay16 v0 v1 v2 v3 0#32 1#32 k (ldTail arg1 X1 k) (ldGate arg1 X1 k)) (Scalar.ofBits .f32 0x3F000000#32),
         k0_pay22 acc.2.1 (k0_pay10 (ldOther arg1 X1 k)) (k0_pay11 (ldGrad arg2 X2 k))
            (k0_pay14 0#32 1#32 k (ldTail arg1 X1 k) (ldGate arg1 X1 k))
            (k0_pay15 v0 v1 v2 v3 0#32 1#32 k (ldTail arg1 X1 k) (ldGate arg1 X1 k))
            (k0_pay16 v0 v1 v2 v3 0#32 1#32 k (ldTail arg1 X1 k) (ldGate arg1 X1 k)) (Scalar.ofBits .f32 0x3F000000#32),
         k0_pay23 acc.2.2.1 (k0_pay10 (ldOther arg1 X1 k)) (k0_pay11 (ldGrad arg2 X2 k))
            (k0_pay13 0#32 1#32 k (ldTail arg1 X1 k) (ldGate arg1 X1 k))
            (k0_pay15 v0 v1 v2 v3 0#32 1#32 k (ldTail arg1 X1 k) (ldGate arg1 X1 k))
            (k0_pay16 v0 v1 v2 v3 0#32 1#32 k (ldTail arg1 X1 k) (ldGate arg1 X1 k)) (Scalar.ofBits .f32 0x3F000000#32),
         k0_pay3 acc.2.2.2.1 (k0_pay24 (k0_pay9 (ldGate arg1 X1 k)) (k0_pay10 (ldOther arg1 X1 k)) (k0_pay11 (ldGrad arg2 X2 k))
            (k0_pay15 v0 v1 v2 v3 0#32 1#32 k (ldTail arg1 X1 k) (ldGate arg1 X1 k))
            (k0_pay16 v0 v1 v2 v3 0#32 1#32 k (ldTail arg1 X1 k) (ldGate arg1 X1 k)) (Scalar.ofBits .f32 0x3F000000#32)),
         k0_pay4 acc.2.2.2.2 (k0_pay19 (k0_pay10 (ldOther arg1 X1 k)) (k0_pay11 (ldGrad arg2 X2 k))
            (k0_pay15 v0 v1 v2 v3 0#32 1#32 k (ldTail arg1 X1 k) (ldGate arg1 X1 k))
            (k0_pay16 v0 v1 v2 v3 0#32 1#32 k (ldTail arg1 X1 k) (ldGate arg1 X1 k)) (Scalar.ofBits .f32 0x3F000000#32))) := by
  unfold tripR_k0_t1 trip_k0_t1
  rfl

/-- What trip `k` stores: the gate's rows, after the other branch's. -/
theorem trip_stores (acc : Carry) :
    tripL_k0_t1 (F := Ideal) 𝒱 c bd i arg1 harg1 arg2 harg2 arg3 harg3 arg4 harg4 arg5 harg5 arg6 harg6 arg7 harg7 v0 v1 v2 v3 X1 X2 k acc
      = [⟨Rect.unit (s := S2x4096x128) (k0_off2 k) S1x128x128.size (k0_off2_inb k),
            k0_pay20 v0 v1 v2 acc.1 (k0_pay10 (ldOther arg1 X1 k)) (k0_pay11 (ldGrad arg2 X2 k))
              (k0_pay15 v0 v1 v2 v3 0#32 1#32 k (ldTail arg1 X1 k) (ldGate arg1 X1 k))
              (k0_pay16 v0 v1 v2 v3 0#32 1#32 k (ldTail arg1 X1 k) (ldGate arg1 X1 k)) (Scalar.ofBits .f32 0x3F000000#32)⟩,
         ⟨Rect.unit (s := S2x4096x128) (k0_off3 k) S1x128x128.size (k0_off3_inb k),
            k0_pay18 (k0_pay11 (ldGrad arg2 X2 k))
              (k0_pay15 v0 v1 v2 v3 0#32 1#32 k (ldTail arg1 X1 k) (ldGate arg1 X1 k))
              (k0_pay16 v0 v1 v2 v3 0#32 1#32 k (ldTail arg1 X1 k) (ldGate arg1 X1 k)) (Scalar.ofBits .f32 0x3F000000#32)⟩] := by
  unfold tripL_k0_t1 trip_k0_t1
  rfl

end

section

variable (x0 : Vec Ideal S2x4096x128 .bf16) (x1 : Vec Ideal S4096x128 .bf16) (x2 : Vec Ideal S3x128 .f32) (x3 : Vec Ideal S1x128 .f32)

theorem off1_eq : ∀ k : Fin k0_t1_loop.trips, k.val < 31 → k0_off1 k = ![0, 3968 - 128 * k.val - 16, 0] := by
  decide +kernel

/-- The rows a trip loads are the columns' rows. -/
theorem loaded (arg1 : Memref sig .tc .vmem S2x4096x128 .bf16) (harg1 : arg1.IsWhole)
    (arg2 : Memref sig .tc .vmem S4096x128 .bf16) (harg2 : arg2.IsWhole)
    (v0 v1 v2 v3 : Vec Ideal S1x128 .f32) (k : Fin k0_t1_loop.trips)
    (h0 : ∀ l, v0 (ix2 0 l) = x2 (ix2 0 l)) (h1 : ∀ l, v1 (ix2 0 l) = x2 (ix2 1 l)) (h2 : ∀ l, v2 (ix2 0 l) = x2 (ix2 2 l))
    (h3 : ∀ l, v3 (ix2 0 l) = x3 (ix2 0 l)) :
    Loaded (col x0 x1 x2 x3) k v0 v1 v2 v3 (ldTail arg1 (harg1.unread x0) k) (ldGate arg1 (harg1.unread x0) k)
      (ldOther arg1 (harg1.unread x0) k) (ldGrad arg2 (harg2.unread x1) k) where
  w0 := h0
  w1 := h1
  w2 := h2
  b := h3
  tail hk r l := by
    have hk' := trip_lt k
    show View.readAt (Elt Ideal) arg1.view _ (harg1.unread x0) _ = _
    rw [View.readAt_unit_congr_cast _ (off1_eq k hk), harg1.readAt_unread]
    refine Eq.trans ?_ (col_g x0 x1 x2 x3 l (r := base k - 16 + r.val) (by unfold base; omega)).symm
    pointwise []
    rfl
  gate r l := by
    have hk' := trip_lt k
    show View.readAt (Elt Ideal) arg1.view _ (harg1.unread x0) _ = _
    rw [View.readAt_unit_congr_cast _ (k0_off2_eq k), harg1.readAt_unread]
    refine Eq.trans ?_ (col_g x0 x1 x2 x3 l (r := base k + r.val) (by unfold base; omega)).symm
    pointwise []
    rfl
  other r l := by
    have hk' := trip_lt k
    show View.readAt (Elt Ideal) arg1.view _ (harg1.unread x0) _ = _
    rw [View.readAt_unit_congr_cast _ (k0_off3_eq k), harg1.readAt_unread]
    refine Eq.trans ?_ (col_u x0 x1 x2 x3 l (r := base k + r.val) (by unfold base; omega)).symm
    pointwise []
    rfl
  grad r l := by
    have hk' := trip_lt k
    show View.readAt (Elt Ideal) arg2.view _ (harg2.unread x1) _ = _
    rw [View.readAt_unit_congr_cast _ (k0_off4_eq k), harg2.readAt_unread]
    refine Eq.trans ?_ (col_a x0 x1 x2 x3 l (r := base k + r.val) (by unfold base; omega)).symm
    pointwise []
    rfl

/-- Where a stored chunk's element lies. -/
theorem emb_chunk (p : Fin 2) (R : ℕ) (hR : R + 128 ≤ 4096) {off : Fin 3 → ℕ} (e : off = ![p.val, R, 0])
    (inb : ∀ a, off a + S1x128x128.size a ≤ S2x4096x128.size a) (r l : Fin 128) :
    (Rect.unit (s := S2x4096x128) off S1x128x128.size inb).emb (ix3 0 r l) = ix3 p ⟨R + r.val, by omega⟩ l := by
  subst e
  funext a
  refine Fin.ext ?_
  match a with
  | ⟨0, _⟩ => show p.val + 1 * 0 = p.val; omega
  | ⟨1, _⟩ => show R + 1 * r.val = R + r.val; omega
  | ⟨2, _⟩ => show 0 + 1 * l.val = l.val; omega

/-- The loop's state before trip `n`: the rows handed on are the gradients of the rows just done, or zero before the
    first trip; the sums are over the rows done; and every block stored so far is a block of the gradients. -/
structure StateAt (n : ℕ) (s : Carry × List (View.Piece (Elt Ideal) S2x4096x128 .bf16)) : Prop where
  head : ∀ (r : Fin 16) l, s.1.1 (ix2 r l) = (col x0 x1 x2 x3 l).dconv (4096 - 128 * n + r.val)
  tap2 : ∀ (t : Fin 8) l, s.1.2.1 (ix2 t l)
    = ∑ q ∈ Finset.range n, ∑ a : Fin 16, (col x0 x1 x2 x3 l).dtap 2 (3968 - 128 * q + (a.val * 8 + t.val))
  tap1 : ∀ (t : Fin 8) l, s.1.2.2.1 (ix2 t l)
    = ∑ q ∈ Finset.range n, ∑ a : Fin 16, (col x0 x1 x2 x3 l).dtap 1 (3968 - 128 * q + (a.val * 8 + t.val))
  tap0 : ∀ (t : Fin 8) l, s.1.2.2.2.1 (ix2 t l)
    = ∑ q ∈ Finset.range n, ∑ a : Fin 16, (col x0 x1 x2 x3 l).dtap 0 (3968 - 128 * q + (a.val * 8 + t.val))
  bias : ∀ (t : Fin 8) l, s.1.2.2.2.2 (ix2 t l)
    = ∑ q ∈ Finset.range n, ∑ a : Fin 16, (col x0 x1 x2 x3 l).dconv (3968 - 128 * q + (a.val * 8 + t.val))
  stored : ∀ p ∈ s.2, ∀ x : p.1.shape.Idx, p.2 x = gradBranches x0 x1 x2 x3 (p.1.emb x)

/-- Before the first trip: zeros, and nothing stored. -/
theorem stateAt_zero : StateAt x0 x1 x2 x3 0 ((k0_pay2, k0_pay1, k0_pay1, k0_pay1, k0_pay1), []) where
  head r l := by
    unfold Col.dconv
    rw [if_neg (by omega)]
    pointwise [k0_pay2]
  tap2 t l := by rw [Finset.sum_range_zero]; pointwise [k0_pay1]
  tap1 t l := by rw [Finset.sum_range_zero]; pointwise [k0_pay1]
  tap0 t l := by rw [Finset.sum_range_zero]; pointwise [k0_pay1]
  bias t l := by rw [Finset.sum_range_zero]; pointwise [k0_pay1]
  stored p hp := absurd hp List.not_mem_nil

/-- The loop's state before each trip. -/
theorem stateAt (𝒱 : Variants) (c : Dev nD) (bd : Option 𝒱.V) (i : grid0.Coords)
    (arg1 : Memref sig .tc .vmem S2x4096x128 .bf16) (harg1 : arg1.IsWhole)
    (arg2 : Memref sig .tc .vmem S4096x128 .bf16) (harg2 : arg2.IsWhole)
    (arg3 : Memref sig .tc .vmem S3x128 .f32) (harg3 : arg3.IsWhole)
    (arg4 : Memref sig .tc .vmem S1x128 .f32) (harg4 : arg4.IsWhole)
    (arg5 : Memref sig .tc .vmem S2x4096x128 .bf16) (harg5 : arg5.IsWhole)
    (arg6 : Memref sig .tc .vmem S3x128 .f32) (harg6 : arg6.IsWhole)
    (arg7 : Memref sig .tc .vmem S1x128 .f32) (harg7 : arg7.IsWhole)
    (v0 v1 v2 v3 : Vec Ideal S1x128 .f32)
    (h0 : ∀ l, v0 (ix2 0 l) = x2 (ix2 0 l)) (h1 : ∀ l, v1 (ix2 0 l) = x2 (ix2 1 l)) (h2 : ∀ l, v2 (ix2 0 l) = x2 (ix2 2 l))
    (h3 : ∀ l, v3 (ix2 0 l) = x3 (ix2 0 l)) (n : ℕ) (hn : n ≤ k0_t1_loop.trips) :
    StateAt x0 x1 x2 x3 n (st_k0_t1 (F := Ideal) 𝒱 c bd i arg1 harg1 arg2 harg2 arg3 harg3 arg4 harg4 arg5 harg5 arg6 harg6
      arg7 harg7 v0 v1 v2 v3 (harg1.unread x0) (harg2.unread x1) (k0_pay2, k0_pay1, k0_pay1, k0_pay1, k0_pay1) n) := by
  induction n with
  | zero => exact stateAt_zero x0 x1 x2 x3
  | succ n ih =>
    have ih := ih (by omega)
    have hk : n < k0_t1_loop.trips := by omega
    have hn32 : n < 32 := trip_lt ⟨n, hk⟩
    have L := loaded x0 x1 x2 x3 arg1 harg1 arg2 harg2 v0 v1 v2 v3 ⟨n, hk⟩ h0 h1 h2 h3
    have e := st_k0_t1_succ (F := Ideal) 𝒱 c bd i arg1 harg1 arg2 harg2 arg3 harg3 arg4 harg4 arg5 harg5 arg6 harg6
      arg7 harg7 v0 v1 v2 v3 (harg1.unread x0) (harg2.unread x1) (k0_pay2, k0_pay1, k0_pay1, k0_pay1, k0_pay1) ⟨n, hk⟩
    dsimp only at e
    rw [e, trip_yields, trip_stores]
    clear e
    generalize st_k0_t1 (F := Ideal) 𝒱 c bd i arg1 harg1 arg2 harg2 arg3 harg3 arg4 harg4 arg5 harg5 arg6 harg6
      arg7 harg7 v0 v1 v2 v3 (harg1.unread x0) (harg2.unread x1) (k0_pay2, k0_pay1, k0_pay1, k0_pay1, k0_pay1) n = s at *
    refine ⟨fun r l => ?_, fun t l => ?_, fun t l => ?_, fun t l => ?_, fun t l => ?_, fun p hp => ?_⟩
    · refine (head_at L r l).trans ?_
      congr 1
      show 3968 - 128 * n + r.val = _
      omega
    · refine (tap2_at L s.1.2.1 t l).trans ?_
      rw [ih.tap2, Finset.sum_range_succ]
      rfl
    · refine (tap1_at L s.1.2.2.1 t l).trans ?_
      rw [ih.tap1, Finset.sum_range_succ]
      rfl
    · refine (tap0_at L s.1.2.2.2.1 t l).trans ?_
      rw [ih.tap0, Finset.sum_range_succ]
      rfl
    · refine (bias_at L s.1.2.2.2.2 t l).trans ?_
      rw [ih.bias, Finset.sum_range_succ]
      rfl
    · rcases List.mem_append.mp hp with hp | hp
      · rcases List.mem_cons.mp hp with rfl | hp
        · intro x
          obtain ⟨r, l, rfl⟩ : ∃ r l : Fin 128, x = ix3 0 r l := ⟨x 1, x 2, by
            exact (eq_ix3 (n0 := 1) x).trans (congrArg (fun z : Fin 1 => ix3 z (x 1) (x 2)) (Subsingleton.elim _ _))⟩
          dsimp only
          rw [emb_chunk 0 (3968 - 128 * n) (by omega) (k0_off2_eq ⟨n, hk⟩)]
          refine (dgate_at L s.1.1 (fun r l => ?_) r l).trans ?_
          · rw [ih.head]
            congr 1
            show _ = 3968 - 128 * n + 128 + r.val
            omega
          · rfl
        · rcases List.mem_cons.mp hp with rfl | hp
          · intro x
            obtain ⟨r, l, rfl⟩ : ∃ r l : Fin 128, x = ix3 0 r l := ⟨x 1, x 2, by
              exact (eq_ix3 (n0 := 1) x).trans (congrArg (fun z : Fin 1 => ix3 z (x 1) (x 2)) (Subsingleton.elim _ _))⟩
            dsimp only
            rw [emb_chunk 1 (3968 - 128 * n) (by omega) (k0_off3_eq ⟨n, hk⟩)]
            exact (dup_at L r l).trans rfl
          · exact absurd hp List.not_mem_nil
      · exact ih.stored p hp

end

end Cert.KernelIdeal.Rows

end
-- ==== Proof.Blocks.lean ====
module

public import proofs.«01_k».proof.Proof.State
public import proofs.«01_k».proof.Proof.Gen.KernelIdeal.Value
public import Idealize.ShloMosaic.Lib.Pipeline.ValueKit

/-!
# The three result arrays after the run

A block of columns leaves the gradients of its columns; the blocks tile the arrays, so the arrays hold the gradients of
the whole arguments.
-/

@[expose] public section

set_option maxRecDepth 16384

noncomputable section

namespace Cert.KernelIdeal.Rows

open Idealize.ShloMosaic Idealize.ShloMosaic.TcCoe Idealize.SL.Sem
open Cert.KernelIdeal Cert.KernelIdeal.Gen Cert.GatedConv

/-- Eight rows of running sums added up: row 0 of the store. -/
theorem pay5_at (v : FVec Ideal S8x128 .f32) (l : Fin 128) : k0_pay5 v (ix2 0 l) = ∑ t : Fin 8, v (ix2 t l) := by
  pointwise [k0_pay5]

theorem pay6_at (v : FVec Ideal S8x128 .f32) (l : Fin 128) : k0_pay6 v (ix2 0 l) = ∑ t : Fin 8, v (ix2 t l) := by
  pointwise [k0_pay6]

theorem pay7_at (v : FVec Ideal S8x128 .f32) (l : Fin 128) : k0_pay7 v (ix2 0 l) = ∑ t : Fin 8, v (ix2 t l) := by
  pointwise [k0_pay7]

theorem pay8_at (v : FVec Ideal S8x128 .f32) (l : Fin 128) : k0_pay8 v (ix2 0 l) = ∑ t : Fin 8, v (ix2 t l) := by
  pointwise [k0_pay8]

section Rows

variable (x0 : Vec Ideal S2x4096x128 .bf16) (x1 : Vec Ideal S4096x128 .bf16) (x2 : Vec Ideal S3x128 .f32) (x3 : Vec Ideal S1x128 .f32)

/-- An index of a one-row array. -/
theorem eq_row (x : (⟨2, ![1, 128]⟩ : Shape).Idx) : x = ix2 0 (x 1) := by
  idx_vars x
  obtain rfl : x0 = 0 := Subsingleton.elim _ _
  rfl

/-- A row of the weights' gradients, from the running sums of its delay. -/
theorem tap_piece {v : FVec Ideal S8x128 .f32} (w : (⟨2, ![1, 128]⟩ : Shape).Idx → EReal) (k : ℕ)
    (hw : ∀ l, w (ix2 0 l) = ∑ t : Fin 8, v (ix2 t l))
    (hv : ∀ (t : Fin 8) l, v (ix2 t l) = ∑ q ∈ Finset.range 32, ∑ a : Fin 16,
      (col x0 x1 x2 x3 l).dtap (2 - k) (3968 - 128 * q + (a.val * 8 + t.val)))
    (y : (⟨2, ![3, 128]⟩ : Shape).Idx) (h0 : (y 0).val = k) (l : Fin 128) (h1 : y 1 = l)
    (x : (⟨2, ![1, 128]⟩ : Shape).Idx) (hx : x = ix2 0 l) :
    w x = gradWeights x0 x1 x2 x3 y := by
  subst hx
  rw [hw, Finset.sum_congr rfl fun t _ => hv t l]
  refine (sum_chunks fun r => (col x0 x1 x2 x3 l).dtap (2 - k) r).trans ?_
  unfold gradWeights
  rw [h0, h1]

/-- The bias's gradient, from the running sums. -/
theorem bias_piece {v : FVec Ideal S8x128 .f32} (w : (⟨2, ![1, 128]⟩ : Shape).Idx → EReal)
    (hw : ∀ l, w (ix2 0 l) = ∑ t : Fin 8, v (ix2 t l))
    (hv : ∀ (t : Fin 8) l, v (ix2 t l) = ∑ q ∈ Finset.range 32, ∑ a : Fin 16,
      (col x0 x1 x2 x3 l).dconv (3968 - 128 * q + (a.val * 8 + t.val)))
    (y : (⟨2, ![1, 128]⟩ : Shape).Idx) (l : Fin 128) (h1 : y 1 = l)
    (x : (⟨2, ![1, 128]⟩ : Shape).Idx) (hx : x = ix2 0 l) :
    w x = gradBias x0 x1 x2 x3 y := by
  subst hx
  rw [hw, Finset.sum_congr rfl fun t _ => hv t l]
  refine (sum_chunks fun r => (col x0 x1 x2 x3 l).dconv r).trans ?_
  unfold gradBias
  rw [h1]

end Rows

section Block

variable (c : Dev nD) (i : grid0.Coords)
    (arg1 : Memref sig .tc .vmem S2x4096x128 .bf16) (harg1 : arg1.IsWhole)
    (arg2 : Memref sig .tc .vmem S4096x128 .bf16) (harg2 : arg2.IsWhole)
    (arg3 : Memref sig .tc .vmem S3x128 .f32) (harg3 : arg3.IsWhole)
    (arg4 : Memref sig .tc .vmem S1x128 .f32) (harg4 : arg4.IsWhole)
    (arg5 : Memref sig .tc .vmem S2x4096x128 .bf16) (harg5 : arg5.IsWhole)
    (arg6 : Memref sig .tc .vmem S3x128 .f32) (harg6 : arg6.IsWhole)
    (arg7 : Memref sig .tc .vmem S1x128 .f32) (harg7 : arg7.IsWhole)
    (x0 : Vec Ideal S2x4096x128 .bf16) (x1 : Vec Ideal S4096x128 .bf16) (x2 : Vec Ideal S3x128 .f32) (x3 : Vec Ideal S1x128 .f32)

/-- The loop's state after its last trip, in the run's own words. -/
abbrev lastState : Carry × List (View.Piece (Elt Ideal) S2x4096x128 .bf16) :=
  st_k0_t1 (F := Ideal) Variants.none c none i arg1 harg1 arg2 harg2 arg3 harg3 arg4 harg4 arg5 harg5 arg6 harg6 arg7 harg7
    (View.readAt (Elt Ideal) arg3.view (Rect.unit (s := S3x128) ![0, 0] ![1, 128] inb_S3x128_S1x128_0_0).toLoadRect (harg3.unread x2))
    (View.readAt (Elt Ideal) arg3.view (Rect.unit (s := S3x128) ![1, 0] ![1, 128] inb_S3x128_S1x128_1_0).toLoadRect (harg3.unread x2))
    (View.readAt (Elt Ideal) arg3.view (Rect.unit (s := S3x128) ![2, 0] ![1, 128] inb_S3x128_S1x128_2_0).toLoadRect (harg3.unread x2))
    (View.readAt (Elt Ideal) arg4.view (Rect.unit (s := S1x128) ![0, 0] ![1, 128] inb_S1x128_S1x128_0_0).toLoadRect (harg4.unread x3))
    (harg1.unread x0) (harg2.unread x1) (k0_pay2, k0_pay1, k0_pay1, k0_pay1, k0_pay1) (Scf.trips 0#32 (Scalar.addi 0#32 32#32) 1#32)

/-- After the last trip: the loop's state is that of 32 trips. -/
theorem lastState_at : StateAt x0 x1 x2 x3 32
    (lastState c i arg1 harg1 arg2 harg2 arg3 harg3 arg4 harg4 arg5 harg5 arg6 harg6 arg7 harg7 x0 x1 x2 x3) := by
  have e : Scf.trips 0#32 (Scalar.addi 0#32 32#32) 1#32 = 32 := by decide +kernel
  unfold lastState
  rw [e]
  refine stateAt x0 x1 x2 x3 _ c _ i arg1 harg1 arg2 harg2 arg3 harg3 arg4 harg4 arg5 harg5 arg6 harg6 arg7 harg7
    _ _ _ _ (fun l => ?_) (fun l => ?_) (fun l => ?_) (fun l => ?_) 32 (le_of_eq e.symm)
  · rw [harg3.readAt_unread]; pointwise []
  · rw [harg3.readAt_unread]; pointwise []
  · rw [harg3.readAt_unread]; pointwise []
  · rw [harg4.readAt_unread]; pointwise []

/-- The first result's block: the gradients of the block's columns. -/
theorem out4 : out0_A_4 (F := Ideal) c i arg1 harg1 arg2 harg2 arg3 harg3 arg4 harg4 arg5 harg5 arg6 harg6 arg7 harg7 x0 x1 x2 x3
    = gradBranches x0 x1 x2 x3 := by
  have e : (kernelRun0_A (F := Ideal) c i arg1 harg1 arg2 harg2 arg3 harg3 arg4 harg4 arg5 harg5 arg6 harg6 arg7 harg7 x0 x1 x2 x3).1
      = (lastState c i arg1 harg1 arg2 harg2 arg3 harg3 arg4 harg4 arg5 harg5 arg6 harg6 arg7 harg7 x0 x1 x2 x3).2 := by
    unfold kernelRun0_A; rfl
  have h := lastState_at c i arg1 harg1 arg2 harg2 arg3 harg3 arg4 harg4 arg5 harg5 arg6 harg6 arg7 harg7 x0 x1 x2 x3
  funext y
  unfold out0_A_4
  refine View.read_writes_apply_of_pieces (Val := Elt Ideal) _ _ (gradBranches x0 x1 x2 x3) _ ?_ y (cover0_A_4 _ _ _ _ _ _ _ _ _ _ _ _ _ _ _ _ _ _ _ _ y)
  rw [e]
  exact h.stored

/-- The second result's block: the gradients of the weights. -/
theorem out5 : out0_A_5 (F := Ideal) c i arg1 harg1 arg2 harg2 arg3 harg3 arg4 harg4 arg5 harg5 arg6 harg6 arg7 harg7 x0 x1 x2 x3
    = gradWeights x0 x1 x2 x3 := by
  have e : (kernelRun0_A (F := Ideal) c i arg1 harg1 arg2 harg2 arg3 harg3 arg4 harg4 arg5 harg5 arg6 harg6 arg7 harg7 x0 x1 x2 x3).2.1
      = [⟨Rect.unit (s := S3x128) ![2, 0] ![1, 128] inb_S3x128_S1x128_2_0, k0_pay7 (lastState c i arg1 harg1 arg2 harg2 arg3 harg3 arg4 harg4 arg5 harg5 arg6 harg6 arg7 harg7 x0 x1 x2 x3).1.2.2.2.1⟩,
         ⟨Rect.unit (s := S3x128) ![1, 0] ![1, 128] inb_S3x128_S1x128_1_0, k0_pay6 (lastState c i arg1 harg1 arg2 harg2 arg3 harg3 arg4 harg4 arg5 harg5 arg6 harg6 arg7 harg7 x0 x1 x2 x3).1.2.2.1⟩,
         ⟨Rect.unit (s := S3x128) ![0, 0] ![1, 128] inb_S3x128_S1x128_0_0, k0_pay5 (lastState c i arg1 harg1 arg2 harg2 arg3 harg3 arg4 harg4 arg5 harg5 arg6 harg6 arg7 harg7 x0 x1 x2 x3).1.2.1⟩] := by
    unfold kernelRun0_A; rfl
  have h := lastState_at c i arg1 harg1 arg2 harg2 arg3 harg3 arg4 harg4 arg5 harg5 arg6 harg6 arg7 harg7 x0 x1 x2 x3
  generalize lastState c i arg1 harg1 arg2 harg2 arg3 harg3 arg4 harg4 arg5 harg5 arg6 harg6 arg7 harg7 x0 x1 x2 x3 = s at e h
  funext y
  unfold out0_A_5
  refine View.read_writes_apply_of_pieces (Val := Elt Ideal) _ _ (gradWeights x0 x1 x2 x3) _ ?_ y (cover0_A_5 _ _ _ _ _ _ _ _ _ _ _ _ _ _ _ _ _ _ _ _ y)
  rw [e]
  simp only [List.forall_mem_cons, List.not_mem_nil, false_imp_iff, implies_true, and_true]
  refine ⟨fun x => ?_, fun x => ?_, fun x => ?_⟩
  · exact tap_piece x0 x1 x2 x3 _ 2 (pay7_at _) h.tap0 _ (by show 2 + 1 * (x 0).val = 2; have := (x 0).isLt; change _ < 1 at this; omega) _
      (Fin.ext (by show 0 + 1 * (x 1).val = _; omega)) _ (eq_row x)
  · exact tap_piece x0 x1 x2 x3 _ 1 (pay6_at _) h.tap1 _ (by show 1 + 1 * (x 0).val = 1; have := (x 0).isLt; change _ < 1 at this; omega) _
      (Fin.ext (by show 0 + 1 * (x 1).val = _; omega)) _ (eq_row x)
  · exact tap_piece x0 x1 x2 x3 _ 0 (pay5_at _) h.tap2 _ (by show 0 + 1 * (x 0).val = 0; have := (x 0).isLt; change _ < 1 at this; omega) _
      (Fin.ext (by show 0 + 1 * (x 1).val = _; omega)) _ (eq_row x)

/-- The third result's block: the gradient of the bias. -/
theorem out6 : out0_A_6 (F := Ideal) c i arg1 harg1 arg2 harg2 arg3 harg3 arg4 harg4 arg5 harg5 arg6 harg6 arg7 harg7 x0 x1 x2 x3
    = gradBias x0 x1 x2 x3 := by
  have e : (kernelRun0_A (F := Ideal) c i arg1 harg1 arg2 harg2 arg3 harg3 arg4 harg4 arg5 harg5 arg6 harg6 arg7 harg7 x0 x1 x2 x3).2.2.1
      = [⟨Rect.unit (s := S1x128) ![0, 0] ![1, 128] inb_S1x128_S1x128_0_0, k0_pay8 (lastState c i arg1 harg1 arg2 harg2 arg3 harg3 arg4 harg4 arg5 harg5 arg6 harg6 arg7 harg7 x0 x1 x2 x3).1.2.2.2.2⟩] := by
    unfold kernelRun0_A; rfl
  have h := lastState_at c i arg1 harg1 arg2 harg2 arg3 harg3 arg4 harg4 arg5 harg5 arg6 harg6 arg7 harg7 x0 x1 x2 x3
  generalize lastState c i arg1 harg1 arg2 harg2 arg3 harg3 arg4 harg4 arg5 harg5 arg6 harg6 arg7 harg7 x0 x1 x2 x3 = s at e h
  funext y
  unfold out0_A_6
  refine View.read_writes_apply_of_pieces (Val := Elt Ideal) _ _ (gradBias x0 x1 x2 x3) _ ?_ y (cover0_A_6 _ _ _ _ _ _ _ _ _ _ _ _ _ _ _ _ _ _ _ _ y)
  rw [e]
  simp only [List.forall_mem_cons, List.not_mem_nil, false_imp_iff, implies_true, and_true]
  intro x
  exact bias_piece x0 x1 x2 x3 _ (pay8_at _) h.bias _ _ (Fin.ext (by show 0 + 1 * (x 1).val = _; omega)) _ (eq_row x)

end Block

section Arrays

variable (m : (ℓ : Loc nD τ sig) → Buf (Elt Ideal) ℓ) (c : Dev nD)

/-- Every block holds all rows of 128 columns, the same columns in every array. -/
theorem windows_at (t : Fin cfg0.N) :
    win0_0.index t = ![0, 0, t.val] ∧ win0_1.index t = ![0, t.val] ∧ win0_2.index t = ![0, t.val] ∧ win0_3.index t = ![0, t.val]
      ∧ win0_4.index t = ![0, 0, t.val] ∧ win0_5.index t = ![0, t.val] ∧ win0_6.index t = ![0, t.val] := by
  revert t
  decide +kernel

/-- Column `l` of block `t` is column `128 t + l` of the arrays. -/
theorem col_block (t : Fin cfg0.N) (l : Fin 128) (l' : Fin 2816) (h : l'.val = t.val * 128 + l.val) :
    col (iblk m c 0 t) (iblk m c 1 t) (iblk m c 2 t) (iblk m c 3 t) l
      = col (m ((c : Thread nD τ).loc main_arg0)) (m ((c : Thread nD τ).loc main_arg1))
          (m ((c : Thread nD τ).loc main_arg2)) (m ((c : Thread nD τ).loc main_arg3)) l' := by
  obtain ⟨e0, e1, e2, e3, -⟩ := windows_at t
  have h0 : ∀ (p : Fin 2) (r : Fin 4096), iblk m c 0 t (ix3 p r l) = m ((c : Thread nD τ).loc main_arg0) (ix3 p r l') := fun p r => by
    blk_ext [iblk, V, e0]
  have h1 : ∀ (r : Fin 4096), iblk m c 1 t (ix2 r l) = m ((c : Thread nD τ).loc main_arg1) (ix2 r l') := fun r => by
    blk_ext [iblk, V, e1]
  have h2 : ∀ (k : Fin 3), iblk m c 2 t (ix2 k l) = m ((c : Thread nD τ).loc main_arg2) (ix2 k l') := fun k => by
    blk_ext [iblk, V, e2]
  have h3 : ∀ (k : Fin 1), iblk m c 3 t (ix2 k l) = m ((c : Thread nD τ).loc main_arg3) (ix2 k l') := fun k => by
    blk_ext [iblk, V, e3]
  unfold col
  congr 1
  · exact congrArg rows (funext fun r => h0 0 r)
  · exact congrArg rows (funext fun r => h0 1 r)
  · exact congrArg rows (funext fun r => h1 r)
  · exact h2 0
  · exact h2 1
  · exact h2 2
  · exact h3 0

/-- The first result after the run. -/
theorem arr4 : (dats (F := Ideal) m 0 c).arrAt 4 cfg0.N
    = gradBranches (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  rw [out4]
  obtain ⟨-, -, -, -, e, -⟩ := windows_at t
  have p0 : ((win0_4.blk t).view.emb y 0).val = (y 0).val := by blk_simp [e]
  have p1 : ((win0_4.blk t).view.emb y 1).val = (y 1).val := by blk_simp [e]
  have p2 : ((win0_4.blk t).view.emb y 2).val = t.val * 128 + (y 2).val := by blk_simp [e]
  show gradBranches _ _ _ _ y = _
  unfold gradBranches
  rw [p0, p1, col_block m c t (y 2) ((win0_4.blk t).view.emb y 2) p2]

/-- The second result after the run. -/
theorem arr5 : (dats (F := Ideal) m 0 c).arrAt 5 cfg0.N
    = gradWeights (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  dsimp only
  rw [out5]
  obtain ⟨-, -, -, -, -, e, -⟩ := windows_at t
  have p0 : ((win0_5.blk t).view.emb y 0).val = (y 0).val := by blk_simp [e]
  have p1 : ((win0_5.blk t).view.emb y 1).val = t.val * 128 + (y 1).val := by blk_simp [e]
  unfold gradWeights
  rw [p0, col_block m c t (y 1) ((win0_5.blk t).view.emb y 1) p1]

/-- The third result after the run. -/
theorem arr6 : (dats (F := Ideal) m 0 c).arrAt 6 cfg0.N
    = gradBias (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  dsimp only
  rw [out6]
  obtain ⟨-, -, -, -, -, -, e⟩ := windows_at t
  have p1 : ((win0_6.blk t).view.emb y 1).val = t.val * 128 + (y 1).val := by blk_simp [e]
  unfold gradBias
  rw [col_block m c t (y 1) ((win0_6.blk t).view.emb y 1) p1]

end Arrays

end Cert.KernelIdeal.Rows

end
-- ==== Proof.RefValue.lean ====
module

public import proofs.«01_k».proof.Proof.Sigmoid
public import proofs.«01_k».proof.Proof.Gen.ReferenceIdeal.Read

/-!
# What the reference computes

Its three results at an index, column by column.
-/

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Read Cert.GatedConv

variable (x0 : (⟨S2x4096x2816, .bf16⟩ : BufTy).Contents (Elt Ideal)) (x1 : (⟨S4096x2816, .bf16⟩ : BufTy).Contents (Elt Ideal))
  (x2 : (⟨S3x2816, .f32⟩ : BufTy).Contents (Elt Ideal)) (x3 : (⟨S1x2816, .f32⟩ : BufTy).Contents (Elt Ideal))
  (r : Fin 4096) (l : Fin 2816)

theorem gate_at : val_main_v2 (F := Ideal) x0 (ix2 r l) = (col x0 x1 x2 x3 l).g r := by
  rw [col_g x0 x1 x2 x3 l r.isLt]
  pointwise [val_main_v2, val_main_v1, val_main_v0]

theorem other_at : val_main_v4 (F := Ideal) x0 (ix2 r l) = (col x0 x1 x2 x3 l).u r := by
  rw [col_u x0 x1 x2 x3 l r.isLt]
  pointwise [val_main_v4, val_main_v3, val_main_v0]

theorem grad_at : val_main_v26 (F := Ideal) x1 (ix2 r l) = (col x0 x1 x2 x3 l).a r := by
  rw [col_a x0 x1 x2 x3 l r.isLt]
  pointwise [val_main_v26]

/-- The padded gate from its third row on: the gate. -/
theorem padded_at (y : (⟨S4096x2816, .f32⟩ : BufTy).Contents (Elt Ideal)) (g : ℕ → EReal)
    (h : ∀ r : Fin 4096, y (ix2 r l) = g r) (s : ℕ) (hs : s ≤ 2) (z : EReal) (hz : z = 0)
    (hlt : ¬ r.val + (2 - s) < 2 → r.val + (2 - s) - 2 < 4096) :
    (if hr : r.val + (2 - s) < 2 then z else y (ix2 ⟨r.val + (2 - s) - 2, hlt hr⟩ l)) = delay s g r.val := by
  unfold delay
  by_cases hr : r.val + (2 - s) < 2
  · rw [dif_pos hr, if_pos (by omega), hz]
  · rw [dif_neg hr, if_neg (by omega), h]
    congr 1
    show r.val + (2 - s) - 2 = _
    omega

theorem delay2_at : val_main_v8 (F := Ideal) x0 (ix2 r l) = delay 2 (col x0 x1 x2 x3 l).g r := by
  have h := gate_at x0 x1 x2 x3 (l := l)
  unfold val_main_v8 val_main_v6
  generalize val_main_v2 (F := Ideal) x0 = y at h ⊢
  refine Eq.trans ?_ (padded_at r l y _ h 2 le_rfl (val_main_cst (F := Ideal) ix0) (by pointwise [val_main_cst]) (by omega))
  pointwise [val_main_v5]

theorem delay1_at : val_main_v12 (F := Ideal) x0 (ix2 r l) = delay 1 (col x0 x1 x2 x3 l).g r := by
  have h := gate_at x0 x1 x2 x3 (l := l)
  unfold val_main_v12 val_main_v6
  generalize val_main_v2 (F := Ideal) x0 = y at h ⊢
  refine Eq.trans ?_ (padded_at r l y _ h 1 (by omega) (val_main_cst (F := Ideal) ix0) (by pointwise [val_main_cst]) (by omega))
  pointwise [val_main_v5]
  simp only [Nat.add_comm 1 r.val]

theorem delay0_at : val_main_v17 (F := Ideal) x0 (ix2 r l) = delay 0 (col x0 x1 x2 x3 l).g r := by
  have h := gate_at x0 x1 x2 x3 (l := l)
  unfold val_main_v17 val_main_v6
  generalize val_main_v2 (F := Ideal) x0 = y at h ⊢
  refine Eq.trans ?_ (padded_at r l y _ h 0 (by omega) (val_main_cst (F := Ideal) ix0) (by pointwise [val_main_cst]) (by omega))
  pointwise [val_main_v5]
  rw [dif_neg (by omega)]
  rfl

theorem conv_at : val_main_v23 (F := Ideal) x0 x2 x3 (ix2 r l) = (col x0 x1 x2 x3 l).conv r := by
  have h8 := delay2_at x0 x1 x2 x3 r l
  have h12 := delay1_at x0 x1 x2 x3 r l
  have h17 := delay0_at x0 x1 x2 x3 r l
  unfold val_main_v23 val_main_v21 val_main_v16 val_main_v11 val_main_v15 val_main_v20
  generalize val_main_v8 (F := Ideal) x0 = y8 at h8 ⊢
  generalize val_main_v12 (F := Ideal) x0 = y12 at h12 ⊢
  generalize val_main_v17 (F := Ideal) x0 = y17 at h17 ⊢
  pointwise [val_main_v9, val_main_v10, val_main_v13, val_main_v14, val_main_v18, val_main_v19, val_main_v22]
  rw [h8, h12, h17, delay_zero]
  unfold Col.conv
  rw [mul_comm (delay 2 _ _), mul_comm (delay 1 _ _), mul_comm ((col x0 x1 x2 x3 l).g _)]
  rfl

/-- The reference's sigmoid. -/
theorem logistic_at : val_main_v24_2 (F := Ideal) x0 x2 x3 (ix2 r l) = Ideal.logistic ((col x0 x1 x2 x3 l).conv r) := by
  have h := conv_at x0 x1 x2 x3 r l
  unfold val_main_v24_2 val_main_call0_v3 val_main_call0_v1 val_main_call0_v0
  generalize val_main_v23 (F := Ideal) x0 x2 x3 = y at h ⊢
  pointwise [val_main_call0_v4, val_main_call0_cst_0, val_main_call0_v2, val_main_call0_cst]
  rw [h]
  rfl

/-- The gradient with respect to the convolution's value. -/
theorem dconv_at (hu : ∃ q : ℝ, (col x0 x1 x2 x3 l).a r * (col x0 x1 x2 x3 l).u r = q) :
    val_main_v29 (F := Ideal) x0 x1 x2 x3 (ix2 r l) = (col x0 x1 x2 x3 l).dconv r := by
  have h := conv_at x0 x1 x2 x3 r l
  have hs := logistic_at x0 x1 x2 x3 r l
  have h4 := other_at x0 x1 x2 x3 r l
  have h26 := grad_at x0 x1 x2 x3 r l
  unfold val_main_v29 val_main_call1_v1 val_main_call1_v2 val_main_call1_v0 val_main_v24_1 val_main_call0_v7 val_main_v28
  generalize val_main_v23 (F := Ideal) x0 x2 x3 = y at h ⊢
  generalize val_main_v24_2 (F := Ideal) x0 x2 x3 = s at hs ⊢
  generalize val_main_v4 (F := Ideal) x0 = u at h4 ⊢
  generalize val_main_v26 (F := Ideal) x1 = a at h26 ⊢
  pointwise [val_main_call0_v6, val_main_call0_cst_1]
  rw [h, hs, h4, h26]
  unfold Col.dconv
  rw [if_pos r.isLt, ← silu_grad _ _ hu]

/-- The gradient with respect to the other branch. -/
theorem dup_at : val_main_v27 (F := Ideal) x0 x1 x2 x3 (ix2 r l) = (col x0 x1 x2 x3 l).dup r := by
  have h := conv_at x0 x1 x2 x3 r l
  have hs := logistic_at x0 x1 x2 x3 r l
  have h26 := grad_at x0 x1 x2 x3 r l
  unfold val_main_v27 val_main_v24_0
  generalize val_main_v23 (F := Ideal) x0 x2 x3 = y at h ⊢
  generalize val_main_v24_2 (F := Ideal) x0 x2 x3 = s at hs ⊢
  generalize val_main_v26 (F := Ideal) x1 = a at h26 ⊢
  pointwise []
  rw [h, hs, h26, ← sig_eq]
  unfold Col.dup
  rw [mul_comm, mul_assoc]

/-- The gradient of the bias. -/
theorem bias_at (d : (⟨S4096x2816, .f32⟩ : BufTy).Contents (Elt Ideal)) (hd : val_main_v29 (F := Ideal) x0 x1 x2 x3 = d) :
    val_main_v31 (F := Ideal) x0 x1 x2 x3 (ix2 0 l) = ∑ r : Fin 4096, d (ix2 r l) := by
  unfold val_main_v31 val_main_v30
  rw [hd]
  pointwise [val_main_cst_1]

/-- The gradients of the weights. -/
theorem weights_at (d y8 y12 y17 : (⟨S4096x2816, .f32⟩ : BufTy).Contents (Elt Ideal)) (hd : val_main_v29 (F := Ideal) x0 x1 x2 x3 = d)
    (h8 : val_main_v8 (F := Ideal) x0 = y8) (h12 : val_main_v12 (F := Ideal) x0 = y12) (h17 : val_main_v17 (F := Ideal) x0 = y17) (k : Fin 3) :
    val_main_v54 (F := Ideal) x0 x1 x2 x3 (ix2 k l)
      = (if 2 ≤ k.val ∧ k.val - 2 < 1 then ∑ r : Fin 4096, y17 (ix2 r l) * d (ix2 r l) else 0)
        + (if 1 ≤ k.val ∧ k.val - 1 < 1 then ∑ r : Fin 4096, y12 (ix2 r l) * d (ix2 r l) else 0)
        + (if k.val < 1 then ∑ r : Fin 4096, y8 (ix2 r l) * d (ix2 r l) else 0) := by
  unfold val_main_v54 val_main_v45 val_main_v53 val_main_v37 val_main_v44 val_main_v34 val_main_v41 val_main_v50
    val_main_v33 val_main_v40 val_main_v49 val_main_v32 val_main_v39 val_main_v48
  rw [hd, h8, h12, h17]
  pointwise [val_main_cst_2, val_main_cst_3, val_main_cst_5, val_main_cst_6, val_main_cst_8, val_main_cst_9]
  simp only [dite_eq_ite]

/-- The gradients of the two branches. -/
theorem branches_at (d e : (⟨S4096x2816, .f32⟩ : BufTy).Contents (Elt Ideal)) (hd : val_main_v29 (F := Ideal) x0 x1 x2 x3 = d)
    (he : val_main_v27 (F := Ideal) x0 x1 x2 x3 = e) (p : Fin 2) :
    val_main_v64 (F := Ideal) x0 x1 x2 x3 (ix3 p r l)
      = (if 1 ≤ p.val ∧ p.val - 1 < 1 then e (ix2 r l) else 0)
        + (if p.val < 1 then
            d (ix2 r l) * x2 (ix2 2 l)
              + (if h : 1 ≤ 2 + r.val ∧ 2 + r.val - 1 < 4096 then d (ix2 ⟨2 + r.val - 1, h.2⟩ l) * x2 (ix2 1 l) else 0)
              + (if h : 2 + r.val < 4096 then d (ix2 ⟨2 + r.val, h⟩ l) * x2 (ix2 0 l) else 0)
          else 0) := by
  unfold val_main_v64 val_main_v63 val_main_v62 val_main_v61 val_main_v60 val_main_v59 val_main_v58 val_main_v56 val_main_v55
    val_main_v47 val_main_v46 val_main_v38 val_main_v52 val_main_v43 val_main_v36
  rw [hd, he]
  pointwise [val_main_v35, val_main_v42, val_main_v51, val_main_v9, val_main_v13, val_main_v18, val_main_cst_7, val_main_cst_10,
    val_main_cst_11, val_main_cst_12]
  simp only [dite_eq_ite]

section Results

variable (hu : ∀ (r : Fin 4096) (l : Fin 2816), ∃ q : ℝ, (col x0 x1 x2 x3 l).a r * (col x0 x1 x2 x3 l).u r = q)

include hu

/-- The first result: the gradients of the two branches. -/
theorem branches_eq : val_main_v64 (F := Ideal) x0 x1 x2 x3 = gradBranches x0 x1 x2 x3 := by
  funext j
  idx_vars j
  have hd := fun r l => dconv_at x0 x1 x2 x3 r l (hu r l)
  have he := dup_at x0 x1 x2 x3
  have h := branches_at x0 x1 x2 x3 j1 j2 _ _ rfl rfl j0
  generalize val_main_v29 (F := Ideal) x0 x1 x2 x3 = d at hd h
  generalize val_main_v27 (F := Ideal) x0 x1 x2 x3 = e at he h
  rw [h]
  unfold gradBranches
  show _ = if j0.val = 0 then (col x0 x1 x2 x3 j2).dgate j1.val else (col x0 x1 x2 x3 j2).dup j1.val
  have past : ∀ r : ℕ, ¬ r < 4096 → (col x0 x1 x2 x3 j2).dconv r = 0 := fun r hr => if_neg hr
  by_cases h0 : j0.val = 0
  · rw [if_neg (by omega), if_pos (by omega), if_pos h0, zero_add]
    unfold Col.dgate
    congr 1
    · congr 1
      · rw [hd, mul_comm]; rfl
      · by_cases h1 : j1.val + 1 < 4096
        · rw [dif_pos (by omega), hd, mul_comm]
          show _ * (col x0 x1 x2 x3 j2).dconv (2 + j1.val - 1) = _
          rw [show 2 + j1.val - 1 = j1.val + 1 by omega]
          rfl
        · rw [dif_neg (by omega), past _ h1, mul_zero]
    · by_cases h1 : j1.val + 2 < 4096
      · rw [dif_pos (by omega), hd, mul_comm]
        show _ * (col x0 x1 x2 x3 j2).dconv (2 + j1.val) = _
        rw [Nat.add_comm 2]
        rfl
      · rw [dif_neg (by omega), past _ h1, mul_zero]
  · rw [if_pos (by omega), if_neg (by omega), if_neg h0, add_zero, he]

/-- The second result: the gradients of the weights. -/
theorem weights_eq : val_main_v54 (F := Ideal) x0 x1 x2 x3 = gradWeights x0 x1 x2 x3 := by
  funext j
  idx_vars j
  have hd := fun r l => dconv_at x0 x1 x2 x3 r l (hu r l)
  have h8 := delay2_at x0 x1 x2 x3
  have h12 := delay1_at x0 x1 x2 x3
  have h17 := delay0_at x0 x1 x2 x3
  have h := weights_at x0 x1 x2 x3 j1 _ _ _ _ rfl rfl rfl rfl j0
  generalize val_main_v29 (F := Ideal) x0 x1 x2 x3 = d at hd h
  generalize val_main_v8 (F := Ideal) x0 = y8 at h8 h
  generalize val_main_v12 (F := Ideal) x0 = y12 at h12 h
  generalize val_main_v17 (F := Ideal) x0 = y17 at h17 h
  rw [h]
  unfold gradWeights
  show _ = ∑ r : Fin 4096, (col x0 x1 x2 x3 j1).dtap (2 - j0.val) r.val
  have hk : j0.val = 0 ∨ j0.val = 1 ∨ j0.val = 2 := by omega
  rcases hk with hk | hk | hk
  · rw [if_neg (by omega), if_neg (by omega), if_pos (by omega), zero_add, zero_add, hk]
    exact Finset.sum_congr rfl fun r _ => by rw [h8, hd, mul_comm]; rfl
  · rw [if_neg (by omega), if_pos (by omega), if_neg (by omega), zero_add, add_zero, hk]
    exact Finset.sum_congr rfl fun r _ => by rw [h12, hd, mul_comm]; rfl
  · rw [if_pos (by omega), if_neg (by omega), if_neg (by omega), add_zero, add_zero, hk]
    exact Finset.sum_congr rfl fun r _ => by rw [h17, hd, mul_comm]; rfl

/-- The third result: the gradient of the bias. -/
theorem bias_eq : val_main_v31 (F := Ideal) x0 x1 x2 x3 = gradBias x0 x1 x2 x3 := by
  funext j
  idx_vars j
  obtain rfl : j0 = 0 := Subsingleton.elim _ _
  refine (bias_at x0 x1 x2 x3 j1 _ rfl).trans ?_
  unfold gradBias
  exact Finset.sum_congr rfl fun r _ => dconv_at x0 x1 x2 x3 r j1 (hu r j1)

end Results

end Cert.ReferenceIdeal.Rows

end
-- ==== Proof.lean ====
/-
The proof of the certificate's claim: the frames are the generated ones; the value claim of the gated convolution sets the
kernel's three result arrays beside the reference's, both being its gradients column by column; those of the products of
matrices stand in `ProductClaims`, those of the other calls in `LayerClaims`, `UpdateClaims`,
`GeluClaims`, `StartsClaims` and `EndsClaims`.
-/
module

public import proofs.«01_k».proof.Proof.ProductClaims
public import proofs.«01_k».proof.Proof.UpdateClaims
public import proofs.«01_k».proof.Proof.LayerClaims
public import proofs.«01_k».proof.Proof.More
public import proofs.«01_k».proof.Proof.GeluClaims
public import proofs.«01_k».proof.Proof.StartsClaims
public import proofs.«01_k».proof.Proof.EndsClaims
public import proofs.«01_k».proof.Proof.Gen.GeluBwd.Frame
public import proofs.«01_k».proof.Proof.Gen.Starts.Frame
public import proofs.«01_k».proof.Proof.Gen.Ends.Frame
public import proofs.«01_k».proof.Proof.Gen.Pre_finite_drive
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_gate
public import proofs.«01_k».proof.Proof.Blocks
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- The kernel and the reference leave the same gradients, for a finite incoming gradient and a finite other branch. -/
theorem same_gradients : Cert.algebraic_KernelIdeal_ReferenceIdeal_pre_finite_gate := by
  intro m ρ m' ρ' hpre hagree
  refine ⟨fun c => GatedConv.gradBranches (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => GatedConv.gradWeights (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => GatedConv.gradBias (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · refine (θ_run Cert.KernelIdeal.defs _ _).mono (fun r h c => ?_) (Cert.KernelIdeal.Value.run_blocks (F := Ideal) m ρ)
    obtain ⟨h0, h1, h2, hargs⟩ := h c
    exact ⟨h0.trans (Cert.KernelIdeal.Rows.arr4 m c), h1.trans (Cert.KernelIdeal.Rows.arr5 m c),
      h2.trans (Cert.KernelIdeal.Rows.arr6 m c), hargs⟩
  · refine (θ_run Cert.ReferenceIdeal.defs _ _).mono (fun r h c => ?_) (Cert.ReferenceIdeal.Value.run (F := Ideal) m' ρ')
    obtain ⟨h0, h1, h2, hargs⟩ := h c
    obtain ⟨e0, e1, e2, e3⟩ := hagree c
    have hu := GatedConv.real_of_finite_gate _ _ _ _ (hpre c)
    refine ⟨h0.trans ?_, h1.trans ?_, h2.trans ?_, hargs⟩
    · rw [Cert.ReferenceIdeal.Read.val_main_v64_eq, e0, e1, e2, e3]
      exact Cert.ReferenceIdeal.Rows.branches_eq _ _ _ _ hu
    · rw [Cert.ReferenceIdeal.Read.val_main_v54_eq, e0, e1, e2, e3]
      exact Cert.ReferenceIdeal.Rows.weights_eq _ _ _ _ hu
    · rw [Cert.ReferenceIdeal.Read.val_main_v31_eq, e0, e1, e2, e3]
      exact Cert.ReferenceIdeal.Rows.bias_eq _ _ _ _ hu

/-- The reference keeps its arguments; it has no semaphore. -/
theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The certificate's claim. -/
theorem claim : Cert.Claim :=
  ⟨Cert.Kernel.Gen.facts, Cert.KernelIdeal.Gen.facts, Cert.ReferenceIdeal.Gen.facts,
    Cert.FfnDownDx.Gen.facts, Cert.FfnDownDxIdeal.Gen.facts, Cert.FfnDownDxRefIdeal.Gen.facts,
    Cert.FfnDownDw.Gen.facts, Cert.FfnDownDwIdeal.Gen.facts, Cert.FfnDownDwRefIdeal.Gen.facts,
    Cert.FfnUpDx.Gen.facts, Cert.FfnUpDxIdeal.Gen.facts, Cert.FfnUpDxRefIdeal.Gen.facts,
    Cert.FfnUpDw.Gen.facts, Cert.FfnUpDwIdeal.Gen.facts, Cert.FfnUpDwRefIdeal.Gen.facts,
    Cert.OProjDx.Gen.facts, Cert.OProjDxIdeal.Gen.facts, Cert.OProjDxRefIdeal.Gen.facts,
    Cert.ProjDx.Gen.facts, Cert.ProjDxIdeal.Gen.facts, Cert.ProjDxRefIdeal.Gen.facts,
    Cert.ProjDw.Gen.facts, Cert.ProjDwIdeal.Gen.facts, Cert.ProjDwRefIdeal.Gen.facts,
    Cert.KvDx.Gen.facts, Cert.KvDxIdeal.Gen.facts, Cert.KvDxRefIdeal.Gen.facts,
    Cert.KvDw.Gen.facts, Cert.KvDwIdeal.Gen.facts, Cert.KvDwRefIdeal.Gen.facts,
    Cert.GluDx.Gen.facts, Cert.GluDxIdeal.Gen.facts, Cert.GluDxRefIdeal.Gen.facts,
    Cert.GluDw.Gen.facts, Cert.GluDwIdeal.Gen.facts, Cert.GluDwRefIdeal.Gen.facts,
    Cert.FfnDown.Gen.facts, Cert.FfnDownIdeal.Gen.facts, Cert.FfnDownRefIdeal.Gen.facts,
    Cert.FfnUp.Gen.facts, Cert.FfnUpIdeal.Gen.facts, Cert.FfnUpRefIdeal.Gen.facts,
    Cert.Proj.Gen.facts, Cert.ProjIdeal.Gen.facts, Cert.ProjRefIdeal.Gen.facts,
    Cert.OProj.Gen.facts, Cert.OProjIdeal.Gen.facts, Cert.OProjRefIdeal.Gen.facts,
    Cert.KvProj.Gen.facts, Cert.KvProjIdeal.Gen.facts, Cert.KvProjRefIdeal.Gen.facts,
    Cert.GluProj.Gen.facts, Cert.GluProjIdeal.Gen.facts, Cert.GluProjRefIdeal.Gen.facts,
    Cert.GluBwd.Gen.facts, Cert.GluBwdIdeal.Gen.facts, Cert.GluBwdRefIdeal.Gen.facts,
    Cert.GluFwd.Gen.facts, Cert.GluFwdIdeal.Gen.facts, Cert.GluFwdRefIdeal.Gen.facts,
    Cert.NormFirst.Gen.facts, Cert.NormFirstIdeal.Gen.facts, Cert.NormFirstRefIdeal.Gen.facts,
    Cert.NormAdd.Gen.facts, Cert.NormAddIdeal.Gen.facts, Cert.NormAddRefIdeal.Gen.facts,
    Cert.NormTwo.Gen.facts, Cert.NormTwoIdeal.Gen.facts, Cert.NormTwoRefIdeal.Gen.facts,
    Cert.NormFirstDx.Gen.facts, Cert.NormFirstDxIdeal.Gen.facts, Cert.NormFirstDxRefIdeal.Gen.facts,
    Cert.NormAddDx.Gen.facts, Cert.NormAddDxIdeal.Gen.facts, Cert.NormAddDxRefIdeal.Gen.facts,
    Cert.NormTwoDx.Gen.facts, Cert.NormTwoDxIdeal.Gen.facts, Cert.NormTwoDxRefIdeal.Gen.facts,
    Cert.LossHead.Gen.facts, Cert.LossHeadIdeal.Gen.facts, Cert.LossHeadRefIdeal.Gen.facts,
    Cert.DiscBwd.Gen.facts, Cert.DiscBwdIdeal.Gen.facts, Cert.DiscBwdRefIdeal.Gen.facts,
    Cert.Disc.Gen.facts, Cert.DiscIdeal.Gen.facts, Cert.DiscRefIdeal.Gen.facts,
    Cert.FfnGate.Gen.facts, Cert.FfnGateIdeal.Gen.facts, Cert.FfnGateRefIdeal.Gen.facts,
    Cert.AdamNorms.Gen.facts, Cert.AdamNormsIdeal.Gen.facts, Cert.AdamNormsRefIdeal.Gen.facts,
    Cert.AdamNorm.Gen.facts, Cert.AdamNormIdeal.Gen.facts, Cert.AdamNormRefIdeal.Gen.facts,
    Cert.AdamRows.Gen.facts, Cert.AdamRowsIdeal.Gen.facts, Cert.AdamRowsRefIdeal.Gen.facts,
    Cert.AdamA.Gen.facts, Cert.AdamAIdeal.Gen.facts, Cert.AdamARefIdeal.Gen.facts,
    Cert.AdamDt.Gen.facts, Cert.AdamDtIdeal.Gen.facts, Cert.AdamDtRefIdeal.Gen.facts,
    Cert.AdamB.Gen.facts, Cert.AdamBIdeal.Gen.facts, Cert.AdamBRefIdeal.Gen.facts,
    Cert.AdamC.Gen.facts, Cert.AdamCIdeal.Gen.facts, Cert.AdamCRefIdeal.Gen.facts,
    Cert.AdamD.Gen.facts, Cert.AdamDIdeal.Gen.facts, Cert.AdamDRefIdeal.Gen.facts,
    Cert.AdamGlu.Gen.facts, Cert.AdamGluIdeal.Gen.facts, Cert.AdamGluRefIdeal.Gen.facts,
    Cert.AdamKv.Gen.facts, Cert.AdamKvIdeal.Gen.facts, Cert.AdamKvRefIdeal.Gen.facts,
    Cert.AdamUp.Gen.facts, Cert.AdamUpIdeal.Gen.facts, Cert.AdamUpRefIdeal.Gen.facts,
    Cert.AdamConvW.Gen.facts, Cert.AdamConvWIdeal.Gen.facts, Cert.AdamConvWRefIdeal.Gen.facts,
    Cert.AdamConvB.Gen.facts, Cert.AdamConvBIdeal.Gen.facts, Cert.AdamConvBRefIdeal.Gen.facts,
    Cert.AdamDown.Gen.facts, Cert.AdamDownIdeal.Gen.facts, Cert.AdamDownRefIdeal.Gen.facts,
    Cert.GeluBwd.Gen.facts, Cert.GeluBwdIdeal.Gen.facts, Cert.GeluBwdRefIdeal.Gen.facts,
    Cert.Starts.Gen.facts, Cert.StartsIdeal.Gen.facts, Cert.StartsRefIdeal.Gen.facts,
    Cert.Ends.Gen.facts, Cert.EndsIdeal.Gen.facts, Cert.EndsRefIdeal.Gen.facts,
    Cert.Pre_finite_gate.Gen.facts, Cert.Pre_finite_drive.Gen.facts,
    fun m ρ _ => Cert.Kernel.Gen.frame (F := Bits) m ρ,
    fun m ρ _ => Cert.KernelIdeal.Gen.frame (F := Ideal) m ρ,
    fun m ρ _ => Cert.KernelIdeal.Gen.frame (F := Ideal) m ρ,
    fun m ρ _ => reference_frame m ρ trivial,
    fun m ρ _ => reference_frame m ρ trivial,
    fun m ρ _ => Cert.FfnDownDx.Gen.frame (F := Bits) m ρ, fun m ρ _ => Cert.FfnDownDxIdeal.Gen.frame (F := Ideal) m ρ, ffnDownDx_reference_frame,
    fun m ρ _ => Cert.FfnDownDw.Gen.frame (F := Bits) m ρ, fun m ρ _ => Cert.FfnDownDwIdeal.Gen.frame (F := Ideal) m ρ, ffnDownDw_reference_frame,
    fun m ρ _ => Cert.FfnUpDx.Gen.frame (F := Bits) m ρ, fun m ρ _ => Cert.FfnUpDxIdeal.Gen.frame (F := Ideal) m ρ, ffnUpDx_reference_frame,
    fun m ρ _ => Cert.FfnUpDw.Gen.frame (F := Bits) m ρ, fun m ρ _ => Cert.FfnUpDwIdeal.Gen.frame (F := Ideal) m ρ, ffnUpDw_reference_frame,
    fun m ρ _ => Cert.OProjDx.Gen.frame (F := Bits) m ρ, fun m ρ _ => Cert.OProjDxIdeal.Gen.frame (F := Ideal) m ρ, oProjDx_reference_frame,
    fun m ρ _ => Cert.ProjDx.Gen.frame (F := Bits) m ρ, fun m ρ _ => Cert.ProjDxIdeal.Gen.frame (F := Ideal) m ρ, projDx_reference_frame,
    fun m ρ _ => Cert.ProjDw.Gen.frame (F := Bits) m ρ, fun m ρ _ => Cert.ProjDwIdeal.Gen.frame (F := Ideal) m ρ, projDw_reference_frame,
    fun m ρ _ => Cert.KvDx.Gen.frame (F := Bits) m ρ, fun m ρ _ => Cert.KvDxIdeal.Gen.frame (F := Ideal) m ρ, kvDx_reference_frame,
    fun m ρ _ => Cert.KvDw.Gen.frame (F := Bits) m ρ, fun m ρ _ => Cert.KvDwIdeal.Gen.frame (F := Ideal) m ρ, kvDw_reference_frame,
    fun m ρ _ => Cert.GluDx.Gen.frame (F := Bits) m ρ, fun m ρ _ => Cert.GluDxIdeal.Gen.frame (F := Ideal) m ρ, gluDx_reference_frame,
    fun m ρ _ => Cert.GluDw.Gen.frame (F := Bits) m ρ, fun m ρ _ => Cert.GluDwIdeal.Gen.frame (F := Ideal) m ρ, gluDw_reference_frame,
    fun m ρ _ => Cert.FfnDown.Gen.frame (F := Bits) m ρ, fun m ρ _ => Cert.FfnDownIdeal.Gen.frame (F := Ideal) m ρ, ffnDown_reference_frame,
    fun m ρ _ => Cert.FfnUp.Gen.frame (F := Bits) m ρ, fun m ρ _ => Cert.FfnUpIdeal.Gen.frame (F := Ideal) m ρ, ffnUp_reference_frame,
    fun m ρ _ => Cert.Proj.Gen.frame (F := Bits) m ρ, fun m ρ _ => Cert.ProjIdeal.Gen.frame (F := Ideal) m ρ, proj_reference_frame,
    fun m ρ _ => Cert.OProj.Gen.frame (F := Bits) m ρ, fun m ρ _ => Cert.OProjIdeal.Gen.frame (F := Ideal) m ρ, oProj_reference_frame,
    fun m ρ _ => Cert.KvProj.Gen.frame (F := Bits) m ρ, fun m ρ _ => Cert.KvProjIdeal.Gen.frame (F := Ideal) m ρ, kvProj_reference_frame,
    fun m ρ _ => Cert.GluProj.Gen.frame (F := Bits) m ρ, fun m ρ _ => Cert.GluProjIdeal.Gen.frame (F := Ideal) m ρ, gluProj_reference_frame,
    fun m ρ _ => Cert.GluBwd.Gen.frame (F := Bits) m ρ, fun m ρ _ => Cert.GluBwdIdeal.Gen.frame (F := Ideal) m ρ, gluBwd_reference_frame,
    fun m ρ _ => Cert.GluFwd.Gen.frame (F := Bits) m ρ, fun m ρ _ => Cert.GluFwdIdeal.Gen.frame (F := Ideal) m ρ, gluFwd_reference_frame,
    fun m ρ _ => Cert.NormFirst.Gen.frame (F := Bits) m ρ, fun m ρ _ => Cert.NormFirstIdeal.Gen.frame (F := Ideal) m ρ, normFirst_reference_frame,
    fun m ρ _ => Cert.NormAdd.Gen.frame (F := Bits) m ρ, fun m ρ _ => Cert.NormAddIdeal.Gen.frame (F := Ideal) m ρ, normAdd_reference_frame,
    fun m ρ _ => Cert.NormTwo.Gen.frame (F := Bits) m ρ, fun m ρ _ => Cert.NormTwoIdeal.Gen.frame (F := Ideal) m ρ, normTwo_reference_frame,
    fun m ρ _ => Cert.NormFirstDx.Gen.frame (F := Bits) m ρ, fun m ρ _ => Cert.NormFirstDxIdeal.Gen.frame (F := Ideal) m ρ, normFirstDx_reference_frame,
    fun m ρ _ => Cert.NormAddDx.Gen.frame (F := Bits) m ρ, fun m ρ _ => Cert.NormAddDxIdeal.Gen.frame (F := Ideal) m ρ, normAddDx_reference_frame,
    fun m ρ _ => Cert.NormTwoDx.Gen.frame (F := Bits) m ρ, fun m ρ _ => Cert.NormTwoDxIdeal.Gen.frame (F := Ideal) m ρ, normTwoDx_reference_frame,
    fun m ρ _ => Cert.LossHead.Gen.frame (F := Bits) m ρ, fun m ρ _ => Cert.LossHeadIdeal.Gen.frame (F := Ideal) m ρ, lossHead_reference_frame,
    fun m ρ _ => Cert.DiscBwd.Gen.frame (F := Bits) m ρ, fun m ρ _ => Cert.DiscBwdIdeal.Gen.frame (F := Ideal) m ρ, discBwd_reference_frame,
    fun m ρ _ => Cert.Disc.Gen.frame (F := Bits) m ρ, fun m ρ _ => Cert.DiscIdeal.Gen.frame (F := Ideal) m ρ, disc_reference_frame,
    fun m ρ _ => Cert.FfnGate.Gen.frame (F := Bits) m ρ, fun m ρ _ => Cert.FfnGateIdeal.Gen.frame (F := Ideal) m ρ, ffnGate_reference_frame,
    fun m ρ _ => Cert.AdamNorms.Gen.frame (F := Bits) m ρ, fun m ρ _ => Cert.AdamNormsIdeal.Gen.frame (F := Ideal) m ρ, adamNorms_reference_frame,
    fun m ρ _ => Cert.AdamNorm.Gen.frame (F := Bits) m ρ, fun m ρ _ => Cert.AdamNormIdeal.Gen.frame (F := Ideal) m ρ, adamNorm_reference_frame,
    fun m ρ _ => Cert.AdamRows.Gen.frame (F := Bits) m ρ, fun m ρ _ => Cert.AdamRowsIdeal.Gen.frame (F := Ideal) m ρ, adamRows_reference_frame,
    fun m ρ _ => Cert.AdamA.Gen.frame (F := Bits) m ρ, fun m ρ _ => Cert.AdamAIdeal.Gen.frame (F := Ideal) m ρ, adamA_reference_frame,
    fun m ρ _ => Cert.AdamDt.Gen.frame (F := Bits) m ρ, fun m ρ _ => Cert.AdamDtIdeal.Gen.frame (F := Ideal) m ρ, adamDt_reference_frame,
    fun m ρ _ => Cert.AdamB.Gen.frame (F := Bits) m ρ, fun m ρ _ => Cert.AdamBIdeal.Gen.frame (F := Ideal) m ρ, adamB_reference_frame,
    fun m ρ _ => Cert.AdamC.Gen.frame (F := Bits) m ρ, fun m ρ _ => Cert.AdamCIdeal.Gen.frame (F := Ideal) m ρ, adamC_reference_frame,
    fun m ρ _ => Cert.AdamD.Gen.frame (F := Bits) m ρ, fun m ρ _ => Cert.AdamDIdeal.Gen.frame (F := Ideal) m ρ, adamD_reference_frame,
    fun m ρ _ => Cert.AdamGlu.Gen.frame (F := Bits) m ρ, fun m ρ _ => Cert.AdamGluIdeal.Gen.frame (F := Ideal) m ρ, adamGlu_reference_frame,
    fun m ρ _ => Cert.AdamKv.Gen.frame (F := Bits) m ρ, fun m ρ _ => Cert.AdamKvIdeal.Gen.frame (F := Ideal) m ρ, adamKv_reference_frame,
    fun m ρ _ => Cert.AdamUp.Gen.frame (F := Bits) m ρ, fun m ρ _ => Cert.AdamUpIdeal.Gen.frame (F := Ideal) m ρ, adamUp_reference_frame,
    fun m ρ _ => Cert.AdamConvW.Gen.frame (F := Bits) m ρ, fun m ρ _ => Cert.AdamConvWIdeal.Gen.frame (F := Ideal) m ρ, adamConvW_reference_frame,
    fun m ρ _ => Cert.AdamConvB.Gen.frame (F := Bits) m ρ, fun m ρ _ => Cert.AdamConvBIdeal.Gen.frame (F := Ideal) m ρ, adamConvB_reference_frame,
    fun m ρ _ => Cert.AdamDown.Gen.frame (F := Bits) m ρ, fun m ρ _ => Cert.AdamDownIdeal.Gen.frame (F := Ideal) m ρ, adamDown_reference_frame,
    fun m ρ _ => Cert.GeluBwd.Gen.frame (F := Bits) m ρ, fun m ρ _ => Cert.GeluBwdIdeal.Gen.frame (F := Ideal) m ρ, geluBwd_reference_frame,
    fun m ρ _ => Cert.Starts.Gen.frame (F := Bits) m ρ, fun m ρ _ => Cert.StartsIdeal.Gen.frame (F := Ideal) m ρ,
    fun m ρ _ => Cert.StartsIdeal.Gen.frame (F := Ideal) m ρ, starts_reference_frame, fun m ρ _ => starts_reference_frame m ρ trivial,
    fun m ρ _ => Cert.Ends.Gen.frame (F := Bits) m ρ, fun m ρ _ => Cert.EndsIdeal.Gen.frame (F := Ideal) m ρ,
    fun m ρ _ => Cert.EndsIdeal.Gen.frame (F := Ideal) m ρ, ends_reference_frame, fun m ρ _ => ends_reference_frame m ρ trivial,
    trivial, same_gradients,
    trivial, ffnDownDx_same,
    trivial, ffnDownDw_same,
    trivial, ffnUpDx_same,
    trivial, ffnUpDw_same,
    trivial, oProjDx_same,
    trivial, projDx_same,
    trivial, projDw_same,
    trivial, kvDx_same,
    trivial, kvDw_same,
    trivial, gluDx_same,
    trivial, gluDw_same,
    trivial, ffnDown_same,
    trivial, ffnUp_same,
    trivial, proj_same,
    trivial, oProj_same,
    trivial, kvProj_same,
    trivial, gluProj_same,
    trivial, gluBwd_same,
    trivial, gluFwd_same,
    trivial, normFirst_same,
    trivial, normAdd_same,
    trivial, normTwo_same,
    trivial, normFirstDx_same,
    trivial, normAddDx_same,
    trivial, normTwoDx_same,
    trivial, lossHead_same,
    trivial, discBwd_same,
    trivial, disc_same,
    trivial, ffnGate_same,
    trivial, adamNorms_same,
    trivial, adamNorm_same,
    trivial, adamRows_same,
    trivial, adamA_same,
    trivial, adamDt_same,
    trivial, adamB_same,
    trivial, adamC_same,
    trivial, adamD_same,
    trivial, adamGlu_same,
    trivial, adamKv_same,
    trivial, adamUp_same,
    trivial, adamConvW_same,
    trivial, adamConvB_same,
    trivial, adamDown_same,
    trivial, geluBwd_same,
    trivial, @starts_same Cert.Pre_finite_drive.Gen.facts,
    trivial, @ends_same Cert.Pre_finite_drive.Gen.facts⟩

end Cert.Proof

end
